-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Dx0 (m : (ℓ : Loc Cert.Dx0.nD Cert.Dx0.τ Cert.Dx0.sig) → Buf (Elt Bits) ℓ) : Prop :=
  True

def Pre_Dx0Ideal (m : (ℓ : Loc Cert.Dx0Ideal.nD Cert.Dx0Ideal.τ Cert.Dx0Ideal.sig) → Buf (Elt Ideal) ℓ) : Prop :=
  True

def Pre_Dx0RefIdeal (m : (ℓ : Loc Cert.Dx0RefIdeal.nD Cert.Dx0RefIdeal.τ Cert.Dx0RefIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1RefIdeal (m : (ℓ : Loc Cert.Dx1RefIdeal.nD Cert.Dx1RefIdeal.τ Cert.Dx1RefIdeal.sig) → Buf (Elt Ideal) ℓ) : Prop :=
  True

def Pre_Dx2 (m : (ℓ : Loc Cert.Dx2.nD Cert.Dx2.τ Cert.Dx2.sig) → Buf (Elt Bits) ℓ) : Prop :=
  True

def Pre_Dx2Ideal (m : (ℓ : Loc Cert.Dx2Ideal.nD Cert.Dx2Ideal.τ Cert.Dx2Ideal.sig) → Buf (Elt Ideal) ℓ) : Prop :=
  True

def Pre_Dx2RefIdeal (m : (ℓ : Loc Cert.Dx2RefIdeal.nD Cert.Dx2RefIdeal.τ Cert.Dx2RefIdeal.sig) → Buf (Elt Ideal) ℓ) : Prop :=
  True

def Pre_Dxz (m : (ℓ : Loc Cert.Dxz.nD Cert.Dxz.τ Cert.Dxz.sig) → Buf (Elt Bits) ℓ) : Prop :=
  True

def Pre_DxzIdeal (m : (ℓ : Loc Cert.DxzIdeal.nD Cert.DxzIdeal.τ Cert.DxzIdeal.sig) → Buf (Elt Ideal) ℓ) : Prop :=
  True

def Pre_DxzRefIdeal (m : (ℓ : Loc Cert.DxzRefIdeal.nD Cert.DxzRefIdeal.τ Cert.DxzRefIdeal.sig) → Buf (Elt Ideal) ℓ) : Prop :=
  True

def Pre_Dw0 (m : (ℓ : Loc Cert.Dw0.nD Cert.Dw0.τ Cert.Dw0.sig) → Buf (Elt Bits) ℓ) : Prop :=
  True

def Pre_Dw0Ideal (m : (ℓ : Loc Cert.Dw0Ideal.nD Cert.Dw0Ideal.τ Cert.Dw0Ideal.sig) → Buf (Elt Ideal) ℓ) : Prop :=
  True

def Pre_Dw0RefIdeal (m : (ℓ : Loc Cert.Dw0RefIdeal.nD Cert.Dw0RefIdeal.τ Cert.Dw0RefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dwz (m : (ℓ : Loc Cert.Dwz.nD Cert.Dwz.τ Cert.Dwz.sig) → Buf (Elt Bits) ℓ) : Prop :=
  True

def Pre_DwzIdeal (m : (ℓ : Loc Cert.DwzIdeal.nD Cert.DwzIdeal.τ Cert.DwzIdeal.sig) → Buf (Elt Ideal) ℓ) : Prop :=
  True

def Pre_DwzRefIdeal (m : (ℓ : Loc Cert.DwzRefIdeal.nD Cert.DwzRefIdeal.τ Cert.DwzRefIdeal.sig) → Buf (Elt Ideal) ℓ) : Prop :=
  True

def Pre_Dxa (m : (ℓ : Loc Cert.Dxa.nD Cert.Dxa.τ Cert.Dxa.sig) → Buf (Elt Bits) ℓ) : Prop :=
  True

def Pre_DxaIdeal (m : (ℓ : Loc Cert.DxaIdeal.nD Cert.DxaIdeal.τ Cert.DxaIdeal.sig) → Buf (Elt Ideal) ℓ) : Prop :=
  True

def Pre_DxaRefIdeal (m : (ℓ : Loc Cert.DxaRefIdeal.nD Cert.DxaRefIdeal.τ Cert.DxaRefIdeal.sig) → Buf (Elt Ideal) ℓ) : Prop :=
  True

def Pre_Dwa0 (m : (ℓ : Loc Cert.Dwa0.nD Cert.Dwa0.τ Cert.Dwa0.sig) → Buf (Elt Bits) ℓ) : Prop :=
  True

def Pre_Dwa0Ideal (m : (ℓ : Loc Cert.Dwa0Ideal.nD Cert.Dwa0Ideal.τ Cert.Dwa0Ideal.sig) → Buf (Elt Ideal) ℓ) : Prop :=
  True

def Pre_Dwa0RefIdeal (m : (ℓ : Loc Cert.Dwa0RefIdeal.nD Cert.Dwa0RefIdeal.τ Cert.Dwa0RefIdeal.sig) → Buf (Elt Ideal) ℓ) : Prop :=
  True

def Pre_Dwa1 (m : (ℓ : Loc Cert.Dwa1.nD Cert.Dwa1.τ Cert.Dwa1.sig) → Buf (Elt Bits) ℓ) : Prop :=
  True

def Pre_Dwa1Ideal (m : (ℓ : Loc Cert.Dwa1Ideal.nD Cert.Dwa1Ideal.τ Cert.Dwa1Ideal.sig) → Buf (Elt Ideal) ℓ) : Prop :=
  True

def Pre_Dwa1RefIdeal (m : (ℓ : Loc Cert.Dwa1RefIdeal.nD Cert.Dwa1RefIdeal.τ Cert.Dwa1RefIdeal.sig) → Buf (Elt Ideal) ℓ) : Prop :=
  True

def Pre_Dwa2 (m : (ℓ : Loc Cert.Dwa2.nD Cert.Dwa2.τ Cert.Dwa2.sig) → Buf (Elt Bits) ℓ) : Prop :=
  True

def Pre_Dwa2Ideal (m : (ℓ : Loc Cert.Dwa2Ideal.nD Cert.Dwa2Ideal.τ Cert.Dwa2Ideal.sig) → Buf (Elt Ideal) ℓ) : Prop :=
  True

def Pre_Dwa2RefIdeal (m : (ℓ : Loc Cert.Dwa2RefIdeal.nD Cert.Dwa2RefIdeal.τ Cert.Dwa2RefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutRefIdeal (m : (ℓ : Loc Cert.FwdOutRefIdeal.nD Cert.FwdOutRefIdeal.τ Cert.FwdOutRefIdeal.sig) → Buf (Elt Ideal) ℓ) : Prop :=
  True

def Pre_FwdZ (m : (ℓ : Loc Cert.FwdZ.nD Cert.FwdZ.τ Cert.FwdZ.sig) → Buf (Elt Bits) ℓ) : Prop :=
  True

def Pre_FwdZIdeal (m : (ℓ : Loc Cert.FwdZIdeal.nD Cert.FwdZIdeal.τ Cert.FwdZIdeal.sig) → Buf (Elt Ideal) ℓ) : Prop :=
  True

def Pre_FwdZRefIdeal (m : (ℓ : Loc Cert.FwdZRefIdeal.nD Cert.FwdZRefIdeal.τ Cert.FwdZRefIdeal.sig) → Buf (Elt Ideal) ℓ) : Prop :=
  True

def Pre_MidFwd (m : (ℓ : Loc Cert.MidFwd.nD Cert.MidFwd.τ Cert.MidFwd.sig) → Buf (Elt Bits) ℓ) : Prop :=
  True

def Pre_MidFwdIdeal (m : (ℓ : Loc Cert.MidFwdIdeal.nD Cert.MidFwdIdeal.τ Cert.MidFwdIdeal.sig) → Buf (Elt Ideal) ℓ) : Prop :=
  True

def Pre_MidFwdRefIdeal (m : (ℓ : Loc Cert.MidFwdRefIdeal.nD Cert.MidFwdRefIdeal.τ Cert.MidFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdRefIdeal (m : (ℓ : Loc Cert.MidBwdRefIdeal.nD Cert.MidBwdRefIdeal.τ Cert.MidBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamInB (m : (ℓ : Loc Cert.AdamInB.nD Cert.AdamInB.τ Cert.AdamInB.sig) → Buf (Elt Bits) ℓ) : Prop :=
  True

def Pre_AdamInBIdeal (m : (ℓ : Loc Cert.AdamInBIdeal.nD Cert.AdamInBIdeal.τ Cert.AdamInBIdeal.sig) → Buf (Elt Ideal) ℓ) : Prop :=
  True

def Pre_AdamInBRefIdeal (m : (ℓ : Loc Cert.AdamInBRefIdeal.nD Cert.AdamInBRefIdeal.τ Cert.AdamInBRefIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInARefIdeal (m : (ℓ : Loc Cert.AdamInARefIdeal.nD Cert.AdamInARefIdeal.τ Cert.AdamInARefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnfwd [hPre_finite_attnfwd : Cert.Pre_finite_attnfwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnfwd [hPre_finite_attnfwd : Cert.Pre_finite_attnfwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Dx0 [hDx0 : Cert.Dx0.Facts] : Prop :=
  ∀ (m : (ℓ : Loc Cert.Dx0.nD Cert.Dx0.τ Cert.Dx0.sig) → Buf (Elt Bits) ℓ) (g : Dev Cert.Dx0.nD → PrngReg), Pre_Dx0 m →
    θ_run (Cert.Dx0.defs (F := Bits)) (onTc (τ := Cert.Dx0.τ) (Cert.Dx0.main (F := Bits))) ⟨m, fun _ => 0, g⟩ (fun r => (∀ c : Dev Cert.Dx0.nD,
      r.2.mem ((c.tc : Thread Cert.Dx0.nD Cert.Dx0.τ).loc Cert.Dx0.main_arg0) = m ((c.tc : Thread Cert.Dx0.nD Cert.Dx0.τ).loc Cert.Dx0.main_arg0)
      ∧ r.2.mem ((c.tc : Thread Cert.Dx0.nD Cert.Dx0.τ).loc Cert.Dx0.main_arg1) = m ((c.tc : Thread Cert.Dx0.nD Cert.Dx0.τ).loc Cert.Dx0.main_arg1))
      ∧ r.2.sem = fun _ => 0)

def quiescent_Dx0Ideal [hDx0Ideal : Cert.Dx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1))
      ∧ r.2.sem = fun _ => 0)

def quiescent_Dx0RefIdeal [hDx0RefIdeal : Cert.Dx0RefIdeal.Facts] : Prop :=
  ∀ (m : (ℓ : Loc Cert.Dx0RefIdeal.nD Cert.Dx0RefIdeal.τ Cert.Dx0RefIdeal.sig) → Buf (Elt Ideal) ℓ) (g : Dev Cert.Dx0RefIdeal.nD → PrngReg), Pre_Dx0RefIdeal m →
    θ_run (Cert.Dx0RefIdeal.defs (F := Ideal)) (onTc (τ := Cert.Dx0RefIdeal.τ) (Cert.Dx0RefIdeal.main (F := Ideal))) ⟨m, fun _ => 0, g⟩ (fun r => (∀ c : Dev Cert.Dx0RefIdeal.nD,
      r.2.mem ((c.tc : Thread Cert.Dx0RefIdeal.nD Cert.Dx0RefIdeal.τ).loc Cert.Dx0RefIdeal.main_arg0) = m ((c.tc : Thread Cert.Dx0RefIdeal.nD Cert.Dx0RefIdeal.τ).loc Cert.Dx0RefIdeal.main_arg0)
      ∧ r.2.mem ((c.tc : Thread Cert.Dx0RefIdeal.nD Cert.Dx0RefIdeal.τ).loc Cert.Dx0RefIdeal.main_arg1) = m ((c.tc : Thread Cert.Dx0RefIdeal.nD Cert.Dx0RefIdeal.τ).loc Cert.Dx0RefIdeal.main_arg1))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1))
      ∧ r.2.sem = fun _ => 0)

def quiescent_Dx1RefIdeal [hDx1RefIdeal : Cert.Dx1RefIdeal.Facts] : Prop :=
  ∀ (m : (ℓ : Loc Cert.Dx1RefIdeal.nD Cert.Dx1RefIdeal.τ Cert.Dx1RefIdeal.sig) → Buf (Elt Ideal) ℓ) (g : Dev Cert.Dx1RefIdeal.nD → PrngReg), Pre_Dx1RefIdeal m →
    θ_run (Cert.Dx1RefIdeal.defs (F := Ideal)) (onTc (τ := Cert.Dx1RefIdeal.τ) (Cert.Dx1RefIdeal.main (F := Ideal))) ⟨m, fun _ => 0, g⟩ (fun r => (∀ c : Dev Cert.Dx1RefIdeal.nD,
      r.2.mem ((c.tc : Thread Cert.Dx1RefIdeal.nD Cert.Dx1RefIdeal.τ).loc Cert.Dx1RefIdeal.main_arg0) = m ((c.tc : Thread Cert.Dx1RefIdeal.nD Cert.Dx1RefIdeal.τ).loc Cert.Dx1RefIdeal.main_arg0)
      ∧ r.2.mem ((c.tc : Thread Cert.Dx1RefIdeal.nD Cert.Dx1RefIdeal.τ).loc Cert.Dx1RefIdeal.main_arg1) = m ((c.tc : Thread Cert.Dx1RefIdeal.nD Cert.Dx1RefIdeal.τ).loc Cert.Dx1RefIdeal.main_arg1))
      ∧ r.2.sem = fun _ => 0)

def quiescent_Dx2 [hDx2 : Cert.Dx2.Facts] : Prop :=
  ∀ (m : (ℓ : Loc Cert.Dx2.nD Cert.Dx2.τ Cert.Dx2.sig) → Buf (Elt Bits) ℓ) (g : Dev Cert.Dx2.nD → PrngReg), Pre_Dx2 m →
    θ_run (Cert.Dx2.defs (F := Bits)) (onTc (τ := Cert.Dx2.τ) (Cert.Dx2.main (F := Bits))) ⟨m, fun _ => 0, g⟩ (fun r => (∀ c : Dev Cert.Dx2.nD,
      r.2.mem ((c.tc : Thread Cert.Dx2.nD Cert.Dx2.τ).loc Cert.Dx2.main_arg0) = m ((c.tc : Thread Cert.Dx2.nD Cert.Dx2.τ).loc Cert.Dx2.main_arg0)
      ∧ r.2.mem ((c.tc : Thread Cert.Dx2.nD Cert.Dx2.τ).loc Cert.Dx2.main_arg1) = m ((c.tc : Thread Cert.Dx2.nD Cert.Dx2.τ).loc Cert.Dx2.main_arg1))
      ∧ r.2.sem = fun _ => 0)

def quiescent_Dx2Ideal [hDx2Ideal : Cert.Dx2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg), Pre_Dx2Ideal m →
    θ_run (Cert.Dx2Ideal.defs (F := Ideal)) (onTc (τ := Cert.Dx2Ideal.τ) (Cert.Dx2Ideal.main (F := Ideal))) ⟨m, fun _ => 0, g⟩ (fun r => (∀ c : Dev Cert.Dx2Ideal.nD,
      r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
      ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1))
      ∧ r.2.sem = fun _ => 0)

def quiescent_Dx2RefIdeal [hDx2RefIdeal : Cert.Dx2RefIdeal.Facts] : Prop :=
  ∀ (m : (ℓ : Loc Cert.Dx2RefIdeal.nD Cert.Dx2RefIdeal.τ Cert.Dx2RefIdeal.sig) → Buf (Elt Ideal) ℓ) (g : Dev Cert.Dx2RefIdeal.nD → PrngReg), Pre_Dx2RefIdeal m →
    θ_run (Cert.Dx2RefIdeal.defs (F := Ideal)) (onTc (τ := Cert.Dx2RefIdeal.τ) (Cert.Dx2RefIdeal.main (F := Ideal))) ⟨m, fun _ => 0, g⟩ (fun r => (∀ c : Dev Cert.Dx2RefIdeal.nD,
      r.2.mem ((c.tc : Thread Cert.Dx2RefIdeal.nD Cert.Dx2RefIdeal.τ).loc Cert.Dx2RefIdeal.main_arg0) = m ((c.tc : Thread Cert.Dx2RefIdeal.nD Cert.Dx2RefIdeal.τ).loc Cert.Dx2RefIdeal.main_arg0)
      ∧ r.2.mem ((c.tc : Thread Cert.Dx2RefIdeal.nD Cert.Dx2RefIdeal.τ).loc Cert.Dx2RefIdeal.main_arg1) = m ((c.tc : Thread Cert.Dx2RefIdeal.nD Cert.Dx2RefIdeal.τ).loc Cert.Dx2RefIdeal.main_arg1))
      ∧ r.2.sem = fun _ => 0)

def quiescent_Dxz [hDxz : Cert.Dxz.Facts] : Prop :=
  ∀ (m : (ℓ : Loc Cert.Dxz.nD Cert.Dxz.τ Cert.Dxz.sig) → Buf (Elt Bits) ℓ) (g : Dev Cert.Dxz.nD → PrngReg), Pre_Dxz m →
    θ_run (Cert.Dxz.defs (F := Bits)) (onTc (τ := Cert.Dxz.τ) (Cert.Dxz.main (F := Bits))) ⟨m, fun _ => 0, g⟩ (fun r => (∀ c : Dev Cert.Dxz.nD,
      r.2.mem ((c.tc : Thread Cert.Dxz.nD Cert.Dxz.τ).loc Cert.Dxz.main_arg0) = m ((c.tc : Thread Cert.Dxz.nD Cert.Dxz.τ).loc Cert.Dxz.main_arg0)
      ∧ r.2.mem ((c.tc : Thread Cert.Dxz.nD Cert.Dxz.τ).loc Cert.Dxz.main_arg1) = m ((c.tc : Thread Cert.Dxz.nD Cert.Dxz.τ).loc Cert.Dxz.main_arg1))
      ∧ r.2.sem = fun _ => 0)

def quiescent_DxzIdeal [hDxzIdeal : Cert.DxzIdeal.Facts] : Prop :=
  ∀ (m : (ℓ : Loc Cert.DxzIdeal.nD Cert.DxzIdeal.τ Cert.DxzIdeal.sig) → Buf (Elt Ideal) ℓ) (g : Dev Cert.DxzIdeal.nD → PrngReg), Pre_DxzIdeal m →
    θ_run (Cert.DxzIdeal.defs (F := Ideal)) (onTc (τ := Cert.DxzIdeal.τ) (Cert.DxzIdeal.main (F := Ideal))) ⟨m, fun _ => 0, g⟩ (fun r => (∀ c : Dev Cert.DxzIdeal.nD,
      r.2.mem ((c.tc : Thread Cert.DxzIdeal.nD Cert.DxzIdeal.τ).loc Cert.DxzIdeal.main_arg0) = m ((c.tc : Thread Cert.DxzIdeal.nD Cert.DxzIdeal.τ).loc Cert.DxzIdeal.main_arg0)
      ∧ r.2.mem ((c.tc : Thread Cert.DxzIdeal.nD Cert.DxzIdeal.τ).loc Cert.DxzIdeal.main_arg1) = m ((c.tc : Thread Cert.DxzIdeal.nD Cert.DxzIdeal.τ).loc Cert.DxzIdeal.main_arg1))
      ∧ r.2.sem = fun _ => 0)

def quiescent_DxzRefIdeal [hDxzRefIdeal : Cert.DxzRefIdeal.Facts] : Prop :=
  ∀ (m : (ℓ : Loc Cert.DxzRefIdeal.nD Cert.DxzRefIdeal.τ Cert.DxzRefIdeal.sig) → Buf (Elt Ideal) ℓ) (g : Dev Cert.DxzRefIdeal.nD → PrngReg), Pre_DxzRefIdeal m →
    θ_run (Cert.DxzRefIdeal.defs (F := Ideal)) (onTc (τ := Cert.DxzRefIdeal.τ) (Cert.DxzRefIdeal.main (F := Ideal))) ⟨m, fun _ => 0, g⟩ (fun r => (∀ c : Dev Cert.DxzRefIdeal.nD,
      r.2.mem ((c.tc : Thread Cert.DxzRefIdeal.nD Cert.DxzRefIdeal.τ).loc Cert.DxzRefIdeal.main_arg0) = m ((c.tc : Thread Cert.DxzRefIdeal.nD Cert.DxzRefIdeal.τ).loc Cert.DxzRefIdeal.main_arg0)
      ∧ r.2.mem ((c.tc : Thread Cert.DxzRefIdeal.nD Cert.DxzRefIdeal.τ).loc Cert.DxzRefIdeal.main_arg1) = m ((c.tc : Thread Cert.DxzRefIdeal.nD Cert.DxzRefIdeal.τ).loc Cert.DxzRefIdeal.main_arg1))
      ∧ r.2.sem = fun _ => 0)

def quiescent_Dw0 [hDw0 : Cert.Dw0.Facts] : Prop :=
  ∀ (m : (ℓ : Loc Cert.Dw0.nD Cert.Dw0.τ Cert.Dw0.sig) → Buf (Elt Bits) ℓ) (g : Dev Cert.Dw0.nD → PrngReg), Pre_Dw0 m →
    θ_run (Cert.Dw0.defs (F := Bits)) (onTc (τ := Cert.Dw0.τ) (Cert.Dw0.main (F := Bits))) ⟨m, fun _ => 0, g⟩ (fun r => (∀ c : Dev Cert.Dw0.nD,
      r.2.mem ((c.tc : Thread Cert.Dw0.nD Cert.Dw0.τ).loc Cert.Dw0.main_arg0) = m ((c.tc : Thread Cert.Dw0.nD Cert.Dw0.τ).loc Cert.Dw0.main_arg0)
      ∧ r.2.mem ((c.tc : Thread Cert.Dw0.nD Cert.Dw0.τ).loc Cert.Dw0.main_arg1) = m ((c.tc : Thread Cert.Dw0.nD Cert.Dw0.τ).loc Cert.Dw0.main_arg1)
      ∧ r.2.mem ((c.tc : Thread Cert.Dw0.nD Cert.Dw0.τ).loc Cert.Dw0.main_arg2) = m ((c.tc : Thread Cert.Dw0.nD Cert.Dw0.τ).loc Cert.Dw0.main_arg2))
      ∧ r.2.sem = fun _ => 0)

def quiescent_Dw0Ideal [hDw0Ideal : Cert.Dw0Ideal.Facts] : Prop :=
  ∀ (m : (ℓ : Loc Cert.Dw0Ideal.nD Cert.Dw0Ideal.τ Cert.Dw0Ideal.sig) → Buf (Elt Ideal) ℓ) (g : Dev Cert.Dw0Ideal.nD → PrngReg), Pre_Dw0Ideal m →
    θ_run (Cert.Dw0Ideal.defs (F := Ideal)) (onTc (τ := Cert.Dw0Ideal.τ) (Cert.Dw0Ideal.main (F := Ideal))) ⟨m, fun _ => 0, g⟩ (fun r => (∀ c : Dev Cert.Dw0Ideal.nD,
      r.2.mem ((c.tc : Thread Cert.Dw0Ideal.nD Cert.Dw0Ideal.τ).loc Cert.Dw0Ideal.main_arg0) = m ((c.tc : Thread Cert.Dw0Ideal.nD Cert.Dw0Ideal.τ).loc Cert.Dw0Ideal.main_arg0)
      ∧ r.2.mem ((c.tc : Thread Cert.Dw0Ideal.nD Cert.Dw0Ideal.τ).loc Cert.Dw0Ideal.main_arg1) = m ((c.tc : Thread Cert.Dw0Ideal.nD Cert.Dw0Ideal.τ).loc Cert.Dw0Ideal.main_arg1)
      ∧ r.2.mem ((c.tc : Thread Cert.Dw0Ideal.nD Cert.Dw0Ideal.τ).loc Cert.Dw0Ideal.main_arg2) = m ((c.tc : Thread Cert.Dw0Ideal.nD Cert.Dw0Ideal.τ).loc Cert.Dw0Ideal.main_arg2))
      ∧ r.2.sem = fun _ => 0)

def quiescent_Dw0RefIdeal [hDw0RefIdeal : Cert.Dw0RefIdeal.Facts] : Prop :=
  ∀ (m : (ℓ : Loc Cert.Dw0RefIdeal.nD Cert.Dw0RefIdeal.τ Cert.Dw0RefIdeal.sig) → Buf (Elt Ideal) ℓ) (g : Dev Cert.Dw0RefIdeal.nD → PrngReg), Pre_Dw0RefIdeal m →
    θ_run (Cert.Dw0RefIdeal.defs (F := Ideal)) (onTc (τ := Cert.Dw0RefIdeal.τ) (Cert.Dw0RefIdeal.main (F := Ideal))) ⟨m, fun _ => 0, g⟩ (fun r => (∀ c : Dev Cert.Dw0RefIdeal.nD,
      r.2.mem ((c.tc : Thread Cert.Dw0RefIdeal.nD Cert.Dw0RefIdeal.τ).loc Cert.Dw0RefIdeal.main_arg0) = m ((c.tc : Thread Cert.Dw0RefIdeal.nD Cert.Dw0RefIdeal.τ).loc Cert.Dw0RefIdeal.main_arg0)
      ∧ r.2.mem ((c.tc : Thread Cert.Dw0RefIdeal.nD Cert.Dw0RefIdeal.τ).loc Cert.Dw0RefIdeal.main_arg1) = m ((c.tc : Thread Cert.Dw0RefIdeal.nD Cert.Dw0RefIdeal.τ).loc Cert.Dw0RefIdeal.main_arg1)
      ∧ r.2.mem ((c.tc : Thread Cert.Dw0RefIdeal.nD Cert.Dw0RefIdeal.τ).loc Cert.Dw0RefIdeal.main_arg2) = m ((c.tc : Thread Cert.Dw0RefIdeal.nD Cert.Dw0RefIdeal.τ).loc Cert.Dw0RefIdeal.main_arg2))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1)
      ∧ r.2.mem ((c.tc : Thread Cert.Dw1.nD Cert.Dw1.τ).loc Cert.Dw1.main_arg2) = m ((c.tc : Thread Cert.Dw1.nD Cert.Dw1.τ).loc Cert.Dw1.main_arg2))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
      ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1)
      ∧ r.2.mem ((c.tc : Thread Cert.Dw1RefIdeal.nD Cert.Dw1RefIdeal.τ).loc Cert.Dw1RefIdeal.main_arg2) = m ((c.tc : Thread Cert.Dw1RefIdeal.nD Cert.Dw1RefIdeal.τ).loc Cert.Dw1RefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2))
      ∧ r.2.sem = fun _ => 0)

def quiescent_Dwz [hDwz : Cert.Dwz.Facts] : Prop :=
  ∀ (m : (ℓ : Loc Cert.Dwz.nD Cert.Dwz.τ Cert.Dwz.sig) → Buf (Elt Bits) ℓ) (g : Dev Cert.Dwz.nD → PrngReg), Pre_Dwz m →
    θ_run (Cert.Dwz.defs (F := Bits)) (onTc (τ := Cert.Dwz.τ) (Cert.Dwz.main (F := Bits))) ⟨m, fun _ => 0, g⟩ (fun r => (∀ c : Dev Cert.Dwz.nD,
      r.2.mem ((c.tc : Thread Cert.Dwz.nD Cert.Dwz.τ).loc Cert.Dwz.main_arg0) = m ((c.tc : Thread Cert.Dwz.nD Cert.Dwz.τ).loc Cert.Dwz.main_arg0)
      ∧ r.2.mem ((c.tc : Thread Cert.Dwz.nD Cert.Dwz.τ).loc Cert.Dwz.main_arg1) = m ((c.tc : Thread Cert.Dwz.nD Cert.Dwz.τ).loc Cert.Dwz.main_arg1)
      ∧ r.2.mem ((c.tc : Thread Cert.Dwz.nD Cert.Dwz.τ).loc Cert.Dwz.main_arg2) = m ((c.tc : Thread Cert.Dwz.nD Cert.Dwz.τ).loc Cert.Dwz.main_arg2))
      ∧ r.2.sem = fun _ => 0)

def quiescent_DwzIdeal [hDwzIdeal : Cert.DwzIdeal.Facts] : Prop :=
  ∀ (m : (ℓ : Loc Cert.DwzIdeal.nD Cert.DwzIdeal.τ Cert.DwzIdeal.sig) → Buf (Elt Ideal) ℓ) (g : Dev Cert.DwzIdeal.nD → PrngReg), Pre_DwzIdeal m →
    θ_run (Cert.DwzIdeal.defs (F := Ideal)) (onTc (τ := Cert.DwzIdeal.τ) (Cert.DwzIdeal.main (F := Ideal))) ⟨m, fun _ => 0, g⟩ (fun r => (∀ c : Dev Cert.DwzIdeal.nD,
      r.2.mem ((c.tc : Thread Cert.DwzIdeal.nD Cert.DwzIdeal.τ).loc Cert.DwzIdeal.main_arg0) = m ((c.tc : Thread Cert.DwzIdeal.nD Cert.DwzIdeal.τ).loc Cert.DwzIdeal.main_arg0)
      ∧ r.2.mem ((c.tc : Thread Cert.DwzIdeal.nD Cert.DwzIdeal.τ).loc Cert.DwzIdeal.main_arg1) = m ((c.tc : Thread Cert.DwzIdeal.nD Cert.DwzIdeal.τ).loc Cert.DwzIdeal.main_arg1)
      ∧ r.2.mem ((c.tc : Thread Cert.DwzIdeal.nD Cert.DwzIdeal.τ).loc Cert.DwzIdeal.main_arg2) = m ((c.tc : Thread Cert.DwzIdeal.nD Cert.DwzIdeal.τ).loc Cert.DwzIdeal.main_arg2))
      ∧ r.2.sem = fun _ => 0)

def quiescent_DwzRefIdeal [hDwzRefIdeal : Cert.DwzRefIdeal.Facts] : Prop :=
  ∀ (m : (ℓ : Loc Cert.DwzRefIdeal.nD Cert.DwzRefIdeal.τ Cert.DwzRefIdeal.sig) → Buf (Elt Ideal) ℓ) (g : Dev Cert.DwzRefIdeal.nD → PrngReg), Pre_DwzRefIdeal m →
    θ_run (Cert.DwzRefIdeal.defs (F := Ideal)) (onTc (τ := Cert.DwzRefIdeal.τ) (Cert.DwzRefIdeal.main (F := Ideal))) ⟨m, fun _ => 0, g⟩ (fun r => (∀ c : Dev Cert.DwzRefIdeal.nD,
      r.2.mem ((c.tc : Thread Cert.DwzRefIdeal.nD Cert.DwzRefIdeal.τ).loc Cert.DwzRefIdeal.main_arg0) = m ((c.tc : Thread Cert.DwzRefIdeal.nD Cert.DwzRefIdeal.τ).loc Cert.DwzRefIdeal.main_arg0)
      ∧ r.2.mem ((c.tc : Thread Cert.DwzRefIdeal.nD Cert.DwzRefIdeal.τ).loc Cert.DwzRefIdeal.main_arg1) = m ((c.tc : Thread Cert.DwzRefIdeal.nD Cert.DwzRefIdeal.τ).loc Cert.DwzRefIdeal.main_arg1)
      ∧ r.2.mem ((c.tc : Thread Cert.DwzRefIdeal.nD Cert.DwzRefIdeal.τ).loc Cert.DwzRefIdeal.main_arg2) = m ((c.tc : Thread Cert.DwzRefIdeal.nD Cert.DwzRefIdeal.τ).loc Cert.DwzRefIdeal.main_arg2))
      ∧ r.2.sem = fun _ => 0)

def quiescent_Dxa [hDxa : Cert.Dxa.Facts] : Prop :=
  ∀ (m : (ℓ : Loc Cert.Dxa.nD Cert.Dxa.τ Cert.Dxa.sig) → Buf (Elt Bits) ℓ) (g : Dev Cert.Dxa.nD → PrngReg), Pre_Dxa m →
    θ_run (Cert.Dxa.defs (F := Bits)) (onTc (τ := Cert.Dxa.τ) (Cert.Dxa.main (F := Bits))) ⟨m, fun _ => 0, g⟩ (fun r => (∀ c : Dev Cert.Dxa.nD,
      r.2.mem ((c.tc : Thread Cert.Dxa.nD Cert.Dxa.τ).loc Cert.Dxa.main_arg0) = m ((c.tc : Thread Cert.Dxa.nD Cert.Dxa.τ).loc Cert.Dxa.main_arg0)
      ∧ r.2.mem ((c.tc : Thread Cert.Dxa.nD Cert.Dxa.τ).loc Cert.Dxa.main_arg1) = m ((c.tc : Thread Cert.Dxa.nD Cert.Dxa.τ).loc Cert.Dxa.main_arg1)
      ∧ r.2.mem ((c.tc : Thread Cert.Dxa.nD Cert.Dxa.τ).loc Cert.Dxa.main_arg2) = m ((c.tc : Thread Cert.Dxa.nD Cert.Dxa.τ).loc Cert.Dxa.main_arg2)
      ∧ r.2.mem ((c.tc : Thread Cert.Dxa.nD Cert.Dxa.τ).loc Cert.Dxa.main_arg3) = m ((c.tc : Thread Cert.Dxa.nD Cert.Dxa.τ).loc Cert.Dxa.main_arg3))
      ∧ r.2.sem = fun _ => 0)

def quiescent_DxaIdeal [hDxaIdeal : Cert.DxaIdeal.Facts] : Prop :=
  ∀ (m : (ℓ : Loc Cert.DxaIdeal.nD Cert.DxaIdeal.τ Cert.DxaIdeal.sig) → Buf (Elt Ideal) ℓ) (g : Dev Cert.DxaIdeal.nD → PrngReg), Pre_DxaIdeal m →
    θ_run (Cert.DxaIdeal.defs (F := Ideal)) (onTc (τ := Cert.DxaIdeal.τ) (Cert.DxaIdeal.main (F := Ideal))) ⟨m, fun _ => 0, g⟩ (fun r => (∀ c : Dev Cert.DxaIdeal.nD,
      r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
      ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
      ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2)
      ∧ r.2.mem ((c.tc : Thread Cert.DxaIdeal.nD Cert.DxaIdeal.τ).loc Cert.DxaIdeal.main_arg3) = m ((c.tc : Thread Cert.DxaIdeal.nD Cert.DxaIdeal.τ).loc Cert.DxaIdeal.main_arg3))
      ∧ r.2.sem = fun _ => 0)

def quiescent_DxaRefIdeal [hDxaRefIdeal : Cert.DxaRefIdeal.Facts] : Prop :=
  ∀ (m : (ℓ : Loc Cert.DxaRefIdeal.nD Cert.DxaRefIdeal.τ Cert.DxaRefIdeal.sig) → Buf (Elt Ideal) ℓ) (g : Dev Cert.DxaRefIdeal.nD → PrngReg), Pre_DxaRefIdeal m →
    θ_run (Cert.DxaRefIdeal.defs (F := Ideal)) (onTc (τ := Cert.DxaRefIdeal.τ) (Cert.DxaRefIdeal.main (F := Ideal))) ⟨m, fun _ => 0, g⟩ (fun r => (∀ c : Dev Cert.DxaRefIdeal.nD,
      r.2.mem ((c.tc : Thread Cert.DxaRefIdeal.nD Cert.DxaRefIdeal.τ).loc Cert.DxaRefIdeal.main_arg0) = m ((c.tc : Thread Cert.DxaRefIdeal.nD Cert.DxaRefIdeal.τ).loc Cert.DxaRefIdeal.main_arg0)
      ∧ r.2.mem ((c.tc : Thread Cert.DxaRefIdeal.nD Cert.DxaRefIdeal.τ).loc Cert.DxaRefIdeal.main_arg1) = m ((c.tc : Thread Cert.DxaRefIdeal.nD Cert.DxaRefIdeal.τ).loc Cert.DxaRefIdeal.main_arg1)
      ∧ r.2.mem ((c.tc : Thread Cert.DxaRefIdeal.nD Cert.DxaRefIdeal.τ).loc Cert.DxaRefIdeal.main_arg2) = m ((c.tc : Thread Cert.DxaRefIdeal.nD Cert.DxaRefIdeal.τ).loc Cert.DxaRefIdeal.main_arg2)
      ∧ r.2.mem ((c.tc : Thread Cert.DxaRefIdeal.nD Cert.DxaRefIdeal.τ).loc Cert.DxaRefIdeal.main_arg3) = m ((c.tc : Thread Cert.DxaRefIdeal.nD Cert.DxaRefIdeal.τ).loc Cert.DxaRefIdeal.main_arg3))
      ∧ r.2.sem = fun _ => 0)

def quiescent_Dwa0 [hDwa0 : Cert.Dwa0.Facts] : Prop :=
  ∀ (m : (ℓ : Loc Cert.Dwa0.nD Cert.Dwa0.τ Cert.Dwa0.sig) → Buf (Elt Bits) ℓ) (g : Dev Cert.Dwa0.nD → PrngReg), Pre_Dwa0 m →
    θ_run (Cert.Dwa0.defs (F := Bits)) (onTc (τ := Cert.Dwa0.τ) (Cert.Dwa0.main (F := Bits))) ⟨m, fun _ => 0, g⟩ (fun r => (∀ c : Dev Cert.Dwa0.nD,
      r.2.mem ((c.tc : Thread Cert.Dwa0.nD Cert.Dwa0.τ).loc Cert.Dwa0.main_arg0) = m ((c.tc : Thread Cert.Dwa0.nD Cert.Dwa0.τ).loc Cert.Dwa0.main_arg0)
      ∧ r.2.mem ((c.tc : Thread Cert.Dwa0.nD Cert.Dwa0.τ).loc Cert.Dwa0.main_arg1) = m ((c.tc : Thread Cert.Dwa0.nD Cert.Dwa0.τ).loc Cert.Dwa0.main_arg1)
      ∧ r.2.mem ((c.tc : Thread Cert.Dwa0.nD Cert.Dwa0.τ).loc Cert.Dwa0.main_arg2) = m ((c.tc : Thread Cert.Dwa0.nD Cert.Dwa0.τ).loc Cert.Dwa0.main_arg2))
      ∧ r.2.sem = fun _ => 0)

def quiescent_Dwa0Ideal [hDwa0Ideal : Cert.Dwa0Ideal.Facts] : Prop :=
  ∀ (m : (ℓ : Loc Cert.Dwa0Ideal.nD Cert.Dwa0Ideal.τ Cert.Dwa0Ideal.sig) → Buf (Elt Ideal) ℓ) (g : Dev Cert.Dwa0Ideal.nD → PrngReg), Pre_Dwa0Ideal m →
    θ_run (Cert.Dwa0Ideal.defs (F := Ideal)) (onTc (τ := Cert.Dwa0Ideal.τ) (Cert.Dwa0Ideal.main (F := Ideal))) ⟨m, fun _ => 0, g⟩ (fun r => (∀ c : Dev Cert.Dwa0Ideal.nD,
      r.2.mem ((c.tc : Thread Cert.Dwa0Ideal.nD Cert.Dwa0Ideal.τ).loc Cert.Dwa0Ideal.main_arg0) = m ((c.tc : Thread Cert.Dwa0Ideal.nD Cert.Dwa0Ideal.τ).loc Cert.Dwa0Ideal.main_arg0)
      ∧ r.2.mem ((c.tc : Thread Cert.Dwa0Ideal.nD Cert.Dwa0Ideal.τ).loc Cert.Dwa0Ideal.main_arg1) = m ((c.tc : Thread Cert.Dwa0Ideal.nD Cert.Dwa0Ideal.τ).loc Cert.Dwa0Ideal.main_arg1)
      ∧ r.2.mem ((c.tc : Thread Cert.Dwa0Ideal.nD Cert.Dwa0Ideal.τ).loc Cert.Dwa0Ideal.main_arg2) = m ((c.tc : Thread Cert.Dwa0Ideal.nD Cert.Dwa0Ideal.τ).loc Cert.Dwa0Ideal.main_arg2))
      ∧ r.2.sem = fun _ => 0)

def quiescent_Dwa0RefIdeal [hDwa0RefIdeal : Cert.Dwa0RefIdeal.Facts] : Prop :=
  ∀ (m : (ℓ : Loc Cert.Dwa0RefIdeal.nD Cert.Dwa0RefIdeal.τ Cert.Dwa0RefIdeal.sig) → Buf (Elt Ideal) ℓ) (g : Dev Cert.Dwa0RefIdeal.nD → PrngReg), Pre_Dwa0RefIdeal m →
    θ_run (Cert.Dwa0RefIdeal.defs (F := Ideal)) (onTc (τ := Cert.Dwa0RefIdeal.τ) (Cert.Dwa0RefIdeal.main (F := Ideal))) ⟨m, fun _ => 0, g⟩ (fun r => (∀ c : Dev Cert.Dwa0RefIdeal.nD,
      r.2.mem ((c.tc : Thread Cert.Dwa0RefIdeal.nD Cert.Dwa0RefIdeal.τ).loc Cert.Dwa0RefIdeal.main_arg0) = m ((c.tc : Thread Cert.Dwa0RefIdeal.nD Cert.Dwa0RefIdeal.τ).loc Cert.Dwa0RefIdeal.main_arg0)
      ∧ r.2.mem ((c.tc : Thread Cert.Dwa0RefIdeal.nD Cert.Dwa0RefIdeal.τ).loc Cert.Dwa0RefIdeal.main_arg1) = m ((c.tc : Thread Cert.Dwa0RefIdeal.nD Cert.Dwa0RefIdeal.τ).loc Cert.Dwa0RefIdeal.main_arg1)
      ∧ r.2.mem ((c.tc : Thread Cert.Dwa0RefIdeal.nD Cert.Dwa0RefIdeal.τ).loc Cert.Dwa0RefIdeal.main_arg2) = m ((c.tc : Thread Cert.Dwa0RefIdeal.nD Cert.Dwa0RefIdeal.τ).loc Cert.Dwa0RefIdeal.main_arg2))
      ∧ r.2.sem = fun _ => 0)

def quiescent_Dwa1 [hDwa1 : Cert.Dwa1.Facts] : Prop :=
  ∀ (m : (ℓ : Loc Cert.Dwa1.nD Cert.Dwa1.τ Cert.Dwa1.sig) → Buf (Elt Bits) ℓ) (g : Dev Cert.Dwa1.nD → PrngReg), Pre_Dwa1 m →
    θ_run (Cert.Dwa1.defs (F := Bits)) (onTc (τ := Cert.Dwa1.τ) (Cert.Dwa1.main (F := Bits))) ⟨m, fun _ => 0, g⟩ (fun r => (∀ c : Dev Cert.Dwa1.nD,
      r.2.mem ((c.tc : Thread Cert.Dwa1.nD Cert.Dwa1.τ).loc Cert.Dwa1.main_arg0) = m ((c.tc : Thread Cert.Dwa1.nD Cert.Dwa1.τ).loc Cert.Dwa1.main_arg0)
      ∧ r.2.mem ((c.tc : Thread Cert.Dwa1.nD Cert.Dwa1.τ).loc Cert.Dwa1.main_arg1) = m ((c.tc : Thread Cert.Dwa1.nD Cert.Dwa1.τ).loc Cert.Dwa1.main_arg1)
      ∧ r.2.mem ((c.tc : Thread Cert.Dwa1.nD Cert.Dwa1.τ).loc Cert.Dwa1.main_arg2) = m ((c.tc : Thread Cert.Dwa1.nD Cert.Dwa1.τ).loc Cert.Dwa1.main_arg2))
      ∧ r.2.sem = fun _ => 0)

def quiescent_Dwa1Ideal [hDwa1Ideal : Cert.Dwa1Ideal.Facts] : Prop :=
  ∀ (m : (ℓ : Loc Cert.Dwa1Ideal.nD Cert.Dwa1Ideal.τ Cert.Dwa1Ideal.sig) → Buf (Elt Ideal) ℓ) (g : Dev Cert.Dwa1Ideal.nD → PrngReg), Pre_Dwa1Ideal m →
    θ_run (Cert.Dwa1Ideal.defs (F := Ideal)) (onTc (τ := Cert.Dwa1Ideal.τ) (Cert.Dwa1Ideal.main (F := Ideal))) ⟨m, fun _ => 0, g⟩ (fun r => (∀ c : Dev Cert.Dwa1Ideal.nD,
      r.2.mem ((c.tc : Thread Cert.Dwa1Ideal.nD Cert.Dwa1Ideal.τ).loc Cert.Dwa1Ideal.main_arg0) = m ((c.tc : Thread Cert.Dwa1Ideal.nD Cert.Dwa1Ideal.τ).loc Cert.Dwa1Ideal.main_arg0)
      ∧ r.2.mem ((c.tc : Thread Cert.Dwa1Ideal.nD Cert.Dwa1Ideal.τ).loc Cert.Dwa1Ideal.main_arg1) = m ((c.tc : Thread Cert.Dwa1Ideal.nD Cert.Dwa1Ideal.τ).loc Cert.Dwa1Ideal.main_arg1)
      ∧ r.2.mem ((c.tc : Thread Cert.Dwa1Ideal.nD Cert.Dwa1Ideal.τ).loc Cert.Dwa1Ideal.main_arg2) = m ((c.tc : Thread Cert.Dwa1Ideal.nD Cert.Dwa1Ideal.τ).loc Cert.Dwa1Ideal.main_arg2))
      ∧ r.2.sem = fun _ => 0)

def quiescent_Dwa1RefIdeal [hDwa1RefIdeal : Cert.Dwa1RefIdeal.Facts] : Prop :=
  ∀ (m : (ℓ : Loc Cert.Dwa1RefIdeal.nD Cert.Dwa1RefIdeal.τ Cert.Dwa1RefIdeal.sig) → Buf (Elt Ideal) ℓ) (g : Dev Cert.Dwa1RefIdeal.nD → PrngReg), Pre_Dwa1RefIdeal m →
    θ_run (Cert.Dwa1RefIdeal.defs (F := Ideal)) (onTc (τ := Cert.Dwa1RefIdeal.τ) (Cert.Dwa1RefIdeal.main (F := Ideal))) ⟨m, fun _ => 0, g⟩ (fun r => (∀ c : Dev Cert.Dwa1RefIdeal.nD,
      r.2.mem ((c.tc : Thread Cert.Dwa1RefIdeal.nD Cert.Dwa1RefIdeal.τ).loc Cert.Dwa1RefIdeal.main_arg0) = m ((c.tc : Thread Cert.Dwa1RefIdeal.nD Cert.Dwa1RefIdeal.τ).loc Cert.Dwa1RefIdeal.main_arg0)
      ∧ r.2.mem ((c.tc : Thread Cert.Dwa1RefIdeal.nD Cert.Dwa1RefIdeal.τ).loc Cert.Dwa1RefIdeal.main_arg1) = m ((c.tc : Thread Cert.Dwa1RefIdeal.nD Cert.Dwa1RefIdeal.τ).loc Cert.Dwa1RefIdeal.main_arg1)
      ∧ r.2.mem ((c.tc : Thread Cert.Dwa1RefIdeal.nD Cert.Dwa1RefIdeal.τ).loc Cert.Dwa1RefIdeal.main_arg2) = m ((c.tc : Thread Cert.Dwa1RefIdeal.nD Cert.Dwa1RefIdeal.τ).loc Cert.Dwa1RefIdeal.main_arg2))
      ∧ r.2.sem = fun _ => 0)

def quiescent_Dwa2 [hDwa2 : Cert.Dwa2.Facts] : Prop :=
  ∀ (m : (ℓ : Loc Cert.Dwa2.nD Cert.Dwa2.τ Cert.Dwa2.sig) → Buf (Elt Bits) ℓ) (g : Dev Cert.Dwa2.nD → PrngReg), Pre_Dwa2 m →
    θ_run (Cert.Dwa2.defs (F := Bits)) (onTc (τ := Cert.Dwa2.τ) (Cert.Dwa2.main (F := Bits))) ⟨m, fun _ => 0, g⟩ (fun r => (∀ c : Dev Cert.Dwa2.nD,
      r.2.mem ((c.tc : Thread Cert.Dwa2.nD Cert.Dwa2.τ).loc Cert.Dwa2.main_arg0) = m ((c.tc : Thread Cert.Dwa2.nD Cert.Dwa2.τ).loc Cert.Dwa2.main_arg0)
      ∧ r.2.mem ((c.tc : Thread Cert.Dwa2.nD Cert.Dwa2.τ).loc Cert.Dwa2.main_arg1) = m ((c.tc : Thread Cert.Dwa2.nD Cert.Dwa2.τ).loc Cert.Dwa2.main_arg1)
      ∧ r.2.mem ((c.tc : Thread Cert.Dwa2.nD Cert.Dwa2.τ).loc Cert.Dwa2.main_arg2) = m ((c.tc : Thread Cert.Dwa2.nD Cert.Dwa2.τ).loc Cert.Dwa2.main_arg2))
      ∧ r.2.sem = fun _ => 0)

def quiescent_Dwa2Ideal [hDwa2Ideal : Cert.Dwa2Ideal.Facts] : Prop :=
  ∀ (m : (ℓ : Loc Cert.Dwa2Ideal.nD Cert.Dwa2Ideal.τ Cert.Dwa2Ideal.sig) → Buf (Elt Ideal) ℓ) (g : Dev Cert.Dwa2Ideal.nD → PrngReg), Pre_Dwa2Ideal m →
    θ_run (Cert.Dwa2Ideal.defs (F := Ideal)) (onTc (τ := Cert.Dwa2Ideal.τ) (Cert.Dwa2Ideal.main (F := Ideal))) ⟨m, fun _ => 0, g⟩ (fun r => (∀ c : Dev Cert.Dwa2Ideal.nD,
      r.2.mem ((c.tc : Thread Cert.Dwa2Ideal.nD Cert.Dwa2Ideal.τ).loc Cert.Dwa2Ideal.main_arg0) = m ((c.tc : Thread Cert.Dwa2Ideal.nD Cert.Dwa2Ideal.τ).loc Cert.Dwa2Ideal.main_arg0)
      ∧ r.2.mem ((c.tc : Thread Cert.Dwa2Ideal.nD Cert.Dwa2Ideal.τ).loc Cert.Dwa2Ideal.main_arg1) = m ((c.tc : Thread Cert.Dwa2Ideal.nD Cert.Dwa2Ideal.τ).loc Cert.Dwa2Ideal.main_arg1)
      ∧ r.2.mem ((c.tc : Thread Cert.Dwa2Ideal.nD Cert.Dwa2Ideal.τ).loc Cert.Dwa2Ideal.main_arg2) = m ((c.tc : Thread Cert.Dwa2Ideal.nD Cert.Dwa2Ideal.τ).loc Cert.Dwa2Ideal.main_arg2))
      ∧ r.2.sem = fun _ => 0)

def quiescent_Dwa2RefIdeal [hDwa2RefIdeal : Cert.Dwa2RefIdeal.Facts] : Prop :=
  ∀ (m : (ℓ : Loc Cert.Dwa2RefIdeal.nD Cert.Dwa2RefIdeal.τ Cert.Dwa2RefIdeal.sig) → Buf (Elt Ideal) ℓ) (g : Dev Cert.Dwa2RefIdeal.nD → PrngReg), Pre_Dwa2RefIdeal m →
    θ_run (Cert.Dwa2RefIdeal.defs (F := Ideal)) (onTc (τ := Cert.Dwa2RefIdeal.τ) (Cert.Dwa2RefIdeal.main (F := Ideal))) ⟨m, fun _ => 0, g⟩ (fun r => (∀ c : Dev Cert.Dwa2RefIdeal.nD,
      r.2.mem ((c.tc : Thread Cert.Dwa2RefIdeal.nD Cert.Dwa2RefIdeal.τ).loc Cert.Dwa2RefIdeal.main_arg0) = m ((c.tc : Thread Cert.Dwa2RefIdeal.nD Cert.Dwa2RefIdeal.τ).loc Cert.Dwa2RefIdeal.main_arg0)
      ∧ r.2.mem ((c.tc : Thread Cert.Dwa2RefIdeal.nD Cert.Dwa2RefIdeal.τ).loc Cert.Dwa2RefIdeal.main_arg1) = m ((c.tc : Thread Cert.Dwa2RefIdeal.nD Cert.Dwa2RefIdeal.τ).loc Cert.Dwa2RefIdeal.main_arg1)
      ∧ r.2.mem ((c.tc : Thread Cert.Dwa2RefIdeal.nD Cert.Dwa2RefIdeal.τ).loc Cert.Dwa2RefIdeal.main_arg2) = m ((c.tc : Thread Cert.Dwa2RefIdeal.nD Cert.Dwa2RefIdeal.τ).loc Cert.Dwa2RefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1))
      ∧ r.2.sem = fun _ => 0)

def quiescent_FwdOutRefIdeal [hFwdOutRefIdeal : Cert.FwdOutRefIdeal.Facts] : Prop :=
  ∀ (m : (ℓ : Loc Cert.FwdOutRefIdeal.nD Cert.FwdOutRefIdeal.τ Cert.FwdOutRefIdeal.sig) → Buf (Elt Ideal) ℓ) (g : Dev Cert.FwdOutRefIdeal.nD → PrngReg), Pre_FwdOutRefIdeal m →
    θ_run (Cert.FwdOutRefIdeal.defs (F := Ideal)) (onTc (τ := Cert.FwdOutRefIdeal.τ) (Cert.FwdOutRefIdeal.main (F := Ideal))) ⟨m, fun _ => 0, g⟩ (fun r => (∀ c : Dev Cert.FwdOutRefIdeal.nD,
      r.2.mem ((c.tc : Thread Cert.FwdOutRefIdeal.nD Cert.FwdOutRefIdeal.τ).loc Cert.FwdOutRefIdeal.main_arg0) = m ((c.tc : Thread Cert.FwdOutRefIdeal.nD Cert.FwdOutRefIdeal.τ).loc Cert.FwdOutRefIdeal.main_arg0)
      ∧ r.2.mem ((c.tc : Thread Cert.FwdOutRefIdeal.nD Cert.FwdOutRefIdeal.τ).loc Cert.FwdOutRefIdeal.main_arg1) = m ((c.tc : Thread Cert.FwdOutRefIdeal.nD Cert.FwdOutRefIdeal.τ).loc Cert.FwdOutRefIdeal.main_arg1))
      ∧ r.2.sem = fun _ => 0)

def quiescent_FwdZ [hFwdZ : Cert.FwdZ.Facts] : Prop :=
  ∀ (m : (ℓ : Loc Cert.FwdZ.nD Cert.FwdZ.τ Cert.FwdZ.sig) → Buf (Elt Bits) ℓ) (g : Dev Cert.FwdZ.nD → PrngReg), Pre_FwdZ m →
    θ_run (Cert.FwdZ.defs (F := Bits)) (onTc (τ := Cert.FwdZ.τ) (Cert.FwdZ.main (F := Bits))) ⟨m, fun _ => 0, g⟩ (fun r => (∀ c : Dev Cert.FwdZ.nD,
      r.2.mem ((c.tc : Thread Cert.FwdZ.nD Cert.FwdZ.τ).loc Cert.FwdZ.main_arg0) = m ((c.tc : Thread Cert.FwdZ.nD Cert.FwdZ.τ).loc Cert.FwdZ.main_arg0)
      ∧ r.2.mem ((c.tc : Thread Cert.FwdZ.nD Cert.FwdZ.τ).loc Cert.FwdZ.main_arg1) = m ((c.tc : Thread Cert.FwdZ.nD Cert.FwdZ.τ).loc Cert.FwdZ.main_arg1))
      ∧ r.2.sem = fun _ => 0)

def quiescent_FwdZIdeal [hFwdZIdeal : Cert.FwdZIdeal.Facts] : Prop :=
  ∀ (m : (ℓ : Loc Cert.FwdZIdeal.nD Cert.FwdZIdeal.τ Cert.FwdZIdeal.sig) → Buf (Elt Ideal) ℓ) (g : Dev Cert.FwdZIdeal.nD → PrngReg), Pre_FwdZIdeal m →
    θ_run (Cert.FwdZIdeal.defs (F := Ideal)) (onTc (τ := Cert.FwdZIdeal.τ) (Cert.FwdZIdeal.main (F := Ideal))) ⟨m, fun _ => 0, g⟩ (fun r => (∀ c : Dev Cert.FwdZIdeal.nD,
      r.2.mem ((c.tc : Thread Cert.FwdZIdeal.nD Cert.FwdZIdeal.τ).loc Cert.FwdZIdeal.main_arg0) = m ((c.tc : Thread Cert.FwdZIdeal.nD Cert.FwdZIdeal.τ).loc Cert.FwdZIdeal.main_arg0)
      ∧ r.2.mem ((c.tc : Thread Cert.FwdZIdeal.nD Cert.FwdZIdeal.τ).loc Cert.FwdZIdeal.main_arg1) = m ((c.tc : Thread Cert.FwdZIdeal.nD Cert.FwdZIdeal.τ).loc Cert.FwdZIdeal.main_arg1))
      ∧ r.2.sem = fun _ => 0)

def quiescent_FwdZRefIdeal [hFwdZRefIdeal : Cert.FwdZRefIdeal.Facts] : Prop :=
  ∀ (m : (ℓ : Loc Cert.FwdZRefIdeal.nD Cert.FwdZRefIdeal.τ Cert.FwdZRefIdeal.sig) → Buf (Elt Ideal) ℓ) (g : Dev Cert.FwdZRefIdeal.nD → PrngReg), Pre_FwdZRefIdeal m →
    θ_run (Cert.FwdZRefIdeal.defs (F := Ideal)) (onTc (τ := Cert.FwdZRefIdeal.τ) (Cert.FwdZRefIdeal.main (F := Ideal))) ⟨m, fun _ => 0, g⟩ (fun r => (∀ c : Dev Cert.FwdZRefIdeal.nD,
      r.2.mem ((c.tc : Thread Cert.FwdZRefIdeal.nD Cert.FwdZRefIdeal.τ).loc Cert.FwdZRefIdeal.main_arg0) = m ((c.tc : Thread Cert.FwdZRefIdeal.nD Cert.FwdZRefIdeal.τ).loc Cert.FwdZRefIdeal.main_arg0)
      ∧ r.2.mem ((c.tc : Thread Cert.FwdZRefIdeal.nD Cert.FwdZRefIdeal.τ).loc Cert.FwdZRefIdeal.main_arg1) = m ((c.tc : Thread Cert.FwdZRefIdeal.nD Cert.FwdZRefIdeal.τ).loc Cert.FwdZRefIdeal.main_arg1))
      ∧ r.2.sem = fun _ => 0)

def quiescent_MidFwd [hMidFwd : Cert.MidFwd.Facts] : Prop :=
  ∀ (m : (ℓ : Loc Cert.MidFwd.nD Cert.MidFwd.τ Cert.MidFwd.sig) → Buf (Elt Bits) ℓ) (g : Dev Cert.MidFwd.nD → PrngReg), Pre_MidFwd m →
    θ_run (Cert.MidFwd.defs (F := Bits)) (onTc (τ := Cert.MidFwd.τ) (Cert.MidFwd.main (F := Bits))) ⟨m, fun _ => 0, g⟩ (fun r => (∀ c : Dev Cert.MidFwd.nD,
      r.2.mem ((c.tc : Thread Cert.MidFwd.nD Cert.MidFwd.τ).loc Cert.MidFwd.main_arg0) = m ((c.tc : Thread Cert.MidFwd.nD Cert.MidFwd.τ).loc Cert.MidFwd.main_arg0)
      ∧ r.2.mem ((c.tc : Thread Cert.MidFwd.nD Cert.MidFwd.τ).loc Cert.MidFwd.main_arg1) = m ((c.tc : Thread Cert.MidFwd.nD Cert.MidFwd.τ).loc Cert.MidFwd.main_arg1)
      ∧ r.2.mem ((c.tc : Thread Cert.MidFwd.nD Cert.MidFwd.τ).loc Cert.MidFwd.main_arg2) = m ((c.tc : Thread Cert.MidFwd.nD Cert.MidFwd.τ).loc Cert.MidFwd.main_arg2)
      ∧ r.2.mem ((c.tc : Thread Cert.MidFwd.nD Cert.MidFwd.τ).loc Cert.MidFwd.main_arg3) = m ((c.tc : Thread Cert.MidFwd.nD Cert.MidFwd.τ).loc Cert.MidFwd.main_arg3))
      ∧ r.2.sem = fun _ => 0)

def quiescent_MidFwdIdeal [hMidFwdIdeal : Cert.MidFwdIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg), Pre_MidFwdIdeal m →
    θ_run (Cert.MidFwdIdeal.defs (F := Ideal)) (onTc (τ := Cert.MidFwdIdeal.τ) (Cert.MidFwdIdeal.main (F := Ideal))) ⟨m, fun _ => 0, g⟩ (fun r => (∀ c : Dev Cert.MidFwdIdeal.nD,
      r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
      ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
      ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
      ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3))
      ∧ r.2.sem = fun _ => 0)

def quiescent_MidFwdRefIdeal [hMidFwdRefIdeal : Cert.MidFwdRefIdeal.Facts] : Prop :=
  ∀ (m : (ℓ : Loc Cert.MidFwdRefIdeal.nD Cert.MidFwdRefIdeal.τ Cert.MidFwdRefIdeal.sig) → Buf (Elt Ideal) ℓ) (g : Dev Cert.MidFwdRefIdeal.nD → PrngReg), Pre_MidFwdRefIdeal m →
    θ_run (Cert.MidFwdRefIdeal.defs (F := Ideal)) (onTc (τ := Cert.MidFwdRefIdeal.τ) (Cert.MidFwdRefIdeal.main (F := Ideal))) ⟨m, fun _ => 0, g⟩ (fun r => (∀ c : Dev Cert.MidFwdRefIdeal.nD,
      r.2.mem ((c.tc : Thread Cert.MidFwdRefIdeal.nD Cert.MidFwdRefIdeal.τ).loc Cert.MidFwdRefIdeal.main_arg0) = m ((c.tc : Thread Cert.MidFwdRefIdeal.nD Cert.MidFwdRefIdeal.τ).loc Cert.MidFwdRefIdeal.main_arg0)
      ∧ r.2.mem ((c.tc : Thread Cert.MidFwdRefIdeal.nD Cert.MidFwdRefIdeal.τ).loc Cert.MidFwdRefIdeal.main_arg1) = m ((c.tc : Thread Cert.MidFwdRefIdeal.nD Cert.MidFwdRefIdeal.τ).loc Cert.MidFwdRefIdeal.main_arg1)
      ∧ r.2.mem ((c.tc : Thread Cert.MidFwdRefIdeal.nD Cert.MidFwdRefIdeal.τ).loc Cert.MidFwdRefIdeal.main_arg2) = m ((c.tc : Thread Cert.MidFwdRefIdeal.nD Cert.MidFwdRefIdeal.τ).loc Cert.MidFwdRefIdeal.main_arg2)
      ∧ r.2.mem ((c.tc : Thread Cert.MidFwdRefIdeal.nD Cert.MidFwdRefIdeal.τ).loc Cert.MidFwdRefIdeal.main_arg3) = m ((c.tc : Thread Cert.MidFwdRefIdeal.nD Cert.MidFwdRefIdeal.τ).loc Cert.MidFwdRefIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2)
      ∧ r.2.mem ((c.tc : Thread Cert.AdaFwd.nD Cert.AdaFwd.τ).loc Cert.AdaFwd.main_arg3) = m ((c.tc : Thread Cert.AdaFwd.nD Cert.AdaFwd.τ).loc Cert.AdaFwd.main_arg3))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2)
      ∧ r.2.mem ((c.tc : Thread Cert.AdaFwdIdeal.nD Cert.AdaFwdIdeal.τ).loc Cert.AdaFwdIdeal.main_arg3) = m ((c.tc : Thread Cert.AdaFwdIdeal.nD Cert.AdaFwdIdeal.τ).loc Cert.AdaFwdIdeal.main_arg3))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2)
      ∧ r.2.mem ((c.tc : Thread Cert.AdaFwdRefIdeal.nD Cert.AdaFwdRefIdeal.τ).loc Cert.AdaFwdRefIdeal.main_arg3) = m ((c.tc : Thread Cert.AdaFwdRefIdeal.nD Cert.AdaFwdRefIdeal.τ).loc Cert.AdaFwdRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamInB [hAdamInB : Cert.AdamInB.Facts] : Prop :=
  ∀ (m : (ℓ : Loc Cert.AdamInB.nD Cert.AdamInB.τ Cert.AdamInB.sig) → Buf (Elt Bits) ℓ) (g : Dev Cert.AdamInB.nD → PrngReg), Pre_AdamInB m →
    θ_run (Cert.AdamInB.defs (F := Bits)) (onTc (τ := Cert.AdamInB.τ) (Cert.AdamInB.main (F := Bits))) ⟨m, fun _ => 0, g⟩ (fun r => (∀ c : Dev Cert.AdamInB.nD,
      r.2.mem ((c.tc : Thread Cert.AdamInB.nD Cert.AdamInB.τ).loc Cert.AdamInB.main_arg0) = m ((c.tc : Thread Cert.AdamInB.nD Cert.AdamInB.τ).loc Cert.AdamInB.main_arg0)
      ∧ r.2.mem ((c.tc : Thread Cert.AdamInB.nD Cert.AdamInB.τ).loc Cert.AdamInB.main_arg1) = m ((c.tc : Thread Cert.AdamInB.nD Cert.AdamInB.τ).loc Cert.AdamInB.main_arg1)
      ∧ r.2.mem ((c.tc : Thread Cert.AdamInB.nD Cert.AdamInB.τ).loc Cert.AdamInB.main_arg2) = m ((c.tc : Thread Cert.AdamInB.nD Cert.AdamInB.τ).loc Cert.AdamInB.main_arg2)
      ∧ r.2.mem ((c.tc : Thread Cert.AdamInB.nD Cert.AdamInB.τ).loc Cert.AdamInB.main_arg3) = m ((c.tc : Thread Cert.AdamInB.nD Cert.AdamInB.τ).loc Cert.AdamInB.main_arg3))
      ∧ r.2.sem = fun _ => 0)

def quiescent_AdamInBIdeal [hAdamInBIdeal : Cert.AdamInBIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg), Pre_AdamInBIdeal m →
    θ_run (Cert.AdamInBIdeal.defs (F := Ideal)) (onTc (τ := Cert.AdamInBIdeal.τ) (Cert.AdamInBIdeal.main (F := Ideal))) ⟨m, fun _ => 0, g⟩ (fun r => (∀ c : Dev Cert.AdamInBIdeal.nD,
      r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
      ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
      ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
      ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ r.2.sem = fun _ => 0)

def quiescent_AdamInBRefIdeal [hAdamInBRefIdeal : Cert.AdamInBRefIdeal.Facts] : Prop :=
  ∀ (m : (ℓ : Loc Cert.AdamInBRefIdeal.nD Cert.AdamInBRefIdeal.τ Cert.AdamInBRefIdeal.sig) → Buf (Elt Ideal) ℓ) (g : Dev Cert.AdamInBRefIdeal.nD → PrngReg), Pre_AdamInBRefIdeal m →
    θ_run (Cert.AdamInBRefIdeal.defs (F := Ideal)) (onTc (τ := Cert.AdamInBRefIdeal.τ) (Cert.AdamInBRefIdeal.main (F := Ideal))) ⟨m, fun _ => 0, g⟩ (fun r => (∀ c : Dev Cert.AdamInBRefIdeal.nD,
      r.2.mem ((c.tc : Thread Cert.AdamInBRefIdeal.nD Cert.AdamInBRefIdeal.τ).loc Cert.AdamInBRefIdeal.main_arg0) = m ((c.tc : Thread Cert.AdamInBRefIdeal.nD Cert.AdamInBRefIdeal.τ).loc Cert.AdamInBRefIdeal.main_arg0)
      ∧ r.2.mem ((c.tc : Thread Cert.AdamInBRefIdeal.nD Cert.AdamInBRefIdeal.τ).loc Cert.AdamInBRefIdeal.main_arg1) = m ((c.tc : Thread Cert.AdamInBRefIdeal.nD Cert.AdamInBRefIdeal.τ).loc Cert.AdamInBRefIdeal.main_arg1)
      ∧ r.2.mem ((c.tc : Thread Cert.AdamInBRefIdeal.nD Cert.AdamInBRefIdeal.τ).loc Cert.AdamInBRefIdeal.main_arg2) = m ((c.tc : Thread Cert.AdamInBRefIdeal.nD Cert.AdamInBRefIdeal.τ).loc Cert.AdamInBRefIdeal.main_arg2)
      ∧ r.2.mem ((c.tc : Thread Cert.AdamInBRefIdeal.nD Cert.AdamInBRefIdeal.τ).loc Cert.AdamInBRefIdeal.main_arg3) = m ((c.tc : Thread Cert.AdamInBRefIdeal.nD Cert.AdamInBRefIdeal.τ).loc Cert.AdamInBRefIdeal.main_arg3))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInARefIdeal [hAdamInARefIdeal : Cert.AdamInARefIdeal.Facts] : Prop :=
  ∀ (m : (ℓ : Loc Cert.AdamInARefIdeal.nD Cert.AdamInARefIdeal.τ Cert.AdamInARefIdeal.sig) → Buf (Elt Ideal) ℓ) (g : Dev Cert.AdamInARefIdeal.nD → PrngReg), Pre_AdamInARefIdeal m →
    θ_run (Cert.AdamInARefIdeal.defs (F := Ideal)) (onTc (τ := Cert.AdamInARefIdeal.τ) (Cert.AdamInARefIdeal.main (F := Ideal))) ⟨m, fun _ => 0, g⟩ (fun r => (∀ c : Dev Cert.AdamInARefIdeal.nD,
      r.2.mem ((c.tc : Thread Cert.AdamInARefIdeal.nD Cert.AdamInARefIdeal.τ).loc Cert.AdamInARefIdeal.main_arg0) = m ((c.tc : Thread Cert.AdamInARefIdeal.nD Cert.AdamInARefIdeal.τ).loc Cert.AdamInARefIdeal.main_arg0)
      ∧ r.2.mem ((c.tc : Thread Cert.AdamInARefIdeal.nD Cert.AdamInARefIdeal.τ).loc Cert.AdamInARefIdeal.main_arg1) = m ((c.tc : Thread Cert.AdamInARefIdeal.nD Cert.AdamInARefIdeal.τ).loc Cert.AdamInARefIdeal.main_arg1)
      ∧ r.2.mem ((c.tc : Thread Cert.AdamInARefIdeal.nD Cert.AdamInARefIdeal.τ).loc Cert.AdamInARefIdeal.main_arg2) = m ((c.tc : Thread Cert.AdamInARefIdeal.nD Cert.AdamInARefIdeal.τ).loc Cert.AdamInARefIdeal.main_arg2)
      ∧ r.2.mem ((c.tc : Thread Cert.AdamInARefIdeal.nD Cert.AdamInARefIdeal.τ).loc Cert.AdamInARefIdeal.main_arg3) = m ((c.tc : Thread Cert.AdamInARefIdeal.nD Cert.AdamInARefIdeal.τ).loc Cert.AdamInARefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attnfwd [hAttnFwdIdeal : Cert.AttnFwdIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnfwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attnfwd [hAttnFwdRefIdeal : Cert.AttnFwdRefIdeal.Facts] [hPre_finite_attnfwd : Cert.Pre_finite_attnfwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnfwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v172_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Dx0_Dx0Ideal : Prop :=
  True

def algebraic_Dx0Ideal_Dx0RefIdeal [hDx0Ideal : Cert.Dx0Ideal.Facts] [hDx0RefIdeal : Cert.Dx0RefIdeal.Facts] : Prop :=
  ∀ (m : (ℓ : Loc Cert.Dx0Ideal.nD Cert.Dx0Ideal.τ Cert.Dx0Ideal.sig) → Buf (Elt Ideal) ℓ) (g : Dev Cert.Dx0Ideal.nD → PrngReg)
    (m' : (ℓ : Loc Cert.Dx0RefIdeal.nD Cert.Dx0RefIdeal.τ Cert.Dx0RefIdeal.sig) → Buf (Elt Ideal) ℓ) (g' : Dev Cert.Dx0RefIdeal.nD → PrngReg), Pre_Dx0Ideal m →
    (∀ c : Dev Cert.Dx0Ideal.nD,
      m' ((c.tc : Thread Cert.Dx0RefIdeal.nD Cert.Dx0RefIdeal.τ).loc Cert.Dx0RefIdeal.main_arg0) = m ((c.tc : Thread Cert.Dx0Ideal.nD Cert.Dx0Ideal.τ).loc Cert.Dx0Ideal.main_arg0)
      ∧ m' ((c.tc : Thread Cert.Dx0RefIdeal.nD Cert.Dx0RefIdeal.τ).loc Cert.Dx0RefIdeal.main_arg1) = m ((c.tc : Thread Cert.Dx0Ideal.nD Cert.Dx0Ideal.τ).loc Cert.Dx0Ideal.main_arg1)) →
    ∃ (v0 : (c : Dev Cert.Dx0Ideal.nD) → Buf (Elt Ideal) ((c.tc : Thread Cert.Dx0Ideal.nD Cert.Dx0Ideal.τ).loc Cert.Dx0Ideal.main_v0)),
      θ_run (Cert.Dx0Ideal.defs (F := Ideal)) (onTc (τ := Cert.Dx0Ideal.τ) (Cert.Dx0Ideal.main (F := Ideal))) ⟨m, fun _ => 0, g⟩ (fun r => ∀ c : Dev Cert.Dx0Ideal.nD,
          r.2.mem ((c.tc : Thread Cert.Dx0Ideal.nD Cert.Dx0Ideal.τ).loc Cert.Dx0Ideal.main_v0) = v0 c
          ∧ r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
          ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1))
      ∧ θ_run (Cert.Dx0RefIdeal.defs (F := Ideal)) (onTc (τ := Cert.Dx0RefIdeal.τ) (Cert.Dx0RefIdeal.main (F := Ideal))) ⟨m', fun _ => 0, g'⟩ (fun r => ∀ c : Dev Cert.Dx0RefIdeal.nD,
          r.2.mem ((c.tc : Thread Cert.Dx0RefIdeal.nD Cert.Dx0RefIdeal.τ).loc Cert.Dx0RefIdeal.main_v6) = v0 c
          ∧ r.2.mem ((c.tc : Thread Cert.Dx0RefIdeal.nD Cert.Dx0RefIdeal.τ).loc Cert.Dx0RefIdeal.main_arg0) = m' ((c.tc : Thread Cert.Dx0RefIdeal.nD Cert.Dx0RefIdeal.τ).loc Cert.Dx0RefIdeal.main_arg0)
          ∧ r.2.mem ((c.tc : Thread Cert.Dx0RefIdeal.nD Cert.Dx0RefIdeal.τ).loc Cert.Dx0RefIdeal.main_arg1) = m' ((c.tc : Thread Cert.Dx0RefIdeal.nD Cert.Dx0RefIdeal.τ).loc Cert.Dx0RefIdeal.main_arg1))

def preserves_Dx1_Dx1Ideal : Prop :=
  True

def algebraic_Dx1Ideal_Dx1RefIdeal [hDx1Ideal : Cert.Dx1Ideal.Facts] [hDx1RefIdeal : Cert.Dx1RefIdeal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1RefIdeal.nD Cert.Dx1RefIdeal.τ Cert.Dx1RefIdeal.sig) → Buf (Elt Ideal) ℓ) (g' : Dev Cert.Dx1RefIdeal.nD → PrngReg), Pre_Dx1Ideal m →
    (∀ c : Dev Cert.Dx1Ideal.nD,
      m' ((c.tc : Thread Cert.Dx1RefIdeal.nD Cert.Dx1RefIdeal.τ).loc Cert.Dx1RefIdeal.main_arg0) = m ((c.tc : Thread Cert.Dx1Ideal.nD Cert.Dx1Ideal.τ).loc Cert.Dx1Ideal.main_arg0)
      ∧ m' ((c.tc : Thread Cert.Dx1RefIdeal.nD Cert.Dx1RefIdeal.τ).loc Cert.Dx1RefIdeal.main_arg1) = m ((c.tc : Thread Cert.Dx1Ideal.nD Cert.Dx1Ideal.τ).loc Cert.Dx1Ideal.main_arg1)) →
    ∃ (v0 : (c : Dev Cert.Dx1Ideal.nD) → Buf (Elt Ideal) ((c.tc : Thread Cert.Dx1Ideal.nD Cert.Dx1Ideal.τ).loc Cert.Dx1Ideal.main_v0)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v0) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1))
      ∧ θ_run (Cert.Dx1RefIdeal.defs (F := Ideal)) (onTc (τ := Cert.Dx1RefIdeal.τ) (Cert.Dx1RefIdeal.main (F := Ideal))) ⟨m', fun _ => 0, g'⟩ (fun r => ∀ c : Dev Cert.Dx1RefIdeal.nD,
          r.2.mem ((c.tc : Thread Cert.Dx1RefIdeal.nD Cert.Dx1RefIdeal.τ).loc Cert.Dx1RefIdeal.main_v6) = v0 c
          ∧ r.2.mem ((c.tc : Thread Cert.Dx1RefIdeal.nD Cert.Dx1RefIdeal.τ).loc Cert.Dx1RefIdeal.main_arg0) = m' ((c.tc : Thread Cert.Dx1RefIdeal.nD Cert.Dx1RefIdeal.τ).loc Cert.Dx1RefIdeal.main_arg0)
          ∧ r.2.mem ((c.tc : Thread Cert.Dx1RefIdeal.nD Cert.Dx1RefIdeal.τ).loc Cert.Dx1RefIdeal.main_arg1) = m' ((c.tc : Thread Cert.Dx1RefIdeal.nD Cert.Dx1RefIdeal.τ).loc Cert.Dx1RefIdeal.main_arg1))

def preserves_Dx2_Dx2Ideal : Prop :=
  True

def algebraic_Dx2Ideal_Dx2RefIdeal [hDx2Ideal : Cert.Dx2Ideal.Facts] [hDx2RefIdeal : Cert.Dx2RefIdeal.Facts] : Prop :=
  ∀ (m : (ℓ : Loc Cert.Dx2Ideal.nD Cert.Dx2Ideal.τ Cert.Dx2Ideal.sig) → Buf (Elt Ideal) ℓ) (g : Dev Cert.Dx2Ideal.nD → PrngReg)
    (m' : (ℓ : Loc Cert.Dx2RefIdeal.nD Cert.Dx2RefIdeal.τ Cert.Dx2RefIdeal.sig) → Buf (Elt Ideal) ℓ) (g' : Dev Cert.Dx2RefIdeal.nD → PrngReg), Pre_Dx2Ideal m →
    (∀ c : Dev Cert.Dx2Ideal.nD,
      m' ((c.tc : Thread Cert.Dx2RefIdeal.nD Cert.Dx2RefIdeal.τ).loc Cert.Dx2RefIdeal.main_arg0) = m ((c.tc : Thread Cert.Dx2Ideal.nD Cert.Dx2Ideal.τ).loc Cert.Dx2Ideal.main_arg0)
      ∧ m' ((c.tc : Thread Cert.Dx2RefIdeal.nD Cert.Dx2RefIdeal.τ).loc Cert.Dx2RefIdeal.main_arg1) = m ((c.tc : Thread Cert.Dx2Ideal.nD Cert.Dx2Ideal.τ).loc Cert.Dx2Ideal.main_arg1)) →
    ∃ (v0 : (c : Dev Cert.Dx2Ideal.nD) → Buf (Elt Ideal) ((c.tc : Thread Cert.Dx2Ideal.nD Cert.Dx2Ideal.τ).loc Cert.Dx2Ideal.main_v0)),
      θ_run (Cert.Dx2Ideal.defs (F := Ideal)) (onTc (τ := Cert.Dx2Ideal.τ) (Cert.Dx2Ideal.main (F := Ideal))) ⟨m, fun _ => 0, g⟩ (fun r => ∀ c : Dev Cert.Dx2Ideal.nD,
          r.2.mem ((c.tc : Thread Cert.Dx2Ideal.nD Cert.Dx2Ideal.τ).loc Cert.Dx2Ideal.main_v0) = v0 c
          ∧ r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
          ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1))
      ∧ θ_run (Cert.Dx2RefIdeal.defs (F := Ideal)) (onTc (τ := Cert.Dx2RefIdeal.τ) (Cert.Dx2RefIdeal.main (F := Ideal))) ⟨m', fun _ => 0, g'⟩ (fun r => ∀ c : Dev Cert.Dx2RefIdeal.nD,
          r.2.mem ((c.tc : Thread Cert.Dx2RefIdeal.nD Cert.Dx2RefIdeal.τ).loc Cert.Dx2RefIdeal.main_v6) = v0 c
          ∧ r.2.mem ((c.tc : Thread Cert.Dx2RefIdeal.nD Cert.Dx2RefIdeal.τ).loc Cert.Dx2RefIdeal.main_arg0) = m' ((c.tc : Thread Cert.Dx2RefIdeal.nD Cert.Dx2RefIdeal.τ).loc Cert.Dx2RefIdeal.main_arg0)
          ∧ r.2.mem ((c.tc : Thread Cert.Dx2RefIdeal.nD Cert.Dx2RefIdeal.τ).loc Cert.Dx2RefIdeal.main_arg1) = m' ((c.tc : Thread Cert.Dx2RefIdeal.nD Cert.Dx2RefIdeal.τ).loc Cert.Dx2RefIdeal.main_arg1))

def preserves_Dxz_DxzIdeal : Prop :=
  True

def algebraic_DxzIdeal_DxzRefIdeal [hDxzIdeal : Cert.DxzIdeal.Facts] [hDxzRefIdeal : Cert.DxzRefIdeal.Facts] : Prop :=
  ∀ (m : (ℓ : Loc Cert.DxzIdeal.nD Cert.DxzIdeal.τ Cert.DxzIdeal.sig) → Buf (Elt Ideal) ℓ) (g : Dev Cert.DxzIdeal.nD → PrngReg)
    (m' : (ℓ : Loc Cert.DxzRefIdeal.nD Cert.DxzRefIdeal.τ Cert.DxzRefIdeal.sig) → Buf (Elt Ideal) ℓ) (g' : Dev Cert.DxzRefIdeal.nD → PrngReg), Pre_DxzIdeal m →
    (∀ c : Dev Cert.DxzIdeal.nD,
      m' ((c.tc : Thread Cert.DxzRefIdeal.nD Cert.DxzRefIdeal.τ).loc Cert.DxzRefIdeal.main_arg0) = m ((c.tc : Thread Cert.DxzIdeal.nD Cert.DxzIdeal.τ).loc Cert.DxzIdeal.main_arg0)
      ∧ m' ((c.tc : Thread Cert.DxzRefIdeal.nD Cert.DxzRefIdeal.τ).loc Cert.DxzRefIdeal.main_arg1) = m ((c.tc : Thread Cert.DxzIdeal.nD Cert.DxzIdeal.τ).loc Cert.DxzIdeal.main_arg1)) →
    ∃ (v0 : (c : Dev Cert.DxzIdeal.nD) → Buf (Elt Ideal) ((c.tc : Thread Cert.DxzIdeal.nD Cert.DxzIdeal.τ).loc Cert.DxzIdeal.main_v0)),
      θ_run (Cert.DxzIdeal.defs (F := Ideal)) (onTc (τ := Cert.DxzIdeal.τ) (Cert.DxzIdeal.main (F := Ideal))) ⟨m, fun _ => 0, g⟩ (fun r => ∀ c : Dev Cert.DxzIdeal.nD,
          r.2.mem ((c.tc : Thread Cert.DxzIdeal.nD Cert.DxzIdeal.τ).loc Cert.DxzIdeal.main_v0) = v0 c
          ∧ r.2.mem ((c.tc : Thread Cert.DxzIdeal.nD Cert.DxzIdeal.τ).loc Cert.DxzIdeal.main_arg0) = m ((c.tc : Thread Cert.DxzIdeal.nD Cert.DxzIdeal.τ).loc Cert.DxzIdeal.main_arg0)
          ∧ r.2.mem ((c.tc : Thread Cert.DxzIdeal.nD Cert.DxzIdeal.τ).loc Cert.DxzIdeal.main_arg1) = m ((c.tc : Thread Cert.DxzIdeal.nD Cert.DxzIdeal.τ).loc Cert.DxzIdeal.main_arg1))
      ∧ θ_run (Cert.DxzRefIdeal.defs (F := Ideal)) (onTc (τ := Cert.DxzRefIdeal.τ) (Cert.DxzRefIdeal.main (F := Ideal))) ⟨m', fun _ => 0, g'⟩ (fun r => ∀ c : Dev Cert.DxzRefIdeal.nD,
          r.2.mem ((c.tc : Thread Cert.DxzRefIdeal.nD Cert.DxzRefIdeal.τ).loc Cert.DxzRefIdeal.main_v6) = v0 c
          ∧ r.2.mem ((c.tc : Thread Cert.DxzRefIdeal.nD Cert.DxzRefIdeal.τ).loc Cert.DxzRefIdeal.main_arg0) = m' ((c.tc : Thread Cert.DxzRefIdeal.nD Cert.DxzRefIdeal.τ).loc Cert.DxzRefIdeal.main_arg0)
          ∧ r.2.mem ((c.tc : Thread Cert.DxzRefIdeal.nD Cert.DxzRefIdeal.τ).loc Cert.DxzRefIdeal.main_arg1) = m' ((c.tc : Thread Cert.DxzRefIdeal.nD Cert.DxzRefIdeal.τ).loc Cert.DxzRefIdeal.main_arg1))

def preserves_Dw0_Dw0Ideal : Prop :=
  True

def algebraic_Dw0Ideal_Dw0RefIdeal [hDw0Ideal : Cert.Dw0Ideal.Facts] [hDw0RefIdeal : Cert.Dw0RefIdeal.Facts] : Prop :=
  ∀ (m : (ℓ : Loc Cert.Dw0Ideal.nD Cert.Dw0Ideal.τ Cert.Dw0Ideal.sig) → Buf (Elt Ideal) ℓ) (g : Dev Cert.Dw0Ideal.nD → PrngReg)
    (m' : (ℓ : Loc Cert.Dw0RefIdeal.nD Cert.Dw0RefIdeal.τ Cert.Dw0RefIdeal.sig) → Buf (Elt Ideal) ℓ) (g' : Dev Cert.Dw0RefIdeal.nD → PrngReg), Pre_Dw0Ideal m →
    (∀ c : Dev Cert.Dw0Ideal.nD,
      m' ((c.tc : Thread Cert.Dw0RefIdeal.nD Cert.Dw0RefIdeal.τ).loc Cert.Dw0RefIdeal.main_arg0) = m ((c.tc : Thread Cert.Dw0Ideal.nD Cert.Dw0Ideal.τ).loc Cert.Dw0Ideal.main_arg0)
      ∧ m' ((c.tc : Thread Cert.Dw0RefIdeal.nD Cert.Dw0RefIdeal.τ).loc Cert.Dw0RefIdeal.main_arg1) = m ((c.tc : Thread Cert.Dw0Ideal.nD Cert.Dw0Ideal.τ).loc Cert.Dw0Ideal.main_arg1)
      ∧ m' ((c.tc : Thread Cert.Dw0RefIdeal.nD Cert.Dw0RefIdeal.τ).loc Cert.Dw0RefIdeal.main_arg2) = m ((c.tc : Thread Cert.Dw0Ideal.nD Cert.Dw0Ideal.τ).loc Cert.Dw0Ideal.main_arg2)) →
    ∃ (v0 : (c : Dev Cert.Dw0Ideal.nD) → Buf (Elt Ideal) ((c.tc : Thread Cert.Dw0Ideal.nD Cert.Dw0Ideal.τ).loc Cert.Dw0Ideal.main_v0)),
      θ_run (Cert.Dw0Ideal.defs (F := Ideal)) (onTc (τ := Cert.Dw0Ideal.τ) (Cert.Dw0Ideal.main (F := Ideal))) ⟨m, fun _ => 0, g⟩ (fun r => ∀ c : Dev Cert.Dw0Ideal.nD,
          r.2.mem ((c.tc : Thread Cert.Dw0Ideal.nD Cert.Dw0Ideal.τ).loc Cert.Dw0Ideal.main_v0) = v0 c
          ∧ r.2.mem ((c.tc : Thread Cert.Dw0Ideal.nD Cert.Dw0Ideal.τ).loc Cert.Dw0Ideal.main_arg0) = m ((c.tc : Thread Cert.Dw0Ideal.nD Cert.Dw0Ideal.τ).loc Cert.Dw0Ideal.main_arg0)
          ∧ r.2.mem ((c.tc : Thread Cert.Dw0Ideal.nD Cert.Dw0Ideal.τ).loc Cert.Dw0Ideal.main_arg1) = m ((c.tc : Thread Cert.Dw0Ideal.nD Cert.Dw0Ideal.τ).loc Cert.Dw0Ideal.main_arg1)
          ∧ r.2.mem ((c.tc : Thread Cert.Dw0Ideal.nD Cert.Dw0Ideal.τ).loc Cert.Dw0Ideal.main_arg2) = m ((c.tc : Thread Cert.Dw0Ideal.nD Cert.Dw0Ideal.τ).loc Cert.Dw0Ideal.main_arg2))
      ∧ θ_run (Cert.Dw0RefIdeal.defs (F := Ideal)) (onTc (τ := Cert.Dw0RefIdeal.τ) (Cert.Dw0RefIdeal.main (F := Ideal))) ⟨m', fun _ => 0, g'⟩ (fun r => ∀ c : Dev Cert.Dw0RefIdeal.nD,
          r.2.mem ((c.tc : Thread Cert.Dw0RefIdeal.nD Cert.Dw0RefIdeal.τ).loc Cert.Dw0RefIdeal.main_v8) = v0 c
          ∧ r.2.mem ((c.tc : Thread Cert.Dw0RefIdeal.nD Cert.Dw0RefIdeal.τ).loc Cert.Dw0RefIdeal.main_arg0) = m' ((c.tc : Thread Cert.Dw0RefIdeal.nD Cert.Dw0RefIdeal.τ).loc Cert.Dw0RefIdeal.main_arg0)
          ∧ r.2.mem ((c.tc : Thread Cert.Dw0RefIdeal.nD Cert.Dw0RefIdeal.τ).loc Cert.Dw0RefIdeal.main_arg1) = m' ((c.tc : Thread Cert.Dw0RefIdeal.nD Cert.Dw0RefIdeal.τ).loc Cert.Dw0RefIdeal.main_arg1)
          ∧ r.2.mem ((c.tc : Thread Cert.Dw0RefIdeal.nD Cert.Dw0RefIdeal.τ).loc Cert.Dw0RefIdeal.main_arg2) = m' ((c.tc : Thread Cert.Dw0RefIdeal.nD Cert.Dw0RefIdeal.τ).loc Cert.Dw0RefIdeal.main_arg2))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)
      ∧ m' ((c.tc : Thread Cert.Dw1RefIdeal.nD Cert.Dw1RefIdeal.τ).loc Cert.Dw1RefIdeal.main_arg2) = m ((c.tc : Thread Cert.Dw1Ideal.nD Cert.Dw1Ideal.τ).loc Cert.Dw1Ideal.main_arg2)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1)
          ∧ r.2.mem ((c.tc : Thread Cert.Dw1Ideal.nD Cert.Dw1Ideal.τ).loc Cert.Dw1Ideal.main_arg2) = m ((c.tc : Thread Cert.Dw1Ideal.nD Cert.Dw1Ideal.τ).loc Cert.Dw1Ideal.main_arg2))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v9) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v9) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2))

def preserves_Dwz_DwzIdeal : Prop :=
  True

def algebraic_DwzIdeal_DwzRefIdeal [hDwzIdeal : Cert.DwzIdeal.Facts] [hDwzRefIdeal : Cert.DwzRefIdeal.Facts] : Prop :=
  ∀ (m : (ℓ : Loc Cert.DwzIdeal.nD Cert.DwzIdeal.τ Cert.DwzIdeal.sig) → Buf (Elt Ideal) ℓ) (g : Dev Cert.DwzIdeal.nD → PrngReg)
    (m' : (ℓ : Loc Cert.DwzRefIdeal.nD Cert.DwzRefIdeal.τ Cert.DwzRefIdeal.sig) → Buf (Elt Ideal) ℓ) (g' : Dev Cert.DwzRefIdeal.nD → PrngReg), Pre_DwzIdeal m →
    (∀ c : Dev Cert.DwzIdeal.nD,
      m' ((c.tc : Thread Cert.DwzRefIdeal.nD Cert.DwzRefIdeal.τ).loc Cert.DwzRefIdeal.main_arg0) = m ((c.tc : Thread Cert.DwzIdeal.nD Cert.DwzIdeal.τ).loc Cert.DwzIdeal.main_arg0)
      ∧ m' ((c.tc : Thread Cert.DwzRefIdeal.nD Cert.DwzRefIdeal.τ).loc Cert.DwzRefIdeal.main_arg1) = m ((c.tc : Thread Cert.DwzIdeal.nD Cert.DwzIdeal.τ).loc Cert.DwzIdeal.main_arg1)
      ∧ m' ((c.tc : Thread Cert.DwzRefIdeal.nD Cert.DwzRefIdeal.τ).loc Cert.DwzRefIdeal.main_arg2) = m ((c.tc : Thread Cert.DwzIdeal.nD Cert.DwzIdeal.τ).loc Cert.DwzIdeal.main_arg2)) →
    ∃ (v0 : (c : Dev Cert.DwzIdeal.nD) → Buf (Elt Ideal) ((c.tc : Thread Cert.DwzIdeal.nD Cert.DwzIdeal.τ).loc Cert.DwzIdeal.main_v0)),
      θ_run (Cert.DwzIdeal.defs (F := Ideal)) (onTc (τ := Cert.DwzIdeal.τ) (Cert.DwzIdeal.main (F := Ideal))) ⟨m, fun _ => 0, g⟩ (fun r => ∀ c : Dev Cert.DwzIdeal.nD,
          r.2.mem ((c.tc : Thread Cert.DwzIdeal.nD Cert.DwzIdeal.τ).loc Cert.DwzIdeal.main_v0) = v0 c
          ∧ r.2.mem ((c.tc : Thread Cert.DwzIdeal.nD Cert.DwzIdeal.τ).loc Cert.DwzIdeal.main_arg0) = m ((c.tc : Thread Cert.DwzIdeal.nD Cert.DwzIdeal.τ).loc Cert.DwzIdeal.main_arg0)
          ∧ r.2.mem ((c.tc : Thread Cert.DwzIdeal.nD Cert.DwzIdeal.τ).loc Cert.DwzIdeal.main_arg1) = m ((c.tc : Thread Cert.DwzIdeal.nD Cert.DwzIdeal.τ).loc Cert.DwzIdeal.main_arg1)
          ∧ r.2.mem ((c.tc : Thread Cert.DwzIdeal.nD Cert.DwzIdeal.τ).loc Cert.DwzIdeal.main_arg2) = m ((c.tc : Thread Cert.DwzIdeal.nD Cert.DwzIdeal.τ).loc Cert.DwzIdeal.main_arg2))
      ∧ θ_run (Cert.DwzRefIdeal.defs (F := Ideal)) (onTc (τ := Cert.DwzRefIdeal.τ) (Cert.DwzRefIdeal.main (F := Ideal))) ⟨m', fun _ => 0, g'⟩ (fun r => ∀ c : Dev Cert.DwzRefIdeal.nD,
          r.2.mem ((c.tc : Thread Cert.DwzRefIdeal.nD Cert.DwzRefIdeal.τ).loc Cert.DwzRefIdeal.main_v8) = v0 c
          ∧ r.2.mem ((c.tc : Thread Cert.DwzRefIdeal.nD Cert.DwzRefIdeal.τ).loc Cert.DwzRefIdeal.main_arg0) = m' ((c.tc : Thread Cert.DwzRefIdeal.nD Cert.DwzRefIdeal.τ).loc Cert.DwzRefIdeal.main_arg0)
          ∧ r.2.mem ((c.tc : Thread Cert.DwzRefIdeal.nD Cert.DwzRefIdeal.τ).loc Cert.DwzRefIdeal.main_arg1) = m' ((c.tc : Thread Cert.DwzRefIdeal.nD Cert.DwzRefIdeal.τ).loc Cert.DwzRefIdeal.main_arg1)
          ∧ r.2.mem ((c.tc : Thread Cert.DwzRefIdeal.nD Cert.DwzRefIdeal.τ).loc Cert.DwzRefIdeal.main_arg2) = m' ((c.tc : Thread Cert.DwzRefIdeal.nD Cert.DwzRefIdeal.τ).loc Cert.DwzRefIdeal.main_arg2))

def preserves_Dxa_DxaIdeal : Prop :=
  True

def algebraic_DxaIdeal_DxaRefIdeal [hDxaIdeal : Cert.DxaIdeal.Facts] [hDxaRefIdeal : Cert.DxaRefIdeal.Facts] : Prop :=
  ∀ (m : (ℓ : Loc Cert.DxaIdeal.nD Cert.DxaIdeal.τ Cert.DxaIdeal.sig) → Buf (Elt Ideal) ℓ) (g : Dev Cert.DxaIdeal.nD → PrngReg)
    (m' : (ℓ : Loc Cert.DxaRefIdeal.nD Cert.DxaRefIdeal.τ Cert.DxaRefIdeal.sig) → Buf (Elt Ideal) ℓ) (g' : Dev Cert.DxaRefIdeal.nD → PrngReg), Pre_DxaIdeal m →
    (∀ c : Dev Cert.DxaIdeal.nD,
      m' ((c.tc : Thread Cert.DxaRefIdeal.nD Cert.DxaRefIdeal.τ).loc Cert.DxaRefIdeal.main_arg0) = m ((c.tc : Thread Cert.DxaIdeal.nD Cert.DxaIdeal.τ).loc Cert.DxaIdeal.main_arg0)
      ∧ m' ((c.tc : Thread Cert.DxaRefIdeal.nD Cert.DxaRefIdeal.τ).loc Cert.DxaRefIdeal.main_arg1) = m ((c.tc : Thread Cert.DxaIdeal.nD Cert.DxaIdeal.τ).loc Cert.DxaIdeal.main_arg1)
      ∧ m' ((c.tc : Thread Cert.DxaRefIdeal.nD Cert.DxaRefIdeal.τ).loc Cert.DxaRefIdeal.main_arg2) = m ((c.tc : Thread Cert.DxaIdeal.nD Cert.DxaIdeal.τ).loc Cert.DxaIdeal.main_arg2)
      ∧ m' ((c.tc : Thread Cert.DxaRefIdeal.nD Cert.DxaRefIdeal.τ).loc Cert.DxaRefIdeal.main_arg3) = m ((c.tc : Thread Cert.DxaIdeal.nD Cert.DxaIdeal.τ).loc Cert.DxaIdeal.main_arg3)) →
    ∃ (v0 : (c : Dev Cert.DxaIdeal.nD) → Buf (Elt Ideal) ((c.tc : Thread Cert.DxaIdeal.nD Cert.DxaIdeal.τ).loc Cert.DxaIdeal.main_v0)),
      θ_run (Cert.DxaIdeal.defs (F := Ideal)) (onTc (τ := Cert.DxaIdeal.τ) (Cert.DxaIdeal.main (F := Ideal))) ⟨m, fun _ => 0, g⟩ (fun r => ∀ c : Dev Cert.DxaIdeal.nD,
          r.2.mem ((c.tc : Thread Cert.DxaIdeal.nD Cert.DxaIdeal.τ).loc Cert.DxaIdeal.main_v0) = v0 c
          ∧ r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
          ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
          ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2)
          ∧ r.2.mem ((c.tc : Thread Cert.DxaIdeal.nD Cert.DxaIdeal.τ).loc Cert.DxaIdeal.main_arg3) = m ((c.tc : Thread Cert.DxaIdeal.nD Cert.DxaIdeal.τ).loc Cert.DxaIdeal.main_arg3))
      ∧ θ_run (Cert.DxaRefIdeal.defs (F := Ideal)) (onTc (τ := Cert.DxaRefIdeal.τ) (Cert.DxaRefIdeal.main (F := Ideal))) ⟨m', fun _ => 0, g'⟩ (fun r => ∀ c : Dev Cert.DxaRefIdeal.nD,
          r.2.mem ((c.tc : Thread Cert.DxaRefIdeal.nD Cert.DxaRefIdeal.τ).loc Cert.DxaRefIdeal.main_v5) = v0 c
          ∧ r.2.mem ((c.tc : Thread Cert.DxaRefIdeal.nD Cert.DxaRefIdeal.τ).loc Cert.DxaRefIdeal.main_arg0) = m' ((c.tc : Thread Cert.DxaRefIdeal.nD Cert.DxaRefIdeal.τ).loc Cert.DxaRefIdeal.main_arg0)
          ∧ r.2.mem ((c.tc : Thread Cert.DxaRefIdeal.nD Cert.DxaRefIdeal.τ).loc Cert.DxaRefIdeal.main_arg1) = m' ((c.tc : Thread Cert.DxaRefIdeal.nD Cert.DxaRefIdeal.τ).loc Cert.DxaRefIdeal.main_arg1)
          ∧ r.2.mem ((c.tc : Thread Cert.DxaRefIdeal.nD Cert.DxaRefIdeal.τ).loc Cert.DxaRefIdeal.main_arg2) = m' ((c.tc : Thread Cert.DxaRefIdeal.nD Cert.DxaRefIdeal.τ).loc Cert.DxaRefIdeal.main_arg2)
          ∧ r.2.mem ((c.tc : Thread Cert.DxaRefIdeal.nD Cert.DxaRefIdeal.τ).loc Cert.DxaRefIdeal.main_arg3) = m' ((c.tc : Thread Cert.DxaRefIdeal.nD Cert.DxaRefIdeal.τ).loc Cert.DxaRefIdeal.main_arg3))

def preserves_Dwa0_Dwa0Ideal : Prop :=
  True

def algebraic_Dwa0Ideal_Dwa0RefIdeal [hDwa0Ideal : Cert.Dwa0Ideal.Facts] [hDwa0RefIdeal : Cert.Dwa0RefIdeal.Facts] : Prop :=
  ∀ (m : (ℓ : Loc Cert.Dwa0Ideal.nD Cert.Dwa0Ideal.τ Cert.Dwa0Ideal.sig) → Buf (Elt Ideal) ℓ) (g : Dev Cert.Dwa0Ideal.nD → PrngReg)
    (m' : (ℓ : Loc Cert.Dwa0RefIdeal.nD Cert.Dwa0RefIdeal.τ Cert.Dwa0RefIdeal.sig) → Buf (Elt Ideal) ℓ) (g' : Dev Cert.Dwa0RefIdeal.nD → PrngReg), Pre_Dwa0Ideal m →
    (∀ c : Dev Cert.Dwa0Ideal.nD,
      m' ((c.tc : Thread Cert.Dwa0RefIdeal.nD Cert.Dwa0RefIdeal.τ).loc Cert.Dwa0RefIdeal.main_arg0) = m ((c.tc : Thread Cert.Dwa0Ideal.nD Cert.Dwa0Ideal.τ).loc Cert.Dwa0Ideal.main_arg0)
      ∧ m' ((c.tc : Thread Cert.Dwa0RefIdeal.nD Cert.Dwa0RefIdeal.τ).loc Cert.Dwa0RefIdeal.main_arg1) = m ((c.tc : Thread Cert.Dwa0Ideal.nD Cert.Dwa0Ideal.τ).loc Cert.Dwa0Ideal.main_arg1)
      ∧ m' ((c.tc : Thread Cert.Dwa0RefIdeal.nD Cert.Dwa0RefIdeal.τ).loc Cert.Dwa0RefIdeal.main_arg2) = m ((c.tc : Thread Cert.Dwa0Ideal.nD Cert.Dwa0Ideal.τ).loc Cert.Dwa0Ideal.main_arg2)) →
    ∃ (v0 : (c : Dev Cert.Dwa0Ideal.nD) → Buf (Elt Ideal) ((c.tc : Thread Cert.Dwa0Ideal.nD Cert.Dwa0Ideal.τ).loc Cert.Dwa0Ideal.main_v0)),
      θ_run (Cert.Dwa0Ideal.defs (F := Ideal)) (onTc (τ := Cert.Dwa0Ideal.τ) (Cert.Dwa0Ideal.main (F := Ideal))) ⟨m, fun _ => 0, g⟩ (fun r => ∀ c : Dev Cert.Dwa0Ideal.nD,
          r.2.mem ((c.tc : Thread Cert.Dwa0Ideal.nD Cert.Dwa0Ideal.τ).loc Cert.Dwa0Ideal.main_v0) = v0 c
          ∧ r.2.mem ((c.tc : Thread Cert.Dwa0Ideal.nD Cert.Dwa0Ideal.τ).loc Cert.Dwa0Ideal.main_arg0) = m ((c.tc : Thread Cert.Dwa0Ideal.nD Cert.Dwa0Ideal.τ).loc Cert.Dwa0Ideal.main_arg0)
          ∧ r.2.mem ((c.tc : Thread Cert.Dwa0Ideal.nD Cert.Dwa0Ideal.τ).loc Cert.Dwa0Ideal.main_arg1) = m ((c.tc : Thread Cert.Dwa0Ideal.nD Cert.Dwa0Ideal.τ).loc Cert.Dwa0Ideal.main_arg1)
          ∧ r.2.mem ((c.tc : Thread Cert.Dwa0Ideal.nD Cert.Dwa0Ideal.τ).loc Cert.Dwa0Ideal.main_arg2) = m ((c.tc : Thread Cert.Dwa0Ideal.nD Cert.Dwa0Ideal.τ).loc Cert.Dwa0Ideal.main_arg2))
      ∧ θ_run (Cert.Dwa0RefIdeal.defs (F := Ideal)) (onTc (τ := Cert.Dwa0RefIdeal.τ) (Cert.Dwa0RefIdeal.main (F := Ideal))) ⟨m', fun _ => 0, g'⟩ (fun r => ∀ c : Dev Cert.Dwa0RefIdeal.nD,
          r.2.mem ((c.tc : Thread Cert.Dwa0RefIdeal.nD Cert.Dwa0RefIdeal.τ).loc Cert.Dwa0RefIdeal.main_v8) = v0 c
          ∧ r.2.mem ((c.tc : Thread Cert.Dwa0RefIdeal.nD Cert.Dwa0RefIdeal.τ).loc Cert.Dwa0RefIdeal.main_arg0) = m' ((c.tc : Thread Cert.Dwa0RefIdeal.nD Cert.Dwa0RefIdeal.τ).loc Cert.Dwa0RefIdeal.main_arg0)
          ∧ r.2.mem ((c.tc : Thread Cert.Dwa0RefIdeal.nD Cert.Dwa0RefIdeal.τ).loc Cert.Dwa0RefIdeal.main_arg1) = m' ((c.tc : Thread Cert.Dwa0RefIdeal.nD Cert.Dwa0RefIdeal.τ).loc Cert.Dwa0RefIdeal.main_arg1)
          ∧ r.2.mem ((c.tc : Thread Cert.Dwa0RefIdeal.nD Cert.Dwa0RefIdeal.τ).loc Cert.Dwa0RefIdeal.main_arg2) = m' ((c.tc : Thread Cert.Dwa0RefIdeal.nD Cert.Dwa0RefIdeal.τ).loc Cert.Dwa0RefIdeal.main_arg2))

def preserves_Dwa1_Dwa1Ideal : Prop :=
  True

def algebraic_Dwa1Ideal_Dwa1RefIdeal [hDwa1Ideal : Cert.Dwa1Ideal.Facts] [hDwa1RefIdeal : Cert.Dwa1RefIdeal.Facts] : Prop :=
  ∀ (m : (ℓ : Loc Cert.Dwa1Ideal.nD Cert.Dwa1Ideal.τ Cert.Dwa1Ideal.sig) → Buf (Elt Ideal) ℓ) (g : Dev Cert.Dwa1Ideal.nD → PrngReg)
    (m' : (ℓ : Loc Cert.Dwa1RefIdeal.nD Cert.Dwa1RefIdeal.τ Cert.Dwa1RefIdeal.sig) → Buf (Elt Ideal) ℓ) (g' : Dev Cert.Dwa1RefIdeal.nD → PrngReg), Pre_Dwa1Ideal m →
    (∀ c : Dev Cert.Dwa1Ideal.nD,
      m' ((c.tc : Thread Cert.Dwa1RefIdeal.nD Cert.Dwa1RefIdeal.τ).loc Cert.Dwa1RefIdeal.main_arg0) = m ((c.tc : Thread Cert.Dwa1Ideal.nD Cert.Dwa1Ideal.τ).loc Cert.Dwa1Ideal.main_arg0)
      ∧ m' ((c.tc : Thread Cert.Dwa1RefIdeal.nD Cert.Dwa1RefIdeal.τ).loc Cert.Dwa1RefIdeal.main_arg1) = m ((c.tc : Thread Cert.Dwa1Ideal.nD Cert.Dwa1Ideal.τ).loc Cert.Dwa1Ideal.main_arg1)
      ∧ m' ((c.tc : Thread Cert.Dwa1RefIdeal.nD Cert.Dwa1RefIdeal.τ).loc Cert.Dwa1RefIdeal.main_arg2) = m ((c.tc : Thread Cert.Dwa1Ideal.nD Cert.Dwa1Ideal.τ).loc Cert.Dwa1Ideal.main_arg2)) →
    ∃ (v0 : (c : Dev Cert.Dwa1Ideal.nD) → Buf (Elt Ideal) ((c.tc : Thread Cert.Dwa1Ideal.nD Cert.Dwa1Ideal.τ).loc Cert.Dwa1Ideal.main_v0)),
      θ_run (Cert.Dwa1Ideal.defs (F := Ideal)) (onTc (τ := Cert.Dwa1Ideal.τ) (Cert.Dwa1Ideal.main (F := Ideal))) ⟨m, fun _ => 0, g⟩ (fun r => ∀ c : Dev Cert.Dwa1Ideal.nD,
          r.2.mem ((c.tc : Thread Cert.Dwa1Ideal.nD Cert.Dwa1Ideal.τ).loc Cert.Dwa1Ideal.main_v0) = v0 c
          ∧ r.2.mem ((c.tc : Thread Cert.Dwa1Ideal.nD Cert.Dwa1Ideal.τ).loc Cert.Dwa1Ideal.main_arg0) = m ((c.tc : Thread Cert.Dwa1Ideal.nD Cert.Dwa1Ideal.τ).loc Cert.Dwa1Ideal.main_arg0)
          ∧ r.2.mem ((c.tc : Thread Cert.Dwa1Ideal.nD Cert.Dwa1Ideal.τ).loc Cert.Dwa1Ideal.main_arg1) = m ((c.tc : Thread Cert.Dwa1Ideal.nD Cert.Dwa1Ideal.τ).loc Cert.Dwa1Ideal.main_arg1)
          ∧ r.2.mem ((c.tc : Thread Cert.Dwa1Ideal.nD Cert.Dwa1Ideal.τ).loc Cert.Dwa1Ideal.main_arg2) = m ((c.tc : Thread Cert.Dwa1Ideal.nD Cert.Dwa1Ideal.τ).loc Cert.Dwa1Ideal.main_arg2))
      ∧ θ_run (Cert.Dwa1RefIdeal.defs (F := Ideal)) (onTc (τ := Cert.Dwa1RefIdeal.τ) (Cert.Dwa1RefIdeal.main (F := Ideal))) ⟨m', fun _ => 0, g'⟩ (fun r => ∀ c : Dev Cert.Dwa1RefIdeal.nD,
          r.2.mem ((c.tc : Thread Cert.Dwa1RefIdeal.nD Cert.Dwa1RefIdeal.τ).loc Cert.Dwa1RefIdeal.main_v9) = v0 c
          ∧ r.2.mem ((c.tc : Thread Cert.Dwa1RefIdeal.nD Cert.Dwa1RefIdeal.τ).loc Cert.Dwa1RefIdeal.main_arg0) = m' ((c.tc : Thread Cert.Dwa1RefIdeal.nD Cert.Dwa1RefIdeal.τ).loc Cert.Dwa1RefIdeal.main_arg0)
          ∧ r.2.mem ((c.tc : Thread Cert.Dwa1RefIdeal.nD Cert.Dwa1RefIdeal.τ).loc Cert.Dwa1RefIdeal.main_arg1) = m' ((c.tc : Thread Cert.Dwa1RefIdeal.nD Cert.Dwa1RefIdeal.τ).loc Cert.Dwa1RefIdeal.main_arg1)
          ∧ r.2.mem ((c.tc : Thread Cert.Dwa1RefIdeal.nD Cert.Dwa1RefIdeal.τ).loc Cert.Dwa1RefIdeal.main_arg2) = m' ((c.tc : Thread Cert.Dwa1RefIdeal.nD Cert.Dwa1RefIdeal.τ).loc Cert.Dwa1RefIdeal.main_arg2))

def preserves_Dwa2_Dwa2Ideal : Prop :=
  True

def algebraic_Dwa2Ideal_Dwa2RefIdeal [hDwa2Ideal : Cert.Dwa2Ideal.Facts] [hDwa2RefIdeal : Cert.Dwa2RefIdeal.Facts] : Prop :=
  ∀ (m : (ℓ : Loc Cert.Dwa2Ideal.nD Cert.Dwa2Ideal.τ Cert.Dwa2Ideal.sig) → Buf (Elt Ideal) ℓ) (g : Dev Cert.Dwa2Ideal.nD → PrngReg)
    (m' : (ℓ : Loc Cert.Dwa2RefIdeal.nD Cert.Dwa2RefIdeal.τ Cert.Dwa2RefIdeal.sig) → Buf (Elt Ideal) ℓ) (g' : Dev Cert.Dwa2RefIdeal.nD → PrngReg), Pre_Dwa2Ideal m →
    (∀ c : Dev Cert.Dwa2Ideal.nD,
      m' ((c.tc : Thread Cert.Dwa2RefIdeal.nD Cert.Dwa2RefIdeal.τ).loc Cert.Dwa2RefIdeal.main_arg0) = m ((c.tc : Thread Cert.Dwa2Ideal.nD Cert.Dwa2Ideal.τ).loc Cert.Dwa2Ideal.main_arg0)
      ∧ m' ((c.tc : Thread Cert.Dwa2RefIdeal.nD Cert.Dwa2RefIdeal.τ).loc Cert.Dwa2RefIdeal.main_arg1) = m ((c.tc : Thread Cert.Dwa2Ideal.nD Cert.Dwa2Ideal.τ).loc Cert.Dwa2Ideal.main_arg1)
      ∧ m' ((c.tc : Thread Cert.Dwa2RefIdeal.nD Cert.Dwa2RefIdeal.τ).loc Cert.Dwa2RefIdeal.main_arg2) = m ((c.tc : Thread Cert.Dwa2Ideal.nD Cert.Dwa2Ideal.τ).loc Cert.Dwa2Ideal.main_arg2)) →
    ∃ (v0 : (c : Dev Cert.Dwa2Ideal.nD) → Buf (Elt Ideal) ((c.tc : Thread Cert.Dwa2Ideal.nD Cert.Dwa2Ideal.τ).loc Cert.Dwa2Ideal.main_v0)),
      θ_run (Cert.Dwa2Ideal.defs (F := Ideal)) (onTc (τ := Cert.Dwa2Ideal.τ) (Cert.Dwa2Ideal.main (F := Ideal))) ⟨m, fun _ => 0, g⟩ (fun r => ∀ c : Dev Cert.Dwa2Ideal.nD,
          r.2.mem ((c.tc : Thread Cert.Dwa2Ideal.nD Cert.Dwa2Ideal.τ).loc Cert.Dwa2Ideal.main_v0) = v0 c
          ∧ r.2.mem ((c.tc : Thread Cert.Dwa2Ideal.nD Cert.Dwa2Ideal.τ).loc Cert.Dwa2Ideal.main_arg0) = m ((c.tc : Thread Cert.Dwa2Ideal.nD Cert.Dwa2Ideal.τ).loc Cert.Dwa2Ideal.main_arg0)
          ∧ r.2.mem ((c.tc : Thread Cert.Dwa2Ideal.nD Cert.Dwa2Ideal.τ).loc Cert.Dwa2Ideal.main_arg1) = m ((c.tc : Thread Cert.Dwa2Ideal.nD Cert.Dwa2Ideal.τ).loc Cert.Dwa2Ideal.main_arg1)
          ∧ r.2.mem ((c.tc : Thread Cert.Dwa2Ideal.nD Cert.Dwa2Ideal.τ).loc Cert.Dwa2Ideal.main_arg2) = m ((c.tc : Thread Cert.Dwa2Ideal.nD Cert.Dwa2Ideal.τ).loc Cert.Dwa2Ideal.main_arg2))
      ∧ θ_run (Cert.Dwa2RefIdeal.defs (F := Ideal)) (onTc (τ := Cert.Dwa2RefIdeal.τ) (Cert.Dwa2RefIdeal.main (F := Ideal))) ⟨m', fun _ => 0, g'⟩ (fun r => ∀ c : Dev Cert.Dwa2RefIdeal.nD,
          r.2.mem ((c.tc : Thread Cert.Dwa2RefIdeal.nD Cert.Dwa2RefIdeal.τ).loc Cert.Dwa2RefIdeal.main_v8) = v0 c
          ∧ r.2.mem ((c.tc : Thread Cert.Dwa2RefIdeal.nD Cert.Dwa2RefIdeal.τ).loc Cert.Dwa2RefIdeal.main_arg0) = m' ((c.tc : Thread Cert.Dwa2RefIdeal.nD Cert.Dwa2RefIdeal.τ).loc Cert.Dwa2RefIdeal.main_arg0)
          ∧ r.2.mem ((c.tc : Thread Cert.Dwa2RefIdeal.nD Cert.Dwa2RefIdeal.τ).loc Cert.Dwa2RefIdeal.main_arg1) = m' ((c.tc : Thread Cert.Dwa2RefIdeal.nD Cert.Dwa2RefIdeal.τ).loc Cert.Dwa2RefIdeal.main_arg1)
          ∧ r.2.mem ((c.tc : Thread Cert.Dwa2RefIdeal.nD Cert.Dwa2RefIdeal.τ).loc Cert.Dwa2RefIdeal.main_arg2) = m' ((c.tc : Thread Cert.Dwa2RefIdeal.nD Cert.Dwa2RefIdeal.τ).loc Cert.Dwa2RefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v2) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1))

def preserves_FwdOut_FwdOutIdeal : Prop :=
  True

def algebraic_FwdOutIdeal_FwdOutRefIdeal [hFwdOutIdeal : Cert.FwdOutIdeal.Facts] [hFwdOutRefIdeal : Cert.FwdOutRefIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutRefIdeal.nD Cert.FwdOutRefIdeal.τ Cert.FwdOutRefIdeal.sig) → Buf (Elt Ideal) ℓ) (g' : Dev Cert.FwdOutRefIdeal.nD → PrngReg), Pre_FwdOutIdeal m →
    (∀ c : Dev Cert.FwdOutIdeal.nD,
      m' ((c.tc : Thread Cert.FwdOutRefIdeal.nD Cert.FwdOutRefIdeal.τ).loc Cert.FwdOutRefIdeal.main_arg0) = m ((c.tc : Thread Cert.FwdOutIdeal.nD Cert.FwdOutIdeal.τ).loc Cert.FwdOutIdeal.main_arg0)
      ∧ m' ((c.tc : Thread Cert.FwdOutRefIdeal.nD Cert.FwdOutRefIdeal.τ).loc Cert.FwdOutRefIdeal.main_arg1) = m ((c.tc : Thread Cert.FwdOutIdeal.nD Cert.FwdOutIdeal.τ).loc Cert.FwdOutIdeal.main_arg1)) →
    ∃ (v0 : (c : Dev Cert.FwdOutIdeal.nD) → Buf (Elt Ideal) ((c.tc : Thread Cert.FwdOutIdeal.nD Cert.FwdOutIdeal.τ).loc Cert.FwdOutIdeal.main_v0)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v0) = v0 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v2) = v0 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1))

def preserves_FwdZ_FwdZIdeal : Prop :=
  True

def algebraic_FwdZIdeal_FwdZRefIdeal [hFwdZIdeal : Cert.FwdZIdeal.Facts] [hFwdZRefIdeal : Cert.FwdZRefIdeal.Facts] : Prop :=
  ∀ (m : (ℓ : Loc Cert.FwdZIdeal.nD Cert.FwdZIdeal.τ Cert.FwdZIdeal.sig) → Buf (Elt Ideal) ℓ) (g : Dev Cert.FwdZIdeal.nD → PrngReg)
    (m' : (ℓ : Loc Cert.FwdZRefIdeal.nD Cert.FwdZRefIdeal.τ Cert.FwdZRefIdeal.sig) → Buf (Elt Ideal) ℓ) (g' : Dev Cert.FwdZRefIdeal.nD → PrngReg), Pre_FwdZIdeal m →
    (∀ c : Dev Cert.FwdZIdeal.nD,
      m' ((c.tc : Thread Cert.FwdZRefIdeal.nD Cert.FwdZRefIdeal.τ).loc Cert.FwdZRefIdeal.main_arg0) = m ((c.tc : Thread Cert.FwdZIdeal.nD Cert.FwdZIdeal.τ).loc Cert.FwdZIdeal.main_arg0)
      ∧ m' ((c.tc : Thread Cert.FwdZRefIdeal.nD Cert.FwdZRefIdeal.τ).loc Cert.FwdZRefIdeal.main_arg1) = m ((c.tc : Thread Cert.FwdZIdeal.nD Cert.FwdZIdeal.τ).loc Cert.FwdZIdeal.main_arg1)) →
    ∃ (v0 : (c : Dev Cert.FwdZIdeal.nD) → Buf (Elt Ideal) ((c.tc : Thread Cert.FwdZIdeal.nD Cert.FwdZIdeal.τ).loc Cert.FwdZIdeal.main_v0)),
      θ_run (Cert.FwdZIdeal.defs (F := Ideal)) (onTc (τ := Cert.FwdZIdeal.τ) (Cert.FwdZIdeal.main (F := Ideal))) ⟨m, fun _ => 0, g⟩ (fun r => ∀ c : Dev Cert.FwdZIdeal.nD,
          r.2.mem ((c.tc : Thread Cert.FwdZIdeal.nD Cert.FwdZIdeal.τ).loc Cert.FwdZIdeal.main_v0) = v0 c
          ∧ r.2.mem ((c.tc : Thread Cert.FwdZIdeal.nD Cert.FwdZIdeal.τ).loc Cert.FwdZIdeal.main_arg0) = m ((c.tc : Thread Cert.FwdZIdeal.nD Cert.FwdZIdeal.τ).loc Cert.FwdZIdeal.main_arg0)
          ∧ r.2.mem ((c.tc : Thread Cert.FwdZIdeal.nD Cert.FwdZIdeal.τ).loc Cert.FwdZIdeal.main_arg1) = m ((c.tc : Thread Cert.FwdZIdeal.nD Cert.FwdZIdeal.τ).loc Cert.FwdZIdeal.main_arg1))
      ∧ θ_run (Cert.FwdZRefIdeal.defs (F := Ideal)) (onTc (τ := Cert.FwdZRefIdeal.τ) (Cert.FwdZRefIdeal.main (F := Ideal))) ⟨m', fun _ => 0, g'⟩ (fun r => ∀ c : Dev Cert.FwdZRefIdeal.nD,
          r.2.mem ((c.tc : Thread Cert.FwdZRefIdeal.nD Cert.FwdZRefIdeal.τ).loc Cert.FwdZRefIdeal.main_v3) = v0 c
          ∧ r.2.mem ((c.tc : Thread Cert.FwdZRefIdeal.nD Cert.FwdZRefIdeal.τ).loc Cert.FwdZRefIdeal.main_arg0) = m' ((c.tc : Thread Cert.FwdZRefIdeal.nD Cert.FwdZRefIdeal.τ).loc Cert.FwdZRefIdeal.main_arg0)
          ∧ r.2.mem ((c.tc : Thread Cert.FwdZRefIdeal.nD Cert.FwdZRefIdeal.τ).loc Cert.FwdZRefIdeal.main_arg1) = m' ((c.tc : Thread Cert.FwdZRefIdeal.nD Cert.FwdZRefIdeal.τ).loc Cert.FwdZRefIdeal.main_arg1))

def preserves_MidFwd_MidFwdIdeal : Prop :=
  True

def algebraic_MidFwdIdeal_MidFwdRefIdeal [hMidFwdIdeal : Cert.MidFwdIdeal.Facts] [hMidFwdRefIdeal : Cert.MidFwdRefIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg)
    (m' : (ℓ : Loc Cert.MidFwdRefIdeal.nD Cert.MidFwdRefIdeal.τ Cert.MidFwdRefIdeal.sig) → Buf (Elt Ideal) ℓ) (g' : Dev Cert.MidFwdRefIdeal.nD → PrngReg), Pre_MidFwdIdeal m →
    (∀ c : Dev Cert.MidFwdIdeal.nD,
      m' ((c.tc : Thread Cert.MidFwdRefIdeal.nD Cert.MidFwdRefIdeal.τ).loc Cert.MidFwdRefIdeal.main_arg0) = m ((c.tc : Thread Cert.MidFwdIdeal.nD Cert.MidFwdIdeal.τ).loc Cert.MidFwdIdeal.main_arg0)
      ∧ m' ((c.tc : Thread Cert.MidFwdRefIdeal.nD Cert.MidFwdRefIdeal.τ).loc Cert.MidFwdRefIdeal.main_arg1) = m ((c.tc : Thread Cert.MidFwdIdeal.nD Cert.MidFwdIdeal.τ).loc Cert.MidFwdIdeal.main_arg1)
      ∧ m' ((c.tc : Thread Cert.MidFwdRefIdeal.nD Cert.MidFwdRefIdeal.τ).loc Cert.MidFwdRefIdeal.main_arg2) = m ((c.tc : Thread Cert.MidFwdIdeal.nD Cert.MidFwdIdeal.τ).loc Cert.MidFwdIdeal.main_arg2)
      ∧ m' ((c.tc : Thread Cert.MidFwdRefIdeal.nD Cert.MidFwdRefIdeal.τ).loc Cert.MidFwdRefIdeal.main_arg3) = m ((c.tc : Thread Cert.MidFwdIdeal.nD Cert.MidFwdIdeal.τ).loc Cert.MidFwdIdeal.main_arg3)) →
    ∃ (v0 : (c : Dev Cert.MidFwdIdeal.nD) → Buf (Elt Ideal) ((c.tc : Thread Cert.MidFwdIdeal.nD Cert.MidFwdIdeal.τ).loc Cert.MidFwdIdeal.main_v0)),
      θ_run (Cert.MidFwdIdeal.defs (F := Ideal)) (onTc (τ := Cert.MidFwdIdeal.τ) (Cert.MidFwdIdeal.main (F := Ideal))) ⟨m, fun _ => 0, g⟩ (fun r => ∀ c : Dev Cert.MidFwdIdeal.nD,
          r.2.mem ((c.tc : Thread Cert.MidFwdIdeal.nD Cert.MidFwdIdeal.τ).loc Cert.MidFwdIdeal.main_v0) = v0 c
          ∧ r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
          ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
          ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
          ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3))
      ∧ θ_run (Cert.MidFwdRefIdeal.defs (F := Ideal)) (onTc (τ := Cert.MidFwdRefIdeal.τ) (Cert.MidFwdRefIdeal.main (F := Ideal))) ⟨m', fun _ => 0, g'⟩ (fun r => ∀ c : Dev Cert.MidFwdRefIdeal.nD,
          r.2.mem ((c.tc : Thread Cert.MidFwdRefIdeal.nD Cert.MidFwdRefIdeal.τ).loc Cert.MidFwdRefIdeal.main_v24) = v0 c
          ∧ r.2.mem ((c.tc : Thread Cert.MidFwdRefIdeal.nD Cert.MidFwdRefIdeal.τ).loc Cert.MidFwdRefIdeal.main_arg0) = m' ((c.tc : Thread Cert.MidFwdRefIdeal.nD Cert.MidFwdRefIdeal.τ).loc Cert.MidFwdRefIdeal.main_arg0)
          ∧ r.2.mem ((c.tc : Thread Cert.MidFwdRefIdeal.nD Cert.MidFwdRefIdeal.τ).loc Cert.MidFwdRefIdeal.main_arg1) = m' ((c.tc : Thread Cert.MidFwdRefIdeal.nD Cert.MidFwdRefIdeal.τ).loc Cert.MidFwdRefIdeal.main_arg1)
          ∧ r.2.mem ((c.tc : Thread Cert.MidFwdRefIdeal.nD Cert.MidFwdRefIdeal.τ).loc Cert.MidFwdRefIdeal.main_arg2) = m' ((c.tc : Thread Cert.MidFwdRefIdeal.nD Cert.MidFwdRefIdeal.τ).loc Cert.MidFwdRefIdeal.main_arg2)
          ∧ r.2.mem ((c.tc : Thread Cert.MidFwdRefIdeal.nD Cert.MidFwdRefIdeal.τ).loc Cert.MidFwdRefIdeal.main_arg3) = m' ((c.tc : Thread Cert.MidFwdRefIdeal.nD Cert.MidFwdRefIdeal.τ).loc Cert.MidFwdRefIdeal.main_arg3))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)
      ∧ m' ((c.tc : Thread Cert.AdaFwdRefIdeal.nD Cert.AdaFwdRefIdeal.τ).loc Cert.AdaFwdRefIdeal.main_arg3) = m ((c.tc : Thread Cert.AdaFwdIdeal.nD Cert.AdaFwdIdeal.τ).loc Cert.AdaFwdIdeal.main_arg3)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2)
          ∧ r.2.mem ((c.tc : Thread Cert.AdaFwdIdeal.nD Cert.AdaFwdIdeal.τ).loc Cert.AdaFwdIdeal.main_arg3) = m ((c.tc : Thread Cert.AdaFwdIdeal.nD Cert.AdaFwdIdeal.τ).loc Cert.AdaFwdIdeal.main_arg3))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v18) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2)
          ∧ r.2.mem ((c.tc : Thread Cert.AdaFwdRefIdeal.nD Cert.AdaFwdRefIdeal.τ).loc Cert.AdaFwdRefIdeal.main_arg3) = m' ((c.tc : Thread Cert.AdaFwdRefIdeal.nD Cert.AdaFwdRefIdeal.τ).loc Cert.AdaFwdRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v49) = v0 c
          ∧ r.2.mem ((c.tc : Thread Cert.AdaBwdRefIdeal.nD Cert.AdaBwdRefIdeal.τ).loc Cert.AdaBwdRefIdeal.main_v32) = v1 c
          ∧ r.2.mem ((c.tc : Thread Cert.AdaBwdRefIdeal.nD Cert.AdaBwdRefIdeal.τ).loc Cert.AdaBwdRefIdeal.main_v27) = v2 c
          ∧ r.2.mem ((c.tc : Thread Cert.AdaBwdRefIdeal.nD Cert.AdaBwdRefIdeal.τ).loc Cert.AdaBwdRefIdeal.main_v24) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_MidBwd_MidBwdIdeal : Prop :=
  True

def algebraic_MidBwdIdeal_MidBwdRefIdeal [hMidBwdIdeal : Cert.MidBwdIdeal.Facts] [hMidBwdRefIdeal : Cert.MidBwdRefIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v53) = v0 c
          ∧ r.2.mem ((c.tc : Thread Cert.MidBwdRefIdeal.nD Cert.MidBwdRefIdeal.τ).loc Cert.MidBwdRefIdeal.main_v109) = v1 c
          ∧ r.2.mem ((c.tc : Thread Cert.MidBwdRefIdeal.nD Cert.MidBwdRefIdeal.τ).loc Cert.MidBwdRefIdeal.main_v108) = v2 c
          ∧ r.2.mem ((c.tc : Thread Cert.MidBwdRefIdeal.nD Cert.MidBwdRefIdeal.τ).loc Cert.MidBwdRefIdeal.main_v105) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v26) = v0 c
          ∧ r.2.mem ((c.tc : Thread Cert.LossRefIdeal.nD Cert.LossRefIdeal.τ).loc Cert.LossRefIdeal.main_v20) = v1 c
          ∧ r.2.mem ((c.tc : Thread Cert.LossRefIdeal.nD Cert.LossRefIdeal.τ).loc Cert.LossRefIdeal.main_v27) = v2 c
          ∧ r.2.mem ((c.tc : Thread Cert.LossRefIdeal.nD Cert.LossRefIdeal.τ).loc Cert.LossRefIdeal.main_v25) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamInB_AdamInBIdeal : Prop :=
  True

def algebraic_AdamInBIdeal_AdamInBRefIdeal [hAdamInBIdeal : Cert.AdamInBIdeal.Facts] [hAdamInBRefIdeal : Cert.AdamInBRefIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg)
    (m' : (ℓ : Loc Cert.AdamInBRefIdeal.nD Cert.AdamInBRefIdeal.τ Cert.AdamInBRefIdeal.sig) → Buf (Elt Ideal) ℓ) (g' : Dev Cert.AdamInBRefIdeal.nD → PrngReg), Pre_AdamInBIdeal m →
    (∀ c : Dev Cert.AdamInBIdeal.nD,
      m' ((c.tc : Thread Cert.AdamInBRefIdeal.nD Cert.AdamInBRefIdeal.τ).loc Cert.AdamInBRefIdeal.main_arg0) = m ((c.tc : Thread Cert.AdamInBIdeal.nD Cert.AdamInBIdeal.τ).loc Cert.AdamInBIdeal.main_arg0)
      ∧ m' ((c.tc : Thread Cert.AdamInBRefIdeal.nD Cert.AdamInBRefIdeal.τ).loc Cert.AdamInBRefIdeal.main_arg1) = m ((c.tc : Thread Cert.AdamInBIdeal.nD Cert.AdamInBIdeal.τ).loc Cert.AdamInBIdeal.main_arg1)
      ∧ m' ((c.tc : Thread Cert.AdamInBRefIdeal.nD Cert.AdamInBRefIdeal.τ).loc Cert.AdamInBRefIdeal.main_arg2) = m ((c.tc : Thread Cert.AdamInBIdeal.nD Cert.AdamInBIdeal.τ).loc Cert.AdamInBIdeal.main_arg2)
      ∧ m' ((c.tc : Thread Cert.AdamInBRefIdeal.nD Cert.AdamInBRefIdeal.τ).loc Cert.AdamInBRefIdeal.main_arg3) = m ((c.tc : Thread Cert.AdamInBIdeal.nD Cert.AdamInBIdeal.τ).loc Cert.AdamInBIdeal.main_arg3)) →
    ∃ (v0 : (c : Dev Cert.AdamInBIdeal.nD) → Buf (Elt Ideal) ((c.tc : Thread Cert.AdamInBIdeal.nD Cert.AdamInBIdeal.τ).loc Cert.AdamInBIdeal.main_v0_0)) (v1 : (c : Dev Cert.AdamInBIdeal.nD) → Buf (Elt Ideal) ((c.tc : Thread Cert.AdamInBIdeal.nD Cert.AdamInBIdeal.τ).loc Cert.AdamInBIdeal.main_v0_1)) (v2 : (c : Dev Cert.AdamInBIdeal.nD) → Buf (Elt Ideal) ((c.tc : Thread Cert.AdamInBIdeal.nD Cert.AdamInBIdeal.τ).loc Cert.AdamInBIdeal.main_v0_2)) (v3 : (c : Dev Cert.AdamInBIdeal.nD) → Buf (Elt Ideal) ((c.tc : Thread Cert.AdamInBIdeal.nD Cert.AdamInBIdeal.τ).loc Cert.AdamInBIdeal.main_v0_3)),
      θ_run (Cert.AdamInBIdeal.defs (F := Ideal)) (onTc (τ := Cert.AdamInBIdeal.τ) (Cert.AdamInBIdeal.main (F := Ideal))) ⟨m, fun _ => 0, g⟩ (fun r => ∀ c : Dev Cert.AdamInBIdeal.nD,
          r.2.mem ((c.tc : Thread Cert.AdamInBIdeal.nD Cert.AdamInBIdeal.τ).loc Cert.AdamInBIdeal.main_v0_0) = v0 c
          ∧ r.2.mem ((c.tc : Thread Cert.AdamInBIdeal.nD Cert.AdamInBIdeal.τ).loc Cert.AdamInBIdeal.main_v0_1) = v1 c
          ∧ r.2.mem ((c.tc : Thread Cert.AdamInBIdeal.nD Cert.AdamInBIdeal.τ).loc Cert.AdamInBIdeal.main_v0_2) = v2 c
          ∧ r.2.mem ((c.tc : Thread Cert.AdamInBIdeal.nD Cert.AdamInBIdeal.τ).loc Cert.AdamInBIdeal.main_v0_3) = v3 c
          ∧ r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
          ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
          ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
          ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ θ_run (Cert.AdamInBRefIdeal.defs (F := Ideal)) (onTc (τ := Cert.AdamInBRefIdeal.τ) (Cert.AdamInBRefIdeal.main (F := Ideal))) ⟨m', fun _ => 0, g'⟩ (fun r => ∀ c : Dev Cert.AdamInBRefIdeal.nD,
          r.2.mem ((c.tc : Thread Cert.AdamInBRefIdeal.nD Cert.AdamInBRefIdeal.τ).loc Cert.AdamInBRefIdeal.main_v1) = v0 c
          ∧ r.2.mem ((c.tc : Thread Cert.AdamInBRefIdeal.nD Cert.AdamInBRefIdeal.τ).loc Cert.AdamInBRefIdeal.main_v25) = v1 c
          ∧ r.2.mem ((c.tc : Thread Cert.AdamInBRefIdeal.nD Cert.AdamInBRefIdeal.τ).loc Cert.AdamInBRefIdeal.main_v6) = v2 c
          ∧ r.2.mem ((c.tc : Thread Cert.AdamInBRefIdeal.nD Cert.AdamInBRefIdeal.τ).loc Cert.AdamInBRefIdeal.main_v12) = v3 c
          ∧ r.2.mem ((c.tc : Thread Cert.AdamInBRefIdeal.nD Cert.AdamInBRefIdeal.τ).loc Cert.AdamInBRefIdeal.main_arg0) = m' ((c.tc : Thread Cert.AdamInBRefIdeal.nD Cert.AdamInBRefIdeal.τ).loc Cert.AdamInBRefIdeal.main_arg0)
          ∧ r.2.mem ((c.tc : Thread Cert.AdamInBRefIdeal.nD Cert.AdamInBRefIdeal.τ).loc Cert.AdamInBRefIdeal.main_arg1) = m' ((c.tc : Thread Cert.AdamInBRefIdeal.nD Cert.AdamInBRefIdeal.τ).loc Cert.AdamInBRefIdeal.main_arg1)
          ∧ r.2.mem ((c.tc : Thread Cert.AdamInBRefIdeal.nD Cert.AdamInBRefIdeal.τ).loc Cert.AdamInBRefIdeal.main_arg2) = m' ((c.tc : Thread Cert.AdamInBRefIdeal.nD Cert.AdamInBRefIdeal.τ).loc Cert.AdamInBRefIdeal.main_arg2)
          ∧ r.2.mem ((c.tc : Thread Cert.AdamInBRefIdeal.nD Cert.AdamInBRefIdeal.τ).loc Cert.AdamInBRefIdeal.main_arg3) = m' ((c.tc : Thread Cert.AdamInBRefIdeal.nD Cert.AdamInBRefIdeal.τ).loc Cert.AdamInBRefIdeal.main_arg3))

def preserves_AdamInA_AdamInAIdeal : Prop :=
  True

def algebraic_AdamInAIdeal_AdamInARefIdeal [hAdamInAIdeal : Cert.AdamInAIdeal.Facts] [hAdamInARefIdeal : Cert.AdamInARefIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInARefIdeal.nD Cert.AdamInARefIdeal.τ Cert.AdamInARefIdeal.sig) → Buf (Elt Ideal) ℓ) (g' : Dev Cert.AdamInARefIdeal.nD → PrngReg), Pre_AdamInAIdeal m →
    (∀ c : Dev Cert.AdamInAIdeal.nD,
      m' ((c.tc : Thread Cert.AdamInARefIdeal.nD Cert.AdamInARefIdeal.τ).loc Cert.AdamInARefIdeal.main_arg0) = m ((c.tc : Thread Cert.AdamInAIdeal.nD Cert.AdamInAIdeal.τ).loc Cert.AdamInAIdeal.main_arg0)
      ∧ m' ((c.tc : Thread Cert.AdamInARefIdeal.nD Cert.AdamInARefIdeal.τ).loc Cert.AdamInARefIdeal.main_arg1) = m ((c.tc : Thread Cert.AdamInAIdeal.nD Cert.AdamInAIdeal.τ).loc Cert.AdamInAIdeal.main_arg1)
      ∧ m' ((c.tc : Thread Cert.AdamInARefIdeal.nD Cert.AdamInARefIdeal.τ).loc Cert.AdamInARefIdeal.main_arg2) = m ((c.tc : Thread Cert.AdamInAIdeal.nD Cert.AdamInAIdeal.τ).loc Cert.AdamInAIdeal.main_arg2)
      ∧ m' ((c.tc : Thread Cert.AdamInARefIdeal.nD Cert.AdamInARefIdeal.τ).loc Cert.AdamInARefIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)) (v3 : (c : Dev Cert.AdamInAIdeal.nD) → Buf (Elt Ideal) ((c.tc : Thread Cert.AdamInAIdeal.nD Cert.AdamInAIdeal.τ).loc Cert.AdamInAIdeal.main_v0_3)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_v0_3) = v3 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v1) = v0 c
          ∧ r.2.mem ((c.tc : Thread Cert.AdamInARefIdeal.nD Cert.AdamInARefIdeal.τ).loc Cert.AdamInARefIdeal.main_v25) = v1 c
          ∧ r.2.mem ((c.tc : Thread Cert.AdamInARefIdeal.nD Cert.AdamInARefIdeal.τ).loc Cert.AdamInARefIdeal.main_v6) = v2 c
          ∧ r.2.mem ((c.tc : Thread Cert.AdamInARefIdeal.nD Cert.AdamInARefIdeal.τ).loc Cert.AdamInARefIdeal.main_v12) = v3 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3))

def preserves_AttnFwd_AttnFwdIdeal : Prop :=
  True

def algebraic_AttnFwdIdeal_AttnFwdRefIdeal_pre_finite_attnfwd [hAttnFwdIdeal : Cert.AttnFwdIdeal.Facts] [hAttnFwdRefIdeal : Cert.AttnFwdRefIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnfwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v72_0)) (v1 : (c : Dev Cert.AttnFwdIdeal.nD) → Buf (Elt Ideal) ((c.tc : Thread Cert.AttnFwdIdeal.nD Cert.AttnFwdIdeal.τ).loc Cert.AttnFwdIdeal.main_v72_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v72_0) = v0 c
          ∧ r.2.mem ((c.tc : Thread Cert.AttnFwdIdeal.nD Cert.AttnFwdIdeal.τ).loc Cert.AttnFwdIdeal.main_v72_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v81) = v0 c
          ∧ r.2.mem ((c.tc : Thread Cert.AttnFwdRefIdeal.nD Cert.AttnFwdRefIdeal.τ).loc Cert.AttnFwdRefIdeal.main_v85) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hKernel : Cert.Kernel.Facts) (hKernelIdeal : Cert.KernelIdeal.Facts) (hReferenceIdeal : Cert.ReferenceIdeal.Facts) (hDx0 : Cert.Dx0.Facts) (hDx0Ideal : Cert.Dx0Ideal.Facts) (hDx0RefIdeal : Cert.Dx0RefIdeal.Facts) (hDx1 : Cert.Dx1.Facts) (hDx1Ideal : Cert.Dx1Ideal.Facts) (hDx1RefIdeal : Cert.Dx1RefIdeal.Facts) (hDx2 : Cert.Dx2.Facts) (hDx2Ideal : Cert.Dx2Ideal.Facts) (hDx2RefIdeal : Cert.Dx2RefIdeal.Facts) (hDxz : Cert.Dxz.Facts) (hDxzIdeal : Cert.DxzIdeal.Facts) (hDxzRefIdeal : Cert.DxzRefIdeal.Facts) (hDw0 : Cert.Dw0.Facts) (hDw0Ideal : Cert.Dw0Ideal.Facts) (hDw0RefIdeal : Cert.Dw0RefIdeal.Facts) (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts) (hDwz : Cert.Dwz.Facts) (hDwzIdeal : Cert.DwzIdeal.Facts) (hDwzRefIdeal : Cert.DwzRefIdeal.Facts) (hDxa : Cert.Dxa.Facts) (hDxaIdeal : Cert.DxaIdeal.Facts) (hDxaRefIdeal : Cert.DxaRefIdeal.Facts) (hDwa0 : Cert.Dwa0.Facts) (hDwa0Ideal : Cert.Dwa0Ideal.Facts) (hDwa0RefIdeal : Cert.Dwa0RefIdeal.Facts) (hDwa1 : Cert.Dwa1.Facts) (hDwa1Ideal : Cert.Dwa1Ideal.Facts) (hDwa1RefIdeal : Cert.Dwa1RefIdeal.Facts) (hDwa2 : Cert.Dwa2.Facts) (hDwa2Ideal : Cert.Dwa2Ideal.Facts) (hDwa2RefIdeal : Cert.Dwa2RefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hFwdIn : Cert.FwdIn.Facts) (hFwdInIdeal : Cert.FwdInIdeal.Facts) (hFwdInRefIdeal : Cert.FwdInRefIdeal.Facts) (hFwdOut : Cert.FwdOut.Facts) (hFwdOutIdeal : Cert.FwdOutIdeal.Facts) (hFwdOutRefIdeal : Cert.FwdOutRefIdeal.Facts) (hFwdZ : Cert.FwdZ.Facts) (hFwdZIdeal : Cert.FwdZIdeal.Facts) (hFwdZRefIdeal : Cert.FwdZRefIdeal.Facts) (hMidFwd : Cert.MidFwd.Facts) (hMidFwdIdeal : Cert.MidFwdIdeal.Facts) (hMidFwdRefIdeal : Cert.MidFwdRefIdeal.Facts) (hAdaFwd : Cert.AdaFwd.Facts) (hAdaFwdIdeal : Cert.AdaFwdIdeal.Facts) (hAdaFwdRefIdeal : Cert.AdaFwdRefIdeal.Facts) (hAdaBwd : Cert.AdaBwd.Facts) (hAdaBwdIdeal : Cert.AdaBwdIdeal.Facts) (hAdaBwdRefIdeal : Cert.AdaBwdRefIdeal.Facts) (hMidBwd : Cert.MidBwd.Facts) (hMidBwdIdeal : Cert.MidBwdIdeal.Facts) (hMidBwdRefIdeal : Cert.MidBwdRefIdeal.Facts) (hLoss : Cert.Loss.Facts) (hLossIdeal : Cert.LossIdeal.Facts) (hLossRefIdeal : Cert.LossRefIdeal.Facts) (hAdamOut : Cert.AdamOut.Facts) (hAdamOutIdeal : Cert.AdamOutIdeal.Facts) (hAdamOutRefIdeal : Cert.AdamOutRefIdeal.Facts) (hAdamInB : Cert.AdamInB.Facts) (hAdamInBIdeal : Cert.AdamInBIdeal.Facts) (hAdamInBRefIdeal : Cert.AdamInBRefIdeal.Facts) (hAdamInA : Cert.AdamInA.Facts) (hAdamInAIdeal : Cert.AdamInAIdeal.Facts) (hAdamInARefIdeal : Cert.AdamInARefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_finite_attnfwd : Cert.Pre_finite_attnfwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dx0 (hDx0 := hDx0)
    ∧ quiescent_Dx0Ideal (hDx0Ideal := hDx0Ideal)
    ∧ quiescent_Dx0RefIdeal (hDx0RefIdeal := hDx0RefIdeal)
    ∧ quiescent_Dx1 (hDx1 := hDx1)
    ∧ quiescent_Dx1Ideal (hDx1Ideal := hDx1Ideal)
    ∧ quiescent_Dx1RefIdeal (hDx1RefIdeal := hDx1RefIdeal)
    ∧ quiescent_Dx2 (hDx2 := hDx2)
    ∧ quiescent_Dx2Ideal (hDx2Ideal := hDx2Ideal)
    ∧ quiescent_Dx2RefIdeal (hDx2RefIdeal := hDx2RefIdeal)
    ∧ quiescent_Dxz (hDxz := hDxz)
    ∧ quiescent_DxzIdeal (hDxzIdeal := hDxzIdeal)
    ∧ quiescent_DxzRefIdeal (hDxzRefIdeal := hDxzRefIdeal)
    ∧ quiescent_Dw0 (hDw0 := hDw0)
    ∧ quiescent_Dw0Ideal (hDw0Ideal := hDw0Ideal)
    ∧ quiescent_Dw0RefIdeal (hDw0RefIdeal := hDw0RefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dwz (hDwz := hDwz)
    ∧ quiescent_DwzIdeal (hDwzIdeal := hDwzIdeal)
    ∧ quiescent_DwzRefIdeal (hDwzRefIdeal := hDwzRefIdeal)
    ∧ quiescent_Dxa (hDxa := hDxa)
    ∧ quiescent_DxaIdeal (hDxaIdeal := hDxaIdeal)
    ∧ quiescent_DxaRefIdeal (hDxaRefIdeal := hDxaRefIdeal)
    ∧ quiescent_Dwa0 (hDwa0 := hDwa0)
    ∧ quiescent_Dwa0Ideal (hDwa0Ideal := hDwa0Ideal)
    ∧ quiescent_Dwa0RefIdeal (hDwa0RefIdeal := hDwa0RefIdeal)
    ∧ quiescent_Dwa1 (hDwa1 := hDwa1)
    ∧ quiescent_Dwa1Ideal (hDwa1Ideal := hDwa1Ideal)
    ∧ quiescent_Dwa1RefIdeal (hDwa1RefIdeal := hDwa1RefIdeal)
    ∧ quiescent_Dwa2 (hDwa2 := hDwa2)
    ∧ quiescent_Dwa2Ideal (hDwa2Ideal := hDwa2Ideal)
    ∧ quiescent_Dwa2RefIdeal (hDwa2RefIdeal := hDwa2RefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdOut (hFwdOut := hFwdOut)
    ∧ quiescent_FwdOutIdeal (hFwdOutIdeal := hFwdOutIdeal)
    ∧ quiescent_FwdOutRefIdeal (hFwdOutRefIdeal := hFwdOutRefIdeal)
    ∧ quiescent_FwdZ (hFwdZ := hFwdZ)
    ∧ quiescent_FwdZIdeal (hFwdZIdeal := hFwdZIdeal)
    ∧ quiescent_FwdZRefIdeal (hFwdZRefIdeal := hFwdZRefIdeal)
    ∧ quiescent_MidFwd (hMidFwd := hMidFwd)
    ∧ quiescent_MidFwdIdeal (hMidFwdIdeal := hMidFwdIdeal)
    ∧ quiescent_MidFwdRefIdeal (hMidFwdRefIdeal := hMidFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_MidBwd (hMidBwd := hMidBwd)
    ∧ quiescent_MidBwdIdeal (hMidBwdIdeal := hMidBwdIdeal)
    ∧ quiescent_MidBwdRefIdeal (hMidBwdRefIdeal := hMidBwdRefIdeal)
    ∧ quiescent_Loss (hLoss := hLoss)
    ∧ quiescent_LossIdeal (hLossIdeal := hLossIdeal)
    ∧ quiescent_LossRefIdeal (hLossRefIdeal := hLossRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamInB (hAdamInB := hAdamInB)
    ∧ quiescent_AdamInBIdeal (hAdamInBIdeal := hAdamInBIdeal)
    ∧ quiescent_AdamInBRefIdeal (hAdamInBRefIdeal := hAdamInBRefIdeal)
    ∧ quiescent_AdamInA (hAdamInA := hAdamInA)
    ∧ quiescent_AdamInAIdeal (hAdamInAIdeal := hAdamInAIdeal)
    ∧ quiescent_AdamInARefIdeal (hAdamInARefIdeal := hAdamInARefIdeal)
    ∧ quiescent_AttnFwd (hAttnFwd := hAttnFwd)
    ∧ quiescent_AttnFwdIdeal (hAttnFwdIdeal := hAttnFwdIdeal)
    ∧ quiescent_AttnFwdIdeal_pre_finite_attnfwd (hAttnFwdIdeal := hAttnFwdIdeal) (hPre_finite_attnfwd := hPre_finite_attnfwd)
    ∧ quiescent_AttnFwdRefIdeal (hAttnFwdRefIdeal := hAttnFwdRefIdeal)
    ∧ quiescent_AttnFwdRefIdeal_pre_finite_attnfwd (hAttnFwdRefIdeal := hAttnFwdRefIdeal) (hPre_finite_attnfwd := hPre_finite_attnfwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Dx0_Dx0Ideal
    ∧ algebraic_Dx0Ideal_Dx0RefIdeal (hDx0Ideal := hDx0Ideal) (hDx0RefIdeal := hDx0RefIdeal)
    ∧ preserves_Dx1_Dx1Ideal
    ∧ algebraic_Dx1Ideal_Dx1RefIdeal (hDx1Ideal := hDx1Ideal) (hDx1RefIdeal := hDx1RefIdeal)
    ∧ preserves_Dx2_Dx2Ideal
    ∧ algebraic_Dx2Ideal_Dx2RefIdeal (hDx2Ideal := hDx2Ideal) (hDx2RefIdeal := hDx2RefIdeal)
    ∧ preserves_Dxz_DxzIdeal
    ∧ algebraic_DxzIdeal_DxzRefIdeal (hDxzIdeal := hDxzIdeal) (hDxzRefIdeal := hDxzRefIdeal)
    ∧ preserves_Dw0_Dw0Ideal
    ∧ algebraic_Dw0Ideal_Dw0RefIdeal (hDw0Ideal := hDw0Ideal) (hDw0RefIdeal := hDw0RefIdeal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
    ∧ preserves_Dwz_DwzIdeal
    ∧ algebraic_DwzIdeal_DwzRefIdeal (hDwzIdeal := hDwzIdeal) (hDwzRefIdeal := hDwzRefIdeal)
    ∧ preserves_Dxa_DxaIdeal
    ∧ algebraic_DxaIdeal_DxaRefIdeal (hDxaIdeal := hDxaIdeal) (hDxaRefIdeal := hDxaRefIdeal)
    ∧ preserves_Dwa0_Dwa0Ideal
    ∧ algebraic_Dwa0Ideal_Dwa0RefIdeal (hDwa0Ideal := hDwa0Ideal) (hDwa0RefIdeal := hDwa0RefIdeal)
    ∧ preserves_Dwa1_Dwa1Ideal
    ∧ algebraic_Dwa1Ideal_Dwa1RefIdeal (hDwa1Ideal := hDwa1Ideal) (hDwa1RefIdeal := hDwa1RefIdeal)
    ∧ preserves_Dwa2_Dwa2Ideal
    ∧ algebraic_Dwa2Ideal_Dwa2RefIdeal (hDwa2Ideal := hDwa2Ideal) (hDwa2RefIdeal := hDwa2RefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_FwdIn_FwdInIdeal
    ∧ algebraic_FwdInIdeal_FwdInRefIdeal (hFwdInIdeal := hFwdInIdeal) (hFwdInRefIdeal := hFwdInRefIdeal)
    ∧ preserves_FwdOut_FwdOutIdeal
    ∧ algebraic_FwdOutIdeal_FwdOutRefIdeal (hFwdOutIdeal := hFwdOutIdeal) (hFwdOutRefIdeal := hFwdOutRefIdeal)
    ∧ preserves_FwdZ_FwdZIdeal
    ∧ algebraic_FwdZIdeal_FwdZRefIdeal (hFwdZIdeal := hFwdZIdeal) (hFwdZRefIdeal := hFwdZRefIdeal)
    ∧ preserves_MidFwd_MidFwdIdeal
    ∧ algebraic_MidFwdIdeal_MidFwdRefIdeal (hMidFwdIdeal := hMidFwdIdeal) (hMidFwdRefIdeal := hMidFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_MidBwd_MidBwdIdeal
    ∧ algebraic_MidBwdIdeal_MidBwdRefIdeal (hMidBwdIdeal := hMidBwdIdeal) (hMidBwdRefIdeal := hMidBwdRefIdeal)
    ∧ preserves_Loss_LossIdeal
    ∧ algebraic_LossIdeal_LossRefIdeal (hLossIdeal := hLossIdeal) (hLossRefIdeal := hLossRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamInB_AdamInBIdeal
    ∧ algebraic_AdamInBIdeal_AdamInBRefIdeal (hAdamInBIdeal := hAdamInBIdeal) (hAdamInBRefIdeal := hAdamInBRefIdeal)
    ∧ preserves_AdamInA_AdamInAIdeal
    ∧ algebraic_AdamInAIdeal_AdamInARefIdeal (hAdamInAIdeal := hAdamInAIdeal) (hAdamInARefIdeal := hAdamInARefIdeal)
    ∧ preserves_AttnFwd_AttnFwdIdeal
    ∧ algebraic_AttnFwdIdeal_AttnFwdRefIdeal_pre_finite_attnfwd (hAttnFwdIdeal := hAttnFwdIdeal) (hAttnFwdRefIdeal := hAttnFwdRefIdeal) (hPre_finite_attnfwd := hPre_finite_attnfwd)
-- ==== Pre_finite.lean ====
abbrev S128x16x3x16x64 : Shape := ⟨5, ![128, 16, 3, 16, 64]⟩
abbrev S64 : Shape := ⟨1, ![64]⟩
abbrev S128x16x16x64 : Shape := ⟨4, ![128, 16, 16, 64]⟩
abbrev S128x16x16 : Shape := ⟨3, ![128, 16, 16]⟩
abbrev S_ : Shape := ⟨0, ![]⟩

class Facts : Prop where
  bcast_S_S128x16x3x16x64 : S_.BroadcastsInDim S128x16x3x16x64 (![] : Fin 0 → Fin S128x16x3x16x64.rank)
  reducesTo_S128x16x3x16x64_S_d0_1_2_3_4 : S128x16x3x16x64.ReducesTo [0, 1, 2, 3, 4] S_
  h_S_ : 0 < S_.numel
  bcast_S_S64 : S_.BroadcastsInDim S64 (![] : Fin 0 → Fin S64.rank)
  reducesTo_S64_S_d0 : S64.ReducesTo [0] S_
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  bcast_S_S128x16x16 : S_.BroadcastsInDim S128x16x16 (![] : Fin 0 → Fin S128x16x16.rank)
  reducesTo_S128x16x16_S_d0_1_2 : S128x16x16.ReducesTo [0, 1, 2] S_

variable [Facts]

def fn_part2 {F : FTy → Type} [FloatOps F] (main_arg7 : FVec F S128x16x16x64 .f32) (main_v33 : IVec S_ 1) : IVec S_ 1 :=
  let main_v34 : FVec F S128x16x16x64 .f32 := Host.absf main_arg7
  let main_cst_12 : FVec F S_ .f32 := constant S_ .f32 0x7F800000#32
  let main_v35 : FVec F S128x16x16x64 .f32 := broadcastInDim S128x16x16x64 ![] bcast_S_S128x16x16x64 main_cst_12
  let main_v36 : IVec S128x16x16x64 1 := cmpf .olt main_v34 main_v35
  let main_c_13 : IVec S_ 1 := constantI S_ 1 1#1
  let main_v37 : IVec S_ 1 := (fun x v => Host.reduce IntOp.andi x v reducesTo_S128x16x16x64_S_d0_1_2_3 h_S_) main_v36 main_c_13
  let main_v38 : IVec S_ 1 := andi main_v33 main_v37
  main_v38

def fn_part1 {F : FTy → Type} [FloatOps F] (main_arg4 : FVec F S128x16x16x64 .f32) (main_arg5 : FVec F S128x16x16 .f32) (main_arg6 : FVec F S128x16x16 .f32) (main_arg7 : FVec F S128x16x16x64 .f32) (main_v13 : IVec S_ 1) (main_v16 : IVec S128x16x16x64 1) : IVec S_ 1 :=
  let main_c_5 : IVec S_ 1 := constantI S_ 1 1#1
  let main_v17 : IVec S_ 1 := (fun x v => Host.reduce IntOp.andi x v reducesTo_S128x16x16x64_S_d0_1_2_3 h_S_) main_v16 main_c_5
  let main_v18 : IVec S_ 1 := andi main_v13 main_v17
  let main_v19 : FVec F S128x16x16x64 .f32 := Host.absf main_arg4
  let main_cst_6 : FVec F S_ .f32 := constant S_ .f32 0x7F800000#32
  let main_v20 : FVec F S128x16x16x64 .f32 := broadcastInDim S128x16x16x64 ![] bcast_S_S128x16x16x64 main_cst_6
  let main_v21 : IVec S128x16x16x64 1 := cmpf .olt main_v19 main_v20
  let main_c_7 : IVec S_ 1 := constantI S_ 1 1#1
  let main_v22 : IVec S_ 1 := (fun x v => Host.reduce IntOp.andi x v reducesTo_S128x16x16x64_S_d0_1_2_3 h_S_) main_v21 main_c_7
  let main_v23 : IVec S_ 1 := andi main_v18 main_v22
  let main_v24 : FVec F S128x16x16 .f32 := Host.absf main_arg5
  let main_cst_8 : FVec F S_ .f32 := constant S_ .f32 0x7F800000#32
  let main_v25 : FVec F S128x16x16 .f32 := broadcastInDim S128x16x16 ![] bcast_S_S128x16x16 main_cst_8
  let main_v26 : IVec S128x16x16 1 := cmpf .olt main_v24 main_v25
  let main_c_9 : IVec S_ 1 := constantI S_ 1 1#1
  let main_v27 : IVec S_ 1 := (fun x v => Host.reduce IntOp.andi x v reducesTo_S128x16x16_S_d0_1_2 h_S_) main_v26 main_c_9
  let main_v28 : IVec S_ 1 := andi main_v23 main_v27
  let main_v29 : FVec F S128x16x16 .f32 := Host.absf main_arg6
  let main_cst_10 : FVec F S_ .f32 := constant S_ .f32 0x7F800000#32
  let main_v30 : FVec F S128x16x16 .f32 := broadcastInDim S128x16x16 ![] bcast_S_S128x16x16 main_cst_10
  let main_v31 : IVec S128x16x16 1 := cmpf .olt main_v29 main_v30
  let main_c_11 : IVec S_ 1 := constantI S_ 1 1#1
  let main_v32 : IVec S_ 1 := (fun x v => Host.reduce IntOp.andi x v reducesTo_S128x16x16_S_d0_1_2 h_S_) main_v31 main_c_11
  let main_v33 : IVec S_ 1 := andi main_v28 main_v32
  fn_part2 (F := F) main_arg7 main_v33

def fn {F : FTy → Type} [FloatOps F] (main_arg0 : FVec F S128x16x3x16x64 .f32) (main_arg1 : FVec F S64 .f32) (main_arg2 : FVec F S64 .f32) (main_arg3 : FVec F S128x16x16x64 .f32) (main_arg4 : FVec F S128x16x16x64 .f32) (main_arg5 : FVec F S128x16x16 .f32) (main_arg6 : FVec F S128x16x16 .f32) (main_arg7 : FVec F S128x16x16x64 .f32) : IVec S_ 1 :=
  let main_v0 : FVec F S128x16x3x16x64 .f32 := Host.absf main_arg0
  let main_cst : FVec F S_ .f32 := constant S_ .f32 0x7F800000#32
  let main_v1 : FVec F S128x16x3x16x64 .f32 := broadcastInDim S128x16x3x16x64 ![] bcast_S_S128x16x3x16x64 main_cst
  let main_v2 : IVec S128x16x3x16x64 1 := cmpf .olt main_v0 main_v1
  let main_c : IVec S_ 1 := constantI S_ 1 1#1
  let main_v3 : IVec S_ 1 := (fun x v => Host.reduce IntOp.andi x v reducesTo_S128x16x3x16x64_S_d0_1_2_3_4 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x16x16x64 .f32 := Host.absf main_arg3
  let main_cst_4 : FVec F S_ .f32 := constant S_ .f32 0x7F800000#32
  let main_v15 : FVec F S128x16x16x64 .f32 := broadcastInDim S128x16x16x64 ![] bcast_S_S128x16x16x64 main_cst_4
  let main_v16 : IVec S128x16x16x64 1 := cmpf .olt main_v14 main_v15
  fn_part1 (F := F) main_arg4 main_arg5 main_arg6 main_arg7 main_v13 main_v16
-- ==== Pre_finite_attnfwd.lean ====
abbrev S128x16x3x16x64 : Shape := ⟨5, ![128, 16, 3, 16, 64]⟩
abbrev S64 : Shape := ⟨1, ![64]⟩
abbrev S_ : Shape := ⟨0, ![]⟩

class Facts : Prop where
  bcast_S_S128x16x3x16x64 : S_.BroadcastsInDim S128x16x3x16x64 (![] : Fin 0 → Fin S128x16x3x16x64.rank)
  reducesTo_S128x16x3x16x64_S_d0_1_2_3_4 : S128x16x3x16x64.ReducesTo [0, 1, 2, 3, 4] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S128x16x3x16x64 .f32) (main_arg1 : FVec F S64 .f32) (main_arg2 : FVec F S64 .f32) : IVec S_ 1 :=
  let main_v0 : FVec F S128x16x3x16x64 .f32 := Host.absf main_arg0
  let main_cst : FVec F S_ .f32 := constant S_ .f32 0x7F800000#32
  let main_v1 : FVec F S128x16x3x16x64 .f32 := broadcastInDim S128x16x3x16x64 ![] bcast_S_S128x16x3x16x64 main_cst
  let main_v2 : IVec S128x16x3x16x64 1 := cmpf .olt main_v0 main_v1
  let main_c : IVec S_ 1 := constantI S_ 1 1#1
  let main_v3 : IVec S_ 1 := (fun x v => Host.reduce IntOp.andi x v reducesTo_S128x16x3x16x64_S_d0_1_2_3_4 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S128x16x3x16x64 : Shape := ⟨5, ![128, 16, 3, 16, 64]⟩
abbrev S64 : Shape := ⟨1, ![64]⟩
abbrev S128x16x16x64 : Shape := ⟨4, ![128, 16, 16, 64]⟩
abbrev S128x16x16 : Shape := ⟨3, ![128, 16, 16]⟩
abbrev S128x16x1x16x64 : Shape := ⟨5, ![128, 16, 1, 16, 64]⟩
abbrev S_ : Shape := ⟨0, ![]⟩
abbrev S128x16x16x1 : Shape := ⟨4, ![128, 16, 16, 1]⟩
abbrev S1x1x1x64 : Shape := ⟨4, ![1, 1, 1, 64]⟩
abbrev S16x16x128x128 : Shape := ⟨4, ![16, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S16x1x1 : Shape := ⟨3, ![16, 1, 1]⟩
abbrev S1x128x128 : Shape := ⟨3, ![1, 128, 128]⟩
abbrev S16x128x128 : Shape := ⟨3, ![16, 128, 128]⟩
abbrev S1x16x128x128 : Shape := ⟨4, ![1, 16, 128, 128]⟩
abbrev S16x16x128 : Shape := ⟨3, ![16, 16, 128]⟩
abbrev S16x16x128x1 : Shape := ⟨4, ![16, 16, 128, 1]⟩
abbrev S16x16x64x128 : Shape := ⟨4, ![16, 16, 64, 128]⟩
abbrev S128x16x2x16x64 : Shape := ⟨5, ![128, 16, 2, 16, 64]⟩
abbrev S16x128x2x16x64 : Shape := ⟨5, ![16, 128, 2, 16, 64]⟩
abbrev S2048x2048 : Shape := ⟨2, ![2048, 2048]⟩
abbrev S16x128x3x16x64 : Shape := ⟨5, ![16, 128, 3, 16, 64]⟩
abbrev S2048x3072 : Shape := ⟨2, ![2048, 3072]⟩
abbrev S1024x128 : Shape := ⟨2, ![1024, 128]⟩
abbrev S128x1024 : Shape := ⟨2, ![128, 1024]⟩
abbrev S128x256 : Shape := ⟨2, ![128, 256]⟩
abbrev S1x128x256 : Shape := ⟨3, ![1, 128, 256]⟩
abbrev S16x128x256 : Shape := ⟨3, ![16, 128, 256]⟩
abbrev S1x64 : Shape := ⟨2, ![1, 64]⟩
abbrev S1x1x16x64 : Shape := ⟨4, ![1, 1, 16, 64]⟩
abbrev S1x1024 : Shape := ⟨2, ![1, 1024]⟩
abbrev S16x128x16x64 : Shape := ⟨4, ![16, 128, 16, 64]⟩
abbrev S2048x1024 : Shape := ⟨2, ![2048, 1024]⟩
abbrev S16x128x16 : Shape := ⟨3, ![16, 128, 16]⟩
abbrev S2048x16 : Shape := ⟨2, ![2048, 16]⟩
abbrev S2048x128 : Shape := ⟨2, ![2048, 128]⟩
abbrev S128x3072 : Shape := ⟨2, ![128, 3072]⟩
abbrev S256x1024 : Shape := ⟨2, ![256, 1024]⟩
abbrev S256x128 : Shape := ⟨2, ![256, 128]⟩
abbrev S1024 : Shape := ⟨1, ![1024]⟩

abbrev nBuf : Space → Nat
  | .hbm => 296
  | .vmem => 30
  | .smem => 0
  | _ => 0

abbrev hbmTy0_0 (i : Nat) : BufTy := match i % 128 with
  | 0 => ⟨S128x16x3x16x64, .f32⟩
  | 1 => ⟨S64, .f32⟩
  | 2 => ⟨S64, .f32⟩
  | 3 => ⟨S128x16x16x64, .f32⟩
  | 4 => ⟨S128x16x16x64, .f32⟩
  | 5 => ⟨S128x16x16, .f32⟩
  | 6 => ⟨S128x16x16, .f32⟩
  | 7 => ⟨S128x16x16x64, .f32⟩
  | 8 => ⟨S128x16x1x16x64, .f32⟩
  | 9 => ⟨S128x16x16x64, .f32⟩
  | 10 => ⟨S128x16x16x64, .f32⟩
  | 11 => ⟨S_, .f32⟩
  | 12 => ⟨S128x16x16, .f32⟩
  | 13 => ⟨S128x16x16x1, .f32⟩
  | 14 => ⟨S_, .f32⟩
  | 15 => ⟨S128x16x16x1, .f32⟩
  | 16 => ⟨S128x16x16x1, .f32⟩
  | 17 => ⟨S_, .f32⟩
  | 18 => ⟨S128x16x16x1, .f32⟩
  | 19 => ⟨S128x16x16x1, .f32⟩
  | 20 => ⟨S128x16x16x1, .f32⟩
  | 21 => ⟨S128x16x16x64, .f32⟩
  | 22 => ⟨S128x16x16x64, .f32⟩
  | 23 => ⟨S1x1x1x64, .f32⟩
  | 24 => ⟨S128x16x16x64, .f32⟩
  | 25 => ⟨S128x16x16x64, .f32⟩
  | 26 => ⟨S128x16x1x16x64, .f32⟩
  | 27 => ⟨S128x16x16x64, .f32⟩
  | 28 => ⟨S128x16x16x64, .f32⟩
  | 29 => ⟨S_, .f32⟩
  | 30 => ⟨S128x16x16, .f32⟩
  | 31 => ⟨S128x16x16x1, .f32⟩
  | 32 => ⟨S_, .f32⟩
  | 33 => ⟨S128x16x16x1, .f32⟩
  | 34 => ⟨S128x16x16x1, .f32⟩
  | 35 => ⟨S_, .f32⟩
  | 36 => ⟨S128x16x16x1, .f32⟩
  | 37 => ⟨S128x16x16x1, .f32⟩
  | 38 => ⟨S128x16x16x1, .f32⟩
  | 39 => ⟨S128x16x16x64, .f32⟩
  | 40 => ⟨S128x16x16x64, .f32⟩
  | 41 => ⟨S1x1x1x64, .f32⟩
  | 42 => ⟨S128x16x16x64, .f32⟩
  | 43 => ⟨S128x16x16x64, .f32⟩
  | 44 => ⟨S128x16x1x16x64, .f32⟩
  | 45 => ⟨S128x16x16x64, .f32⟩
  | 46 => ⟨S16x16x128x128, .f32⟩
  | 47 => ⟨S_, .f32⟩
  | 48 => ⟨S16x16x128x128, .f32⟩
  | 49 => ⟨S16x16x128x128, .f32⟩
  | 50 => ⟨S128, .i32⟩
  | 51 => ⟨S128x1, .i32⟩
  | 52 => ⟨S128, .i32⟩
  | 53 => ⟨S1x128, .i32⟩
  | 54 => ⟨S128x128, .i32⟩
  | 55 => ⟨S128x128, .i32⟩
  | 56 => ⟨S128x128, .i32⟩
  | 57 => ⟨S_, .i32⟩
  | 58 => ⟨S128x128, .i32⟩
  | 59 => ⟨S128x128, .i1⟩
  | 60 => ⟨S_, .i32⟩
  | 61 => ⟨S128x128, .i32⟩
  | 62 => ⟨S128x128, .i1⟩
  | 63 => ⟨S128x128, .i1⟩
  | 64 => ⟨S_, .i32⟩
  | 65 => ⟨S128x128, .i32⟩
  | 66 => ⟨S128x128, .i32⟩
  | 67 => ⟨S128x128, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S16, .f32⟩
  | 82 => ⟨S16x1x1, .f32⟩
  | 83 => ⟨S1x128x128, .f32⟩
  | 84 => ⟨S16x128x128, .f32⟩
  | 85 => ⟨S16x128x128, .f32⟩
  | 86 => ⟨S16x128x128, .f32⟩
  | 87 => ⟨S1x16x128x128, .f32⟩
  | 88 => ⟨S16x16x128x128, .f32⟩
  | 89 => ⟨S16x16x128x128, .f32⟩
  | 90 => ⟨S_, .f32⟩
  | 91 => ⟨S_, .f32⟩
  | 92 => ⟨S16x16x128x128, .i1⟩
  | 93 => ⟨S16x16x128x128, .f32⟩
  | 94 => ⟨S16x16x128x128, .f32⟩
  | 95 => ⟨S16x16x128x128, .f32⟩
  | 96 => ⟨S_, .f32⟩
  | 97 => ⟨S16x16x128, .f32⟩
  | 98 => ⟨S16x16x128, .f32⟩
  | 99 => ⟨S16x16x128x1, .f32⟩
  | 100 => ⟨S16x16x128x128, .f32⟩
  | 101 => ⟨S16x16x128x128, .f32⟩
  | 102 => ⟨S16x16x128x128, .f32⟩
  | 103 => ⟨S16x16x64x128, .f32⟩
  | 104 => ⟨S128x16x16x64, .f32⟩
  | 105 => ⟨S128x16x16, .f32⟩
  | 106 => ⟨S128x16x16, .f32⟩
  | 107 => ⟨S128x16x16, .f32⟩
  | 108 => ⟨S128x16x16, .f32⟩
  | 109 => ⟨S128x16x16, .f32⟩
  | 110 => ⟨S128x16x16, .f32⟩
  | 111 => ⟨S128x16x16, .f32⟩
  | 112 => ⟨S128x16x16x1, .f32⟩
  | 113 => ⟨S128x16x16x64, .f32⟩
  | 114 => ⟨S128x16x16x64, .f32⟩
  | 115 => ⟨S128x16x16, .f32⟩
  | 116 => ⟨S128x16x16x1, .f32⟩
  | 117 => ⟨S128x16x16x64, .f32⟩
  | 118 => ⟨S128x16x16x64, .f32⟩
  | 119 => ⟨S128x16x16x64, .f32⟩
  | 120 => ⟨S128x16x16, .f32⟩
  | 121 => ⟨S128x16x16x1, .f32⟩
  | 122 => ⟨S128x16x16x64, .f32⟩
  | 123 => ⟨S128x16x16x64, .f32⟩
  | 124 => ⟨S128x16x16x64, .f32⟩
  | 125 => ⟨S_, .f32⟩
  | 126 => ⟨S128x16x16x64, .f32⟩
  | 127 => ⟨S128x16x16x64, .f32⟩
  | _ => ⟨S128x16x3x16x64, .f32⟩

abbrev hbmTy0_1 (i : Nat) : BufTy := match i % 128 with
  | 0 => ⟨S128x16x1x16x64, .f32⟩
  | 1 => ⟨S128x16x1x16x64, .f32⟩
  | 2 => ⟨S128x16x2x16x64, .f32⟩
  | 3 => ⟨S16x128x2x16x64, .f32⟩
  | 4 => ⟨S2048x2048, .f32⟩
  | 5 => ⟨S2048x2048, .bf16⟩
  | 6 => ⟨S16x128x3x16x64, .f32⟩
  | 7 => ⟨S2048x3072, .f32⟩
  | 8 => ⟨S2048x3072, .bf16⟩
  | 9 => ⟨S1024x128, .i32⟩
  | 10 => ⟨S_, .i32⟩
  | 11 => ⟨S_, .i32⟩
  | 12 => ⟨S1024x128, .i32⟩
  | 13 => ⟨S1024x128, .i32⟩
  | 14 => ⟨S1024x128, .i32⟩
  | 15 => ⟨S_, .i32⟩
  | 16 => ⟨S1024x128, .i32⟩
  | 17 => ⟨S1024x128, .i1⟩
  | 18 => ⟨S1024x128, .i32⟩
  | 19 => ⟨S1024x128, .i32⟩
  | 20 => ⟨S_, .i32⟩
  | 21 => ⟨S1024x128, .i32⟩
  | 22 => ⟨S1024x128, .i1⟩
  | 23 => ⟨S1024x128, .i1⟩
  | 24 => ⟨S_, .i32⟩
  | 25 => ⟨S1024x128, .i32⟩
  | 26 => ⟨S1024x128, .i32⟩
  | 27 => ⟨S1024x128, .i32⟩
  | 28 => ⟨S1024x128, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S1024x128, .i32⟩
  | 36 => ⟨S1024x128, .i32⟩
  | 37 => ⟨S_, .i32⟩
  | 38 => ⟨S1024x128, .i32⟩
  | 39 => ⟨S1024x128, .i1⟩
  | 40 => ⟨S_, .i32⟩
  | 41 => ⟨S1024x128, .i32⟩
  | 42 => ⟨S1024x128, .i1⟩
  | 43 => ⟨S_, .i32⟩
  | 44 => ⟨S_, .i1⟩
  | 45 => ⟨S1024x128, .i1⟩
  | 46 => ⟨S1024x128, .i1⟩
  | 47 => ⟨S1024x128, .i1⟩
  | 48 => ⟨S1024x128, .i32⟩
  | 49 => ⟨S1024x128, .i32⟩
  | 50 => ⟨S1024x128, .i32⟩
  | 51 => ⟨S1024x128, .i1⟩
  | 52 => ⟨S1024x128, .bf16⟩
  | 53 => ⟨S128x1024, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S128x1024, .i32⟩
  | 61 => ⟨S128x1024, .i32⟩
  | 62 => ⟨S_, .i32⟩
  | 63 => ⟨S128x1024, .i32⟩
  | 64 => ⟨S128x1024, .i1⟩
  | 65 => ⟨S_, .i32⟩
  | 66 => ⟨S128x1024, .i32⟩
  | 67 => ⟨S128x1024, .i1⟩
  | 68 => ⟨S_, .i32⟩
  | 69 => ⟨S_, .i1⟩
  | 70 => ⟨S128x1024, .i1⟩
  | 71 => ⟨S128x1024, .i1⟩
  | 72 => ⟨S128x1024, .i1⟩
  | 73 => ⟨S128x1024, .i32⟩
  | 74 => ⟨S128x1024, .i32⟩
  | 75 => ⟨S128x1024, .i32⟩
  | 76 => ⟨S128x1024, .i32⟩
  | 77 => ⟨S_, .i32⟩
  | 78 => ⟨S_, .i32⟩
  | 79 => ⟨S128x1024, .i32⟩
  | 80 => ⟨S128x1024, .i32⟩
  | 81 => ⟨S128x1024, .i32⟩
  | 82 => ⟨S_, .i32⟩
  | 83 => ⟨S128x1024, .i32⟩
  | 84 => ⟨S128x1024, .i1⟩
  | 85 => ⟨S128x1024, .i32⟩
  | 86 => ⟨S128x1024, .i32⟩
  | 87 => ⟨S_, .i32⟩
  | 88 => ⟨S128x1024, .i32⟩
  | 89 => ⟨S128x1024, .i1⟩
  | 90 => ⟨S128x1024, .i1⟩
  | 91 => ⟨S_, .i32⟩
  | 92 => ⟨S128x1024, .i32⟩
  | 93 => ⟨S128x1024, .i32⟩
  | 94 => ⟨S128x1024, .i32⟩
  | 95 => ⟨S128x1024, .i1⟩
  | 96 => ⟨S128x1024, .bf16⟩
  | 97 => ⟨S128x256, .i32⟩
  | 98 => ⟨S128x256, .i32⟩
  | 99 => ⟨S_, .i32⟩
  | 100 => ⟨S128x256, .i32⟩
  | 101 => ⟨S128x256, .i32⟩
  | 102 => ⟨S128x256, .i32⟩
  | 103 => ⟨S_, .i32⟩
  | 104 => ⟨S128x256, .i32⟩
  | 105 => ⟨S128x256, .i1⟩
  | 106 => ⟨S_, .i32⟩
  | 107 => ⟨S128x256, .i32⟩
  | 108 => ⟨S128x256, .i1⟩
  | 109 => ⟨S128x256, .i1⟩
  | 110 => ⟨S_, .i32⟩
  | 111 => ⟨S128x256, .i32⟩
  | 112 => ⟨S128x256, .i32⟩
  | 113 => ⟨S128x256, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S16, .f32⟩
  | _ => ⟨S128x16x3x16x64, .f32⟩

abbrev hbmTy0_2 (i : Nat) : BufTy := match i % 128 with
  | 0 => ⟨S16x1x1, .f32⟩
  | 1 => ⟨S1x128x256, .i1⟩
  | 2 => ⟨S16x1x1, .f32⟩
  | 3 => ⟨S1x128x256, .f32⟩
  | 4 => ⟨S16x128x256, .f32⟩
  | 5 => ⟨S16x128x256, .f32⟩
  | 6 => ⟨S16x128x256, .f32⟩
  | 7 => ⟨S_, .f32⟩
  | 8 => ⟨S_, .f32⟩
  | 9 => ⟨S16x128x256, .i1⟩
  | 10 => ⟨S16x128x256, .f32⟩
  | 11 => ⟨S16x128x256, .f32⟩
  | 12 => ⟨S1x64, .f32⟩
  | 13 => ⟨S1x1x1x64, .f32⟩
  | 14 => ⟨S1x1x16x64, .f32⟩
  | 15 => ⟨S1x1024, .f32⟩
  | 16 => ⟨S1x64, .f32⟩
  | 17 => ⟨S1x1x1x64, .f32⟩
  | 18 => ⟨S1x1x16x64, .f32⟩
  | 19 => ⟨S1x1024, .f32⟩
  | 20 => ⟨S16x128x16x64, .f32⟩
  | 21 => ⟨S2048x1024, .f32⟩
  | 22 => ⟨S2048x1024, .bf16⟩
  | 23 => ⟨S128x16x16, .f32⟩
  | 24 => ⟨S16x128x16, .f32⟩
  | 25 => ⟨S2048x16, .f32⟩
  | 26 => ⟨S_, .i32⟩
  | 27 => ⟨S_, .f32⟩
  | 28 => ⟨S2048x128, .f32⟩
  | 29 => ⟨S128x16x16x64, .f32⟩
  | 30 => ⟨S_, .f32⟩
  | 31 => ⟨S128x16x16, .f32⟩
  | 32 => ⟨S16x128x16, .f32⟩
  | 33 => ⟨S2048x16, .f32⟩
  | 34 => ⟨S_, .i32⟩
  | 35 => ⟨S_, .f32⟩
  | 36 => ⟨S2048x128, .f32⟩
  | 37 => ⟨S2048x3072, .bf16⟩
  | 38 => ⟨S1x1024, .f32⟩
  | 39 => ⟨S1x1024, .f32⟩
  | _ => ⟨S128x16x3x16x64, .f32⟩

abbrev hbmTy (i : Nat) : BufTy := match i / 128 with
  | 0 => hbmTy0_0 i
  | 1 => hbmTy0_1 i
  | 2 => hbmTy0_2 i
  | _ => ⟨S128x16x3x16x64, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S16x128x256, .f32⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S1x1024, .f32⟩
  | .local _ .vmem, ⟨18, _⟩ => ⟨S1x1024, .f32⟩
  | .local _ .vmem, ⟨19, _⟩ => ⟨S1024x128, .bf16⟩
  | .local _ .vmem, ⟨20, _⟩ => ⟨S128x1024, .bf16⟩
  | .local _ .vmem, ⟨21, _⟩ => ⟨S128x3072, .bf16⟩
  | .local _ .vmem, ⟨22, _⟩ => ⟨S128x3072, .bf16⟩
  | .local _ .vmem, ⟨23, _⟩ => ⟨S1x1024, .f32⟩
  | .local _ .vmem, ⟨24, _⟩ => ⟨S1x1024, .f32⟩
  | .local _ .vmem, ⟨25, _⟩ => ⟨S16x128x128, .bf16⟩
  | .local _ .vmem, ⟨26, _⟩ => ⟨S16x128x128, .bf16⟩
  | .local _ .vmem, ⟨27, _⟩ => ⟨S16x128x128, .bf16⟩
  | .local _ .vmem, ⟨28, _⟩ => ⟨S128x1024, .f32⟩
  | .local _ .vmem, ⟨29, _⟩ => ⟨S128x1024, .f32⟩
  | _, _ => ⟨S128x16x3x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_15 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_v6 : Ref sig .tc := ⟨.hbm, 145, rfl⟩
abbrev main_call1_v7 : Ref sig .tc := ⟨.hbm, 146, rfl⟩
abbrev main_call1_v8 : Ref sig .tc := ⟨.hbm, 147, rfl⟩
abbrev main_call1_c : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_c_0 : Ref sig .tc := ⟨.hbm, 152, rfl⟩
abbrev main_call1_v12 : Ref sig .tc := ⟨.hbm, 153, rfl⟩
abbrev main_call1_v13 : Ref sig .tc := ⟨.hbm, 154, rfl⟩
abbrev main_v110 : Ref sig .tc := ⟨.hbm, 155, rfl⟩
abbrev main_v111 : Ref sig .tc := ⟨.hbm, 156, rfl⟩
abbrev main_c_16 : Ref sig .tc := ⟨.hbm, 157, rfl⟩
abbrev main_call2_v0 : Ref sig .tc := ⟨.hbm, 158, rfl⟩
abbrev main_call2_c : Ref sig .tc := ⟨.hbm, 159, rfl⟩
abbrev main_call2_v1 : Ref sig .tc := ⟨.hbm, 160, rfl⟩
abbrev main_call2_c_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_c_1 : Ref sig .tc := ⟨.hbm, 165, rfl⟩
abbrev main_call2_v5 : Ref sig .tc := ⟨.hbm, 166, rfl⟩
abbrev main_call2_v6 : Ref sig .tc := ⟨.hbm, 167, rfl⟩
abbrev main_call2_c_2 : Ref sig .tc := ⟨.hbm, 168, rfl⟩
abbrev main_call2_v7 : Ref sig .tc := ⟨.hbm, 169, rfl⟩
abbrev main_call2_v8 : Ref sig .tc := ⟨.hbm, 170, rfl⟩
abbrev main_call2_c_3 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_v12 : Ref sig .tc := ⟨.hbm, 175, rfl⟩
abbrev main_call2_v13 : Ref sig .tc := ⟨.hbm, 176, rfl⟩
abbrev main_call2_v14 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_c_17 : Ref sig .tc := ⟨.hbm, 182, rfl⟩
abbrev main_call3_v0 : Ref sig .tc := ⟨.hbm, 183, rfl⟩
abbrev main_call3_c : Ref sig .tc := ⟨.hbm, 184, rfl⟩
abbrev main_call3_v1 : Ref sig .tc := ⟨.hbm, 185, rfl⟩
abbrev main_call3_c_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_c_1 : Ref sig .tc := ⟨.hbm, 190, rfl⟩
abbrev main_call3_v5 : Ref sig .tc := ⟨.hbm, 191, rfl⟩
abbrev main_call3_v6 : Ref sig .tc := ⟨.hbm, 192, rfl⟩
abbrev main_call3_c_2 : Ref sig .tc := ⟨.hbm, 193, rfl⟩
abbrev main_call3_v7 : Ref sig .tc := ⟨.hbm, 194, rfl⟩
abbrev main_call3_v8 : Ref sig .tc := ⟨.hbm, 195, rfl⟩
abbrev main_call3_c_3 : Ref sig .tc := ⟨.hbm, 196, rfl⟩
abbrev main_call3_v9 : Ref sig .tc := ⟨.hbm, 197, rfl⟩
abbrev main_call3_v10 : Ref sig .tc := ⟨.hbm, 198, rfl⟩
abbrev main_call3_v11 : Ref sig .tc := ⟨.hbm, 199, rfl⟩
abbrev main_call3_v12 : Ref sig .tc := ⟨.hbm, 200, rfl⟩
abbrev main_call3_v13 : Ref sig .tc := ⟨.hbm, 201, rfl⟩
abbrev main_call3_v14 : Ref sig .tc := ⟨.hbm, 202, rfl⟩
abbrev main_v116 : Ref sig .tc := ⟨.hbm, 203, rfl⟩
abbrev main_v117 : Ref sig .tc := ⟨.hbm, 204, rfl⟩
abbrev main_c_18 : Ref sig .tc := ⟨.hbm, 205, rfl⟩
abbrev main_call4_v0 : Ref sig .tc := ⟨.hbm, 206, rfl⟩
abbrev main_call4_v1 : Ref sig .tc := ⟨.hbm, 207, rfl⟩
abbrev main_call4_v2 : Ref sig .tc := ⟨.hbm, 208, rfl⟩
abbrev main_call4_v3 : Ref sig .tc := ⟨.hbm, 209, rfl⟩
abbrev main_call4_v4 : Ref sig .tc := ⟨.hbm, 210, rfl⟩
abbrev main_call4_v5 : Ref sig .tc := ⟨.hbm, 211, rfl⟩
abbrev main_call4_v6 : Ref sig .tc := ⟨.hbm, 212, rfl⟩
abbrev main_call4_v7 : Ref sig .tc := ⟨.hbm, 213, rfl⟩
abbrev main_call4_v8 : Ref sig .tc := ⟨.hbm, 214, rfl⟩
abbrev main_call4_c : Ref sig .tc := ⟨.hbm, 215, rfl⟩
abbrev main_call4_v9 : Ref sig .tc := ⟨.hbm, 216, rfl⟩
abbrev main_call4_v10 : Ref sig .tc := ⟨.hbm, 217, rfl⟩
abbrev main_call4_v11 : Ref sig .tc := ⟨.hbm, 218, rfl⟩
abbrev main_call4_c_0 : Ref sig .tc := ⟨.hbm, 219, rfl⟩
abbrev main_call4_v12 : Ref sig .tc := ⟨.hbm, 220, rfl⟩
abbrev main_call4_v13 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_v121 : Ref sig .tc := ⟨.hbm, 225, rfl⟩
abbrev main_v122 : Ref sig .tc := ⟨.hbm, 226, rfl⟩
abbrev main_c_19 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_c_20 : Ref sig .tc := ⟨.hbm, 231, rfl⟩
abbrev main_v126 : Ref sig .tc := ⟨.hbm, 232, rfl⟩
abbrev main_v127 : Ref sig .tc := ⟨.hbm, 233, rfl⟩
abbrev main_c_21 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_c_22 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_cst_23 : Ref sig .tc := ⟨.hbm, 243, rfl⟩
abbrev main_v135 : Ref sig .tc := ⟨.hbm, 244, rfl⟩
abbrev main_v136 : Ref sig .tc := ⟨.hbm, 245, rfl⟩
abbrev main_cst_24 : Ref sig .tc := ⟨.hbm, 246, rfl⟩
abbrev main_v137 : Ref sig .tc := ⟨.hbm, 247, rfl⟩
abbrev main_v138 : Ref sig .tc := ⟨.hbm, 248, rfl⟩
abbrev main_cst_25 : Ref sig .tc := ⟨.hbm, 249, rfl⟩
abbrev main_v139 : Ref sig .tc := ⟨.hbm, 250, rfl⟩
abbrev main_v140 : Ref sig .tc := ⟨.hbm, 251, rfl⟩
abbrev main_cst_26 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_cst_27 : Ref sig .tc := ⟨.hbm, 263, rfl⟩
abbrev main_call5_v0 : Ref sig .tc := ⟨.hbm, 264, rfl⟩
abbrev main_call5_v1 : Ref sig .tc := ⟨.hbm, 265, rfl⟩
abbrev main_call5_v2 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_c_28 : Ref sig .tc := ⟨.hbm, 282, rfl⟩
abbrev main_call6_v0 : Ref sig .tc := ⟨.hbm, 283, rfl⟩
abbrev main_v166 : Ref sig .tc := ⟨.hbm, 284, rfl⟩
abbrev main_v167 : Ref sig .tc := ⟨.hbm, 285, rfl⟩
abbrev main_cst_29 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_c_30 : Ref sig .tc := ⟨.hbm, 290, rfl⟩
abbrev main_call7_v0 : Ref sig .tc := ⟨.hbm, 291, rfl⟩
abbrev main_v171 : Ref sig .tc := ⟨.hbm, 292, rfl⟩
abbrev main_v172_0 : Ref sig .tc := ⟨.hbm, 293, rfl⟩
abbrev main_v172_1 : Ref sig .tc := ⟨.hbm, 294, rfl⟩
abbrev main_v172_2 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S128x16x3x16x64 : Shape := ⟨5, ![128, 16, 3, 16, 64]⟩
abbrev S64 : Shape := ⟨1, ![64]⟩
abbrev S128x16x16x64 : Shape := ⟨4, ![128, 16, 16, 64]⟩
abbrev S128x16x16 : Shape := ⟨3, ![128, 16, 16]⟩
abbrev S128x16x1x16x64 : Shape := ⟨5, ![128, 16, 1, 16, 64]⟩
abbrev S_ : Shape := ⟨0, ![]⟩
abbrev S128x16x16x1 : Shape := ⟨4, ![128, 16, 16, 1]⟩
abbrev S1x1x1x64 : Shape := ⟨4, ![1, 1, 1, 64]⟩
abbrev S16x16x128x128 : Shape := ⟨4, ![16, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S16x1x1 : Shape := ⟨3, ![16, 1, 1]⟩
abbrev S1x128x128 : Shape := ⟨3, ![1, 128, 128]⟩
abbrev S16x128x128 : Shape := ⟨3, ![16, 128, 128]⟩
abbrev S1x16x128x128 : Shape := ⟨4, ![1, 16, 128, 128]⟩
abbrev S16x16x128 : Shape := ⟨3, ![16, 16, 128]⟩
abbrev S16x16x128x1 : Shape := ⟨4, ![16, 16, 128, 1]⟩
abbrev S16x16x64x128 : Shape := ⟨4, ![16, 16, 64, 128]⟩
abbrev S16x16x128x64 : Shape := ⟨4, ![16, 16, 128, 64]⟩
abbrev S16x128x3x16x64 : Shape := ⟨5, ![16, 128, 3, 16, 64]⟩
abbrev S2048x3072 : Shape := ⟨2, ![2048, 3072]⟩

abbrev nBuf : Space → Nat
  | .hbm => 255
  | .vmem => 0
  | .smem => 0
  | _ => 0

abbrev hbmTy0_0 (i : Nat) : BufTy := match i % 128 with
  | 0 => ⟨S128x16x3x16x64, .f32⟩
  | 1 => ⟨S64, .f32⟩
  | 2 => ⟨S64, .f32⟩
  | 3 => ⟨S128x16x16x64, .f32⟩
  | 4 => ⟨S128x16x16x64, .f32⟩
  | 5 => ⟨S128x16x16, .f32⟩
  | 6 => ⟨S128x16x16, .f32⟩
  | 7 => ⟨S128x16x16x64, .f32⟩
  | 8 => ⟨S128x16x1x16x64, .f32⟩
  | 9 => ⟨S128x16x16x64, .f32⟩
  | 10 => ⟨S128x16x1x16x64, .f32⟩
  | 11 => ⟨S128x16x16x64, .f32⟩
  | 12 => ⟨S128x16x1x16x64, .f32⟩
  | 13 => ⟨S128x16x16x64, .f32⟩
  | 14 => ⟨S128x16x16x64, .f32⟩
  | 15 => ⟨S_, .f32⟩
  | 16 => ⟨S128x16x16, .f32⟩
  | 17 => ⟨S128x16x16x1, .f32⟩
  | 18 => ⟨S_, .f32⟩
  | 19 => ⟨S128x16x16x1, .f32⟩
  | 20 => ⟨S128x16x16x1, .f32⟩
  | 21 => ⟨S_, .f32⟩
  | 22 => ⟨S128x16x16x1, .f32⟩
  | 23 => ⟨S128x16x16x1, .f32⟩
  | 24 => ⟨S128x16x16x1, .f32⟩
  | 25 => ⟨S128x16x16x1, .f32⟩
  | 26 => ⟨S_, .f32⟩
  | 27 => ⟨S128x16x16x1, .f32⟩
  | 28 => ⟨S128x16x16x1, .f32⟩
  | 29 => ⟨S128x16x16x64, .f32⟩
  | 30 => ⟨S128x16x16x64, .f32⟩
  | 31 => ⟨S1x1x1x64, .f32⟩
  | 32 => ⟨S128x16x16x64, .f32⟩
  | 33 => ⟨S128x16x16x64, .f32⟩
  | 34 => ⟨S128x16x16x64, .f32⟩
  | 35 => ⟨S_, .f32⟩
  | 36 => ⟨S128x16x16, .f32⟩
  | 37 => ⟨S128x16x16x1, .f32⟩
  | 38 => ⟨S_, .f32⟩
  | 39 => ⟨S128x16x16x1, .f32⟩
  | 40 => ⟨S128x16x16x1, .f32⟩
  | 41 => ⟨S_, .f32⟩
  | 42 => ⟨S128x16x16x1, .f32⟩
  | 43 => ⟨S128x16x16x1, .f32⟩
  | 44 => ⟨S128x16x16x1, .f32⟩
  | 45 => ⟨S128x16x16x1, .f32⟩
  | 46 => ⟨S_, .f32⟩
  | 47 => ⟨S128x16x16x1, .f32⟩
  | 48 => ⟨S128x16x16x1, .f32⟩
  | 49 => ⟨S128x16x16x64, .f32⟩
  | 50 => ⟨S128x16x16x64, .f32⟩
  | 51 => ⟨S1x1x1x64, .f32⟩
  | 52 => ⟨S128x16x16x64, .f32⟩
  | 53 => ⟨S128x16x16x64, .f32⟩
  | 54 => ⟨S16x16x128x128, .f32⟩
  | 55 => ⟨S_, .f32⟩
  | 56 => ⟨S16x16x128x128, .f32⟩
  | 57 => ⟨S16x16x128x128, .f32⟩
  | 58 => ⟨S128, .i32⟩
  | 59 => ⟨S128x1, .i32⟩
  | 60 => ⟨S128, .i32⟩
  | 61 => ⟨S1x128, .i32⟩
  | 62 => ⟨S128x128, .i32⟩
  | 63 => ⟨S128x128, .i32⟩
  | 64 => ⟨S128x128, .i32⟩
  | 65 => ⟨S_, .i32⟩
  | 66 => ⟨S128x128, .i32⟩
  | 67 => ⟨S128x128, .i1⟩
  | 68 => ⟨S_, .i32⟩
  | 69 => ⟨S128x128, .i32⟩
  | 70 => ⟨S128x128, .i1⟩
  | 71 => ⟨S128x128, .i1⟩
  | 72 => ⟨S_, .i32⟩
  | 73 => ⟨S128x128, .i32⟩
  | 74 => ⟨S128x128, .i32⟩
  | 75 => ⟨S128x128, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S16, .f32⟩
  | 90 => ⟨S16x1x1, .f32⟩
  | 91 => ⟨S1x128x128, .f32⟩
  | 92 => ⟨S16x128x128, .f32⟩
  | 93 => ⟨S16x128x128, .f32⟩
  | 94 => ⟨S16x128x128, .f32⟩
  | 95 => ⟨S1x16x128x128, .f32⟩
  | 96 => ⟨S16x16x128x128, .f32⟩
  | 97 => ⟨S16x16x128x128, .f32⟩
  | 98 => ⟨S_, .f32⟩
  | 99 => ⟨S_, .f32⟩
  | 100 => ⟨S16x16x128x128, .i1⟩
  | 101 => ⟨S16x16x128x128, .f32⟩
  | 102 => ⟨S16x16x128x128, .f32⟩
  | 103 => ⟨S_, .f32⟩
  | 104 => ⟨S16x16x128x128, .f32⟩
  | 105 => ⟨S16x16x128x128, .f32⟩
  | 106 => ⟨S_, .f32⟩
  | 107 => ⟨S16x16x128, .f32⟩
  | 108 => ⟨S16x16x128, .f32⟩
  | 109 => ⟨S16x16x128x1, .f32⟩
  | 110 => ⟨S16x16x128x128, .f32⟩
  | 111 => ⟨S16x16x128x128, .f32⟩
  | 112 => ⟨S16x16x128x128, .f32⟩
  | 113 => ⟨S16x16x64x128, .f32⟩
  | 114 => ⟨S128x16x16x64, .f32⟩
  | 115 => ⟨S128x16x16, .f32⟩
  | 116 => ⟨S128x16x16, .f32⟩
  | 117 => ⟨S128x16x16, .f32⟩
  | 118 => ⟨S128x16x16, .f32⟩
  | 119 => ⟨S128x16x16, .f32⟩
  | 120 => ⟨S128x16x16, .f32⟩
  | 121 => ⟨S128x16x16, .f32⟩
  | 122 => ⟨S128x16x16, .f32⟩
  | 123 => ⟨S_, .f32⟩
  | 124 => ⟨S128x16x16, .f32⟩
  | 125 => ⟨S128x16x16, .f32⟩
  | 126 => ⟨S128x16x16x1, .f32⟩
  | 127 => ⟨S128x16x16x64, .f32⟩
  | _ => ⟨S128x16x3x16x64, .f32⟩

abbrev hbmTy0_1 (i : Nat) : BufTy := match i % 128 with
  | 0 => ⟨S128x16x16x64, .f32⟩
  | 1 => ⟨S128x16x16, .f32⟩
  | 2 => ⟨S128x16x16, .f32⟩
  | 3 => ⟨S_, .f32⟩
  | 4 => ⟨S128x16x16, .f32⟩
  | 5 => ⟨S128x16x16, .f32⟩
  | 6 => ⟨S128x16x16x1, .f32⟩
  | 7 => ⟨S128x16x16x64, .f32⟩
  | 8 => ⟨S128x16x16x64, .f32⟩
  | 9 => ⟨S128x16x16x64, .f32⟩
  | 10 => ⟨S128x16x16, .f32⟩
  | 11 => ⟨S128x16x16, .f32⟩
  | 12 => ⟨S_, .f32⟩
  | 13 => ⟨S128x16x16, .f32⟩
  | 14 => ⟨S128x16x16, .f32⟩
  | 15 => ⟨S128x16x16x1, .f32⟩
  | 16 => ⟨S128x16x16x64, .f32⟩
  | 17 => ⟨S128x16x16x64, .f32⟩
  | 18 => ⟨S128x16x16x64, .f32⟩
  | 19 => ⟨S128x16x16x64, .f32⟩
  | 20 => ⟨S128x16x16x64, .f32⟩
  | 21 => ⟨S128x16x16x64, .f32⟩
  | 22 => ⟨S128x16x16x64, .f32⟩
  | 23 => ⟨S128x16x16x64, .f32⟩
  | 24 => ⟨S_, .f32⟩
  | 25 => ⟨S128x16x16, .f32⟩
  | 26 => ⟨S128x16x16x1, .f32⟩
  | 27 => ⟨S_, .f32⟩
  | 28 => ⟨S128x16x16, .f32⟩
  | 29 => ⟨S128x16x16, .f32⟩
  | 30 => ⟨S128x16x16, .f32⟩
  | 31 => ⟨S128x16x16, .f32⟩
  | 32 => ⟨S128x16x16, .f32⟩
  | 33 => ⟨S128x16x16, .f32⟩
  | 34 => ⟨S128x16x16x64, .f32⟩
  | 35 => ⟨S_, .f32⟩
  | 36 => ⟨S128x16x16, .f32⟩
  | 37 => ⟨S128x16x16x1, .f32⟩
  | 38 => ⟨S_, .f32⟩
  | 39 => ⟨S128x16x16, .f32⟩
  | 40 => ⟨S128x16x16, .f32⟩
  | 41 => ⟨S128x16x16, .f32⟩
  | 42 => ⟨S128x16x16, .f32⟩
  | 43 => ⟨S128x16x16, .f32⟩
  | 44 => ⟨S128x16x16x64, .f32⟩
  | 45 => ⟨S_, .f32⟩
  | 46 => ⟨S128x16x16, .f32⟩
  | 47 => ⟨S128x16x16x1, .f32⟩
  | 48 => ⟨S_, .f32⟩
  | 49 => ⟨S128x16x16, .f32⟩
  | 50 => ⟨S128x16x16, .f32⟩
  | 51 => ⟨S128x16x16, .f32⟩
  | 52 => ⟨S128x16x16, .f32⟩
  | 53 => ⟨S128x16x16, .f32⟩
  | 54 => ⟨S128x16x16, .f32⟩
  | 55 => ⟨S16x16x128, .f32⟩
  | 56 => ⟨S16x16x64x128, .f32⟩
  | 57 => ⟨S16x16x128x128, .f32⟩
  | 58 => ⟨S16x16x64x128, .f32⟩
  | 59 => ⟨S128x16x16x64, .f32⟩
  | 60 => ⟨S16x16x128x128, .f32⟩
  | 61 => ⟨S16x16x128x128, .f32⟩
  | 62 => ⟨S_, .f32⟩
  | 63 => ⟨S16x16x128, .f32⟩
  | 64 => ⟨S16x16x128x1, .f32⟩
  | 65 => ⟨S_, .f32⟩
  | 66 => ⟨S16x16x128, .f32⟩
  | 67 => ⟨S16x16x128, .f32⟩
  | 68 => ⟨S16x16x128, .f32⟩
  | 69 => ⟨S16x16x128x128, .f32⟩
  | 70 => ⟨S16x16x128x128, .f32⟩
  | 71 => ⟨S16x16x128x128, .f32⟩
  | 72 => ⟨S_, .f32⟩
  | 73 => ⟨S16x16x128x128, .f32⟩
  | 74 => ⟨S16x16x128x128, .f32⟩
  | 75 => ⟨S_, .f32⟩
  | 76 => ⟨S16x16x128x128, .f32⟩
  | 77 => ⟨S16x16x128x128, .f32⟩
  | 78 => ⟨S16x16x128x64, .f32⟩
  | 79 => ⟨S128x16x16x64, .f32⟩
  | 80 => ⟨S16x16x128x64, .f32⟩
  | 81 => ⟨S128x16x16x64, .f32⟩
  | 82 => ⟨S128x16x16x64, .f32⟩
  | 83 => ⟨S128x16x16x64, .f32⟩
  | 84 => ⟨S128x16x16x64, .f32⟩
  | 85 => ⟨S_, .f32⟩
  | 86 => ⟨S128x16x16, .f32⟩
  | 87 => ⟨S128x16x16x1, .f32⟩
  | 88 => ⟨S128x16x16x64, .f32⟩
  | 89 => ⟨S128x16x16x64, .f32⟩
  | 90 => ⟨S128x16x16x1, .f32⟩
  | 91 => ⟨S_, .f32⟩
  | 92 => ⟨S128x16x16x1, .f32⟩
  | 93 => ⟨S128x16x16x1, .f32⟩
  | 94 => ⟨S_, .f32⟩
  | 95 => ⟨S128x16x16, .f32⟩
  | 96 => ⟨S128x16x16x64, .f32⟩
  | 97 => ⟨S128x16x16x64, .f32⟩
  | 98 => ⟨S128x16x16x64, .f32⟩
  | 99 => ⟨S128x16x16x64, .f32⟩
  | 100 => ⟨S128x16x16x64, .f32⟩
  | 101 => ⟨S128x16x16x64, .f32⟩
  | 102 => ⟨S128x16x16x64, .f32⟩
  | 103 => ⟨S128x16x16x64, .f32⟩
  | 104 => ⟨S_, .f32⟩
  | 105 => ⟨S128x16x16, .f32⟩
  | 106 => ⟨S128x16x16x1, .f32⟩
  | 107 => ⟨S128x16x16x64, .f32⟩
  | 108 => ⟨S128x16x16x64, .f32⟩
  | 109 => ⟨S128x16x16x1, .f32⟩
  | 110 => ⟨S_, .f32⟩
  | 111 => ⟨S128x16x16x1, .f32⟩
  | 112 => ⟨S128x16x16x1, .f32⟩
  | 113 => ⟨S_, .f32⟩
  | 114 => ⟨S128x16x16, .f32⟩
  | 115 => ⟨S128x16x16x64, .f32⟩
  | 116 => ⟨S128x16x16x64, .f32⟩
  | 117 => ⟨S128x16x16x64, .f32⟩
  | 118 => ⟨S128x16x16x64, .f32⟩
  | 119 => ⟨S128x16x16x64, .f32⟩
  | 120 => ⟨S128x16x1x16x64, .f32⟩
  | 121 => ⟨S128x16x1x16x64, .f32⟩
  | 122 => ⟨S128x16x1x16x64, .f32⟩
  | 123 => ⟨S128x16x3x16x64, .f32⟩
  | 124 => ⟨S16x128x3x16x64, .f32⟩
  | 125 => ⟨S2048x3072, .f32⟩
  | 126 => ⟨S2048x3072, .bf16⟩
  | _ => ⟨S128x16x3x16x64, .f32⟩

abbrev hbmTy (i : Nat) : BufTy := match i / 128 with
  | 0 => hbmTy0_0 i
  | 1 => hbmTy0_1 i
  | _ => ⟨S128x16x3x16x64, .f32⟩

abbrev bufTy : (tb : Table) → Fin (tcTables nBuf tb) → BufTy
  | .hbm, ⟨i, _⟩ => hbmTy i
  | _, _ => ⟨S128x16x3x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_call0_v0 : Ref sig .tc := ⟨.hbm, 99, rfl⟩
abbrev main_v74_1 : Ref sig .tc := ⟨.hbm, 100, rfl⟩
abbrev main_call0_v2 : Ref sig .tc := ⟨.hbm, 101, rfl⟩
abbrev main_v74_0 : Ref sig .tc := ⟨.hbm, 102, rfl⟩
abbrev main_call0_cst : Ref sig .tc := ⟨.hbm, 103, rfl⟩
abbrev main_v74_2 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_17 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_18 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_19 : Ref sig .tc := ⟨.hbm, 152, rfl⟩
abbrev main_v118 : Ref sig .tc := ⟨.hbm, 153, rfl⟩
abbrev main_v119 : Ref sig .tc := ⟨.hbm, 154, rfl⟩
abbrev main_cst_20 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_21 : Ref sig .tc := ⟨.hbm, 163, rfl⟩
abbrev main_v127 : Ref sig .tc := ⟨.hbm, 164, rfl⟩
abbrev main_v128 : Ref sig .tc := ⟨.hbm, 165, rfl⟩
abbrev main_cst_22 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_23 : Ref sig .tc := ⟨.hbm, 173, rfl⟩
abbrev main_v135 : Ref sig .tc := ⟨.hbm, 174, rfl⟩
abbrev main_v136 : Ref sig .tc := ⟨.hbm, 175, rfl⟩
abbrev main_cst_24 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_25 : Ref sig .tc := ⟨.hbm, 190, rfl⟩
abbrev main_v150 : Ref sig .tc := ⟨.hbm, 191, rfl⟩
abbrev main_v151 : Ref sig .tc := ⟨.hbm, 192, rfl⟩
abbrev main_cst_26 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_call1_cst : Ref sig .tc := ⟨.hbm, 200, rfl⟩
abbrev main_call1_v0 : Ref sig .tc := ⟨.hbm, 201, rfl⟩
abbrev main_v158 : Ref sig .tc := ⟨.hbm, 202, rfl⟩
abbrev main_cst_27 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_28 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_29 : Ref sig .tc := ⟨.hbm, 219, rfl⟩
abbrev main_v173 : Ref sig .tc := ⟨.hbm, 220, rfl⟩
abbrev main_v174 : Ref sig .tc := ⟨.hbm, 221, rfl⟩
abbrev main_cst_30 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_cst_31 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_cst_32 : Ref sig .tc := ⟨.hbm, 238, rfl⟩
abbrev main_v189 : Ref sig .tc := ⟨.hbm, 239, rfl⟩
abbrev main_v190 : Ref sig .tc := ⟨.hbm, 240, rfl⟩
abbrev main_cst_33 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩

abbrev nD : Nat := 1
abbrev τ : Topo := Topo.v7x

variable {F : FTy → Type} [FloatOps F]
-- ==== Dx0.lean ====
abbrev S2048x3072 : Shape := ⟨2, ![2048, 3072]⟩
abbrev S1024x10240 : Shape := ⟨2, ![1024, 10240]⟩
abbrev S2048x1024 : Shape := ⟨2, ![2048, 1024]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S1024x10240, .bf16⟩
  | .hbm, ⟨2, _⟩ => ⟨S2048x1024, .bf16⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Dx0RefIdeal.lean ====
abbrev S2048x3072 : Shape := ⟨2, ![2048, 3072]⟩
abbrev S1024x10240 : Shape := ⟨2, ![1024, 10240]⟩
abbrev S1024x3072 : Shape := ⟨2, ![1024, 3072]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x10240, .bf16⟩
  | .hbm, ⟨2, _⟩ => ⟨S1024x3072, .bf16⟩
  | .hbm, ⟨3, _⟩ => ⟨S_, .f32⟩
  | .hbm, ⟨4, _⟩ => ⟨S2048x1024, .f32⟩
  | .hbm, ⟨5, _⟩ => ⟨S1024x3072, .f32⟩
  | .hbm, ⟨6, _⟩ => ⟨S2048x3072, .f32⟩
  | .hbm, ⟨7, _⟩ => ⟨S2048x3072, .f32⟩
  | .hbm, ⟨8, _⟩ => ⟨S2048x1024, .f32⟩
  | .hbm, ⟨9, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx1.lean ====
abbrev S2048x3072 : Shape := ⟨2, ![2048, 3072]⟩
abbrev S1024x10240 : Shape := ⟨2, ![1024, 10240]⟩
abbrev S2048x1024 : Shape := ⟨2, ![2048, 1024]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S1024x10240, .bf16⟩
  | .hbm, ⟨2, _⟩ => ⟨S2048x1024, .bf16⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Dx1RefIdeal.lean ====
abbrev S2048x3072 : Shape := ⟨2, ![2048, 3072]⟩
abbrev S1024x10240 : Shape := ⟨2, ![1024, 10240]⟩
abbrev S1024x3072 : Shape := ⟨2, ![1024, 3072]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x10240, .bf16⟩
  | .hbm, ⟨2, _⟩ => ⟨S1024x3072, .bf16⟩
  | .hbm, ⟨3, _⟩ => ⟨S_, .f32⟩
  | .hbm, ⟨4, _⟩ => ⟨S2048x1024, .f32⟩
  | .hbm, ⟨5, _⟩ => ⟨S1024x3072, .f32⟩
  | .hbm, ⟨6, _⟩ => ⟨S2048x3072, .f32⟩
  | .hbm, ⟨7, _⟩ => ⟨S2048x3072, .f32⟩
  | .hbm, ⟨8, _⟩ => ⟨S2048x1024, .f32⟩
  | .hbm, ⟨9, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx2.lean ====
abbrev S2048x3072 : Shape := ⟨2, ![2048, 3072]⟩
abbrev S1024x10240 : Shape := ⟨2, ![1024, 10240]⟩
abbrev S2048x1024 : Shape := ⟨2, ![2048, 1024]⟩
abbrev S512x3072 : Shape := ⟨2, ![512, 3072]⟩
abbrev S1024x3072 : Shape := ⟨2, ![1024, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S1024x10240, .bf16⟩
  | .hbm, ⟨2, _⟩ => ⟨S2048x1024, .bf16⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Dx2RefIdeal.lean ====
abbrev S2048x3072 : Shape := ⟨2, ![2048, 3072]⟩
abbrev S1024x10240 : Shape := ⟨2, ![1024, 10240]⟩
abbrev S1024x3072 : Shape := ⟨2, ![1024, 3072]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x10240, .bf16⟩
  | .hbm, ⟨2, _⟩ => ⟨S1024x3072, .bf16⟩
  | .hbm, ⟨3, _⟩ => ⟨S_, .f32⟩
  | .hbm, ⟨4, _⟩ => ⟨S2048x1024, .f32⟩
  | .hbm, ⟨5, _⟩ => ⟨S1024x3072, .f32⟩
  | .hbm, ⟨6, _⟩ => ⟨S2048x3072, .f32⟩
  | .hbm, ⟨7, _⟩ => ⟨S2048x3072, .f32⟩
  | .hbm, ⟨8, _⟩ => ⟨S2048x1024, .f32⟩
  | .hbm, ⟨9, _⟩ => ⟨S2048x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dxz.lean ====
abbrev S2048x1024 : Shape := ⟨2, ![2048, 1024]⟩
abbrev S1024x10240 : Shape := ⟨2, ![1024, 10240]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x10240, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DxzRefIdeal.lean ====
abbrev S2048x1024 : Shape := ⟨2, ![2048, 1024]⟩
abbrev S1024x10240 : Shape := ⟨2, ![1024, 10240]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x10240, .bf16⟩
  | .hbm, ⟨2, _⟩ => ⟨S1024x1024, .bf16⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dw0.lean ====
abbrev S2048x1024 : Shape := ⟨2, ![2048, 1024]⟩
abbrev S2048x3072 : Shape := ⟨2, ![2048, 3072]⟩
abbrev S1024x10240 : Shape := ⟨2, ![1024, 10240]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x10240, .bf16⟩
  | .hbm, ⟨3, _⟩ => ⟨S1024x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Dw0RefIdeal.lean ====
abbrev S2048x1024 : Shape := ⟨2, ![2048, 1024]⟩
abbrev S2048x3072 : Shape := ⟨2, ![2048, 3072]⟩
abbrev S1024x10240 : Shape := ⟨2, ![1024, 10240]⟩
abbrev S_ : Shape := ⟨0, ![]⟩
abbrev S1024x3072 : Shape := ⟨2, ![1024, 3072]⟩
abbrev S3072x1024 : Shape := ⟨2, ![3072, 1024]⟩
abbrev S1024x7168 : Shape := ⟨2, ![1024, 7168]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x10240, .bf16⟩
  | .hbm, ⟨3, _⟩ => ⟨S_, .f32⟩
  | .hbm, ⟨4, _⟩ => ⟨S1024x3072, .f32⟩
  | .hbm, ⟨5, _⟩ => ⟨S2048x1024, .f32⟩
  | .hbm, ⟨6, _⟩ => ⟨S2048x3072, .f32⟩
  | .hbm, ⟨7, _⟩ => ⟨S2048x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S1024x7168, .bf16⟩
  | .hbm, ⟨12, _⟩ => ⟨S1024x10240, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dw1.lean ====
abbrev S2048x1024 : Shape := ⟨2, ![2048, 1024]⟩
abbrev S2048x3072 : Shape := ⟨2, ![2048, 3072]⟩
abbrev S1024x10240 : Shape := ⟨2, ![1024, 10240]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x10240, .bf16⟩
  | .hbm, ⟨3, _⟩ => ⟨S1024x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Dw1RefIdeal.lean ====
abbrev S2048x1024 : Shape := ⟨2, ![2048, 1024]⟩
abbrev S2048x3072 : Shape := ⟨2, ![2048, 3072]⟩
abbrev S1024x10240 : Shape := ⟨2, ![1024, 10240]⟩
abbrev S1024x3072 : Shape := ⟨2, ![1024, 3072]⟩
abbrev S_ : Shape := ⟨0, ![]⟩
abbrev S3072x1024 : Shape := ⟨2, ![3072, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x10240, .bf16⟩
  | .hbm, ⟨3, _⟩ => ⟨S1024x3072, .bf16⟩
  | .hbm, ⟨4, _⟩ => ⟨S_, .f32⟩
  | .hbm, ⟨5, _⟩ => ⟨S1024x3072, .f32⟩
  | .hbm, ⟨6, _⟩ => ⟨S2048x1024, .f32⟩
  | .hbm, ⟨7, _⟩ => ⟨S2048x3072, .f32⟩
  | .hbm, ⟨8, _⟩ => ⟨S2048x3072, .f32⟩
  | .hbm, ⟨9, _⟩ => ⟨S3072x1024, .f32⟩
  | .hbm, ⟨10, _⟩ => ⟨S1024x3072, .f32⟩
  | .hbm, ⟨11, _⟩ => ⟨S1024x3072, .bf16⟩
  | .hbm, ⟨12, _⟩ => ⟨S1024x4096, .bf16⟩
  | .hbm, ⟨13, _⟩ => ⟨S1024x10240, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Dw2.lean ====
abbrev S2048x1024 : Shape := ⟨2, ![2048, 1024]⟩
abbrev S2048x3072 : Shape := ⟨2, ![2048, 3072]⟩
abbrev S1024x10240 : Shape := ⟨2, ![1024, 10240]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x10240, .bf16⟩
  | .hbm, ⟨3, _⟩ => ⟨S1024x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Dw2RefIdeal.lean ====
abbrev S2048x1024 : Shape := ⟨2, ![2048, 1024]⟩
abbrev S2048x3072 : Shape := ⟨2, ![2048, 3072]⟩
abbrev S1024x10240 : Shape := ⟨2, ![1024, 10240]⟩
abbrev S1024x6144 : Shape := ⟨2, ![1024, 6144]⟩
abbrev S_ : Shape := ⟨0, ![]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x10240, .bf16⟩
  | .hbm, ⟨3, _⟩ => ⟨S1024x6144, .bf16⟩
  | .hbm, ⟨4, _⟩ => ⟨S_, .f32⟩
  | .hbm, ⟨5, _⟩ => ⟨S1024x3072, .f32⟩
  | .hbm, ⟨6, _⟩ => ⟨S2048x1024, .f32⟩
  | .hbm, ⟨7, _⟩ => ⟨S2048x3072, .f32⟩
  | .hbm, ⟨8, _⟩ => ⟨S2048x3072, .f32⟩
  | .hbm, ⟨9, _⟩ => ⟨S3072x1024, .f32⟩
  | .hbm, ⟨10, _⟩ => ⟨S1024x3072, .f32⟩
  | .hbm, ⟨11, _⟩ => ⟨S1024x3072, .bf16⟩
  | .hbm, ⟨12, _⟩ => ⟨S1024x1024, .bf16⟩
  | .hbm, ⟨13, _⟩ => ⟨S1024x10240, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Dwz.lean ====
abbrev S2048x1024 : Shape := ⟨2, ![2048, 1024]⟩
abbrev S1024x10240 : Shape := ⟨2, ![1024, 10240]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x10240, .bf16⟩
  | .hbm, ⟨3, _⟩ => ⟨S1024x10240, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg0 c9_i32
  let c0_i32 : BitVec 32 := 0#32
  let c0_i32_0 : BitVec 32 := 0#32
  ![c0_i32.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwzRefIdeal.lean ====
abbrev S2048x1024 : Shape := ⟨2, ![2048, 1024]⟩
abbrev S1024x10240 : Shape := ⟨2, ![1024, 10240]⟩
abbrev S1024x9216 : Shape := ⟨2, ![1024, 9216]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x10240, .bf16⟩
  | .hbm, ⟨3, _⟩ => ⟨S1024x9216, .bf16⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x10240, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dxa.lean ====
abbrev S2048x1024 : Shape := ⟨2, ![2048, 1024]⟩
abbrev S1024x3072 : Shape := ⟨2, ![1024, 3072]⟩
abbrev S512x1024 : Shape := ⟨2, ![512, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S1024x3072, .bf16⟩
  | .hbm, ⟨4, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DxaRefIdeal.lean ====
abbrev S2048x1024 : Shape := ⟨2, ![2048, 1024]⟩
abbrev S1024x3072 : Shape := ⟨2, ![1024, 3072]⟩
abbrev S2048x3072 : Shape := ⟨2, ![2048, 3072]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S1024x3072, .bf16⟩
  | .hbm, ⟨4, _⟩ => ⟨S2048x3072, .bf16⟩
  | .hbm, ⟨5, _⟩ => ⟨S_, .f32⟩
  | .hbm, ⟨6, _⟩ => ⟨S2048x1024, .f32⟩
  | .hbm, ⟨7, _⟩ => ⟨S1024x3072, .f32⟩
  | .hbm, ⟨8, _⟩ => ⟨S2048x3072, .f32⟩
  | .hbm, ⟨9, _⟩ => ⟨S2048x3072, .f32⟩
  | .hbm, ⟨10, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Dwa0.lean ====
abbrev S2048x1024 : Shape := ⟨2, ![2048, 1024]⟩
abbrev S1024x3072 : Shape := ⟨2, ![1024, 3072]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Dwa0RefIdeal.lean ====
abbrev S2048x1024 : Shape := ⟨2, ![2048, 1024]⟩
abbrev S1024x3072 : Shape := ⟨2, ![1024, 3072]⟩
abbrev S_ : Shape := ⟨0, ![]⟩
abbrev S1024x1024 : Shape := ⟨2, ![1024, 1024]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x2048, .bf16⟩
  | .hbm, ⟨12, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dwa1.lean ====
abbrev S2048x1024 : Shape := ⟨2, ![2048, 1024]⟩
abbrev S1024x3072 : Shape := ⟨2, ![1024, 3072]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![c0_i32.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Dwa1RefIdeal.lean ====
abbrev S2048x1024 : Shape := ⟨2, ![2048, 1024]⟩
abbrev S1024x3072 : Shape := ⟨2, ![1024, 3072]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S1024x1024, .bf16⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Dwa2.lean ====
abbrev S2048x1024 : Shape := ⟨2, ![2048, 1024]⟩
abbrev S1024x3072 : Shape := ⟨2, ![1024, 3072]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Dwa2RefIdeal.lean ====
abbrev S2048x1024 : Shape := ⟨2, ![2048, 1024]⟩
abbrev S1024x3072 : Shape := ⟨2, ![1024, 3072]⟩
abbrev S1024x2048 : Shape := ⟨2, ![1024, 2048]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x3072, .bf16⟩
  | .hbm, ⟨3, _⟩ => ⟨S1024x2048, .bf16⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FwdIn.lean ====
abbrev S2048x1024 : Shape := ⟨2, ![2048, 1024]⟩
abbrev S1024x3072 : Shape := ⟨2, ![1024, 3072]⟩
abbrev S2048x3072 : Shape := ⟨2, ![2048, 3072]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x3072, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdInRefIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S2048x1024, .f32⟩
  | .hbm, ⟨3, _⟩ => ⟨S1024x3072, .f32⟩
  | .hbm, ⟨4, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdOut.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdOutRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwdZ.lean ====
abbrev S2048x1024 : Shape := ⟨2, ![2048, 1024]⟩
abbrev S1024x10240 : Shape := ⟨2, ![1024, 10240]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x10240, .bf16⟩
  | .hbm, ⟨2, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c18_i32 : BitVec 32 := 18#32
  let v0 : BitVec 32 := Scalar.addi arg0 c18_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FwdZRefIdeal.lean ====
abbrev S2048x1024 : Shape := ⟨2, ![2048, 1024]⟩
abbrev S1024x10240 : Shape := ⟨2, ![1024, 10240]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x10240, .bf16⟩
  | .hbm, ⟨2, _⟩ => ⟨S2048x1024, .f32⟩
  | .hbm, ⟨3, _⟩ => ⟨S1024x1024, .bf16⟩
  | .hbm, ⟨4, _⟩ => ⟨S1024x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MidFwd.lean ====
abbrev S2048x1024 : Shape := ⟨2, ![2048, 1024]⟩
abbrev S2048x3072 : Shape := ⟨2, ![2048, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MidFwdRefIdeal.lean ====
abbrev S2048x1024 : Shape := ⟨2, ![2048, 1024]⟩
abbrev S2048x3072 : Shape := ⟨2, ![2048, 3072]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== AdaFwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdaFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdaBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdaBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== MidBwd.lean ====
abbrev S2048x1024 : Shape := ⟨2, ![2048, 1024]⟩
abbrev S2048x3072 : Shape := ⟨2, ![2048, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x3072, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MidBwdRefIdeal.lean ====
abbrev S2048x1024 : Shape := ⟨2, ![2048, 1024]⟩
abbrev S2048x3072 : Shape := ⟨2, ![2048, 3072]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 208
  | .vmem => 0
  | .smem => 0
  | _ => 0

abbrev hbmTy0_0 (i : Nat) : BufTy := match i % 128 with
  | 0 => ⟨S2048x1024, .bf16⟩
  | 1 => ⟨S2048x1024, .f32⟩
  | 2 => ⟨S2048x3072, .f32⟩
  | 3 => ⟨S1x1024, .f32⟩
  | 4 => ⟨S1x1024, .f32⟩
  | 5 => ⟨S2048x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S2048x1024, .f32⟩
  | 14 => ⟨S2048x1024, .f32⟩
  | 15 => ⟨S2048x1024, .f32⟩
  | 16 => ⟨S_, .f32⟩
  | 17 => ⟨S2048, .f32⟩
  | 18 => ⟨S2048x1, .f32⟩
  | 19 => ⟨S_, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1, .f32⟩
  | 26 => ⟨S2048x1, .f32⟩
  | 27 => ⟨S_, .f32⟩
  | 28 => ⟨S2048x1, .f32⟩
  | 29 => ⟨S2048x1, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S_, .f32⟩
  | 68 => ⟨S2048, .f32⟩
  | 69 => ⟨S2048x1, .f32⟩
  | 70 => ⟨S2048x1024, .f32⟩
  | 71 => ⟨S2048x1024, .f32⟩
  | 72 => ⟨S2048x1, .f32⟩
  | 73 => ⟨S_, .f32⟩
  | 74 => ⟨S2048x1, .f32⟩
  | 75 => ⟨S2048x1, .f32⟩
  | 76 => ⟨S_, .f32⟩
  | 77 => ⟨S2048, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S2048x1024, .f32⟩
  | 84 => ⟨S_, .f32⟩
  | 85 => ⟨S2048, .f32⟩
  | 86 => ⟨S2048x1, .f32⟩
  | 87 => ⟨S_, .f32⟩
  | 88 => ⟨S2048x1, .f32⟩
  | 89 => ⟨S2048x1, .f32⟩
  | 90 => ⟨S_, .f32⟩
  | 91 => ⟨S2048, .f32⟩
  | 92 => ⟨S2048x1024, .f32⟩
  | 93 => ⟨S2048x1024, .f32⟩
  | 94 => ⟨S_, .f32⟩
  | 95 => ⟨S2048, .f32⟩
  | 96 => ⟨S2048x1, .f32⟩
  | 97 => ⟨S_, .f32⟩
  | 98 => ⟨S2048x1, .f32⟩
  | 99 => ⟨S2048x1, .f32⟩
  | 100 => ⟨S2048x1024, .f32⟩
  | 101 => ⟨S2048x1024, .f32⟩
  | 102 => ⟨S2048x1024, .f32⟩
  | 103 => ⟨S_, .f32⟩
  | 104 => ⟨S2048, .f32⟩
  | 105 => ⟨S2048x1, .f32⟩
  | 106 => ⟨S_, .f32⟩
  | 107 => ⟨S2048x1, .f32⟩
  | 108 => ⟨S2048x1, .f32⟩
  | 109 => ⟨S_, .f32⟩
  | 110 => ⟨S2048x1, .f32⟩
  | 111 => ⟨S2048x1, .f32⟩
  | 112 => ⟨S2048x1, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S_, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S2048x1024, .f32⟩
  | _ => ⟨S2048x1024, .bf16⟩

abbrev hbmTy0_1 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S_, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S_, .f32⟩
  | 20 => ⟨S2048, .f32⟩
  | 21 => ⟨S2048x1, .f32⟩
  | 22 => ⟨S_, .f32⟩
  | 23 => ⟨S2048x1, .f32⟩
  | 24 => ⟨S2048x1, .f32⟩
  | 25 => ⟨S2048x1024, .f32⟩
  | 26 => ⟨S2048x1024, .f32⟩
  | 27 => ⟨S2048x1024, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S_, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S2048x1024, .f32⟩
  | 72 => ⟨S_, .f32⟩
  | 73 => ⟨S1024, .f32⟩
  | 74 => ⟨S1x1024, .f32⟩
  | 75 => ⟨S2048x1024, .f32⟩
  | 76 => ⟨S_, .f32⟩
  | 77 => ⟨S1024, .f32⟩
  | 78 => ⟨S1x1024, .f32⟩
  | 79 => ⟨S2048x1024, .bf16⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v25_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v25_1 : Ref sig .tc := ⟨.hbm, 47, rfl⟩
abbrev main_v25_0 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_6 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_cst_9 : Ref sig .tc := ⟨.hbm, 87, rfl⟩
abbrev main_v49 : Ref sig .tc := ⟨.hbm, 88, rfl⟩
abbrev main_v50 : Ref sig .tc := ⟨.hbm, 89, rfl⟩
abbrev main_cst_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_11 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_13 : Ref sig .tc := ⟨.hbm, 103, rfl⟩
abbrev main_v61 : Ref sig .tc := ⟨.hbm, 104, rfl⟩
abbrev main_v62 : Ref sig .tc := ⟨.hbm, 105, rfl⟩
abbrev main_cst_14 : Ref sig .tc := ⟨.hbm, 106, rfl⟩
abbrev main_v63 : Ref sig .tc := ⟨.hbm, 107, rfl⟩
abbrev main_v64 : Ref sig .tc := ⟨.hbm, 108, rfl⟩
abbrev main_cst_15 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v74 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_v75_2 : Ref sig .tc := ⟨.hbm, 135, rfl⟩
abbrev main_call4_cst_1 : Ref sig .tc := ⟨.hbm, 136, rfl⟩
abbrev main_call4_v6 : Ref sig .tc := ⟨.hbm, 137, rfl⟩
abbrev main_call4_v7 : Ref sig .tc := ⟨.hbm, 138, rfl⟩
abbrev main_v75_1 : Ref sig .tc := ⟨.hbm, 139, rfl⟩
abbrev main_v75_0 : Ref sig .tc := ⟨.hbm, 140, rfl⟩
abbrev main_v76 : Ref sig .tc := ⟨.hbm, 141, rfl⟩
abbrev main_v77 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v78 : Ref sig .tc := ⟨.hbm, 146, rfl⟩
abbrev main_cst_16 : Ref sig .tc := ⟨.hbm, 147, rfl⟩
abbrev main_v79 : Ref sig .tc := ⟨.hbm, 148, rfl⟩
abbrev main_v80 : Ref sig .tc := ⟨.hbm, 149, rfl⟩
abbrev main_cst_17 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_18 : Ref sig .tc := ⟨.hbm, 156, rfl⟩
abbrev main_v86 : Ref sig .tc := ⟨.hbm, 157, rfl⟩
abbrev main_v87 : Ref sig .tc := ⟨.hbm, 158, rfl⟩
abbrev main_cst_19 : Ref sig .tc := ⟨.hbm, 159, rfl⟩
abbrev main_v88 : Ref sig .tc := ⟨.hbm, 160, rfl⟩
abbrev main_v89 : Ref sig .tc := ⟨.hbm, 161, rfl⟩
abbrev main_cst_20 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_v99_2 : Ref sig .tc := ⟨.hbm, 179, rfl⟩
abbrev main_call6_cst_1 : Ref sig .tc := ⟨.hbm, 180, rfl⟩
abbrev main_call6_v6 : Ref sig .tc := ⟨.hbm, 181, rfl⟩
abbrev main_call6_v7 : Ref sig .tc := ⟨.hbm, 182, rfl⟩
abbrev main_v99_1 : Ref sig .tc := ⟨.hbm, 183, rfl⟩
abbrev main_v99_0 : Ref sig .tc := ⟨.hbm, 184, rfl⟩
abbrev main_call7_v0 : Ref sig .tc := ⟨.hbm, 185, rfl⟩
abbrev main_call7_v1 : Ref sig .tc := ⟨.hbm, 186, rfl⟩
abbrev main_call7_cst : Ref sig .tc := ⟨.hbm, 187, rfl⟩
abbrev main_call7_v2 : Ref sig .tc := ⟨.hbm, 188, rfl⟩
abbrev main_call7_v3 : Ref sig .tc := ⟨.hbm, 189, rfl⟩
abbrev main_call7_cst_0 : Ref sig .tc := ⟨.hbm, 190, rfl⟩
abbrev main_call7_v4 : Ref sig .tc := ⟨.hbm, 191, rfl⟩
abbrev main_call7_v5 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_call8_v0 : Ref sig .tc := ⟨.hbm, 196, rfl⟩
abbrev main_call8_v1 : Ref sig .tc := ⟨.hbm, 197, rfl⟩
abbrev main_call8_v2 : Ref sig .tc := ⟨.hbm, 198, rfl⟩
abbrev main_v103 : Ref sig .tc := ⟨.hbm, 199, rfl⟩
abbrev main_cst_21 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_cst_22 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩

abbrev nD : Nat := 1
abbrev τ : Topo := Topo.v7x

variable {F : FTy → Type} [FloatOps F]
-- ==== Loss.lean ====
abbrev S2048x1024 : Shape := ⟨2, ![2048, 1024]⟩
abbrev S1024x1024 : Shape := ⟨2, ![1024, 1024]⟩
abbrev S1x1024 : Shape := ⟨2, ![1, 1024]⟩
abbrev S1x1 : Shape := ⟨2, ![1, 1]⟩
abbrev S1024x512 : Shape := ⟨2, ![1024, 512]⟩
abbrev S2048x512 : Shape := ⟨2, ![2048, 512]⟩
abbrev S1x512 : Shape := ⟨2, ![1, 512]⟩
abbrev S512 : Shape := ⟨1, ![512]⟩
abbrev S1 : Shape := ⟨1, ![1]⟩

abbrev nBuf : Space → Nat
  | .hbm => 9
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S1x512, .f32⟩
  | .local _ .vmem, ⟨6, _⟩ => ⟨S1x512, .f32⟩
  | .local _ .vmem, ⟨7, _⟩ => ⟨S2048x512, .f32⟩
  | .local _ .vmem, ⟨8, _⟩ => ⟨S2048x512, .f32⟩
  | .local _ .vmem, ⟨9, _⟩ => ⟨S1x1, .f32⟩
  | .local _ .vmem, ⟨10, _⟩ => ⟨S2048x512, .f32⟩
  | .local _ .vmem, ⟨11, _⟩ => ⟨S2048x512, .f32⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x1, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v35 : BitVec 1 := Scalar.cmpi .eq arg0 c1_i32
  let v36 : BitVec 32 := Scalar.extui v35
  let c0_i32_26 : BitVec 32 := 0#32
  let v37 : BitVec 1 := Scalar.cmpi .ne v36 c0_i32_26
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LossRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S1024 : Shape := ⟨1, ![1024]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1x1, .f32⟩
  | .hbm, ⟨41, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInB.lean ====
abbrev S8x1024x1280 : Shape := ⟨3, ![8, 1024, 1280]⟩
abbrev S1024x1280 : Shape := ⟨2, ![1024, 1280]⟩
abbrev S8x256x1280 : Shape := ⟨3, ![8, 256, 1280]⟩
abbrev S256x1280 : Shape := ⟨2, ![256, 1280]⟩
abbrev S1x256x1280 : Shape := ⟨3, ![1, 256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .hbm, ⟨7, _⟩ => ⟨S1024x1280, .f32⟩
  | .local _ .vmem, ⟨0, _⟩ => ⟨S8x256x1280, .bf16⟩
  | .local _ .vmem, ⟨1, _⟩ => ⟨S8x256x1280, .bf16⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S8x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInBRefIdeal.lean ====
abbrev S8x1024x1280 : Shape := ⟨3, ![8, 1024, 1280]⟩
abbrev S1024x1280 : Shape := ⟨2, ![1024, 1280]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1280, .bf16⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S8x1024x1280, .f32⟩
  | .hbm, ⟨5, _⟩ => ⟨S_, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S_, .f32⟩
  | .hbm, ⟨11, _⟩ => ⟨S1024x1280, .f32⟩
  | .hbm, ⟨12, _⟩ => ⟨S1024x1280, .f32⟩
  | .hbm, ⟨13, _⟩ => ⟨S1024x1280, .f32⟩
  | .hbm, ⟨14, _⟩ => ⟨S_, .f32⟩
  | .hbm, ⟨15, _⟩ => ⟨S1024x1280, .f32⟩
  | .hbm, ⟨16, _⟩ => ⟨S1024x1280, .f32⟩
  | .hbm, ⟨17, _⟩ => ⟨S1024x1280, .f32⟩
  | .hbm, ⟨18, _⟩ => ⟨S_, .f32⟩
  | .hbm, ⟨19, _⟩ => ⟨S1024x1280, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S_, .f32⟩
  | .hbm, ⟨26, _⟩ => ⟨S1024x1280, .f32⟩
  | .hbm, ⟨27, _⟩ => ⟨S1024x1280, .f32⟩
  | .hbm, ⟨28, _⟩ => ⟨S1024x1280, .f32⟩
  | .hbm, ⟨29, _⟩ => ⟨S_, .f32⟩
  | .hbm, ⟨30, _⟩ => ⟨S1024x1280, .f32⟩
  | .hbm, ⟨31, _⟩ => ⟨S1024x1280, .f32⟩
  | .hbm, ⟨32, _⟩ => ⟨S1024x1280, .f32⟩
  | .hbm, ⟨33, _⟩ => ⟨S_, .f32⟩
  | .hbm, ⟨34, _⟩ => ⟨S1024x1280, .f32⟩
  | .hbm, ⟨35, _⟩ => ⟨S1024x1280, .f32⟩
  | .hbm, ⟨36, _⟩ => ⟨S1024x1280, .f32⟩
  | .hbm, ⟨37, _⟩ => ⟨S_, .f32⟩
  | .hbm, ⟨38, _⟩ => ⟨S1024x1280, .f32⟩
  | .hbm, ⟨39, _⟩ => ⟨S1024x1280, .f32⟩
  | _, _ => ⟨S8x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamInA.lean ====
abbrev S8x1024x384 : Shape := ⟨3, ![8, 1024, 384]⟩
abbrev S1024x384 : Shape := ⟨2, ![1024, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x256x384, .bf16⟩
  | .local _ .vmem, ⟨1, _⟩ => ⟨S8x256x384, .bf16⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInARefIdeal.lean ====
abbrev S8x1024x384 : Shape := ⟨3, ![8, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AttnFwd.lean ====
abbrev S128x16x3x16x64 : Shape := ⟨5, ![128, 16, 3, 16, 64]⟩
abbrev S64 : Shape := ⟨1, ![64]⟩
abbrev S128x16x1x16x64 : Shape := ⟨5, ![128, 16, 1, 16, 64]⟩
abbrev S128x16x16x64 : Shape := ⟨4, ![128, 16, 16, 64]⟩
abbrev S_ : Shape := ⟨0, ![]⟩
abbrev S128x16x16 : Shape := ⟨3, ![128, 16, 16]⟩
abbrev S128x16x16x1 : Shape := ⟨4, ![128, 16, 16, 1]⟩
abbrev S1x1x1x64 : Shape := ⟨4, ![1, 1, 1, 64]⟩
abbrev S128x16x2x16x64 : Shape := ⟨5, ![128, 16, 2, 16, 64]⟩
abbrev S16x128x2x16x64 : Shape := ⟨5, ![16, 128, 2, 16, 64]⟩
abbrev S2048x2048 : Shape := ⟨2, ![2048, 2048]⟩
abbrev S16x128x3x16x64 : Shape := ⟨5, ![16, 128, 3, 16, 64]⟩
abbrev S2048x3072 : Shape := ⟨2, ![2048, 3072]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S16x128x256 : Shape := ⟨3, ![16, 128, 256]⟩
abbrev S2048x1024 : Shape := ⟨2, ![2048, 1024]⟩
abbrev S2048x128 : Shape := ⟨2, ![2048, 128]⟩
abbrev S128x1024 : Shape := ⟨2, ![128, 1024]⟩
abbrev S128x128 : Shape := ⟨2, ![128, 128]⟩
abbrev S16x128x128 : Shape := ⟨3, ![16, 128, 128]⟩
abbrev S8x256x128 : Shape := ⟨3, ![8, 256, 128]⟩
abbrev S1x128 : Shape := ⟨2, ![1, 128]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S1x256x128 : Shape := ⟨3, ![1, 256, 128]⟩
abbrev S256x256 : Shape := ⟨2, ![256, 256]⟩

abbrev nBuf : Space → Nat
  | .hbm => 96
  | .vmem => 13
  | .smem => 0
  | _ => 0

abbrev bufTy : (tb : Table) → Fin (tcTables nBuf tb) → BufTy
  | .hbm, ⟨0, _⟩ => ⟨S128x16x3x16x64, .f32⟩
  | .hbm, ⟨1, _⟩ => ⟨S64, .f32⟩
  | .hbm, ⟨2, _⟩ => ⟨S64, .f32⟩
  | .hbm, ⟨3, _⟩ => ⟨S128x16x1x16x64, .f32⟩
  | .hbm, ⟨4, _⟩ => ⟨S128x16x16x64, .f32⟩
  | .hbm, ⟨5, _⟩ => ⟨S128x16x16x64, .f32⟩
  | .hbm, ⟨6, _⟩ => ⟨S_, .f32⟩
  | .hbm, ⟨7, _⟩ => ⟨S128x16x16, .f32⟩
  | .hbm, ⟨8, _⟩ => ⟨S128x16x16x1, .f32⟩
  | .hbm, ⟨9, _⟩ => ⟨S_, .f32⟩
  | .hbm, ⟨10, _⟩ => ⟨S128x16x16x1, .f32⟩
  | .hbm, ⟨11, _⟩ => ⟨S128x16x16x1, .f32⟩
  | .hbm, ⟨12, _⟩ => ⟨S_, .f32⟩
  | .hbm, ⟨13, _⟩ => ⟨S128x16x16x1, .f32⟩
  | .hbm, ⟨14, _⟩ => ⟨S128x16x16x1, .f32⟩
  | .hbm, ⟨15, _⟩ => ⟨S128x16x16x1, .f32⟩
  | .hbm, ⟨16, _⟩ => ⟨S128x16x16x64, .f32⟩
  | .hbm, ⟨17, _⟩ => ⟨S128x16x16x64, .f32⟩
  | .hbm, ⟨18, _⟩ => ⟨S1x1x1x64, .f32⟩
  | .hbm, ⟨19, _⟩ => ⟨S128x16x16x64, .f32⟩
  | .hbm, ⟨20, _⟩ => ⟨S128x16x16x64, .f32⟩
  | .hbm, ⟨21, _⟩ => ⟨S128x16x1x16x64, .f32⟩
  | .hbm, ⟨22, _⟩ => ⟨S128x16x16x64, .f32⟩
  | .hbm, ⟨23, _⟩ => ⟨S128x16x16x64, .f32⟩
  | .hbm, ⟨24, _⟩ => ⟨S_, .f32⟩
  | .hbm, ⟨25, _⟩ => ⟨S128x16x16, .f32⟩
  | .hbm, ⟨26, _⟩ => ⟨S128x16x16x1, .f32⟩
  | .hbm, ⟨27, _⟩ => ⟨S_, .f32⟩
  | .hbm, ⟨28, _⟩ => ⟨S128x16x16x1, .f32⟩
  | .hbm, ⟨29, _⟩ => ⟨S128x16x16x1, .f32⟩
  | .hbm, ⟨30, _⟩ => ⟨S_, .f32⟩
  | .hbm, ⟨31, _⟩ => ⟨S128x16x16x1, .f32⟩
  | .hbm, ⟨32, _⟩ => ⟨S128x16x16x1, .f32⟩
  | .hbm, ⟨33, _⟩ => ⟨S128x16x16x1, .f32⟩
  | .hbm, ⟨34, _⟩ => ⟨S128x16x16x64, .f32⟩
  | .hbm, ⟨35, _⟩ => ⟨S128x16x16x64, .f32⟩
  | .hbm, ⟨36, _⟩ => ⟨S1x1x1x64, .f32⟩
  | .hbm, ⟨37, _⟩ => ⟨S128x16x16x64, .f32⟩
  | .hbm, ⟨38, _⟩ => ⟨S128x16x16x64, .f32⟩
  | .hbm, ⟨39, _⟩ => ⟨S_, .f32⟩
  | .hbm, ⟨40, _⟩ => ⟨S128x16x16x64, .f32⟩
  | .hbm, ⟨41, _⟩ => ⟨S128x16x16x64, .f32⟩
  | .hbm, ⟨42, _⟩ => ⟨S128x16x1x16x64, .f32⟩
  | .hbm, ⟨43, _⟩ => ⟨S128x16x1x16x64, .f32⟩
  | .hbm, ⟨44, _⟩ => ⟨S128x16x2x16x64, .f32⟩
  | .hbm, ⟨45, _⟩ => ⟨S16x128x2x16x64, .f32⟩
  | .hbm, ⟨46, _⟩ => ⟨S2048x2048, .f32⟩
  | .hbm, ⟨47, _⟩ => ⟨S2048x2048, .bf16⟩
  | .hbm, ⟨48, _⟩ => ⟨S16x128x3x16x64, .f32⟩
  | .hbm, ⟨49, _⟩ => ⟨S2048x3072, .f32⟩
  | .hbm, ⟨50, _⟩ => ⟨S2048x3072, .bf16⟩
  | .hbm, ⟨51, _⟩ => ⟨S128x256, .i32⟩
  | .hbm, ⟨52, _⟩ => ⟨S128x256, .i32⟩
  | .hbm, ⟨53, _⟩ => ⟨S_, .i32⟩
  | .hbm, ⟨54, _⟩ => ⟨S128x256, .i32⟩
  | .hbm, ⟨55, _⟩ => ⟨S128x256, .i32⟩
  | .hbm, ⟨56, _⟩ => ⟨S128x256, .i32⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i1⟩
  | .hbm, ⟨64, _⟩ => ⟨S_, .i32⟩
  | .hbm, ⟨65, _⟩ => ⟨S128x256, .i32⟩
  | .hbm, ⟨66, _⟩ => ⟨S128x256, .i32⟩
  | .hbm, ⟨67, _⟩ => ⟨S128x256, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16, .f32⟩
  | .hbm, ⟨82, _⟩ => ⟨S16x1x1, .f32⟩
  | .hbm, ⟨83, _⟩ => ⟨S1x128x256, .i1⟩
  | .hbm, ⟨84, _⟩ => ⟨S16x1x1, .f32⟩
  | .hbm, ⟨85, _⟩ => ⟨S1x128x256, .f32⟩
  | .hbm, ⟨86, _⟩ => ⟨S16x128x256, .f32⟩
  | .hbm, ⟨87, _⟩ => ⟨S16x128x256, .f32⟩
  | .hbm, ⟨88, _⟩ => ⟨S16x128x256, .f32⟩
  | .hbm, ⟨89, _⟩ => ⟨S_, .f32⟩
  | .hbm, ⟨90, _⟩ => ⟨S_, .f32⟩
  | .hbm, ⟨91, _⟩ => ⟨S16x128x256, .i1⟩
  | .hbm, ⟨92, _⟩ => ⟨S16x128x256, .f32⟩
  | .hbm, ⟨93, _⟩ => ⟨S16x128x256, .f32⟩
  | .hbm, ⟨94, _⟩ => ⟨S2048x1024, .bf16⟩
  | .hbm, ⟨95, _⟩ => ⟨S2048x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S16x128x256, .f32⟩
  | .local _ .vmem, ⟨7, _⟩ => ⟨S128x1024, .bf16⟩
  | .local _ .vmem, ⟨8, _⟩ => ⟨S128x1024, .bf16⟩
  | .local _ .vmem, ⟨9, _⟩ => ⟨S128x128, .f32⟩
  | .local _ .vmem, ⟨10, _⟩ => ⟨S128x128, .f32⟩
  | .local _ .vmem, ⟨11, _⟩ => ⟨S16x128x128, .f32⟩
  | .local _ .vmem, ⟨12, _⟩ => ⟨S8x256x128, .bf16⟩
  | _, _ => ⟨S128x16x3x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_c_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v71 : Ref sig .tc := ⟨.hbm, 93, rfl⟩
abbrev main_v72_0 : Ref sig .tc := ⟨.hbm, 94, rfl⟩
abbrev main_v72_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFwdRefIdeal.lean ====
abbrev S128x16x3x16x64 : Shape := ⟨5, ![128, 16, 3, 16, 64]⟩
abbrev S64 : Shape := ⟨1, ![64]⟩
abbrev S128x16x1x16x64 : Shape := ⟨5, ![128, 16, 1, 16, 64]⟩
abbrev S128x16x16x64 : Shape := ⟨4, ![128, 16, 16, 64]⟩
abbrev S_ : Shape := ⟨0, ![]⟩
abbrev S128x16x16 : Shape := ⟨3, ![128, 16, 16]⟩
abbrev S128x16x16x1 : Shape := ⟨4, ![128, 16, 16, 1]⟩
abbrev S1x1x1x64 : Shape := ⟨4, ![1, 1, 1, 64]⟩
abbrev S16x16x128x128 : Shape := ⟨4, ![16, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S16x1x1 : Shape := ⟨3, ![16, 1, 1]⟩
abbrev S1x128x128 : Shape := ⟨3, ![1, 128, 128]⟩
abbrev S16x128x128 : Shape := ⟨3, ![16, 128, 128]⟩
abbrev S1x16x128x128 : Shape := ⟨4, ![1, 16, 128, 128]⟩
abbrev S16x16x128 : Shape := ⟨3, ![16, 16, 128]⟩
abbrev S16x16x128x1 : Shape := ⟨4, ![16, 16, 128, 1]⟩
abbrev S16x16x64x128 : Shape := ⟨4, ![16, 16, 64, 128]⟩
abbrev S16x128x16x64 : Shape := ⟨4, ![16, 128, 16, 64]⟩
abbrev S2048x1024 : Shape := ⟨2, ![2048, 1024]⟩
abbrev S16x128x16 : Shape := ⟨3, ![16, 128, 16]⟩
abbrev S2048x16 : Shape := ⟨2, ![2048, 16]⟩
abbrev S2048x112 : Shape := ⟨2, ![2048, 112]⟩
abbrev S2048x128 : Shape := ⟨2, ![2048, 128]⟩

abbrev nBuf : Space → Nat
  | .hbm => 109
  | .vmem => 0
  | .smem => 0
  | _ => 0

abbrev bufTy : (tb : Table) → Fin (tcTables nBuf tb) → BufTy
  | .hbm, ⟨0, _⟩ => ⟨S128x16x3x16x64, .f32⟩
  | .hbm, ⟨1, _⟩ => ⟨S64, .f32⟩
  | .hbm, ⟨2, _⟩ => ⟨S64, .f32⟩
  | .hbm, ⟨3, _⟩ => ⟨S128x16x1x16x64, .f32⟩
  | .hbm, ⟨4, _⟩ => ⟨S128x16x16x64, .f32⟩
  | .hbm, ⟨5, _⟩ => ⟨S128x16x16x64, .f32⟩
  | .hbm, ⟨6, _⟩ => ⟨S_, .f32⟩
  | .hbm, ⟨7, _⟩ => ⟨S128x16x16, .f32⟩
  | .hbm, ⟨8, _⟩ => ⟨S128x16x16x1, .f32⟩
  | .hbm, ⟨9, _⟩ => ⟨S_, .f32⟩
  | .hbm, ⟨10, _⟩ => ⟨S128x16x16x1, .f32⟩
  | .hbm, ⟨11, _⟩ => ⟨S128x16x16x1, .f32⟩
  | .hbm, ⟨12, _⟩ => ⟨S_, .f32⟩
  | .hbm, ⟨13, _⟩ => ⟨S128x16x16x1, .f32⟩
  | .hbm, ⟨14, _⟩ => ⟨S128x16x16x1, .f32⟩
  | .hbm, ⟨15, _⟩ => ⟨S128x16x16x1, .f32⟩
  | .hbm, ⟨16, _⟩ => ⟨S128x16x16x64, .f32⟩
  | .hbm, ⟨17, _⟩ => ⟨S128x16x16x64, .f32⟩
  | .hbm, ⟨18, _⟩ => ⟨S1x1x1x64, .f32⟩
  | .hbm, ⟨19, _⟩ => ⟨S128x16x16x64, .f32⟩
  | .hbm, ⟨20, _⟩ => ⟨S128x16x16x64, .f32⟩
  | .hbm, ⟨21, _⟩ => ⟨S128x16x1x16x64, .f32⟩
  | .hbm, ⟨22, _⟩ => ⟨S128x16x16x64, .f32⟩
  | .hbm, ⟨23, _⟩ => ⟨S128x16x16x64, .f32⟩
  | .hbm, ⟨24, _⟩ => ⟨S_, .f32⟩
  | .hbm, ⟨25, _⟩ => ⟨S128x16x16, .f32⟩
  | .hbm, ⟨26, _⟩ => ⟨S128x16x16x1, .f32⟩
  | .hbm, ⟨27, _⟩ => ⟨S_, .f32⟩
  | .hbm, ⟨28, _⟩ => ⟨S128x16x16x1, .f32⟩
  | .hbm, ⟨29, _⟩ => ⟨S128x16x16x1, .f32⟩
  | .hbm, ⟨30, _⟩ => ⟨S_, .f32⟩
  | .hbm, ⟨31, _⟩ => ⟨S128x16x16x1, .f32⟩
  | .hbm, ⟨32, _⟩ => ⟨S128x16x16x1, .f32⟩
  | .hbm, ⟨33, _⟩ => ⟨S128x16x16x1, .f32⟩
  | .hbm, ⟨34, _⟩ => ⟨S128x16x16x64, .f32⟩
  | .hbm, ⟨35, _⟩ => ⟨S128x16x16x64, .f32⟩
  | .hbm, ⟨36, _⟩ => ⟨S1x1x1x64, .f32⟩
  | .hbm, ⟨37, _⟩ => ⟨S128x16x16x64, .f32⟩
  | .hbm, ⟨38, _⟩ => ⟨S128x16x16x64, .f32⟩
  | .hbm, ⟨39, _⟩ => ⟨S128x16x1x16x64, .f32⟩
  | .hbm, ⟨40, _⟩ => ⟨S128x16x16x64, .f32⟩
  | .hbm, ⟨41, _⟩ => ⟨S16x16x128x128, .f32⟩
  | .hbm, ⟨42, _⟩ => ⟨S_, .f32⟩
  | .hbm, ⟨43, _⟩ => ⟨S16x16x128x128, .f32⟩
  | .hbm, ⟨44, _⟩ => ⟨S16x16x128x128, .f32⟩
  | .hbm, ⟨45, _⟩ => ⟨S128, .i32⟩
  | .hbm, ⟨46, _⟩ => ⟨S128x1, .i32⟩
  | .hbm, ⟨47, _⟩ => ⟨S128, .i32⟩
  | .hbm, ⟨48, _⟩ => ⟨S1x128, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i1⟩
  | .hbm, ⟨55, _⟩ => ⟨S_, .i32⟩
  | .hbm, ⟨56, _⟩ => ⟨S128x128, .i32⟩
  | .hbm, ⟨57, _⟩ => ⟨S128x128, .i1⟩
  | .hbm, ⟨58, _⟩ => ⟨S128x128, .i1⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S16x1x1, .f32⟩
  | .hbm, ⟨78, _⟩ => ⟨S1x128x128, .f32⟩
  | .hbm, ⟨79, _⟩ => ⟨S16x128x128, .f32⟩
  | .hbm, ⟨80, _⟩ => ⟨S16x128x128, .f32⟩
  | .hbm, ⟨81, _⟩ => ⟨S16x128x128, .f32⟩
  | .hbm, ⟨82, _⟩ => ⟨S1x16x128x128, .f32⟩
  | .hbm, ⟨83, _⟩ => ⟨S16x16x128x128, .f32⟩
  | .hbm, ⟨84, _⟩ => ⟨S16x16x128x128, .f32⟩
  | .hbm, ⟨85, _⟩ => ⟨S_, .f32⟩
  | .hbm, ⟨86, _⟩ => ⟨S_, .f32⟩
  | .hbm, ⟨87, _⟩ => ⟨S16x16x128x128, .i1⟩
  | .hbm, ⟨88, _⟩ => ⟨S16x16x128x128, .f32⟩
  | .hbm, ⟨89, _⟩ => ⟨S16x16x128x128, .f32⟩
  | .hbm, ⟨90, _⟩ => ⟨S16x16x128x128, .f32⟩
  | .hbm, ⟨91, _⟩ => ⟨S_, .f32⟩
  | .hbm, ⟨92, _⟩ => ⟨S16x16x128, .f32⟩
  | .hbm, ⟨93, _⟩ => ⟨S16x16x128, .f32⟩
  | .hbm, ⟨94, _⟩ => ⟨S16x16x128x1, .f32⟩
  | .hbm, ⟨95, _⟩ => ⟨S16x16x128x128, .f32⟩
  | .hbm, ⟨96, _⟩ => ⟨S16x16x128x128, .f32⟩
  | .hbm, ⟨97, _⟩ => ⟨S16x16x128x128, .f32⟩
  | .hbm, ⟨98, _⟩ => ⟨S16x16x64x128, .f32⟩
  | .hbm, ⟨99, _⟩ => ⟨S128x16x16x64, .f32⟩
  | .hbm, ⟨100, _⟩ => ⟨S128x16x16, .f32⟩
  | .hbm, ⟨101, _⟩ => ⟨S16x128x16x64, .f32⟩
  | .hbm, ⟨102, _⟩ => ⟨S2048x1024, .f32⟩
  | .hbm, ⟨103, _⟩ => ⟨S2048x1024, .bf16⟩
  | .hbm, ⟨104, _⟩ => ⟨S16x128x16, .f32⟩
  | .hbm, ⟨105, _⟩ => ⟨S2048x16, .f32⟩
  | .hbm, ⟨106, _⟩ => ⟨S_, .f32⟩
  | .hbm, ⟨107, _⟩ => ⟨S2048x112, .f32⟩
  | .hbm, ⟨108, _⟩ => ⟨S2048x128, .f32⟩
  | _, _ => ⟨S128x16x3x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Proof.Attn.HostForward.lean ====
/- What the host operations before the launch leave in their buffers: the forward values. Each is the array that the
   reference program computes by the same operations. -/
module

public import proofs.«01_k».proof.Proof.Gen.KernelIdeal.Frame.Runs
public import proofs.«01_k».proof.Proof.Gen.ReferenceIdeal.Read
public import Idealize.ShloMosaic.Lib.StableHlo.RunRead

@[expose] public section

set_option maxRecDepth 16384

noncomputable section

namespace Cert.Attn.Host

open Cert.KernelIdeal Cert.KernelIdeal.Gen Idealize.ShloMosaic Idealize.ShloMosaic.StableHlo Idealize.ShloMosaic.TcCoe

variable {F : FTy → Type} [FloatOps F]

/-- The contents after the first line: norms, scores and biases. -/
def U0 (V0 : Valuation τ sig (Elt F)) : Valuation τ sig (Elt F) := after hostOps0 V0
/-- The contents after the mask of the scores. -/
def U1 (V0 : Valuation τ sig (Elt F)) : Valuation τ sig (Elt F) := after hostOps0_1 (U0 V0)
/-- The contents after the softmax and the sum of the groups' exponentials. -/
def U1' (V0 : Valuation τ sig (Elt F)) : Valuation τ sig (Elt F) := after (hostOps0_2.take 16) (U1 V0)
/-- The contents after the merge and the packing of the operands. -/
def U2 (V0 : Valuation τ sig (Elt F)) : Valuation τ sig (Elt F) := after (hostOps0_2.drop 16) (U1' V0)

theorem U2_eq (V0 : Valuation τ sig (Elt F)) : U2 V0 = after hostOps0_2 (U1 V0) := by
  unfold U2 U1'; rw [← after_append, List.take_append_drop]

variable (V0 : Valuation τ sig (Elt F))

/-- The arguments' contents. -/
abbrev arg0 : (⟨S128x16x3x16x64, .f32⟩ : BufTy).Contents (Elt F) := V0 (Proc.devRef .tc main_arg0)
abbrev arg1 : (⟨S64, .f32⟩ : BufTy).Contents (Elt F) := V0 (Proc.devRef .tc main_arg1)
abbrev arg2 : (⟨S64, .f32⟩ : BufTy).Contents (Elt F) := V0 (Proc.devRef .tc main_arg2)
abbrev arg3 : (⟨S128x16x16x64, .f32⟩ : BufTy).Contents (Elt F) := V0 (Proc.devRef .tc main_arg3)
abbrev arg4 : (⟨S128x16x16x64, .f32⟩ : BufTy).Contents (Elt F) := V0 (Proc.devRef .tc main_arg4)
abbrev arg5 : (⟨S128x16x16, .f32⟩ : BufTy).Contents (Elt F) := V0 (Proc.devRef .tc main_arg5)
abbrev arg6 : (⟨S128x16x16, .f32⟩ : BufTy).Contents (Elt F) := V0 (Proc.devRef .tc main_arg6)
abbrev arg7 : (⟨S128x16x16x64, .f32⟩ : BufTy).Contents (Elt F) := V0 (Proc.devRef .tc main_arg7)

theorem U0_v14 : U0 V0 (no_index (Proc.devRef .tc main_v14)) = Cert.ReferenceIdeal.Read.val_main_v21 (F := F) (arg0 V0) (arg1 V0) := by
  unfold U0; after_reads_simp; rfl
theorem U0_v29 : U0 V0 (no_index (Proc.devRef .tc main_v29)) = Cert.ReferenceIdeal.Read.val_main_v37 (F := F) (arg0 V0) (arg2 V0) := by
  unfold U0; after_reads_simp; rfl
theorem U0_v31 : U0 V0 (no_index (Proc.devRef .tc main_v31)) = Cert.ReferenceIdeal.Read.val_main_v5 (F := F) (arg0 V0) := by
  unfold U0; after_reads_simp; rfl
theorem U0_v46 : U0 V0 (no_index (Proc.devRef .tc main_v46)) = Cert.ReferenceIdeal.Read.val_main_v52 (F := F) := by
  unfold U0; after_reads_simp; rfl
theorem U0_cst_12 : U0 V0 (no_index (Proc.devRef .tc main_cst_12)) = Cert.ReferenceIdeal.Read.val_main_cst_14 (F := F) := by
  unfold U0; after_reads_simp; rfl
theorem U0_v67 : U0 V0 (no_index (Proc.devRef .tc main_v67)) = Cert.ReferenceIdeal.Read.val_main_v73 (F := F) (arg0 V0) (arg1 V0) (arg2 V0) := by
  unfold U0; after_reads_simp; rfl
theorem U0_arg0 : U0 V0 (no_index (Proc.devRef .tc main_arg0)) = arg0 V0 := by unfold U0; after_reads_simp
theorem U0_arg3 : U0 V0 (no_index (Proc.devRef .tc main_arg3)) = arg3 V0 := by unfold U0; after_reads_simp
theorem U0_arg4 : U0 V0 (no_index (Proc.devRef .tc main_arg4)) = arg4 V0 := by unfold U0; after_reads_simp
theorem U0_arg5 : U0 V0 (no_index (Proc.devRef .tc main_arg5)) = arg5 V0 := by unfold U0; after_reads_simp
theorem U0_arg6 : U0 V0 (no_index (Proc.devRef .tc main_arg6)) = arg6 V0 := by unfold U0; after_reads_simp

theorem U1_v68 : U1 V0 (no_index (Proc.devRef .tc main_v68)) = Cert.ReferenceIdeal.Read.val_main_v74_0 (F := F) (arg0 V0) (arg1 V0) (arg2 V0) := by
  unfold U1; after_reads_simp [U0_v46, U0_v67, U0_cst_12]; rfl
theorem U1_v14 : U1 V0 (no_index (Proc.devRef .tc main_v14)) = U0 V0 (Proc.devRef .tc main_v14) := by unfold U1; after_reads_simp
theorem U1_v29 : U1 V0 (no_index (Proc.devRef .tc main_v29)) = U0 V0 (Proc.devRef .tc main_v29) := by unfold U1; after_reads_simp
theorem U1_v31 : U1 V0 (no_index (Proc.devRef .tc main_v31)) = U0 V0 (Proc.devRef .tc main_v31) := by unfold U1; after_reads_simp
theorem U1_arg0 : U1 V0 (no_index (Proc.devRef .tc main_arg0)) = U0 V0 (Proc.devRef .tc main_arg0) := by unfold U1; after_reads_simp
theorem U1_arg3 : U1 V0 (no_index (Proc.devRef .tc main_arg3)) = U0 V0 (Proc.devRef .tc main_arg3) := by unfold U1; after_reads_simp
theorem U1_arg4 : U1 V0 (no_index (Proc.devRef .tc main_arg4)) = U0 V0 (Proc.devRef .tc main_arg4) := by unfold U1; after_reads_simp
theorem U1_arg5 : U1 V0 (no_index (Proc.devRef .tc main_arg5)) = U0 V0 (Proc.devRef .tc main_arg5) := by unfold U1; after_reads_simp
theorem U1_arg6 : U1 V0 (no_index (Proc.devRef .tc main_arg6)) = U0 V0 (Proc.devRef .tc main_arg6) := by unfold U1; after_reads_simp

theorem U1'_v77 : U1' V0 (no_index (Proc.devRef .tc main_v77))
    = Cert.ReferenceIdeal.Read.val_main_v83 (F := F) (arg0 V0) (arg1 V0) (arg2 V0) := by
  unfold U1'; after_reads_simp [U1_v68, U1_v31, U0_v31]; rfl
theorem U1'_v79 : U1' V0 (no_index (Proc.devRef .tc main_v79))
    = Cert.ReferenceIdeal.Read.val_main_v85 (F := F) (arg5 V0) := by
  unfold U1'; after_reads_simp [U1_arg5, U0_arg5]; rfl
theorem U1'_v80 : U1' V0 (no_index (Proc.devRef .tc main_v80))
    = Cert.ReferenceIdeal.Read.val_main_v86 (F := F) (arg6 V0) := by
  unfold U1'; after_reads_simp [U1_arg6, U0_arg6]; rfl
theorem U1'_v81 : U1' V0 (no_index (Proc.devRef .tc main_v81))
    = Cert.ReferenceIdeal.Read.val_main_v87 (F := F) (arg0 V0) (arg1 V0) (arg2 V0) := by
  unfold U1'; after_reads_simp [U1_v68]; rfl
/-- The sum of the three groups' exponentials. -/
theorem U1'_v83 : U1' V0 (no_index (Proc.devRef .tc main_v83))
    = Cert.ReferenceIdeal.Read.val_main_v89 (F := F) (arg0 V0) (arg1 V0) (arg2 V0) (arg5 V0) (arg6 V0) := by
  unfold U1'; after_reads_simp [U1_v68, U1_arg5, U1_arg6, U0_arg5, U0_arg6]; rfl
theorem U1'_v14 : U1' V0 (no_index (Proc.devRef .tc main_v14))
    = U0 V0 (Proc.devRef .tc main_v14) := by
  unfold U1'; after_reads_simp [U1_v14]
theorem U1'_v29 : U1' V0 (no_index (Proc.devRef .tc main_v29))
    = U0 V0 (Proc.devRef .tc main_v29) := by
  unfold U1'; after_reads_simp [U1_v29]
theorem U1'_arg0 : U1' V0 (no_index (Proc.devRef .tc main_arg0))
    = U0 V0 (Proc.devRef .tc main_arg0) := by
  unfold U1'; after_reads_simp [U1_arg0]
theorem U1'_arg3 : U1' V0 (no_index (Proc.devRef .tc main_arg3))
    = U0 V0 (Proc.devRef .tc main_arg3) := by
  unfold U1'; after_reads_simp [U1_arg3]
theorem U1'_arg4 : U1' V0 (no_index (Proc.devRef .tc main_arg4))
    = U0 V0 (Proc.devRef .tc main_arg4) := by
  unfold U1'; after_reads_simp [U1_arg4]
theorem U2_v83 : U2 V0 (no_index (Proc.devRef .tc main_v83))
    = Cert.ReferenceIdeal.Read.val_main_v89 (F := F) (arg0 V0) (arg1 V0) (arg2 V0) (arg5 V0) (arg6 V0) := by
  unfold U2; after_reads_simp [U1'_v83]
/-- The merged output. -/
theorem U2_v97 : U2 V0 (no_index (Proc.devRef .tc main_v97))
    = Cert.ReferenceIdeal.Read.val_main_v112 (F := F) (arg0 V0) (arg1 V0) (arg2 V0) (arg3 V0) (arg4 V0) (arg5 V0) (arg6 V0) := by
  unfold U2; after_reads_simp [U1'_v77, U1'_v79, U1'_v80, U1'_v81, U1'_v83, U1'_arg3, U1'_arg4, U0_arg3, U0_arg4]; rfl

/-- The normalised query and key as one matrix: row `128 r + l`, column `1024 w + 64 h + d`. -/
def pack2 (x y : (⟨S128x16x1x16x64, .f32⟩ : BufTy).Contents (Elt F)) : (⟨S2048x2048, .bf16⟩ : BufTy).Contents (Elt F) :=
  truncf .bf16 (shapeCast S2048x2048 (transpose S16x128x2x16x64 [1, 0, 2, 3, 4]
    (concatenate S128x16x2x16x64 2 [⟨S128x16x1x16x64, x⟩, ⟨S128x16x1x16x64, y⟩]
      concatenates_S128x16x1x16x64_S128x16x1x16x64_S128x16x2x16x64_d2)
    transposes_S128x16x2x16x64_S16x128x2x16x64_1_0_2_3_4) shapeCasts_S16x128x2x16x64_S2048x2048) bitsLt_bf16_f32
/-- The three operands as one matrix: row `128 r + l`, column `1024 w + 64 h + d`. -/
def pack3 (x : (⟨S128x16x3x16x64, .f32⟩ : BufTy).Contents (Elt F)) : (⟨S2048x3072, .bf16⟩ : BufTy).Contents (Elt F) :=
  truncf .bf16 (shapeCast S2048x3072 (transpose S16x128x3x16x64 [1, 0, 2, 3, 4] x
    transposes_S128x16x3x16x64_S16x128x3x16x64_1_0_2_3_4) shapeCasts_S16x128x3x16x64_S2048x3072) bitsLt_bf16_f32
/-- The query times an eighth, with the axis along which the key is joined to it. -/
def eighth (x : (⟨S128x16x16x64, .f32⟩ : BufTy).Contents (Elt F)) : (⟨S128x16x1x16x64, .f32⟩ : BufTy).Contents (Elt F) :=
  broadcastInDim S128x16x1x16x64 ![0, 1, 3, 4] bcast_S128x16x16x64_S128x16x1x16x64_0_1_3_4
    (mulf x (broadcastInDim S128x16x16x64 ![] bcast_S_S128x16x16x64 (constant S_ .f32 0x3E000000#32)))
/-- The key with the axis along which it is joined. -/
def axis (x : (⟨S128x16x16x64, .f32⟩ : BufTy).Contents (Elt F)) : (⟨S128x16x1x16x64, .f32⟩ : BufTy).Contents (Elt F) :=
  broadcastInDim S128x16x1x16x64 ![0, 1, 3, 4] bcast_S128x16x16x64_S128x16x1x16x64_0_1_3_4 x

theorem U2_v100 : U2 V0 (no_index (Proc.devRef .tc main_v100))
    = eighth (Cert.ReferenceIdeal.Read.val_main_v21 (F := F) (arg0 V0) (arg1 V0)) := by
  unfold U2; after_reads_simp [U1'_v14, U0_v14]; rfl
theorem U2_v101 : U2 V0 (no_index (Proc.devRef .tc main_v101))
    = axis (Cert.ReferenceIdeal.Read.val_main_v37 (F := F) (arg0 V0) (arg2 V0)) := by
  unfold U2; after_reads_simp [U1'_v29, U0_v29]; rfl
theorem upto_v100 : upto (hostOps0_2.drop 16) (U1' V0) 19 (Proc.devRef .tc main_v100) = eighth (Cert.ReferenceIdeal.Read.val_main_v21 (F := F) (arg0 V0) (arg1 V0)) := by
  after_reads_simp [U1'_v14, U0_v14]; rfl
theorem upto_v101 : upto (hostOps0_2.drop 16) (U1' V0) 19 (Proc.devRef .tc main_v101) = axis (Cert.ReferenceIdeal.Read.val_main_v37 (F := F) (arg0 V0) (arg2 V0)) := by
  after_reads_simp [U1'_v29, U0_v29]; rfl
theorem U2_v105 : U2 V0 (no_index (Proc.devRef .tc main_v105))
    = pack2 (eighth (Cert.ReferenceIdeal.Read.val_main_v21 (F := F) (arg0 V0) (arg1 V0))) (axis (Cert.ReferenceIdeal.Read.val_main_v37 (F := F) (arg0 V0) (arg2 V0))) := by
  unfold U2; after_reads_simp; exact congrArg₂ pack2 (upto_v100 V0) (upto_v101 V0)
theorem U2_v108 : U2 V0 (no_index (Proc.devRef .tc main_v108)) = pack3 (arg0 V0) := by
  unfold U2; after_reads_simp [U1'_arg0, U0_arg0]; rfl

end Cert.Attn.Host

end
-- ==== Proof.Attn.HostTables.lean ====
/- What the host operations before the launch leave in the buffers that the windows read: the packed operands, the row
   values, the bias, the tiled gains and the two 0/1 tables. -/
module

public import proofs.«01_k».proof.Proof.Attn.HostForward

@[expose] public section

set_option maxRecDepth 16384

noncomputable section

namespace Cert.Attn.Host

open Cert.KernelIdeal Cert.KernelIdeal.Gen Idealize.ShloMosaic Idealize.ShloMosaic.StableHlo Idealize.ShloMosaic.TcCoe

variable {F : FTy → Type} [FloatOps F]

/-- The host operations after the packing of the operands. -/
abbrev restOps : List (HloOp τ sig (Elt F)) :=
  List.flatten [hostOps0_3, hostOps0_4, hostOps0_5, hostOps0_6, hostOps0_7, hostOps0_8, hostOps0_9, hostOps0_10, hostOps0_11,
    hostOps0_12, hostOps0_13, hostOps0_14, hostOps0_15]

/-- The contents when the region is entered. -/
def U3 (V0 : Valuation τ sig (Elt F)) : Valuation τ sig (Elt F) := after restOps (U2 V0)

variable (V0 : Valuation τ sig (Elt F))

theorem U3_eq : U3 V0 = after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) V0 := by
  unfold U3; rw [U2_eq]; unfold U1 U0
  simp only [List.flatten_cons, after_append]

theorem U3_v105 : U3 V0 (no_index (Proc.devRef .tc main_v105)) = U2 V0 (Proc.devRef .tc main_v105) := by
  unfold U3; after_reads_simp
theorem U3_v108 : U3 V0 (no_index (Proc.devRef .tc main_v108)) = U2 V0 (Proc.devRef .tc main_v108) := by
  unfold U3; after_reads_simp
theorem U2_arg7 : U2 V0 (no_index (Proc.devRef .tc main_arg7)) = arg7 V0 := by
  unfold U2 U1' U1 U0; after_reads_simp

/-- One operand as a matrix: row `128 r + l`, column `64 h + d`. -/
def pack1 (x : (⟨S128x16x16x64, .f32⟩ : BufTy).Contents (Elt F)) : (⟨S2048x1024, .bf16⟩ : BufTy).Contents (Elt F) :=
  truncf .bf16 (shapeCast S2048x1024 (transpose S16x128x16x64 [1, 0, 2, 3] x
    transposes_S128x16x16x64_S16x128x16x64_1_0_2_3) shapeCasts_S16x128x16x64_S2048x1024) bitsLt_bf16_f32
/-- A value per row and head as a matrix whose columns past the heads are zero. -/
def lanes (x : (⟨S128x16x16, .f32⟩ : BufTy).Contents (Elt F)) : (⟨S2048x128, .f32⟩ : BufTy).Contents (Elt F) :=
  pad S2048x128 ![0, 0] ![0, 112] ![0, 0] (shapeCast S2048x16 (transpose S16x128x16 [1, 0, 2] x
    transposes_S128x16x16_S16x128x16_1_0_2) shapeCasts_S16x128x16_S2048x16) (sitofp .f32 (constantI S_ 32 0#32))
    pads_S2048x16_S2048x128_000_01120 h_S_
/-- A gain repeated for every head. -/
def tile (x : (⟨S64, .f32⟩ : BufTy).Contents (Elt F)) : (⟨S1x1024, .f32⟩ : BufTy).Contents (Elt F) :=
  shapeCast S1x1024 (broadcastInDim S1x1x16x64 ![0, 1, 2, 3] bcast_S1x1x1x64_S1x1x16x64_0_1_2_3
    (shapeCast S1x1x1x64 (shapeCast S1x64 x shapeCasts_S64_S1x64) shapeCasts_S1x64_S1x1x1x64)) shapeCasts_S1x1x16x64_S1x1024

theorem U2_arg1 : U2 V0 (no_index (Proc.devRef .tc main_arg1)) = arg1 V0 := by
  unfold U2 U1' U1 U0; after_reads_simp
theorem U2_arg2 : U2 V0 (no_index (Proc.devRef .tc main_arg2)) = arg2 V0 := by
  unfold U2 U1' U1 U0; after_reads_simp
theorem U3_v162 : U3 V0 (no_index (Proc.devRef .tc main_v162)) = pack1 (arg7 V0) := by
  unfold U3; after_reads_simp [U2_arg7]; rfl
theorem U3_v166 : U3 V0 (no_index (Proc.devRef .tc main_v166))
    = lanes (Host.log (Cert.ReferenceIdeal.Read.val_main_v89 (F := F) (arg0 V0) (arg1 V0) (arg2 V0) (arg5 V0) (arg6 V0))) := by
  unfold U3; after_reads_simp [U2_v83]; rfl
theorem U3_v171 : U3 V0 (no_index (Proc.devRef .tc main_v171))
    = lanes (Host.reduceAdd (mulf (arg7 V0) (Cert.ReferenceIdeal.Read.val_main_v112 (F := F) (arg0 V0) (arg1 V0) (arg2 V0) (arg3 V0) (arg4 V0) (arg5 V0) (arg6 V0)))
        (constant S_ .f32 0x00000000#32) reducesTo_S128x16x16x64_S128x16x16_d3 h_S_) := by
  unfold U3; after_reads_simp [U2_v97, U2_arg7]; rfl
theorem U3_v155 : U3 V0 (no_index (Proc.devRef .tc main_v155)) = tile (arg1 V0) := by
  unfold U3; after_reads_simp [U2_arg1]; rfl
theorem U3_v159 : U3 V0 (no_index (Proc.devRef .tc main_v159)) = tile (arg2 V0) := by
  unfold U3; after_reads_simp [U2_arg2]; rfl
theorem U2_v109 : U2 V0 (no_index (Proc.devRef .tc main_v109)) = iotaInDim S1024x128 32 0 := by
  unfold U2; after_reads_simp
theorem U2_c_15 : U2 V0 (no_index (Proc.devRef .tc main_c_15)) = constantI S_ 32 64#32 := by
  unfold U2; after_reads_simp

end Cert.Attn.Host

end
-- ==== Proof.Attn.Spec.lean ====
/- The arithmetic of one head of one residue class of the dilated attention, over the real numbers. A residue class
   is a row of 128 strided positions; a head has 64 columns. Two families of formulas stand side by side:
   the ones the reverse-mode derivative of the forward lines gives (`Head.refV`, `Head.refDS`, …), and the ones the
   kernel evaluates from the merged log-sum and the row sums `δ` (`Head.kerV`, `Head.kerDS`, …). The theorems at the
   end say that they are equal. No program is mentioned here. -/
module

public import Idealize.ShloMosaic.PureOps.Ideal.Laws
public import Mathlib.Tactic.FieldSimp
public import Mathlib.Tactic.Linarith

@[expose] public section

noncomputable section

namespace Cert.Attn

/-- What one head of one residue class reads: the raw rows `xq xk xv` of queries, keys and values, the cotangent
    `ct` of the merged output, the other two groups' outputs `o0 o1` and log-sums `l0 l1`, the gains `gq gk` of the
    two norms, the slope `sl` of the head's distance bias, and the number `eps` the norms add. -/
structure Head where
  xq : Fin 128 → Fin 64 → ℝ
  xk : Fin 128 → Fin 64 → ℝ
  xv : Fin 128 → Fin 64 → ℝ
  ct : Fin 128 → Fin 64 → ℝ
  o0 : Fin 128 → Fin 64 → ℝ
  o1 : Fin 128 → Fin 64 → ℝ
  l0 : Fin 128 → ℝ
  l1 : Fin 128 → ℝ
  gq : Fin 64 → ℝ
  gk : Fin 64 → ℝ
  sl : ℝ
  eps : ℝ

/-! ## The forward pass -/

/-- The mean square of a row plus `eps`. -/
def meanSq (eps : ℝ) (x : Fin 128 → Fin 64 → ℝ) (i : Fin 128) : ℝ := (∑ d, x i d * x i d) / 64 + eps

/-- The reciprocal root of the mean square. -/
def rs (eps : ℝ) (x : Fin 128 → Fin 64 → ℝ) (i : Fin 128) : ℝ := (√(meanSq eps x i))⁻¹

/-- The normalized row, scaled by the gains. -/
def nrm (eps : ℝ) (x : Fin 128 → Fin 64 → ℝ) (g : Fin 64 → ℝ) (i : Fin 128) (d : Fin 64) : ℝ :=
  x i d * rs eps x i * g d

namespace Head

variable (H : Head)

/-- The normalized query. -/
def nq (i : Fin 128) (d : Fin 64) : ℝ := nrm H.eps H.xq H.gq i d
/-- The normalized key. -/
def nk (i : Fin 128) (d : Fin 64) : ℝ := nrm H.eps H.xk H.gk i d
/-- The score of query `i` and key `j`, with the distance bias. -/
def sc (i j : Fin 128) : ℝ := (∑ d, H.nq i d * H.nk j d) * (1 / 8) - H.sl * (((i : ℝ) - (j : ℝ)) * 16)
/-- The exponential of the score where the key is not after the query. -/
def ex (i j : Fin 128) : ℝ := if j ≤ i then Real.exp (H.sc i j) else 0
/-- The row's sum of exponentials. -/
def sm (i : Fin 128) : ℝ := ∑ j, H.ex i j
/-- The softmax within the group. -/
def pr (i j : Fin 128) : ℝ := if j ≤ i then Real.exp (H.sc i j - Real.log (H.sm i)) else 0
/-- The group's output. -/
def o2 (i : Fin 128) (d : Fin 64) : ℝ := ∑ j, H.xv j d * H.pr i j
/-- The three groups' weights before they are divided by their sum. -/
def e0 (i : Fin 128) : ℝ := Real.exp (H.l0 i)
def e1 (i : Fin 128) : ℝ := Real.exp (H.l1 i)
def e2 (i : Fin 128) : ℝ := Real.exp (Real.log (H.sm i))
/-- The sum of the weights. -/
def tot (i : Fin 128) : ℝ := H.e0 i + H.e1 i + H.e2 i
/-- The merged output. -/
def o (i : Fin 128) (d : Fin 64) : ℝ :=
  H.e0 i / H.tot i * H.o0 i d + H.e1 i / H.tot i * H.o1 i d + H.e2 i / H.tot i * H.o2 i d

/-! ## The reverse-mode derivative of those lines -/

/-- The cotangent of the group's output. -/
def refA (i : Fin 128) (d : Fin 64) : ℝ := H.e2 i / H.tot i * H.ct i d
/-- The gradient of the values. -/
def refV (j : Fin 128) (d : Fin 64) : ℝ := ∑ i, H.refA i d * H.pr i j
/-- The cotangents of the three weights, over all columns. -/
def c0 (i : Fin 128) : ℝ := ∑ d, H.ct i d * H.o0 i d
def c1 (i : Fin 128) : ℝ := ∑ d, H.ct i d * H.o1 i d
def c2 (i : Fin 128) : ℝ := ∑ d, H.ct i d * H.o2 i d
/-- The cotangent of the group's log-sum. -/
def refU (i : Fin 128) : ℝ :=
  (-(H.c2 i * (1 / (H.tot i * H.tot i)) * H.e2 i) + H.c2 i / H.tot i
    + -(H.c1 i * (1 / (H.tot i * H.tot i)) * H.e1 i) + -(H.c0 i * (1 / (H.tot i * H.tot i)) * H.e0 i)) * H.e2 i
/-- The softmax's cotangent times the softmax. -/
def refW (i j : Fin 128) : ℝ := (∑ d, H.refA i d * H.xv j d) * H.pr i j
/-- The gradient of the scores. -/
def refDS (i j : Fin 128) : ℝ :=
  if j ≤ i then H.refW i j + (H.refU i + ∑ k, -(H.refW i k)) / H.sm i * H.ex i j else 0
/-- The gradients of the normalized queries and keys. -/
def refNQ (i : Fin 128) (d : Fin 64) : ℝ := ∑ j, H.refDS i j * (1 / 8) * H.nk j d
def refNK (j : Fin 128) (d : Fin 64) : ℝ := ∑ i, H.refDS i j * (1 / 8) * H.nq i d

end Head

/-- The reverse-mode derivative of the norm of a row `x` with gains `g`, at the cotangent `y`. -/
def refNorm (eps : ℝ) (x : Fin 128 → Fin 64 → ℝ) (g : Fin 64 → ℝ) (y : Fin 128 → Fin 64 → ℝ)
    (i : Fin 128) (d : Fin 64) : ℝ :=
  y i d * g d * rs eps x i
    + x i d * ((∑ c, x i c * (y i c * g c)) * (-(1 / 2) * (rs eps x i / meanSq eps x i)) / 64)
    + (∑ c, x i c * (y i c * g c)) * (-(1 / 2) * (rs eps x i / meanSq eps x i)) / 64 * x i d

namespace Head

variable (H : Head)

/-- The gradients of the raw queries and keys. -/
def refQ : Fin 128 → Fin 64 → ℝ := refNorm H.eps H.xq H.gq H.refNQ
def refK : Fin 128 → Fin 64 → ℝ := refNorm H.eps H.xk H.gk H.refNK

/-! ## What the kernel evaluates -/

/-- The weight of key `j` in query `i`'s merged output, from the logarithm of the weights' sum. -/
def kerP (i j : Fin 128) : ℝ :=
  if j ≤ i then
    Real.exp ((∑ d, H.nq i d * (1 / 8) * H.nk j d) + -H.sl * (((i : ℝ) - (j : ℝ)) * 16) - Real.log (H.tot i))
  else 0
/-- The row sum of the cotangent times the merged output. -/
def delta (i : Fin 128) : ℝ := ∑ d, H.ct i d * H.o i d
/-- The gradient of the scores. -/
def kerDS (i j : Fin 128) : ℝ := H.kerP i j * ((∑ d, H.ct i d * H.xv j d) - H.delta i)
/-- The gradients of the values, of the normalized queries and of the normalized keys. -/
def kerV (j : Fin 128) (d : Fin 64) : ℝ := ∑ i, H.kerP i j * H.ct i d
def kerNQ (i : Fin 128) (d : Fin 64) : ℝ := (∑ j, H.kerDS i j * H.nk j d) * (1 / 8)
def kerNK (j : Fin 128) (d : Fin 64) : ℝ := ∑ i, H.kerDS i j * (H.nq i d * (1 / 8))

end Head

/-- The derivative of the norm as the kernel evaluates it: from the normalized row and the mean of its product with
    the cotangent. -/
def kerNorm (eps : ℝ) (x : Fin 128 → Fin 64 → ℝ) (g : Fin 64 → ℝ) (y : Fin 128 → Fin 64 → ℝ)
    (i : Fin 128) (d : Fin 64) : ℝ :=
  rs eps x i * (y i d * g d - x i d * rs eps x i * ((∑ c, y i c * g c * (x i c * rs eps x i)) * (1 / 64)))

namespace Head

variable (H : Head)

def kerQ : Fin 128 → Fin 64 → ℝ := kerNorm H.eps H.xq H.gq H.kerNQ
def kerK : Fin 128 → Fin 64 → ℝ := kerNorm H.eps H.xk H.gk H.kerNK

end Head

/-! ## The two agree -/

theorem meanSq_pos {eps : ℝ} (he : 0 < eps) (x : Fin 128 → Fin 64 → ℝ) (i : Fin 128) : 0 < meanSq eps x i :=
  add_pos_of_nonneg_of_pos (div_nonneg (Finset.sum_nonneg fun d _ => mul_self_nonneg _) (by norm_num)) he

/-- The two forms of the norm's derivative agree. -/
theorem refNorm_eq {eps : ℝ} (he : 0 < eps) (x : Fin 128 → Fin 64 → ℝ) (g : Fin 64 → ℝ) (y : Fin 128 → Fin 64 → ℝ) :
    refNorm eps x g y = kerNorm eps x g y := by
  funext i d
  have hm := meanSq_pos he x i
  have h2 : rs eps x i / meanSq eps x i = rs eps x i * rs eps x i * rs eps x i := by
    have hs : √(meanSq eps x i) * √(meanSq eps x i) = meanSq eps x i := Real.mul_self_sqrt hm.le
    have hr : rs eps x i * rs eps x i = (meanSq eps x i)⁻¹ := by
      unfold rs; rw [← mul_inv, hs]
    rw [mul_assoc, hr, div_eq_mul_inv]
  have hsum : (∑ c, y i c * g c * (x i c * rs eps x i)) = (∑ c, x i c * (y i c * g c)) * rs eps x i := by
    rw [Finset.sum_mul]; exact Finset.sum_congr rfl fun c _ => by ring
  unfold refNorm kerNorm
  rw [h2, hsum]; ring

namespace Head

variable (H : Head)

theorem ex_nonneg (i j : Fin 128) : 0 ≤ H.ex i j := by unfold ex; split <;> positivity

/-- The row's sum of exponentials is positive: a query attends to itself. -/
theorem sm_pos (i : Fin 128) : 0 < H.sm i :=
  Finset.sum_pos' (fun j _ => H.ex_nonneg i j) ⟨i, Finset.mem_univ _, by unfold ex; simp [Real.exp_pos]⟩

theorem e2_pos (i : Fin 128) : 0 < H.e2 i := Real.exp_pos _
theorem tot_pos (i : Fin 128) : 0 < H.tot i :=
  add_pos (add_pos (Real.exp_pos _) (Real.exp_pos _)) (Real.exp_pos _)

theorem e2_eq (i : Fin 128) : H.e2 i = H.sm i := Real.exp_log (H.sm_pos i)

theorem pr_eq (i j : Fin 128) : H.pr i j = H.ex i j / H.sm i := by
  unfold pr ex
  split
  · rw [Real.exp_sub, Real.exp_log (H.sm_pos i)]
  · simp

/-- The kernel's weight is the group's weight times the group's softmax. -/
theorem kerP_eq (i j : Fin 128) : H.kerP i j = H.e2 i / H.tot i * H.pr i j := by
  rw [H.pr_eq, H.e2_eq]
  have hs := (H.sm_pos i).ne'
  unfold kerP ex
  split
  · have ha : (∑ d, H.nq i d * (1 / 8) * H.nk j d) + -H.sl * (((i : ℝ) - (j : ℝ)) * 16) - Real.log (H.tot i)
        = H.sc i j - Real.log (H.tot i) := by
      unfold sc
      rw [Finset.sum_mul]
      have : (∑ d, H.nq i d * (1 / 8) * H.nk j d) = ∑ d, H.nq i d * H.nk j d * (1 / 8) :=
        Finset.sum_congr rfl fun d _ => by ring
      rw [this]; ring
    rw [ha, Real.exp_sub, Real.exp_log (H.tot_pos i)]
    field_simp
  · simp

theorem refV_eq : H.refV = H.kerV := by
  funext j d
  unfold refV kerV refA
  exact Finset.sum_congr rfl fun i _ => by rw [H.kerP_eq]; ring

theorem delta_eq (i : Fin 128) :
    H.delta i = (H.e0 i * H.c0 i + H.e1 i * H.c1 i + H.e2 i * H.c2 i) / H.tot i := by
  have h : ∀ d, H.ct i d * H.o i d = H.e0 i / H.tot i * (H.ct i d * H.o0 i d)
      + H.e1 i / H.tot i * (H.ct i d * H.o1 i d) + H.e2 i / H.tot i * (H.ct i d * H.o2 i d) :=
    fun d => by unfold o; ring
  unfold delta c0 c1 c2
  rw [Finset.sum_congr rfl fun d _ => h d, Finset.sum_add_distrib, Finset.sum_add_distrib, ← Finset.mul_sum,
    ← Finset.mul_sum, ← Finset.mul_sum]
  ring

theorem refW_eq (i j : Fin 128) : H.refW i j = H.kerP i j * ∑ d, H.ct i d * H.xv j d := by
  unfold refW refA
  rw [H.kerP_eq, Finset.sum_mul, Finset.mul_sum]
  exact Finset.sum_congr rfl fun d _ => by ring

theorem sum_refW (i : Fin 128) : ∑ j, H.refW i j = H.e2 i / H.tot i * H.c2 i := by
  unfold c2 o2
  simp only [H.refW_eq, H.kerP_eq, Finset.mul_sum]
  rw [Finset.sum_comm]
  exact Finset.sum_congr rfl fun d _ => Finset.sum_congr rfl fun j _ => by ring

/-- The two forms of the scores' gradient agree. -/
theorem refDS_eq (i j : Fin 128) : H.refDS i j = H.kerDS i j := by
  have ht := (H.tot_pos i).ne'
  have hs := (H.sm_pos i).ne'
  have hP : H.kerP i j = H.e2 i / H.tot i * (H.ex i j / H.sm i) := by rw [H.kerP_eq, H.pr_eq]
  have key : (H.refU i + ∑ k, -(H.refW i k)) = -(H.e2 i / H.tot i) * H.delta i := by
    rw [Finset.sum_neg_distrib, H.sum_refW, H.delta_eq]
    unfold refU
    field_simp
    ring
  unfold refDS kerDS
  split
  · rw [key, H.refW_eq, hP]; ring
  · rename_i h
    have : H.kerP i j = 0 := by unfold kerP; rw [if_neg h]
    rw [this, zero_mul]

theorem refNQ_eq : H.refNQ = H.kerNQ := by
  funext i d
  unfold refNQ kerNQ
  rw [Finset.sum_mul]
  exact Finset.sum_congr rfl fun j _ => by rw [H.refDS_eq]; ring

theorem refNK_eq : H.refNK = H.kerNK := by
  funext j d
  unfold refNK kerNK
  exact Finset.sum_congr rfl fun i _ => by rw [H.refDS_eq]; ring

theorem refQ_eq (he : 0 < H.eps) : H.refQ = H.kerQ := by
  unfold refQ kerQ; rw [refNorm_eq he, H.refNQ_eq]

theorem refK_eq (he : 0 < H.eps) : H.refK = H.kerK := by
  unfold refK kerK; rw [refNorm_eq he, H.refNK_eq]

end Head

end Cert.Attn

end
-- ==== Proof.Attn.Up.lean ====
/- The operations of the two programs at extended reals that are real numbers: each theorem says that an operation
   on (the images of) real numbers is (the image of) the real operation's result. -/
module

public import proofs.«01_k».proof.Proof.Attn.Spec

@[expose] public section

noncomputable section

namespace Cert.Attn

open Idealize.ShloMosaic

variable {x y z : EReal} {a b c : ℝ} {φ : FTy}

theorem addR (hx : x = a) (hy : y = b) : x + y = ((a + b : ℝ) : EReal) := by
  rw [hx, hy, EReal.coe_add]
theorem subR (hx : x = a) (hy : y = b) : x - y = ((a - b : ℝ) : EReal) := by
  rw [hx, hy, EReal.coe_sub]
theorem mulR (hx : x = a) (hy : y = b) : x * y = ((a * b : ℝ) : EReal) := by
  rw [hx, hy, EReal.coe_mul]
theorem negR (hx : x = a) : -x = ((-a : ℝ) : EReal) := by
  rw [hx, EReal.coe_neg]
theorem divR (hx : x = a) (hy : y = b) (hb : b ≠ 0) : Ideal.div x y = ((a / b : ℝ) : EReal) := by
  rw [hx, hy, Ideal.div_coe hb, ← EReal.coe_mul, mul_one_div]
theorem expR (hx : x = a) : Ideal.exp x = ((Real.exp a : ℝ) : EReal) := by
  rw [hx, Ideal.exp_coe]
theorem logR (hx : x = a) (ha : 0 < a) : Ideal.log x = ((Real.log a : ℝ) : EReal) := by
  rw [hx, Ideal.log_coe, if_neg ha.not_ge]
theorem rsqrtR (hx : x = a) (ha : 0 < a) : Ideal.rsqrt x = (((√a)⁻¹ : ℝ) : EReal) := by
  rw [hx, Ideal.rsqrt_coe, if_neg ha.not_gt, if_neg ha.ne']

/-- A sum of real numbers from zero. -/
theorem sumR {ι : Type} [Fintype ι] {f : ι → EReal} {g : ι → ℝ} (hx : x = ((0 : ℝ) : EReal)) (h : ∀ k, f k = g k) :
    x + ∑ k, f k = ((∑ k, g k : ℝ) : EReal) := by
  rw [hx, EReal.coe_zero, zero_add]
  rw [Finset.sum_congr rfl fun k _ => h k]
  induction (Finset.univ : Finset ι) using Finset.cons_induction with
  | empty => simp
  | cons i s hi ih => rw [Finset.sum_cons, Finset.sum_cons, EReal.coe_add, ih]

/-- A product's element: a sum of products of real numbers. -/
theorem dotR {ι : Type} [Fintype ι] {f f' : ι → EReal} {g g' : ι → ℝ} (h : ∀ k, f k = g k) (h' : ∀ k, f' k = g' k) :
    ∑ k, f k * f' k = ((∑ k, g k * g' k : ℝ) : EReal) := by
  have := sumR (x := 0) (f := fun k => f k * f' k) (by simp) (fun k => mulR (h k) (h' k))
  rwa [zero_add] at this

/-- A sum over one term. -/
theorem sum1R {f : Fin 1 → EReal} (hx : x = ((0 : ℝ) : EReal)) (h : f 0 = a) : x + ∑ k, f k = (a : EReal) := by
  rw [hx, EReal.coe_zero, zero_add, Fin.sum_univ_one, h]

/-! ## The same, as the operations are written in the programs -/

theorem addF (hx : x = a) (hy : y = b) : FloatOps.addf (F := Ideal) (φ := φ) x y = ((a + b : ℝ) : EReal) := addR hx hy
theorem subF (hx : x = a) (hy : y = b) : FloatOps.subf (F := Ideal) (φ := φ) x y = ((a - b : ℝ) : EReal) := subR hx hy
theorem mulF (hx : x = a) (hy : y = b) : FloatOps.mulf (F := Ideal) (φ := φ) x y = ((a * b : ℝ) : EReal) := mulR hx hy
theorem negF (hx : x = a) : FloatOps.hostNegf (F := Ideal) (φ := φ) x = ((-a : ℝ) : EReal) := negR hx
theorem divF (hx : x = a) (hy : y = b) (hb : b ≠ 0) :
    FloatOps.hostDivf (F := Ideal) (φ := φ) x y = ((a / b : ℝ) : EReal) := divR hx hy hb
theorem expF (hx : x = a) : FloatOps.hostUnary (F := Ideal) (φ := φ) .exp x = ((Real.exp a : ℝ) : EReal) := expR hx
theorem logF (hx : x = a) (ha : 0 < a) :
    FloatOps.hostUnary (F := Ideal) (φ := φ) .log x = ((Real.log a : ℝ) : EReal) := logR hx ha
theorem rsqrtF (hx : x = a) (ha : 0 < a) :
    FloatOps.hostUnary (F := Ideal) (φ := φ) .rsqrt x = (((√a)⁻¹ : ℝ) : EReal) := rsqrtR hx ha

/-- The exponential of a score that a mask sends to −∞. -/
theorem expIte {P : Prop} [Decidable P] (a : ℝ) :
    FloatOps.hostUnary (F := Ideal) (φ := φ) .exp (if P then (a : EReal) else ⊥) = ((if P then Real.exp a else 0 : ℝ) : EReal) := by
  split
  · exact expF rfl
  · exact Ideal.exp_bot
/-- The same, with a real number taken off before. -/
theorem expSubIte {P : Prop} [Decidable P] (a b : ℝ) :
    FloatOps.hostUnary (F := Ideal) (φ := φ) .exp (FloatOps.subf (F := Ideal) (φ := φ) (if P then (a : EReal) else ⊥) (b : EReal))
      = ((if P then Real.exp (a - b) else 0 : ℝ) : EReal) := by
  split
  · exact expF (subF rfl rfl)
  · exact (congrArg Ideal.exp (EReal.bot_sub (b : EReal))).trans Ideal.exp_bot

/-- The number the norms add, as the program holds it. -/
def epsR : ℝ := (8796093 : ℝ) / 2 ^ 43
theorem epsR_pos : 0 < epsR := by unfold epsR; positivity
/-- The natural logarithm of two, as the program holds it. -/
def ln2R : ℝ := (11629080 : ℝ) / 2 ^ 24

theorem c_zero : FloatOps.ofBits (F := Ideal) .f32 0x00000000#32 = ((0 : ℝ) : EReal) := by
  simp [Ideal.ofBits, Ideal.ieee]
theorem c_one : FloatOps.ofBits (F := Ideal) .f32 0x3F800000#32 = ((1 : ℝ) : EReal) := by
  simp [Ideal.ofBits, Ideal.ieee, -EReal.coe_mul]; norm_num
theorem c_64 : FloatOps.ofBits (F := Ideal) .f32 0x42800000#32 = ((64 : ℝ) : EReal) := by
  simp [Ideal.ofBits, Ideal.ieee, -EReal.coe_mul]; norm_num
theorem c_16 : FloatOps.ofBits (F := Ideal) .f32 0x41800000#32 = ((16 : ℝ) : EReal) := by
  simp [Ideal.ofBits, Ideal.ieee, -EReal.coe_mul]; norm_num
theorem c_neg8 : FloatOps.ofBits (F := Ideal) .f32 0xC1000000#32 = ((-8 : ℝ) : EReal) := by
  simp [Ideal.ofBits, Ideal.ieee, -EReal.coe_mul, -EReal.coe_neg]; norm_num
theorem c_neg_half : FloatOps.ofBits (F := Ideal) .f32 0xBF000000#32 = ((-(1 / 2) : ℝ) : EReal) := by
  simp [Ideal.ofBits, Ideal.ieee, -EReal.coe_mul, -EReal.coe_neg]; norm_num
theorem c_eighth : FloatOps.ofBits (F := Ideal) .f32 0x3E000000#32 = ((1 / 8 : ℝ) : EReal) := by
  simp [Ideal.ofBits, Ideal.ieee, -EReal.coe_mul]; norm_num
theorem c_eps : FloatOps.ofBits (F := Ideal) .f32 0x358637BD#32 = (epsR : EReal) := by
  simp [Ideal.ofBits, Ideal.ieee, epsR, -EReal.coe_mul]; norm_num
theorem c_ln2 : FloatOps.ofBits (F := Ideal) .f32 0x3F317218#32 = (ln2R : EReal) := by
  simp [Ideal.ofBits, Ideal.ieee, ln2R, -EReal.coe_mul]; norm_num
theorem c_64th : FloatOps.ofBits (F := Ideal) .f32 0x3C800000#32 = ((1 / 64 : ℝ) : EReal) := by
  simp [Ideal.ofBits, Ideal.ieee, -EReal.coe_mul]; norm_num
theorem c_neg_inf : FloatOps.ofBits (F := Ideal) .f32 0xFF800000#32 = (⊥ : EReal) := by
  simp [Ideal.ofBits, Ideal.ieee]

end Cert.Attn

end
-- ==== Proof.Attn.KerVec.lean ====
/- The vector expressions of the backward kernel's body, one head or one pair of heads at a time, read at an index:
   what each stores when the rows it reads are real numbers. -/
module

public import proofs.«01_k».proof.Proof.Attn.Up
public import proofs.«01_k».proof.Proof.Gen.KernelIdeal.Skeleton
public import Idealize.ShloMosaic.Lib.Pointwise

@[expose] public section

set_option maxRecDepth 16384

noncomputable section

namespace Cert.Attn

open Idealize.ShloMosaic Cert.KernelIdeal Cert.KernelIdeal.Gen

/-- Lane `d` of half `e` of a slab of 128 lanes. -/
def half (e : Fin 2) (d : Fin 64) : Fin 128 := ⟨64 * e.val + d.val, by omega⟩
/-- Column `d` of head `h`. -/
def col (h : Fin 16) (d : Fin 64) : Fin 1024 := ⟨64 * h.val + d.val, by omega⟩

/-- The mask of half `e` of a slab. -/
def mask : Fin 2 → FVec Ideal S1x128 .bf16
  | 0 => k0_pay3
  | 1 => k0_pay4

/-- The exponentials of one head. -/
def probs (m : FVec Ideal S1x128 .bf16) (q k : FVec Ideal S128x128 .bf16) (l : FVec Ideal S128x1 .f32)
    (b : FVec Ideal S1x128x128 .f32) : FVec Ideal S128x128 .f32 :=
  exp (subf (addf
    (matmul dot_S128x128_S128x128_S128x128_1_1_0_0_n_n none
      (mulf (shapeCast S128x128 q shapeCasts_S128x128_S128x128) (broadcastTo S128x128 m broadcasts_S1x128_S128x128))
      (shapeCast S128x128 k shapeCasts_S128x128_S128x128) (constant S128x128 .f32 0x00000000#32))
    (shapeCast S128x128 b shapeCasts_S1x128x128_S128x128))
    (broadcastTo S128x128 (shapeCast S128x1 l shapeCasts_S128x1_S128x1) broadcasts_S128x1_S128x128))

theorem probs_apply (m : FVec Ideal S1x128 .bf16) (q k : FVec Ideal S128x128 .bf16) (l : FVec Ideal S128x1 .f32)
    (b : FVec Ideal S1x128x128 .f32) (i j : Fin 128) :
    probs m q k l b (ix2 i j)
      = Ideal.exp ((∑ n, q (ix2 i n) * m (ix2 0 n) * k (ix2 j n)) + b (ix3 0 i j) - l (ix2 i 0)) := by
  pointwise [probs]

/-- The gradient of one head's scores. -/
def grads (m : FVec Ideal S1x128 .bf16) (p : FVec Ideal S128x128 .f32) (g v : FVec Ideal S128x128 .bf16)
    (dl : FVec Ideal S128x1 .f32) : FVec Ideal S128x128 .bf16 :=
  truncf .bf16 (mulf p (subf
    (matmul dot_S128x128_S128x128_S128x128_1_1_0_0_n_n none
      (mulf (shapeCast S128x128 g shapeCasts_S128x128_S128x128) (broadcastTo S128x128 m broadcasts_S1x128_S128x128))
      (shapeCast S128x128 v shapeCasts_S128x128_S128x128) (constant S128x128 .f32 0x00000000#32))
    (broadcastTo S128x128 (shapeCast S128x1 dl shapeCasts_S128x1_S128x1) broadcasts_S128x1_S128x128))) bitsLt_bf16_f32

theorem grads_apply (m : FVec Ideal S1x128 .bf16) (p : FVec Ideal S128x128 .f32) (g v : FVec Ideal S128x128 .bf16)
    (dl : FVec Ideal S128x1 .f32) (i j : Fin 128) :
    grads m p g v dl (ix2 i j)
      = p (ix2 i j) * ((∑ n, g (ix2 i n) * m (ix2 0 n) * v (ix2 j n)) - dl (ix2 i 0)) := by
  pointwise [grads]

theorem mask_apply (e : Fin 2) (n : Fin 128) : mask e (ix2 0 n) = if n.val / 64 = e.val then 1 else 0 := by
  have lo : ∀ n : Fin 128, BitVec.setWidth 32 (IntOp.cmpi .slt (BitVec.ofNat 32 n.val) 64#32)
      = if n.val / 64 = 0 then 1#32 else 0#32 := by decide +kernel
  have hi : ∀ n : Fin 128, BitVec.setWidth 32 (IntOp.cmpi .sge (BitVec.ofNat 32 n.val) 64#32)
      = if n.val / 64 = 1 then 1#32 else 0#32 := by decide +kernel
  have one : FloatOps.sitofp (F := Ideal) .f32 (1#32) = (1 : EReal) := by
    show (((1#32).toInt : ℝ) : EReal) = 1
    simp
  have zero : FloatOps.sitofp (F := Ideal) .f32 (0#32) = (0 : EReal) := by
    show (((0#32).toInt : ℝ) : EReal) = 0
    simp
  fin_cases e
  · show k0_pay3 (F := Ideal) (ix2 0 n) = _
    pointwise [k0_pay3]
    rw [lo]
    split
    · exact one
    · exact zero
  · show k0_pay4 (F := Ideal) (ix2 0 n) = _
    pointwise [k0_pay4]
    rw [hi]
    split
    · exact one
    · exact zero

/-- A sum over a slab in two halves. -/
theorem sum_halves (f : Fin 128 → EReal) : ∑ n, f n = (∑ d, f (half 0 d)) + ∑ d, f (half 1 d) := by
  rw [show (∑ n, f n) = ∑ n : Fin (64 + 64), f n from rfl, Fin.sum_univ_add]
  congr 1 <;> exact Finset.sum_congr rfl fun d _ => congrArg f (Fin.ext (by simp [half]))

/-- A masked product of two rows of a slab is the product over the mask's half. -/
theorem sum_masked (e : Fin 2) (f g : Fin 128 → EReal) :
    ∑ n, f n * mask e (ix2 0 n) * g n = ∑ d, f (half e d) * g (half e d) := by
  have on : ∀ d, f (half e d) * mask e (ix2 0 (half e d)) * g (half e d) = f (half e d) * g (half e d) := fun d => by
    rw [mask_apply, if_pos (by show (64 * e.val + d.val) / 64 = e.val; omega), mul_one]
  have off : ∀ e' d, e' ≠ e → f (half e' d) * mask e (ix2 0 (half e' d)) * g (half e' d) = 0 := fun e' d h => by
    rw [mask_apply, if_neg (by show ¬ (64 * e'.val + d.val) / 64 = e.val; have := Fin.val_ne_of_ne h; omega), mul_zero,
      zero_mul]
  rw [sum_halves]
  fin_cases e
  · exact (congrArg₂ (· + ·) (Finset.sum_congr rfl fun d _ => on d)
      (Finset.sum_eq_zero fun d _ => off 1 d (by decide))).trans (add_zero _)
  · exact (congrArg₂ (· + ·) (Finset.sum_eq_zero fun d _ => off 0 d (by decide))
      (Finset.sum_congr rfl fun d _ => on d)).trans (zero_add _)

/-- One head's exponentials are `Head.kerP`. -/
theorem probs_real (H : Head) (e : Fin 2) {q k : FVec Ideal S128x128 .bf16} {l : FVec Ideal S128x1 .f32}
    {b : FVec Ideal S1x128x128 .f32}
    (hq : ∀ i d, q (ix2 i (half e d)) = ((H.nq i d * (1 / 8) : ℝ) : EReal))
    (hk : ∀ i d, k (ix2 i (half e d)) = ((H.nk i d : ℝ) : EReal))
    (hl : ∀ i, l (ix2 i 0) = ((Real.log (H.tot i) : ℝ) : EReal))
    (hb : ∀ i j : Fin 128, b (ix3 0 i j) = if j ≤ i then ((-H.sl * (((i : ℝ) - (j : ℝ)) * 16) : ℝ) : EReal) else ⊥)
    (i j : Fin 128) : probs (mask e) q k l b (ix2 i j) = ((H.kerP i j : ℝ) : EReal) := by
  rw [probs_apply, sum_masked e (fun n => q (ix2 i n)) (fun n => k (ix2 j n)), dotR (hq i) (hk j), hl, hb, Head.kerP]
  split
  · exact expR (subR (addR rfl rfl) rfl)
  · rw [EReal.add_bot, EReal.bot_sub, Ideal.exp_bot, EReal.coe_zero]

/-- One head's score gradients are `Head.kerDS`. -/
theorem grads_real (H : Head) (e : Fin 2) {p : FVec Ideal S128x128 .f32} {g v : FVec Ideal S128x128 .bf16}
    {dl : FVec Ideal S128x1 .f32}
    (hp : ∀ i j, p (ix2 i j) = ((H.kerP i j : ℝ) : EReal))
    (hg : ∀ i d, g (ix2 i (half e d)) = ((H.ct i d : ℝ) : EReal))
    (hv : ∀ i d, v (ix2 i (half e d)) = ((H.xv i d : ℝ) : EReal))
    (hd : ∀ i, dl (ix2 i 0) = ((H.delta i : ℝ) : EReal))
    (i j : Fin 128) : grads (mask e) p g v dl (ix2 i j) = ((H.kerDS i j : ℝ) : EReal) := by
  rw [grads_apply, sum_masked e (fun n => g (ix2 i n)) (fun n => v (ix2 j n)), dotR (hg i) (hv j), hd, hp, Head.kerDS]
  exact mulR rfl (subR rfl rfl)

/-- Which lanes of a slab belong to the even head. -/
def even : IVec S128x128 1 := k0_pay122 (iota .tc S128x128 32 [1] iota_S128x128_d1_w32) 64#32

theorem select_even {α : Type} (e : Fin 2) (d : Fin 64) (x y : α) :
    Scalar.select (IntOp.cmpi .slt (BitVec.ofNat 32 (half e d).val) 64#32) x y = if e = 0 then x else y := by
  have : ∀ e d, IntOp.cmpi .slt (BitVec.ofNat 32 (half e d).val) 64#32 = if e = 0 then 1#1 else 0#1 := by decide +kernel
  rw [this]
  fin_cases e <;> rfl

/-- The two heads' products with a slab, each in its half; `p₀` and `p₁` on the left. -/
def pairN (p₀ p₁ : FVec Ideal S1x128x128 .bf16) (x : FVec Ideal S128x128 .bf16) : FVec Ideal S128x128 .f32 :=
  select even
    (matmul dot_S128x128_S128x128_S128x128_1_0_0_1_n_n none (shapeCast S128x128 p₀ shapeCasts_S1x128x128_S128x128)
      (shapeCast S128x128 x shapeCasts_S128x128_S128x128) (constant S128x128 .f32 0x00000000#32))
    (matmul dot_S128x128_S128x128_S128x128_1_0_0_1_n_n none (shapeCast S128x128 p₁ shapeCasts_S1x128x128_S128x128)
      (shapeCast S128x128 x shapeCasts_S128x128_S128x128) (constant S128x128 .f32 0x00000000#32))

/-- The same with `p₀` and `p₁` transposed. -/
def pairT (p₀ p₁ : FVec Ideal S1x128x128 .bf16) (x : FVec Ideal S128x128 .bf16) : FVec Ideal S128x128 .f32 :=
  select even
    (matmul dot_S128x128_S128x128_S128x128_0_0_1_1_n_n none (shapeCast S128x128 p₀ shapeCasts_S1x128x128_S128x128)
      (shapeCast S128x128 x shapeCasts_S128x128_S128x128) (constant S128x128 .f32 0x00000000#32))
    (matmul dot_S128x128_S128x128_S128x128_0_0_1_1_n_n none (shapeCast S128x128 p₁ shapeCasts_S1x128x128_S128x128)
      (shapeCast S128x128 x shapeCasts_S128x128_S128x128) (constant S128x128 .f32 0x00000000#32))

theorem pairN_apply (p₀ p₁ : FVec Ideal S1x128x128 .bf16) (x : FVec Ideal S128x128 .bf16) (i : Fin 128) (e : Fin 2)
    (d : Fin 64) : pairN p₀ p₁ x (ix2 i (half e d)) = ∑ k, (if e = 0 then p₀ else p₁) (ix3 0 i k) * x (ix2 k (half e d)) := by
  pointwise [pairN, even, k0_pay122]
  rw [select_even]
  split <;> rfl

theorem pairT_apply (p₀ p₁ : FVec Ideal S1x128x128 .bf16) (x : FVec Ideal S128x128 .bf16) (i : Fin 128) (e : Fin 2)
    (d : Fin 64) : pairT p₀ p₁ x (ix2 i (half e d)) = ∑ k, (if e = 0 then p₀ else p₁) (ix3 0 k i) * x (ix2 k (half e d)) := by
  pointwise [pairT, even, k0_pay122]
  rw [select_even]
  split <;> rfl

end Cert.Attn
end
-- ==== Proof.Attn.KerNorm.lean ====
/- The last part of the backward kernel's body, read at an index: the derivative of the two norms, with the rows' sums
   taken by a product with a matrix of zeros and ones. -/
module

public import proofs.«01_k».proof.Proof.Attn.KerVec

@[expose] public section

set_option maxRecDepth 16384

noncomputable section

namespace Cert.Attn

open Idealize.ShloMosaic Cert.KernelIdeal Cert.KernelIdeal.Gen

/-- Row `i` of the upper and of the lower half of two stacked blocks. -/
def top (i : Fin 128) : Fin 256 := ⟨i.val, by omega⟩
def bot (i : Fin 128) : Fin 256 := ⟨128 + i.val, by omega⟩

/-- Two stacked blocks times the gathering matrix. -/
def gathered (ga : FVec Ideal S1024x128 .bf16) (t u : FVec Ideal S128x1024 .f32) : FVec Ideal S256x128 .f32 :=
  matmul dot_S256x1024_S1024x128_S256x128_1_0_0_1_n_n none
    (concatenate S256x1024 0 [⟨S128x1024, truncf .bf16 t bitsLt_bf16_f32⟩, ⟨S128x1024, truncf .bf16 u bitsLt_bf16_f32⟩]
      concatenates_S128x1024_S128x1024_S256x1024_d0) ga (constant S256x128 .f32 0x00000000#32)

theorem gathered_top (ga : FVec Ideal S1024x128 .bf16) (t u : FVec Ideal S128x1024 .f32) (i l : Fin 128) :
    gathered ga t u (ix2 (top i) l) = ∑ c, t (ix2 i c) * ga (ix2 c l) := by
  pointwise [gathered, top]

theorem gathered_bot (ga : FVec Ideal S1024x128 .bf16) (t u : FVec Ideal S128x1024 .f32) (i l : Fin 128) :
    gathered ga t u (ix2 (bot i) l) = ∑ c, u (ix2 i c) * ga (ix2 c l) := by
  pointwise [gathered, bot]

/-- A block's high and low part times the spreading matrix. -/
def spreads (sp : FVec Ideal S128x1024 .bf16) (x : FVec Ideal S256x128 .f32) : FVec Ideal S256x1024 .f32 :=
  matmul dot_S256x128_S128x1024_S256x1024_1_0_0_1_n_n none
    (select (broadcastTo S256x128 (shapeCast S1x128 (cmpi .slt (iota .tc S1x128 32 [1] iota_S1x128_d1_w32)
        (broadcast S1x128 64#32)) shapeCasts_S1x128_S1x128) broadcasts_S1x128_S256x128)
      (truncf .bf16 x bitsLt_bf16_f32)
      (truncf .bf16 (subf x (extf .f32 (truncf .bf16 x bitsLt_bf16_f32) bitsLt_bf16_f32)) bitsLt_bf16_f32))
    sp (constant S256x1024 .f32 0x00000000#32)

theorem spreads_apply (sp : FVec Ideal S128x1024 .bf16) (x : FVec Ideal S256x128 .f32) (i : Fin 256) (c : Fin 1024) :
    spreads sp x (ix2 i c) = ∑ l : Fin 128,
      Scalar.select (IntOp.cmpi .slt (BitVec.ofNat 32 l.val) 64#32) (x (ix2 i l)) (x (ix2 i l) - x (ix2 i l))
        * sp (ix2 l c) := by
  have : ∀ f : Fin 128 → EReal, spreads sp x (ix2 i c) = ∑ l, f l → spreads sp x (ix2 i c) = ∑ l, f l := fun _ h => h
  apply this
  unfold spreads
  pointwise []

theorem pay197_eq (ga : FVec Ideal S1024x128 .bf16) (sp : FVec Ideal S128x1024 .bf16) (xq xk : FVec Ideal S128x1024 .bf16) :
    k0_pay197 ga sp xq xk = spreads (shapeCast S128x1024 sp shapeCasts_S128x1024_S128x1024)
      (rsqrt (addf (mulf (gathered ga (mulf (k0_pay195 xq) (k0_pay195 xq)) (mulf (k0_pay196 xk) (k0_pay196 xk)))
        (broadcast S256x128 (Scalar.ofBits .f32 0x3C800000#32))) (broadcast S256x128 (Scalar.ofBits .f32 0x358637BD#32)))) := rfl

theorem pay203_eq (ga : FVec Ideal S1024x128 .bf16) (sp : FVec Ideal S128x1024 .bf16)
    (tq tk dq dk : FVec Ideal S128x1024 .f32) (gq gk : FVec Ideal S1x1024 .f32) :
    k0_pay203 ga sp tq tk dq dk gq gk = spreads sp
      (mulf (gathered ga (mulf (k0_pay201 dq gq) tq) (mulf (k0_pay202 dk gk) tk))
        (broadcast S256x128 (Scalar.ofBits .f32 0x3C800000#32))) := rfl

theorem pay204_top (ga : FVec Ideal S1024x128 .bf16) (sp : FVec Ideal S128x1024 .bf16) (r : FVec Ideal S256x1024 .f32)
    (tq tk dq dk : FVec Ideal S128x1024 .f32) (gq gk : FVec Ideal S1x1024 .f32) (i : Fin 128) (c : Fin 1024) :
    k0_pay204 ga sp r tq tk dq dk gq gk (ix2 i c)
      = r (ix2 (top i) c) * (dq (ix2 i c) * gq (ix2 0 c)
        - tq (ix2 i c) * k0_pay203 ga sp tq tk dq dk gq gk (ix2 (top i) c)) := by
  pointwise [k0_pay204, k0_pay201]
  rfl
theorem pay205_bot (ga : FVec Ideal S1024x128 .bf16) (sp : FVec Ideal S128x1024 .bf16) (r : FVec Ideal S256x1024 .f32)
    (tq tk dq dk : FVec Ideal S128x1024 .f32) (gq gk : FVec Ideal S1x1024 .f32) (i : Fin 128) (c : Fin 1024) :
    k0_pay205 ga sp r tq tk dq dk gq gk (ix2 i c)
      = r (ix2 (bot i) c) * (dk (ix2 i c) * gk (ix2 0 c)
        - tk (ix2 i c) * k0_pay203 ga sp tq tk dq dk gq gk (ix2 (bot i) c)) := by
  pointwise [k0_pay205, k0_pay202]
  rfl

/-! ## The sums over a head's columns -/

/-- The head and the place in the head of a column. -/
def colH (c : Fin 1024) : Fin 16 := ⟨c.val / 64, by omega⟩
def colD (c : Fin 1024) : Fin 64 := ⟨c.val % 64, by omega⟩
theorem col_eq (c : Fin 1024) : col (colH c) (colD c) = c := Fin.ext (by show 64 * (c.val / 64) + c.val % 64 = c.val; omega)
theorem colH_col (h : Fin 16) (d : Fin 64) : colH (col h d) = h := Fin.ext (by show (64 * h.val + d.val) / 64 = h.val; omega)
theorem colD_col (h : Fin 16) (d : Fin 64) : colD (col h d) = d := Fin.ext (by show (64 * h.val + d.val) % 64 = d.val; omega)

/-- The lane of head `h`. -/
def lane (h : Fin 16) : Fin 128 := ⟨h.val, by omega⟩

/-- A row's sum over the columns of the head of lane `l`. -/
def headSum (t : Fin 1024 → ℝ) (l : Fin 128) : ℝ := ∑ c : Fin 1024, t c * if c.val / 64 = l.val % 64 then 1 else 0

theorem headSum_lane (t : Fin 1024 → ℝ) (h : Fin 16) : headSum t (lane h) = ∑ d, t (col h d) := by
  have e : ∀ p : Fin 16 × Fin 64, finProdFinEquiv p = col p.1 p.2 := fun p =>
    Fin.ext (by show p.2.val + 64 * p.1.val = 64 * p.1.val + p.2.val; omega)
  have s : (∑ c : Fin 1024, t c * if c.val / 64 = (lane h).val % 64 then 1 else 0)
      = ∑ p : Fin 16 × Fin 64, t (col p.1 p.2) * if (col p.1 p.2).val / 64 = (lane h).val % 64 then 1 else 0 :=
    ((finProdFinEquiv (m := 16) (n := 64)).sum_comp _).symm.trans (Finset.sum_congr rfl fun p _ => by rw [e p])
  unfold headSum
  rw [s, Fintype.sum_prod_type, Finset.sum_eq_single h]
  · exact Finset.sum_congr rfl fun d _ => by
      rw [if_pos (by show (64 * h.val + d.val) / 64 = h.val % 64; omega), mul_one]
  · exact fun h' _ ne => Finset.sum_eq_zero fun d _ => by
      rw [if_neg (by show ¬ (64 * h'.val + d.val) / 64 = h.val % 64; have := Fin.val_ne_of_ne ne; omega), mul_zero]
  · exact fun h' => absurd (Finset.mem_univ _) h'

theorem headSum_nonneg {t : Fin 1024 → ℝ} (ht : ∀ c, 0 ≤ t c) (l : Fin 128) : 0 ≤ headSum t l :=
  Finset.sum_nonneg fun c _ => mul_nonneg (ht c) (by split <;> norm_num)

/-- The gathering matrix: a one where the column belongs to the head of the lane. -/
def IsGather (ga : FVec Ideal S1024x128 .bf16) : Prop :=
  ∀ (c : Fin 1024) (l : Fin 128), ga (ix2 c l) = ((if c.val / 64 = l.val % 64 then 1 else 0 : ℝ) : EReal)
/-- The spreading matrix, its transpose. -/
def IsSpread (sp : FVec Ideal S128x1024 .bf16) : Prop :=
  ∀ (l : Fin 128) (c : Fin 1024), sp (ix2 l c) = ((if l.val % 64 = c.val / 64 then 1 else 0 : ℝ) : EReal)

theorem gather_real {ga : FVec Ideal S1024x128 .bf16} (hg : IsGather ga) {t : Fin 1024 → EReal} {τ : Fin 1024 → ℝ}
    (ht : ∀ c, t c = (τ c : EReal)) (l : Fin 128) : ∑ c, t c * ga (ix2 c l) = ((headSum τ l : ℝ) : EReal) :=
  dotR ht fun c => hg c l

theorem spread_real {sp : FVec Ideal S128x1024 .bf16} (hs : IsSpread sp) {x : FVec Ideal S256x128 .f32} {i : Fin 256}
    {ρ : Fin 128 → ℝ} (hx : ∀ l, x (ix2 i l) = (ρ l : EReal)) (c : Fin 1024) :
    spreads sp x (ix2 i c) = ((ρ (lane (colH c)) : ℝ) : EReal) := by
  have sel : ∀ l : Fin 128, IntOp.cmpi .slt (BitVec.ofNat 32 l.val) 64#32 = if l.val < 64 then 1#1 else 0#1 := by
    decide +kernel
  have zero : ∀ a : ℝ, (a : EReal) - (a : EReal) = ((0 : ℝ) : EReal) := fun a => by rw [← EReal.coe_sub, sub_self]
  rw [spreads_apply, Finset.sum_eq_single (lane (colH c))]
  · rw [sel, if_pos (by show c.val / 64 < 64; omega), hs, if_pos (by show c.val / 64 % 64 = c.val / 64; omega), hx]
    exact (congrArg _ EReal.coe_one).trans (mul_one _)
  · intro l _ ne
    rw [sel, hx]
    split
    · rename_i lt
      rw [hs, if_neg (by
        intro h
        exact ne (Fin.ext (by show l.val = c.val / 64; omega)))]
      exact (congrArg _ EReal.coe_zero).trans (mul_zero _)
    · rw [zero]
      exact (congrArg (· * _) EReal.coe_zero).trans (zero_mul _)
  · exact fun h => absurd (Finset.mem_univ _) h

/-! ## The norms' derivative -/

theorem square_real {x : FVec Ideal S128x1024 .bf16} {y : Fin 16 → Fin 128 → Fin 64 → ℝ}
    (hx : ∀ i h d, x (ix2 i (col h d)) = ((y h i d : ℝ) : EReal)) (i : Fin 128) (c : Fin 1024) :
    x (ix2 i c) * x (ix2 i c) = ((y (colH c) i (colD c) * y (colH c) i (colD c) : ℝ) : EReal) := by
  have : x (ix2 i c) = _ := (congrArg (fun c => x (ix2 i c)) (col_eq c).symm).trans (hx i (colH c) (colD c))
  exact mulR this this

theorem root_real {y : Fin 16 → Fin 128 → Fin 64 → ℝ} {s : EReal} {i : Fin 128} {l : Fin 128}
    (hs : s = ((headSum (fun c => y (colH c) i (colD c) * y (colH c) i (colD c)) l : ℝ) : EReal)) :
    Ideal.rsqrt (s * FloatOps.ofBits (F := Ideal) .f32 0x3C800000#32 + FloatOps.ofBits (F := Ideal) .f32 0x358637BD#32)
      = (((√(headSum (fun c => y (colH c) i (colD c) * y (colH c) i (colD c)) l * (1 / 64) + epsR))⁻¹ : ℝ) : EReal) :=
  rsqrtR (addR (mulR hs c_64th) c_eps) (add_pos_of_nonneg_of_pos
    (mul_nonneg (headSum_nonneg (fun c => mul_self_nonneg _) l) (by norm_num)) epsR_pos)

theorem root_lane (y : Fin 16 → Fin 128 → Fin 64 → ℝ) (i : Fin 128) (h : Fin 16) :
    (√(headSum (fun c => y (colH c) i (colD c) * y (colH c) i (colD c)) (lane h) * (1 / 64) + epsR))⁻¹
      = rs epsR (y h) i := by
  rw [headSum_lane]
  unfold rs meanSq
  rw [mul_one_div]
  simp only [colH_col, colD_col]

section
variable {H : Fin 16 → Head} (he : ∀ h, (H h).eps = epsR)
  {ga : FVec Ideal S1024x128 .bf16} (hga : IsGather ga) {sp : FVec Ideal S128x1024 .bf16} (hsp : IsSpread sp)
  {xq xk : FVec Ideal S128x1024 .bf16}
  (hq : ∀ i h d, xq (ix2 i (col h d)) = (((H h).xq i d : ℝ) : EReal))
  (hk : ∀ i h d, xk (ix2 i (col h d)) = (((H h).xk i d : ℝ) : EReal))
include he hga hsp hq hk

/-- The reciprocal roots, spread over the columns: of the queries above and of the keys below. -/
theorem pay197_top (i : Fin 128) (h : Fin 16) (d : Fin 64) :
    k0_pay197 ga sp xq xk (ix2 (top i) (col h d)) = ((rs (H h).eps (H h).xq i : ℝ) : EReal) := by
  have sp' : IsSpread (shapeCast S128x1024 sp shapeCasts_S128x1024_S128x1024) := by
    intro l c; pointwise []; exact hsp l c
  rw [pay197_eq]
  refine (spread_real sp' (ρ := fun l => (√(headSum (fun c => (H (colH c)).xq i (colD c) * (H (colH c)).xq i (colD c)) l
    * (1 / 64) + epsR))⁻¹) (fun l => ?_) (col h d)).trans ?_
  · refine Eq.trans ?_ (root_real (y := fun h => (H h).xq) (i := i) (l := l)
      ((gathered_top ga (mulf (k0_pay195 xq) (k0_pay195 xq)) (mulf (k0_pay196 xk) (k0_pay196 xk)) i l).trans (gather_real hga (fun c => ?_) l)))
    · pointwise []
    · refine Eq.trans ?_ (square_real (y := fun h => (H h).xq) hq i c)
      pointwise [k0_pay195]
  · rw [colH_col, he]
    exact congrArg _ (root_lane (fun h => (H h).xq) i h)

theorem pay197_bot (i : Fin 128) (h : Fin 16) (d : Fin 64) :
    k0_pay197 ga sp xq xk (ix2 (bot i) (col h d)) = ((rs (H h).eps (H h).xk i : ℝ) : EReal) := by
  have sp' : IsSpread (shapeCast S128x1024 sp shapeCasts_S128x1024_S128x1024) := by
    intro l c; pointwise []; exact hsp l c
  rw [pay197_eq]
  refine (spread_real sp' (ρ := fun l => (√(headSum (fun c => (H (colH c)).xk i (colD c) * (H (colH c)).xk i (colD c)) l
    * (1 / 64) + epsR))⁻¹) (fun l => ?_) (col h d)).trans ?_
  · refine Eq.trans ?_ (root_real (y := fun h => (H h).xk) (i := i) (l := l)
      ((gathered_bot ga (mulf (k0_pay195 xq) (k0_pay195 xq)) (mulf (k0_pay196 xk) (k0_pay196 xk)) i l).trans (gather_real hga (fun c => ?_) l)))
    · pointwise []
    · refine Eq.trans ?_ (square_real (y := fun h => (H h).xk) hk i c)
      pointwise [k0_pay196]
  · rw [colH_col, he]
    exact congrArg _ (root_lane (fun h => (H h).xk) i h)

/-- The normalized queries and keys. -/
theorem pay198_real (i : Fin 128) (h : Fin 16) (d : Fin 64) :
    k0_pay198 ga sp xq xk (ix2 i (col h d)) = (((H h).xq i d * rs (H h).eps (H h).xq i : ℝ) : EReal) := by
  refine Eq.trans ?_ (mulR (hq i h d) (pay197_top he hga hsp hq hk i h d))
  pointwise [k0_pay198, k0_pay195]
  rfl

theorem pay199_real (i : Fin 128) (h : Fin 16) (d : Fin 64) :
    k0_pay199 ga sp xq xk (ix2 i (col h d)) = (((H h).xk i d * rs (H h).eps (H h).xk i : ℝ) : EReal) := by
  refine Eq.trans ?_ (mulR (hk i h d) (pay197_bot he hga hsp hq hk i h d))
  pointwise [k0_pay199, k0_pay196]
  rfl

end

section
variable {H : Fin 16 → Head}
  {ga : FVec Ideal S1024x128 .bf16} (hga : IsGather ga) {sp : FVec Ideal S128x1024 .bf16} (hsp : IsSpread sp)
  {tq tk dq dk : FVec Ideal S128x1024 .f32} {gq gk : FVec Ideal S1x1024 .f32}
  (htq : ∀ i h d, tq (ix2 i (col h d)) = (((H h).xq i d * rs (H h).eps (H h).xq i : ℝ) : EReal))
  (htk : ∀ i h d, tk (ix2 i (col h d)) = (((H h).xk i d * rs (H h).eps (H h).xk i : ℝ) : EReal))
  (hdq : ∀ i h d, dq (ix2 i (col h d)) = (((H h).kerNQ i d : ℝ) : EReal))
  (hdk : ∀ i h d, dk (ix2 i (col h d)) = (((H h).kerNK i d : ℝ) : EReal))
  (hgq : ∀ h d, gq (ix2 0 (col h d)) = (((H h).gq d : ℝ) : EReal))
  (hgk : ∀ h d, gk (ix2 0 (col h d)) = (((H h).gk d : ℝ) : EReal))
include hga hsp htq htk hdq hdk hgq hgk

theorem pay203_top (i : Fin 128) (h : Fin 16) (d : Fin 64) :
    k0_pay203 ga sp tq tk dq dk gq gk (ix2 (top i) (col h d))
      = (((∑ c, (H h).kerNQ i c * (H h).gq c * ((H h).xq i c * rs (H h).eps (H h).xq i)) * (1 / 64) : ℝ) : EReal) := by
  rw [pay203_eq]
  refine (spread_real hsp (ρ := fun l => headSum (fun c => (H (colH c)).kerNQ i (colD c) * (H (colH c)).gq (colD c)
    * ((H (colH c)).xq i (colD c) * rs (H (colH c)).eps (H (colH c)).xq i)) l * (1 / 64)) (fun l => ?_) (col h d)).trans ?_
  · refine Eq.trans ?_ (mulR ((gathered_top ga (mulf (k0_pay201 dq gq) tq) (mulf (k0_pay202 dk gk) tk) i l).trans (gather_real hga (fun c => ?_) l)) c_64th)
    · pointwise []
    · rw [← col_eq c]
      refine Eq.trans ?_ ((mulR (mulR (hdq i _ _) (hgq _ _)) (htq i _ _)).trans (by rw [col_eq]))
      pointwise [k0_pay201]
  · rw [colH_col, headSum_lane]
    simp only [colH_col, colD_col]

theorem pay203_bot (i : Fin 128) (h : Fin 16) (d : Fin 64) :
    k0_pay203 ga sp tq tk dq dk gq gk (ix2 (bot i) (col h d))
      = (((∑ c, (H h).kerNK i c * (H h).gk c * ((H h).xk i c * rs (H h).eps (H h).xk i)) * (1 / 64) : ℝ) : EReal) := by
  rw [pay203_eq]
  refine (spread_real hsp (ρ := fun l => headSum (fun c => (H (colH c)).kerNK i (colD c) * (H (colH c)).gk (colD c)
    * ((H (colH c)).xk i (colD c) * rs (H (colH c)).eps (H (colH c)).xk i)) l * (1 / 64)) (fun l => ?_) (col h d)).trans ?_
  · refine Eq.trans ?_ (mulR ((gathered_bot ga (mulf (k0_pay201 dq gq) tq) (mulf (k0_pay202 dk gk) tk) i l).trans (gather_real hga (fun c => ?_) l)) c_64th)
    · pointwise []
    · rw [← col_eq c]
      refine Eq.trans ?_ ((mulR (mulR (hdk i _ _) (hgk _ _)) (htk i _ _)).trans (by rw [col_eq]))
      pointwise [k0_pay202]
  · rw [colH_col, headSum_lane]
    simp only [colH_col, colD_col]

/-- The stored gradients of the raw queries and keys. -/
theorem pay204_real {r : FVec Ideal S256x1024 .f32}
    (hr : ∀ i h d, r (ix2 (top i) (col h d)) = ((rs (H h).eps (H h).xq i : ℝ) : EReal)) (i : Fin 128) (h : Fin 16)
    (d : Fin 64) : k0_pay204 ga sp r tq tk dq dk gq gk (ix2 i (col h d)) = (((H h).kerQ i d : ℝ) : EReal) := by
  rw [pay204_top]
  exact mulR (hr i h d) (subR (mulR (hdq i h d) (hgq h d))
    (mulR (htq i h d) (pay203_top hga hsp htq htk hdq hdk hgq hgk i h d)))

theorem pay205_real {r : FVec Ideal S256x1024 .f32}
    (hr : ∀ i h d, r (ix2 (bot i) (col h d)) = ((rs (H h).eps (H h).xk i : ℝ) : EReal)) (i : Fin 128) (h : Fin 16)
    (d : Fin 64) : k0_pay205 ga sp r tq tk dq dk gq gk (ix2 i (col h d)) = (((H h).kerK i d : ℝ) : EReal) := by
  rw [pay205_bot]
  exact mulR (hr i h d) (subR (mulR (hdk i h d) (hgk h d))
    (mulR (htk i h d) (pay203_bot hga hsp htq htk hdq hdk hgq hgk i h d)))

end

end Cert.Attn
end
-- ==== Proof.Attn.RefNorm.lean ====
/- The reference program at real arguments, one operation at a time: the norms of the queries and keys and their products. -/
module

public import proofs.«01_k».proof.Proof.Attn.Up
public import proofs.«01_k».proof.Proof.Gen.ReferenceIdeal.Read
public import Idealize.ShloMosaic.Lib.Pointwise

@[expose] public section

set_option maxRecDepth 16384

noncomputable section

namespace Cert.Attn

open Cert.ReferenceIdeal Cert.ReferenceIdeal.Gen Cert.ReferenceIdeal.Read Idealize.ShloMosaic

-- the operations are read by their lemmas alone
attribute [local irreducible] val_main_v0 val_main_v1 val_main_v2 val_main_v3 val_main_v4 val_main_v5 val_main_v6 val_main_cst val_main_v7
  val_main_v8 val_main_cst_0 val_main_v9 val_main_v10 val_main_cst_1 val_main_v11 val_main_v12 val_main_v13
  val_main_v14 val_main_cst_2 val_main_v15 val_main_v16 val_main_v17 val_main_v18 val_main_v19 val_main_v20
  val_main_v21 val_main_v22 val_main_cst_3 val_main_v23 val_main_v24 val_main_cst_4 val_main_v25 val_main_v26
  val_main_cst_5 val_main_v27 val_main_v28 val_main_v29 val_main_v30 val_main_cst_6 val_main_v31 val_main_v32
  val_main_v33 val_main_v34 val_main_v35 val_main_v36 val_main_v37 val_main_v38 val_main_cst_7 val_main_v39
  val_main_v40 val_main_v41 val_main_v42 val_main_v43 val_main_v44 val_main_v45 val_main_v46 val_main_v47
  val_main_c val_main_v48 val_main_v49 val_main_c_8 val_main_v50 val_main_v51 val_main_v52 val_main_c_9
  val_main_v53 val_main_v54 val_main_v55 val_main_v56 val_main_cst_10 val_main_v57 val_main_v58 val_main_cst_11
  val_main_v59 val_main_v60 val_main_cst_12 val_main_v61 val_main_v62 val_main_cst_13 val_main_v63 val_main_v64
  val_main_v65 val_main_v66 val_main_v67 val_main_v68 val_main_v69 val_main_v70 val_main_v71 val_main_v72
  val_main_v73 val_main_cst_14 val_main_call0_v0 val_main_v74_1 val_main_call0_v2 val_main_v74_0
  val_main_call0_cst val_main_v74_2 val_main_v75 val_main_cst_15 val_main_v76 val_main_v77 val_main_v78
  val_main_v79 val_main_v80 val_main_v81 val_main_v82 val_main_v83 val_main_v84 val_main_v85 val_main_v86
  val_main_v87 val_main_v88 val_main_v89 val_main_v90 val_main_v91 val_main_cst_16 val_main_v92 val_main_v93
  val_main_v94 val_main_v95 val_main_v96 val_main_v97 val_main_v98 val_main_cst_17 val_main_v99 val_main_v100
  val_main_v101 val_main_v102 val_main_v103 val_main_v104 val_main_v105 val_main_v106 val_main_cst_18
  val_main_v107 val_main_v108 val_main_v109 val_main_v110 val_main_v111 val_main_v112 val_main_v113
  val_main_v114 val_main_v115 val_main_v116 val_main_v117 val_main_cst_19 val_main_v118 val_main_v119
  val_main_cst_20 val_main_v120 val_main_v121 val_main_v122 val_main_v123 val_main_v124 val_main_v125
  val_main_v126 val_main_cst_21 val_main_v127 val_main_v128 val_main_cst_22 val_main_v129 val_main_v130
  val_main_v131 val_main_v132 val_main_v133 val_main_v134 val_main_cst_23 val_main_v135 val_main_v136
  val_main_cst_24 val_main_v137 val_main_v138 val_main_v139 val_main_v140 val_main_v141 val_main_v142
  val_main_v143 val_main_v144 val_main_v145 val_main_v146 val_main_v147 val_main_v148 val_main_v149
  val_main_cst_25 val_main_v150 val_main_v151 val_main_cst_26 val_main_v152 val_main_v153 val_main_v154
  val_main_v155 val_main_v156 val_main_v157 val_main_call1_cst val_main_call1_v0 val_main_v158 val_main_cst_27
  val_main_v159 val_main_v160 val_main_v161 val_main_v162 val_main_v163 val_main_v164 val_main_v165
  val_main_v166 val_main_v167 val_main_cst_28 val_main_v168 val_main_v169 val_main_v170 val_main_v171
  val_main_v172 val_main_cst_29 val_main_v173 val_main_v174 val_main_cst_30 val_main_v175 val_main_v176
  val_main_v177 val_main_v178 val_main_v179 val_main_v180 val_main_v181 val_main_v182 val_main_v183
  val_main_cst_31 val_main_v184 val_main_v185 val_main_v186 val_main_v187 val_main_v188 val_main_cst_32
  val_main_v189 val_main_v190 val_main_cst_33 val_main_v191 val_main_v192 val_main_v193 val_main_v194
  val_main_v195 val_main_v196 val_main_v197 val_main_v198 val_main_v199 val_main_v200 val_main_v201
  val_main_v202 val_main_v203

/-- Arguments that are real numbers. -/
structure Args where
  a0 : S128x16x3x16x64.Idx → ℝ
  a1 : S64.Idx → ℝ
  a2 : S64.Idx → ℝ
  a3 : S128x16x16x64.Idx → ℝ
  a4 : S128x16x16x64.Idx → ℝ
  a5 : S128x16x16.Idx → ℝ
  a6 : S128x16x16.Idx → ℝ
  a7 : S128x16x16x64.Idx → ℝ

/-- An array of real numbers as an array of extended reals. -/
def up {s : Shape} (f : s.Idx → ℝ) : s.Idx → EReal := fun i => (f i : EReal)

/-- The slope of a head's distance bias. -/
def slope (h : Fin 16) : ℝ := Real.exp (ln2R * ((-8 * (1 + ((h : ℕ) : ℝ))) / 16))

/-- What head `h` of residue class `r` reads of the arguments. -/
def Args.head (A : Args) (r h : Fin 16) : Head where
  xq l d := A.a0 (ix5 l r 0 h d)
  xk l d := A.a0 (ix5 l r 1 h d)
  xv l d := A.a0 (ix5 l r 2 h d)
  ct l d := A.a7 (ix4 l r h d)
  o0 l d := A.a3 (ix4 l r h d)
  o1 l d := A.a4 (ix4 l r h d)
  l0 l := A.a5 (ix3 l r h)
  l1 l := A.a6 (ix3 l r h)
  gq d := A.a1 (ix1 d)
  gk d := A.a2 (ix1 d)
  sl := slope h
  eps := epsR

theorem rfl_x1 (A : Args) (i : S64.Idx) : up A.a1 i = (((A.head 0 0).gq (i 0) : ℝ) : EReal) := by
  rw [show i = ix1 (i 0) from eq_ix1 i]; rfl
theorem rfl_x2 (A : Args) (i : S64.Idx) : up A.a2 i = (((A.head 0 0).gk (i 0) : ℝ) : EReal) := by
  rw [show i = ix1 (i 0) from eq_ix1 i]; rfl
theorem rfl_x3 (A : Args) (i : S128x16x16x64.Idx) : up A.a3 i = (((A.head (i 1) (i 2)).o0 (i 0) (i 3) : ℝ) : EReal) := by
  rw [show i = ix4 (i 0) (i 1) (i 2) (i 3) from eq_ix4 i]; rfl
theorem rfl_x4 (A : Args) (i : S128x16x16x64.Idx) : up A.a4 i = (((A.head (i 1) (i 2)).o1 (i 0) (i 3) : ℝ) : EReal) := by
  rw [show i = ix4 (i 0) (i 1) (i 2) (i 3) from eq_ix4 i]; rfl
theorem rfl_x5 (A : Args) (i : S128x16x16.Idx) : up A.a5 i = (((A.head (i 1) (i 2)).l0 (i 0) : ℝ) : EReal) := by
  rw [show i = ix3 (i 0) (i 1) (i 2) from eq_ix3 i]; rfl
theorem rfl_x6 (A : Args) (i : S128x16x16.Idx) : up A.a6 i = (((A.head (i 1) (i 2)).l1 (i 0) : ℝ) : EReal) := by
  rw [show i = ix3 (i 0) (i 1) (i 2) from eq_ix3 i]; rfl
theorem rfl_x7 (A : Args) (i : S128x16x16x64.Idx) : up A.a7 i = (((A.head (i 1) (i 2)).ct (i 0) (i 3) : ℝ) : EReal) := by
  rw [show i = ix4 (i 0) (i 1) (i 2) (i 3) from eq_ix4 i]; rfl

theorem i_v1 (i : S128x16x16x64.Idx) : idx_main_v0 (idx_main_v1 i) = ix5 (i 0) (i 1) 0 (i 2) (i 3) := by
  have h0 : (i 0).val < 128 := (i 0).isLt; have h1 : (i 1).val < 16 := (i 1).isLt; have h2 : (i 2).val < 16 := (i 2).isLt; have h3 : (i 3).val < 64 := (i 3).isLt
  funext a
  refine Fin.ext ?_
  exact (match a with
    | ⟨0, _⟩ => by show ((((i 0).val * 16 + (i 1).val) * 16 + (i 2).val) * 64 + (i 3).val) / 16384 = (i 0).val; omega
    | ⟨1, _⟩ => by show ((((i 0).val * 16 + (i 1).val) * 16 + (i 2).val) * 64 + (i 3).val) / 1024 % 16 = (i 1).val; omega
    | ⟨2, _⟩ => rfl
    | ⟨3, _⟩ => by show ((((i 0).val * 16 + (i 1).val) * 16 + (i 2).val) * 64 + (i 3).val) / 64 % 16 = (i 2).val; omega
    | ⟨4, _⟩ => by show ((((i 0).val * 16 + (i 1).val) * 16 + (i 2).val) * 64 + (i 3).val) % 64 = (i 3).val; omega)

theorem e_v1 (A : Args) (i : S128x16x16x64.Idx) :
    val_main_v1 (F := Ideal) (up A.a0) i = (((A.head (i 1) (i 2)).xq (i 0) (i 3) : ℝ) : EReal) := by
  rw [val_main_v1_apply, val_main_v0_apply, i_v1]; rfl

theorem i_v3 (i : S128x16x16x64.Idx) : idx_main_v2 (idx_main_v3 i) = ix5 (i 0) (i 1) 1 (i 2) (i 3) := by
  have h0 : (i 0).val < 128 := (i 0).isLt; have h1 : (i 1).val < 16 := (i 1).isLt; have h2 : (i 2).val < 16 := (i 2).isLt; have h3 : (i 3).val < 64 := (i 3).isLt
  funext a
  refine Fin.ext ?_
  exact (match a with
    | ⟨0, _⟩ => by show ((((i 0).val * 16 + (i 1).val) * 16 + (i 2).val) * 64 + (i 3).val) / 16384 = (i 0).val; omega
    | ⟨1, _⟩ => by show ((((i 0).val * 16 + (i 1).val) * 16 + (i 2).val) * 64 + (i 3).val) / 1024 % 16 = (i 1).val; omega
    | ⟨2, _⟩ => rfl
    | ⟨3, _⟩ => by show ((((i 0).val * 16 + (i 1).val) * 16 + (i 2).val) * 64 + (i 3).val) / 64 % 16 = (i 2).val; omega
    | ⟨4, _⟩ => by show ((((i 0).val * 16 + (i 1).val) * 16 + (i 2).val) * 64 + (i 3).val) % 64 = (i 3).val; omega)

theorem e_v3 (A : Args) (i : S128x16x16x64.Idx) :
    val_main_v3 (F := Ideal) (up A.a0) i = (((A.head (i 1) (i 2)).xk (i 0) (i 3) : ℝ) : EReal) := by
  rw [val_main_v3_apply, val_main_v2_apply, i_v3]; rfl

theorem i_v5 (i : S128x16x16x64.Idx) : idx_main_v4 (idx_main_v5 i) = ix5 (i 0) (i 1) 2 (i 2) (i 3) := by
  have h0 : (i 0).val < 128 := (i 0).isLt; have h1 : (i 1).val < 16 := (i 1).isLt; have h2 : (i 2).val < 16 := (i 2).isLt; have h3 : (i 3).val < 64 := (i 3).isLt
  funext a
  refine Fin.ext ?_
  exact (match a with
    | ⟨0, _⟩ => by show ((((i 0).val * 16 + (i 1).val) * 16 + (i 2).val) * 64 + (i 3).val) / 16384 = (i 0).val; omega
    | ⟨1, _⟩ => by show ((((i 0).val * 16 + (i 1).val) * 16 + (i 2).val) * 64 + (i 3).val) / 1024 % 16 = (i 1).val; omega
    | ⟨2, _⟩ => rfl
    | ⟨3, _⟩ => by show ((((i 0).val * 16 + (i 1).val) * 16 + (i 2).val) * 64 + (i 3).val) / 64 % 16 = (i 2).val; omega
    | ⟨4, _⟩ => by show ((((i 0).val * 16 + (i 1).val) * 16 + (i 2).val) * 64 + (i 3).val) % 64 = (i 3).val; omega)

theorem e_v5 (A : Args) (i : S128x16x16x64.Idx) :
    val_main_v5 (F := Ideal) (up A.a0) i = (((A.head (i 1) (i 2)).xv (i 0) (i 3) : ℝ) : EReal) := by
  rw [val_main_v5_apply, val_main_v4_apply, i_v5]; rfl

theorem e_v6 (A : Args) (i : S128x16x16x64.Idx) :
    val_main_v6 (F := Ideal) (up A.a0) i = (((((A.head (i 1) (i 2)).xq (i 0) (i 3)) * ((A.head (i 1) (i 2)).xq (i 0) (i 3))) : ℝ) : EReal) := by
  rw [val_main_v6_apply]; exact mulF (e_v1 A _) (e_v1 A _)

theorem e_cst (A : Args) (i : S_.Idx) :
    val_main_cst (F := Ideal) i = ((0 : ℝ) : EReal) := by
  rw [val_main_cst_apply]; exact c_zero

theorem e_v7 (A : Args) (i : S128x16x16.Idx) :
    val_main_v7 (F := Ideal) (up A.a0) i = (((∑ k : Fin 64, (((A.head (i 1) (i 2)).xq (i 0) (k)) * ((A.head (i 1) (i 2)).xq (i 0) (k)))) : ℝ) : EReal) := by
  rw [val_main_v7_apply]; exact sumR (e_cst A _) (fun k => e_v6 A _)

theorem e_v8 (A : Args) (i : S128x16x16x1.Idx) :
    val_main_v8 (F := Ideal) (up A.a0) i = (((∑ k : Fin 64, (((A.head (i 1) (i 2)).xq (i 0) (k)) * ((A.head (i 1) (i 2)).xq (i 0) (k)))) : ℝ) : EReal) := by
  rw [val_main_v8_apply]; exact e_v7 A _

theorem e_cst_0 (A : Args) (i : S_.Idx) :
    val_main_cst_0 (F := Ideal) i = ((64 : ℝ) : EReal) := by
  rw [val_main_cst_0_apply]; exact c_64

theorem e_v9 (A : Args) (i : S128x16x16x1.Idx) :
    val_main_v9 (F := Ideal) i = ((64 : ℝ) : EReal) := by
  rw [val_main_v9_apply]; exact e_cst_0 A _

theorem e_v10 (A : Args) (i : S128x16x16x1.Idx) :
    val_main_v10 (F := Ideal) (up A.a0) i = (((((∑ k : Fin 64, (((A.head (i 1) (i 2)).xq (i 0) (k)) * ((A.head (i 1) (i 2)).xq (i 0) (k))))) / (64)) : ℝ) : EReal) := by
  rw [val_main_v10_apply]; exact divF (e_v8 A _) (e_v9 A _) (by norm_num)

theorem e_cst_1 (A : Args) (i : S_.Idx) :
    val_main_cst_1 (F := Ideal) i = ((epsR : ℝ) : EReal) := by
  rw [val_main_cst_1_apply]; exact c_eps

theorem e_v11 (A : Args) (i : S128x16x16x1.Idx) :
    val_main_v11 (F := Ideal) i = ((epsR : ℝ) : EReal) := by
  rw [val_main_v11_apply]; exact e_cst_1 A _

theorem e_v12 (A : Args) (i : S128x16x16x1.Idx) :
    val_main_v12 (F := Ideal) (up A.a0) i = ((meanSq (A.head (i 1) (i 2)).eps (A.head (i 1) (i 2)).xq (i 0) : ℝ) : EReal) := by
  rw [val_main_v12_apply]; exact addF (e_v10 A _) (e_v11 A _)

theorem e_v13 (A : Args) (i : S128x16x16x1.Idx) :
    val_main_v13 (F := Ideal) (up A.a0) i = ((rs (A.head (i 1) (i 2)).eps (A.head (i 1) (i 2)).xq (i 0) : ℝ) : EReal) := by
  rw [val_main_v13_apply]; exact rsqrtF (e_v12 A _) (meanSq_pos epsR_pos _ _)

theorem e_v14 (A : Args) (i : S128x16x16x1.Idx) :
    val_main_v14 (F := Ideal) (up A.a0) i = ((((rs (A.head (i 1) (i 2)).eps (A.head (i 1) (i 2)).xq (i 0)) / (meanSq (A.head (i 1) (i 2)).eps (A.head (i 1) (i 2)).xq (i 0))) : ℝ) : EReal) := by
  rw [val_main_v14_apply]; exact divF (e_v13 A _) (e_v12 A _) (meanSq_pos epsR_pos _ _).ne'

theorem e_cst_2 (A : Args) (i : S_.Idx) :
    val_main_cst_2 (F := Ideal) i = ((-(1 / 2) : ℝ) : EReal) := by
  rw [val_main_cst_2_apply]; exact c_neg_half

theorem e_v15 (A : Args) (i : S128x16x16x1.Idx) :
    val_main_v15 (F := Ideal) i = ((-(1 / 2) : ℝ) : EReal) := by
  rw [val_main_v15_apply]; exact e_cst_2 A _

theorem e_v16 (A : Args) (i : S128x16x16x1.Idx) :
    val_main_v16 (F := Ideal) (up A.a0) i = ((((-(1 / 2)) * (((rs (A.head (i 1) (i 2)).eps (A.head (i 1) (i 2)).xq (i 0)) / (meanSq (A.head (i 1) (i 2)).eps (A.head (i 1) (i 2)).xq (i 0))))) : ℝ) : EReal) := by
  rw [val_main_v16_apply]; exact mulF (e_v15 A _) (e_v14 A _)

theorem e_v17 (A : Args) (i : S128x16x16x64.Idx) :
    val_main_v17 (F := Ideal) (up A.a0) i = ((rs (A.head (i 1) (i 2)).eps (A.head (i 1) (i 2)).xq (i 0) : ℝ) : EReal) := by
  rw [val_main_v17_apply]; exact e_v13 A _

theorem e_v18 (A : Args) (i : S128x16x16x64.Idx) :
    val_main_v18 (F := Ideal) (up A.a0) i = (((((A.head (i 1) (i 2)).xq (i 0) (i 3)) * (rs (A.head (i 1) (i 2)).eps (A.head (i 1) (i 2)).xq (i 0))) : ℝ) : EReal) := by
  rw [val_main_v18_apply]; exact mulF (e_v1 A _) (e_v17 A _)

theorem e_v19 (A : Args) (i : S1x1x1x64.Idx) :
    val_main_v19 (F := Ideal) (up A.a1) i = (((A.head 0 0).gq (i 3) : ℝ) : EReal) := by
  rw [val_main_v19_apply]; exact rfl_x1 A _

theorem e_v20 (A : Args) (i : S128x16x16x64.Idx) :
    val_main_v20 (F := Ideal) (up A.a1) i = (((A.head 0 0).gq (i 3) : ℝ) : EReal) := by
  rw [val_main_v20_apply]; exact e_v19 A _

theorem e_v21 (A : Args) (i : S128x16x16x64.Idx) :
    val_main_v21 (F := Ideal) (up A.a0) (up A.a1) i = (((A.head (i 1) (i 2)).nq (i 0) (i 3) : ℝ) : EReal) := by
  rw [val_main_v21_apply]; exact mulF (e_v18 A _) (e_v20 A _)

theorem e_v22 (A : Args) (i : S128x16x16x64.Idx) :
    val_main_v22 (F := Ideal) (up A.a0) i = (((((A.head (i 1) (i 2)).xk (i 0) (i 3)) * ((A.head (i 1) (i 2)).xk (i 0) (i 3))) : ℝ) : EReal) := by
  rw [val_main_v22_apply]; exact mulF (e_v3 A _) (e_v3 A _)

theorem e_cst_3 (A : Args) (i : S_.Idx) :
    val_main_cst_3 (F := Ideal) i = ((0 : ℝ) : EReal) := by
  rw [val_main_cst_3_apply]; exact c_zero

theorem e_v23 (A : Args) (i : S128x16x16.Idx) :
    val_main_v23 (F := Ideal) (up A.a0) i = (((∑ k : Fin 64, (((A.head (i 1) (i 2)).xk (i 0) (k)) * ((A.head (i 1) (i 2)).xk (i 0) (k)))) : ℝ) : EReal) := by
  rw [val_main_v23_apply]; exact sumR (e_cst_3 A _) (fun k => e_v22 A _)

theorem e_v24 (A : Args) (i : S128x16x16x1.Idx) :
    val_main_v24 (F := Ideal) (up A.a0) i = (((∑ k : Fin 64, (((A.head (i 1) (i 2)).xk (i 0) (k)) * ((A.head (i 1) (i 2)).xk (i 0) (k)))) : ℝ) : EReal) := by
  rw [val_main_v24_apply]; exact e_v23 A _

theorem e_cst_4 (A : Args) (i : S_.Idx) :
    val_main_cst_4 (F := Ideal) i = ((64 : ℝ) : EReal) := by
  rw [val_main_cst_4_apply]; exact c_64

theorem e_v25 (A : Args) (i : S128x16x16x1.Idx) :
    val_main_v25 (F := Ideal) i = ((64 : ℝ) : EReal) := by
  rw [val_main_v25_apply]; exact e_cst_4 A _

theorem e_v26 (A : Args) (i : S128x16x16x1.Idx) :
    val_main_v26 (F := Ideal) (up A.a0) i = (((((∑ k : Fin 64, (((A.head (i 1) (i 2)).xk (i 0) (k)) * ((A.head (i 1) (i 2)).xk (i 0) (k))))) / (64)) : ℝ) : EReal) := by
  rw [val_main_v26_apply]; exact divF (e_v24 A _) (e_v25 A _) (by norm_num)

theorem e_cst_5 (A : Args) (i : S_.Idx) :
    val_main_cst_5 (F := Ideal) i = ((epsR : ℝ) : EReal) := by
  rw [val_main_cst_5_apply]; exact c_eps

theorem e_v27 (A : Args) (i : S128x16x16x1.Idx) :
    val_main_v27 (F := Ideal) i = ((epsR : ℝ) : EReal) := by
  rw [val_main_v27_apply]; exact e_cst_5 A _

theorem e_v28 (A : Args) (i : S128x16x16x1.Idx) :
    val_main_v28 (F := Ideal) (up A.a0) i = ((meanSq (A.head (i 1) (i 2)).eps (A.head (i 1) (i 2)).xk (i 0) : ℝ) : EReal) := by
  rw [val_main_v28_apply]; exact addF (e_v26 A _) (e_v27 A _)

theorem e_v29 (A : Args) (i : S128x16x16x1.Idx) :
    val_main_v29 (F := Ideal) (up A.a0) i = ((rs (A.head (i 1) (i 2)).eps (A.head (i 1) (i 2)).xk (i 0) : ℝ) : EReal) := by
  rw [val_main_v29_apply]; exact rsqrtF (e_v28 A _) (meanSq_pos epsR_pos _ _)

theorem e_v30 (A : Args) (i : S128x16x16x1.Idx) :
    val_main_v30 (F := Ideal) (up A.a0) i = ((((rs (A.head (i 1) (i 2)).eps (A.head (i 1) (i 2)).xk (i 0)) / (meanSq (A.head (i 1) (i 2)).eps (A.head (i 1) (i 2)).xk (i 0))) : ℝ) : EReal) := by
  rw [val_main_v30_apply]; exact divF (e_v29 A _) (e_v28 A _) (meanSq_pos epsR_pos _ _).ne'

theorem e_cst_6 (A : Args) (i : S_.Idx) :
    val_main_cst_6 (F := Ideal) i = ((-(1 / 2) : ℝ) : EReal) := by
  rw [val_main_cst_6_apply]; exact c_neg_half

theorem e_v31 (A : Args) (i : S128x16x16x1.Idx) :
    val_main_v31 (F := Ideal) i = ((-(1 / 2) : ℝ) : EReal) := by
  rw [val_main_v31_apply]; exact e_cst_6 A _

theorem e_v32 (A : Args) (i : S128x16x16x1.Idx) :
    val_main_v32 (F := Ideal) (up A.a0) i = ((((-(1 / 2)) * (((rs (A.head (i 1) (i 2)).eps (A.head (i 1) (i 2)).xk (i 0)) / (meanSq (A.head (i 1) (i 2)).eps (A.head (i 1) (i 2)).xk (i 0))))) : ℝ) : EReal) := by
  rw [val_main_v32_apply]; exact mulF (e_v31 A _) (e_v30 A _)

theorem e_v33 (A : Args) (i : S128x16x16x64.Idx) :
    val_main_v33 (F := Ideal) (up A.a0) i = ((rs (A.head (i 1) (i 2)).eps (A.head (i 1) (i 2)).xk (i 0) : ℝ) : EReal) := by
  rw [val_main_v33_apply]; exact e_v29 A _

theorem e_v34 (A : Args) (i : S128x16x16x64.Idx) :
    val_main_v34 (F := Ideal) (up A.a0) i = (((((A.head (i 1) (i 2)).xk (i 0) (i 3)) * (rs (A.head (i 1) (i 2)).eps (A.head (i 1) (i 2)).xk (i 0))) : ℝ) : EReal) := by
  rw [val_main_v34_apply]; exact mulF (e_v3 A _) (e_v33 A _)

theorem e_v35 (A : Args) (i : S1x1x1x64.Idx) :
    val_main_v35 (F := Ideal) (up A.a2) i = (((A.head 0 0).gk (i 3) : ℝ) : EReal) := by
  rw [val_main_v35_apply]; exact rfl_x2 A _

theorem e_v36 (A : Args) (i : S128x16x16x64.Idx) :
    val_main_v36 (F := Ideal) (up A.a2) i = (((A.head 0 0).gk (i 3) : ℝ) : EReal) := by
  rw [val_main_v36_apply]; exact e_v35 A _

theorem e_v37 (A : Args) (i : S128x16x16x64.Idx) :
    val_main_v37 (F := Ideal) (up A.a0) (up A.a2) i = (((A.head (i 1) (i 2)).nk (i 0) (i 3) : ℝ) : EReal) := by
  rw [val_main_v37_apply]; exact mulF (e_v34 A _) (e_v36 A _)

theorem e_v38 (A : Args) (i : S16x16x128x128.Idx) :
    val_main_v38 (F := Ideal) (up A.a0) (up A.a1) (up A.a2) i = (((∑ k : Fin 64, ((A.head (i 0) (i 1)).nq (i 2) (k)) * ((A.head (i 0) (i 1)).nk (i 3) (k))) : ℝ) : EReal) := by
  rw [val_main_v38_apply]; exact dotR (fun k => e_v21 A _) (fun k => e_v37 A _)

theorem e_cst_7 (A : Args) (i : S_.Idx) :
    val_main_cst_7 (F := Ideal) i = ((1 / 8 : ℝ) : EReal) := by
  rw [val_main_cst_7_apply]; exact c_eighth

theorem e_v39 (A : Args) (i : S16x16x128x128.Idx) :
    val_main_v39 (F := Ideal) i = ((1 / 8 : ℝ) : EReal) := by
  rw [val_main_v39_apply]; exact e_cst_7 A _

theorem e_v40 (A : Args) (i : S16x16x128x128.Idx) :
    val_main_v40 (F := Ideal) (up A.a0) (up A.a1) (up A.a2) i = (((((∑ k : Fin 64, ((A.head (i 0) (i 1)).nq (i 2) (k)) * ((A.head (i 0) (i 1)).nk (i 3) (k)))) * (1 / 8)) : ℝ) : EReal) := by
  rw [val_main_v40_apply]; exact mulF (e_v38 A _) (e_v39 A _)

end Cert.Attn

end
-- ==== Proof.Attn.RefSoft.lean ====
/- The reference program at real arguments, one operation at a time: the distance bias, the mask, the softmax and the group's output. -/
module

public import proofs.«01_k».proof.Proof.Attn.RefNorm

@[expose] public section

set_option maxRecDepth 16384

noncomputable section

namespace Cert.Attn

open Cert.ReferenceIdeal Cert.ReferenceIdeal.Gen Cert.ReferenceIdeal.Read Idealize.ShloMosaic

-- the operations are read by their lemmas alone
attribute [local irreducible] val_main_v0 val_main_v1 val_main_v2 val_main_v3 val_main_v4 val_main_v5 val_main_v6 val_main_cst val_main_v7
  val_main_v8 val_main_cst_0 val_main_v9 val_main_v10 val_main_cst_1 val_main_v11 val_main_v12 val_main_v13
  val_main_v14 val_main_cst_2 val_main_v15 val_main_v16 val_main_v17 val_main_v18 val_main_v19 val_main_v20
  val_main_v21 val_main_v22 val_main_cst_3 val_main_v23 val_main_v24 val_main_cst_4 val_main_v25 val_main_v26
  val_main_cst_5 val_main_v27 val_main_v28 val_main_v29 val_main_v30 val_main_cst_6 val_main_v31 val_main_v32
  val_main_v33 val_main_v34 val_main_v35 val_main_v36 val_main_v37 val_main_v38 val_main_cst_7 val_main_v39
  val_main_v40 val_main_v41 val_main_v42 val_main_v43 val_main_v44 val_main_v45 val_main_v46 val_main_v47
  val_main_c val_main_v48 val_main_v49 val_main_c_8 val_main_v50 val_main_v51 val_main_v52 val_main_c_9
  val_main_v53 val_main_v54 val_main_v55 val_main_v56 val_main_cst_10 val_main_v57 val_main_v58 val_main_cst_11
  val_main_v59 val_main_v60 val_main_cst_12 val_main_v61 val_main_v62 val_main_cst_13 val_main_v63 val_main_v64
  val_main_v65 val_main_v66 val_main_v67 val_main_v68 val_main_v69 val_main_v70 val_main_v71 val_main_v72
  val_main_v73 val_main_cst_14 val_main_call0_v0 val_main_v74_1 val_main_call0_v2 val_main_v74_0
  val_main_call0_cst val_main_v74_2 val_main_v75 val_main_cst_15 val_main_v76 val_main_v77 val_main_v78
  val_main_v79 val_main_v80 val_main_v81 val_main_v82 val_main_v83 val_main_v84 val_main_v85 val_main_v86
  val_main_v87 val_main_v88 val_main_v89 val_main_v90 val_main_v91 val_main_cst_16 val_main_v92 val_main_v93
  val_main_v94 val_main_v95 val_main_v96 val_main_v97 val_main_v98 val_main_cst_17 val_main_v99 val_main_v100
  val_main_v101 val_main_v102 val_main_v103 val_main_v104 val_main_v105 val_main_v106 val_main_cst_18
  val_main_v107 val_main_v108 val_main_v109 val_main_v110 val_main_v111 val_main_v112 val_main_v113
  val_main_v114 val_main_v115 val_main_v116 val_main_v117 val_main_cst_19 val_main_v118 val_main_v119
  val_main_cst_20 val_main_v120 val_main_v121 val_main_v122 val_main_v123 val_main_v124 val_main_v125
  val_main_v126 val_main_cst_21 val_main_v127 val_main_v128 val_main_cst_22 val_main_v129 val_main_v130
  val_main_v131 val_main_v132 val_main_v133 val_main_v134 val_main_cst_23 val_main_v135 val_main_v136
  val_main_cst_24 val_main_v137 val_main_v138 val_main_v139 val_main_v140 val_main_v141 val_main_v142
  val_main_v143 val_main_v144 val_main_v145 val_main_v146 val_main_v147 val_main_v148 val_main_v149
  val_main_cst_25 val_main_v150 val_main_v151 val_main_cst_26 val_main_v152 val_main_v153 val_main_v154
  val_main_v155 val_main_v156 val_main_v157 val_main_call1_cst val_main_call1_v0 val_main_v158 val_main_cst_27
  val_main_v159 val_main_v160 val_main_v161 val_main_v162 val_main_v163 val_main_v164 val_main_v165
  val_main_v166 val_main_v167 val_main_cst_28 val_main_v168 val_main_v169 val_main_v170 val_main_v171
  val_main_v172 val_main_cst_29 val_main_v173 val_main_v174 val_main_cst_30 val_main_v175 val_main_v176
  val_main_v177 val_main_v178 val_main_v179 val_main_v180 val_main_v181 val_main_v182 val_main_v183
  val_main_cst_31 val_main_v184 val_main_v185 val_main_v186 val_main_v187 val_main_v188 val_main_cst_32
  val_main_v189 val_main_v190 val_main_cst_33 val_main_v191 val_main_v192 val_main_v193 val_main_v194
  val_main_v195 val_main_v196 val_main_v197 val_main_v198 val_main_v199 val_main_v200 val_main_v201
  val_main_v202 val_main_v203

/-- The integer comparison of two positions. -/
theorem steps_valid : ∀ q k : Fin 128, IntOp.andi (IntOp.cmpi .sge (IntOp.subi (BitVec.ofNat 32 q.val) (BitVec.ofNat 32 k.val)) 0#32)
    (IntOp.cmpi .sle (IntOp.subi (BitVec.ofNat 32 q.val) (BitVec.ofNat 32 k.val)) 128#32) = if k ≤ q then 1#1 else 0#1 := by
  decide +kernel

/-- The distance of two positions. -/
theorem steps_dist : ∀ q k : Fin 128, (IntOp.muli (IntOp.subi (BitVec.ofNat 32 q.val) (BitVec.ofNat 32 k.val)) 16#32).toInt
    = ((q.val : ℤ) - (k.val : ℤ)) * 16 := by
  decide +kernel

theorem e_v47 (i : S128x128.Idx) :
    val_main_v47 (F := Ideal) i = IntOp.subi (BitVec.ofNat 32 (i 0).val) (BitVec.ofNat 32 (i 1).val) := by
  rw [val_main_v47_apply, val_main_v45_apply, val_main_v42_apply, val_main_v41_apply, val_main_v46_apply,
    val_main_v44_apply, val_main_v43_apply]

theorem e_v52 (i : S128x128.Idx) : val_main_v52 (F := Ideal) i = if i 1 ≤ i 0 then 1#1 else 0#1 := by
  rw [val_main_v52_apply, val_main_v49_apply, val_main_v51_apply, e_v47, val_main_v48_apply, val_main_c_apply,
    val_main_v50_apply, val_main_c_8_apply]
  exact steps_valid (i 0) (i 1)

theorem e_v55 (A : Args) (i : S128x128.Idx) :
    val_main_v55 (F := Ideal) i = (((((i 0 : Fin 128) : ℝ) - ((i 1 : Fin 128) : ℝ)) * 16 : ℝ) : EReal) := by
  rw [val_main_v55_apply, val_main_v54_apply, e_v47, val_main_v53_apply, val_main_c_9_apply]
  show ((_ : ℝ) : EReal) = _
  rw [steps_dist (i 0) (i 1)]
  push_cast
  rfl

theorem e_v56 (A : Args) (i : S16.Idx) : val_main_v56 (F := Ideal) i = ((((i 0 : Fin 16) : ℕ) : ℝ) : EReal) := by
  rw [val_main_v56]
  show (((BitVec.ofNat 32 (i 0).val).toInt : ℝ) : EReal) = _
  have h : ∀ k : Fin 16, (BitVec.ofNat 32 k.val).toInt = (k.val : ℤ) := by decide
  rw [h (i 0)]
  push_cast
  rfl

theorem e_cst_10 (A : Args) (i : S_.Idx) :
    val_main_cst_10 (F := Ideal) i = ((1 : ℝ) : EReal) := by
  rw [val_main_cst_10_apply]; exact c_one

theorem e_v57 (A : Args) (i : S16.Idx) :
    val_main_v57 (F := Ideal) i = ((1 : ℝ) : EReal) := by
  rw [val_main_v57_apply]; exact e_cst_10 A _

theorem e_v58 (A : Args) (i : S16.Idx) :
    val_main_v58 (F := Ideal) i = ((((1) + ((((i 0 : Fin 16) : ℕ) : ℝ))) : ℝ) : EReal) := by
  rw [val_main_v58_apply]; exact addF (e_v57 A _) (e_v56 A _)

theorem e_cst_11 (A : Args) (i : S_.Idx) :
    val_main_cst_11 (F := Ideal) i = ((-8 : ℝ) : EReal) := by
  rw [val_main_cst_11_apply]; exact c_neg8

theorem e_v59 (A : Args) (i : S16.Idx) :
    val_main_v59 (F := Ideal) i = ((-8 : ℝ) : EReal) := by
  rw [val_main_v59_apply]; exact e_cst_11 A _

theorem e_v60 (A : Args) (i : S16.Idx) :
    val_main_v60 (F := Ideal) i = ((((-8) * (((1) + ((((i 0 : Fin 16) : ℕ) : ℝ))))) : ℝ) : EReal) := by
  rw [val_main_v60_apply]; exact mulF (e_v59 A _) (e_v58 A _)

theorem e_cst_12 (A : Args) (i : S_.Idx) :
    val_main_cst_12 (F := Ideal) i = ((16 : ℝ) : EReal) := by
  rw [val_main_cst_12_apply]; exact c_16

theorem e_v61 (A : Args) (i : S16.Idx) :
    val_main_v61 (F := Ideal) i = ((16 : ℝ) : EReal) := by
  rw [val_main_v61_apply]; exact e_cst_12 A _

theorem e_v62 (A : Args) (i : S16.Idx) :
    val_main_v62 (F := Ideal) i = ((((((-8) * (((1) + ((((i 0 : Fin 16) : ℕ) : ℝ)))))) / (16)) : ℝ) : EReal) := by
  rw [val_main_v62_apply]; exact divF (e_v60 A _) (e_v61 A _) (by norm_num)

theorem e_cst_13 (A : Args) (i : S_.Idx) :
    val_main_cst_13 (F := Ideal) i = ((ln2R : ℝ) : EReal) := by
  rw [val_main_cst_13_apply]; exact c_ln2

theorem e_v63 (A : Args) (i : S16.Idx) :
    val_main_v63 (F := Ideal) i = ((ln2R : ℝ) : EReal) := by
  rw [val_main_v63_apply]; exact e_cst_13 A _

theorem e_v64 (A : Args) (i : S16.Idx) :
    val_main_v64 (F := Ideal) i = ((((ln2R) * (((((-8) * (((1) + ((((i 0 : Fin 16) : ℕ) : ℝ)))))) / (16)))) : ℝ) : EReal) := by
  rw [val_main_v64_apply]; exact mulF (e_v63 A _) (e_v62 A _)

theorem e_v65 (A : Args) (i : S16.Idx) :
    val_main_v65 (F := Ideal) i = ((slope (i 0) : ℝ) : EReal) := by
  rw [val_main_v65_apply]; exact expF (e_v64 A _)

theorem e_v66 (A : Args) (i : S16x1x1.Idx) :
    val_main_v66 (F := Ideal) i = ((slope (i 0) : ℝ) : EReal) := by
  rw [val_main_v66_apply]; exact e_v65 A _

theorem e_v67 (A : Args) (i : S1x128x128.Idx) :
    val_main_v67 (F := Ideal) i = ((((((i 1 : Fin 128) : ℕ) : ℝ) - (((i 2 : Fin 128) : ℕ) : ℝ)) * 16 : ℝ) : EReal) := by
  rw [val_main_v67_apply]; exact e_v55 A _

theorem e_v68 (A : Args) (i : S16x128x128.Idx) :
    val_main_v68 (F := Ideal) i = ((slope (i 0) : ℝ) : EReal) := by
  rw [val_main_v68_apply]; exact e_v66 A _

theorem e_v69 (A : Args) (i : S16x128x128.Idx) :
    val_main_v69 (F := Ideal) i = ((((((i 1 : Fin 128) : ℕ) : ℝ) - (((i 2 : Fin 128) : ℕ) : ℝ)) * 16 : ℝ) : EReal) := by
  rw [val_main_v69_apply]; exact e_v67 A _

theorem e_v70 (A : Args) (i : S16x128x128.Idx) :
    val_main_v70 (F := Ideal) i = ((((slope (i 0)) * (((((i 1 : Fin 128) : ℕ) : ℝ) - (((i 2 : Fin 128) : ℕ) : ℝ)) * 16)) : ℝ) : EReal) := by
  rw [val_main_v70_apply]; exact mulF (e_v68 A _) (e_v69 A _)

theorem e_v71 (A : Args) (i : S1x16x128x128.Idx) :
    val_main_v71 (F := Ideal) i = ((((slope (i 1)) * (((((i 2 : Fin 128) : ℕ) : ℝ) - (((i 3 : Fin 128) : ℕ) : ℝ)) * 16)) : ℝ) : EReal) := by
  rw [val_main_v71_apply]; exact e_v70 A _

theorem e_v72 (A : Args) (i : S16x16x128x128.Idx) :
    val_main_v72 (F := Ideal) i = ((((slope (i 1)) * (((((i 2 : Fin 128) : ℕ) : ℝ) - (((i 3 : Fin 128) : ℕ) : ℝ)) * 16)) : ℝ) : EReal) := by
  rw [val_main_v72_apply]; exact e_v71 A _

theorem e_v73 (A : Args) (i : S16x16x128x128.Idx) :
    val_main_v73 (F := Ideal) (up A.a0) (up A.a1) (up A.a2) i = (((A.head (i 0) (i 1)).sc (i 2) (i 3) : ℝ) : EReal) := by
  rw [val_main_v73_apply]; exact subF (e_v40 A _) (e_v72 A _)

theorem e_call0_cst (A : Args) (i : S_.Idx) :
    val_main_call0_cst (F := Ideal) i = ((0 : ℝ) : EReal) := by
  rw [val_main_call0_cst_apply]; exact c_zero

theorem e_v74 (A : Args) (i : S16x16x128x128.Idx) :
    val_main_v74_0 (F := Ideal) (up A.a0) (up A.a1) (up A.a2) i
      = if i 3 ≤ i 2 then (((A.head (i 0) (i 1)).sc (i 2) (i 3) : ℝ) : EReal) else ⊥ := by
  rw [val_main_v74_0_apply, val_main_v74_1_apply, e_v52, e_v73, val_main_call0_v2_apply, val_main_call0_v0_apply,
    val_main_cst_14_apply, c_neg_inf]
  show Scalar.select (if i 3 ≤ i 2 then 1#1 else 0#1) _ _ = _
  split <;> rfl

theorem e_v75 (A : Args) (i : S16x16x128x128.Idx) :
    val_main_v75 (F := Ideal) (up A.a0) (up A.a1) (up A.a2) i = (((A.head (i 0) (i 1)).ex (i 2) (i 3) : ℝ) : EReal) := by
  rw [val_main_v75_apply, e_v74]
  exact expIte _

theorem e_cst_15 (A : Args) (i : S_.Idx) :
    val_main_cst_15 (F := Ideal) i = ((0 : ℝ) : EReal) := by
  rw [val_main_cst_15_apply]; exact c_zero

theorem e_v76 (A : Args) (i : S16x16x128.Idx) :
    val_main_v76 (F := Ideal) (up A.a0) (up A.a1) (up A.a2) i = (((A.head (i 0) (i 1)).sm (i 2) : ℝ) : EReal) := by
  rw [val_main_v76_apply]; exact sumR (e_cst_15 A _) (fun k => e_v75 A _)

theorem e_v77 (A : Args) (i : S16x16x128.Idx) :
    val_main_v77 (F := Ideal) (up A.a0) (up A.a1) (up A.a2) i = ((Real.log ((A.head (i 0) (i 1)).sm (i 2)) : ℝ) : EReal) := by
  rw [val_main_v77_apply]; exact logF (e_v76 A _) (Head.sm_pos _ _)

theorem e_v78 (A : Args) (i : S16x16x128x1.Idx) :
    val_main_v78 (F := Ideal) (up A.a0) (up A.a1) (up A.a2) i = ((Real.log ((A.head (i 0) (i 1)).sm (i 2)) : ℝ) : EReal) := by
  rw [val_main_v78_apply]; exact e_v77 A _

theorem e_v79 (A : Args) (i : S16x16x128x128.Idx) :
    val_main_v79 (F := Ideal) (up A.a0) (up A.a1) (up A.a2) i = ((Real.log ((A.head (i 0) (i 1)).sm (i 2)) : ℝ) : EReal) := by
  rw [val_main_v79_apply]; exact e_v78 A _

theorem e_v81 (A : Args) (i : S16x16x128x128.Idx) :
    val_main_v81 (F := Ideal) (up A.a0) (up A.a1) (up A.a2) i = (((A.head (i 0) (i 1)).pr (i 2) (i 3) : ℝ) : EReal) := by
  rw [val_main_v81_apply, val_main_v80_apply, e_v74, e_v79 A]
  exact expSubIte _ _

theorem e_v82 (A : Args) (i : S16x16x64x128.Idx) :
    val_main_v82 (F := Ideal) (up A.a0) (up A.a1) (up A.a2) i = (((A.head (i 0) (i 1)).o2 (i 3) (i 2) : ℝ) : EReal) := by
  rw [val_main_v82_apply]; exact dotR (fun k => e_v5 A _) (fun k => e_v81 A _)

theorem e_v83 (A : Args) (i : S128x16x16x64.Idx) :
    val_main_v83 (F := Ideal) (up A.a0) (up A.a1) (up A.a2) i = (((A.head (i 1) (i 2)).o2 (i 0) (i 3) : ℝ) : EReal) := by
  rw [val_main_v83_apply]; exact e_v82 A _

theorem e_v84 (A : Args) (i : S128x16x16.Idx) :
    val_main_v84 (F := Ideal) (up A.a0) (up A.a1) (up A.a2) i = ((Real.log ((A.head (i 1) (i 2)).sm (i 0)) : ℝ) : EReal) := by
  rw [val_main_v84_apply]; exact e_v77 A _

end Cert.Attn

end
-- ==== Proof.Attn.HostRead.lean ====
/- The buffers that the windows read, element by element. -/
module

public import proofs.«01_k».proof.Proof.Attn.HostTables
public import proofs.«01_k».proof.Proof.Attn.KerNorm
public import proofs.«01_k».proof.Proof.Attn.RefSoft
public import Idealize.ShloMosaic.Lib.StableHlo.ReadAt
public import Idealize.ShloMosaic.Lib.Pointwise

@[expose] public section

set_option maxRecDepth 16384

noncomputable section

namespace Cert.Attn.Host

open Cert.KernelIdeal Cert.KernelIdeal.Gen Idealize.ShloMosaic Idealize.ShloMosaic.StableHlo Idealize.ShloMosaic.TcCoe

/-- Row `l` of residue class `r`. -/
def row (r : Fin 16) (l : Fin 128) : Fin 2048 := ⟨128 * r.val + l.val, by omega⟩
/-- Column `c` of operand `w`, of three. -/
def col3 (w : Fin 3) (c : Fin 1024) : Fin 3072 := ⟨1024 * w.val + c.val, by omega⟩
/-- Column `c` of operand `w`, of two. -/
def col2 (w : Fin 2) (c : Fin 1024) : Fin 2048 := ⟨1024 * w.val + c.val, by omega⟩

theorem pack3_at (x : (⟨S128x16x3x16x64, .f32⟩ : BufTy).Contents (Elt Ideal)) (r : Fin 16) (l : Fin 128) (w : Fin 3) (h : Fin 16) (d : Fin 64) :
    pack3 x (ix2 (row r l) (col3 w (col h d))) = x (ix5 l r w h d) := by
  unfold pack3 row col3 col
  pointwise

theorem pack1_at (x : (⟨S128x16x16x64, .f32⟩ : BufTy).Contents (Elt Ideal)) (r : Fin 16) (l : Fin 128) (h : Fin 16) (d : Fin 64) :
    pack1 x (ix2 (row r l) (col h d)) = x (ix4 l r h d) := by
  unfold pack1 row col
  pointwise

theorem pack2_at0 (x y : (⟨S128x16x1x16x64, .f32⟩ : BufTy).Contents (Elt Ideal)) (r : Fin 16) (l : Fin 128) (h : Fin 16) (d : Fin 64) :
    pack2 (F := Ideal) x y (ix2 (row r l) (col2 0 (col h d))) = x (ix5 l r 0 h d) := by
  unfold pack2 row col col2
  pointwise
  have e : (64 * h.val + d.val) / 1024 = 0 := by omega
  simp only [e, Nat.lt_one_iff, dite_true]
  rfl

theorem pack2_at1 (x y : (⟨S128x16x1x16x64, .f32⟩ : BufTy).Contents (Elt Ideal)) (r : Fin 16) (l : Fin 128) (h : Fin 16) (d : Fin 64) :
    pack2 (F := Ideal) x y (ix2 (row r l) (col2 1 (col h d))) = y (ix5 l r 0 h d) := by
  unfold pack2 row col col2
  pointwise
  have e : (1024 + (64 * h.val + d.val)) / 1024 = 1 := by omega
  simp only [e]
  rfl

theorem eighth_at (x : (⟨S128x16x16x64, .f32⟩ : BufTy).Contents (Elt Ideal)) (r h : Fin 16) (l : Fin 128) (d : Fin 64) :
    eighth (F := Ideal) x (ix5 l r 0 h d) = x (ix4 l r h d) * FloatOps.ofBits (F := Ideal) .f32 0x3E000000#32 := by
  unfold eighth
  pointwise

theorem axis_at (x : (⟨S128x16x16x64, .f32⟩ : BufTy).Contents (Elt Ideal)) (r h : Fin 16) (l : Fin 128) (d : Fin 64) :
    axis (F := Ideal) x (ix5 l r 0 h d) = x (ix4 l r h d) := by
  unfold axis
  pointwise

theorem lanes_at (x : (⟨S128x16x16, .f32⟩ : BufTy).Contents (Elt Ideal)) (r : Fin 16) (l : Fin 128) (h : Fin 16) :
    lanes (F := Ideal) x (ix2 (row r l) (lane h)) = x (ix3 l r h) := by
  unfold lanes row lane
  pointwise
  rw [dif_pos (by omega)]

theorem tile_at (x : (⟨S64, .f32⟩ : BufTy).Contents (Elt Ideal)) (h : Fin 16) (d : Fin 64) :
    tile (F := Ideal) x (ix2 0 (col h d)) = x (ix1 d) := by
  unfold tile col
  pointwise

/-- The distance of row `i` to column `128 + j` of a tile, as the program computes it. -/
theorem tile_steps (i j : Fin 128) : IntOp.subi (IntOp.addi (BitVec.ofNat 32 i.val) 128#32) (BitVec.ofNat 32 (128 + j.val))
    = IntOp.subi (BitVec.ofNat 32 i.val) (BitVec.ofNat 32 j.val) := by
  revert i j; decide +kernel

theorem bias_at (V0 : Valuation τ sig (Elt Ideal)) (h : Fin 16) (i j : Fin 128) :
   (U3 V0 (Proc.devRef .tc main_v151) : (⟨S16x128x256, .f32⟩ : BufTy).Contents (Elt Ideal)) (ix3 h i ⟨128 + j.val, by omega⟩)
     = if j ≤ i then ((-slope h * (((i : ℝ) - (j : ℝ)) * 16) : ℝ) : EReal) else ⊥ := by
  unfold U3
  after_reads_at
  rw [tile_steps, steps_valid]
  have hs : Ideal.exp (Ideal.ofBits FTy.f32 1060205080#32 *
              Ideal.div (Ideal.ofBits FTy.f32 3238002688#32 * (1 + FloatOps.sitofp (F := Ideal) FTy.f32 (BitVec.ofNat 32 h.val)))
                (Ideal.ofBits FTy.f32 1098907648#32)) = ((slope h : ℝ) : EReal) := by
    have hk : ∀ k : Fin 16, (BitVec.ofNat 32 k.val).toInt = (k.val : ℤ) := by decide
    have hh : FloatOps.sitofp (F := Ideal) FTy.f32 (BitVec.ofNat 32 h.val) = (((h.val : ℕ) : ℝ) : EReal) := by
      show (((BitVec.ofNat 32 h.val).toInt : ℝ) : EReal) = _
      rw [hk h]; push_cast; rfl
    exact expR (mulR c_ln2 (divR (mulR c_neg8 (addR (by norm_num) hh)) c_16 (by norm_num)))
  have hd : FloatOps.sitofp (F := Ideal) FTy.f32 (IntOp.muli (IntOp.subi (BitVec.ofNat 32 i.val) (BitVec.ofNat 32 j.val)) 16#32)
      = ((((i : ℝ) - (j : ℝ)) * 16 : ℝ) : EReal) := by
    show ((_ : ℝ) : EReal) = _
    rw [steps_dist i j]; push_cast; rfl
  rw [hs, hd]
  show Scalar.select (if j ≤ i then 1#1 else 0#1) _ (FloatOps.ofBits (F := Ideal) .f32 0xFF800000#32) = _
  rw [c_neg_inf, mulR (negR rfl) rfl]
  split <;> rfl

/-- The quotient by the head width, rounded down, as the program computes it. -/
def divWord (w s : BitVec 32) : BitVec 32 :=
  Scalar.select (IntOp.andi (IntOp.cmpi .ne (if w = 0 then 0 else if w.msb = true then -1 else 1 : BitVec 32) (if s = 0 then 0 else if s.msb = true then -1 else 1 : BitVec 32))
      (IntOp.cmpi .ne (IntOp.remsi ArithUnit.host w s) 0#32))
    (IntOp.subi (IntOp.divsi ArithUnit.host w s) 1#32) (IntOp.divsi ArithUnit.host w s)
/-- The remainder by the head width, as the program computes it. -/
def remWord (w s : BitVec 32) : BitVec 32 :=
  let t := Scalar.select (IntOp.cmpi .eq s 0#32) 1#32 s
  Scalar.select (IntOp.andi (IntOp.cmpi .ne (IntOp.cmpi .slt (IntOp.remsi ArithUnit.host w t) 0#32) (IntOp.cmpi .slt t 0#32))
      (IntOp.cmpi .ne (IntOp.remsi ArithUnit.host w t) 0#32))
    (IntOp.addi (IntOp.remsi ArithUnit.host w t) t) (IntOp.remsi ArithUnit.host w t)

theorem divWord_eq : ∀ c : Fin 1024, divWord (BitVec.ofNat 32 c.val) 64#32 = BitVec.ofNat 32 (c.val / 64) := by decide +kernel
theorem remWord_eq : ∀ l : Fin 128, remWord (BitVec.ofNat 32 l.val) 64#32 = BitVec.ofNat 32 (l.val % 64) := by decide +kernel

theorem bit_eq (a b : ℕ) (ha : a < 2 ^ 32) (hb : b < 2 ^ 32) :
    FloatOps.uitofp (F := Ideal) FTy.bf16 (IntOp.cmpi .eq (BitVec.ofNat 32 a) (BitVec.ofNat 32 b)) = ((if a = b then 1 else 0 : ℝ) : EReal) := by
  show (((IntOp.cmpi .eq (BitVec.ofNat 32 a) (BitVec.ofNat 32 b)).toNat : ℝ) : EReal) = _
  have h : (BitVec.ofNat 32 a = BitVec.ofNat 32 b) ↔ a = b := by
    constructor
    · intro e
      have := congrArg BitVec.toNat e
      rwa [BitVec.toNat_ofNat, BitVec.toNat_ofNat, Nat.mod_eq_of_lt ha, Nat.mod_eq_of_lt hb] at this
    · rintro rfl; rfl
  by_cases e : a = b <;> simp [IntOp.cmpi, h, e]

theorem gather_at (V0 : Valuation τ sig (Elt Ideal)) : IsGather (U3 V0 (Proc.devRef .tc main_v114) : (⟨S1024x128, .bf16⟩ : BufTy).Contents (Elt Ideal)) := by
  intro c l
  unfold U3
  after_reads_at
  rw [U2_v109, U2_c_15]
  show FloatOps.uitofp (F := Ideal) FTy.bf16 (IntOp.cmpi .eq (divWord (BitVec.ofNat 32 c.val) 64#32) (remWord (BitVec.ofNat 32 l.val) 64#32)) = _
  rw [divWord_eq, remWord_eq]
  exact bit_eq _ _ (by omega) (by omega)

theorem spread_at (V0 : Valuation τ sig (Elt Ideal)) : IsSpread (U3 V0 (Proc.devRef .tc main_v120) : (⟨S128x1024, .bf16⟩ : BufTy).Contents (Elt Ideal)) := by
  intro l c
  unfold U3
  after_reads_at
  show FloatOps.uitofp (F := Ideal) FTy.bf16 (IntOp.cmpi .eq (remWord (BitVec.ofNat 32 l.val) 64#32) (divWord (BitVec.ofNat 32 c.val) 64#32)) = _
  rw [divWord_eq, remWord_eq]
  exact bit_eq _ _ (by omega) (by omega)

end Cert.Attn.Host

end
-- ==== Proof.Attn.KerBlock.lean ====
/- What the backward kernel's body stores, from the blocks it reads: each store's rows, when the blocks hold real
   numbers. The body keeps each head's exponentials and score gradients in scratch arrays, one slab a head, then takes
   the products of the heads pair by pair, and last the derivative of the two norms. -/
module

public import proofs.«01_k».proof.Proof.Attn.KerNorm
public import proofs.«01_k».proof.Proof.Gen.KernelIdeal.Frame.RunA
public import Idealize.ShloMosaic.Lib.WholeRead

@[expose] public section

set_option maxRecDepth 16384

noncomputable section

namespace Cert.Attn

open Idealize.ShloMosaic Cert.KernelIdeal Cert.KernelIdeal.Gen Idealize.SL.Sem

/-- The head in half `e` of slab `j`. -/
def pair (j : Fin 8) (e : Fin 2) : Fin 16 := ⟨2 * j.val + e.val, by omega⟩

/-- What the blocks of one grid point hold: the rows of the 16 heads of one residue class. -/
structure Blocks (H : Fin 16 → Head) (x0 x1 x2 x3 : Vec Ideal S128x1024 .bf16) (x4 x5 : Vec Ideal S128x128 .f32)
    (x6 : Vec Ideal S16x128x256 .f32) (x7 x8 : Vec Ideal S128x1024 .bf16) (x9 x10 : Vec Ideal S1x1024 .f32)
    (x11 : Vec Ideal S1024x128 .bf16) (x12 : Vec Ideal S128x1024 .bf16) : Prop where
  eps : ∀ h, (H h).eps = epsR
  q : ∀ i h d, x0 (ix2 i (col h d)) = (((H h).nq i d * (1 / 8) : ℝ) : EReal)
  k : ∀ i h d, x1 (ix2 i (col h d)) = (((H h).nk i d : ℝ) : EReal)
  v : ∀ i h d, x2 (ix2 i (col h d)) = (((H h).xv i d : ℝ) : EReal)
  g : ∀ i h d, x3 (ix2 i (col h d)) = (((H h).ct i d : ℝ) : EReal)
  l : ∀ i h, x4 (ix2 i (lane h)) = ((Real.log ((H h).tot i) : ℝ) : EReal)
  dl : ∀ i h, x5 (ix2 i (lane h)) = (((H h).delta i : ℝ) : EReal)
  b : ∀ h (i j : Fin 128), x6 (ix3 h i ⟨128 + j.val, by omega⟩)
    = if j ≤ i then ((-(H h).sl * (((i : ℝ) - (j : ℝ)) * 16) : ℝ) : EReal) else ⊥
  rq : ∀ i h d, x7 (ix2 i (col h d)) = (((H h).xq i d : ℝ) : EReal)
  rk : ∀ i h d, x8 (ix2 i (col h d)) = (((H h).xk i d : ℝ) : EReal)
  gq : ∀ h d, x9 (ix2 0 (col h d)) = (((H h).gq d : ℝ) : EReal)
  gk : ∀ h d, x10 (ix2 0 (col h d)) = (((H h).gk d : ℝ) : EReal)
  ga : IsGather x11
  sp : IsSpread x12

/-! ## The parts of a block that the body reads -/

theorem inb_slab (h : Fin 16) : ∀ a, (![h.val, 0, 0] : Fin 3 → Nat) a + S1x128x128.size a ≤ S16x128x128.size a := by
  intro a; fin_cases a
  · show h.val + 1 ≤ 16; omega
  · show 0 + 128 ≤ 128; omega
  · show 0 + 128 ≤ 128; omega
theorem inb_pair (j : Fin 8) : ∀ a, (![0, 128 * j.val] : Fin 2 → Nat) a + S128x128.size a ≤ S128x1024.size a := by
  intro a; fin_cases a
  · show 0 + 128 ≤ 128; omega
  · show 128 * j.val + 128 ≤ 1024; omega
theorem inb_out (j : Fin 8) : ∀ a, (![0, 2048 + 128 * j.val] : Fin 2 → Nat) a + S128x128.size a ≤ S128x3072.size a := by
  intro a; fin_cases a
  · show 0 + 128 ≤ 128; omega
  · show 2048 + 128 * j.val + 128 ≤ 3072; omega

/-- The places of a head's slab in a scratch array, of a pair's slab in a block, and of a pair's slab of values'
    gradients in the result's block. -/
abbrev rSlab (h : Fin 16) : Rect S16x128x128 := Rect.unit ![h.val, 0, 0] S1x128x128.size (inb_slab h)
abbrev rPair (j : Fin 8) : Rect S128x1024 := Rect.unit ![0, 128 * j.val] S128x128.size (inb_pair j)
abbrev rOut (j : Fin 8) : Rect S128x3072 := Rect.unit ![0, 2048 + 128 * j.val] S128x128.size (inb_out j)

theorem inb_col (h : Fin 16) : ∀ a, (![0, h.val] : Fin 2 → Nat) a + S128x1.size a ≤ S128x128.size a := by
  intro a; fin_cases a
  · show 0 + 128 ≤ 128; omega
  · show h.val + 1 ≤ 128; omega
theorem inb_bias (h : Fin 16) : ∀ a, (![h.val, 0, 128] : Fin 3 → Nat) a + S1x128x128.size a ≤ S16x128x256.size a := by
  intro a; fin_cases a
  · show h.val + 1 ≤ 16; omega
  · show 0 + 128 ≤ 128; omega
  · show 128 + 128 ≤ 256; omega

/-- The places of a head's column, and of the right half of its bias. -/
abbrev rCol (h : Fin 16) : Rect S128x128 := Rect.unit ![0, h.val] S128x1.size (inb_col h)
abbrev rBias (h : Fin 16) : Rect S16x128x256 := Rect.unit ![h.val, 0, 128] S1x128x128.size (inb_bias h)

/-- Slab `j` of a block of 1024 columns. -/
def rdS (m : Memref sig .tc .vmem S128x1024 .bf16) (hm : m.IsWhole) (x : Vec Ideal S128x1024 .bf16) (j : Fin 8) :
    FVec Ideal S128x128 .bf16 :=
  View.readAt (Elt Ideal) m.view (rPair j).toLoadRect (hm.unread x)

/-- Column `h` of a block of 128 columns. -/
def rdC (m : Memref sig .tc .vmem S128x128 .f32) (hm : m.IsWhole) (x : Vec Ideal S128x128 .f32) (h : Fin 16) :
    FVec Ideal S128x1 .f32 :=
  View.readAt (Elt Ideal) m.view (rCol h).toLoadRect (hm.unread x)

/-- The right half of head `h`'s bias. -/
def rdB (m : Memref sig .tc .vmem S16x128x256 .f32) (hm : m.IsWhole) (x : Vec Ideal S16x128x256 .f32) (h : Fin 16) :
    FVec Ideal S1x128x128 .f32 :=
  View.readAt (Elt Ideal) m.view (rBias h).toLoadRect (hm.unread x)

theorem rdS_apply (m : Memref sig .tc .vmem S128x1024 .bf16) (hm : m.IsWhole) (x : Vec Ideal S128x1024 .bf16)
    (j : Fin 8) (i : Fin 128) (e : Fin 2) (d : Fin 64) : rdS m hm x j (ix2 i (half e d)) = x (ix2 i (col (pair j e) d)) := by
  refine (Memref.IsWhole.readAt_unread hm x _ _).trans (congrArg x ?_)
  funext a
  apply Fin.ext
  fin_cases a
  · show 0 + 1 * i.val = i.val; omega
  · show 128 * j.val + 1 * (64 * e.val + d.val) = 64 * (2 * j.val + e.val) + d.val; omega

theorem rdC_apply (m : Memref sig .tc .vmem S128x128 .f32) (hm : m.IsWhole) (x : Vec Ideal S128x128 .f32)
    (h : Fin 16) (i : Fin 128) : rdC m hm x h (ix2 i 0) = x (ix2 i (lane h)) := by
  refine (Memref.IsWhole.readAt_unread hm x _ _).trans (congrArg x ?_)
  funext a
  apply Fin.ext
  fin_cases a
  · show 0 + 1 * i.val = i.val; omega
  · show h.val + 1 * 0 = h.val; omega

theorem rdB_apply (m : Memref sig .tc .vmem S16x128x256 .f32) (hm : m.IsWhole) (x : Vec Ideal S16x128x256 .f32)
    (h : Fin 16) (i j : Fin 128) : rdB m hm x h (ix3 0 i j) = x (ix3 h i ⟨128 + j.val, by omega⟩) := by
  refine (Memref.IsWhole.readAt_unread hm x _ _).trans (congrArg x ?_)
  funext a
  apply Fin.ext
  fin_cases a
  · show h.val + 1 * 0 = h.val; omega
  · show 0 + 1 * i.val = i.val; omega
  · show 128 + 1 * j.val = 128 + j.val; omega

/-! ## The scratch arrays -/

/-- Each head's exponentials, one slab a head. -/
def arrP (H : Fin 16 → Head) : Vec Ideal S16x128x128 .bf16 := fun y => (((H (y 0)).kerP (y 1) (y 2) : ℝ) : EReal)
/-- Each head's score gradients. -/
def arrDS (H : Fin 16 → Head) : Vec Ideal S16x128x128 .bf16 := fun y => (((H (y 0)).kerDS (y 1) (y 2) : ℝ) : EReal)
/-- The gradients of the scaled queries, before the scale. -/
def arrDQ (H : Fin 16 → Head) : Vec Ideal S128x1024 .f32 := fun y =>
  ((∑ k, (H (colH (y 1))).kerDS (y 0) k * (H (colH (y 1))).nk k (colD (y 1)) : ℝ) : EReal)
/-- The gradients of the normalized keys. -/
def arrDK (H : Fin 16 → Head) : Vec Ideal S128x1024 .f32 := fun y =>
  (((H (colH (y 1))).kerNK (y 0) (colD (y 1)) : ℝ) : EReal)
/-- Element `c` of a row of the result: the gradients of the queries, of the keys and of the values. -/
def resultAt (H : Fin 16 → Head) (i : Fin 128) (c : Fin 3072) : ℝ :=
  if h : c.val < 1024 then (H (colH ⟨c.val, h⟩)).kerQ i (colD ⟨c.val, h⟩)
  else if h' : c.val < 2048 then (H (colH ⟨c.val - 1024, by omega⟩)).kerK i (colD ⟨c.val - 1024, by omega⟩)
  else (H (colH ⟨c.val - 2048, by omega⟩)).kerV i (colD ⟨c.val - 2048, by omega⟩)
/-- The result's block. -/
def arrOut (H : Fin 16 → Head) : Vec Ideal S128x3072 .bf16 := fun y => ((resultAt H (y 0) (y 1) : ℝ) : EReal)

/-- A slab's place in a scratch array. -/
theorem emb_slab (h : Fin 16) (i j : Fin 128) :
    (rSlab h).emb (ix3 0 i j) = (ix3 h i j : S16x128x128.Idx) := by
  funext a
  apply Fin.ext
  fin_cases a
  · show h.val + 1 * 0 = h.val; omega
  · show 0 + 1 * i.val = i.val; omega
  · show 0 + 1 * j.val = j.val; omega

theorem emb_pair (j : Fin 8) (i : Fin 128) (e : Fin 2) (d : Fin 64) :
    (rPair j).emb (ix2 i (half e d))
      = (ix2 i (col (pair j e) d) : S128x1024.Idx) := by
  funext a
  apply Fin.ext
  fin_cases a
  · show 0 + 1 * i.val = i.val; omega
  · show 128 * j.val + 1 * (64 * e.val + d.val) = 64 * (2 * j.val + e.val) + d.val; omega

theorem emb_out (j : Fin 8) (i : Fin 128) (e : Fin 2) (d : Fin 64) :
    (rOut j).emb (ix2 i (half e d))
      = (ix2 i ⟨2048 + (col (pair j e) d).val, by omega⟩ : S128x3072.Idx) := by
  funext a
  apply Fin.ext
  fin_cases a
  · show 0 + 1 * i.val = i.val; omega
  · show 2048 + 128 * j.val + 1 * (64 * e.val + d.val) = 2048 + (64 * (2 * j.val + e.val) + d.val); omega

theorem half_surj (l : Fin 128) : ∃ e d, l = half e d :=
  ⟨⟨l.val / 64, by omega⟩, ⟨l.val % 64, by omega⟩, Fin.ext (by show l.val = 64 * (l.val / 64) + l.val % 64; omega)⟩

section
variable {H : Fin 16 → Head} {x0 x1 x2 x3 : Vec Ideal S128x1024 .bf16} {x4 x5 : Vec Ideal S128x128 .f32}
  {x6 : Vec Ideal S16x128x256 .f32} {x7 x8 : Vec Ideal S128x1024 .bf16} {x9 x10 : Vec Ideal S1x1024 .f32}
  {x11 : Vec Ideal S1024x128 .bf16} {x12 : Vec Ideal S128x1024 .bf16}
  (X : Blocks H x0 x1 x2 x3 x4 x5 x6 x7 x8 x9 x10 x11 x12)
  (m1 : Memref sig .tc .vmem S128x1024 .bf16) (w1 : m1.IsWhole) (m2 : Memref sig .tc .vmem S128x1024 .bf16) (w2 : m2.IsWhole)
  (m3 : Memref sig .tc .vmem S128x1024 .bf16) (w3 : m3.IsWhole) (m4 : Memref sig .tc .vmem S128x1024 .bf16) (w4 : m4.IsWhole)
  (m5 : Memref sig .tc .vmem S128x128 .f32) (w5 : m5.IsWhole) (m6 : Memref sig .tc .vmem S128x128 .f32) (w6 : m6.IsWhole)
  (m7 : Memref sig .tc .vmem S16x128x256 .f32) (w7 : m7.IsWhole)
include X

/-- The exponentials of the head in half `e` of slab `j`. -/
theorem probs_block (j : Fin 8) (e : Fin 2) (i k : Fin 128) :
    probs (mask e) (rdS m1 w1 x0 j) (rdS m2 w2 x1 j) (rdC m5 w5 x4 (pair j e)) (rdB m7 w7 x6 (pair j e)) (ix2 i k)
      = (((H (pair j e)).kerP i k : ℝ) : EReal) :=
  probs_real (H (pair j e)) e (fun i d => (rdS_apply m1 w1 x0 j i e d).trans (X.q i _ d))
    (fun i d => (rdS_apply m2 w2 x1 j i e d).trans (X.k i _ d)) (fun i => (rdC_apply m5 w5 x4 _ i).trans (X.l i _))
    (fun i k => (rdB_apply m7 w7 x6 _ i k).trans (X.b _ i k)) i k

theorem agrees_P (j : Fin 8) (e : Fin 2) (y : S1x128x128.Idx) :
    shapeCast S1x128x128 (truncf .bf16 (probs (mask e) (rdS m1 w1 x0 j) (rdS m2 w2 x1 j) (rdC m5 w5 x4 (pair j e))
      (rdB m7 w7 x6 (pair j e))) bitsLt_bf16_f32) shapeCasts_S128x128_S1x128x128 y
      = arrP H ((rSlab (pair j e)).emb y) := by
  obtain ⟨a, b, c, rfl⟩ : ∃ a b c, y = ix3 a b c := ⟨y 0, y 1, y 2, eq_ix3 y⟩
  obtain rfl : a = 0 := Subsingleton.elim _ _
  rw [emb_slab]
  refine Eq.trans ?_ (probs_block X m1 w1 m2 w2 m5 w5 m7 w7 j e b c)
  pointwise []

theorem agrees_DS (j : Fin 8) (e : Fin 2) (y : S1x128x128.Idx) :
    shapeCast S1x128x128 (grads (mask e) (probs (mask e) (rdS m1 w1 x0 j) (rdS m2 w2 x1 j) (rdC m5 w5 x4 (pair j e))
      (rdB m7 w7 x6 (pair j e))) (rdS m4 w4 x3 j) (rdS m3 w3 x2 j) (rdC m6 w6 x5 (pair j e)))
      shapeCasts_S128x128_S1x128x128 y
      = arrDS H ((rSlab (pair j e)).emb y) := by
  obtain ⟨a, b, c, rfl⟩ : ∃ a b c, y = ix3 a b c := ⟨y 0, y 1, y 2, eq_ix3 y⟩
  obtain rfl : a = 0 := Subsingleton.elim _ _
  rw [emb_slab]
  refine Eq.trans ?_ (grads_real (H (pair j e)) e (probs_block X m1 w1 m2 w2 m5 w5 m7 w7 j e)
    (fun i d => (rdS_apply m4 w4 x3 j i e d).trans (X.g i _ d))
    (fun i d => (rdS_apply m3 w3 x2 j i e d).trans (X.v i _ d)) (fun i => (rdC_apply m6 w6 x5 _ i).trans (X.dl i _)) b c)
  pointwise []

/-! ## The products, pair by pair -/

variable (s : Memref sig .tc .vmem S16x128x128 .bf16) {L : List (View.Piece (Elt Ideal) S16x128x128 .bf16)}

omit X in
/-- A slab read back from a scratch array. -/
theorem slab_apply {A : Vec Ideal S16x128x128 .bf16} (hL : ∀ y, View.canon L y = A y) (h : Fin 16) (i k : Fin 128) :
    s.view.readCov L (rSlab h).toLoadRect (ix3 0 i k) = A (ix3 h i k) := by
  rw [View.readCov_eq_canon']
  exact (hL _).trans (congrArg A (emb_slab h i k))

/-- Reading the even or the odd slab of pair `j`. -/
def rdP (s : Memref sig .tc .vmem S16x128x128 .bf16) (L : List (View.Piece (Elt Ideal) S16x128x128 .bf16)) (h : Fin 16) :
    FVec Ideal S1x128x128 .bf16 :=
  s.view.readCov L (rSlab h).toLoadRect

omit X in
theorem rdP_apply {A : Vec Ideal S16x128x128 .bf16} (hL : ∀ y, View.canon L y = A y) (j : Fin 8) (e : Fin 2)
    (i k : Fin 128) :
    (if e = 0 then rdP s L (pair j 0) else rdP s L (pair j 1)) (ix3 0 i k) = A (ix3 (pair j e) i k) := by
  fin_cases e
  · exact slab_apply s hL (pair j 0) i k
  · exact slab_apply s hL (pair j 1) i k

theorem agrees_DQ (hL : ∀ y, View.canon L y = arrDS H y) (j : Fin 8) (y : S128x128.Idx) :
    shapeCast S128x128 (pairN (rdP s L (pair j 0)) (rdP s L (pair j 1)) (rdS m2 w2 x1 j)) shapeCasts_S128x128_S128x128 y
      = arrDQ H ((rPair j).emb y) := by
  obtain ⟨i, l, rfl⟩ : ∃ i l, y = ix2 i l := ⟨y 0, y 1, eq_ix2 y⟩
  obtain ⟨e, d, rfl⟩ := half_surj l
  rw [emb_pair]
  have : shapeCast S128x128 (pairN (rdP s L (pair j 0)) (rdP s L (pair j 1)) (rdS m2 w2 x1 j))
      shapeCasts_S128x128_S128x128 (ix2 i (half e d))
      = pairN (rdP s L (pair j 0)) (rdP s L (pair j 1)) (rdS m2 w2 x1 j) (ix2 i (half e d)) := by pointwise []
  rw [this, pairN_apply]
  refine (dotR (fun k => rdP_apply s hL j e i k) (fun k => (rdS_apply m2 w2 x1 j k e d).trans (X.k k _ d))).trans ?_
  show _ = ((∑ k, (H (colH (col (pair j e) d))).kerDS i k * (H (colH (col (pair j e) d))).nk k (colD (col (pair j e) d)) : ℝ)
    : EReal)
  rw [colH_col, colD_col]
  rfl

theorem agrees_DK (hL : ∀ y, View.canon L y = arrDS H y) (j : Fin 8) (y : S128x128.Idx) :
    shapeCast S128x128 (pairT (rdP s L (pair j 0)) (rdP s L (pair j 1)) (rdS m1 w1 x0 j)) shapeCasts_S128x128_S128x128 y
      = arrDK H ((rPair j).emb y) := by
  obtain ⟨i, l, rfl⟩ : ∃ i l, y = ix2 i l := ⟨y 0, y 1, eq_ix2 y⟩
  obtain ⟨e, d, rfl⟩ := half_surj l
  rw [emb_pair]
  have : shapeCast S128x128 (pairT (rdP s L (pair j 0)) (rdP s L (pair j 1)) (rdS m1 w1 x0 j))
      shapeCasts_S128x128_S128x128 (ix2 i (half e d))
      = pairT (rdP s L (pair j 0)) (rdP s L (pair j 1)) (rdS m1 w1 x0 j) (ix2 i (half e d)) := by pointwise []
  rw [this, pairT_apply]
  refine (dotR (fun k => rdP_apply s hL j e k i) (fun k => (rdS_apply m1 w1 x0 j k e d).trans (X.q k _ d))).trans ?_
  show _ = (((H (colH (col (pair j e) d))).kerNK i (colD (col (pair j e) d)) : ℝ) : EReal)
  rw [colH_col, colD_col]
  rfl

theorem agrees_DV (hL : ∀ y, View.canon L y = arrP H y) (j : Fin 8) (y : S128x128.Idx) :
    truncf .bf16 (pairT (rdP s L (pair j 0)) (rdP s L (pair j 1)) (rdS m4 w4 x3 j)) bitsLt_bf16_f32 y
      = arrOut H ((rOut j).emb y) := by
  obtain ⟨i, l, rfl⟩ : ∃ i l, y = ix2 i l := ⟨y 0, y 1, eq_ix2 y⟩
  obtain ⟨e, d, rfl⟩ := half_surj l
  rw [emb_out]
  have : truncf .bf16 (pairT (rdP s L (pair j 0)) (rdP s L (pair j 1)) (rdS m4 w4 x3 j)) bitsLt_bf16_f32 (ix2 i (half e d))
      = pairT (rdP s L (pair j 0)) (rdP s L (pair j 1)) (rdS m4 w4 x3 j) (ix2 i (half e d)) := by pointwise []
  rw [this, pairT_apply]
  refine (dotR (fun k => rdP_apply s hL j e k i) (fun k => (rdS_apply m4 w4 x3 j k e d).trans (X.g k _ d))).trans ?_
  refine congrArg ((↑) : ℝ → EReal) ?_
  show _ = resultAt H i ⟨2048 + (col (pair j e) d).val, _⟩
  unfold resultAt
  rw [dif_neg (by show ¬ 2048 + (col (pair j e) d).val < 1024; omega),
    dif_neg (by show ¬ 2048 + (col (pair j e) d).val < 2048; omega)]
  have hc : (⟨2048 + (col (pair j e) d).val - 2048, by omega⟩ : Fin 1024) = col (pair j e) d := Fin.ext (by
    show 2048 + (col (pair j e) d).val - 2048 = (col (pair j e) d).val; omega)
  rw [hc, colH_col, colD_col]
  rfl

/-! ## The norms' derivative -/

omit X in
/-- A whole block read through its memref. -/
theorem whole_apply {R C : ℕ} {e : EltTy} (m : Memref sig .tc .vmem ⟨2, ![R, C]⟩ e) (hm : m.IsWhole)
    (x : Vec Ideal ⟨2, ![R, C]⟩ e) (inb) (i : Fin R) (k : Fin C) :
    View.readAt (Elt Ideal) m.view
      (Rect.unit (s := ⟨2, ![R, C]⟩) ![0, 0] (⟨2, ![R, C]⟩ : Shape).size inb).toLoadRect (hm.unread x) (ix2 i k)
      = x (ix2 i k) := by
  refine (Memref.IsWhole.readAt_unread hm x _ _).trans (congrArg x ?_)
  funext a
  apply Fin.ext
  fin_cases a
  · show 0 + 1 * i.val = i.val; omega
  · show 0 + 1 * k.val = k.val; omega

/-- The blocks that are read whole. -/
abbrev wB (m : Memref sig .tc .vmem S128x1024 .bf16) (hm : m.IsWhole) (x : Vec Ideal S128x1024 .bf16) :
    Vec Ideal S128x1024 .bf16 :=
  View.readAt (Elt Ideal) m.view (Rect.unit ![0, 0] S128x1024.size inb_S128x1024_S128x1024_0_0).toLoadRect (hm.unread x)
abbrev wR (m : Memref sig .tc .vmem S1x1024 .f32) (hm : m.IsWhole) (x : Vec Ideal S1x1024 .f32) :
    Vec Ideal S1x1024 .f32 :=
  View.readAt (Elt Ideal) m.view (Rect.unit ![0, 0] S1x1024.size inb_S1x1024_S1x1024_0_0).toLoadRect (hm.unread x)
abbrev wG (m : Memref sig .tc .vmem S1024x128 .bf16) (hm : m.IsWhole) (x : Vec Ideal S1024x128 .bf16) :
    Vec Ideal S1024x128 .bf16 :=
  View.readAt (Elt Ideal) m.view (Rect.unit ![0, 0] S1024x128.size inb_S1024x128_S1024x128_0_0).toLoadRect (hm.unread x)
/-- A scratch array of gradients read back whole. -/
abbrev wD (s : Memref sig .tc .vmem S128x1024 .f32) (L : List (View.Piece (Elt Ideal) S128x1024 .f32)) :
    Vec Ideal S128x1024 .f32 :=
  s.view.readCov L (Rect.unit ![0, 0] S128x1024.size inb_S128x1024_S128x1024_0_0).toLoadRect

omit X in
theorem wD_apply (s : Memref sig .tc .vmem S128x1024 .f32) {L : List (View.Piece (Elt Ideal) S128x1024 .f32)}
    {A : Vec Ideal S128x1024 .f32} (hL : ∀ y, View.canon L y = A y) (i : Fin 128) (k : Fin 1024) :
    wD s L (ix2 i k) = A (ix2 i k) := by
  unfold wD
  rw [View.readCov_eq_canon']
  refine (hL _).trans (congrArg A ?_)
  funext a
  apply Fin.ext
  fin_cases a
  · show 0 + 1 * i.val = i.val; omega
  · show 0 + 1 * k.val = k.val; omega

variable (m8 : Memref sig .tc .vmem S128x1024 .bf16) (w8 : m8.IsWhole) (m9 : Memref sig .tc .vmem S128x1024 .bf16) (w9 : m9.IsWhole)
  (m10 : Memref sig .tc .vmem S1x1024 .f32) (w10 : m10.IsWhole) (m11 : Memref sig .tc .vmem S1x1024 .f32) (w11 : m11.IsWhole)
  (m12 : Memref sig .tc .vmem S1024x128 .bf16) (w12 : m12.IsWhole) (m13 : Memref sig .tc .vmem S128x1024 .bf16) (w13 : m13.IsWhole)
  (s3 s4 : Memref sig .tc .vmem S128x1024 .f32) {L3 L4 : List (View.Piece (Elt Ideal) S128x1024 .f32)}

theorem ga_block : IsGather (k0_pay191 (wG m12 w12 x11)) := fun c l => by
  refine Eq.trans ?_ (X.ga c l)
  refine Eq.trans ?_ (whole_apply m12 w12 x11 inb_S1024x128_S1024x128_0_0 c l)
  pointwise [k0_pay191]
theorem sp_block : IsSpread (wB m13 w13 x12) := fun l c => (whole_apply m13 w13 x12 _ l c).trans (X.sp l c)
theorem sp_block' : IsSpread (k0_pay192 (wB m13 w13 x12)) := fun l c => by
  refine Eq.trans ?_ (sp_block X m13 w13 l c)
  pointwise [k0_pay192]
theorem rq_block (i : Fin 128) (h : Fin 16) (d : Fin 64) :
    wB m8 w8 x7 (ix2 i (col h d)) = (((H h).xq i d : ℝ) : EReal) := (whole_apply m8 w8 x7 _ _ _).trans (X.rq i h d)
theorem rk_block (i : Fin 128) (h : Fin 16) (d : Fin 64) :
    wB m9 w9 x8 (ix2 i (col h d)) = (((H h).xk i d : ℝ) : EReal) := (whole_apply m9 w9 x8 _ _ _).trans (X.rk i h d)
theorem gq_block (h : Fin 16) (d : Fin 64) :
    wR m10 w10 x9 (ix2 0 (col h d)) = (((H h).gq d : ℝ) : EReal) := (whole_apply m10 w10 x9 _ _ _).trans (X.gq h d)
theorem gk_block (h : Fin 16) (d : Fin 64) :
    wR m11 w11 x10 (ix2 0 (col h d)) = (((H h).gk d : ℝ) : EReal) := (whole_apply m11 w11 x10 _ _ _).trans (X.gk h d)

omit X in
theorem dq_block (h3 : ∀ y, View.canon L3 y = arrDQ H y) (i : Fin 128) (h : Fin 16) (d : Fin 64) :
    k0_pay200 (wD s3 L3) (ix2 i (col h d)) = (((H h).kerNQ i d : ℝ) : EReal) := by
  refine Eq.trans ?_ (mulR ((wD_apply s3 h3 i (col h d)).trans ?_) c_eighth)
  · pointwise [k0_pay200]
  · show ((∑ k, (H (colH (col h d))).kerDS i k * (H (colH (col h d))).nk k (colD (col h d)) : ℝ) : EReal) = _
    rw [colH_col, colD_col]
omit X in
theorem dk_block (h4 : ∀ y, View.canon L4 y = arrDK H y) (i : Fin 128) (h : Fin 16) (d : Fin 64) :
    wD s4 L4 (ix2 i (col h d)) = (((H h).kerNK i d : ℝ) : EReal) := by
  refine (wD_apply s4 h4 i (col h d)).trans ?_
  show (((H (colH (col h d))).kerNK i (colD (col h d)) : ℝ) : EReal) = _
  rw [colH_col, colD_col]

/-- The place of the queries' and of the keys' gradients in the result's block. -/
abbrev rQ : Rect S128x3072 := Rect.unit ![0, 0] S128x1024.size inb_S128x3072_S128x1024_0_0
abbrev rK : Rect S128x3072 := Rect.unit ![0, 1024] S128x1024.size inb_S128x3072_S128x1024_0_1024

theorem agrees_Q (h3 : ∀ y, View.canon L3 y = arrDQ H y) (h4 : ∀ y, View.canon L4 y = arrDK H y) (y : S128x1024.Idx) :
    k0_pay204 (k0_pay191 (wG m12 w12 x11)) (k0_pay192 (wB m13 w13 x12))
      (k0_pay197 (k0_pay191 (wG m12 w12 x11)) (wB m13 w13 x12) (wB m8 w8 x7) (wB m9 w9 x8))
      (k0_pay198 (k0_pay191 (wG m12 w12 x11)) (wB m13 w13 x12) (wB m8 w8 x7) (wB m9 w9 x8))
      (k0_pay199 (k0_pay191 (wG m12 w12 x11)) (wB m13 w13 x12) (wB m8 w8 x7) (wB m9 w9 x8))
      (k0_pay200 (wD s3 L3)) (wD s4 L4) (wR m10 w10 x9) (wR m11 w11 x10) y = arrOut H (rQ.emb y) := by
  obtain ⟨i, k, rfl⟩ : ∃ i k, y = ix2 i k := ⟨y 0, y 1, eq_ix2 y⟩
  obtain ⟨h, d, rfl⟩ : ∃ h d, k = col h d := ⟨_, _, (col_eq k).symm⟩
  have ga := ga_block X m12 w12
  have sp := sp_block X m13 w13
  refine (pay204_real ga (sp_block' X m13 w13)
    (pay198_real X.eps ga sp (rq_block X m8 w8) (rk_block X m9 w9))
    (pay199_real X.eps ga sp (rq_block X m8 w8) (rk_block X m9 w9))
    (dq_block s3 h3) (dk_block s4 h4) (gq_block X m10 w10) (gk_block X m11 w11)
    (pay197_top X.eps ga sp (rq_block X m8 w8) (rk_block X m9 w9)) i h d).trans ?_
  have e : rQ.emb (ix2 i (col h d)) = (ix2 i ⟨(col h d).val, by omega⟩ : S128x3072.Idx) := by
    funext a
    apply Fin.ext
    fin_cases a
    · show 0 + 1 * i.val = i.val; omega
    · show 0 + 1 * (col h d).val = (col h d).val; omega
  rw [e]
  refine congrArg ((↑) : ℝ → EReal) ?_
  show _ = resultAt H i ⟨(col h d).val, _⟩
  unfold resultAt
  rw [dif_pos (col h d).isLt]
  show _ = (H (colH (col h d))).kerQ i (colD (col h d))
  rw [colH_col, colD_col]

theorem agrees_K (h3 : ∀ y, View.canon L3 y = arrDQ H y) (h4 : ∀ y, View.canon L4 y = arrDK H y) (y : S128x1024.Idx) :
    k0_pay205 (k0_pay191 (wG m12 w12 x11)) (k0_pay192 (wB m13 w13 x12))
      (k0_pay197 (k0_pay191 (wG m12 w12 x11)) (wB m13 w13 x12) (wB m8 w8 x7) (wB m9 w9 x8))
      (k0_pay198 (k0_pay191 (wG m12 w12 x11)) (wB m13 w13 x12) (wB m8 w8 x7) (wB m9 w9 x8))
      (k0_pay199 (k0_pay191 (wG m12 w12 x11)) (wB m13 w13 x12) (wB m8 w8 x7) (wB m9 w9 x8))
      (k0_pay200 (wD s3 L3)) (wD s4 L4) (wR m10 w10 x9) (wR m11 w11 x10) y = arrOut H (rK.emb y) := by
  obtain ⟨i, k, rfl⟩ : ∃ i k, y = ix2 i k := ⟨y 0, y 1, eq_ix2 y⟩
  obtain ⟨h, d, rfl⟩ : ∃ h d, k = col h d := ⟨_, _, (col_eq k).symm⟩
  have ga := ga_block X m12 w12
  have sp := sp_block X m13 w13
  refine (pay205_real ga (sp_block' X m13 w13)
    (pay198_real X.eps ga sp (rq_block X m8 w8) (rk_block X m9 w9))
    (pay199_real X.eps ga sp (rq_block X m8 w8) (rk_block X m9 w9))
    (dq_block s3 h3) (dk_block s4 h4) (gq_block X m10 w10) (gk_block X m11 w11)
    (pay197_bot X.eps ga sp (rq_block X m8 w8) (rk_block X m9 w9)) i h d).trans ?_
  have e : rK.emb (ix2 i (col h d)) = (ix2 i ⟨1024 + (col h d).val, by omega⟩ : S128x3072.Idx) := by
    funext a
    apply Fin.ext
    fin_cases a
    · show 0 + 1 * i.val = i.val; omega
    · show 1024 + 1 * (col h d).val = 1024 + (col h d).val; omega
  rw [e]
  refine congrArg ((↑) : ℝ → EReal) ?_
  show _ = resultAt H i ⟨1024 + (col h d).val, _⟩
  unfold resultAt
  rw [dif_neg (by show ¬ 1024 + (col h d).val < 1024; omega), dif_pos (by show 1024 + (col h d).val < 2048; omega)]
  have hc : (⟨1024 + (col h d).val - 1024, by omega⟩ : Fin 1024) = col h d := Fin.ext (by
    show 1024 + (col h d).val - 1024 = (col h d).val; omega)
  rw [hc, colH_col, colD_col]

end

end Cert.Attn
end
-- ==== Proof.Attn.RefMerge.lean ====
/- The reference program at real arguments, one operation at a time: the merge of the three groups. -/
module

public import proofs.«01_k».proof.Proof.Attn.RefSoft

@[expose] public section

set_option maxRecDepth 16384

noncomputable section

namespace Cert.Attn

open Cert.ReferenceIdeal Cert.ReferenceIdeal.Gen Cert.ReferenceIdeal.Read Idealize.ShloMosaic

-- the operations are read by their lemmas alone
attribute [local irreducible] val_main_v0 val_main_v1 val_main_v2 val_main_v3 val_main_v4 val_main_v5 val_main_v6 val_main_cst val_main_v7
  val_main_v8 val_main_cst_0 val_main_v9 val_main_v10 val_main_cst_1 val_main_v11 val_main_v12 val_main_v13
  val_main_v14 val_main_cst_2 val_main_v15 val_main_v16 val_main_v17 val_main_v18 val_main_v19 val_main_v20
  val_main_v21 val_main_v22 val_main_cst_3 val_main_v23 val_main_v24 val_main_cst_4 val_main_v25 val_main_v26
  val_main_cst_5 val_main_v27 val_main_v28 val_main_v29 val_main_v30 val_main_cst_6 val_main_v31 val_main_v32
  val_main_v33 val_main_v34 val_main_v35 val_main_v36 val_main_v37 val_main_v38 val_main_cst_7 val_main_v39
  val_main_v40 val_main_v41 val_main_v42 val_main_v43 val_main_v44 val_main_v45 val_main_v46 val_main_v47
  val_main_c val_main_v48 val_main_v49 val_main_c_8 val_main_v50 val_main_v51 val_main_v52 val_main_c_9
  val_main_v53 val_main_v54 val_main_v55 val_main_v56 val_main_cst_10 val_main_v57 val_main_v58 val_main_cst_11
  val_main_v59 val_main_v60 val_main_cst_12 val_main_v61 val_main_v62 val_main_cst_13 val_main_v63 val_main_v64
  val_main_v65 val_main_v66 val_main_v67 val_main_v68 val_main_v69 val_main_v70 val_main_v71 val_main_v72
  val_main_v73 val_main_cst_14 val_main_call0_v0 val_main_v74_1 val_main_call0_v2 val_main_v74_0
  val_main_call0_cst val_main_v74_2 val_main_v75 val_main_cst_15 val_main_v76 val_main_v77 val_main_v78
  val_main_v79 val_main_v80 val_main_v81 val_main_v82 val_main_v83 val_main_v84 val_main_v85 val_main_v86
  val_main_v87 val_main_v88 val_main_v89 val_main_v90 val_main_v91 val_main_cst_16 val_main_v92 val_main_v93
  val_main_v94 val_main_v95 val_main_v96 val_main_v97 val_main_v98 val_main_cst_17 val_main_v99 val_main_v100
  val_main_v101 val_main_v102 val_main_v103 val_main_v104 val_main_v105 val_main_v106 val_main_cst_18
  val_main_v107 val_main_v108 val_main_v109 val_main_v110 val_main_v111 val_main_v112 val_main_v113
  val_main_v114 val_main_v115 val_main_v116 val_main_v117 val_main_cst_19 val_main_v118 val_main_v119
  val_main_cst_20 val_main_v120 val_main_v121 val_main_v122 val_main_v123 val_main_v124 val_main_v125
  val_main_v126 val_main_cst_21 val_main_v127 val_main_v128 val_main_cst_22 val_main_v129 val_main_v130
  val_main_v131 val_main_v132 val_main_v133 val_main_v134 val_main_cst_23 val_main_v135 val_main_v136
  val_main_cst_24 val_main_v137 val_main_v138 val_main_v139 val_main_v140 val_main_v141 val_main_v142
  val_main_v143 val_main_v144 val_main_v145 val_main_v146 val_main_v147 val_main_v148 val_main_v149
  val_main_cst_25 val_main_v150 val_main_v151 val_main_cst_26 val_main_v152 val_main_v153 val_main_v154
  val_main_v155 val_main_v156 val_main_v157 val_main_call1_cst val_main_call1_v0 val_main_v158 val_main_cst_27
  val_main_v159 val_main_v160 val_main_v161 val_main_v162 val_main_v163 val_main_v164 val_main_v165
  val_main_v166 val_main_v167 val_main_cst_28 val_main_v168 val_main_v169 val_main_v170 val_main_v171
  val_main_v172 val_main_cst_29 val_main_v173 val_main_v174 val_main_cst_30 val_main_v175 val_main_v176
  val_main_v177 val_main_v178 val_main_v179 val_main_v180 val_main_v181 val_main_v182 val_main_v183
  val_main_cst_31 val_main_v184 val_main_v185 val_main_v186 val_main_v187 val_main_v188 val_main_cst_32
  val_main_v189 val_main_v190 val_main_cst_33 val_main_v191 val_main_v192 val_main_v193 val_main_v194
  val_main_v195 val_main_v196 val_main_v197 val_main_v198 val_main_v199 val_main_v200 val_main_v201
  val_main_v202 val_main_v203

theorem e_v85 (A : Args) (i : S128x16x16.Idx) :
    val_main_v85 (F := Ideal) (up A.a5) i = (((A.head (i 1) (i 2)).e0 (i 0) : ℝ) : EReal) := by
  rw [val_main_v85_apply]; exact expF (rfl_x5 A _)

theorem e_v86 (A : Args) (i : S128x16x16.Idx) :
    val_main_v86 (F := Ideal) (up A.a6) i = (((A.head (i 1) (i 2)).e1 (i 0) : ℝ) : EReal) := by
  rw [val_main_v86_apply]; exact expF (rfl_x6 A _)

theorem e_v87 (A : Args) (i : S128x16x16.Idx) :
    val_main_v87 (F := Ideal) (up A.a0) (up A.a1) (up A.a2) i = (((A.head (i 1) (i 2)).e2 (i 0) : ℝ) : EReal) := by
  rw [val_main_v87_apply]; exact expF (e_v84 A _)

theorem e_v88 (A : Args) (i : S128x16x16.Idx) :
    val_main_v88 (F := Ideal) (up A.a5) (up A.a6) i = (((((A.head (i 1) (i 2)).e0 (i 0)) + ((A.head (i 1) (i 2)).e1 (i 0))) : ℝ) : EReal) := by
  rw [val_main_v88_apply]; exact addF (e_v85 A _) (e_v86 A _)

theorem e_v89 (A : Args) (i : S128x16x16.Idx) :
    val_main_v89 (F := Ideal) (up A.a0) (up A.a1) (up A.a2) (up A.a5) (up A.a6) i = (((A.head (i 1) (i 2)).tot (i 0) : ℝ) : EReal) := by
  rw [val_main_v89_apply]; exact addF (e_v88 A _) (e_v87 A _)

theorem e_v90 (A : Args) (i : S128x16x16.Idx) :
    val_main_v90 (F := Ideal) (up A.a0) (up A.a1) (up A.a2) (up A.a5) (up A.a6) i = (((((A.head (i 1) (i 2)).e0 (i 0)) / ((A.head (i 1) (i 2)).tot (i 0))) : ℝ) : EReal) := by
  rw [val_main_v90_apply]; exact divF (e_v85 A _) (e_v89 A _) (Head.tot_pos _ _).ne'

theorem e_v91 (A : Args) (i : S128x16x16.Idx) :
    val_main_v91 (F := Ideal) (up A.a0) (up A.a1) (up A.a2) (up A.a5) (up A.a6) i = (((((A.head (i 1) (i 2)).tot (i 0)) * ((A.head (i 1) (i 2)).tot (i 0))) : ℝ) : EReal) := by
  rw [val_main_v91_apply]; exact mulF (e_v89 A _) (e_v89 A _)

theorem e_cst_16 (A : Args) (i : S_.Idx) :
    val_main_cst_16 (F := Ideal) i = ((1 : ℝ) : EReal) := by
  rw [val_main_cst_16_apply]; exact c_one

theorem e_v92 (A : Args) (i : S128x16x16.Idx) :
    val_main_v92 (F := Ideal) i = ((1 : ℝ) : EReal) := by
  rw [val_main_v92_apply]; exact e_cst_16 A _

theorem e_v93 (A : Args) (i : S128x16x16.Idx) :
    val_main_v93 (F := Ideal) (up A.a0) (up A.a1) (up A.a2) (up A.a5) (up A.a6) i = ((((1) / ((((A.head (i 1) (i 2)).tot (i 0)) * ((A.head (i 1) (i 2)).tot (i 0))))) : ℝ) : EReal) := by
  rw [val_main_v93_apply]; exact divF (e_v92 A _) (e_v91 A _) (mul_pos (Head.tot_pos _ _) (Head.tot_pos _ _)).ne'

theorem e_v94 (A : Args) (i : S128x16x16x1.Idx) :
    val_main_v94 (F := Ideal) (up A.a0) (up A.a1) (up A.a2) (up A.a5) (up A.a6) i = (((((A.head (i 1) (i 2)).e0 (i 0)) / ((A.head (i 1) (i 2)).tot (i 0))) : ℝ) : EReal) := by
  rw [val_main_v94_apply]; exact e_v90 A _

theorem e_v95 (A : Args) (i : S128x16x16x64.Idx) :
    val_main_v95 (F := Ideal) (up A.a0) (up A.a1) (up A.a2) (up A.a5) (up A.a6) i = (((((A.head (i 1) (i 2)).e0 (i 0)) / ((A.head (i 1) (i 2)).tot (i 0))) : ℝ) : EReal) := by
  rw [val_main_v95_apply]; exact e_v94 A _

theorem e_v96 (A : Args) (i : S128x16x16x64.Idx) :
    val_main_v96 (F := Ideal) (up A.a0) (up A.a1) (up A.a2) (up A.a3) (up A.a5) (up A.a6) i = (((((((A.head (i 1) (i 2)).e0 (i 0)) / ((A.head (i 1) (i 2)).tot (i 0)))) * ((A.head (i 1) (i 2)).o0 (i 0) (i 3))) : ℝ) : EReal) := by
  rw [val_main_v96_apply]; exact mulF (e_v95 A _) (rfl_x3 A _)

theorem e_v97 (A : Args) (i : S128x16x16.Idx) :
    val_main_v97 (F := Ideal) (up A.a0) (up A.a1) (up A.a2) (up A.a5) (up A.a6) i = (((((A.head (i 1) (i 2)).e1 (i 0)) / ((A.head (i 1) (i 2)).tot (i 0))) : ℝ) : EReal) := by
  rw [val_main_v97_apply]; exact divF (e_v86 A _) (e_v89 A _) (Head.tot_pos _ _).ne'

theorem e_v98 (A : Args) (i : S128x16x16.Idx) :
    val_main_v98 (F := Ideal) (up A.a0) (up A.a1) (up A.a2) (up A.a5) (up A.a6) i = (((((A.head (i 1) (i 2)).tot (i 0)) * ((A.head (i 1) (i 2)).tot (i 0))) : ℝ) : EReal) := by
  rw [val_main_v98_apply]; exact mulF (e_v89 A _) (e_v89 A _)

theorem e_cst_17 (A : Args) (i : S_.Idx) :
    val_main_cst_17 (F := Ideal) i = ((1 : ℝ) : EReal) := by
  rw [val_main_cst_17_apply]; exact c_one

theorem e_v99 (A : Args) (i : S128x16x16.Idx) :
    val_main_v99 (F := Ideal) i = ((1 : ℝ) : EReal) := by
  rw [val_main_v99_apply]; exact e_cst_17 A _

theorem e_v100 (A : Args) (i : S128x16x16.Idx) :
    val_main_v100 (F := Ideal) (up A.a0) (up A.a1) (up A.a2) (up A.a5) (up A.a6) i = ((((1) / ((((A.head (i 1) (i 2)).tot (i 0)) * ((A.head (i 1) (i 2)).tot (i 0))))) : ℝ) : EReal) := by
  rw [val_main_v100_apply]; exact divF (e_v99 A _) (e_v98 A _) (mul_pos (Head.tot_pos _ _) (Head.tot_pos _ _)).ne'

theorem e_v101 (A : Args) (i : S128x16x16x1.Idx) :
    val_main_v101 (F := Ideal) (up A.a0) (up A.a1) (up A.a2) (up A.a5) (up A.a6) i = (((((A.head (i 1) (i 2)).e1 (i 0)) / ((A.head (i 1) (i 2)).tot (i 0))) : ℝ) : EReal) := by
  rw [val_main_v101_apply]; exact e_v97 A _

theorem e_v102 (A : Args) (i : S128x16x16x64.Idx) :
    val_main_v102 (F := Ideal) (up A.a0) (up A.a1) (up A.a2) (up A.a5) (up A.a6) i = (((((A.head (i 1) (i 2)).e1 (i 0)) / ((A.head (i 1) (i 2)).tot (i 0))) : ℝ) : EReal) := by
  rw [val_main_v102_apply]; exact e_v101 A _

theorem e_v103 (A : Args) (i : S128x16x16x64.Idx) :
    val_main_v103 (F := Ideal) (up A.a0) (up A.a1) (up A.a2) (up A.a4) (up A.a5) (up A.a6) i = (((((((A.head (i 1) (i 2)).e1 (i 0)) / ((A.head (i 1) (i 2)).tot (i 0)))) * ((A.head (i 1) (i 2)).o1 (i 0) (i 3))) : ℝ) : EReal) := by
  rw [val_main_v103_apply]; exact mulF (e_v102 A _) (rfl_x4 A _)

theorem e_v104 (A : Args) (i : S128x16x16x64.Idx) :
    val_main_v104 (F := Ideal) (up A.a0) (up A.a1) (up A.a2) (up A.a3) (up A.a4) (up A.a5) (up A.a6) i = (((((((((A.head (i 1) (i 2)).e0 (i 0)) / ((A.head (i 1) (i 2)).tot (i 0)))) * ((A.head (i 1) (i 2)).o0 (i 0) (i 3)))) + ((((((A.head (i 1) (i 2)).e1 (i 0)) / ((A.head (i 1) (i 2)).tot (i 0)))) * ((A.head (i 1) (i 2)).o1 (i 0) (i 3))))) : ℝ) : EReal) := by
  rw [val_main_v104_apply]; exact addF (e_v96 A _) (e_v103 A _)

theorem e_v105 (A : Args) (i : S128x16x16.Idx) :
    val_main_v105 (F := Ideal) (up A.a0) (up A.a1) (up A.a2) (up A.a5) (up A.a6) i = (((((A.head (i 1) (i 2)).e2 (i 0)) / ((A.head (i 1) (i 2)).tot (i 0))) : ℝ) : EReal) := by
  rw [val_main_v105_apply]; exact divF (e_v87 A _) (e_v89 A _) (Head.tot_pos _ _).ne'

theorem e_v106 (A : Args) (i : S128x16x16.Idx) :
    val_main_v106 (F := Ideal) (up A.a0) (up A.a1) (up A.a2) (up A.a5) (up A.a6) i = (((((A.head (i 1) (i 2)).tot (i 0)) * ((A.head (i 1) (i 2)).tot (i 0))) : ℝ) : EReal) := by
  rw [val_main_v106_apply]; exact mulF (e_v89 A _) (e_v89 A _)

theorem e_cst_18 (A : Args) (i : S_.Idx) :
    val_main_cst_18 (F := Ideal) i = ((1 : ℝ) : EReal) := by
  rw [val_main_cst_18_apply]; exact c_one

theorem e_v107 (A : Args) (i : S128x16x16.Idx) :
    val_main_v107 (F := Ideal) i = ((1 : ℝ) : EReal) := by
  rw [val_main_v107_apply]; exact e_cst_18 A _

theorem e_v108 (A : Args) (i : S128x16x16.Idx) :
    val_main_v108 (F := Ideal) (up A.a0) (up A.a1) (up A.a2) (up A.a5) (up A.a6) i = ((((1) / ((((A.head (i 1) (i 2)).tot (i 0)) * ((A.head (i 1) (i 2)).tot (i 0))))) : ℝ) : EReal) := by
  rw [val_main_v108_apply]; exact divF (e_v107 A _) (e_v106 A _) (mul_pos (Head.tot_pos _ _) (Head.tot_pos _ _)).ne'

theorem e_v109 (A : Args) (i : S128x16x16x1.Idx) :
    val_main_v109 (F := Ideal) (up A.a0) (up A.a1) (up A.a2) (up A.a5) (up A.a6) i = (((((A.head (i 1) (i 2)).e2 (i 0)) / ((A.head (i 1) (i 2)).tot (i 0))) : ℝ) : EReal) := by
  rw [val_main_v109_apply]; exact e_v105 A _

theorem e_v110 (A : Args) (i : S128x16x16x64.Idx) :
    val_main_v110 (F := Ideal) (up A.a0) (up A.a1) (up A.a2) (up A.a5) (up A.a6) i = (((((A.head (i 1) (i 2)).e2 (i 0)) / ((A.head (i 1) (i 2)).tot (i 0))) : ℝ) : EReal) := by
  rw [val_main_v110_apply]; exact e_v109 A _

theorem e_v111 (A : Args) (i : S128x16x16x64.Idx) :
    val_main_v111 (F := Ideal) (up A.a0) (up A.a1) (up A.a2) (up A.a5) (up A.a6) i = (((((((A.head (i 1) (i 2)).e2 (i 0)) / ((A.head (i 1) (i 2)).tot (i 0)))) * ((A.head (i 1) (i 2)).o2 (i 0) (i 3))) : ℝ) : EReal) := by
  rw [val_main_v111_apply]; exact mulF (e_v110 A _) (e_v83 A _)

theorem e_v112 (A : Args) (i : S128x16x16x64.Idx) :
    val_main_v112 (F := Ideal) (up A.a0) (up A.a1) (up A.a2) (up A.a3) (up A.a4) (up A.a5) (up A.a6) i = (((A.head (i 1) (i 2)).o (i 0) (i 3) : ℝ) : EReal) := by
  rw [val_main_v112_apply]; exact addF (e_v104 A _) (e_v111 A _)

end Cert.Attn

end
-- ==== Proof.Attn.KerArray.lean ====
/- The blocks that the windows hand to the body at a grid point, element by element. -/
module

public import proofs.«01_k».proof.Proof.Attn.HostRead
public import proofs.«01_k».proof.Proof.Attn.KerBlock
public import proofs.«01_k».proof.Proof.Attn.RefMerge
public import Idealize.ShloMosaic.Lib.Pipeline.ValueKit.Point

@[expose] public section

set_option maxRecDepth 16384

noncomputable section

namespace Cert.Attn.Host

open Cert.KernelIdeal Cert.KernelIdeal.Gen Idealize.ShloMosaic Idealize.ShloMosaic.StableHlo Idealize.ShloMosaic.TcCoe

variable (m : (ℓ : Loc nD τ sig) → Buf (Elt Ideal) ℓ)

/-- A core's contents at launch. -/
abbrev start (c : Dev nD) : Valuation τ sig (Elt Ideal) := fun b => m (c, b)

theorem V_eq (c : Dev nD) (b : Ref sig .tc) : V m c b = U3 (start m c) (Proc.devRef .tc b) := (congrFun (U3_eq _) _).symm

/-- The grid point as a residue class. -/
abbrev cls (t : Fin cfg0.N) : Fin 16 := ⟨t.val, t.isLt⟩

theorem idx : ∀ t : Fin cfg0.N, win0_0.index t = ![t.val, 0] ∧ win0_1.index t = ![t.val, 1] ∧ win0_2.index t = ![t.val, 2]
    ∧ win0_3.index t = ![t.val, 0] ∧ win0_4.index t = ![t.val, 0] ∧ win0_5.index t = ![t.val, 0] ∧ win0_6.index t = ![0, 0, 0]
    ∧ win0_7.index t = ![t.val, 0] ∧ win0_8.index t = ![t.val, 1] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

theorem blk0 (c : Dev nD) (t : Fin cfg0.N) (i : Fin 128) (k : Fin 1024) :
    iblk m c 0 t (ix2 i k) = V m c main_v105 (ix2 (row (cls t) i) (col2 0 k)) := by
  unfold iblk row col2
  blk_ext [idx t]
theorem blk1 (c : Dev nD) (t : Fin cfg0.N) (i : Fin 128) (k : Fin 1024) :
    iblk m c 1 t (ix2 i k) = V m c main_v105 (ix2 (row (cls t) i) (col2 1 k)) := by
  unfold iblk row col2
  blk_ext [idx t]
theorem blk2 (c : Dev nD) (t : Fin cfg0.N) (i : Fin 128) (k : Fin 1024) :
    iblk m c 2 t (ix2 i k) = V m c main_v108 (ix2 (row (cls t) i) (col3 2 k)) := by
  unfold iblk row col3
  blk_ext [idx t]
theorem blk3 (c : Dev nD) (t : Fin cfg0.N) (i : Fin 128) (k : Fin 1024) :
    iblk m c 3 t (ix2 i k) = V m c main_v162 (ix2 (row (cls t) i) k) := by
  unfold iblk row
  blk_ext [idx t]
theorem blk4 (c : Dev nD) (t : Fin cfg0.N) (i : Fin 128) (k : Fin 128) :
    iblk m c 4 t (ix2 i k) = V m c main_v166 (ix2 (row (cls t) i) k) := by
  unfold iblk row
  blk_ext [idx t]
theorem blk5 (c : Dev nD) (t : Fin cfg0.N) (i : Fin 128) (k : Fin 128) :
    iblk m c 5 t (ix2 i k) = V m c main_v171 (ix2 (row (cls t) i) k) := by
  unfold iblk row
  blk_ext [idx t]
theorem blk6 (c : Dev nD) (t : Fin cfg0.N) (h : Fin 16) (i : Fin 128) (k : Fin 256) :
    iblk m c 6 t (ix3 h i k) = V m c main_v151 (ix3 h i k) := by
  unfold iblk
  blk_ext [idx t]
theorem blk7 (c : Dev nD) (t : Fin cfg0.N) (i : Fin 128) (k : Fin 1024) :
    iblk m c 7 t (ix2 i k) = V m c main_v108 (ix2 (row (cls t) i) (col3 0 k)) := by
  unfold iblk row col3
  blk_ext [idx t]
theorem blk8 (c : Dev nD) (t : Fin cfg0.N) (i : Fin 128) (k : Fin 1024) :
    iblk m c 8 t (ix2 i k) = V m c main_v108 (ix2 (row (cls t) i) (col3 1 k)) := by
  unfold iblk row col3
  blk_ext [idx t]
theorem blk9 (c : Dev nD) (t : Fin cfg0.N) (i : Fin 1) (k : Fin 1024) :
    iblk m c 9 t (ix2 i k) = V m c main_v155 (ix2 i k) := by
  unfold iblk
  blk_ext [idx t]
theorem blk10 (c : Dev nD) (t : Fin cfg0.N) (i : Fin 1) (k : Fin 1024) :
    iblk m c 10 t (ix2 i k) = V m c main_v159 (ix2 i k) := by
  unfold iblk
  blk_ext [idx t]
theorem blk11 (c : Dev nD) (t : Fin cfg0.N) (i : Fin 1024) (k : Fin 128) :
    iblk m c 11 t (ix2 i k) = V m c main_v114 (ix2 i k) := by
  unfold iblk
  blk_ext [idx t]
theorem blk12 (c : Dev nD) (t : Fin cfg0.N) (i : Fin 128) (k : Fin 1024) :
    iblk m c 12 t (ix2 i k) = V m c main_v120 (ix2 i k) := by
  unfold iblk
  blk_ext [idx t]

/-- The row sums of the product of two arrays of real numbers. -/
theorem rowsum_at (x y : (⟨S128x16x16x64, .f32⟩ : BufTy).Contents (Elt Ideal)) (l : Fin 128) (r h : Fin 16) :
    Host.reduceAdd (F := Ideal) (mulf x y) (constant S_ .f32 0x00000000#32) reducesTo_S128x16x16x64_S128x16x16_d3 h_S_ (ix3 l r h)
      = FloatOps.ofBits (F := Ideal) .f32 0x00000000#32 + ∑ d : Fin 64, x (ix4 l r h d) * y (ix4 l r h d) := by
  pointwise

/-- The launch's arguments are arrays of real numbers. -/
structure Real (c : Dev nD) (A : Args) : Prop where
  h0 : arg0 (start m c) = up A.a0
  h1 : arg1 (start m c) = up A.a1
  h2 : arg2 (start m c) = up A.a2
  h3 : arg3 (start m c) = up A.a3
  h4 : arg4 (start m c) = up A.a4
  h5 : arg5 (start m c) = up A.a5
  h6 : arg6 (start m c) = up A.a6
  h7 : arg7 (start m c) = up A.a7

variable {m}

/-- The blocks at a grid point are those of the heads of its residue class. -/
theorem blocks {c : Dev nD} {A : Args} (hA : Real m c A) (t : Fin cfg0.N) :
    Blocks (fun h => A.head (cls t) h) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) where
  eps _ := rfl
  q i h d := by
    rw [blk0, V_eq, U3_v105, U2_v105, pack2_at0, eighth_at, hA.h0, hA.h1]
    exact mulR (e_v21 A _) c_eighth
  k i h d := by
    rw [blk1, V_eq, U3_v105, U2_v105, pack2_at1, axis_at, hA.h0, hA.h2]
    exact e_v37 A _
  v i h d := by
    rw [blk2, V_eq, U3_v108, U2_v108, pack3_at, hA.h0]; rfl
  g i h d := by
    rw [blk3, V_eq, U3_v162, pack1_at, hA.h7]; rfl
  l i h := by
    rw [blk4, V_eq, U3_v166, lanes_at, hA.h0, hA.h1, hA.h2, hA.h5, hA.h6]
    exact logR (e_v89 A _) (Head.tot_pos _ _)
  dl i h := by
    rw [blk5, V_eq, U3_v171, lanes_at, rowsum_at, hA.h0, hA.h1, hA.h2, hA.h3, hA.h4, hA.h5, hA.h6, hA.h7]
    exact sumR c_zero (fun d => mulR rfl (e_v112 A _))
  b h i j := by
    rw [blk6, V_eq]; exact bias_at _ h i j
  rq i h d := by
    rw [blk7, V_eq, U3_v108, U2_v108, pack3_at, hA.h0]; rfl
  rk i h d := by
    rw [blk8, V_eq, U3_v108, U2_v108, pack3_at, hA.h0]; rfl
  gq h d := by
    rw [blk9, V_eq, U3_v155, tile_at, hA.h1]; rfl
  gk h d := by
    rw [blk10, V_eq, U3_v159, tile_at, hA.h2]; rfl
  ga a l := by
    rw [blk11, V_eq]; exact gather_at _ a l
  sp l a := by
    rw [blk12, V_eq]; exact spread_at _ l a

end Cert.Attn.Host

end
-- ==== Proof.Attn.Finite.lean ====
/- The precondition: arguments whose elements are all of finite magnitude are arrays of real numbers. -/
module

public import proofs.«01_k».proof.Defs
public import proofs.«01_k».proof.Proof.Attn.KerArray
public import Idealize.ShloMosaic.Lib.ReduceAll

@[expose] public section

set_option maxRecDepth 16384

noncomputable section

namespace Cert.Attn.Host

open Idealize.ShloMosaic Idealize.ShloMosaic.TcCoe

/-- The side conditions of the precondition's operations. -/
theorem pre_facts : Cert.Pre_finite.Facts where
  bcast_S_S128x16x3x16x64 := by decide
  reducesTo_S128x16x3x16x64_S_d0_1_2_3_4 := by decide
  h_S_ := by decide
  bcast_S_S64 := by decide
  reducesTo_S64_S_d0 := by decide
  bcast_S_S128x16x16x64 := by decide
  reducesTo_S128x16x16x64_S_d0_1_2_3 := by decide
  bcast_S_S128x16x16 := by decide
  reducesTo_S128x16x16_S_d0_1_2 := by decide

theorem c_inf : FloatOps.ofBits (F := Ideal) .f32 0x7F800000#32 = (⊤ : EReal) := by
  simp [Ideal.ofBits, Ideal.ieee]

/-- An extended real whose magnitude is below infinity is a real number. -/
theorem real_of_lt (x : EReal) (h : Ideal.cmp .olt (max x (-x)) ⊤ = 1#1) : ((x.toReal : ℝ) : EReal) = x := by
  have hlt : max x (-x) < ⊤ := by
    by_contra hn
    simp [Ideal.cmp, hn] at h
  refine EReal.coe_toReal (fun e => ?_) (fun e => ?_)
  · subst e; simp at hlt
  · subst e; simp at hlt

/-- `jnp.all(jnp.abs(x) < inf)` at extended reals. -/
def allFinite {s : Shape} {axes : List (Fin s.rank)} (hb : (⟨0, ![]⟩ : Shape).BroadcastsInDim s (![] : Fin 0 → Fin s.rank))
    (hr : s.ReducesTo axes (⟨0, ![]⟩ : Shape)) (hu : 0 < (⟨0, ![]⟩ : Shape).numel) (x : FVec Ideal s .f32) : IVec (⟨0, ![]⟩ : Shape) 1 :=
  Host.reduce IntOp.andi (cmpf .olt (Host.absf x) (broadcastInDim s ![] hb (constant (⟨0, ![]⟩ : Shape) .f32 0x7F800000#32)))
    (constantI (⟨0, ![]⟩ : Shape) 1 1#1) hr hu

/-- Such an array is one of real numbers. -/
theorem up_of_allFinite {s : Shape} {axes : List (Fin s.rank)} {hb : (⟨0, ![]⟩ : Shape).BroadcastsInDim s (![] : Fin 0 → Fin s.rank)}
    {hr : s.ReducesTo axes (⟨0, ![]⟩ : Shape)} {hu : 0 < (⟨0, ![]⟩ : Shape).numel} {x : FVec Ideal s .f32} {j : (⟨0, ![]⟩ : Shape).Idx}
    (h : allFinite hb hr hu x j = 1#1) : x = up (fun i => (x i).toReal) := by
  have : Subsingleton (⟨0, ![]⟩ : Shape).Idx := ⟨fun a b => funext fun k => k.elim0⟩
  funext i
  have e := Host.reduce_andi_all _ _ _ _ _ h i
  refine (real_of_lt (x i) ?_).symm
  rw [← c_inf]
  exact e

theorem and_one {a b : BitVec 1} (h : a &&& b = 1#1) : a = 1#1 ∧ b = 1#1 := by
  revert a b; decide

/-- A conjunction of eight. -/
theorem and_eight {s : Shape} {a0 a1 a2 a3 a4 a5 a6 a7 : IVec s 1} {j : s.Idx}
    (h : andi (andi (andi (andi (andi (andi (andi a0 a1) a2) a3) a4) a5) a6) a7 j = 1#1) :
    a0 j = 1#1 ∧ a1 j = 1#1 ∧ a2 j = 1#1 ∧ a3 j = 1#1 ∧ a4 j = 1#1 ∧ a5 j = 1#1 ∧ a6 j = 1#1 ∧ a7 j = 1#1 := by
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨h0, h1, h2, h3, h4, h5, h6, h7⟩

variable {m : (ℓ : Loc Cert.KernelIdeal.nD Cert.KernelIdeal.τ Cert.KernelIdeal.sig) → Buf (Elt Ideal) ℓ}

/-- Under the precondition every core's arguments are arrays of real numbers. -/
theorem real_of_pre (h : Cert.Pre_KernelIdeal_finite (hPre_finite := pre_facts) m) (c : Dev Cert.KernelIdeal.nD) :
    ∃ A : Args, Real m c A := by
  obtain ⟨h0, h1, h2, h3, h4, h5, h6, h7⟩ := and_eight (congrFun (h c) (fun k => k.elim0))
  have r0 := up_of_allFinite (x := arg0 (start m c)) h0
  have r1 := up_of_allFinite (x := arg1 (start m c)) h1
  have r2 := up_of_allFinite (x := arg2 (start m c)) h2
  have r3 := up_of_allFinite (x := arg3 (start m c)) h3
  have r4 := up_of_allFinite (x := arg4 (start m c)) h4
  have r5 := up_of_allFinite (x := arg5 (start m c)) h5
  have r6 := up_of_allFinite (x := arg6 (start m c)) h6
  have r7 := up_of_allFinite (x := arg7 (start m c)) h7
  exact ⟨⟨_, _, _, _, _, _, _, _⟩, ⟨r0, r1, r2, r3, r4, r5, r6, r7⟩⟩

end Cert.Attn.Host
end
-- ==== Proof.Attn.CaseA.lean ====
/- Case A of the backward kernel's body: every store is the one that the blocks' rows give. -/
module

public import proofs.«01_k».proof.Proof.Attn.KerBlock
public import proofs.«01_k».proof.Proof.Gen.KernelIdeal.Frame

@[expose] public section

set_option maxRecDepth 16384

noncomputable section

namespace Cert.Attn.CaseA

open Idealize.ShloMosaic Cert.KernelIdeal Cert.KernelIdeal.Gen Idealize.SL.Sem

variable {H : Fin 16 → Head} {x0 x1 x2 x3 : Vec Ideal S128x1024 .bf16} {x4 x5 : Vec Ideal S128x128 .f32}
  {x6 : Vec Ideal S16x128x256 .f32} {x7 x8 : Vec Ideal S128x1024 .bf16} {x9 x10 : Vec Ideal S1x1024 .f32}
  {x11 : Vec Ideal S1024x128 .bf16} {x12 : Vec Ideal S128x1024 .bf16}
  (X : Blocks H x0 x1 x2 x3 x4 x5 x6 x7 x8 x9 x10 x11 x12) (c : Dev nD)
  (arg1 : Memref sig .tc .vmem S128x1024 .bf16) (harg1 : arg1.IsWhole)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S16x128x256 .f32) (harg7 : arg7.IsWhole)
  (arg17 : Memref sig .tc .vmem S16x128x128 .bf16)
  (arg18 : Memref sig .tc .vmem S16x128x128 .bf16)
  (arg19 : Memref sig .tc .vmem S16x128x128 .bf16)
  (arg20 : Memref sig .tc .vmem S128x1024 .f32)
  (arg21 : Memref sig .tc .vmem S128x1024 .f32)
include X

/-- The exponentials. -/
theorem p_pieces : ∀ p ∈ (kernelRun0_A.sl.HS1_16 c arg1 harg1 arg2 harg2 arg5 harg5 arg7 harg7 x0 x1 x4 x6), ∀ y : p.1.shape.Idx,
    p.2 y = arrP H (p.1.emb y) := by
  unfold kernelRun0_A.sl.HS1_16
  refine List.forall_mem_cons.2 ⟨fun y => agrees_P X arg1 harg1 arg2 harg2 arg5 harg5 arg7 harg7 7 1 y, ?_⟩
  refine List.forall_mem_cons.2 ⟨fun y => agrees_P X arg1 harg1 arg2 harg2 arg5 harg5 arg7 harg7 7 0 y, ?_⟩
  refine List.forall_mem_cons.2 ⟨fun y => agrees_P X arg1 harg1 arg2 harg2 arg5 harg5 arg7 harg7 6 1 y, ?_⟩
  refine List.forall_mem_cons.2 ⟨fun y => agrees_P X arg1 harg1 arg2 harg2 arg5 harg5 arg7 harg7 6 0 y, ?_⟩
  refine List.forall_mem_cons.2 ⟨fun y => agrees_P X arg1 harg1 arg2 harg2 arg5 harg5 arg7 harg7 5 1 y, ?_⟩
  refine List.forall_mem_cons.2 ⟨fun y => agrees_P X arg1 harg1 arg2 harg2 arg5 harg5 arg7 harg7 5 0 y, ?_⟩
  refine List.forall_mem_cons.2 ⟨fun y => agrees_P X arg1 harg1 arg2 harg2 arg5 harg5 arg7 harg7 4 1 y, ?_⟩
  refine List.forall_mem_cons.2 ⟨fun y => agrees_P X arg1 harg1 arg2 harg2 arg5 harg5 arg7 harg7 4 0 y, ?_⟩
  refine List.forall_mem_cons.2 ⟨fun y => agrees_P X arg1 harg1 arg2 harg2 arg5 harg5 arg7 harg7 3 1 y, ?_⟩
  refine List.forall_mem_cons.2 ⟨fun y => agrees_P X arg1 harg1 arg2 harg2 arg5 harg5 arg7 harg7 3 0 y, ?_⟩
  refine List.forall_mem_cons.2 ⟨fun y => agrees_P X arg1 harg1 arg2 harg2 arg5 harg5 arg7 harg7 2 1 y, ?_⟩
  refine List.forall_mem_cons.2 ⟨fun y => agrees_P X arg1 harg1 arg2 harg2 arg5 harg5 arg7 harg7 2 0 y, ?_⟩
  refine List.forall_mem_cons.2 ⟨fun y => agrees_P X arg1 harg1 arg2 harg2 arg5 harg5 arg7 harg7 1 1 y, ?_⟩
  refine List.forall_mem_cons.2 ⟨fun y => agrees_P X arg1 harg1 arg2 harg2 arg5 harg5 arg7 harg7 1 0 y, ?_⟩
  refine List.forall_mem_cons.2 ⟨fun y => agrees_P X arg1 harg1 arg2 harg2 arg5 harg5 arg7 harg7 0 1 y, ?_⟩
  refine List.forall_mem_cons.2 ⟨fun y => agrees_P X arg1 harg1 arg2 harg2 arg5 harg5 arg7 harg7 0 0 y, ?_⟩
  exact fun p hp => absurd hp List.not_mem_nil

theorem p (y : S16x128x128.Idx) : View.canon (kernelRun0_A.sl.HS1_16 c arg1 harg1 arg2 harg2 arg5 harg5 arg7 harg7 x0 x1 x4 x6) y = arrP H y :=
  View.canon_apply_of_pieces (arrP H) _ (p_pieces X c arg1 harg1 arg2 harg2 arg5 harg5 arg7 harg7) y
    (View.cover_of_tiledBy (kernelRun0_A.sl.HS1_16 c arg1 harg1 arg2 harg2 arg5 harg5 arg7 harg7 x0 x1 x4 x6) ![1, 128, 128] (by sl_kernel_rfl) y)

/-- The score gradients. -/
theorem ds_pieces : ∀ p ∈ (kernelRun0_A.sl.HS0_16 c arg1 harg1 arg2 harg2 arg3 harg3 arg4 harg4 arg5 harg5 arg6 harg6 arg7 harg7 x0 x1 x2 x3 x4 x5 x6), ∀ y : p.1.shape.Idx,
    p.2 y = arrDS H (p.1.emb y) := by
  unfold kernelRun0_A.sl.HS0_16
  refine List.forall_mem_cons.2 ⟨fun y => agrees_DS X arg1 harg1 arg2 harg2 arg3 harg3 arg4 harg4 arg5 harg5 arg6 harg6 arg7 harg7 7 1 y, ?_⟩
  refine List.forall_mem_cons.2 ⟨fun y => agrees_DS X arg1 harg1 arg2 harg2 arg3 harg3 arg4 harg4 arg5 harg5 arg6 harg6 arg7 harg7 7 0 y, ?_⟩
  refine List.forall_mem_cons.2 ⟨fun y => agrees_DS X arg1 harg1 arg2 harg2 arg3 harg3 arg4 harg4 arg5 harg5 arg6 harg6 arg7 harg7 6 1 y, ?_⟩
  refine List.forall_mem_cons.2 ⟨fun y => agrees_DS X arg1 harg1 arg2 harg2 arg3 harg3 arg4 harg4 arg5 harg5 arg6 harg6 arg7 harg7 6 0 y, ?_⟩
  refine List.forall_mem_cons.2 ⟨fun y => agrees_DS X arg1 harg1 arg2 harg2 arg3 harg3 arg4 harg4 arg5 harg5 arg6 harg6 arg7 harg7 5 1 y, ?_⟩
  refine List.forall_mem_cons.2 ⟨fun y => agrees_DS X arg1 harg1 arg2 harg2 arg3 harg3 arg4 harg4 arg5 harg5 arg6 harg6 arg7 harg7 5 0 y, ?_⟩
  refine List.forall_mem_cons.2 ⟨fun y => agrees_DS X arg1 harg1 arg2 harg2 arg3 harg3 arg4 harg4 arg5 harg5 arg6 harg6 arg7 harg7 4 1 y, ?_⟩
  refine List.forall_mem_cons.2 ⟨fun y => agrees_DS X arg1 harg1 arg2 harg2 arg3 harg3 arg4 harg4 arg5 harg5 arg6 harg6 arg7 harg7 4 0 y, ?_⟩
  refine List.forall_mem_cons.2 ⟨fun y => agrees_DS X arg1 harg1 arg2 harg2 arg3 harg3 arg4 harg4 arg5 harg5 arg6 harg6 arg7 harg7 3 1 y, ?_⟩
  refine List.forall_mem_cons.2 ⟨fun y => agrees_DS X arg1 harg1 arg2 harg2 arg3 harg3 arg4 harg4 arg5 harg5 arg6 harg6 arg7 harg7 3 0 y, ?_⟩
  refine List.forall_mem_cons.2 ⟨fun y => agrees_DS X arg1 harg1 arg2 harg2 arg3 harg3 arg4 harg4 arg5 harg5 arg6 harg6 arg7 harg7 2 1 y, ?_⟩
  refine List.forall_mem_cons.2 ⟨fun y => agrees_DS X arg1 harg1 arg2 harg2 arg3 harg3 arg4 harg4 arg5 harg5 arg6 harg6 arg7 harg7 2 0 y, ?_⟩
  refine List.forall_mem_cons.2 ⟨fun y => agrees_DS X arg1 harg1 arg2 harg2 arg3 harg3 arg4 harg4 arg5 harg5 arg6 harg6 arg7 harg7 1 1 y, ?_⟩
  refine List.forall_mem_cons.2 ⟨fun y => agrees_DS X arg1 harg1 arg2 harg2 arg3 harg3 arg4 harg4 arg5 harg5 arg6 harg6 arg7 harg7 1 0 y, ?_⟩
  refine List.forall_mem_cons.2 ⟨fun y => agrees_DS X arg1 harg1 arg2 harg2 arg3 harg3 arg4 harg4 arg5 harg5 arg6 harg6 arg7 harg7 0 1 y, ?_⟩
  refine List.forall_mem_cons.2 ⟨fun y => agrees_DS X arg1 harg1 arg2 harg2 arg3 harg3 arg4 harg4 arg5 harg5 arg6 harg6 arg7 harg7 0 0 y, ?_⟩
  exact fun p hp => absurd hp List.not_mem_nil

theorem ds (y : S16x128x128.Idx) : View.canon (kernelRun0_A.sl.HS0_16 c arg1 harg1 arg2 harg2 arg3 harg3 arg4 harg4 arg5 harg5 arg6 harg6 arg7 harg7 x0 x1 x2 x3 x4 x5 x6) y = arrDS H y :=
  View.canon_apply_of_pieces (arrDS H) _ (ds_pieces X c arg1 harg1 arg2 harg2 arg3 harg3 arg4 harg4 arg5 harg5 arg6 harg6 arg7 harg7) y
    (View.cover_of_tiledBy (kernelRun0_A.sl.HS0_16 c arg1 harg1 arg2 harg2 arg3 harg3 arg4 harg4 arg5 harg5 arg6 harg6 arg7 harg7 x0 x1 x2 x3 x4 x5 x6) ![1, 128, 128] (by sl_kernel_rfl) y)

/-- The score gradients, kept a second time for the keys' gradients. -/
theorem dsk_pieces : ∀ p ∈ (kernelRun0_A.sl.HS2_16 c arg1 harg1 arg2 harg2 arg3 harg3 arg4 harg4 arg5 harg5 arg6 harg6 arg7 harg7 x0 x1 x2 x3 x4 x5 x6), ∀ y : p.1.shape.Idx,
    p.2 y = arrDS H (p.1.emb y) := by
  unfold kernelRun0_A.sl.HS2_16
  refine List.forall_mem_cons.2 ⟨fun y => agrees_DS X arg1 harg1 arg2 harg2 arg3 harg3 arg4 harg4 arg5 harg5 arg6 harg6 arg7 harg7 7 1 y, ?_⟩
  refine List.forall_mem_cons.2 ⟨fun y => agrees_DS X arg1 harg1 arg2 harg2 arg3 harg3 arg4 harg4 arg5 harg5 arg6 harg6 arg7 harg7 7 0 y, ?_⟩
  refine List.forall_mem_cons.2 ⟨fun y => agrees_DS X arg1 harg1 arg2 harg2 arg3 harg3 arg4 harg4 arg5 harg5 arg6 harg6 arg7 harg7 6 1 y, ?_⟩
  refine List.forall_mem_cons.2 ⟨fun y => agrees_DS X arg1 harg1 arg2 harg2 arg3 harg3 arg4 harg4 arg5 harg5 arg6 harg6 arg7 harg7 6 0 y, ?_⟩
  refine List.forall_mem_cons.2 ⟨fun y => agrees_DS X arg1 harg1 arg2 harg2 arg3 harg3 arg4 harg4 arg5 harg5 arg6 harg6 arg7 harg7 5 1 y, ?_⟩
  refine List.forall_mem_cons.2 ⟨fun y => agrees_DS X arg1 harg1 arg2 harg2 arg3 harg3 arg4 harg4 arg5 harg5 arg6 harg6 arg7 harg7 5 0 y, ?_⟩
  refine List.forall_mem_cons.2 ⟨fun y => agrees_DS X arg1 harg1 arg2 harg2 arg3 harg3 arg4 harg4 arg5 harg5 arg6 harg6 arg7 harg7 4 1 y, ?_⟩
  refine List.forall_mem_cons.2 ⟨fun y => agrees_DS X arg1 harg1 arg2 harg2 arg3 harg3 arg4 harg4 arg5 harg5 arg6 harg6 arg7 harg7 4 0 y, ?_⟩
  refine List.forall_mem_cons.2 ⟨fun y => agrees_DS X arg1 harg1 arg2 harg2 arg3 harg3 arg4 harg4 arg5 harg5 arg6 harg6 arg7 harg7 3 1 y, ?_⟩
  refine List.forall_mem_cons.2 ⟨fun y => agrees_DS X arg1 harg1 arg2 harg2 arg3 harg3 arg4 harg4 arg5 harg5 arg6 harg6 arg7 harg7 3 0 y, ?_⟩
  refine List.forall_mem_cons.2 ⟨fun y => agrees_DS X arg1 harg1 arg2 harg2 arg3 harg3 arg4 harg4 arg5 harg5 arg6 harg6 arg7 harg7 2 1 y, ?_⟩
  refine List.forall_mem_cons.2 ⟨fun y => agrees_DS X arg1 harg1 arg2 harg2 arg3 harg3 arg4 harg4 arg5 harg5 arg6 harg6 arg7 harg7 2 0 y, ?_⟩
  refine List.forall_mem_cons.2 ⟨fun y => agrees_DS X arg1 harg1 arg2 harg2 arg3 harg3 arg4 harg4 arg5 harg5 arg6 harg6 arg7 harg7 1 1 y, ?_⟩
  refine List.forall_mem_cons.2 ⟨fun y => agrees_DS X arg1 harg1 arg2 harg2 arg3 harg3 arg4 harg4 arg5 harg5 arg6 harg6 arg7 harg7 1 0 y, ?_⟩
  refine List.forall_mem_cons.2 ⟨fun y => agrees_DS X arg1 harg1 arg2 harg2 arg3 harg3 arg4 harg4 arg5 harg5 arg6 harg6 arg7 harg7 0 1 y, ?_⟩
  refine List.forall_mem_cons.2 ⟨fun y => agrees_DS X arg1 harg1 arg2 harg2 arg3 harg3 arg4 harg4 arg5 harg5 arg6 harg6 arg7 harg7 0 0 y, ?_⟩
  exact fun p hp => absurd hp List.not_mem_nil

theorem dsk (y : S16x128x128.Idx) : View.canon (kernelRun0_A.sl.HS2_16 c arg1 harg1 arg2 harg2 arg3 harg3 arg4 harg4 arg5 harg5 arg6 harg6 arg7 harg7 x0 x1 x2 x3 x4 x5 x6) y = arrDS H y :=
  View.canon_apply_of_pieces (arrDS H) _ (dsk_pieces X c arg1 harg1 arg2 harg2 arg3 harg3 arg4 harg4 arg5 harg5 arg6 harg6 arg7 harg7) y
    (View.cover_of_tiledBy (kernelRun0_A.sl.HS2_16 c arg1 harg1 arg2 harg2 arg3 harg3 arg4 harg4 arg5 harg5 arg6 harg6 arg7 harg7 x0 x1 x2 x3 x4 x5 x6) ![1, 128, 128] (by sl_kernel_rfl) y)

/-- The queries' gradients before the norm. -/
theorem dq_pieces : ∀ p ∈ (kernelRun0_A.sl.HS3_8 c arg1 harg1 arg2 harg2 arg3 harg3 arg4 harg4 arg5 harg5 arg6 harg6 arg7 harg7 arg17 x0 x1 x2 x3 x4 x5 x6), ∀ y : p.1.shape.Idx,
    p.2 y = arrDQ H (p.1.emb y) := by
  unfold kernelRun0_A.sl.HS3_8
  refine List.forall_mem_cons.2 ⟨fun y => agrees_DQ X arg2 harg2 arg17 (ds X c arg1 harg1 arg2 harg2 arg3 harg3 arg4 harg4 arg5 harg5 arg6 harg6 arg7 harg7) 7 y, ?_⟩
  refine List.forall_mem_cons.2 ⟨fun y => agrees_DQ X arg2 harg2 arg17 (ds X c arg1 harg1 arg2 harg2 arg3 harg3 arg4 harg4 arg5 harg5 arg6 harg6 arg7 harg7) 6 y, ?_⟩
  refine List.forall_mem_cons.2 ⟨fun y => agrees_DQ X arg2 harg2 arg17 (ds X c arg1 harg1 arg2 harg2 arg3 harg3 arg4 harg4 arg5 harg5 arg6 harg6 arg7 harg7) 5 y, ?_⟩
  refine List.forall_mem_cons.2 ⟨fun y => agrees_DQ X arg2 harg2 arg17 (ds X c arg1 harg1 arg2 harg2 arg3 harg3 arg4 harg4 arg5 harg5 arg6 harg6 arg7 harg7) 4 y, ?_⟩
  refine List.forall_mem_cons.2 ⟨fun y => agrees_DQ X arg2 harg2 arg17 (ds X c arg1 harg1 arg2 harg2 arg3 harg3 arg4 harg4 arg5 harg5 arg6 harg6 arg7 harg7) 3 y, ?_⟩
  refine List.forall_mem_cons.2 ⟨fun y => agrees_DQ X arg2 harg2 arg17 (ds X c arg1 harg1 arg2 harg2 arg3 harg3 arg4 harg4 arg5 harg5 arg6 harg6 arg7 harg7) 2 y, ?_⟩
  refine List.forall_mem_cons.2 ⟨fun y => agrees_DQ X arg2 harg2 arg17 (ds X c arg1 harg1 arg2 harg2 arg3 harg3 arg4 harg4 arg5 harg5 arg6 harg6 arg7 harg7) 1 y, ?_⟩
  refine List.forall_mem_cons.2 ⟨fun y => agrees_DQ X arg2 harg2 arg17 (ds X c arg1 harg1 arg2 harg2 arg3 harg3 arg4 harg4 arg5 harg5 arg6 harg6 arg7 harg7) 0 y, ?_⟩
  exact fun p hp => absurd hp List.not_mem_nil

theorem dq (y : S128x1024.Idx) : View.canon (kernelRun0_A.sl.HS3_8 c arg1 harg1 arg2 harg2 arg3 harg3 arg4 harg4 arg5 harg5 arg6 harg6 arg7 harg7 arg17 x0 x1 x2 x3 x4 x5 x6) y = arrDQ H y :=
  View.canon_apply_of_pieces (arrDQ H) _ (dq_pieces X c arg1 harg1 arg2 harg2 arg3 harg3 arg4 harg4 arg5 harg5 arg6 harg6 arg7 harg7 arg17) y
    (View.cover_of_tiledBy (kernelRun0_A.sl.HS3_8 c arg1 harg1 arg2 harg2 arg3 harg3 arg4 harg4 arg5 harg5 arg6 harg6 arg7 harg7 arg17 x0 x1 x2 x3 x4 x5 x6) ![128, 128] (by sl_kernel_rfl) y)

/-- The keys' gradients before the norm. -/
theorem dk_pieces : ∀ p ∈ (kernelRun0_A.sl.HS4_8 c arg1 harg1 arg2 harg2 arg3 harg3 arg4 harg4 arg5 harg5 arg6 harg6 arg7 harg7 arg19 x0 x1 x2 x3 x4 x5 x6), ∀ y : p.1.shape.Idx,
    p.2 y = arrDK H (p.1.emb y) := by
  unfold kernelRun0_A.sl.HS4_8
  refine List.forall_mem_cons.2 ⟨fun y => agrees_DK X arg1 harg1 arg19 (dsk X c arg1 harg1 arg2 harg2 arg3 harg3 arg4 harg4 arg5 harg5 arg6 harg6 arg7 harg7) 7 y, ?_⟩
  refine List.forall_mem_cons.2 ⟨fun y => agrees_DK X arg1 harg1 arg19 (dsk X c arg1 harg1 arg2 harg2 arg3 harg3 arg4 harg4 arg5 harg5 arg6 harg6 arg7 harg7) 6 y, ?_⟩
  refine List.forall_mem_cons.2 ⟨fun y => agrees_DK X arg1 harg1 arg19 (dsk X c arg1 harg1 arg2 harg2 arg3 harg3 arg4 harg4 arg5 harg5 arg6 harg6 arg7 harg7) 5 y, ?_⟩
  refine List.forall_mem_cons.2 ⟨fun y => agrees_DK X arg1 harg1 arg19 (dsk X c arg1 harg1 arg2 harg2 arg3 harg3 arg4 harg4 arg5 harg5 arg6 harg6 arg7 harg7) 4 y, ?_⟩
  refine List.forall_mem_cons.2 ⟨fun y => agrees_DK X arg1 harg1 arg19 (dsk X c arg1 harg1 arg2 harg2 arg3 harg3 arg4 harg4 arg5 harg5 arg6 harg6 arg7 harg7) 3 y, ?_⟩
  refine List.forall_mem_cons.2 ⟨fun y => agrees_DK X arg1 harg1 arg19 (dsk X c arg1 harg1 arg2 harg2 arg3 harg3 arg4 harg4 arg5 harg5 arg6 harg6 arg7 harg7) 2 y, ?_⟩
  refine List.forall_mem_cons.2 ⟨fun y => agrees_DK X arg1 harg1 arg19 (dsk X c arg1 harg1 arg2 harg2 arg3 harg3 arg4 harg4 arg5 harg5 arg6 harg6 arg7 harg7) 1 y, ?_⟩
  refine List.forall_mem_cons.2 ⟨fun y => agrees_DK X arg1 harg1 arg19 (dsk X c arg1 harg1 arg2 harg2 arg3 harg3 arg4 harg4 arg5 harg5 arg6 harg6 arg7 harg7) 0 y, ?_⟩
  exact fun p hp => absurd hp List.not_mem_nil

theorem dk (y : S128x1024.Idx) : View.canon (kernelRun0_A.sl.HS4_8 c arg1 harg1 arg2 harg2 arg3 harg3 arg4 harg4 arg5 harg5 arg6 harg6 arg7 harg7 arg19 x0 x1 x2 x3 x4 x5 x6) y = arrDK H y :=
  View.canon_apply_of_pieces (arrDK H) _ (dk_pieces X c arg1 harg1 arg2 harg2 arg3 harg3 arg4 harg4 arg5 harg5 arg6 harg6 arg7 harg7 arg19) y
    (View.cover_of_tiledBy (kernelRun0_A.sl.HS4_8 c arg1 harg1 arg2 harg2 arg3 harg3 arg4 harg4 arg5 harg5 arg6 harg6 arg7 harg7 arg19 x0 x1 x2 x3 x4 x5 x6) ![128, 128] (by sl_kernel_rfl) y)

variable (i : grid0.Coords) {hc0 : cond0_0 i}
  (arg8 : Memref sig .tc .vmem S128x1024 .bf16) (harg8 : arg8.IsWhole)
  (arg9 : Memref sig .tc .vmem S128x1024 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1024x128 .bf16) (harg12 : arg12.IsWhole)
  (arg13 : Memref sig .tc .vmem S128x1024 .bf16) (harg13 : arg13.IsWhole)
  (arg14 : Memref sig .tc .vmem S128x3072 .bf16) (harg14 : arg14.IsWhole)
  (arg15 : Memref sig .tc .vmem S1x1024 .f32) (harg15 : arg15.IsWhole)
  (arg16 : Memref sig .tc .vmem S1x1024 .f32) (harg16 : arg16.IsWhole)
  (harg17 : arg17.IsWhole) (harg18 : arg18.IsWhole) (harg19 : arg19.IsWhole) (harg20 : arg20.IsWhole) (harg21 : arg21.IsWhole)

/-- The result's block. -/
theorem out_pieces : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12).1, ∀ y : p.1.shape.Idx, p.2 y = arrOut H (p.1.emb y) := by
  unfold kernelRun0_A
  dsimp only
  refine List.forall_mem_cons.2 ⟨fun y => agrees_K X arg8 harg8 arg9 harg9 arg10 harg10 arg11 harg11 arg12 harg12 arg13 harg13 arg20 arg21 (dq X c arg1 harg1 arg2 harg2 arg3 harg3 arg4 harg4 arg5 harg5 arg6 harg6 arg7 harg7 arg17) (dk X c arg1 harg1 arg2 harg2 arg3 harg3 arg4 harg4 arg5 harg5 arg6 harg6 arg7 harg7 arg19) y, ?_⟩
  refine List.forall_mem_cons.2 ⟨fun y => agrees_Q X arg8 harg8 arg9 harg9 arg10 harg10 arg11 harg11 arg12 harg12 arg13 harg13 arg20 arg21 (dq X c arg1 harg1 arg2 harg2 arg3 harg3 arg4 harg4 arg5 harg5 arg6 harg6 arg7 harg7 arg17) (dk X c arg1 harg1 arg2 harg2 arg3 harg3 arg4 harg4 arg5 harg5 arg6 harg6 arg7 harg7 arg19) y, ?_⟩
  refine List.forall_mem_cons.2 ⟨fun y => agrees_DV X arg4 harg4 arg18 (p X c arg1 harg1 arg2 harg2 arg5 harg5 arg7 harg7) 7 y, ?_⟩
  refine List.forall_mem_cons.2 ⟨fun y => agrees_DV X arg4 harg4 arg18 (p X c arg1 harg1 arg2 harg2 arg5 harg5 arg7 harg7) 6 y, ?_⟩
  refine List.forall_mem_cons.2 ⟨fun y => agrees_DV X arg4 harg4 arg18 (p X c arg1 harg1 arg2 harg2 arg5 harg5 arg7 harg7) 5 y, ?_⟩
  refine List.forall_mem_cons.2 ⟨fun y => agrees_DV X arg4 harg4 arg18 (p X c arg1 harg1 arg2 harg2 arg5 harg5 arg7 harg7) 4 y, ?_⟩
  refine List.forall_mem_cons.2 ⟨fun y => agrees_DV X arg4 harg4 arg18 (p X c arg1 harg1 arg2 harg2 arg5 harg5 arg7 harg7) 3 y, ?_⟩
  refine List.forall_mem_cons.2 ⟨fun y => agrees_DV X arg4 harg4 arg18 (p X c arg1 harg1 arg2 harg2 arg5 harg5 arg7 harg7) 2 y, ?_⟩
  refine List.forall_mem_cons.2 ⟨fun y => agrees_DV X arg4 harg4 arg18 (p X c arg1 harg1 arg2 harg2 arg5 harg5 arg7 harg7) 1 y, ?_⟩
  refine List.forall_mem_cons.2 ⟨fun y => agrees_DV X arg4 harg4 arg18 (p X c arg1 harg1 arg2 harg2 arg5 harg5 arg7 harg7) 0 y, ?_⟩
  exact fun p hp => absurd hp List.not_mem_nil

theorem out_eq : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 = arrOut H := by
  unfold out0_A_13
  rw [View.read_writes_junk_eq_canon]
  exact funext fun y => View.canon_apply_of_pieces (arrOut H) _
    (out_pieces X c arg1 harg1 arg2 harg2 arg3 harg3 arg4 harg4 arg5 harg5 arg6 harg6 arg7 harg7 arg17 arg18 arg19 arg20 arg21 i arg8 harg8 arg9 harg9 arg10 harg10 arg11 harg11 arg12 harg12 arg13 harg13 arg14 harg14 arg15 harg15 arg16 harg16 harg17 harg18 harg19 harg20 harg21) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 y)

end Cert.Attn.CaseA
end
-- ==== Proof.Attn.CaseB.lean ====
/- Case B of the backward kernel's body: every store is the one that the blocks' rows give. -/
module

public import proofs.«01_k».proof.Proof.Attn.KerBlock
public import proofs.«01_k».proof.Proof.Gen.KernelIdeal.Frame

@[expose] public section

set_option maxRecDepth 16384

noncomputable section

namespace Cert.Attn.CaseB

open Idealize.ShloMosaic Cert.KernelIdeal Cert.KernelIdeal.Gen Idealize.SL.Sem

variable {H : Fin 16 → Head} {x0 x1 x2 x3 : Vec Ideal S128x1024 .bf16} {x4 x5 : Vec Ideal S128x128 .f32}
  {x6 : Vec Ideal S16x128x256 .f32} {x7 x8 : Vec Ideal S128x1024 .bf16} {x9 x10 : Vec Ideal S1x1024 .f32}
  {x11 : Vec Ideal S1024x128 .bf16} {x12 : Vec Ideal S128x1024 .bf16}
  (X : Blocks H x0 x1 x2 x3 x4 x5 x6 x7 x8 x9 x10 x11 x12) (c : Dev nD)
  (arg1 : Memref sig .tc .vmem S128x1024 .bf16) (harg1 : arg1.IsWhole)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S16x128x256 .f32) (harg7 : arg7.IsWhole)
  (arg17 : Memref sig .tc .vmem S16x128x128 .bf16)
  (arg18 : Memref sig .tc .vmem S16x128x128 .bf16)
  (arg19 : Memref sig .tc .vmem S16x128x128 .bf16)
  (arg20 : Memref sig .tc .vmem S128x1024 .f32)
  (arg21 : Memref sig .tc .vmem S128x1024 .f32)
include X

/-- The exponentials. -/
theorem p_pieces : ∀ p ∈ (kernelRun0_B.sl.HS1_16 c arg1 harg1 arg2 harg2 arg5 harg5 arg7 harg7 x0 x1 x4 x6), ∀ y : p.1.shape.Idx,
    p.2 y = arrP H (p.1.emb y) := by
  unfold kernelRun0_B.sl.HS1_16
  refine List.forall_mem_cons.2 ⟨fun y => agrees_P X arg1 harg1 arg2 harg2 arg5 harg5 arg7 harg7 7 1 y, ?_⟩
  refine List.forall_mem_cons.2 ⟨fun y => agrees_P X arg1 harg1 arg2 harg2 arg5 harg5 arg7 harg7 7 0 y, ?_⟩
  refine List.forall_mem_cons.2 ⟨fun y => agrees_P X arg1 harg1 arg2 harg2 arg5 harg5 arg7 harg7 6 1 y, ?_⟩
  refine List.forall_mem_cons.2 ⟨fun y => agrees_P X arg1 harg1 arg2 harg2 arg5 harg5 arg7 harg7 6 0 y, ?_⟩
  refine List.forall_mem_cons.2 ⟨fun y => agrees_P X arg1 harg1 arg2 harg2 arg5 harg5 arg7 harg7 5 1 y, ?_⟩
  refine List.forall_mem_cons.2 ⟨fun y => agrees_P X arg1 harg1 arg2 harg2 arg5 harg5 arg7 harg7 5 0 y, ?_⟩
  refine List.forall_mem_cons.2 ⟨fun y => agrees_P X arg1 harg1 arg2 harg2 arg5 harg5 arg7 harg7 4 1 y, ?_⟩
  refine List.forall_mem_cons.2 ⟨fun y => agrees_P X arg1 harg1 arg2 harg2 arg5 harg5 arg7 harg7 4 0 y, ?_⟩
  refine List.forall_mem_cons.2 ⟨fun y => agrees_P X arg1 harg1 arg2 harg2 arg5 harg5 arg7 harg7 3 1 y, ?_⟩
  refine List.forall_mem_cons.2 ⟨fun y => agrees_P X arg1 harg1 arg2 harg2 arg5 harg5 arg7 harg7 3 0 y, ?_⟩
  refine List.forall_mem_cons.2 ⟨fun y => agrees_P X arg1 harg1 arg2 harg2 arg5 harg5 arg7 harg7 2 1 y, ?_⟩
  refine List.forall_mem_cons.2 ⟨fun y => agrees_P X arg1 harg1 arg2 harg2 arg5 harg5 arg7 harg7 2 0 y, ?_⟩
  refine List.forall_mem_cons.2 ⟨fun y => agrees_P X arg1 harg1 arg2 harg2 arg5 harg5 arg7 harg7 1 1 y, ?_⟩
  refine List.forall_mem_cons.2 ⟨fun y => agrees_P X arg1 harg1 arg2 harg2 arg5 harg5 arg7 harg7 1 0 y, ?_⟩
  refine List.forall_mem_cons.2 ⟨fun y => agrees_P X arg1 harg1 arg2 harg2 arg5 harg5 arg7 harg7 0 1 y, ?_⟩
  refine List.forall_mem_cons.2 ⟨fun y => agrees_P X arg1 harg1 arg2 harg2 arg5 harg5 arg7 harg7 0 0 y, ?_⟩
  exact fun p hp => absurd hp List.not_mem_nil

theorem p (y : S16x128x128.Idx) : View.canon (kernelRun0_B.sl.HS1_16 c arg1 harg1 arg2 harg2 arg5 harg5 arg7 harg7 x0 x1 x4 x6) y = arrP H y :=
  View.canon_apply_of_pieces (arrP H) _ (p_pieces X c arg1 harg1 arg2 harg2 arg5 harg5 arg7 harg7) y
    (View.cover_of_tiledBy (kernelRun0_B.sl.HS1_16 c arg1 harg1 arg2 harg2 arg5 harg5 arg7 harg7 x0 x1 x4 x6) ![1, 128, 128] (by sl_kernel_rfl) y)

/-- The score gradients. -/
theorem ds_pieces : ∀ p ∈ (kernelRun0_B.sl.HS0_16 c arg1 harg1 arg2 harg2 arg3 harg3 arg4 harg4 arg5 harg5 arg6 harg6 arg7 harg7 x0 x1 x2 x3 x4 x5 x6), ∀ y : p.1.shape.Idx,
    p.2 y = arrDS H (p.1.emb y) := by
  unfold kernelRun0_B.sl.HS0_16
  refine List.forall_mem_cons.2 ⟨fun y => agrees_DS X arg1 harg1 arg2 harg2 arg3 harg3 arg4 harg4 arg5 harg5 arg6 harg6 arg7 harg7 7 1 y, ?_⟩
  refine List.forall_mem_cons.2 ⟨fun y => agrees_DS X arg1 harg1 arg2 harg2 arg3 harg3 arg4 harg4 arg5 harg5 arg6 harg6 arg7 harg7 7 0 y, ?_⟩
  refine List.forall_mem_cons.2 ⟨fun y => agrees_DS X arg1 harg1 arg2 harg2 arg3 harg3 arg4 harg4 arg5 harg5 arg6 harg6 arg7 harg7 6 1 y, ?_⟩
  refine List.forall_mem_cons.2 ⟨fun y => agrees_DS X arg1 harg1 arg2 harg2 arg3 harg3 arg4 harg4 arg5 harg5 arg6 harg6 arg7 harg7 6 0 y, ?_⟩
  refine List.forall_mem_cons.2 ⟨fun y => agrees_DS X arg1 harg1 arg2 harg2 arg3 harg3 arg4 harg4 arg5 harg5 arg6 harg6 arg7 harg7 5 1 y, ?_⟩
  refine List.forall_mem_cons.2 ⟨fun y => agrees_DS X arg1 harg1 arg2 harg2 arg3 harg3 arg4 harg4 arg5 harg5 arg6 harg6 arg7 harg7 5 0 y, ?_⟩
  refine List.forall_mem_cons.2 ⟨fun y => agrees_DS X arg1 harg1 arg2 harg2 arg3 harg3 arg4 harg4 arg5 harg5 arg6 harg6 arg7 harg7 4 1 y, ?_⟩
  refine List.forall_mem_cons.2 ⟨fun y => agrees_DS X arg1 harg1 arg2 harg2 arg3 harg3 arg4 harg4 arg5 harg5 arg6 harg6 arg7 harg7 4 0 y, ?_⟩
  refine List.forall_mem_cons.2 ⟨fun y => agrees_DS X arg1 harg1 arg2 harg2 arg3 harg3 arg4 harg4 arg5 harg5 arg6 harg6 arg7 harg7 3 1 y, ?_⟩
  refine List.forall_mem_cons.2 ⟨fun y => agrees_DS X arg1 harg1 arg2 harg2 arg3 harg3 arg4 harg4 arg5 harg5 arg6 harg6 arg7 harg7 3 0 y, ?_⟩
  refine List.forall_mem_cons.2 ⟨fun y => agrees_DS X arg1 harg1 arg2 harg2 arg3 harg3 arg4 harg4 arg5 harg5 arg6 harg6 arg7 harg7 2 1 y, ?_⟩
  refine List.forall_mem_cons.2 ⟨fun y => agrees_DS X arg1 harg1 arg2 harg2 arg3 harg3 arg4 harg4 arg5 harg5 arg6 harg6 arg7 harg7 2 0 y, ?_⟩
  refine List.forall_mem_cons.2 ⟨fun y => agrees_DS X arg1 harg1 arg2 harg2 arg3 harg3 arg4 harg4 arg5 harg5 arg6 harg6 arg7 harg7 1 1 y, ?_⟩
  refine List.forall_mem_cons.2 ⟨fun y => agrees_DS X arg1 harg1 arg2 harg2 arg3 harg3 arg4 harg4 arg5 harg5 arg6 harg6 arg7 harg7 1 0 y, ?_⟩
  refine List.forall_mem_cons.2 ⟨fun y => agrees_DS X arg1 harg1 arg2 harg2 arg3 harg3 arg4 harg4 arg5 harg5 arg6 harg6 arg7 harg7 0 1 y, ?_⟩
  refine List.forall_mem_cons.2 ⟨fun y => agrees_DS X arg1 harg1 arg2 harg2 arg3 harg3 arg4 harg4 arg5 harg5 arg6 harg6 arg7 harg7 0 0 y, ?_⟩
  exact fun p hp => absurd hp List.not_mem_nil

theorem ds (y : S16x128x128.Idx) : View.canon (kernelRun0_B.sl.HS0_16 c arg1 harg1 arg2 harg2 arg3 harg3 arg4 harg4 arg5 harg5 arg6 harg6 arg7 harg7 x0 x1 x2 x3 x4 x5 x6) y = arrDS H y :=
  View.canon_apply_of_pieces (arrDS H) _ (ds_pieces X c arg1 harg1 arg2 harg2 arg3 harg3 arg4 harg4 arg5 harg5 arg6 harg6 arg7 harg7) y
    (View.cover_of_tiledBy (kernelRun0_B.sl.HS0_16 c arg1 harg1 arg2 harg2 arg3 harg3 arg4 harg4 arg5 harg5 arg6 harg6 arg7 harg7 x0 x1 x2 x3 x4 x5 x6) ![1, 128, 128] (by sl_kernel_rfl) y)

/-- The score gradients, kept a second time for the keys' gradients. -/
theorem dsk_pieces : ∀ p ∈ (kernelRun0_B.sl.HS2_16 c arg1 harg1 arg2 harg2 arg3 harg3 arg4 harg4 arg5 harg5 arg6 harg6 arg7 harg7 x0 x1 x2 x3 x4 x5 x6), ∀ y : p.1.shape.Idx,
    p.2 y = arrDS H (p.1.emb y) := by
  unfold kernelRun0_B.sl.HS2_16
  refine List.forall_mem_cons.2 ⟨fun y => agrees_DS X arg1 harg1 arg2 harg2 arg3 harg3 arg4 harg4 arg5 harg5 arg6 harg6 arg7 harg7 7 1 y, ?_⟩
  refine List.forall_mem_cons.2 ⟨fun y => agrees_DS X arg1 harg1 arg2 harg2 arg3 harg3 arg4 harg4 arg5 harg5 arg6 harg6 arg7 harg7 7 0 y, ?_⟩
  refine List.forall_mem_cons.2 ⟨fun y => agrees_DS X arg1 harg1 arg2 harg2 arg3 harg3 arg4 harg4 arg5 harg5 arg6 harg6 arg7 harg7 6 1 y, ?_⟩
  refine List.forall_mem_cons.2 ⟨fun y => agrees_DS X arg1 harg1 arg2 harg2 arg3 harg3 arg4 harg4 arg5 harg5 arg6 harg6 arg7 harg7 6 0 y, ?_⟩
  refine List.forall_mem_cons.2 ⟨fun y => agrees_DS X arg1 harg1 arg2 harg2 arg3 harg3 arg4 harg4 arg5 harg5 arg6 harg6 arg7 harg7 5 1 y, ?_⟩
  refine List.forall_mem_cons.2 ⟨fun y => agrees_DS X arg1 harg1 arg2 harg2 arg3 harg3 arg4 harg4 arg5 harg5 arg6 harg6 arg7 harg7 5 0 y, ?_⟩
  refine List.forall_mem_cons.2 ⟨fun y => agrees_DS X arg1 harg1 arg2 harg2 arg3 harg3 arg4 harg4 arg5 harg5 arg6 harg6 arg7 harg7 4 1 y, ?_⟩
  refine List.forall_mem_cons.2 ⟨fun y => agrees_DS X arg1 harg1 arg2 harg2 arg3 harg3 arg4 harg4 arg5 harg5 arg6 harg6 arg7 harg7 4 0 y, ?_⟩
  refine List.forall_mem_cons.2 ⟨fun y => agrees_DS X arg1 harg1 arg2 harg2 arg3 harg3 arg4 harg4 arg5 harg5 arg6 harg6 arg7 harg7 3 1 y, ?_⟩
  refine List.forall_mem_cons.2 ⟨fun y => agrees_DS X arg1 harg1 arg2 harg2 arg3 harg3 arg4 harg4 arg5 harg5 arg6 harg6 arg7 harg7 3 0 y, ?_⟩
  refine List.forall_mem_cons.2 ⟨fun y => agrees_DS X arg1 harg1 arg2 harg2 arg3 harg3 arg4 harg4 arg5 harg5 arg6 harg6 arg7 harg7 2 1 y, ?_⟩
  refine List.forall_mem_cons.2 ⟨fun y => agrees_DS X arg1 harg1 arg2 harg2 arg3 harg3 arg4 harg4 arg5 harg5 arg6 harg6 arg7 harg7 2 0 y, ?_⟩
  refine List.forall_mem_cons.2 ⟨fun y => agrees_DS X arg1 harg1 arg2 harg2 arg3 harg3 arg4 harg4 arg5 harg5 arg6 harg6 arg7 harg7 1 1 y, ?_⟩
  refine List.forall_mem_cons.2 ⟨fun y => agrees_DS X arg1 harg1 arg2 harg2 arg3 harg3 arg4 harg4 arg5 harg5 arg6 harg6 arg7 harg7 1 0 y, ?_⟩
  refine List.forall_mem_cons.2 ⟨fun y => agrees_DS X arg1 harg1 arg2 harg2 arg3 harg3 arg4 harg4 arg5 harg5 arg6 harg6 arg7 harg7 0 1 y, ?_⟩
  refine List.forall_mem_cons.2 ⟨fun y => agrees_DS X arg1 harg1 arg2 harg2 arg3 harg3 arg4 harg4 arg5 harg5 arg6 harg6 arg7 harg7 0 0 y, ?_⟩
  exact fun p hp => absurd hp List.not_mem_nil

theorem dsk (y : S16x128x128.Idx) : View.canon (kernelRun0_B.sl.HS2_16 c arg1 harg1 arg2 harg2 arg3 harg3 arg4 harg4 arg5 harg5 arg6 harg6 arg7 harg7 x0 x1 x2 x3 x4 x5 x6) y = arrDS H y :=
  View.canon_apply_of_pieces (arrDS H) _ (dsk_pieces X c arg1 harg1 arg2 harg2 arg3 harg3 arg4 harg4 arg5 harg5 arg6 harg6 arg7 harg7) y
    (View.cover_of_tiledBy (kernelRun0_B.sl.HS2_16 c arg1 harg1 arg2 harg2 arg3 harg3 arg4 harg4 arg5 harg5 arg6 harg6 arg7 harg7 x0 x1 x2 x3 x4 x5 x6) ![1, 128, 128] (by sl_kernel_rfl) y)

/-- The queries' gradients before the norm. -/
theorem dq_pieces : ∀ p ∈ (kernelRun0_B.sl.HS3_8 c arg1 harg1 arg2 harg2 arg3 harg3 arg4 harg4 arg5 harg5 arg6 harg6 arg7 harg7 arg17 x0 x1 x2 x3 x4 x5 x6), ∀ y : p.1.shape.Idx,
    p.2 y = arrDQ H (p.1.emb y) := by
  unfold kernelRun0_B.sl.HS3_8
  refine List.forall_mem_cons.2 ⟨fun y => agrees_DQ X arg2 harg2 arg17 (ds X c arg1 harg1 arg2 harg2 arg3 harg3 arg4 harg4 arg5 harg5 arg6 harg6 arg7 harg7) 7 y, ?_⟩
  refine List.forall_mem_cons.2 ⟨fun y => agrees_DQ X arg2 harg2 arg17 (ds X c arg1 harg1 arg2 harg2 arg3 harg3 arg4 harg4 arg5 harg5 arg6 harg6 arg7 harg7) 6 y, ?_⟩
  refine List.forall_mem_cons.2 ⟨fun y => agrees_DQ X arg2 harg2 arg17 (ds X c arg1 harg1 arg2 harg2 arg3 harg3 arg4 harg4 arg5 harg5 arg6 harg6 arg7 harg7) 5 y, ?_⟩
  refine List.forall_mem_cons.2 ⟨fun y => agrees_DQ X arg2 harg2 arg17 (ds X c arg1 harg1 arg2 harg2 arg3 harg3 arg4 harg4 arg5 harg5 arg6 harg6 arg7 harg7) 4 y, ?_⟩
  refine List.forall_mem_cons.2 ⟨fun y => agrees_DQ X arg2 harg2 arg17 (ds X c arg1 harg1 arg2 harg2 arg3 harg3 arg4 harg4 arg5 harg5 arg6 harg6 arg7 harg7) 3 y, ?_⟩
  refine List.forall_mem_cons.2 ⟨fun y => agrees_DQ X arg2 harg2 arg17 (ds X c arg1 harg1 arg2 harg2 arg3 harg3 arg4 harg4 arg5 harg5 arg6 harg6 arg7 harg7) 2 y, ?_⟩
  refine List.forall_mem_cons.2 ⟨fun y => agrees_DQ X arg2 harg2 arg17 (ds X c arg1 harg1 arg2 harg2 arg3 harg3 arg4 harg4 arg5 harg5 arg6 harg6 arg7 harg7) 1 y, ?_⟩
  refine List.forall_mem_cons.2 ⟨fun y => agrees_DQ X arg2 harg2 arg17 (ds X c arg1 harg1 arg2 harg2 arg3 harg3 arg4 harg4 arg5 harg5 arg6 harg6 arg7 harg7) 0 y, ?_⟩
  exact fun p hp => absurd hp List.not_mem_nil

theorem dq (y : S128x1024.Idx) : View.canon (kernelRun0_B.sl.HS3_8 c arg1 harg1 arg2 harg2 arg3 harg3 arg4 harg4 arg5 harg5 arg6 harg6 arg7 harg7 arg17 x0 x1 x2 x3 x4 x5 x6) y = arrDQ H y :=
  View.canon_apply_of_pieces (arrDQ H) _ (dq_pieces X c arg1 harg1 arg2 harg2 arg3 harg3 arg4 harg4 arg5 harg5 arg6 harg6 arg7 harg7 arg17) y
    (View.cover_of_tiledBy (kernelRun0_B.sl.HS3_8 c arg1 harg1 arg2 harg2 arg3 harg3 arg4 harg4 arg5 harg5 arg6 harg6 arg7 harg7 arg17 x0 x1 x2 x3 x4 x5 x6) ![128, 128] (by sl_kernel_rfl) y)

/-- The keys' gradients before the norm. -/
theorem dk_pieces : ∀ p ∈ (kernelRun0_B.sl.HS4_8 c arg1 harg1 arg2 harg2 arg3 harg3 arg4 harg4 arg5 harg5 arg6 harg6 arg7 harg7 arg19 x0 x1 x2 x3 x4 x5 x6), ∀ y : p.1.shape.Idx,
    p.2 y = arrDK H (p.1.emb y) := by
  unfold kernelRun0_B.sl.HS4_8
  refine List.forall_mem_cons.2 ⟨fun y => agrees_DK X arg1 harg1 arg19 (dsk X c arg1 harg1 arg2 harg2 arg3 harg3 arg4 harg4 arg5 harg5 arg6 harg6 arg7 harg7) 7 y, ?_⟩
  refine List.forall_mem_cons.2 ⟨fun y => agrees_DK X arg1 harg1 arg19 (dsk X c arg1 harg1 arg2 harg2 arg3 harg3 arg4 harg4 arg5 harg5 arg6 harg6 arg7 harg7) 6 y, ?_⟩
  refine List.forall_mem_cons.2 ⟨fun y => agrees_DK X arg1 harg1 arg19 (dsk X c arg1 harg1 arg2 harg2 arg3 harg3 arg4 harg4 arg5 harg5 arg6 harg6 arg7 harg7) 5 y, ?_⟩
  refine List.forall_mem_cons.2 ⟨fun y => agrees_DK X arg1 harg1 arg19 (dsk X c arg1 harg1 arg2 harg2 arg3 harg3 arg4 harg4 arg5 harg5 arg6 harg6 arg7 harg7) 4 y, ?_⟩
  refine List.forall_mem_cons.2 ⟨fun y => agrees_DK X arg1 harg1 arg19 (dsk X c arg1 harg1 arg2 harg2 arg3 harg3 arg4 harg4 arg5 harg5 arg6 harg6 arg7 harg7) 3 y, ?_⟩
  refine List.forall_mem_cons.2 ⟨fun y => agrees_DK X arg1 harg1 arg19 (dsk X c arg1 harg1 arg2 harg2 arg3 harg3 arg4 harg4 arg5 harg5 arg6 harg6 arg7 harg7) 2 y, ?_⟩
  refine List.forall_mem_cons.2 ⟨fun y => agrees_DK X arg1 harg1 arg19 (dsk X c arg1 harg1 arg2 harg2 arg3 harg3 arg4 harg4 arg5 harg5 arg6 harg6 arg7 harg7) 1 y, ?_⟩
  refine List.forall_mem_cons.2 ⟨fun y => agrees_DK X arg1 harg1 arg19 (dsk X c arg1 harg1 arg2 harg2 arg3 harg3 arg4 harg4 arg5 harg5 arg6 harg6 arg7 harg7) 0 y, ?_⟩
  exact fun p hp => absurd hp List.not_mem_nil

theorem dk (y : S128x1024.Idx) : View.canon (kernelRun0_B.sl.HS4_8 c arg1 harg1 arg2 harg2 arg3 harg3 arg4 harg4 arg5 harg5 arg6 harg6 arg7 harg7 arg19 x0 x1 x2 x3 x4 x5 x6) y = arrDK H y :=
  View.canon_apply_of_pieces (arrDK H) _ (dk_pieces X c arg1 harg1 arg2 harg2 arg3 harg3 arg4 harg4 arg5 harg5 arg6 harg6 arg7 harg7 arg19) y
    (View.cover_of_tiledBy (kernelRun0_B.sl.HS4_8 c arg1 harg1 arg2 harg2 arg3 harg3 arg4 harg4 arg5 harg5 arg6 harg6 arg7 harg7 arg19 x0 x1 x2 x3 x4 x5 x6) ![128, 128] (by sl_kernel_rfl) y)

variable (i : grid0.Coords) {hc0 : ¬ cond0_0 i} {xo14 xo15 : Vec Ideal S1x1024 .f32}
  (arg8 : Memref sig .tc .vmem S128x1024 .bf16) (harg8 : arg8.IsWhole)
  (arg9 : Memref sig .tc .vmem S128x1024 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1024x128 .bf16) (harg12 : arg12.IsWhole)
  (arg13 : Memref sig .tc .vmem S128x1024 .bf16) (harg13 : arg13.IsWhole)
  (arg14 : Memref sig .tc .vmem S128x3072 .bf16) (harg14 : arg14.IsWhole)
  (arg15 : Memref sig .tc .vmem S1x1024 .f32) (harg15 : arg15.IsWhole)
  (arg16 : Memref sig .tc .vmem S1x1024 .f32) (harg16 : arg16.IsWhole)
  (harg17 : arg17.IsWhole) (harg18 : arg18.IsWhole) (harg19 : arg19.IsWhole) (harg20 : arg20.IsWhole) (harg21 : arg21.IsWhole)

/-- The result's block. -/
theorem out_pieces : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xo14 xo15).1, ∀ y : p.1.shape.Idx, p.2 y = arrOut H (p.1.emb y) := by
  unfold kernelRun0_B
  dsimp only
  refine List.forall_mem_cons.2 ⟨fun y => agrees_K X arg8 harg8 arg9 harg9 arg10 harg10 arg11 harg11 arg12 harg12 arg13 harg13 arg20 arg21 (dq X c arg1 harg1 arg2 harg2 arg3 harg3 arg4 harg4 arg5 harg5 arg6 harg6 arg7 harg7 arg17) (dk X c arg1 harg1 arg2 harg2 arg3 harg3 arg4 harg4 arg5 harg5 arg6 harg6 arg7 harg7 arg19) y, ?_⟩
  refine List.forall_mem_cons.2 ⟨fun y => agrees_Q X arg8 harg8 arg9 harg9 arg10 harg10 arg11 harg11 arg12 harg12 arg13 harg13 arg20 arg21 (dq X c arg1 harg1 arg2 harg2 arg3 harg3 arg4 harg4 arg5 harg5 arg6 harg6 arg7 harg7 arg17) (dk X c arg1 harg1 arg2 harg2 arg3 harg3 arg4 harg4 arg5 harg5 arg6 harg6 arg7 harg7 arg19) y, ?_⟩
  refine List.forall_mem_cons.2 ⟨fun y => agrees_DV X arg4 harg4 arg18 (p X c arg1 harg1 arg2 harg2 arg5 harg5 arg7 harg7) 7 y, ?_⟩
  refine List.forall_mem_cons.2 ⟨fun y => agrees_DV X arg4 harg4 arg18 (p X c arg1 harg1 arg2 harg2 arg5 harg5 arg7 harg7) 6 y, ?_⟩
  refine List.forall_mem_cons.2 ⟨fun y => agrees_DV X arg4 harg4 arg18 (p X c arg1 harg1 arg2 harg2 arg5 harg5 arg7 harg7) 5 y, ?_⟩
  refine List.forall_mem_cons.2 ⟨fun y => agrees_DV X arg4 harg4 arg18 (p X c arg1 harg1 arg2 harg2 arg5 harg5 arg7 harg7) 4 y, ?_⟩
  refine List.forall_mem_cons.2 ⟨fun y => agrees_DV X arg4 harg4 arg18 (p X c arg1 harg1 arg2 harg2 arg5 harg5 arg7 harg7) 3 y, ?_⟩
  refine List.forall_mem_cons.2 ⟨fun y => agrees_DV X arg4 harg4 arg18 (p X c arg1 harg1 arg2 harg2 arg5 harg5 arg7 harg7) 2 y, ?_⟩
  refine List.forall_mem_cons.2 ⟨fun y => agrees_DV X arg4 harg4 arg18 (p X c arg1 harg1 arg2 harg2 arg5 harg5 arg7 harg7) 1 y, ?_⟩
  refine List.forall_mem_cons.2 ⟨fun y => agrees_DV X arg4 harg4 arg18 (p X c arg1 harg1 arg2 harg2 arg5 harg5 arg7 harg7) 0 y, ?_⟩
  exact fun p hp => absurd hp List.not_mem_nil

theorem out_eq : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xo14 xo15 = arrOut H := by
  unfold out0_B_13
  rw [View.read_writes_junk_eq_canon]
  exact funext fun y => View.canon_apply_of_pieces (arrOut H) _
    (out_pieces X c arg1 harg1 arg2 harg2 arg3 harg3 arg4 harg4 arg5 harg5 arg6 harg6 arg7 harg7 arg17 arg18 arg19 arg20 arg21 i arg8 harg8 arg9 harg9 arg10 harg10 arg11 harg11 arg12 harg12 arg13 harg13 arg14 harg14 arg15 harg15 arg16 harg16 harg17 harg18 harg19 harg20 harg21) y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 xo14 xo15 y)

end Cert.Attn.CaseB
end
-- ==== Proof.Attn.KerOut.lean ====
/- The kernel's result array after the run. -/
module

public import proofs.«01_k».proof.Proof.Attn.KerArray
public import proofs.«01_k».proof.Proof.Attn.CaseA
public import proofs.«01_k».proof.Proof.Attn.CaseB
public import proofs.«01_k».proof.Proof.Gen.KernelIdeal.Value

@[expose] public section

set_option maxRecDepth 16384

noncomputable section

namespace Cert.Attn.Host

open Cert.KernelIdeal Cert.KernelIdeal.Gen Idealize.ShloMosaic Idealize.ShloMosaic.StableHlo Idealize.ShloMosaic.TcCoe

variable (m : (ℓ : Loc nD τ sig) → Buf (Elt Ideal) ℓ)

/-- The result array at real arguments. -/
def outArr (A : Args) : (⟨S2048x3072, .bf16⟩ : BufTy).Contents (Elt Ideal) := fun y =>
  ((resultAt (fun h => A.head ⟨(y 0).val / 128, by have := (y 0).isLt; change (y 0).val < 2048 at this; omega⟩ h)
    ⟨(y 0).val % 128, by omega⟩ (y 1) : ℝ) : EReal)

theorem outArr_at (A : Args) (r : Fin 16) (l : Fin 128) (c : Fin 3072) :
    outArr A (ix2 (row r l) c) = ((resultAt (fun h => A.head r h) l c : ℝ) : EReal) := by
  have hr : (⟨(row r l).val / 128, by omega⟩ : Fin 16) = r := Fin.ext (by show (128 * r.val + l.val) / 128 = r.val; omega)
  have hl : (⟨(row r l).val % 128, by omega⟩ : Fin 128) = l := Fin.ext (by show (128 * r.val + l.val) % 128 = l.val; omega)
  show ((resultAt (fun h => A.head ⟨(row r l).val / 128, _⟩ h) ⟨(row r l).val % 128, _⟩ c : ℝ) : EReal) = _
  rw [hr, hl]

/-- What the body leaves in the result's block at every grid point. -/
theorem left_eq {c : Dev nD} {A : Args} (hA : Real m c A) (t : Fin cfg0.N) :
    (outsAt0 m c t.val t.isLt).1 = arrOut (fun h => A.head (cls t) h) := by
  have X := blocks hA t
  by_cases h0 : t.val % 16 = 0
  · rw [outsAt0_A m c t h0]
    dsimp only
    exact CaseA.out_eq X c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 scM0_1 scM0_2 scM0_3 scM0_4 (grid0.coords t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (Memref.isWhole_whole _) (Memref.isWhole_whole _) (Memref.isWhole_whole _) (Memref.isWhole_whole _) (Memref.isWhole_whole _)
  · rw [outsAt0_B m c t h0]
    generalize outsAt0 m c (t.val - 1) _ = prev
    dsimp only
    exact CaseB.out_eq X c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      scM0_0 scM0_1 scM0_2 scM0_3 scM0_4 (grid0.coords t)
      (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
      (Memref.isWhole_whole _) (Memref.isWhole_whole _) (Memref.isWhole_whole _) (Memref.isWhole_whole _) (Memref.isWhole_whole _)

/-- The place in the result array of an element of a grid point's block. -/
theorem emb_out (t : Fin cfg0.N) (i : Fin 128) (k : Fin 3072) :
    ((cfg0.win 13).blk t).view.emb (ix2 i k) = (ix2 (row (cls t) i) k : S2048x3072.Idx) := by
  unfold row
  blk_ext [idx t]

/-- The result array after the run. -/
theorem arr_eq {c : Dev nD} {A : Args} (hA : Real m c A) :
    (dats m 0 c).arrAt 13 cfg0.N = outArr A := by
  refine (dats m 0 c).arrAt_eq_of_covers 13 _ (by decide +kernel) fun t hf y => ?_
  obtain ⟨i, k, rfl⟩ : ∃ i k, y = ix2 i k := ⟨y 0, y 1, eq_ix2 y⟩
  rw [emb_out, outArr_at]
  change (dats m 0 c).flushed 13 t (ix2 i k) = _
  rw [Value.flushed13, left_eq m hA t]
  rfl

end Cert.Attn.Host
end
-- ==== Proof.Attn.RefBack.lean ====
/- The reference program at real arguments, one operation at a time: the derivative up to the normalized queries and keys. -/
module

public import proofs.«01_k».proof.Proof.Attn.RefMerge

@[expose] public section

set_option maxRecDepth 16384

noncomputable section

namespace Cert.Attn

open Cert.ReferenceIdeal Cert.ReferenceIdeal.Gen Cert.ReferenceIdeal.Read Idealize.ShloMosaic

-- the operations are read by their lemmas alone
attribute [local irreducible] val_main_v0 val_main_v1 val_main_v2 val_main_v3 val_main_v4 val_main_v5 val_main_v6 val_main_cst val_main_v7
  val_main_v8 val_main_cst_0 val_main_v9 val_main_v10 val_main_cst_1 val_main_v11 val_main_v12 val_main_v13
  val_main_v14 val_main_cst_2 val_main_v15 val_main_v16 val_main_v17 val_main_v18 val_main_v19 val_main_v20
  val_main_v21 val_main_v22 val_main_cst_3 val_main_v23 val_main_v24 val_main_cst_4 val_main_v25 val_main_v26
  val_main_cst_5 val_main_v27 val_main_v28 val_main_v29 val_main_v30 val_main_cst_6 val_main_v31 val_main_v32
  val_main_v33 val_main_v34 val_main_v35 val_main_v36 val_main_v37 val_main_v38 val_main_cst_7 val_main_v39
  val_main_v40 val_main_v41 val_main_v42 val_main_v43 val_main_v44 val_main_v45 val_main_v46 val_main_v47
  val_main_c val_main_v48 val_main_v49 val_main_c_8 val_main_v50 val_main_v51 val_main_v52 val_main_c_9
  val_main_v53 val_main_v54 val_main_v55 val_main_v56 val_main_cst_10 val_main_v57 val_main_v58 val_main_cst_11
  val_main_v59 val_main_v60 val_main_cst_12 val_main_v61 val_main_v62 val_main_cst_13 val_main_v63 val_main_v64
  val_main_v65 val_main_v66 val_main_v67 val_main_v68 val_main_v69 val_main_v70 val_main_v71 val_main_v72
  val_main_v73 val_main_cst_14 val_main_call0_v0 val_main_v74_1 val_main_call0_v2 val_main_v74_0
  val_main_call0_cst val_main_v74_2 val_main_v75 val_main_cst_15 val_main_v76 val_main_v77 val_main_v78
  val_main_v79 val_main_v80 val_main_v81 val_main_v82 val_main_v83 val_main_v84 val_main_v85 val_main_v86
  val_main_v87 val_main_v88 val_main_v89 val_main_v90 val_main_v91 val_main_cst_16 val_main_v92 val_main_v93
  val_main_v94 val_main_v95 val_main_v96 val_main_v97 val_main_v98 val_main_cst_17 val_main_v99 val_main_v100
  val_main_v101 val_main_v102 val_main_v103 val_main_v104 val_main_v105 val_main_v106 val_main_cst_18
  val_main_v107 val_main_v108 val_main_v109 val_main_v110 val_main_v111 val_main_v112 val_main_v113
  val_main_v114 val_main_v115 val_main_v116 val_main_v117 val_main_cst_19 val_main_v118 val_main_v119
  val_main_cst_20 val_main_v120 val_main_v121 val_main_v122 val_main_v123 val_main_v124 val_main_v125
  val_main_v126 val_main_cst_21 val_main_v127 val_main_v128 val_main_cst_22 val_main_v129 val_main_v130
  val_main_v131 val_main_v132 val_main_v133 val_main_v134 val_main_cst_23 val_main_v135 val_main_v136
  val_main_cst_24 val_main_v137 val_main_v138 val_main_v139 val_main_v140 val_main_v141 val_main_v142
  val_main_v143 val_main_v144 val_main_v145 val_main_v146 val_main_v147 val_main_v148 val_main_v149
  val_main_cst_25 val_main_v150 val_main_v151 val_main_cst_26 val_main_v152 val_main_v153 val_main_v154
  val_main_v155 val_main_v156 val_main_v157 val_main_call1_cst val_main_call1_v0 val_main_v158 val_main_cst_27
  val_main_v159 val_main_v160 val_main_v161 val_main_v162 val_main_v163 val_main_v164 val_main_v165
  val_main_v166 val_main_v167 val_main_cst_28 val_main_v168 val_main_v169 val_main_v170 val_main_v171
  val_main_v172 val_main_cst_29 val_main_v173 val_main_v174 val_main_cst_30 val_main_v175 val_main_v176
  val_main_v177 val_main_v178 val_main_v179 val_main_v180 val_main_v181 val_main_v182 val_main_v183
  val_main_cst_31 val_main_v184 val_main_v185 val_main_v186 val_main_v187 val_main_v188 val_main_cst_32
  val_main_v189 val_main_v190 val_main_cst_33 val_main_v191 val_main_v192 val_main_v193 val_main_v194
  val_main_v195 val_main_v196 val_main_v197 val_main_v198 val_main_v199 val_main_v200 val_main_v201
  val_main_v202 val_main_v203

theorem c0_v113 (i : S128x16x16x64.Idx) : idx_main_v113 i 0 = i 0 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) / 16384 = (i 0).val
  omega)

theorem c1_v113 (i : S128x16x16x64.Idx) : idx_main_v113 i 1 = i 1 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) / 1024 % 16 = (i 1).val
  omega)

theorem c2_v113 (i : S128x16x16x64.Idx) : idx_main_v113 i 2 = i 2 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) / 64 % 16 = (i 2).val
  omega)

theorem c3_v113 (i : S128x16x16x64.Idx) : idx_main_v113 i 3 = i 3 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) % 64 = (i 3).val
  omega)

theorem e_v113 (A : Args) (i : S128x16x16x64.Idx) :
    val_main_v113 (F := Ideal) (up A.a7) i = (((A.head (i 1) (i 2)).ct (i 0) (i 3) : ℝ) : EReal) := by
  rw [val_main_v113_apply, show up A.a7 _ = _ from rfl_x7 A _, c0_v113, c1_v113, c2_v113, c3_v113]

theorem c0_v114 (i : S128x16x16x64.Idx) : idx_main_v114 i 0 = i 0 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) / 16384 = (i 0).val
  omega)

theorem c1_v114 (i : S128x16x16x64.Idx) : idx_main_v114 i 1 = i 1 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) / 1024 % 16 = (i 1).val
  omega)

theorem c2_v114 (i : S128x16x16x64.Idx) : idx_main_v114 i 2 = i 2 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) / 64 % 16 = (i 2).val
  omega)

theorem c3_v114 (i : S128x16x16x64.Idx) : idx_main_v114 i 3 = i 3 := Fin.ext (by
  have h0 : (i 0).val < 128 := (i 0).isLt; have h1 : (i 1).val < 16 := (i 1).isLt; have h2 : (i 2).val < 16 := (i 2).isLt; have h3 : (i 3).val < 64 := (i 3).isLt
  show ((((i 0).val * 16 + (i 1).val) * 16 + (i 2).val) * 64 + (i 3).val) % 64 = (i 3).val
  omega)

theorem e_v114 (A : Args) (i : S128x16x16x64.Idx) :
    val_main_v114 (F := Ideal) (up A.a7) i = (((A.head (i 1) (i 2)).ct (i 0) (i 3) : ℝ) : EReal) := by
  rw [val_main_v114_apply, show up A.a7 _ = _ from rfl_x7 A _, c0_v114, c1_v114, c2_v114, c3_v114]

theorem e_v115 (A : Args) (i : S128x16x16x64.Idx) :
    val_main_v115 (F := Ideal) (up A.a0) (up A.a1) (up A.a2) (up A.a5) (up A.a6) i = (((((A.head (i 1) (i 2)).e2 (i 0)) / ((A.head (i 1) (i 2)).tot (i 0))) : ℝ) : EReal) := by
  rw [val_main_v115_apply]; exact e_v109 A _

theorem e_v116 (A : Args) (i : S128x16x16x64.Idx) :
    val_main_v116 (F := Ideal) (up A.a0) (up A.a1) (up A.a2) (up A.a5) (up A.a6) (up A.a7) i = (((A.head (i 1) (i 2)).refA (i 0) (i 3) : ℝ) : EReal) := by
  rw [val_main_v116_apply]; exact mulF (e_v115 A _) (e_v114 A _)

theorem e_v117 (A : Args) (i : S128x16x16x64.Idx) :
    val_main_v117 (F := Ideal) (up A.a0) (up A.a1) (up A.a2) (up A.a7) i = (((((A.head (i 1) (i 2)).ct (i 0) (i 3)) * ((A.head (i 1) (i 2)).o2 (i 0) (i 3))) : ℝ) : EReal) := by
  rw [val_main_v117_apply]; exact mulF (e_v114 A _) (e_v83 A _)

theorem e_cst_19 (A : Args) (i : S_.Idx) :
    val_main_cst_19 (F := Ideal) i = ((0 : ℝ) : EReal) := by
  rw [val_main_cst_19_apply]; exact c_zero

theorem e_v118 (A : Args) (i : S128x16x16.Idx) :
    val_main_v118 (F := Ideal) (up A.a0) (up A.a1) (up A.a2) (up A.a7) i = (((A.head (i 1) (i 2)).c2 (i 0) : ℝ) : EReal) := by
  rw [val_main_v118_apply]; exact sumR (e_cst_19 A _) (fun k => e_v117 A _)

theorem c0_v119 (i : S128x16x16x1.Idx) : idx_main_v119 i 0 = i 0 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 256 = (i 0).val
  omega)

theorem c1_v119 (i : S128x16x16x1.Idx) : idx_main_v119 i 1 = i 1 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 16 % 16 = (i 1).val
  omega)

theorem c2_v119 (i : S128x16x16x1.Idx) : idx_main_v119 i 2 = i 2 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) % 16 = (i 2).val
  omega)

theorem e_v119 (A : Args) (i : S128x16x16x1.Idx) :
    val_main_v119 (F := Ideal) (up A.a0) (up A.a1) (up A.a2) (up A.a7) i = (((A.head (i 1) (i 2)).c2 (i 0) : ℝ) : EReal) := by
  rw [val_main_v119_apply, e_v118 A, c0_v119, c1_v119, c2_v119]

theorem e_cst_20 (A : Args) (i : S_.Idx) :
    val_main_cst_20 (F := Ideal) i = ((0 : ℝ) : EReal) := by
  rw [val_main_cst_20_apply]; exact c_zero

theorem e_v120 (A : Args) (i : S128x16x16.Idx) :
    val_main_v120 (F := Ideal) (up A.a0) (up A.a1) (up A.a2) (up A.a7) i = (((A.head (i 1) (i 2)).c2 (i 0) : ℝ) : EReal) := by
  rw [val_main_v120_apply]; exact sum1R (e_cst_20 A _) (e_v119 A _)

theorem e_v121 (A : Args) (i : S128x16x16.Idx) :
    val_main_v121 (F := Ideal) (up A.a0) (up A.a1) (up A.a2) (up A.a5) (up A.a6) (up A.a7) i = (((((A.head (i 1) (i 2)).c2 (i 0)) * (((1) / ((((A.head (i 1) (i 2)).tot (i 0)) * ((A.head (i 1) (i 2)).tot (i 0))))))) : ℝ) : EReal) := by
  rw [val_main_v121_apply]; exact mulF (e_v120 A _) (e_v108 A _)

theorem e_v122 (A : Args) (i : S128x16x16.Idx) :
    val_main_v122 (F := Ideal) (up A.a0) (up A.a1) (up A.a2) (up A.a5) (up A.a6) (up A.a7) i = (((((((A.head (i 1) (i 2)).c2 (i 0)) * (((1) / ((((A.head (i 1) (i 2)).tot (i 0)) * ((A.head (i 1) (i 2)).tot (i 0)))))))) * ((A.head (i 1) (i 2)).e2 (i 0))) : ℝ) : EReal) := by
  rw [val_main_v122_apply]; exact mulF (e_v121 A _) (e_v87 A _)

theorem e_v123 (A : Args) (i : S128x16x16.Idx) :
    val_main_v123 (F := Ideal) (up A.a0) (up A.a1) (up A.a2) (up A.a5) (up A.a6) (up A.a7) i = (((-((((((A.head (i 1) (i 2)).c2 (i 0)) * (((1) / ((((A.head (i 1) (i 2)).tot (i 0)) * ((A.head (i 1) (i 2)).tot (i 0)))))))) * ((A.head (i 1) (i 2)).e2 (i 0))))) : ℝ) : EReal) := by
  rw [val_main_v123_apply]; exact negF (e_v122 A _)

theorem e_v124 (A : Args) (i : S128x16x16.Idx) :
    val_main_v124 (F := Ideal) (up A.a0) (up A.a1) (up A.a2) (up A.a5) (up A.a6) (up A.a7) i = (((((A.head (i 1) (i 2)).c2 (i 0)) / ((A.head (i 1) (i 2)).tot (i 0))) : ℝ) : EReal) := by
  rw [val_main_v124_apply]; exact divF (e_v120 A _) (e_v89 A _) (Head.tot_pos _ _).ne'

theorem e_v125 (A : Args) (i : S128x16x16.Idx) :
    val_main_v125 (F := Ideal) (up A.a0) (up A.a1) (up A.a2) (up A.a5) (up A.a6) (up A.a7) i = (((((-((((((A.head (i 1) (i 2)).c2 (i 0)) * (((1) / ((((A.head (i 1) (i 2)).tot (i 0)) * ((A.head (i 1) (i 2)).tot (i 0)))))))) * ((A.head (i 1) (i 2)).e2 (i 0)))))) + ((((A.head (i 1) (i 2)).c2 (i 0)) / ((A.head (i 1) (i 2)).tot (i 0))))) : ℝ) : EReal) := by
  rw [val_main_v125_apply]; exact addF (e_v123 A _) (e_v124 A _)

theorem e_v126 (A : Args) (i : S128x16x16x64.Idx) :
    val_main_v126 (F := Ideal) (up A.a4) (up A.a7) i = (((((A.head (i 1) (i 2)).ct (i 0) (i 3)) * ((A.head (i 1) (i 2)).o1 (i 0) (i 3))) : ℝ) : EReal) := by
  rw [val_main_v126_apply]; exact mulF (e_v113 A _) (rfl_x4 A _)

theorem e_cst_21 (A : Args) (i : S_.Idx) :
    val_main_cst_21 (F := Ideal) i = ((0 : ℝ) : EReal) := by
  rw [val_main_cst_21_apply]; exact c_zero

theorem e_v127 (A : Args) (i : S128x16x16.Idx) :
    val_main_v127 (F := Ideal) (up A.a4) (up A.a7) i = (((A.head (i 1) (i 2)).c1 (i 0) : ℝ) : EReal) := by
  rw [val_main_v127_apply]; exact sumR (e_cst_21 A _) (fun k => e_v126 A _)

theorem c0_v128 (i : S128x16x16x1.Idx) : idx_main_v128 i 0 = i 0 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 256 = (i 0).val
  omega)

theorem c1_v128 (i : S128x16x16x1.Idx) : idx_main_v128 i 1 = i 1 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 16 % 16 = (i 1).val
  omega)

theorem c2_v128 (i : S128x16x16x1.Idx) : idx_main_v128 i 2 = i 2 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) % 16 = (i 2).val
  omega)

theorem e_v128 (A : Args) (i : S128x16x16x1.Idx) :
    val_main_v128 (F := Ideal) (up A.a4) (up A.a7) i = (((A.head (i 1) (i 2)).c1 (i 0) : ℝ) : EReal) := by
  rw [val_main_v128_apply, e_v127 A, c0_v128, c1_v128, c2_v128]

theorem e_cst_22 (A : Args) (i : S_.Idx) :
    val_main_cst_22 (F := Ideal) i = ((0 : ℝ) : EReal) := by
  rw [val_main_cst_22_apply]; exact c_zero

theorem e_v129 (A : Args) (i : S128x16x16.Idx) :
    val_main_v129 (F := Ideal) (up A.a4) (up A.a7) i = (((A.head (i 1) (i 2)).c1 (i 0) : ℝ) : EReal) := by
  rw [val_main_v129_apply]; exact sum1R (e_cst_22 A _) (e_v128 A _)

theorem e_v130 (A : Args) (i : S128x16x16.Idx) :
    val_main_v130 (F := Ideal) (up A.a0) (up A.a1) (up A.a2) (up A.a4) (up A.a5) (up A.a6) (up A.a7) i = (((((A.head (i 1) (i 2)).c1 (i 0)) * (((1) / ((((A.head (i 1) (i 2)).tot (i 0)) * ((A.head (i 1) (i 2)).tot (i 0))))))) : ℝ) : EReal) := by
  rw [val_main_v130_apply]; exact mulF (e_v129 A _) (e_v100 A _)

theorem e_v131 (A : Args) (i : S128x16x16.Idx) :
    val_main_v131 (F := Ideal) (up A.a0) (up A.a1) (up A.a2) (up A.a4) (up A.a5) (up A.a6) (up A.a7) i = (((((((A.head (i 1) (i 2)).c1 (i 0)) * (((1) / ((((A.head (i 1) (i 2)).tot (i 0)) * ((A.head (i 1) (i 2)).tot (i 0)))))))) * ((A.head (i 1) (i 2)).e1 (i 0))) : ℝ) : EReal) := by
  rw [val_main_v131_apply]; exact mulF (e_v130 A _) (e_v86 A _)

theorem e_v132 (A : Args) (i : S128x16x16.Idx) :
    val_main_v132 (F := Ideal) (up A.a0) (up A.a1) (up A.a2) (up A.a4) (up A.a5) (up A.a6) (up A.a7) i = (((-((((((A.head (i 1) (i 2)).c1 (i 0)) * (((1) / ((((A.head (i 1) (i 2)).tot (i 0)) * ((A.head (i 1) (i 2)).tot (i 0)))))))) * ((A.head (i 1) (i 2)).e1 (i 0))))) : ℝ) : EReal) := by
  rw [val_main_v132_apply]; exact negF (e_v131 A _)

theorem e_v133 (A : Args) (i : S128x16x16.Idx) :
    val_main_v133 (F := Ideal) (up A.a0) (up A.a1) (up A.a2) (up A.a4) (up A.a5) (up A.a6) (up A.a7) i = (((((((-((((((A.head (i 1) (i 2)).c2 (i 0)) * (((1) / ((((A.head (i 1) (i 2)).tot (i 0)) * ((A.head (i 1) (i 2)).tot (i 0)))))))) * ((A.head (i 1) (i 2)).e2 (i 0)))))) + ((((A.head (i 1) (i 2)).c2 (i 0)) / ((A.head (i 1) (i 2)).tot (i 0)))))) + ((-((((((A.head (i 1) (i 2)).c1 (i 0)) * (((1) / ((((A.head (i 1) (i 2)).tot (i 0)) * ((A.head (i 1) (i 2)).tot (i 0)))))))) * ((A.head (i 1) (i 2)).e1 (i 0))))))) : ℝ) : EReal) := by
  rw [val_main_v133_apply]; exact addF (e_v125 A _) (e_v132 A _)

theorem e_v134 (A : Args) (i : S128x16x16x64.Idx) :
    val_main_v134 (F := Ideal) (up A.a3) (up A.a7) i = (((((A.head (i 1) (i 2)).ct (i 0) (i 3)) * ((A.head (i 1) (i 2)).o0 (i 0) (i 3))) : ℝ) : EReal) := by
  rw [val_main_v134_apply]; exact mulF (e_v113 A _) (rfl_x3 A _)

theorem e_cst_23 (A : Args) (i : S_.Idx) :
    val_main_cst_23 (F := Ideal) i = ((0 : ℝ) : EReal) := by
  rw [val_main_cst_23_apply]; exact c_zero

theorem e_v135 (A : Args) (i : S128x16x16.Idx) :
    val_main_v135 (F := Ideal) (up A.a3) (up A.a7) i = (((A.head (i 1) (i 2)).c0 (i 0) : ℝ) : EReal) := by
  rw [val_main_v135_apply]; exact sumR (e_cst_23 A _) (fun k => e_v134 A _)

theorem c0_v136 (i : S128x16x16x1.Idx) : idx_main_v136 i 0 = i 0 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 256 = (i 0).val
  omega)

theorem c1_v136 (i : S128x16x16x1.Idx) : idx_main_v136 i 1 = i 1 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 16 % 16 = (i 1).val
  omega)

theorem c2_v136 (i : S128x16x16x1.Idx) : idx_main_v136 i 2 = i 2 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) % 16 = (i 2).val
  omega)

theorem e_v136 (A : Args) (i : S128x16x16x1.Idx) :
    val_main_v136 (F := Ideal) (up A.a3) (up A.a7) i = (((A.head (i 1) (i 2)).c0 (i 0) : ℝ) : EReal) := by
  rw [val_main_v136_apply, e_v135 A, c0_v136, c1_v136, c2_v136]

theorem e_cst_24 (A : Args) (i : S_.Idx) :
    val_main_cst_24 (F := Ideal) i = ((0 : ℝ) : EReal) := by
  rw [val_main_cst_24_apply]; exact c_zero

theorem e_v137 (A : Args) (i : S128x16x16.Idx) :
    val_main_v137 (F := Ideal) (up A.a3) (up A.a7) i = (((A.head (i 1) (i 2)).c0 (i 0) : ℝ) : EReal) := by
  rw [val_main_v137_apply]; exact sum1R (e_cst_24 A _) (e_v136 A _)

theorem e_v138 (A : Args) (i : S128x16x16.Idx) :
    val_main_v138 (F := Ideal) (up A.a0) (up A.a1) (up A.a2) (up A.a3) (up A.a5) (up A.a6) (up A.a7) i = (((((A.head (i 1) (i 2)).c0 (i 0)) * (((1) / ((((A.head (i 1) (i 2)).tot (i 0)) * ((A.head (i 1) (i 2)).tot (i 0))))))) : ℝ) : EReal) := by
  rw [val_main_v138_apply]; exact mulF (e_v137 A _) (e_v93 A _)

theorem e_v139 (A : Args) (i : S128x16x16.Idx) :
    val_main_v139 (F := Ideal) (up A.a0) (up A.a1) (up A.a2) (up A.a3) (up A.a5) (up A.a6) (up A.a7) i = (((((((A.head (i 1) (i 2)).c0 (i 0)) * (((1) / ((((A.head (i 1) (i 2)).tot (i 0)) * ((A.head (i 1) (i 2)).tot (i 0)))))))) * ((A.head (i 1) (i 2)).e0 (i 0))) : ℝ) : EReal) := by
  rw [val_main_v139_apply]; exact mulF (e_v138 A _) (e_v85 A _)

theorem e_v140 (A : Args) (i : S128x16x16.Idx) :
    val_main_v140 (F := Ideal) (up A.a0) (up A.a1) (up A.a2) (up A.a3) (up A.a5) (up A.a6) (up A.a7) i = (((-((((((A.head (i 1) (i 2)).c0 (i 0)) * (((1) / ((((A.head (i 1) (i 2)).tot (i 0)) * ((A.head (i 1) (i 2)).tot (i 0)))))))) * ((A.head (i 1) (i 2)).e0 (i 0))))) : ℝ) : EReal) := by
  rw [val_main_v140_apply]; exact negF (e_v139 A _)

theorem e_v141 (A : Args) (i : S128x16x16.Idx) :
    val_main_v141 (F := Ideal) (up A.a0) (up A.a1) (up A.a2) (up A.a3) (up A.a4) (up A.a5) (up A.a6) (up A.a7) i = (((((((((-((((((A.head (i 1) (i 2)).c2 (i 0)) * (((1) / ((((A.head (i 1) (i 2)).tot (i 0)) * ((A.head (i 1) (i 2)).tot (i 0)))))))) * ((A.head (i 1) (i 2)).e2 (i 0)))))) + ((((A.head (i 1) (i 2)).c2 (i 0)) / ((A.head (i 1) (i 2)).tot (i 0)))))) + ((-((((((A.head (i 1) (i 2)).c1 (i 0)) * (((1) / ((((A.head (i 1) (i 2)).tot (i 0)) * ((A.head (i 1) (i 2)).tot (i 0)))))))) * ((A.head (i 1) (i 2)).e1 (i 0)))))))) + ((-((((((A.head (i 1) (i 2)).c0 (i 0)) * (((1) / ((((A.head (i 1) (i 2)).tot (i 0)) * ((A.head (i 1) (i 2)).tot (i 0)))))))) * ((A.head (i 1) (i 2)).e0 (i 0))))))) : ℝ) : EReal) := by
  rw [val_main_v141_apply]; exact addF (e_v133 A _) (e_v140 A _)

theorem e_v142 (A : Args) (i : S128x16x16.Idx) :
    val_main_v142 (F := Ideal) (up A.a0) (up A.a1) (up A.a2) (up A.a3) (up A.a4) (up A.a5) (up A.a6) (up A.a7) i = (((A.head (i 1) (i 2)).refU (i 0) : ℝ) : EReal) := by
  rw [val_main_v142_apply]; exact mulF (e_v141 A _) (e_v87 A _)

theorem e_v143 (A : Args) (i : S16x16x128.Idx) :
    val_main_v143 (F := Ideal) (up A.a0) (up A.a1) (up A.a2) (up A.a3) (up A.a4) (up A.a5) (up A.a6) (up A.a7) i = (((A.head (i 0) (i 1)).refU (i 2) : ℝ) : EReal) := by
  rw [val_main_v143_apply]; exact e_v142 A _

theorem e_v144 (A : Args) (i : S16x16x64x128.Idx) :
    val_main_v144 (F := Ideal) (up A.a0) (up A.a1) (up A.a2) (up A.a5) (up A.a6) (up A.a7) i = (((A.head (i 0) (i 1)).refA (i 3) (i 2) : ℝ) : EReal) := by
  rw [val_main_v144_apply]; exact e_v116 A _

theorem e_v145 (A : Args) (i : S16x16x128x128.Idx) :
    val_main_v145 (F := Ideal) (up A.a0) (up A.a1) (up A.a2) (up A.a5) (up A.a6) (up A.a7) i = (((∑ k : Fin 64, ((A.head (i 0) (i 1)).refA (i 2) (k)) * ((A.head (i 0) (i 1)).xv (i 3) (k))) : ℝ) : EReal) := by
  rw [val_main_v145_apply]; exact dotR (fun k => e_v144 A _) (fun k => e_v5 A _)

theorem e_v146 (A : Args) (i : S16x16x64x128.Idx) :
    val_main_v146 (F := Ideal) (up A.a0) (up A.a1) (up A.a2) (up A.a5) (up A.a6) (up A.a7) i = (((A.head (i 0) (i 1)).refV (i 3) (i 2) : ℝ) : EReal) := by
  rw [val_main_v146_apply]; exact dotR (fun k => e_v144 A _) (fun k => e_v81 A _)

theorem e_v147 (A : Args) (i : S128x16x16x64.Idx) :
    val_main_v147 (F := Ideal) (up A.a0) (up A.a1) (up A.a2) (up A.a5) (up A.a6) (up A.a7) i = (((A.head (i 1) (i 2)).refV (i 0) (i 3) : ℝ) : EReal) := by
  rw [val_main_v147_apply]; exact e_v146 A _

theorem e_v148 (A : Args) (i : S16x16x128x128.Idx) :
    val_main_v148 (F := Ideal) (up A.a0) (up A.a1) (up A.a2) (up A.a5) (up A.a6) (up A.a7) i = (((A.head (i 0) (i 1)).refW (i 2) (i 3) : ℝ) : EReal) := by
  rw [val_main_v148_apply]; exact mulF (e_v145 A _) (e_v81 A _)

theorem e_v149 (A : Args) (i : S16x16x128x128.Idx) :
    val_main_v149 (F := Ideal) (up A.a0) (up A.a1) (up A.a2) (up A.a5) (up A.a6) (up A.a7) i = (((-((A.head (i 0) (i 1)).refW (i 2) (i 3))) : ℝ) : EReal) := by
  rw [val_main_v149_apply]; exact negF (e_v148 A _)

theorem e_cst_25 (A : Args) (i : S_.Idx) :
    val_main_cst_25 (F := Ideal) i = ((0 : ℝ) : EReal) := by
  rw [val_main_cst_25_apply]; exact c_zero

theorem e_v150 (A : Args) (i : S16x16x128.Idx) :
    val_main_v150 (F := Ideal) (up A.a0) (up A.a1) (up A.a2) (up A.a5) (up A.a6) (up A.a7) i = (((∑ k : Fin 128, (-((A.head (i 0) (i 1)).refW (i 2) (k)))) : ℝ) : EReal) := by
  rw [val_main_v150_apply]; exact sumR (e_cst_25 A _) (fun k => e_v149 A _)

theorem c0_v151 (i : S16x16x128x1.Idx) : idx_main_v151 i 0 = i 0 := Fin.ext (by
  have h0 : (i 0).val < 16 := (i 0).isLt; have h1 : (i 1).val < 16 := (i 1).isLt; have h2 : (i 2).val < 128 := (i 2).isLt; have h3 : (i 3).val < 1 := (i 3).isLt
  show ((((i 0).val * 16 + (i 1).val) * 128 + (i 2).val) * 1 + (i 3).val) / 2048 = (i 0).val
  omega)

theorem c1_v151 (i : S16x16x128x1.Idx) : idx_main_v151 i 1 = i 1 := Fin.ext (by
  have h0 : (i 0).val < 16 := (i 0).isLt; have h1 : (i 1).val < 16 := (i 1).isLt; have h2 : (i 2).val < 128 := (i 2).isLt; have h3 : (i 3).val < 1 := (i 3).isLt
  show ((((i 0).val * 16 + (i 1).val) * 128 + (i 2).val) * 1 + (i 3).val) / 128 % 16 = (i 1).val
  omega)

theorem c2_v151 (i : S16x16x128x1.Idx) : idx_main_v151 i 2 = i 2 := Fin.ext (by
  have h0 : (i 0).val < 16 := (i 0).isLt; have h1 : (i 1).val < 16 := (i 1).isLt; have h2 : (i 2).val < 128 := (i 2).isLt; have h3 : (i 3).val < 1 := (i 3).isLt
  show ((((i 0).val * 16 + (i 1).val) * 128 + (i 2).val) * 1 + (i 3).val) % 128 = (i 2).val
  omega)

theorem e_v151 (A : Args) (i : S16x16x128x1.Idx) :
    val_main_v151 (F := Ideal) (up A.a0) (up A.a1) (up A.a2) (up A.a5) (up A.a6) (up A.a7) i = (((∑ k : Fin 128, (-((A.head (i 0) (i 1)).refW (i 2) (k)))) : ℝ) : EReal) := by
  rw [val_main_v151_apply, e_v150 A, c0_v151, c1_v151, c2_v151]

theorem e_cst_26 (A : Args) (i : S_.Idx) :
    val_main_cst_26 (F := Ideal) i = ((0 : ℝ) : EReal) := by
  rw [val_main_cst_26_apply]; exact c_zero

theorem e_v152 (A : Args) (i : S16x16x128.Idx) :
    val_main_v152 (F := Ideal) (up A.a0) (up A.a1) (up A.a2) (up A.a5) (up A.a6) (up A.a7) i = (((∑ k : Fin 128, (-((A.head (i 0) (i 1)).refW (i 2) (k)))) : ℝ) : EReal) := by
  rw [val_main_v152_apply]; exact sum1R (e_cst_26 A _) (e_v151 A _)

theorem e_v153 (A : Args) (i : S16x16x128.Idx) :
    val_main_v153 (F := Ideal) (up A.a0) (up A.a1) (up A.a2) (up A.a3) (up A.a4) (up A.a5) (up A.a6) (up A.a7) i = (((((A.head (i 0) (i 1)).refU (i 2)) + ((∑ k : Fin 128, (-((A.head (i 0) (i 1)).refW (i 2) (k)))))) : ℝ) : EReal) := by
  rw [val_main_v153_apply]; exact addF (e_v143 A _) (e_v152 A _)

theorem e_v154 (A : Args) (i : S16x16x128.Idx) :
    val_main_v154 (F := Ideal) (up A.a0) (up A.a1) (up A.a2) (up A.a3) (up A.a4) (up A.a5) (up A.a6) (up A.a7) i = (((((((A.head (i 0) (i 1)).refU (i 2)) + ((∑ k : Fin 128, (-((A.head (i 0) (i 1)).refW (i 2) (k))))))) / ((A.head (i 0) (i 1)).sm (i 2))) : ℝ) : EReal) := by
  rw [val_main_v154_apply]; exact divF (e_v153 A _) (e_v76 A _) (Head.sm_pos _ _).ne'

theorem e_v155 (A : Args) (i : S16x16x128x128.Idx) :
    val_main_v155 (F := Ideal) (up A.a0) (up A.a1) (up A.a2) (up A.a3) (up A.a4) (up A.a5) (up A.a6) (up A.a7) i = (((((((A.head (i 0) (i 1)).refU (i 2)) + ((∑ k : Fin 128, (-((A.head (i 0) (i 1)).refW (i 2) (k))))))) / ((A.head (i 0) (i 1)).sm (i 2))) : ℝ) : EReal) := by
  rw [val_main_v155_apply]; exact e_v154 A _

theorem e_v156 (A : Args) (i : S16x16x128x128.Idx) :
    val_main_v156 (F := Ideal) (up A.a0) (up A.a1) (up A.a2) (up A.a3) (up A.a4) (up A.a5) (up A.a6) (up A.a7) i = (((((((((A.head (i 0) (i 1)).refU (i 2)) + ((∑ k : Fin 128, (-((A.head (i 0) (i 1)).refW (i 2) (k))))))) / ((A.head (i 0) (i 1)).sm (i 2)))) * ((A.head (i 0) (i 1)).ex (i 2) (i 3))) : ℝ) : EReal) := by
  rw [val_main_v156_apply]; exact mulF (e_v155 A _) (e_v75 A _)

theorem e_v157 (A : Args) (i : S16x16x128x128.Idx) :
    val_main_v157 (F := Ideal) (up A.a0) (up A.a1) (up A.a2) (up A.a3) (up A.a4) (up A.a5) (up A.a6) (up A.a7) i = (((((A.head (i 0) (i 1)).refW (i 2) (i 3)) + ((((((((A.head (i 0) (i 1)).refU (i 2)) + ((∑ k : Fin 128, (-((A.head (i 0) (i 1)).refW (i 2) (k))))))) / ((A.head (i 0) (i 1)).sm (i 2)))) * ((A.head (i 0) (i 1)).ex (i 2) (i 3))))) : ℝ) : EReal) := by
  rw [val_main_v157_apply]; exact addF (e_v148 A _) (e_v156 A _)

theorem e_call1 (A : Args) (i : S16x16x128x128.Idx) :
    val_main_call1_v0 (F := Ideal) i = ((0 : ℝ) : EReal) := by
  rw [val_main_call1_v0_apply, val_main_call1_cst_apply, c_zero]

/-- A choice by a comparison's bit. -/
theorem selIte {P : Prop} [Decidable P] (a b : ℝ) :
    Scalar.select (if P then 1#1 else 0#1) (a : EReal) (b : EReal) = ((if P then a else b : ℝ) : EReal) := by
  split <;> rfl

theorem e_v158 (A : Args) (i : S16x16x128x128.Idx) :
    val_main_v158 (F := Ideal) (up A.a0) (up A.a1) (up A.a2) (up A.a3) (up A.a4) (up A.a5) (up A.a6) (up A.a7) i
      = (((A.head (i 0) (i 1)).refDS (i 2) (i 3) : ℝ) : EReal) := by
  rw [val_main_v158_apply, val_main_v74_1_apply, e_v52, e_v157 A, e_call1 A]
  exact selIte _ _

theorem e_cst_27 (A : Args) (i : S_.Idx) :
    val_main_cst_27 (F := Ideal) i = ((1 / 8 : ℝ) : EReal) := by
  rw [val_main_cst_27_apply]; exact c_eighth

theorem e_v159 (A : Args) (i : S16x16x128x128.Idx) :
    val_main_v159 (F := Ideal) i = ((1 / 8 : ℝ) : EReal) := by
  rw [val_main_v159_apply]; exact e_cst_27 A _

theorem e_v160 (A : Args) (i : S16x16x128x128.Idx) :
    val_main_v160 (F := Ideal) (up A.a0) (up A.a1) (up A.a2) (up A.a3) (up A.a4) (up A.a5) (up A.a6) (up A.a7) i = (((((A.head (i 0) (i 1)).refDS (i 2) (i 3)) * (1 / 8)) : ℝ) : EReal) := by
  rw [val_main_v160_apply]; exact mulF (e_v158 A _) (e_v159 A _)

theorem e_v161 (A : Args) (i : S16x16x128x64.Idx) :
    val_main_v161 (F := Ideal) (up A.a0) (up A.a1) (up A.a2) (up A.a3) (up A.a4) (up A.a5) (up A.a6) (up A.a7) i = (((A.head (i 0) (i 1)).refNK (i 2) (i 3) : ℝ) : EReal) := by
  rw [val_main_v161_apply]; exact dotR (fun k => e_v160 A _) (fun k => e_v21 A _)

theorem e_v162 (A : Args) (i : S128x16x16x64.Idx) :
    val_main_v162 (F := Ideal) (up A.a0) (up A.a1) (up A.a2) (up A.a3) (up A.a4) (up A.a5) (up A.a6) (up A.a7) i = (((A.head (i 1) (i 2)).refNK (i 0) (i 3) : ℝ) : EReal) := by
  rw [val_main_v162_apply]; exact e_v161 A _

theorem e_v163 (A : Args) (i : S16x16x128x64.Idx) :
    val_main_v163 (F := Ideal) (up A.a0) (up A.a1) (up A.a2) (up A.a3) (up A.a4) (up A.a5) (up A.a6) (up A.a7) i = (((A.head (i 0) (i 1)).refNQ (i 2) (i 3) : ℝ) : EReal) := by
  rw [val_main_v163_apply]; exact dotR (fun k => e_v160 A _) (fun k => e_v37 A _)

theorem e_v164 (A : Args) (i : S128x16x16x64.Idx) :
    val_main_v164 (F := Ideal) (up A.a0) (up A.a1) (up A.a2) (up A.a3) (up A.a4) (up A.a5) (up A.a6) (up A.a7) i = (((A.head (i 1) (i 2)).refNQ (i 0) (i 3) : ℝ) : EReal) := by
  rw [val_main_v164_apply]; exact e_v163 A _

end Cert.Attn

end
-- ==== Proof.Attn.RefBackNorm.lean ====
/- The reference program at real arguments, one operation at a time: the derivative of the two norms. -/
module

public import proofs.«01_k».proof.Proof.Attn.RefBack

@[expose] public section

set_option maxRecDepth 16384

noncomputable section

namespace Cert.Attn

open Cert.ReferenceIdeal Cert.ReferenceIdeal.Gen Cert.ReferenceIdeal.Read Idealize.ShloMosaic

-- the operations are read by their lemmas alone
attribute [local irreducible] val_main_v0 val_main_v1 val_main_v2 val_main_v3 val_main_v4 val_main_v5 val_main_v6 val_main_cst val_main_v7
  val_main_v8 val_main_cst_0 val_main_v9 val_main_v10 val_main_cst_1 val_main_v11 val_main_v12 val_main_v13
  val_main_v14 val_main_cst_2 val_main_v15 val_main_v16 val_main_v17 val_main_v18 val_main_v19 val_main_v20
  val_main_v21 val_main_v22 val_main_cst_3 val_main_v23 val_main_v24 val_main_cst_4 val_main_v25 val_main_v26
  val_main_cst_5 val_main_v27 val_main_v28 val_main_v29 val_main_v30 val_main_cst_6 val_main_v31 val_main_v32
  val_main_v33 val_main_v34 val_main_v35 val_main_v36 val_main_v37 val_main_v38 val_main_cst_7 val_main_v39
  val_main_v40 val_main_v41 val_main_v42 val_main_v43 val_main_v44 val_main_v45 val_main_v46 val_main_v47
  val_main_c val_main_v48 val_main_v49 val_main_c_8 val_main_v50 val_main_v51 val_main_v52 val_main_c_9
  val_main_v53 val_main_v54 val_main_v55 val_main_v56 val_main_cst_10 val_main_v57 val_main_v58 val_main_cst_11
  val_main_v59 val_main_v60 val_main_cst_12 val_main_v61 val_main_v62 val_main_cst_13 val_main_v63 val_main_v64
  val_main_v65 val_main_v66 val_main_v67 val_main_v68 val_main_v69 val_main_v70 val_main_v71 val_main_v72
  val_main_v73 val_main_cst_14 val_main_call0_v0 val_main_v74_1 val_main_call0_v2 val_main_v74_0
  val_main_call0_cst val_main_v74_2 val_main_v75 val_main_cst_15 val_main_v76 val_main_v77 val_main_v78
  val_main_v79 val_main_v80 val_main_v81 val_main_v82 val_main_v83 val_main_v84 val_main_v85 val_main_v86
  val_main_v87 val_main_v88 val_main_v89 val_main_v90 val_main_v91 val_main_cst_16 val_main_v92 val_main_v93
  val_main_v94 val_main_v95 val_main_v96 val_main_v97 val_main_v98 val_main_cst_17 val_main_v99 val_main_v100
  val_main_v101 val_main_v102 val_main_v103 val_main_v104 val_main_v105 val_main_v106 val_main_cst_18
  val_main_v107 val_main_v108 val_main_v109 val_main_v110 val_main_v111 val_main_v112 val_main_v113
  val_main_v114 val_main_v115 val_main_v116 val_main_v117 val_main_cst_19 val_main_v118 val_main_v119
  val_main_cst_20 val_main_v120 val_main_v121 val_main_v122 val_main_v123 val_main_v124 val_main_v125
  val_main_v126 val_main_cst_21 val_main_v127 val_main_v128 val_main_cst_22 val_main_v129 val_main_v130
  val_main_v131 val_main_v132 val_main_v133 val_main_v134 val_main_cst_23 val_main_v135 val_main_v136
  val_main_cst_24 val_main_v137 val_main_v138 val_main_v139 val_main_v140 val_main_v141 val_main_v142
  val_main_v143 val_main_v144 val_main_v145 val_main_v146 val_main_v147 val_main_v148 val_main_v149
  val_main_cst_25 val_main_v150 val_main_v151 val_main_cst_26 val_main_v152 val_main_v153 val_main_v154
  val_main_v155 val_main_v156 val_main_v157 val_main_call1_cst val_main_call1_v0 val_main_v158 val_main_cst_27
  val_main_v159 val_main_v160 val_main_v161 val_main_v162 val_main_v163 val_main_v164 val_main_v165
  val_main_v166 val_main_v167 val_main_cst_28 val_main_v168 val_main_v169 val_main_v170 val_main_v171
  val_main_v172 val_main_cst_29 val_main_v173 val_main_v174 val_main_cst_30 val_main_v175 val_main_v176
  val_main_v177 val_main_v178 val_main_v179 val_main_v180 val_main_v181 val_main_v182 val_main_v183
  val_main_cst_31 val_main_v184 val_main_v185 val_main_v186 val_main_v187 val_main_v188 val_main_cst_32
  val_main_v189 val_main_v190 val_main_cst_33 val_main_v191 val_main_v192 val_main_v193 val_main_v194
  val_main_v195 val_main_v196 val_main_v197 val_main_v198 val_main_v199 val_main_v200 val_main_v201
  val_main_v202 val_main_v203

theorem e_v165 (A : Args) (i : S128x16x16x64.Idx) :
    val_main_v165 (F := Ideal) (up A.a2) i = (((A.head 0 0).gk (i 3) : ℝ) : EReal) := by
  rw [val_main_v165_apply]; exact e_v35 A _

theorem e_v166 (A : Args) (i : S128x16x16x64.Idx) :
    val_main_v166 (F := Ideal) (up A.a0) (up A.a1) (up A.a2) (up A.a3) (up A.a4) (up A.a5) (up A.a6) (up A.a7) i = (((((A.head (i 1) (i 2)).refNK (i 0) (i 3)) * ((A.head 0 0).gk (i 3))) : ℝ) : EReal) := by
  rw [val_main_v166_apply]; exact mulF (e_v162 A _) (e_v165 A _)

theorem e_v167 (A : Args) (i : S128x16x16x64.Idx) :
    val_main_v167 (F := Ideal) (up A.a0) (up A.a1) (up A.a2) (up A.a3) (up A.a4) (up A.a5) (up A.a6) (up A.a7) i = (((((A.head (i 1) (i 2)).xk (i 0) (i 3)) * ((((A.head (i 1) (i 2)).refNK (i 0) (i 3)) * ((A.head 0 0).gk (i 3))))) : ℝ) : EReal) := by
  rw [val_main_v167_apply]; exact mulF (e_v3 A _) (e_v166 A _)

theorem e_cst_28 (A : Args) (i : S_.Idx) :
    val_main_cst_28 (F := Ideal) i = ((0 : ℝ) : EReal) := by
  rw [val_main_cst_28_apply]; exact c_zero

theorem e_v168 (A : Args) (i : S128x16x16.Idx) :
    val_main_v168 (F := Ideal) (up A.a0) (up A.a1) (up A.a2) (up A.a3) (up A.a4) (up A.a5) (up A.a6) (up A.a7) i = (((∑ k : Fin 64, (((A.head (i 1) (i 2)).xk (i 0) (k)) * ((((A.head (i 1) (i 2)).refNK (i 0) (k)) * ((A.head 0 0).gk (k)))))) : ℝ) : EReal) := by
  rw [val_main_v168_apply]; exact sumR (e_cst_28 A _) (fun k => e_v167 A _)

theorem c0_v169 (i : S128x16x16x1.Idx) : idx_main_v169 i 0 = i 0 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 256 = (i 0).val
  omega)

theorem c1_v169 (i : S128x16x16x1.Idx) : idx_main_v169 i 1 = i 1 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 16 % 16 = (i 1).val
  omega)

theorem c2_v169 (i : S128x16x16x1.Idx) : idx_main_v169 i 2 = i 2 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) % 16 = (i 2).val
  omega)

theorem e_v169 (A : Args) (i : S128x16x16x1.Idx) :
    val_main_v169 (F := Ideal) (up A.a0) (up A.a1) (up A.a2) (up A.a3) (up A.a4) (up A.a5) (up A.a6) (up A.a7) i = (((∑ k : Fin 64, (((A.head (i 1) (i 2)).xk (i 0) (k)) * ((((A.head (i 1) (i 2)).refNK (i 0) (k)) * ((A.head 0 0).gk (k)))))) : ℝ) : EReal) := by
  rw [val_main_v169_apply, e_v168 A, c0_v169, c1_v169, c2_v169]

theorem e_v170 (A : Args) (i : S128x16x16x64.Idx) :
    val_main_v170 (F := Ideal) (up A.a0) i = ((rs (A.head (i 1) (i 2)).eps (A.head (i 1) (i 2)).xk (i 0) : ℝ) : EReal) := by
  rw [val_main_v170_apply]; exact e_v29 A _

theorem e_v171 (A : Args) (i : S128x16x16x64.Idx) :
    val_main_v171 (F := Ideal) (up A.a0) (up A.a1) (up A.a2) (up A.a3) (up A.a4) (up A.a5) (up A.a6) (up A.a7) i = (((((((A.head (i 1) (i 2)).refNK (i 0) (i 3)) * ((A.head 0 0).gk (i 3)))) * (rs (A.head (i 1) (i 2)).eps (A.head (i 1) (i 2)).xk (i 0))) : ℝ) : EReal) := by
  rw [val_main_v171_apply]; exact mulF (e_v166 A _) (e_v170 A _)

theorem e_v172 (A : Args) (i : S128x16x16x1.Idx) :
    val_main_v172 (F := Ideal) (up A.a0) (up A.a1) (up A.a2) (up A.a3) (up A.a4) (up A.a5) (up A.a6) (up A.a7) i = (((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0))))))) : ℝ) : EReal) := by
  rw [val_main_v172_apply]; exact mulF (e_v169 A _) (e_v32 A _)

theorem e_cst_29 (A : Args) (i : S_.Idx) :
    val_main_cst_29 (F := Ideal) i = ((64 : ℝ) : EReal) := by
  rw [val_main_cst_29_apply]; exact c_64

theorem e_v173 (A : Args) (i : S128x16x16x1.Idx) :
    val_main_v173 (F := Ideal) i = ((64 : ℝ) : EReal) := by
  rw [val_main_v173_apply]; exact e_cst_29 A _

theorem e_v174 (A : Args) (i : S128x16x16x1.Idx) :
    val_main_v174 (F := Ideal) (up A.a0) (up A.a1) (up A.a2) (up A.a3) (up A.a4) (up A.a5) (up A.a6) (up A.a7) i = (((((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0)))))))) / (64)) : ℝ) : EReal) := by
  rw [val_main_v174_apply]; exact divF (e_v172 A _) (e_v173 A _) (by norm_num)

theorem e_cst_30 (A : Args) (i : S_.Idx) :
    val_main_cst_30 (F := Ideal) i = ((0 : ℝ) : EReal) := by
  rw [val_main_cst_30_apply]; exact c_zero

theorem e_v175 (A : Args) (i : S128x16x16.Idx) :
    val_main_v175 (F := Ideal) (up A.a0) (up A.a1) (up A.a2) (up A.a3) (up A.a4) (up A.a5) (up A.a6) (up A.a7) i = (((((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0)))))))) / (64)) : ℝ) : EReal) := by
  rw [val_main_v175_apply]; exact sum1R (e_cst_30 A _) (e_v174 A _)

theorem e_v176 (A : Args) (i : S128x16x16x64.Idx) :
    val_main_v176 (F := Ideal) (up A.a0) (up A.a1) (up A.a2) (up A.a3) (up A.a4) (up A.a5) (up A.a6) (up A.a7) i = (((((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0)))))))) / (64)) : ℝ) : EReal) := by
  rw [val_main_v176_apply]; exact e_v175 A _

theorem e_v177 (A : Args) (i : S128x16x16x64.Idx) :
    val_main_v177 (F := Ideal) (up A.a0) (up A.a1) (up A.a2) (up A.a3) (up A.a4) (up A.a5) (up A.a6) (up A.a7) i = (((((A.head (i 1) (i 2)).xk (i 0) (i 3)) * ((((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0)))))))) / (64)))) : ℝ) : EReal) := by
  rw [val_main_v177_apply]; exact mulF (e_v3 A _) (e_v176 A _)

theorem e_v178 (A : Args) (i : S128x16x16x64.Idx) :
    val_main_v178 (F := Ideal) (up A.a0) (up A.a1) (up A.a2) (up A.a3) (up A.a4) (up A.a5) (up A.a6) (up A.a7) i = (((((((((A.head (i 1) (i 2)).refNK (i 0) (i 3)) * ((A.head 0 0).gk (i 3)))) * (rs (A.head (i 1) (i 2)).eps (A.head (i 1) (i 2)).xk (i 0)))) + ((((A.head (i 1) (i 2)).xk (i 0) (i 3)) * ((((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0)))))))) / (64)))))) : ℝ) : EReal) := by
  rw [val_main_v178_apply]; exact addF (e_v171 A _) (e_v177 A _)

theorem e_v179 (A : Args) (i : S128x16x16x64.Idx) :
    val_main_v179 (F := Ideal) (up A.a0) (up A.a1) (up A.a2) (up A.a3) (up A.a4) (up A.a5) (up A.a6) (up A.a7) i = (((((((((∑ k : Fin 64, (((A.head (i 1) (i 2)).xk (i 0) (k)) * ((((A.head (i 1) (i 2)).refNK (i 0) (k)) * ((A.head 0 0).gk (k))))))) * (((-(1 / 2)) * (((rs (A.head (i 1) (i 2)).eps (A.head (i 1) (i 2)).xk (i 0)) / (meanSq (A.head (i 1) (i 2)).eps (A.head (i 1) (i 2)).xk (i 0)))))))) / (64))) * ((A.head (i 1) (i 2)).xk (i 0) (i 3))) : ℝ) : EReal) := by
  rw [val_main_v179_apply]; exact mulF (e_v176 A _) (e_v3 A _)

theorem e_v180 (A : Args) (i : S128x16x16x64.Idx) :
    val_main_v180 (F := Ideal) (up A.a0) (up A.a1) (up A.a2) (up A.a3) (up A.a4) (up A.a5) (up A.a6) (up A.a7) i = (((A.head (i 1) (i 2)).refK (i 0) (i 3) : ℝ) : EReal) := by
  rw [val_main_v180_apply]; exact addF (e_v178 A _) (e_v179 A _)

theorem e_v181 (A : Args) (i : S128x16x16x64.Idx) :
    val_main_v181 (F := Ideal) (up A.a1) i = (((A.head 0 0).gq (i 3) : ℝ) : EReal) := by
  rw [val_main_v181_apply]; exact e_v19 A _

theorem e_v182 (A : Args) (i : S128x16x16x64.Idx) :
    val_main_v182 (F := Ideal) (up A.a0) (up A.a1) (up A.a2) (up A.a3) (up A.a4) (up A.a5) (up A.a6) (up A.a7) i = (((((A.head (i 1) (i 2)).refNQ (i 0) (i 3)) * ((A.head 0 0).gq (i 3))) : ℝ) : EReal) := by
  rw [val_main_v182_apply]; exact mulF (e_v164 A _) (e_v181 A _)

theorem e_v183 (A : Args) (i : S128x16x16x64.Idx) :
    val_main_v183 (F := Ideal) (up A.a0) (up A.a1) (up A.a2) (up A.a3) (up A.a4) (up A.a5) (up A.a6) (up A.a7) i = (((((A.head (i 1) (i 2)).xq (i 0) (i 3)) * ((((A.head (i 1) (i 2)).refNQ (i 0) (i 3)) * ((A.head 0 0).gq (i 3))))) : ℝ) : EReal) := by
  rw [val_main_v183_apply]; exact mulF (e_v1 A _) (e_v182 A _)

theorem e_cst_31 (A : Args) (i : S_.Idx) :
    val_main_cst_31 (F := Ideal) i = ((0 : ℝ) : EReal) := by
  rw [val_main_cst_31_apply]; exact c_zero

theorem e_v184 (A : Args) (i : S128x16x16.Idx) :
    val_main_v184 (F := Ideal) (up A.a0) (up A.a1) (up A.a2) (up A.a3) (up A.a4) (up A.a5) (up A.a6) (up A.a7) i = (((∑ k : Fin 64, (((A.head (i 1) (i 2)).xq (i 0) (k)) * ((((A.head (i 1) (i 2)).refNQ (i 0) (k)) * ((A.head 0 0).gq (k)))))) : ℝ) : EReal) := by
  rw [val_main_v184_apply]; exact sumR (e_cst_31 A _) (fun k => e_v183 A _)

theorem c0_v185 (i : S128x16x16x1.Idx) : idx_main_v185 i 0 = i 0 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 256 = (i 0).val
  omega)

theorem c1_v185 (i : S128x16x16x1.Idx) : idx_main_v185 i 1 = i 1 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) / 16 % 16 = (i 1).val
  omega)

theorem c2_v185 (i : S128x16x16x1.Idx) : idx_main_v185 i 2 = i 2 := Fin.ext (by
  have h0 : (i 0).val < 128 := (i 0).isLt; have h1 : (i 1).val < 16 := (i 1).isLt; have h2 : (i 2).val < 16 := (i 2).isLt; have h3 : (i 3).val < 1 := (i 3).isLt
  show ((((i 0).val * 16 + (i 1).val) * 16 + (i 2).val) * 1 + (i 3).val) % 16 = (i 2).val
  omega)

theorem e_v185 (A : Args) (i : S128x16x16x1.Idx) :
    val_main_v185 (F := Ideal) (up A.a0) (up A.a1) (up A.a2) (up A.a3) (up A.a4) (up A.a5) (up A.a6) (up A.a7) i = (((∑ k : Fin 64, (((A.head (i 1) (i 2)).xq (i 0) (k)) * ((((A.head (i 1) (i 2)).refNQ (i 0) (k)) * ((A.head 0 0).gq (k)))))) : ℝ) : EReal) := by
  rw [val_main_v185_apply, e_v184 A, c0_v185, c1_v185, c2_v185]

theorem e_v186 (A : Args) (i : S128x16x16x64.Idx) :
    val_main_v186 (F := Ideal) (up A.a0) i = ((rs (A.head (i 1) (i 2)).eps (A.head (i 1) (i 2)).xq (i 0) : ℝ) : EReal) := by
  rw [val_main_v186_apply]; exact e_v13 A _

theorem e_v187 (A : Args) (i : S128x16x16x64.Idx) :
    val_main_v187 (F := Ideal) (up A.a0) (up A.a1) (up A.a2) (up A.a3) (up A.a4) (up A.a5) (up A.a6) (up A.a7) i = (((((((A.head (i 1) (i 2)).refNQ (i 0) (i 3)) * ((A.head 0 0).gq (i 3)))) * (rs (A.head (i 1) (i 2)).eps (A.head (i 1) (i 2)).xq (i 0))) : ℝ) : EReal) := by
  rw [val_main_v187_apply]; exact mulF (e_v182 A _) (e_v186 A _)

theorem e_v188 (A : Args) (i : S128x16x16x1.Idx) :
    val_main_v188 (F := Ideal) (up A.a0) (up A.a1) (up A.a2) (up A.a3) (up A.a4) (up A.a5) (up A.a6) (up A.a7) i = (((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0))))))) : ℝ) : EReal) := by
  rw [val_main_v188_apply]; exact mulF (e_v185 A _) (e_v16 A _)

theorem e_cst_32 (A : Args) (i : S_.Idx) :
    val_main_cst_32 (F := Ideal) i = ((64 : ℝ) : EReal) := by
  rw [val_main_cst_32_apply]; exact c_64

theorem e_v189 (A : Args) (i : S128x16x16x1.Idx) :
    val_main_v189 (F := Ideal) i = ((64 : ℝ) : EReal) := by
  rw [val_main_v189_apply]; exact e_cst_32 A _

theorem e_v190 (A : Args) (i : S128x16x16x1.Idx) :
    val_main_v190 (F := Ideal) (up A.a0) (up A.a1) (up A.a2) (up A.a3) (up A.a4) (up A.a5) (up A.a6) (up A.a7) i = (((((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0)))))))) / (64)) : ℝ) : EReal) := by
  rw [val_main_v190_apply]; exact divF (e_v188 A _) (e_v189 A _) (by norm_num)

theorem e_cst_33 (A : Args) (i : S_.Idx) :
    val_main_cst_33 (F := Ideal) i = ((0 : ℝ) : EReal) := by
  rw [val_main_cst_33_apply]; exact c_zero

theorem e_v191 (A : Args) (i : S128x16x16.Idx) :
    val_main_v191 (F := Ideal) (up A.a0) (up A.a1) (up A.a2) (up A.a3) (up A.a4) (up A.a5) (up A.a6) (up A.a7) i = (((((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0)))))))) / (64)) : ℝ) : EReal) := by
  rw [val_main_v191_apply]; exact sum1R (e_cst_33 A _) (e_v190 A _)

theorem e_v192 (A : Args) (i : S128x16x16x64.Idx) :
    val_main_v192 (F := Ideal) (up A.a0) (up A.a1) (up A.a2) (up A.a3) (up A.a4) (up A.a5) (up A.a6) (up A.a7) i = (((((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0)))))))) / (64)) : ℝ) : EReal) := by
  rw [val_main_v192_apply]; exact e_v191 A _

theorem e_v193 (A : Args) (i : S128x16x16x64.Idx) :
    val_main_v193 (F := Ideal) (up A.a0) (up A.a1) (up A.a2) (up A.a3) (up A.a4) (up A.a5) (up A.a6) (up A.a7) i = (((((A.head (i 1) (i 2)).xq (i 0) (i 3)) * ((((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0)))))))) / (64)))) : ℝ) : EReal) := by
  rw [val_main_v193_apply]; exact mulF (e_v1 A _) (e_v192 A _)

theorem e_v194 (A : Args) (i : S128x16x16x64.Idx) :
    val_main_v194 (F := Ideal) (up A.a0) (up A.a1) (up A.a2) (up A.a3) (up A.a4) (up A.a5) (up A.a6) (up A.a7) i = (((((((((A.head (i 1) (i 2)).refNQ (i 0) (i 3)) * ((A.head 0 0).gq (i 3)))) * (rs (A.head (i 1) (i 2)).eps (A.head (i 1) (i 2)).xq (i 0)))) + ((((A.head (i 1) (i 2)).xq (i 0) (i 3)) * ((((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0)))))))) / (64)))))) : ℝ) : EReal) := by
  rw [val_main_v194_apply]; exact addF (e_v187 A _) (e_v193 A _)

theorem e_v195 (A : Args) (i : S128x16x16x64.Idx) :
    val_main_v195 (F := Ideal) (up A.a0) (up A.a1) (up A.a2) (up A.a3) (up A.a4) (up A.a5) (up A.a6) (up A.a7) i = (((((((((∑ k : Fin 64, (((A.head (i 1) (i 2)).xq (i 0) (k)) * ((((A.head (i 1) (i 2)).refNQ (i 0) (k)) * ((A.head 0 0).gq (k))))))) * (((-(1 / 2)) * (((rs (A.head (i 1) (i 2)).eps (A.head (i 1) (i 2)).xq (i 0)) / (meanSq (A.head (i 1) (i 2)).eps (A.head (i 1) (i 2)).xq (i 0)))))))) / (64))) * ((A.head (i 1) (i 2)).xq (i 0) (i 3))) : ℝ) : EReal) := by
  rw [val_main_v195_apply]; exact mulF (e_v192 A _) (e_v1 A _)

theorem e_v196 (A : Args) (i : S128x16x16x64.Idx) :
    val_main_v196 (F := Ideal) (up A.a0) (up A.a1) (up A.a2) (up A.a3) (up A.a4) (up A.a5) (up A.a6) (up A.a7) i = (((A.head (i 1) (i 2)).refQ (i 0) (i 3) : ℝ) : EReal) := by
  rw [val_main_v196_apply]; exact addF (e_v194 A _) (e_v195 A _)

end Cert.Attn

end
-- ==== Proof.Attn.RefOut.lean ====
/- The reference program's result at real arguments. -/
module

public import proofs.«01_k».proof.Proof.Attn.RefBackNorm
public import proofs.«01_k».proof.Proof.Attn.KerBlock
public import proofs.«01_k».proof.Proof.Attn.HostRead

@[expose] public section

set_option maxRecDepth 16384

noncomputable section

namespace Cert.Attn.Host

open Cert.ReferenceIdeal Cert.ReferenceIdeal.Gen Cert.ReferenceIdeal.Read Idealize.ShloMosaic

/-- The stack of three gradients along a new axis. -/
def stack3 (x y z : (⟨S128x16x1x16x64, .f32⟩ : BufTy).Contents (Elt Ideal)) : (⟨S128x16x3x16x64, .f32⟩ : BufTy).Contents (Elt Ideal) :=
  concatenate S128x16x3x16x64 2 [⟨S128x16x1x16x64, x⟩, ⟨S128x16x1x16x64, y⟩, ⟨S128x16x1x16x64, z⟩]
    concatenates_S128x16x1x16x64_S128x16x1x16x64_S128x16x1x16x64_S128x16x3x16x64_d2

theorem stack3_0 (x y z) (l : Fin 128) (r h : Fin 16) (d : Fin 64) : stack3 x y z (ix5 l r 0 h d) = x (ix5 l r 0 h d) := by
  unfold stack3
  pointwise
theorem stack3_1 (x y z) (l : Fin 128) (r h : Fin 16) (d : Fin 64) : stack3 x y z (ix5 l r 1 h d) = y (ix5 l r 0 h d) := by
  unfold stack3
  pointwise
theorem stack3_2 (x y z) (l : Fin 128) (r h : Fin 16) (d : Fin 64) : stack3 x y z (ix5 l r 2 h d) = z (ix5 l r 0 h d) := by
  unfold stack3
  pointwise

/-- The place in the stack of an element of the result. -/
theorem out_idx (l : Fin 128) (r h : Fin 16) (d : Fin 64) (w : Fin 3) :
    idx_main_v201 (idx_main_v202 (ix2 (row r l) (col3 w (col h d)))) = ix5 l r w h d := by
  have e : ∀ n : ℕ, n = 128 * r.val + l.val → ∀ k : ℕ, k = 1024 * w.val + (64 * h.val + d.val) →
      (n * 3072 + k) / 393216 = r.val ∧ (n * 3072 + k) / 3072 % 128 = l.val ∧ (n * 3072 + k) / 1024 % 3 = w.val
        ∧ (n * 3072 + k) / 64 % 16 = h.val ∧ (n * 3072 + k) % 64 = d.val := by
    intro n hn k hk
    subst hn hk
    refine ⟨?_, ?_, ?_, ?_, ?_⟩ <;> omega
  obtain ⟨e0, e1, e2, e3, e4⟩ := e _ rfl _ rfl
  funext a
  apply Fin.ext
  fin_cases a
  · exact e1
  · exact e0
  · exact e2
  · exact e3
  · exact e4

theorem resultAt_Q (H : Fin 16 → Head) (l : Fin 128) (h : Fin 16) (d : Fin 64) :
    resultAt H l (col3 0 (col h d)) = (H h).kerQ l d := by
  have hc : (⟨(col3 0 (col h d)).val, by show 1024 * 0 + (col h d).val < 1024; omega⟩ : Fin 1024) = col h d :=
    Fin.ext (by show 1024 * 0 + (col h d).val = (col h d).val; omega)
  unfold resultAt
  rw [dif_pos (by show 1024 * 0 + (col h d).val < 1024; omega), hc, colH_col, colD_col]

theorem resultAt_K (H : Fin 16 → Head) (l : Fin 128) (h : Fin 16) (d : Fin 64) :
    resultAt H l (col3 1 (col h d)) = (H h).kerK l d := by
  have hc : (⟨(col3 1 (col h d)).val - 1024, by show 1024 * 1 + (col h d).val - 1024 < 1024; omega⟩ : Fin 1024) = col h d :=
    Fin.ext (by show 1024 * 1 + (col h d).val - 1024 = (col h d).val; omega)
  unfold resultAt
  rw [dif_neg (by show ¬ 1024 * 1 + (col h d).val < 1024; omega), dif_pos (by show 1024 * 1 + (col h d).val < 2048; omega),
    hc, colH_col, colD_col]

theorem resultAt_V (H : Fin 16 → Head) (l : Fin 128) (h : Fin 16) (d : Fin 64) :
    resultAt H l (col3 2 (col h d)) = (H h).kerV l d := by
  have hc : (⟨(col3 2 (col h d)).val - 2048, by show 1024 * 2 + (col h d).val - 2048 < 1024; omega⟩ : Fin 1024) = col h d :=
    Fin.ext (by show 1024 * 2 + (col h d).val - 2048 = (col h d).val; omega)
  unfold resultAt
  rw [dif_neg (by show ¬ 1024 * 2 + (col h d).val < 1024; omega), dif_neg (by show ¬ 1024 * 2 + (col h d).val < 2048; omega),
    hc, colH_col, colD_col]

attribute [local irreducible] val_main_v180 val_main_v147 val_main_v196 val_main_v197 val_main_v198 val_main_v199

/-- The reference's result at real arguments: at row `l` of residue class `r`, the element that `resultAt` names. -/
theorem ref_out (A : Args) (r : Fin 16) (l : Fin 128) (c : Fin 3072) :
    val_main_v203 (F := Ideal) (up A.a0) (up A.a1) (up A.a2) (up A.a3) (up A.a4) (up A.a5) (up A.a6) (up A.a7) (ix2 (row r l) c)
      = ((resultAt (fun h => A.head r h) l c : ℝ) : EReal) := by
  obtain ⟨w, k, rfl⟩ : ∃ w k, c = col3 w k := ⟨⟨c.val / 1024, by omega⟩, ⟨c.val % 1024, by omega⟩, Fin.ext (by
    show c.val = 1024 * (c.val / 1024) + c.val % 1024; omega)⟩
  obtain ⟨h, d, rfl⟩ : ∃ h d, k = col h d := ⟨_, _, (col_eq k).symm⟩
  have e : val_main_v203 (F := Ideal) (up A.a0) (up A.a1) (up A.a2) (up A.a3) (up A.a4) (up A.a5) (up A.a6) (up A.a7)
        (ix2 (row r l) (col3 w (col h d)))
      = stack3 (val_main_v197 (F := Ideal) (up A.a0) (up A.a1) (up A.a2) (up A.a3) (up A.a4) (up A.a5) (up A.a6) (up A.a7))
          (val_main_v198 (F := Ideal) (up A.a0) (up A.a1) (up A.a2) (up A.a3) (up A.a4) (up A.a5) (up A.a6) (up A.a7))
          (val_main_v199 (F := Ideal) (up A.a0) (up A.a1) (up A.a2) (up A.a5) (up A.a6) (up A.a7)) (ix5 l r w h d) := by
    rw [val_main_v203_apply]
    show val_main_v202 (F := Ideal) _ _ _ _ _ _ _ _ _ = _
    rw [val_main_v202_apply, val_main_v201_apply, out_idx]
    rfl
  rw [e]
  have he : 0 < (A.head r h).eps := epsR_pos
  obtain rfl | rfl | rfl : w = 0 ∨ w = 1 ∨ w = 2 := by
    rcases w with ⟨w, hw⟩
    have : w = 0 ∨ w = 1 ∨ w = 2 := by omega
    rcases this with rfl | rfl | rfl
    · exact Or.inl rfl
    · exact Or.inr (Or.inl rfl)
    · exact Or.inr (Or.inr rfl)
  · rw [stack3_0, val_main_v197_apply, e_v196, resultAt_Q, ← Head.refQ_eq _ he]; rfl
  · rw [stack3_1, val_main_v198_apply, e_v180, resultAt_K, ← Head.refK_eq _ he]; rfl
  · rw [stack3_2, val_main_v199_apply, e_v147, resultAt_V, ← Head.refV_eq]; rfl

end Cert.Attn.Host
end
-- ==== Proof.Attn.Pair.lean ====
/- The two runs with their results read: both leave the same array at real arguments. -/
module

public import proofs.«01_k».proof.Proof.Attn.KerOut
public import proofs.«01_k».proof.Proof.Attn.RefOut
public import proofs.«01_k».proof.Proof.Gen.ReferenceIdeal.Run
public import proofs.«01_k».proof.Proof.Gen.ReferenceIdeal.Read

@[expose] public section

set_option maxRecDepth 16384

noncomputable section

namespace Cert.Attn.Host

open Idealize.ShloMosaic Idealize.ShloMosaic.StableHlo Idealize.SL.Sem

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (g' : Dev Cert.ReferenceIdeal.nD → PrngReg)

/-- The two memories agree on the arguments. -/
def SameArgs : Prop := ∀ c : Dev Cert.KernelIdeal.nD,
  @Eq ((⟨Cert.KernelIdeal.S128x16x3x16x64, .f32⟩ : BufTy).Contents (Elt Ideal)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
  ∧ @Eq ((⟨Cert.KernelIdeal.S64, .f32⟩ : BufTy).Contents (Elt Ideal)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
  ∧ @Eq ((⟨Cert.KernelIdeal.S64, .f32⟩ : BufTy).Contents (Elt Ideal)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
  ∧ @Eq ((⟨Cert.KernelIdeal.S128x16x16x64, .f32⟩ : BufTy).Contents (Elt Ideal)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
  ∧ @Eq ((⟨Cert.KernelIdeal.S128x16x16x64, .f32⟩ : BufTy).Contents (Elt Ideal)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
  ∧ @Eq ((⟨Cert.KernelIdeal.S128x16x16, .f32⟩ : BufTy).Contents (Elt Ideal)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
  ∧ @Eq ((⟨Cert.KernelIdeal.S128x16x16, .f32⟩ : BufTy).Contents (Elt Ideal)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
  ∧ @Eq ((⟨Cert.KernelIdeal.S128x16x16x64, .f32⟩ : BufTy).Contents (Elt Ideal)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))

/-- The kernel's run at real arguments: its result is the array `outArr`, its arguments are kept. -/
theorem ker_run (A : Dev Cert.KernelIdeal.nD → Args) (hA : ∀ c, Real m c (A c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v172_0) = outArr (A c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c => ⟨(h c).1.trans (arr_eq m (hA c)), (h c).2.2.2⟩)
    (Cert.KernelIdeal.Value.run_blocks (F := Ideal) m g)

/-- The reference's result at real arguments is the array `outArr`. -/
theorem ref_arr (A : Args) :
    Cert.ReferenceIdeal.Read.val_main_v203 (F := Ideal) (up A.a0) (up A.a1) (up A.a2) (up A.a3) (up A.a4) (up A.a5) (up A.a6) (up A.a7)
      = outArr A := by
  funext y
  obtain ⟨n, k, rfl⟩ : ∃ n k, y = ix2 n k := ⟨y 0, y 1, eq_ix2 y⟩
  obtain ⟨r, l, rfl⟩ : ∃ r l, n = row r l := ⟨⟨n.val / 128, by omega⟩, ⟨n.val % 128, by omega⟩, Fin.ext (by
    show n.val = 128 * (n.val / 128) + n.val % 128; omega)⟩
  rw [ref_out, outArr_at]

/-- The reference's run at real arguments: its result is the array `outArr`, its arguments are kept. -/
theorem ref_run (A : Dev Cert.ReferenceIdeal.nD → Args)
    (h0 : ∀ c : Dev Cert.ReferenceIdeal.nD, @Eq ((⟨Cert.KernelIdeal.S128x16x3x16x64, .f32⟩ : BufTy).Contents (Elt Ideal)) (m' ((c.tc : Thread Cert.ReferenceIdeal.nD Cert.ReferenceIdeal.τ).loc Cert.ReferenceIdeal.main_arg0)) (up (A c).a0))
    (h1 : ∀ c : Dev Cert.ReferenceIdeal.nD, @Eq ((⟨Cert.KernelIdeal.S64, .f32⟩ : BufTy).Contents (Elt Ideal)) (m' ((c.tc : Thread Cert.ReferenceIdeal.nD Cert.ReferenceIdeal.τ).loc Cert.ReferenceIdeal.main_arg1)) (up (A c).a1))
    (h2 : ∀ c : Dev Cert.ReferenceIdeal.nD, @Eq ((⟨Cert.KernelIdeal.S64, .f32⟩ : BufTy).Contents (Elt Ideal)) (m' ((c.tc : Thread Cert.ReferenceIdeal.nD Cert.ReferenceIdeal.τ).loc Cert.ReferenceIdeal.main_arg2)) (up (A c).a2))
    (h3 : ∀ c : Dev Cert.ReferenceIdeal.nD, @Eq ((⟨Cert.KernelIdeal.S128x16x16x64, .f32⟩ : BufTy).Contents (Elt Ideal)) (m' ((c.tc : Thread Cert.ReferenceIdeal.nD Cert.ReferenceIdeal.τ).loc Cert.ReferenceIdeal.main_arg3)) (up (A c).a3))
    (h4 : ∀ c : Dev Cert.ReferenceIdeal.nD, @Eq ((⟨Cert.KernelIdeal.S128x16x16x64, .f32⟩ : BufTy).Contents (Elt Ideal)) (m' ((c.tc : Thread Cert.ReferenceIdeal.nD Cert.ReferenceIdeal.τ).loc Cert.ReferenceIdeal.main_arg4)) (up (A c).a4))
    (h5 : ∀ c : Dev Cert.ReferenceIdeal.nD, @Eq ((⟨Cert.KernelIdeal.S128x16x16, .f32⟩ : BufTy).Contents (Elt Ideal)) (m' ((c.tc : Thread Cert.ReferenceIdeal.nD Cert.ReferenceIdeal.τ).loc Cert.ReferenceIdeal.main_arg5)) (up (A c).a5))
    (h6 : ∀ c : Dev Cert.ReferenceIdeal.nD, @Eq ((⟨Cert.KernelIdeal.S128x16x16, .f32⟩ : BufTy).Contents (Elt Ideal)) (m' ((c.tc : Thread Cert.ReferenceIdeal.nD Cert.ReferenceIdeal.τ).loc Cert.ReferenceIdeal.main_arg6)) (up (A c).a6))
    (h7 : ∀ c : Dev Cert.ReferenceIdeal.nD, @Eq ((⟨Cert.KernelIdeal.S128x16x16x64, .f32⟩ : BufTy).Contents (Elt Ideal)) (m' ((c.tc : Thread Cert.ReferenceIdeal.nD Cert.ReferenceIdeal.τ).loc Cert.ReferenceIdeal.main_arg7)) (up (A c).a7)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v203) = outArr (A c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) := by
  refine (θ_run Cert.ReferenceIdeal.defs _ _).mono (fun _ h c => ⟨(h c).1.trans
    ((Cert.ReferenceIdeal.Read.val_main_v203_eq (launchContents m' c)).trans ?_), (h c).2⟩) (Cert.ReferenceIdeal.Value.run (F := Ideal) m' g')
  rw [← ref_arr]
  exact congr (congr (congr (congr (congr (congr (congr (congrArg _ (h0 c)) (h1 c)) (h2 c)) (h3 c)) (h4 c)) (h5 c)) (h6 c)) (h7 c)

/-- From memories that agree on real arguments both run and end with the same result array. -/
theorem same_result (hA : ∀ c, ∃ A, Real m c A) (hargs : SameArgs m m') :
    ∃ (v0 : (c : Dev Cert.KernelIdeal.nD) → Buf (Elt Ideal) ((c.tc : Thread Cert.KernelIdeal.nD Cert.KernelIdeal.τ).loc Cert.KernelIdeal.main_v172_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) := by
  choose A hA using hA
  exact ⟨fun c => outArr (A c), ker_run m g A hA, ref_run m' g' A
    (fun c => ((hargs c).1).trans (hA c).h0)
    (fun c => ((hargs c).2.1).trans (hA c).h1)
    (fun c => ((hargs c).2.2.1).trans (hA c).h2)
    (fun c => ((hargs c).2.2.2.1).trans (hA c).h3)
    (fun c => ((hargs c).2.2.2.2.1).trans (hA c).h4)
    (fun c => ((hargs c).2.2.2.2.2.1).trans (hA c).h5)
    (fun c => ((hargs c).2.2.2.2.2.2.1).trans (hA c).h6)
    (fun c => ((hargs c).2.2.2.2.2.2.2).trans (hA c).h7)⟩

end Cert.Attn.Host
end
-- ==== Proof.Prod.Spec.lean ====
/- The three products of a projection `h @ w`: the projection itself, its gradient in `h`, its gradient in `w`. Each acts on a
   range of columns of a wider array, from column `off`. -/
module

public import Idealize.ShloMosaic.Lib.Pointwise
public import Idealize.ShloMosaic.PureOps.Ideal.Laws

@[expose] public section

noncomputable section

namespace Cert.Prod

open Idealize.ShloMosaic

/-- `h @ w[:, off : off + N]`. -/
def project {M K N W : ℕ} {φ χ : FTy} (off : ℕ) (hw : off + N ≤ W) (h : FVec Ideal ⟨2, ![M, K]⟩ φ) (w : FVec Ideal ⟨2, ![K, W]⟩ φ) :
    FVec Ideal ⟨2, ![M, N]⟩ χ :=
  fun y => ∑ k : Fin K, h (ix2 (y 0) k) * w (ix2 k (⟨off + (y 1).val, lt_of_lt_of_le (Nat.add_lt_add_left (y 1).isLt off) hw⟩ : Fin W))

/-- The gradient in `h`: the cotangent against the columns of `w` from `off`. -/
def gradLeft {M N C W : ℕ} {φ χ : FTy} (off : ℕ) (hw : off + C ≤ W) (ct : FVec Ideal ⟨2, ![M, C]⟩ φ) (w : FVec Ideal ⟨2, ![N, W]⟩ φ) :
    FVec Ideal ⟨2, ![M, N]⟩ χ :=
  fun y => ∑ k : Fin C, ct (ix2 (y 0) k) * w (ix2 (y 1) (⟨off + k.val, lt_of_lt_of_le (Nat.add_lt_add_left k.isLt off) hw⟩ : Fin W))

/-- The gradient in `w`, in columns `off` to `off + N` of an array whose other columns are `dw`'s. -/
def gradRight {T K N W : ℕ} {φ : FTy} (off : ℕ) (h : FVec Ideal ⟨2, ![T, K]⟩ φ) (ct : FVec Ideal ⟨2, ![T, N]⟩ φ)
    (dw : FVec Ideal ⟨2, ![K, W]⟩ φ) : FVec Ideal ⟨2, ![K, W]⟩ φ :=
  fun y => if hy : off ≤ (y 1).val ∧ (y 1).val < off + N then
      ∑ k : Fin T, h (ix2 k (y 0)) * ct (ix2 k (⟨(y 1).val - off, Nat.sub_lt_left_of_lt_add hy.1 hy.2⟩ : Fin N))
    else dw y

theorem gradRight_in {T K N W : ℕ} {φ : FTy} (off : ℕ) (h : FVec Ideal ⟨2, ![T, K]⟩ φ) (ct : FVec Ideal ⟨2, ![T, N]⟩ φ)
    (dw : FVec Ideal ⟨2, ![K, W]⟩ φ) (i : Fin K) (j : Fin W) (q : Fin N) (hj : j.val = off + q.val) :
    gradRight off h ct dw (ix2 i j) = ∑ k : Fin T, h (ix2 k i) * ct (ix2 k q) := by
  have hc : off ≤ j.val ∧ j.val < off + N := ⟨by omega, by have := q.isLt; omega⟩
  have e : (⟨j.val - off, Nat.sub_lt_left_of_lt_add hc.1 hc.2⟩ : Fin N) = q := Fin.ext (by show j.val - off = q.val; omega)
  refine (dif_pos hc).trans ?_
  show ∑ k : Fin T, h (ix2 k i) * ct (ix2 k (⟨j.val - off, _⟩ : Fin N)) = _
  rw [e]

theorem gradRight_out {T K N W : ℕ} {φ : FTy} (off : ℕ) (h : FVec Ideal ⟨2, ![T, K]⟩ φ) (ct : FVec Ideal ⟨2, ![T, N]⟩ φ)
    (dw : FVec Ideal ⟨2, ![K, W]⟩ φ) (y : (⟨2, ![K, W]⟩ : Shape).Idx) (hy : ¬(off ≤ (y 1).val ∧ (y 1).val < off + N)) :
    gradRight off h ct dw y = dw y := dif_neg hy

/-- A sum of 3072 terms by its three parts of 1024. -/
theorem sum_parts (f : Fin 3072 → EReal) :
    ∑ k, f k = ∑ k : Fin 1024, f ⟨k.val, by omega⟩ + ∑ k : Fin 1024, f ⟨1024 + k.val, by omega⟩ + ∑ k : Fin 1024, f ⟨2048 + k.val, by omega⟩ := by
  refine (Fin.sum_univ_add (a := 2048) (b := 1024) f).trans (congrArg (· + _) ?_)
  exact Fin.sum_univ_add (a := 1024) (b := 1024) fun k : Fin (1024 + 1024) => f ⟨k.val, by omega⟩

end Cert.Prod

end
-- ==== Proof.Prod.Dx0.lean ====
/- `b_in_dx0`: the gradient in the activations of the projection to group 0's q, k and v. -/
module

public import proofs.«01_k».proof.Proof.Gen.Dx0Ideal.Value
public import proofs.«01_k».proof.Proof.Gen.Dx0RefIdeal.Run
public import proofs.«01_k».proof.Proof.Gen.Dx0RefIdeal.Read
public import proofs.«01_k».proof.Proof.Prod.Spec
public import Idealize.ShloMosaic.Lib.Pipeline.ValueKit

@[expose] public section

set_option maxRecDepth 16384

noncomputable section

namespace Cert.Prod.Dx0

open Cert.Dx0Ideal Cert.Dx0Ideal.Gen Idealize.ShloMosaic Idealize.ShloMosaic.StableHlo Idealize.ShloMosaic.TcCoe Idealize.SL.Sem

/-- The array the call gives. -/
abbrev G (ct : FVec Ideal S2048x3072 .bf16) (w : FVec Ideal S1024x10240 .bf16) : FVec Ideal S2048x1024 .bf16 :=
  gradLeft 0 (by decide) ct w

/-- One grid point's product. -/
theorem pay_apply (x : FVec Ideal S512x3072 .bf16) (w : FVec Ideal S1024x3072 .bf16) (r : Fin 512) (c : Fin 1024) :
    k0_pay1 (F := Ideal) x w (ix2 r c) = ∑ k : Fin 3072, x (ix2 r k) * w (ix2 c k) := by
  pointwise [k0_pay1]

variable (m : (ℓ : Loc nD τ sig) → Buf (Elt Ideal) ℓ)

/-- Which block each grid point moves. -/
theorem idx : ∀ t : Fin cfg0.N, win0_0.index t = ![t.val, 0] ∧ win0_1.index t = ![0, 0] ∧ win0_2.index t = ![t.val, 0] :=
  (by decide +kernel : ∀ t : Fin grid0.N, _)

/-- Row `i` of grid point `t`'s block. -/
abbrev row (t : Fin cfg0.N) (i : Fin 512) : Fin 2048 :=
  ⟨512 * t.val + i.val, by have := t.isLt; change t.val < 4 at this; omega⟩

theorem emb_out (t : Fin cfg0.N) (i : Fin 512) (k : Fin 1024) :
    ((cfg0.win 2).blk t).view.emb (ix2 i k) = (ix2 (row t i) k : S2048x1024.Idx) := by
  unfold row
  blk_ext [idx t]

theorem blk0 (c : Dev nD) (t : Fin cfg0.N) (i : Fin 512) (k : Fin 3072) :
    iblk m c 0 t (ix2 i k) = V m c main_arg0 (ix2 (row t i) k) := by
  unfold iblk row
  blk_ext [idx t]

theorem blk1 (c : Dev nD) (t : Fin cfg0.N) (i : Fin 1024) (k : Fin 3072) :
    X0_1 m c t (ix2 i k) = V m c main_arg1 (ix2 i (⟨0 + k.val, by omega⟩ : Fin 10240)) := by
  unfold X0_1 Pipeline.Window.fill
  rw [dif_pos (moved0_1 t _)]
  unfold iblk
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold outsAt0 out0_A_2
  frame_out
  refine (pay_apply _ _ i k).trans (Finset.sum_congr rfl fun q _ => ?_)
  rw [blk0, blk1, V_main_arg0, V_main_arg1]
  rfl

/-- The reference's array. -/
theorem ref_eq (ct : FVec Ideal S2048x3072 .bf16) (w : FVec Ideal S1024x10240 .bf16) : Cert.Dx0RefIdeal.Read.val_main_v6 (F := Ideal) ct w = G ct w := by
  funext y
  obtain ⟨a, b, rfl⟩ : ∃ a b, y = ix2 a b := ⟨y 0, y 1, eq_ix2 y⟩
  pointwise [Cert.Dx0RefIdeal.Read.val_main_v6, Cert.Dx0RefIdeal.Read.val_main_v5, Cert.Dx0RefIdeal.Read.val_main_v4, Cert.Dx0RefIdeal.Read.val_main_v2, Cert.Dx0RefIdeal.Read.val_main_v0, G, gradLeft]

/-- From equal arguments the kernel and the reference end with the same array, and with their arguments as they were. -/
theorem same (g : Dev nD → PrngReg) (m' : (ℓ : Loc Cert.Dx0RefIdeal.nD Cert.Dx0RefIdeal.τ Cert.Dx0RefIdeal.sig) → Buf (Elt Ideal) ℓ) (g' : Dev Cert.Dx0RefIdeal.nD → PrngReg)
    (hm : ∀ c : Dev nD, m' ((c.tc : Thread Cert.Dx0RefIdeal.nD Cert.Dx0RefIdeal.τ).loc Cert.Dx0RefIdeal.main_arg0) = m ((c.tc : Thread nD τ).loc main_arg0)
      ∧ m' ((c.tc : Thread Cert.Dx0RefIdeal.nD Cert.Dx0RefIdeal.τ).loc Cert.Dx0RefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.Dx0RefIdeal.defs (F := Ideal)) (onTc (τ := Cert.Dx0RefIdeal.τ) (Cert.Dx0RefIdeal.main (F := Ideal))) ⟨m', fun _ => 0, g'⟩ (fun r => ∀ c : Dev Cert.Dx0RefIdeal.nD,
          r.2.mem ((c.tc : Thread Cert.Dx0RefIdeal.nD Cert.Dx0RefIdeal.τ).loc Cert.Dx0RefIdeal.main_v6) = v0 c
          ∧ r.2.mem ((c.tc : Thread Cert.Dx0RefIdeal.nD Cert.Dx0RefIdeal.τ).loc Cert.Dx0RefIdeal.main_arg0) = m' ((c.tc : Thread Cert.Dx0RefIdeal.nD Cert.Dx0RefIdeal.τ).loc Cert.Dx0RefIdeal.main_arg0)
          ∧ r.2.mem ((c.tc : Thread Cert.Dx0RefIdeal.nD Cert.Dx0RefIdeal.τ).loc Cert.Dx0RefIdeal.main_arg1) = m' ((c.tc : Thread Cert.Dx0RefIdeal.nD Cert.Dx0RefIdeal.τ).loc Cert.Dx0RefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.Dx0RefIdeal.defs (F := Ideal)) _ _).mono (fun r h c => ⟨(h c).1.trans ?_, (h c).2⟩) (Cert.Dx0RefIdeal.Value.run (F := Ideal) m' g')
    obtain ⟨h0, h1⟩ := hm c
    rw [h0, h1]
    exact ref_eq _ _

end Cert.Prod.Dx0

end
-- ==== Proof.Prod.Dx1.lean ====
/- `b_in_dx1`: the gradient in the activations of the projection to group 1's q, k and v. -/
module

public import proofs.«01_k».proof.Proof.Gen.Dx1Ideal.Value
public import proofs.«01_k».proof.Proof.Gen.Dx1RefIdeal.Run
public import proofs.«01_k».proof.Proof.Gen.Dx1RefIdeal.Read
public import proofs.«01_k».proof.Proof.Prod.Spec
public import Idealize.ShloMosaic.Lib.Pipeline.ValueKit

@[expose] public section

set_option maxRecDepth 16384

noncomputable section

namespace Cert.Prod.Dx1

open Cert.Dx1Ideal Cert.Dx1Ideal.Gen Idealize.ShloMosaic Idealize.ShloMosaic.StableHlo Idealize.ShloMosaic.TcCoe Idealize.SL.Sem

/-- The array the call gives. -/
abbrev G (ct : FVec Ideal S2048x3072 .bf16) (w : FVec Ideal S1024x10240 .bf16) : FVec Ideal S2048x1024 .bf16 :=
  gradLeft 3072 (by decide) ct w

/-- One grid point's product. -/
theorem pay_apply (x : FVec Ideal S512x3072 .bf16) (w : FVec Ideal S1024x3072 .bf16) (r : Fin 512) (c : Fin 1024) :
    k0_pay1 (F := Ideal) x w (ix2 r c) = ∑ k : Fin 3072, x (ix2 r k) * w (ix2 c k) := by
  pointwise [k0_pay1]

variable (m : (ℓ : Loc nD τ sig) → Buf (Elt Ideal) ℓ)

/-- Which block each grid point moves. -/
theorem idx : ∀ t : Fin cfg0.N, win0_0.index t = ![t.val, 0] ∧ win0_1.index t = ![0, 1] ∧ win0_2.index t = ![t.val, 0] :=
  (by decide +kernel : ∀ t : Fin grid0.N, _)

/-- Row `i` of grid point `t`'s block. -/
abbrev row (t : Fin cfg0.N) (i : Fin 512) : Fin 2048 :=
  ⟨512 * t.val + i.val, by have := t.isLt; change t.val < 4 at this; omega⟩

theorem emb_out (t : Fin cfg0.N) (i : Fin 512) (k : Fin 1024) :
    ((cfg0.win 2).blk t).view.emb (ix2 i k) = (ix2 (row t i) k : S2048x1024.Idx) := by
  unfold row
  blk_ext [idx t]

theorem blk0 (c : Dev nD) (t : Fin cfg0.N) (i : Fin 512) (k : Fin 3072) :
    iblk m c 0 t (ix2 i k) = V m c main_arg0 (ix2 (row t i) k) := by
  unfold iblk row
  blk_ext [idx t]

theorem blk1 (c : Dev nD) (t : Fin cfg0.N) (i : Fin 1024) (k : Fin 3072) :
    X0_1 m c t (ix2 i k) = V m c main_arg1 (ix2 i (⟨3072 + k.val, by omega⟩ : Fin 10240)) := by
  unfold X0_1 Pipeline.Window.fill
  rw [dif_pos (moved0_1 t _)]
  unfold iblk
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold outsAt0 out0_A_2
  frame_out
  refine (pay_apply _ _ i k).trans (Finset.sum_congr rfl fun q _ => ?_)
  rw [blk0, blk1, V_main_arg0, V_main_arg1]
  rfl

/-- The reference's array. -/
theorem ref_eq (ct : FVec Ideal S2048x3072 .bf16) (w : FVec Ideal S1024x10240 .bf16) : Cert.Dx1RefIdeal.Read.val_main_v6 (F := Ideal) ct w = G ct w := by
  funext y
  obtain ⟨a, b, rfl⟩ : ∃ a b, y = ix2 a b := ⟨y 0, y 1, eq_ix2 y⟩
  pointwise [Cert.Dx1RefIdeal.Read.val_main_v6, Cert.Dx1RefIdeal.Read.val_main_v5, Cert.Dx1RefIdeal.Read.val_main_v4, Cert.Dx1RefIdeal.Read.val_main_v2, Cert.Dx1RefIdeal.Read.val_main_v0, G, gradLeft]

/-- From equal arguments the kernel and the reference end with the same array, and with their arguments as they were. -/
theorem same (g : Dev nD → PrngReg) (m' : (ℓ : Loc Cert.Dx1RefIdeal.nD Cert.Dx1RefIdeal.τ Cert.Dx1RefIdeal.sig) → Buf (Elt Ideal) ℓ) (g' : Dev Cert.Dx1RefIdeal.nD → PrngReg)
    (hm : ∀ c : Dev nD, m' ((c.tc : Thread Cert.Dx1RefIdeal.nD Cert.Dx1RefIdeal.τ).loc Cert.Dx1RefIdeal.main_arg0) = m ((c.tc : Thread nD τ).loc main_arg0)
      ∧ m' ((c.tc : Thread Cert.Dx1RefIdeal.nD Cert.Dx1RefIdeal.τ).loc Cert.Dx1RefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.Dx1RefIdeal.defs (F := Ideal)) (onTc (τ := Cert.Dx1RefIdeal.τ) (Cert.Dx1RefIdeal.main (F := Ideal))) ⟨m', fun _ => 0, g'⟩ (fun r => ∀ c : Dev Cert.Dx1RefIdeal.nD,
          r.2.mem ((c.tc : Thread Cert.Dx1RefIdeal.nD Cert.Dx1RefIdeal.τ).loc Cert.Dx1RefIdeal.main_v6) = v0 c
          ∧ r.2.mem ((c.tc : Thread Cert.Dx1RefIdeal.nD Cert.Dx1RefIdeal.τ).loc Cert.Dx1RefIdeal.main_arg0) = m' ((c.tc : Thread Cert.Dx1RefIdeal.nD Cert.Dx1RefIdeal.τ).loc Cert.Dx1RefIdeal.main_arg0)
          ∧ r.2.mem ((c.tc : Thread Cert.Dx1RefIdeal.nD Cert.Dx1RefIdeal.τ).loc Cert.Dx1RefIdeal.main_arg1) = m' ((c.tc : Thread Cert.Dx1RefIdeal.nD Cert.Dx1RefIdeal.τ).loc Cert.Dx1RefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.Dx1RefIdeal.defs (F := Ideal)) _ _).mono (fun r h c => ⟨(h c).1.trans ?_, (h c).2⟩) (Cert.Dx1RefIdeal.Value.run (F := Ideal) m' g')
    obtain ⟨h0, h1⟩ := hm c
    rw [h0, h1]
    exact ref_eq _ _

end Cert.Prod.Dx1

end
-- ==== Proof.Prod.Dx2.lean ====
/- `b_in_dx2`: the gradient in the activations of the projection to group 2's q, k and v. -/
module

public import proofs.«01_k».proof.Proof.Gen.Dx2Ideal.Value
public import proofs.«01_k».proof.Proof.Gen.Dx2RefIdeal.Run
public import proofs.«01_k».proof.Proof.Gen.Dx2RefIdeal.Read
public import proofs.«01_k».proof.Proof.Prod.Spec
public import Idealize.ShloMosaic.Lib.Pipeline.ValueKit

@[expose] public section

set_option maxRecDepth 16384

noncomputable section

namespace Cert.Prod.Dx2

open Cert.Dx2Ideal Cert.Dx2Ideal.Gen Idealize.ShloMosaic Idealize.ShloMosaic.StableHlo Idealize.ShloMosaic.TcCoe Idealize.SL.Sem

/-- The array the call gives. -/
abbrev G (ct : FVec Ideal S2048x3072 .bf16) (w : FVec Ideal S1024x10240 .bf16) : FVec Ideal S2048x1024 .bf16 :=
  gradLeft 6144 (by decide) ct w

/-- One grid point's product. -/
theorem pay_apply (x : FVec Ideal S512x3072 .bf16) (w : FVec Ideal S1024x3072 .bf16) (r : Fin 512) (c : Fin 1024) :
    k0_pay1 (F := Ideal) x w (ix2 r c) = ∑ k : Fin 3072, x (ix2 r k) * w (ix2 c k) := by
  pointwise [k0_pay1]

variable (m : (ℓ : Loc nD τ sig) → Buf (Elt Ideal) ℓ)

/-- Which block each grid point moves. -/
theorem idx : ∀ t : Fin cfg0.N, win0_0.index t = ![t.val, 0] ∧ win0_1.index t = ![0, 2] ∧ win0_2.index t = ![t.val, 0] :=
  (by decide +kernel : ∀ t : Fin grid0.N, _)

/-- Row `i` of grid point `t`'s block. -/
abbrev row (t : Fin cfg0.N) (i : Fin 512) : Fin 2048 :=
  ⟨512 * t.val + i.val, by have := t.isLt; change t.val < 4 at this; omega⟩

theorem emb_out (t : Fin cfg0.N) (i : Fin 512) (k : Fin 1024) :
    ((cfg0.win 2).blk t).view.emb (ix2 i k) = (ix2 (row t i) k : S2048x1024.Idx) := by
  unfold row
  blk_ext [idx t]

theorem blk0 (c : Dev nD) (t : Fin cfg0.N) (i : Fin 512) (k : Fin 3072) :
    iblk m c 0 t (ix2 i k) = V m c main_arg0 (ix2 (row t i) k) := by
  unfold iblk row
  blk_ext [idx t]

theorem blk1 (c : Dev nD) (t : Fin cfg0.N) (i : Fin 1024) (k : Fin 3072) :
    X0_1 m c t (ix2 i k) = V m c main_arg1 (ix2 i (⟨6144 + k.val, by omega⟩ : Fin 10240)) := by
  unfold X0_1 Pipeline.Window.fill
  rw [dif_pos (moved0_1 t _)]
  unfold iblk
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold outsAt0 out0_A_2
  frame_out
  refine (pay_apply _ _ i k).trans (Finset.sum_congr rfl fun q _ => ?_)
  rw [blk0, blk1, V_main_arg0, V_main_arg1]
  rfl

/-- The reference's array. -/
theorem ref_eq (ct : FVec Ideal S2048x3072 .bf16) (w : FVec Ideal S1024x10240 .bf16) : Cert.Dx2RefIdeal.Read.val_main_v6 (F := Ideal) ct w = G ct w := by
  funext y
  obtain ⟨a, b, rfl⟩ : ∃ a b, y = ix2 a b := ⟨y 0, y 1, eq_ix2 y⟩
  pointwise [Cert.Dx2RefIdeal.Read.val_main_v6, Cert.Dx2RefIdeal.Read.val_main_v5, Cert.Dx2RefIdeal.Read.val_main_v4, Cert.Dx2RefIdeal.Read.val_main_v2, Cert.Dx2RefIdeal.Read.val_main_v0, G, gradLeft]

/-- From equal arguments the kernel and the reference end with the same array, and with their arguments as they were. -/
theorem same (g : Dev nD → PrngReg) (m' : (ℓ : Loc Cert.Dx2RefIdeal.nD Cert.Dx2RefIdeal.τ Cert.Dx2RefIdeal.sig) → Buf (Elt Ideal) ℓ) (g' : Dev Cert.Dx2RefIdeal.nD → PrngReg)
    (hm : ∀ c : Dev nD, m' ((c.tc : Thread Cert.Dx2RefIdeal.nD Cert.Dx2RefIdeal.τ).loc Cert.Dx2RefIdeal.main_arg0) = m ((c.tc : Thread nD τ).loc main_arg0)
      ∧ m' ((c.tc : Thread Cert.Dx2RefIdeal.nD Cert.Dx2RefIdeal.τ).loc Cert.Dx2RefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.Dx2RefIdeal.defs (F := Ideal)) (onTc (τ := Cert.Dx2RefIdeal.τ) (Cert.Dx2RefIdeal.main (F := Ideal))) ⟨m', fun _ => 0, g'⟩ (fun r => ∀ c : Dev Cert.Dx2RefIdeal.nD,
          r.2.mem ((c.tc : Thread Cert.Dx2RefIdeal.nD Cert.Dx2RefIdeal.τ).loc Cert.Dx2RefIdeal.main_v6) = v0 c
          ∧ r.2.mem ((c.tc : Thread Cert.Dx2RefIdeal.nD Cert.Dx2RefIdeal.τ).loc Cert.Dx2RefIdeal.main_arg0) = m' ((c.tc : Thread Cert.Dx2RefIdeal.nD Cert.Dx2RefIdeal.τ).loc Cert.Dx2RefIdeal.main_arg0)
          ∧ r.2.mem ((c.tc : Thread Cert.Dx2RefIdeal.nD Cert.Dx2RefIdeal.τ).loc Cert.Dx2RefIdeal.main_arg1) = m' ((c.tc : Thread Cert.Dx2RefIdeal.nD Cert.Dx2RefIdeal.τ).loc Cert.Dx2RefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.Dx2RefIdeal.defs (F := Ideal)) _ _).mono (fun r h c => ⟨(h c).1.trans ?_, (h c).2⟩) (Cert.Dx2RefIdeal.Value.run (F := Ideal) m' g')
    obtain ⟨h0, h1⟩ := hm c
    rw [h0, h1]
    exact ref_eq _ _

end Cert.Prod.Dx2

end
-- ==== Proof.Prod.Dxz.lean ====
/- `b_in_dx_z`: the gradient in the activations of the projection to the gate. -/
module

public import proofs.«01_k».proof.Proof.Gen.DxzIdeal.Value
public import proofs.«01_k».proof.Proof.Gen.DxzRefIdeal.Run
public import proofs.«01_k».proof.Proof.Gen.DxzRefIdeal.Read
public import proofs.«01_k».proof.Proof.Prod.Spec
public import Idealize.ShloMosaic.Lib.Pipeline.ValueKit

@[expose] public section

set_option maxRecDepth 16384

noncomputable section

namespace Cert.Prod.Dxz

open Cert.DxzIdeal Cert.DxzIdeal.Gen Idealize.ShloMosaic Idealize.ShloMosaic.StableHlo Idealize.ShloMosaic.TcCoe Idealize.SL.Sem

/-- The array the call gives. -/
abbrev G (ct : FVec Ideal S2048x1024 .bf16) (w : FVec Ideal S1024x10240 .bf16) : FVec Ideal S2048x1024 .bf16 :=
  gradLeft 9216 (by decide) ct w

/-- One grid point's product. -/
theorem pay_apply (x : FVec Ideal S512x1024 .bf16) (w : FVec Ideal S1024x1024 .bf16) (r : Fin 512) (c : Fin 1024) :
    k0_pay1 (F := Ideal) x w (ix2 r c) = ∑ k : Fin 1024, x (ix2 r k) * w (ix2 c k) := by
  pointwise [k0_pay1]

variable (m : (ℓ : Loc nD τ sig) → Buf (Elt Ideal) ℓ)

/-- Which block each grid point moves. -/
theorem idx : ∀ t : Fin cfg0.N, win0_0.index t = ![t.val, 0] ∧ win0_1.index t = ![0, 9] ∧ win0_2.index t = ![t.val, 0] :=
  (by decide +kernel : ∀ t : Fin grid0.N, _)

/-- Row `i` of grid point `t`'s block. -/
abbrev row (t : Fin cfg0.N) (i : Fin 512) : Fin 2048 :=
  ⟨512 * t.val + i.val, by have := t.isLt; change t.val < 4 at this; omega⟩

theorem emb_out (t : Fin cfg0.N) (i : Fin 512) (k : Fin 1024) :
    ((cfg0.win 2).blk t).view.emb (ix2 i k) = (ix2 (row t i) k : S2048x1024.Idx) := by
  unfold row
  blk_ext [idx t]

theorem blk0 (c : Dev nD) (t : Fin cfg0.N) (i : Fin 512) (k : Fin 1024) :
    iblk m c 0 t (ix2 i k) = V m c main_arg0 (ix2 (row t i) k) := by
  unfold iblk row
  blk_ext [idx t]

theorem blk1 (c : Dev nD) (t : Fin cfg0.N) (i : Fin 1024) (k : Fin 1024) :
    iblk m c 1 t (ix2 i k) = V m c main_arg1 (ix2 i (⟨9216 + k.val, by omega⟩ : Fin 10240)) := by
  unfold iblk
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold out0_2
  frame_out
  refine (pay_apply _ _ i k).trans (Finset.sum_congr rfl fun q _ => ?_)
  rw [blk0, blk1, V_main_arg0, V_main_arg1]
  rfl

/-- The reference's array. -/
theorem ref_eq (ct : FVec Ideal S2048x1024 .bf16) (w : FVec Ideal S1024x10240 .bf16) : Cert.DxzRefIdeal.Read.val_main_v6 (F := Ideal) ct w = G ct w := by
  funext y
  obtain ⟨a, b, rfl⟩ : ∃ a b, y = ix2 a b := ⟨y 0, y 1, eq_ix2 y⟩
  pointwise [Cert.DxzRefIdeal.Read.val_main_v6, Cert.DxzRefIdeal.Read.val_main_v5, Cert.DxzRefIdeal.Read.val_main_v4, Cert.DxzRefIdeal.Read.val_main_v2, Cert.DxzRefIdeal.Read.val_main_v0, G, gradLeft]

/-- From equal arguments the kernel and the reference end with the same array, and with their arguments as they were. -/
theorem same (g : Dev nD → PrngReg) (m' : (ℓ : Loc Cert.DxzRefIdeal.nD Cert.DxzRefIdeal.τ Cert.DxzRefIdeal.sig) → Buf (Elt Ideal) ℓ) (g' : Dev Cert.DxzRefIdeal.nD → PrngReg)
    (hm : ∀ c : Dev nD, m' ((c.tc : Thread Cert.DxzRefIdeal.nD Cert.DxzRefIdeal.τ).loc Cert.DxzRefIdeal.main_arg0) = m ((c.tc : Thread nD τ).loc main_arg0)
      ∧ m' ((c.tc : Thread Cert.DxzRefIdeal.nD Cert.DxzRefIdeal.τ).loc Cert.DxzRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DxzRefIdeal.defs (F := Ideal)) (onTc (τ := Cert.DxzRefIdeal.τ) (Cert.DxzRefIdeal.main (F := Ideal))) ⟨m', fun _ => 0, g'⟩ (fun r => ∀ c : Dev Cert.DxzRefIdeal.nD,
          r.2.mem ((c.tc : Thread Cert.DxzRefIdeal.nD Cert.DxzRefIdeal.τ).loc Cert.DxzRefIdeal.main_v6) = v0 c
          ∧ r.2.mem ((c.tc : Thread Cert.DxzRefIdeal.nD Cert.DxzRefIdeal.τ).loc Cert.DxzRefIdeal.main_arg0) = m' ((c.tc : Thread Cert.DxzRefIdeal.nD Cert.DxzRefIdeal.τ).loc Cert.DxzRefIdeal.main_arg0)
          ∧ r.2.mem ((c.tc : Thread Cert.DxzRefIdeal.nD Cert.DxzRefIdeal.τ).loc Cert.DxzRefIdeal.main_arg1) = m' ((c.tc : Thread Cert.DxzRefIdeal.nD Cert.DxzRefIdeal.τ).loc Cert.DxzRefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.DxzRefIdeal.defs (F := Ideal)) _ _).mono (fun r h c => ⟨(h c).1.trans ?_, (h c).2⟩) (Cert.DxzRefIdeal.Value.run (F := Ideal) m' g')
    obtain ⟨h0, h1⟩ := hm c
    rw [h0, h1]
    exact ref_eq _ _

end Cert.Prod.Dxz

end
-- ==== Proof.Prod.Dw0.lean ====
/- `b_in_dw0`: the gradient in the weights of the projection to group 0's q, k and v, written in place. -/
module

public import proofs.«01_k».proof.Proof.Gen.Dw0Ideal.Value
public import proofs.«01_k».proof.Proof.Gen.Dw0RefIdeal.Run
public import proofs.«01_k».proof.Proof.Gen.Dw0RefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dw0

open Cert.Dw0Ideal Cert.Dw0Ideal.Gen Idealize.ShloMosaic Idealize.ShloMosaic.StableHlo Idealize.ShloMosaic.TcCoe Idealize.SL.Sem

/-- The array the call gives. -/
abbrev G (h : FVec Ideal S2048x1024 .bf16) (ct : FVec Ideal S2048x3072 .bf16) (dw : FVec Ideal S1024x10240 .bf16) : FVec Ideal S1024x10240 .bf16 :=
  gradRight 0 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val] :=
  (by decide +kernel : ∀ t : Fin grid0.N, _)

theorem emb_out (t : Fin cfg0.N) (i : Fin 1024) (k : Fin 1024) :
    ((cfg0.win 2).blk t).view.emb (ix2 i k)
      = (ix2 i (⟨0 + 1024 * t.val + k.val, by have := t.isLt; change t.val < 3 at this; omega⟩ : Fin 10240) : S1024x10240.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 3 at this; omega⟩ : Fin 3072)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 0 ≤ β (1 : Fin _) ∧ β (1 : Fin _) < 3) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 3 := t.isLt
    refine Eq.trans ?_ (gradRight_in 0 _ _ _ i _ (⟨1024 * t.val + k.val, by omega⟩ : Fin 3072) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x10240.Idx) = j := rfl
    rw [e]
    refine Eq.trans ?_ (gradRight_out 0 _ _ _ j ?_).symm
    · exact congrFun (entry m c) j
    · omega

/-- The reference's array. -/
theorem ref_eq (h : FVec Ideal S2048x1024 .bf16) (ct : FVec Ideal S2048x3072 .bf16) (dw : FVec Ideal S1024x10240 .bf16) : Cert.Dw0RefIdeal.Read.val_main_v8 (F := Ideal) h ct dw = G h ct dw := by
  funext y
  obtain ⟨a, b, rfl⟩ : ∃ a b, y = ix2 a b := ⟨y 0, y 1, eq_ix2 y⟩
  pointwise [Cert.Dw0RefIdeal.Read.val_main_v8, Cert.Dw0RefIdeal.Read.val_main_v7, Cert.Dw0RefIdeal.Read.val_main_v6, Cert.Dw0RefIdeal.Read.val_main_v5, Cert.Dw0RefIdeal.Read.val_main_v4, Cert.Dw0RefIdeal.Read.val_main_v3, Cert.Dw0RefIdeal.Read.val_main_v1, mul_comm]
  by_cases hc : 0 ≤ b.val ∧ b.val < 0 + 3072
  · refine Eq.trans ?_ (gradRight_in 0 h ct dw a b (⟨b.val - 0, by omega⟩ : Fin 3072) (by show b.val = 0 + (b.val - 0); omega)).symm
    exact (dif_pos (show b.val < 3072 by omega))
  · refine Eq.trans ?_ (gradRight_out 0 h ct dw (ix2 a b) hc).symm
    exact (dif_neg (show ¬b.val < 3072 by omega)).trans (congrArg (fun q => dw (ix2 a q)) (Fin.ext (show 3072 + (b.val - 3072) = b.val by omega)))

/-- From equal arguments the kernel and the reference end with the same array, and with their arguments as they were. -/
theorem same (g : Dev nD → PrngReg) (m' : (ℓ : Loc Cert.Dw0RefIdeal.nD Cert.Dw0RefIdeal.τ Cert.Dw0RefIdeal.sig) → Buf (Elt Ideal) ℓ) (g' : Dev Cert.Dw0RefIdeal.nD → PrngReg)
    (hm : ∀ c : Dev nD, m' ((c.tc : Thread Cert.Dw0RefIdeal.nD Cert.Dw0RefIdeal.τ).loc Cert.Dw0RefIdeal.main_arg0) = m ((c.tc : Thread nD τ).loc main_arg0)
      ∧ m' ((c.tc : Thread Cert.Dw0RefIdeal.nD Cert.Dw0RefIdeal.τ).loc Cert.Dw0RefIdeal.main_arg1) = m ((c.tc : Thread nD τ).loc main_arg1)
      ∧ m' ((c.tc : Thread Cert.Dw0RefIdeal.nD Cert.Dw0RefIdeal.τ).loc Cert.Dw0RefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Dw0RefIdeal.defs (F := Ideal)) (onTc (τ := Cert.Dw0RefIdeal.τ) (Cert.Dw0RefIdeal.main (F := Ideal))) ⟨m', fun _ => 0, g'⟩ (fun r => ∀ c : Dev Cert.Dw0RefIdeal.nD,
          r.2.mem ((c.tc : Thread Cert.Dw0RefIdeal.nD Cert.Dw0RefIdeal.τ).loc Cert.Dw0RefIdeal.main_v8) = v0 c
          ∧ r.2.mem ((c.tc : Thread Cert.Dw0RefIdeal.nD Cert.Dw0RefIdeal.τ).loc Cert.Dw0RefIdeal.main_arg0) = m' ((c.tc : Thread Cert.Dw0RefIdeal.nD Cert.Dw0RefIdeal.τ).loc Cert.Dw0RefIdeal.main_arg0)
          ∧ r.2.mem ((c.tc : Thread Cert.Dw0RefIdeal.nD Cert.Dw0RefIdeal.τ).loc Cert.Dw0RefIdeal.main_arg1) = m' ((c.tc : Thread Cert.Dw0RefIdeal.nD Cert.Dw0RefIdeal.τ).loc Cert.Dw0RefIdeal.main_arg1)
          ∧ r.2.mem ((c.tc : Thread Cert.Dw0RefIdeal.nD Cert.Dw0RefIdeal.τ).loc Cert.Dw0RefIdeal.main_arg2) = m' ((c.tc : Thread Cert.Dw0RefIdeal.nD Cert.Dw0RefIdeal.τ).loc Cert.Dw0RefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.Dw0RefIdeal.defs (F := Ideal)) _ _).mono (fun r h c => ⟨(h c).1.trans ?_, (h c).2⟩) (Cert.Dw0RefIdeal.Value.run (F := Ideal) m' g')
    obtain ⟨h0, h1, h2⟩ := hm c
    rw [h0, h1, h2]
    exact ref_eq _ _ _

end Cert.Prod.Dw0

end
-- ==== Proof.Prod.Dw1.lean ====
/- `b_in_dw1`: the gradient in the weights of the projection to group 1's q, k and v, written in place. -/
module

public import proofs.«01_k».proof.Proof.Gen.Dw1Ideal.Value
public import proofs.«01_k».proof.Proof.Gen.Dw1RefIdeal.Run
public import proofs.«01_k».proof.Proof.Gen.Dw1RefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dw1

open Cert.Dw1Ideal Cert.Dw1Ideal.Gen Idealize.ShloMosaic Idealize.ShloMosaic.StableHlo Idealize.ShloMosaic.TcCoe Idealize.SL.Sem

/-- The array the call gives. -/
abbrev G (h : FVec Ideal S2048x1024 .bf16) (ct : FVec Ideal S2048x3072 .bf16) (dw : FVec Ideal S1024x10240 .bf16) : FVec Ideal S1024x10240 .bf16 :=
  gradRight 3072 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val + 3] :=
  (by decide +kernel : ∀ t : Fin grid0.N, _)

theorem emb_out (t : Fin cfg0.N) (i : Fin 1024) (k : Fin 1024) :
    ((cfg0.win 2).blk t).view.emb (ix2 i k)
      = (ix2 i (⟨3072 + 1024 * t.val + k.val, by have := t.isLt; change t.val < 3 at this; omega⟩ : Fin 10240) : S1024x10240.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 3 at this; omega⟩ : Fin 3072)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 3 ≤ β (1 : Fin _) ∧ β (1 : Fin _) < 6) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 3 := t.isLt
    refine Eq.trans ?_ (gradRight_in 3072 _ _ _ i _ (⟨1024 * t.val + k.val, by omega⟩ : Fin 3072) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x10240.Idx) = j := rfl
    rw [e]
    refine Eq.trans ?_ (gradRight_out 3072 _ _ _ j ?_).symm
    · exact congrFun (entry m c) j
    · omega

/-- The reference's array. -/
theorem ref_eq (h : FVec Ideal S2048x1024 .bf16) (ct : FVec Ideal S2048x3072 .bf16) (dw : FVec Ideal S1024x10240 .bf16) : Cert.Dw1RefIdeal.Read.val_main_v9 (F := Ideal) h ct dw = G h ct dw := by
  funext y
  obtain ⟨a, b, rfl⟩ : ∃ a b, y = ix2 a b := ⟨y 0, y 1, eq_ix2 y⟩
  pointwise [Cert.Dw1RefIdeal.Read.val_main_v9, Cert.Dw1RefIdeal.Read.val_main_v8, Cert.Dw1RefIdeal.Read.val_main_v7, Cert.Dw1RefIdeal.Read.val_main_v6, Cert.Dw1RefIdeal.Read.val_main_v5, Cert.Dw1RefIdeal.Read.val_main_v4, Cert.Dw1RefIdeal.Read.val_main_v2, Cert.Dw1RefIdeal.Read.val_main_v0, mul_comm]
  by_cases hc : 3072 ≤ b.val ∧ b.val < 3072 + 3072
  · refine Eq.trans ?_ (gradRight_in 3072 h ct dw a b (⟨b.val - 3072, by omega⟩ : Fin 3072) (by show b.val = 3072 + (b.val - 3072); omega)).symm
    exact (dif_neg (show ¬b.val < 3072 by omega)).trans (dif_pos (show b.val - 3072 < 3072 by omega))
  · refine Eq.trans ?_ (gradRight_out 3072 h ct dw (ix2 a b) hc).symm
    by_cases hb : b.val < 3072
    · exact dif_pos hb
    · exact (dif_neg hb).trans ((dif_neg (show ¬b.val - 3072 < 3072 by omega)).trans (congrArg (fun q => dw (ix2 a q)) (Fin.ext (show 6144 + (b.val - 3072 - 3072) = b.val by omega))))

/-- From equal arguments the kernel and the reference end with the same array, and with their arguments as they were. -/
theorem same (g : Dev nD → PrngReg) (m' : (ℓ : Loc Cert.Dw1RefIdeal.nD Cert.Dw1RefIdeal.τ Cert.Dw1RefIdeal.sig) → Buf (Elt Ideal) ℓ) (g' : Dev Cert.Dw1RefIdeal.nD → PrngReg)
    (hm : ∀ c : Dev nD, m' ((c.tc : Thread Cert.Dw1RefIdeal.nD Cert.Dw1RefIdeal.τ).loc Cert.Dw1RefIdeal.main_arg0) = m ((c.tc : Thread nD τ).loc main_arg0)
      ∧ m' ((c.tc : Thread Cert.Dw1RefIdeal.nD Cert.Dw1RefIdeal.τ).loc Cert.Dw1RefIdeal.main_arg1) = m ((c.tc : Thread nD τ).loc main_arg1)
      ∧ m' ((c.tc : Thread Cert.Dw1RefIdeal.nD Cert.Dw1RefIdeal.τ).loc Cert.Dw1RefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v9) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1)
          ∧ r.2.mem ((c.tc : Thread Cert.Dw1RefIdeal.nD Cert.Dw1RefIdeal.τ).loc Cert.Dw1RefIdeal.main_arg2) = m' ((c.tc : Thread Cert.Dw1RefIdeal.nD Cert.Dw1RefIdeal.τ).loc Cert.Dw1RefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.Dw1RefIdeal.defs (F := Ideal)) _ _).mono (fun r h c => ⟨(h c).1.trans ?_, (h c).2⟩) (Cert.Dw1RefIdeal.Value.run (F := Ideal) m' g')
    obtain ⟨h0, h1, h2⟩ := hm c
    rw [h0, h1, h2]
    exact ref_eq _ _ _

end Cert.Prod.Dw1

end
-- ==== Proof.Prod.Dw2.lean ====
/- `b_in_dw2`: the gradient in the weights of the projection to group 2's q, k and v, written in place. -/
module

public import proofs.«01_k».proof.Proof.Gen.Dw2Ideal.Value
public import proofs.«01_k».proof.Proof.Gen.Dw2RefIdeal.Run
public import proofs.«01_k».proof.Proof.Gen.Dw2RefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dw2

open Cert.Dw2Ideal Cert.Dw2Ideal.Gen Idealize.ShloMosaic Idealize.ShloMosaic.StableHlo Idealize.ShloMosaic.TcCoe Idealize.SL.Sem

/-- The array the call gives. -/
abbrev G (h : FVec Ideal S2048x1024 .bf16) (ct : FVec Ideal S2048x3072 .bf16) (dw : FVec Ideal S1024x10240 .bf16) : FVec Ideal S1024x10240 .bf16 :=
  gradRight 6144 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val + 6] :=
  (by decide +kernel : ∀ t : Fin grid0.N, _)

theorem emb_out (t : Fin cfg0.N) (i : Fin 1024) (k : Fin 1024) :
    ((cfg0.win 2).blk t).view.emb (ix2 i k)
      = (ix2 i (⟨6144 + 1024 * t.val + k.val, by have := t.isLt; change t.val < 3 at this; omega⟩ : Fin 10240) : S1024x10240.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 3 at this; omega⟩ : Fin 3072)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 6 ≤ β (1 : Fin _) ∧ β (1 : Fin _) < 9) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 3 := t.isLt
    refine Eq.trans ?_ (gradRight_in 6144 _ _ _ i _ (⟨1024 * t.val + k.val, by omega⟩ : Fin 3072) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x10240.Idx) = j := rfl
    rw [e]
    refine Eq.trans ?_ (gradRight_out 6144 _ _ _ j ?_).symm
    · exact congrFun (entry m c) j
    · omega

/-- The reference's array. -/
theorem ref_eq (h : FVec Ideal S2048x1024 .bf16) (ct : FVec Ideal S2048x3072 .bf16) (dw : FVec Ideal S1024x10240 .bf16) : Cert.Dw2RefIdeal.Read.val_main_v9 (F := Ideal) h ct dw = G h ct dw := by
  funext y
  obtain ⟨a, b, rfl⟩ : ∃ a b, y = ix2 a b := ⟨y 0, y 1, eq_ix2 y⟩
  pointwise [Cert.Dw2RefIdeal.Read.val_main_v9, Cert.Dw2RefIdeal.Read.val_main_v8, Cert.Dw2RefIdeal.Read.val_main_v7, Cert.Dw2RefIdeal.Read.val_main_v6, Cert.Dw2RefIdeal.Read.val_main_v5, Cert.Dw2RefIdeal.Read.val_main_v4, Cert.Dw2RefIdeal.Read.val_main_v2, Cert.Dw2RefIdeal.Read.val_main_v0, mul_comm]
  by_cases hc : 6144 ≤ b.val ∧ b.val < 6144 + 3072
  · refine Eq.trans ?_ (gradRight_in 6144 h ct dw a b (⟨b.val - 6144, by omega⟩ : Fin 3072) (by show b.val = 6144 + (b.val - 6144); omega)).symm
    exact (dif_neg (show ¬b.val < 6144 by omega)).trans (dif_pos (show b.val - 6144 < 3072 by omega))
  · refine Eq.trans ?_ (gradRight_out 6144 h ct dw (ix2 a b) hc).symm
    by_cases hb : b.val < 6144
    · exact dif_pos hb
    · exact (dif_neg hb).trans ((dif_neg (show ¬b.val - 6144 < 3072 by omega)).trans (congrArg (fun q => dw (ix2 a q)) (Fin.ext (show 9216 + (b.val - 6144 - 3072) = b.val by omega))))

/-- From equal arguments the kernel and the reference end with the same array, and with their arguments as they were. -/
theorem same (g : Dev nD → PrngReg) (m' : (ℓ : Loc Cert.Dw2RefIdeal.nD Cert.Dw2RefIdeal.τ Cert.Dw2RefIdeal.sig) → Buf (Elt Ideal) ℓ) (g' : Dev Cert.Dw2RefIdeal.nD → PrngReg)
    (hm : ∀ c : Dev nD, m' ((c.tc : Thread Cert.Dw2RefIdeal.nD Cert.Dw2RefIdeal.τ).loc Cert.Dw2RefIdeal.main_arg0) = m ((c.tc : Thread nD τ).loc main_arg0)
      ∧ m' ((c.tc : Thread Cert.Dw2RefIdeal.nD Cert.Dw2RefIdeal.τ).loc Cert.Dw2RefIdeal.main_arg1) = m ((c.tc : Thread nD τ).loc main_arg1)
      ∧ m' ((c.tc : Thread Cert.Dw2RefIdeal.nD Cert.Dw2RefIdeal.τ).loc Cert.Dw2RefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v9) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.Dw2RefIdeal.defs (F := Ideal)) _ _).mono (fun r h c => ⟨(h c).1.trans ?_, (h c).2⟩) (Cert.Dw2RefIdeal.Value.run (F := Ideal) m' g')
    obtain ⟨h0, h1, h2⟩ := hm c
    rw [h0, h1, h2]
    exact ref_eq _ _ _

end Cert.Prod.Dw2

end
-- ==== Proof.Prod.Dwz.lean ====
/- `b_in_dw_z`: the gradient in the weights of the projection to the gate, written in place. -/
module

public import proofs.«01_k».proof.Proof.Gen.DwzIdeal.Value
public import proofs.«01_k».proof.Proof.Gen.DwzRefIdeal.Run
public import proofs.«01_k».proof.Proof.Gen.DwzRefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dwz

open Cert.DwzIdeal Cert.DwzIdeal.Gen Idealize.ShloMosaic Idealize.ShloMosaic.StableHlo Idealize.ShloMosaic.TcCoe Idealize.SL.Sem

/-- The array the call gives. -/
abbrev G (h : FVec Ideal S2048x1024 .bf16) (ct : FVec Ideal S2048x1024 .bf16) (dw : FVec Ideal S1024x10240 .bf16) : FVec Ideal S1024x10240 .bf16 :=
  gradRight 9216 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val + 9] :=
  (by decide +kernel : ∀ t : Fin grid0.N, _)

theorem emb_out (t : Fin cfg0.N) (i : Fin 1024) (k : Fin 1024) :
    ((cfg0.win 2).blk t).view.emb (ix2 i k)
      = (ix2 i (⟨9216 + 1024 * t.val + k.val, by have := t.isLt; change t.val < 1 at this; omega⟩ : Fin 10240) : S1024x10240.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 1 at this; omega⟩ : Fin 1024)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 9 ≤ β (1 : Fin _) ∧ β (1 : Fin _) < 10) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 1 := t.isLt
    refine Eq.trans ?_ (gradRight_in 9216 _ _ _ i _ (⟨1024 * t.val + k.val, by omega⟩ : Fin 1024) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x10240.Idx) = j := rfl
    rw [e]
    refine Eq.trans ?_ (gradRight_out 9216 _ _ _ j ?_).symm
    · exact congrFun (entry m c) j
    · omega

/-- The reference's array. -/
theorem ref_eq (h : FVec Ideal S2048x1024 .bf16) (ct : FVec Ideal S2048x1024 .bf16) (dw : FVec Ideal S1024x10240 .bf16) : Cert.DwzRefIdeal.Read.val_main_v8 (F := Ideal) h ct dw = G h ct dw := by
  funext y
  obtain ⟨a, b, rfl⟩ : ∃ a b, y = ix2 a b := ⟨y 0, y 1, eq_ix2 y⟩
  pointwise [Cert.DwzRefIdeal.Read.val_main_v8, Cert.DwzRefIdeal.Read.val_main_v7, Cert.DwzRefIdeal.Read.val_main_v6, Cert.DwzRefIdeal.Read.val_main_v5, Cert.DwzRefIdeal.Read.val_main_v4, Cert.DwzRefIdeal.Read.val_main_v2, Cert.DwzRefIdeal.Read.val_main_v0, mul_comm]
  by_cases hc : 9216 ≤ b.val ∧ b.val < 9216 + 1024
  · refine Eq.trans ?_ (gradRight_in 9216 h ct dw a b (⟨b.val - 9216, by omega⟩ : Fin 1024) (by show b.val = 9216 + (b.val - 9216); omega)).symm
    exact (dif_neg (show ¬b.val < 9216 by omega))
  · refine Eq.trans ?_ (gradRight_out 9216 h ct dw (ix2 a b) hc).symm
    exact dif_pos (show b.val < 9216 by have := b.isLt; omega)

/-- From equal arguments the kernel and the reference end with the same array, and with their arguments as they were. -/
theorem same (g : Dev nD → PrngReg) (m' : (ℓ : Loc Cert.DwzRefIdeal.nD Cert.DwzRefIdeal.τ Cert.DwzRefIdeal.sig) → Buf (Elt Ideal) ℓ) (g' : Dev Cert.DwzRefIdeal.nD → PrngReg)
    (hm : ∀ c : Dev nD, m' ((c.tc : Thread Cert.DwzRefIdeal.nD Cert.DwzRefIdeal.τ).loc Cert.DwzRefIdeal.main_arg0) = m ((c.tc : Thread nD τ).loc main_arg0)
      ∧ m' ((c.tc : Thread Cert.DwzRefIdeal.nD Cert.DwzRefIdeal.τ).loc Cert.DwzRefIdeal.main_arg1) = m ((c.tc : Thread nD τ).loc main_arg1)
      ∧ m' ((c.tc : Thread Cert.DwzRefIdeal.nD Cert.DwzRefIdeal.τ).loc Cert.DwzRefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.DwzRefIdeal.defs (F := Ideal)) (onTc (τ := Cert.DwzRefIdeal.τ) (Cert.DwzRefIdeal.main (F := Ideal))) ⟨m', fun _ => 0, g'⟩ (fun r => ∀ c : Dev Cert.DwzRefIdeal.nD,
          r.2.mem ((c.tc : Thread Cert.DwzRefIdeal.nD Cert.DwzRefIdeal.τ).loc Cert.DwzRefIdeal.main_v8) = v0 c
          ∧ r.2.mem ((c.tc : Thread Cert.DwzRefIdeal.nD Cert.DwzRefIdeal.τ).loc Cert.DwzRefIdeal.main_arg0) = m' ((c.tc : Thread Cert.DwzRefIdeal.nD Cert.DwzRefIdeal.τ).loc Cert.DwzRefIdeal.main_arg0)
          ∧ r.2.mem ((c.tc : Thread Cert.DwzRefIdeal.nD Cert.DwzRefIdeal.τ).loc Cert.DwzRefIdeal.main_arg1) = m' ((c.tc : Thread Cert.DwzRefIdeal.nD Cert.DwzRefIdeal.τ).loc Cert.DwzRefIdeal.main_arg1)
          ∧ r.2.mem ((c.tc : Thread Cert.DwzRefIdeal.nD Cert.DwzRefIdeal.τ).loc Cert.DwzRefIdeal.main_arg2) = m' ((c.tc : Thread Cert.DwzRefIdeal.nD Cert.DwzRefIdeal.τ).loc Cert.DwzRefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.DwzRefIdeal.defs (F := Ideal)) _ _).mono (fun r h c => ⟨(h c).1.trans ?_, (h c).2⟩) (Cert.DwzRefIdeal.Value.run (F := Ideal) m' g')
    obtain ⟨h0, h1, h2⟩ := hm c
    rw [h0, h1, h2]
    exact ref_eq _ _ _

end Cert.Prod.Dwz

end
-- ==== Proof.Prod.Dxa.lean ====
/- `a_in_dx`: the gradient in the activations of the first block's input projection, from the cotangents of its three parts. -/
module

public import proofs.«01_k».proof.Proof.Gen.DxaIdeal.Value
public import proofs.«01_k».proof.Proof.Gen.DxaRefIdeal.Run
public import proofs.«01_k».proof.Proof.Gen.DxaRefIdeal.Read
public import proofs.«01_k».proof.Proof.Prod.Spec
public import Idealize.ShloMosaic.Lib.Pipeline.ValueKit

@[expose] public section

set_option maxRecDepth 16384

noncomputable section

namespace Cert.Prod.Dxa

open Cert.DxaIdeal Cert.DxaIdeal.Gen Idealize.ShloMosaic Idealize.ShloMosaic.StableHlo Idealize.ShloMosaic.TcCoe Idealize.SL.Sem

/-- The array the call gives. -/
abbrev G (dval : FVec Ideal S2048x1024 .bf16) (dgl : FVec Ideal S2048x1024 .bf16) (dz : FVec Ideal S2048x1024 .bf16) (w : FVec Ideal S1024x3072 .bf16) : FVec Ideal S2048x1024 .f32 :=
  fun y => gradLeft (χ := .f32) 0 (by decide) dval w y + gradLeft (χ := .f32) 1024 (by decide) dgl w y + gradLeft (χ := .f32) 2048 (by decide) dz w y

/-- One grid point's three products. -/
theorem pay_apply (x0 : FVec Ideal S512x1024 .bf16) (w0 : FVec Ideal S1024x1024 .bf16) (x1 : FVec Ideal S512x1024 .bf16) (w1 : FVec Ideal S1024x1024 .bf16)
    (x2 : FVec Ideal S512x1024 .bf16) (w2 : FVec Ideal S1024x1024 .bf16) (r : Fin 512) (c : Fin 1024) :
    k0_pay1 (F := Ideal) x0 w0 x1 w1 x2 w2 (ix2 r c)
      = ∑ k : Fin 1024, x0 (ix2 r k) * w0 (ix2 c k) + ∑ k : Fin 1024, x1 (ix2 r k) * w1 (ix2 c k) + ∑ k : Fin 1024, x2 (ix2 r k) * w2 (ix2 c k) := by
  pointwise [k0_pay1]

variable (m : (ℓ : Loc nD τ sig) → Buf (Elt Ideal) ℓ)

/-- Which block each grid point moves. -/
theorem idx : ∀ t : Fin cfg0.N, win0_0.index t = ![t.val, 0] ∧ win0_1.index t = ![t.val, 0] ∧ win0_2.index t = ![t.val, 0] ∧ win0_3.index t = ![0, 0] ∧ win0_4.index t = ![0, 1] ∧ win0_5.index t = ![0, 2] ∧ win0_6.index t = ![t.val, 0] :=
  (by decide +kernel : ∀ t : Fin grid0.N, _)

/-- Row `i` of grid point `t`'s block. -/
abbrev row (t : Fin cfg0.N) (i : Fin 512) : Fin 2048 :=
  ⟨512 * t.val + i.val, by have := t.isLt; change t.val < 4 at this; omega⟩

theorem emb_out (t : Fin cfg0.N) (i : Fin 512) (k : Fin 1024) :
    ((cfg0.win 6).blk t).view.emb (ix2 i k) = (ix2 (row t i) k : S2048x1024.Idx) := by
  unfold row
  blk_ext [idx t]

theorem blk0 (c : Dev nD) (t : Fin cfg0.N) (i : Fin 512) (k : Fin 1024) :
    iblk m c 0 t (ix2 i k) = V m c main_arg0 (ix2 (row t i) k) := by
  unfold iblk row
  blk_ext [idx t]

theorem blk3 (c : Dev nD) (t : Fin cfg0.N) (i : Fin 1024) (k : Fin 1024) :
    iblk m c 3 t (ix2 i k) = V m c main_arg3 (ix2 i (⟨0 + k.val, by omega⟩ : Fin 3072)) := by
  unfold iblk
  blk_ext [idx t]

theorem blk1 (c : Dev nD) (t : Fin cfg0.N) (i : Fin 512) (k : Fin 1024) :
    iblk m c 1 t (ix2 i k) = V m c main_arg1 (ix2 (row t i) k) := by
  unfold iblk row
  blk_ext [idx t]

theorem blk4 (c : Dev nD) (t : Fin cfg0.N) (i : Fin 1024) (k : Fin 1024) :
    iblk m c 4 t (ix2 i k) = V m c main_arg3 (ix2 i (⟨1024 + k.val, by omega⟩ : Fin 3072)) := by
  unfold iblk
  blk_ext [idx t]

theorem blk2 (c : Dev nD) (t : Fin cfg0.N) (i : Fin 512) (k : Fin 1024) :
    iblk m c 2 t (ix2 i k) = V m c main_arg2 (ix2 (row t i) k) := by
  unfold iblk row
  blk_ext [idx t]

theorem blk5 (c : Dev nD) (t : Fin cfg0.N) (i : Fin 1024) (k : Fin 1024) :
    iblk m c 5 t (ix2 i k) = V m c main_arg3 (ix2 i (⟨2048 + k.val, by omega⟩ : Fin 3072)) := by
  unfold iblk
  blk_ext [idx t]

/-- The kernel's array after the run. -/
theorem arr_eq (c : Dev nD) : (dats m 0 c).arrAt 6 cfg0.N = G (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  obtain ⟨i, k, rfl⟩ : ∃ i k, y = ix2 i k := ⟨y 0, y 1, eq_ix2 y⟩
  rw [emb_out]
  blk_simp
  rw [after0_6]
  unfold out0_6
  frame_out
  refine (pay_apply _ _ _ _ _ _ i k).trans (congrArg₂ (· + ·) (congrArg₂ (· + ·) ?_ ?_) ?_)
  · refine Finset.sum_congr rfl fun q _ => ?_
    rw [blk0, blk3, V_main_arg0, V_main_arg3]
    rfl
  · refine Finset.sum_congr rfl fun q _ => ?_
    rw [blk1, blk4, V_main_arg1, V_main_arg3]
    rfl
  · refine Finset.sum_congr rfl fun q _ => ?_
    rw [blk2, blk5, V_main_arg2, V_main_arg3]
    rfl

/-- The reference's array. -/
theorem ref_eq (dval : FVec Ideal S2048x1024 .bf16) (dgl : FVec Ideal S2048x1024 .bf16) (dz : FVec Ideal S2048x1024 .bf16) (w : FVec Ideal S1024x3072 .bf16) : Cert.DxaRefIdeal.Read.val_main_v5 (F := Ideal) dval dgl dz w = G dval dgl dz w := by
  funext y
  obtain ⟨a, b, rfl⟩ : ∃ a b, y = ix2 a b := ⟨y 0, y 1, eq_ix2 y⟩
  pointwise [Cert.DxaRefIdeal.Read.val_main_v5, Cert.DxaRefIdeal.Read.val_main_v4, Cert.DxaRefIdeal.Read.val_main_v2, Cert.DxaRefIdeal.Read.val_main_v0, G, gradLeft]
  refine (sum_parts _).trans (congrArg₂ (· + ·) (congrArg₂ (· + ·) ?_ ?_) ?_)
  · exact Finset.sum_congr rfl fun x _ => by
      rw [dif_pos (show (x.val) < 1024 from x.isLt)]
  · exact Finset.sum_congr rfl fun x _ => by
      have hx := x.isLt
      have e : (⟨1024 + x.val - 1024, by omega⟩ : Fin 1024) = x := Fin.ext (Nat.add_sub_cancel_left 1024 x.val)
      rw [dif_neg (show ¬(1024 + x.val) < 1024 by omega), dif_pos (show 1024 + x.val - 1024 < 1024 by omega), e]
  · exact Finset.sum_congr rfl fun x _ => by
      have hx := x.isLt
      have e : (⟨2048 + x.val - 1024 - 1024, by omega⟩ : Fin 1024) = x := Fin.ext (by show 2048 + x.val - 1024 - 1024 = x.val; omega)
      rw [dif_neg (show ¬(2048 + x.val) < 1024 by omega), dif_neg (show ¬(2048 + x.val - 1024) < 1024 by omega), e]

/-- From equal arguments the kernel and the reference end with the same array, and with their arguments as they were. -/
theorem same (g : Dev nD → PrngReg) (m' : (ℓ : Loc Cert.DxaRefIdeal.nD Cert.DxaRefIdeal.τ Cert.DxaRefIdeal.sig) → Buf (Elt Ideal) ℓ) (g' : Dev Cert.DxaRefIdeal.nD → PrngReg)
    (hm : ∀ c : Dev nD, m' ((c.tc : Thread Cert.DxaRefIdeal.nD Cert.DxaRefIdeal.τ).loc Cert.DxaRefIdeal.main_arg0) = m ((c.tc : Thread nD τ).loc main_arg0)
      ∧ m' ((c.tc : Thread Cert.DxaRefIdeal.nD Cert.DxaRefIdeal.τ).loc Cert.DxaRefIdeal.main_arg1) = m ((c.tc : Thread nD τ).loc main_arg1)
      ∧ m' ((c.tc : Thread Cert.DxaRefIdeal.nD Cert.DxaRefIdeal.τ).loc Cert.DxaRefIdeal.main_arg2) = m ((c.tc : Thread nD τ).loc main_arg2)
      ∧ m' ((c.tc : Thread Cert.DxaRefIdeal.nD Cert.DxaRefIdeal.τ).loc Cert.DxaRefIdeal.main_arg3) = m ((c.tc : Thread nD τ).loc main_arg3)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.DxaRefIdeal.defs (F := Ideal)) (onTc (τ := Cert.DxaRefIdeal.τ) (Cert.DxaRefIdeal.main (F := Ideal))) ⟨m', fun _ => 0, g'⟩ (fun r => ∀ c : Dev Cert.DxaRefIdeal.nD,
          r.2.mem ((c.tc : Thread Cert.DxaRefIdeal.nD Cert.DxaRefIdeal.τ).loc Cert.DxaRefIdeal.main_v5) = v0 c
          ∧ r.2.mem ((c.tc : Thread Cert.DxaRefIdeal.nD Cert.DxaRefIdeal.τ).loc Cert.DxaRefIdeal.main_arg0) = m' ((c.tc : Thread Cert.DxaRefIdeal.nD Cert.DxaRefIdeal.τ).loc Cert.DxaRefIdeal.main_arg0)
          ∧ r.2.mem ((c.tc : Thread Cert.DxaRefIdeal.nD Cert.DxaRefIdeal.τ).loc Cert.DxaRefIdeal.main_arg1) = m' ((c.tc : Thread Cert.DxaRefIdeal.nD Cert.DxaRefIdeal.τ).loc Cert.DxaRefIdeal.main_arg1)
          ∧ r.2.mem ((c.tc : Thread Cert.DxaRefIdeal.nD Cert.DxaRefIdeal.τ).loc Cert.DxaRefIdeal.main_arg2) = m' ((c.tc : Thread Cert.DxaRefIdeal.nD Cert.DxaRefIdeal.τ).loc Cert.DxaRefIdeal.main_arg2)
          ∧ r.2.mem ((c.tc : Thread Cert.DxaRefIdeal.nD Cert.DxaRefIdeal.τ).loc Cert.DxaRefIdeal.main_arg3) = m' ((c.tc : Thread Cert.DxaRefIdeal.nD Cert.DxaRefIdeal.τ).loc Cert.DxaRefIdeal.main_arg3)) := by
  refine ⟨fun c => G (m ((c.tc : Thread nD τ).loc main_arg0)) (m ((c.tc : Thread nD τ).loc main_arg1)) (m ((c.tc : Thread nD τ).loc main_arg2)) (m ((c.tc : Thread nD τ).loc main_arg3)), ?_, ?_⟩
  · exact (θ_run (defs (F := Ideal)) _ _).mono (fun r h c => ⟨(h c).1.trans (arr_eq m c), (h c).2⟩) (Value.run_blocks m g)
  · refine (θ_run (Cert.DxaRefIdeal.defs (F := Ideal)) _ _).mono (fun r h c => ⟨(h c).1.trans ?_, (h c).2⟩) (Cert.DxaRefIdeal.Value.run (F := Ideal) m' g')
    obtain ⟨h0, h1, h2, h3⟩ := hm c
    rw [h0, h1, h2, h3]
    exact ref_eq _ _ _ _

end Cert.Prod.Dxa

end
-- ==== Proof.Prod.Dwa0.lean ====
/- `a_in_dw0`: the gradient in part 0 of the weights of the first block's input projection, written in place. -/
module

public import proofs.«01_k».proof.Proof.Gen.Dwa0Ideal.Value
public import proofs.«01_k».proof.Proof.Gen.Dwa0RefIdeal.Run
public import proofs.«01_k».proof.Proof.Gen.Dwa0RefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dwa0

open Cert.Dwa0Ideal Cert.Dwa0Ideal.Gen Idealize.ShloMosaic Idealize.ShloMosaic.StableHlo Idealize.ShloMosaic.TcCoe Idealize.SL.Sem

/-- The array the call gives. -/
abbrev G (h : FVec Ideal S2048x1024 .bf16) (ct : FVec Ideal S2048x1024 .bf16) (dw : FVec Ideal S1024x3072 .bf16) : FVec Ideal S1024x3072 .bf16 :=
  gradRight 0 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val] :=
  (by decide +kernel : ∀ t : Fin grid0.N, _)

theorem emb_out (t : Fin cfg0.N) (i : Fin 1024) (k : Fin 1024) :
    ((cfg0.win 2).blk t).view.emb (ix2 i k)
      = (ix2 i (⟨0 + 1024 * t.val + k.val, by have := t.isLt; change t.val < 1 at this; omega⟩ : Fin 3072) : S1024x3072.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 1 at this; omega⟩ : Fin 1024)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 0 ≤ β (1 : Fin _) ∧ β (1 : Fin _) < 1) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 1 := t.isLt
    refine Eq.trans ?_ (gradRight_in 0 _ _ _ i _ (⟨1024 * t.val + k.val, by omega⟩ : Fin 1024) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x3072.Idx) = j := rfl
    rw [e]
    refine Eq.trans ?_ (gradRight_out 0 _ _ _ j ?_).symm
    · exact congrFun (entry m c) j
    · omega

/-- The reference's array. -/
theorem ref_eq (h : FVec Ideal S2048x1024 .bf16) (ct : FVec Ideal S2048x1024 .bf16) (dw : FVec Ideal S1024x3072 .bf16) : Cert.Dwa0RefIdeal.Read.val_main_v8 (F := Ideal) h ct dw = G h ct dw := by
  funext y
  obtain ⟨a, b, rfl⟩ : ∃ a b, y = ix2 a b := ⟨y 0, y 1, eq_ix2 y⟩
  pointwise [Cert.Dwa0RefIdeal.Read.val_main_v8, Cert.Dwa0RefIdeal.Read.val_main_v7, Cert.Dwa0RefIdeal.Read.val_main_v6, Cert.Dwa0RefIdeal.Read.val_main_v5, Cert.Dwa0RefIdeal.Read.val_main_v4, Cert.Dwa0RefIdeal.Read.val_main_v3, Cert.Dwa0RefIdeal.Read.val_main_v1, mul_comm]
  by_cases hc : 0 ≤ b.val ∧ b.val < 0 + 1024
  · refine Eq.trans ?_ (gradRight_in 0 h ct dw a b (⟨b.val - 0, by omega⟩ : Fin 1024) (by show b.val = 0 + (b.val - 0); omega)).symm
    exact (dif_pos (show b.val < 1024 by omega))
  · refine Eq.trans ?_ (gradRight_out 0 h ct dw (ix2 a b) hc).symm
    exact (dif_neg (show ¬b.val < 1024 by omega)).trans (congrArg (fun q => dw (ix2 a q)) (Fin.ext (show 1024 + (b.val - 1024) = b.val by omega)))

/-- From equal arguments the kernel and the reference end with the same array, and with their arguments as they were. -/
theorem same (g : Dev nD → PrngReg) (m' : (ℓ : Loc Cert.Dwa0RefIdeal.nD Cert.Dwa0RefIdeal.τ Cert.Dwa0RefIdeal.sig) → Buf (Elt Ideal) ℓ) (g' : Dev Cert.Dwa0RefIdeal.nD → PrngReg)
    (hm : ∀ c : Dev nD, m' ((c.tc : Thread Cert.Dwa0RefIdeal.nD Cert.Dwa0RefIdeal.τ).loc Cert.Dwa0RefIdeal.main_arg0) = m ((c.tc : Thread nD τ).loc main_arg0)
      ∧ m' ((c.tc : Thread Cert.Dwa0RefIdeal.nD Cert.Dwa0RefIdeal.τ).loc Cert.Dwa0RefIdeal.main_arg1) = m ((c.tc : Thread nD τ).loc main_arg1)
      ∧ m' ((c.tc : Thread Cert.Dwa0RefIdeal.nD Cert.Dwa0RefIdeal.τ).loc Cert.Dwa0RefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Dwa0RefIdeal.defs (F := Ideal)) (onTc (τ := Cert.Dwa0RefIdeal.τ) (Cert.Dwa0RefIdeal.main (F := Ideal))) ⟨m', fun _ => 0, g'⟩ (fun r => ∀ c : Dev Cert.Dwa0RefIdeal.nD,
          r.2.mem ((c.tc : Thread Cert.Dwa0RefIdeal.nD Cert.Dwa0RefIdeal.τ).loc Cert.Dwa0RefIdeal.main_v8) = v0 c
          ∧ r.2.mem ((c.tc : Thread Cert.Dwa0RefIdeal.nD Cert.Dwa0RefIdeal.τ).loc Cert.Dwa0RefIdeal.main_arg0) = m' ((c.tc : Thread Cert.Dwa0RefIdeal.nD Cert.Dwa0RefIdeal.τ).loc Cert.Dwa0RefIdeal.main_arg0)
          ∧ r.2.mem ((c.tc : Thread Cert.Dwa0RefIdeal.nD Cert.Dwa0RefIdeal.τ).loc Cert.Dwa0RefIdeal.main_arg1) = m' ((c.tc : Thread Cert.Dwa0RefIdeal.nD Cert.Dwa0RefIdeal.τ).loc Cert.Dwa0RefIdeal.main_arg1)
          ∧ r.2.mem ((c.tc : Thread Cert.Dwa0RefIdeal.nD Cert.Dwa0RefIdeal.τ).loc Cert.Dwa0RefIdeal.main_arg2) = m' ((c.tc : Thread Cert.Dwa0RefIdeal.nD Cert.Dwa0RefIdeal.τ).loc Cert.Dwa0RefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.Dwa0RefIdeal.defs (F := Ideal)) _ _).mono (fun r h c => ⟨(h c).1.trans ?_, (h c).2⟩) (Cert.Dwa0RefIdeal.Value.run (F := Ideal) m' g')
    obtain ⟨h0, h1, h2⟩ := hm c
    rw [h0, h1, h2]
    exact ref_eq _ _ _

end Cert.Prod.Dwa0

end
-- ==== Proof.Prod.Dwa1.lean ====
/- `a_in_dw1`: the gradient in part 1 of the weights of the first block's input projection, written in place. -/
module

public import proofs.«01_k».proof.Proof.Gen.Dwa1Ideal.Value
public import proofs.«01_k».proof.Proof.Gen.Dwa1RefIdeal.Run
public import proofs.«01_k».proof.Proof.Gen.Dwa1RefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dwa1

open Cert.Dwa1Ideal Cert.Dwa1Ideal.Gen Idealize.ShloMosaic Idealize.ShloMosaic.StableHlo Idealize.ShloMosaic.TcCoe Idealize.SL.Sem

/-- The array the call gives. -/
abbrev G (h : FVec Ideal S2048x1024 .bf16) (ct : FVec Ideal S2048x1024 .bf16) (dw : FVec Ideal S1024x3072 .bf16) : FVec Ideal S1024x3072 .bf16 :=
  gradRight 1024 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val + 1] :=
  (by decide +kernel : ∀ t : Fin grid0.N, _)

theorem emb_out (t : Fin cfg0.N) (i : Fin 1024) (k : Fin 1024) :
    ((cfg0.win 2).blk t).view.emb (ix2 i k)
      = (ix2 i (⟨1024 + 1024 * t.val + k.val, by have := t.isLt; change t.val < 1 at this; omega⟩ : Fin 3072) : S1024x3072.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 1 at this; omega⟩ : Fin 1024)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 1 ≤ β (1 : Fin _) ∧ β (1 : Fin _) < 2) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 1 := t.isLt
    refine Eq.trans ?_ (gradRight_in 1024 _ _ _ i _ (⟨1024 * t.val + k.val, by omega⟩ : Fin 1024) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x3072.Idx) = j := rfl
    rw [e]
    refine Eq.trans ?_ (gradRight_out 1024 _ _ _ j ?_).symm
    · exact congrFun (entry m c) j
    · omega

/-- The reference's array. -/
theorem ref_eq (h : FVec Ideal S2048x1024 .bf16) (ct : FVec Ideal S2048x1024 .bf16) (dw : FVec Ideal S1024x3072 .bf16) : Cert.Dwa1RefIdeal.Read.val_main_v9 (F := Ideal) h ct dw = G h ct dw := by
  funext y
  obtain ⟨a, b, rfl⟩ : ∃ a b, y = ix2 a b := ⟨y 0, y 1, eq_ix2 y⟩
  pointwise [Cert.Dwa1RefIdeal.Read.val_main_v9, Cert.Dwa1RefIdeal.Read.val_main_v8, Cert.Dwa1RefIdeal.Read.val_main_v7, Cert.Dwa1RefIdeal.Read.val_main_v6, Cert.Dwa1RefIdeal.Read.val_main_v5, Cert.Dwa1RefIdeal.Read.val_main_v4, Cert.Dwa1RefIdeal.Read.val_main_v2, Cert.Dwa1RefIdeal.Read.val_main_v0, mul_comm]
  by_cases hc : 1024 ≤ b.val ∧ b.val < 1024 + 1024
  · refine Eq.trans ?_ (gradRight_in 1024 h ct dw a b (⟨b.val - 1024, by omega⟩ : Fin 1024) (by show b.val = 1024 + (b.val - 1024); omega)).symm
    exact (dif_neg (show ¬b.val < 1024 by omega)).trans (dif_pos (show b.val - 1024 < 1024 by omega))
  · refine Eq.trans ?_ (gradRight_out 1024 h ct dw (ix2 a b) hc).symm
    by_cases hb : b.val < 1024
    · exact dif_pos hb
    · exact (dif_neg hb).trans ((dif_neg (show ¬b.val - 1024 < 1024 by omega)).trans (congrArg (fun q => dw (ix2 a q)) (Fin.ext (show 2048 + (b.val - 1024 - 1024) = b.val by omega))))

/-- From equal arguments the kernel and the reference end with the same array, and with their arguments as they were. -/
theorem same (g : Dev nD → PrngReg) (m' : (ℓ : Loc Cert.Dwa1RefIdeal.nD Cert.Dwa1RefIdeal.τ Cert.Dwa1RefIdeal.sig) → Buf (Elt Ideal) ℓ) (g' : Dev Cert.Dwa1RefIdeal.nD → PrngReg)
    (hm : ∀ c : Dev nD, m' ((c.tc : Thread Cert.Dwa1RefIdeal.nD Cert.Dwa1RefIdeal.τ).loc Cert.Dwa1RefIdeal.main_arg0) = m ((c.tc : Thread nD τ).loc main_arg0)
      ∧ m' ((c.tc : Thread Cert.Dwa1RefIdeal.nD Cert.Dwa1RefIdeal.τ).loc Cert.Dwa1RefIdeal.main_arg1) = m ((c.tc : Thread nD τ).loc main_arg1)
      ∧ m' ((c.tc : Thread Cert.Dwa1RefIdeal.nD Cert.Dwa1RefIdeal.τ).loc Cert.Dwa1RefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Dwa1RefIdeal.defs (F := Ideal)) (onTc (τ := Cert.Dwa1RefIdeal.τ) (Cert.Dwa1RefIdeal.main (F := Ideal))) ⟨m', fun _ => 0, g'⟩ (fun r => ∀ c : Dev Cert.Dwa1RefIdeal.nD,
          r.2.mem ((c.tc : Thread Cert.Dwa1RefIdeal.nD Cert.Dwa1RefIdeal.τ).loc Cert.Dwa1RefIdeal.main_v9) = v0 c
          ∧ r.2.mem ((c.tc : Thread Cert.Dwa1RefIdeal.nD Cert.Dwa1RefIdeal.τ).loc Cert.Dwa1RefIdeal.main_arg0) = m' ((c.tc : Thread Cert.Dwa1RefIdeal.nD Cert.Dwa1RefIdeal.τ).loc Cert.Dwa1RefIdeal.main_arg0)
          ∧ r.2.mem ((c.tc : Thread Cert.Dwa1RefIdeal.nD Cert.Dwa1RefIdeal.τ).loc Cert.Dwa1RefIdeal.main_arg1) = m' ((c.tc : Thread Cert.Dwa1RefIdeal.nD Cert.Dwa1RefIdeal.τ).loc Cert.Dwa1RefIdeal.main_arg1)
          ∧ r.2.mem ((c.tc : Thread Cert.Dwa1RefIdeal.nD Cert.Dwa1RefIdeal.τ).loc Cert.Dwa1RefIdeal.main_arg2) = m' ((c.tc : Thread Cert.Dwa1RefIdeal.nD Cert.Dwa1RefIdeal.τ).loc Cert.Dwa1RefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.Dwa1RefIdeal.defs (F := Ideal)) _ _).mono (fun r h c => ⟨(h c).1.trans ?_, (h c).2⟩) (Cert.Dwa1RefIdeal.Value.run (F := Ideal) m' g')
    obtain ⟨h0, h1, h2⟩ := hm c
    rw [h0, h1, h2]
    exact ref_eq _ _ _

end Cert.Prod.Dwa1

end
-- ==== Proof.Prod.Dwa2.lean ====
/- `a_in_dw2`: the gradient in part 2 of the weights of the first block's input projection, written in place. -/
module

public import proofs.«01_k».proof.Proof.Gen.Dwa2Ideal.Value
public import proofs.«01_k».proof.Proof.Gen.Dwa2RefIdeal.Run
public import proofs.«01_k».proof.Proof.Gen.Dwa2RefIdeal.Read
public import proofs.«01_k».proof.Proof.Prod.Spec
public import Idealize.ShloMosaic.Lib.Pipeline.ValueKit
public import Idealize.ShloMosaic.Lib.Pipeline.ValueKit.Partial

@[expose] public section

set_option maxRecDepth 16384

noncomputable section

namespace Cert.Prod.Dwa2

open Cert.Dwa2Ideal Cert.Dwa2Ideal.Gen Idealize.ShloMosaic Idealize.ShloMosaic.StableHlo Idealize.ShloMosaic.TcCoe Idealize.SL.Sem

/-- The array the call gives. -/
abbrev G (h : FVec Ideal S2048x1024 .bf16) (ct : FVec Ideal S2048x1024 .bf16) (dw : FVec Ideal S1024x3072 .bf16) : FVec Ideal S1024x3072 .bf16 :=
  gradRight 2048 h ct dw

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val + 2] :=
  (by decide +kernel : ∀ t : Fin grid0.N, _)

theorem emb_out (t : Fin cfg0.N) (i : Fin 1024) (k : Fin 1024) :
    ((cfg0.win 2).blk t).view.emb (ix2 i k)
      = (ix2 i (⟨2048 + 1024 * t.val + k.val, by have := t.isLt; change t.val < 1 at this; omega⟩ : Fin 3072) : S1024x3072.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k)
      = V m c main_arg1 (ix2 i (⟨1024 * t.val + k.val, by have := t.isLt; change t.val < 1 at this; omega⟩ : Fin 1024)) := by
  unfold iblk
  blk_ext [idx t]

/-- The array written in place holds the third argument before the first point. -/
theorem entry (c : Dev nD) : V m c main_v0 = m ((c.tc : Thread nD τ).loc main_arg2) := by
  show StableHlo.after hostOps0 (fun b => m (c, b)) (Proc.devRef .tc main_v0) = _
  simp only [hostOps0]
  after_results
  rfl

/-- The kernel's array after the run. -/
theorem arr_eq (c : Dev nD) : (dats m 0 c).arrAt 2 cfg0.N = G (m ((c.tc : Thread nD τ).loc main_arg0)) (m ((c.tc : Thread nD τ).loc main_arg1)) (m ((c.tc : Thread nD τ).loc main_arg2)) := by
  refine (dats m 0 c).arrAt_eq_of_coversWhere_of_agree 2 _ (fun β => 2 ≤ β (1 : Fin _) ∧ β (1 : Fin _) < 3) (by decide +kernel)
    (fun t hf y => ?_) (fun j hj => ?_)
  · obtain ⟨i, k, rfl⟩ : ∃ i k, y = ix2 i k := ⟨y 0, y 1, eq_ix2 y⟩
    rw [emb_out]
    blk_simp
    rw [after0_2]
    unfold outsAt0 out0_A_2
    frame_out
    refine (pay_apply _ _ i k).trans ?_
    have ht : t.val < 1 := t.isLt
    refine Eq.trans ?_ (gradRight_in 2048 _ _ _ i _ (⟨1024 * t.val + k.val, by omega⟩ : Fin 1024) ?_).symm
    · refine Finset.sum_congr rfl fun q _ => ?_
      rw [blk0, blk1, V_main_arg0, V_main_arg1]
    · dsimp only
      omega
  · blk_simp [Pipeline.Window.cell_apply] at hj
    rw [A_eq]
    have e : ((cfg0.win 2).arr.view.emb j : S1024x3072.Idx) = j := rfl
    rw [e]
    refine Eq.trans ?_ (gradRight_out 2048 _ _ _ j ?_).symm
    · exact congrFun (entry m c) j
    · omega

/-- The reference's array. -/
theorem ref_eq (h : FVec Ideal S2048x1024 .bf16) (ct : FVec Ideal S2048x1024 .bf16) (dw : FVec Ideal S1024x3072 .bf16) : Cert.Dwa2RefIdeal.Read.val_main_v8 (F := Ideal) h ct dw = G h ct dw := by
  funext y
  obtain ⟨a, b, rfl⟩ : ∃ a b, y = ix2 a b := ⟨y 0, y 1, eq_ix2 y⟩
  pointwise [Cert.Dwa2RefIdeal.Read.val_main_v8, Cert.Dwa2RefIdeal.Read.val_main_v7, Cert.Dwa2RefIdeal.Read.val_main_v6, Cert.Dwa2RefIdeal.Read.val_main_v5, Cert.Dwa2RefIdeal.Read.val_main_v4, Cert.Dwa2RefIdeal.Read.val_main_v2, Cert.Dwa2RefIdeal.Read.val_main_v0, mul_comm]
  by_cases hc : 2048 ≤ b.val ∧ b.val < 2048 + 1024
  · refine Eq.trans ?_ (gradRight_in 2048 h ct dw a b (⟨b.val - 2048, by omega⟩ : Fin 1024) (by show b.val = 2048 + (b.val - 2048); omega)).symm
    exact (dif_neg (show ¬b.val < 2048 by omega))
  · refine Eq.trans ?_ (gradRight_out 2048 h ct dw (ix2 a b) hc).symm
    exact dif_pos (show b.val < 2048 by have := b.isLt; omega)

/-- From equal arguments the kernel and the reference end with the same array, and with their arguments as they were. -/
theorem same (g : Dev nD → PrngReg) (m' : (ℓ : Loc Cert.Dwa2RefIdeal.nD Cert.Dwa2RefIdeal.τ Cert.Dwa2RefIdeal.sig) → Buf (Elt Ideal) ℓ) (g' : Dev Cert.Dwa2RefIdeal.nD → PrngReg)
    (hm : ∀ c : Dev nD, m' ((c.tc : Thread Cert.Dwa2RefIdeal.nD Cert.Dwa2RefIdeal.τ).loc Cert.Dwa2RefIdeal.main_arg0) = m ((c.tc : Thread nD τ).loc main_arg0)
      ∧ m' ((c.tc : Thread Cert.Dwa2RefIdeal.nD Cert.Dwa2RefIdeal.τ).loc Cert.Dwa2RefIdeal.main_arg1) = m ((c.tc : Thread nD τ).loc main_arg1)
      ∧ m' ((c.tc : Thread Cert.Dwa2RefIdeal.nD Cert.Dwa2RefIdeal.τ).loc Cert.Dwa2RefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Dwa2RefIdeal.defs (F := Ideal)) (onTc (τ := Cert.Dwa2RefIdeal.τ) (Cert.Dwa2RefIdeal.main (F := Ideal))) ⟨m', fun _ => 0, g'⟩ (fun r => ∀ c : Dev Cert.Dwa2RefIdeal.nD,
          r.2.mem ((c.tc : Thread Cert.Dwa2RefIdeal.nD Cert.Dwa2RefIdeal.τ).loc Cert.Dwa2RefIdeal.main_v8) = v0 c
          ∧ r.2.mem ((c.tc : Thread Cert.Dwa2RefIdeal.nD Cert.Dwa2RefIdeal.τ).loc Cert.Dwa2RefIdeal.main_arg0) = m' ((c.tc : Thread Cert.Dwa2RefIdeal.nD Cert.Dwa2RefIdeal.τ).loc Cert.Dwa2RefIdeal.main_arg0)
          ∧ r.2.mem ((c.tc : Thread Cert.Dwa2RefIdeal.nD Cert.Dwa2RefIdeal.τ).loc Cert.Dwa2RefIdeal.main_arg1) = m' ((c.tc : Thread Cert.Dwa2RefIdeal.nD Cert.Dwa2RefIdeal.τ).loc Cert.Dwa2RefIdeal.main_arg1)
          ∧ r.2.mem ((c.tc : Thread Cert.Dwa2RefIdeal.nD Cert.Dwa2RefIdeal.τ).loc Cert.Dwa2RefIdeal.main_arg2) = m' ((c.tc : Thread Cert.Dwa2RefIdeal.nD Cert.Dwa2RefIdeal.τ).loc Cert.Dwa2RefIdeal.main_arg2)) := by
  refine ⟨fun c => G (m ((c.tc : Thread nD τ).loc main_arg0)) (m ((c.tc : Thread nD τ).loc main_arg1)) (m ((c.tc : Thread nD τ).loc main_arg2)), ?_, ?_⟩
  · exact (θ_run (defs (F := Ideal)) _ _).mono (fun r h c => ⟨(h c).1.trans (arr_eq m c), (h c).2⟩) (Value.run_blocks m g)
  · refine (θ_run (Cert.Dwa2RefIdeal.defs (F := Ideal)) _ _).mono (fun r h c => ⟨(h c).1.trans ?_, (h c).2⟩) (Cert.Dwa2RefIdeal.Value.run (F := Ideal) m' g')
    obtain ⟨h0, h1, h2⟩ := hm c
    rw [h0, h1, h2]
    exact ref_eq _ _ _

end Cert.Prod.Dwa2

end
-- ==== Proof.Prod.OutDw.lean ====
/- `a_out_dw`, `b_out_dw`: the gradient in the weights of an output projection. -/
module

public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Prod.Spec
public import Idealize.ShloMosaic.Lib.Pipeline.ValueKit

@[expose] public section

set_option maxRecDepth 16384

noncomputable section

namespace Cert.Prod.OutDw

open Cert.OutDwIdeal Cert.OutDwIdeal.Gen Idealize.ShloMosaic Idealize.ShloMosaic.StableHlo Idealize.ShloMosaic.TcCoe Idealize.SL.Sem

/-- The array the call gives. -/
abbrev G (h : FVec Ideal S2048x1024 .bf16) (ct : FVec Ideal S2048x1024 .bf16) : FVec Ideal S1024x1024 .bf16 :=
  fun y => ∑ k : Fin 2048, h (ix2 k (y 0)) * ct (ix2 k (y 1))

/-- One grid point's product. -/
theorem pay_apply (x g : FVec Ideal S2048x1024 .bf16) (r c : Fin 1024) :
    k0_pay3 (F := Ideal) (k0_pay2 (F := Ideal) (k0_pay1 (F := Ideal)) x g) (ix2 r c) = ∑ k : Fin 2048, x (ix2 k r) * g (ix2 k c) := by
  pointwise [k0_pay1, k0_pay2, k0_pay3]

variable (m : (ℓ : Loc nD τ sig) → Buf (Elt Ideal) ℓ)

/-- Which block each grid point moves. -/
theorem idx : ∀ t : Fin cfg0.N, win0_0.index t = ![0, 0] ∧ win0_1.index t = ![0, 0] ∧ win0_2.index t = ![0, 0] :=
  (by decide +kernel : ∀ t : Fin grid0.N, _)

theorem emb_out (t : Fin cfg0.N) (i : Fin 1024) (k : Fin 1024) :
    ((cfg0.win 2).blk t).view.emb (ix2 i k) = (ix2 i k : S1024x1024.Idx) := by
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 2048) (k : Fin 1024) :
    iblk m c 1 t (ix2 i k) = V m c main_arg1 (ix2 i k) := by
  unfold iblk
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold outsAt0 out0_A_2
  frame_out
  refine (pay_apply _ _ i k).trans (Finset.sum_congr rfl fun q _ => ?_)
  rw [blk0, blk1, V_main_arg0, V_main_arg1]
  rfl

/-- The reference's array. -/
theorem ref_eq (h : FVec Ideal S2048x1024 .bf16) (ct : FVec Ideal S2048x1024 .bf16) : Cert.OutDwRefIdeal.Read.val_main_v6 (F := Ideal) h ct = G h ct := by
  funext y
  obtain ⟨a, b, rfl⟩ : ∃ a b, y = ix2 a b := ⟨y 0, y 1, eq_ix2 y⟩
  pointwise [Cert.OutDwRefIdeal.Read.val_main_v6, Cert.OutDwRefIdeal.Read.val_main_v5, Cert.OutDwRefIdeal.Read.val_main_v4, Cert.OutDwRefIdeal.Read.val_main_v3, Cert.OutDwRefIdeal.Read.val_main_v1, G, mul_comm]

/-- From equal arguments the kernel and the reference end with the same array, and with their arguments as they were. -/
theorem same (g : Dev nD → PrngReg) (m' : (ℓ : Loc Cert.OutDwRefIdeal.nD Cert.OutDwRefIdeal.τ Cert.OutDwRefIdeal.sig) → Buf (Elt Ideal) ℓ) (g' : Dev Cert.OutDwRefIdeal.nD → PrngReg)
    (hm : ∀ c : Dev nD, m' ((c.tc : Thread Cert.OutDwRefIdeal.nD Cert.OutDwRefIdeal.τ).loc Cert.OutDwRefIdeal.main_arg0) = m ((c.tc : Thread nD τ).loc main_arg0)
      ∧ m' ((c.tc : Thread Cert.OutDwRefIdeal.nD Cert.OutDwRefIdeal.τ).loc Cert.OutDwRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.OutDwRefIdeal.defs (F := Ideal)) _ _).mono (fun r h c => ⟨(h c).1.trans ?_, (h c).2⟩) (Cert.OutDwRefIdeal.Value.run (F := Ideal) m' g')
    obtain ⟨h0, h1⟩ := hm c
    rw [h0, h1]
    exact ref_eq _ _

end Cert.Prod.OutDw

end
-- ==== Proof.Prod.OutDx.lean ====
/- `a_out_dx`, `b_out_dx`: the gradient in the activations of an output projection. -/
module

public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Prod.Spec
public import Idealize.ShloMosaic.Lib.Pipeline.ValueKit

@[expose] public section

set_option maxRecDepth 16384

noncomputable section

namespace Cert.Prod.OutDx

open Cert.OutDxIdeal Cert.OutDxIdeal.Gen Idealize.ShloMosaic Idealize.ShloMosaic.StableHlo Idealize.ShloMosaic.TcCoe Idealize.SL.Sem

/-- The array the call gives. -/
abbrev G (ct : FVec Ideal S2048x1024 .bf16) (w : FVec Ideal S1024x1024 .bf16) : FVec Ideal S2048x1024 .bf16 :=
  gradLeft 0 (by decide) ct w

/-- One grid point's product. -/
theorem pay_apply (x : FVec Ideal S2048x1024 .bf16) (w : FVec Ideal S512x1024 .bf16) (r : Fin 2048) (c : Fin 512) :
    k0_pay1 (F := Ideal) x w (ix2 r c) = ∑ k : Fin 1024, x (ix2 r k) * w (ix2 c k) := by
  pointwise [k0_pay1]

variable (m : (ℓ : Loc nD τ sig) → Buf (Elt Ideal) ℓ)

/-- Which block each grid point moves. -/
theorem idx : ∀ t : Fin cfg0.N, win0_0.index t = ![0, 0] ∧ win0_1.index t = ![t.val, 0] ∧ win0_2.index t = ![0, t.val] :=
  (by decide +kernel : ∀ t : Fin grid0.N, _)

/-- Column `i` of grid point `t`'s block. -/
abbrev col (t : Fin cfg0.N) (i : Fin 512) : Fin 1024 :=
  ⟨512 * t.val + i.val, by have := t.isLt; change t.val < 2 at this; omega⟩

theorem emb_out (t : Fin cfg0.N) (i : Fin 2048) (k : Fin 512) :
    ((cfg0.win 2).blk t).view.emb (ix2 i k) = (ix2 i (col t k) : S2048x1024.Idx) := by
  unfold col
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 512) (k : Fin 1024) :
    iblk m c 1 t (ix2 i k) = V m c main_arg1 (ix2 (col t i) (⟨0 + k.val, by omega⟩ : Fin 1024)) := by
  unfold iblk col
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold out0_2
  frame_out
  refine (pay_apply _ _ i k).trans (Finset.sum_congr rfl fun q _ => ?_)
  rw [blk0, blk1, V_main_arg0, V_main_arg1]
  rfl

/-- The reference's array. -/
theorem ref_eq (ct : FVec Ideal S2048x1024 .bf16) (w : FVec Ideal S1024x1024 .bf16) : Cert.OutDxRefIdeal.Read.val_main_v5 (F := Ideal) ct w = G ct w := by
  funext y
  obtain ⟨a, b, rfl⟩ : ∃ a b, y = ix2 a b := ⟨y 0, y 1, eq_ix2 y⟩
  pointwise [Cert.OutDxRefIdeal.Read.val_main_v5, Cert.OutDxRefIdeal.Read.val_main_v4, Cert.OutDxRefIdeal.Read.val_main_v3, Cert.OutDxRefIdeal.Read.val_main_v1, G, gradLeft]

/-- From equal arguments the kernel and the reference end with the same array, and with their arguments as they were. -/
theorem same (g : Dev nD → PrngReg) (m' : (ℓ : Loc Cert.OutDxRefIdeal.nD Cert.OutDxRefIdeal.τ Cert.OutDxRefIdeal.sig) → Buf (Elt Ideal) ℓ) (g' : Dev Cert.OutDxRefIdeal.nD → PrngReg)
    (hm : ∀ c : Dev nD, m' ((c.tc : Thread Cert.OutDxRefIdeal.nD Cert.OutDxRefIdeal.τ).loc Cert.OutDxRefIdeal.main_arg0) = m ((c.tc : Thread nD τ).loc main_arg0)
      ∧ m' ((c.tc : Thread Cert.OutDxRefIdeal.nD Cert.OutDxRefIdeal.τ).loc Cert.OutDxRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.OutDxRefIdeal.defs (F := Ideal)) _ _).mono (fun r h c => ⟨(h c).1.trans ?_, (h c).2⟩) (Cert.OutDxRefIdeal.Value.run (F := Ideal) m' g')
    obtain ⟨h0, h1⟩ := hm c
    rw [h0, h1]
    exact ref_eq _ _

end Cert.Prod.OutDx

end
-- ==== Proof.Prod.FwdIn.lean ====
/- `a_in_fwd`: the first block's input projection. -/
module

public import proofs.«01_k».proof.Proof.Gen.FwdInIdeal.Value
public import proofs.«01_k».proof.Proof.Gen.FwdInRefIdeal.Run
public import proofs.«01_k».proof.Proof.Gen.FwdInRefIdeal.Read
public import proofs.«01_k».proof.Proof.Prod.Spec
public import Idealize.ShloMosaic.Lib.Pipeline.ValueKit

@[expose] public section

set_option maxRecDepth 16384

noncomputable section

namespace Cert.Prod.FwdIn

open Cert.FwdInIdeal Cert.FwdInIdeal.Gen Idealize.ShloMosaic Idealize.ShloMosaic.StableHlo Idealize.ShloMosaic.TcCoe Idealize.SL.Sem

/-- The array the call gives. -/
abbrev G (h : FVec Ideal S2048x1024 .bf16) (w : FVec Ideal S1024x3072 .bf16) : FVec Ideal S2048x3072 .f32 :=
  project 0 (by decide) h w

/-- One grid point's product. -/
theorem pay_apply (x : FVec Ideal S2048x1024 .bf16) (w : FVec Ideal S1024x512 .bf16) (r : Fin 2048) (c : Fin 512) :
    k0_pay1 (F := Ideal) x w (ix2 r c) = ∑ k : Fin 1024, x (ix2 r k) * w (ix2 k c) := by
  pointwise [k0_pay1]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val] :=
  (by decide +kernel : ∀ t : Fin grid0.N, _)

/-- Column `i` of grid point `t`'s block. -/
abbrev col (t : Fin cfg0.N) (i : Fin 512) : Fin 3072 :=
  ⟨512 * t.val + i.val, by have := t.isLt; change t.val < 6 at this; omega⟩

theorem emb_out (t : Fin cfg0.N) (i : Fin 2048) (k : Fin 512) :
    ((cfg0.win 2).blk t).view.emb (ix2 i k) = (ix2 i (col t k) : S2048x3072.Idx) := by
  unfold col
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 1024) (k : Fin 512) :
    iblk m c 1 t (ix2 i k) = V m c main_arg1 (ix2 i (⟨0 + (col t k).val, by have := (col t k).isLt; omega⟩ : Fin 3072)) := by
  unfold iblk col
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold out0_2
  frame_out
  refine (pay_apply _ _ i k).trans (Finset.sum_congr rfl fun q _ => ?_)
  rw [blk0, blk1, V_main_arg0, V_main_arg1]
  rfl

/-- The reference's array. -/
theorem ref_eq (h : FVec Ideal S2048x1024 .bf16) (w : FVec Ideal S1024x3072 .bf16) : Cert.FwdInRefIdeal.Read.val_main_v2 (F := Ideal) h w = G h w := by
  funext y
  obtain ⟨a, b, rfl⟩ : ∃ a b, y = ix2 a b := ⟨y 0, y 1, eq_ix2 y⟩
  pointwise [Cert.FwdInRefIdeal.Read.val_main_v2, Cert.FwdInRefIdeal.Read.val_main_v1, Cert.FwdInRefIdeal.Read.val_main_v0, G, project]

/-- From equal arguments the kernel and the reference end with the same array, and with their arguments as they were. -/
theorem same (g : Dev nD → PrngReg) (m' : (ℓ : Loc Cert.FwdInRefIdeal.nD Cert.FwdInRefIdeal.τ Cert.FwdInRefIdeal.sig) → Buf (Elt Ideal) ℓ) (g' : Dev Cert.FwdInRefIdeal.nD → PrngReg)
    (hm : ∀ c : Dev nD, m' ((c.tc : Thread Cert.FwdInRefIdeal.nD Cert.FwdInRefIdeal.τ).loc Cert.FwdInRefIdeal.main_arg0) = m ((c.tc : Thread nD τ).loc main_arg0)
      ∧ m' ((c.tc : Thread Cert.FwdInRefIdeal.nD Cert.FwdInRefIdeal.τ).loc Cert.FwdInRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v2) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.FwdInRefIdeal.defs (F := Ideal)) _ _).mono (fun r h c => ⟨(h c).1.trans ?_, (h c).2⟩) (Cert.FwdInRefIdeal.Value.run (F := Ideal) m' g')
    obtain ⟨h0, h1⟩ := hm c
    rw [h0, h1]
    exact ref_eq _ _

end Cert.Prod.FwdIn

end
-- ==== Proof.Prod.FwdOut.lean ====
/- `a_out_fwd`: the first block's output projection. -/
module

public import proofs.«01_k».proof.Proof.Gen.FwdOutIdeal.Value
public import proofs.«01_k».proof.Proof.Gen.FwdOutRefIdeal.Run
public import proofs.«01_k».proof.Proof.Gen.FwdOutRefIdeal.Read
public import proofs.«01_k».proof.Proof.Prod.Spec
public import Idealize.ShloMosaic.Lib.Pipeline.ValueKit

@[expose] public section

set_option maxRecDepth 16384

noncomputable section

namespace Cert.Prod.FwdOut

open Cert.FwdOutIdeal Cert.FwdOutIdeal.Gen Idealize.ShloMosaic Idealize.ShloMosaic.StableHlo Idealize.ShloMosaic.TcCoe Idealize.SL.Sem

/-- The array the call gives. -/
abbrev G (h : FVec Ideal S2048x1024 .bf16) (w : FVec Ideal S1024x1024 .bf16) : FVec Ideal S2048x1024 .f32 :=
  project 0 (by decide) h w

/-- One grid point's product. -/
theorem pay_apply (x : FVec Ideal S2048x1024 .bf16) (w : FVec Ideal S1024x512 .bf16) (r : Fin 2048) (c : Fin 512) :
    k0_pay1 (F := Ideal) x w (ix2 r c) = ∑ k : Fin 1024, x (ix2 r k) * w (ix2 k c) := by
  pointwise [k0_pay1]

variable (m : (ℓ : Loc nD τ sig) → Buf (Elt Ideal) ℓ)

/-- Which block each grid point moves. -/
theorem idx : ∀ t : Fin cfg0.N, win0_0.index t = ![0, 0] ∧ win0_1.index t = ![0, t.val] ∧ win0_2.index t = ![0, t.val] :=
  (by decide +kernel : ∀ t : Fin grid0.N, _)

/-- Column `i` of grid point `t`'s block. -/
abbrev col (t : Fin cfg0.N) (i : Fin 512) : Fin 1024 :=
  ⟨512 * t.val + i.val, by have := t.isLt; change t.val < 2 at this; omega⟩

theorem emb_out (t : Fin cfg0.N) (i : Fin 2048) (k : Fin 512) :
    ((cfg0.win 2).blk t).view.emb (ix2 i k) = (ix2 i (col t k) : S2048x1024.Idx) := by
  unfold col
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 1024) (k : Fin 512) :
    iblk m c 1 t (ix2 i k) = V m c main_arg1 (ix2 i (⟨0 + (col t k).val, by have := (col t k).isLt; omega⟩ : Fin 1024)) := by
  unfold iblk col
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold out0_2
  frame_out
  refine (pay_apply _ _ i k).trans (Finset.sum_congr rfl fun q _ => ?_)
  rw [blk0, blk1, V_main_arg0, V_main_arg1]
  rfl

/-- The reference's array. -/
theorem ref_eq (h : FVec Ideal S2048x1024 .bf16) (w : FVec Ideal S1024x1024 .bf16) : Cert.FwdOutRefIdeal.Read.val_main_v2 (F := Ideal) h w = G h w := by
  funext y
  obtain ⟨a, b, rfl⟩ : ∃ a b, y = ix2 a b := ⟨y 0, y 1, eq_ix2 y⟩
  pointwise [Cert.FwdOutRefIdeal.Read.val_main_v2, Cert.FwdOutRefIdeal.Read.val_main_v1, Cert.FwdOutRefIdeal.Read.val_main_v0, G, project]

/-- From equal arguments the kernel and the reference end with the same array, and with their arguments as they were. -/
theorem same (g : Dev nD → PrngReg) (m' : (ℓ : Loc Cert.FwdOutRefIdeal.nD Cert.FwdOutRefIdeal.τ Cert.FwdOutRefIdeal.sig) → Buf (Elt Ideal) ℓ) (g' : Dev Cert.FwdOutRefIdeal.nD → PrngReg)
    (hm : ∀ c : Dev nD, m' ((c.tc : Thread Cert.FwdOutRefIdeal.nD Cert.FwdOutRefIdeal.τ).loc Cert.FwdOutRefIdeal.main_arg0) = m ((c.tc : Thread nD τ).loc main_arg0)
      ∧ m' ((c.tc : Thread Cert.FwdOutRefIdeal.nD Cert.FwdOutRefIdeal.τ).loc Cert.FwdOutRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v2) = v0 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.FwdOutRefIdeal.defs (F := Ideal)) _ _).mono (fun r h c => ⟨(h c).1.trans ?_, (h c).2⟩) (Cert.FwdOutRefIdeal.Value.run (F := Ideal) m' g')
    obtain ⟨h0, h1⟩ := hm c
    rw [h0, h1]
    exact ref_eq _ _

end Cert.Prod.FwdOut

end
-- ==== Proof.Prod.FwdZ.lean ====
/- `b_in_fwd_z`: the projection to the gate. -/
module

public import proofs.«01_k».proof.Proof.Gen.FwdZIdeal.Value
public import proofs.«01_k».proof.Proof.Gen.FwdZRefIdeal.Run
public import proofs.«01_k».proof.Proof.Gen.FwdZRefIdeal.Read
public import proofs.«01_k».proof.Proof.Prod.Spec
public import Idealize.ShloMosaic.Lib.Pipeline.ValueKit

@[expose] public section

set_option maxRecDepth 16384

noncomputable section

namespace Cert.Prod.FwdZ

open Cert.FwdZIdeal Cert.FwdZIdeal.Gen Idealize.ShloMosaic Idealize.ShloMosaic.StableHlo Idealize.ShloMosaic.TcCoe Idealize.SL.Sem

/-- The array the call gives. -/
abbrev G (h : FVec Ideal S2048x1024 .bf16) (w : FVec Ideal S1024x10240 .bf16) : FVec Ideal S2048x1024 .f32 :=
  project 9216 (by decide) h w

/-- One grid point's product. -/
theorem pay_apply (x : FVec Ideal S2048x1024 .bf16) (w : FVec Ideal S1024x512 .bf16) (r : Fin 2048) (c : Fin 512) :
    k0_pay1 (F := Ideal) x w (ix2 r c) = ∑ k : Fin 1024, x (ix2 r k) * w (ix2 k c) := by
  pointwise [k0_pay1]

variable (m : (ℓ : Loc nD τ sig) → Buf (Elt Ideal) ℓ)

/-- Which block each grid point moves. -/
theorem idx : ∀ t : Fin cfg0.N, win0_0.index t = ![0, 0] ∧ win0_1.index t = ![0, t.val + 18] ∧ win0_2.index t = ![0, t.val] :=
  (by decide +kernel : ∀ t : Fin grid0.N, _)

/-- Column `i` of grid point `t`'s block. -/
abbrev col (t : Fin cfg0.N) (i : Fin 512) : Fin 1024 :=
  ⟨512 * t.val + i.val, by have := t.isLt; change t.val < 2 at this; omega⟩

theorem emb_out (t : Fin cfg0.N) (i : Fin 2048) (k : Fin 512) :
    ((cfg0.win 2).blk t).view.emb (ix2 i k) = (ix2 i (col t k) : S2048x1024.Idx) := by
  unfold col
  blk_ext [idx t]

theorem blk0 (c : Dev nD) (t : Fin cfg0.N) (i : Fin 2048) (k : Fin 1024) :
    iblk m c 0 t (ix2 i k) = V m c main_arg0 (ix2 i k) := by
  unfold iblk
  blk_ext [idx t]

theorem blk1 (c : Dev nD) (t : Fin cfg0.N) (i : Fin 1024) (k : Fin 512) :
    iblk m c 1 t (ix2 i k) = V m c main_arg1 (ix2 i (⟨9216 + (col t k).val, by have := (col t k).isLt; omega⟩ : Fin 10240)) := by
  unfold iblk col
  blk_ext [idx t]

/-- The kernel's array after the run. -/
theorem arr_eq (c : Dev nD) : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  obtain ⟨i, k, rfl⟩ : ∃ i k, y = ix2 i k := ⟨y 0, y 1, eq_ix2 y⟩
  rw [emb_out]
  blk_simp
  rw [after0_2]
  unfold out0_2
  frame_out
  refine (pay_apply _ _ i k).trans (Finset.sum_congr rfl fun q _ => ?_)
  rw [blk0, blk1, V_main_arg0, V_main_arg1]
  rfl

/-- The reference's array. -/
theorem ref_eq (h : FVec Ideal S2048x1024 .bf16) (w : FVec Ideal S1024x10240 .bf16) : Cert.FwdZRefIdeal.Read.val_main_v3 (F := Ideal) h w = G h w := by
  funext y
  obtain ⟨a, b, rfl⟩ : ∃ a b, y = ix2 a b := ⟨y 0, y 1, eq_ix2 y⟩
  pointwise [Cert.FwdZRefIdeal.Read.val_main_v3, Cert.FwdZRefIdeal.Read.val_main_v2, Cert.FwdZRefIdeal.Read.val_main_v1, Cert.FwdZRefIdeal.Read.val_main_v0, G, project]

/-- From equal arguments the kernel and the reference end with the same array, and with their arguments as they were. -/
theorem same (g : Dev nD → PrngReg) (m' : (ℓ : Loc Cert.FwdZRefIdeal.nD Cert.FwdZRefIdeal.τ Cert.FwdZRefIdeal.sig) → Buf (Elt Ideal) ℓ) (g' : Dev Cert.FwdZRefIdeal.nD → PrngReg)
    (hm : ∀ c : Dev nD, m' ((c.tc : Thread Cert.FwdZRefIdeal.nD Cert.FwdZRefIdeal.τ).loc Cert.FwdZRefIdeal.main_arg0) = m ((c.tc : Thread nD τ).loc main_arg0)
      ∧ m' ((c.tc : Thread Cert.FwdZRefIdeal.nD Cert.FwdZRefIdeal.τ).loc Cert.FwdZRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.FwdZRefIdeal.defs (F := Ideal)) (onTc (τ := Cert.FwdZRefIdeal.τ) (Cert.FwdZRefIdeal.main (F := Ideal))) ⟨m', fun _ => 0, g'⟩ (fun r => ∀ c : Dev Cert.FwdZRefIdeal.nD,
          r.2.mem ((c.tc : Thread Cert.FwdZRefIdeal.nD Cert.FwdZRefIdeal.τ).loc Cert.FwdZRefIdeal.main_v3) = v0 c
          ∧ r.2.mem ((c.tc : Thread Cert.FwdZRefIdeal.nD Cert.FwdZRefIdeal.τ).loc Cert.FwdZRefIdeal.main_arg0) = m' ((c.tc : Thread Cert.FwdZRefIdeal.nD Cert.FwdZRefIdeal.τ).loc Cert.FwdZRefIdeal.main_arg0)
          ∧ r.2.mem ((c.tc : Thread Cert.FwdZRefIdeal.nD Cert.FwdZRefIdeal.τ).loc Cert.FwdZRefIdeal.main_arg1) = m' ((c.tc : Thread Cert.FwdZRefIdeal.nD Cert.FwdZRefIdeal.τ).loc Cert.FwdZRefIdeal.main_arg1)) := by
  refine ⟨fun c => G (m ((c.tc : Thread nD τ).loc main_arg0)) (m ((c.tc : Thread nD τ).loc main_arg1)), ?_, ?_⟩
  · exact (θ_run (defs (F := Ideal)) _ _).mono (fun r h c => ⟨(h c).1.trans (arr_eq m c), (h c).2⟩) (Value.run_blocks m g)
  · refine (θ_run (Cert.FwdZRefIdeal.defs (F := Ideal)) _ _).mono (fun r h c => ⟨(h c).1.trans ?_, (h c).2⟩) (Cert.FwdZRefIdeal.Value.run (F := Ideal) m' g')
    obtain ⟨h0, h1⟩ := hm c
    rw [h0, h1]
    exact ref_eq _ _

end Cert.Prod.FwdZ

end
-- ==== Proof.Rows.MidFwd.lean ====
/- `mid_fwd`: the middle of the mixer — layer norm, SiLU, the SiLU gate — 512 rows at a grid point. -/
module

public import proofs.«01_k».proof.Proof.Gen.MidFwdIdeal.Value
public import proofs.«01_k».proof.Proof.Gen.MidFwdRefIdeal.Run
public import proofs.«01_k».proof.Proof.Gen.MidFwdRefIdeal.Read
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.MidFwd

open Cert.MidFwdIdeal Cert.MidFwdIdeal.Gen Cert.MidFwdRefIdeal.Read Idealize.ShloMosaic Idealize.ShloMosaic.StableHlo Idealize.ShloMosaic.TcCoe Idealize.SL.Sem

section rows

variable {u : FVec Ideal S2048x1024 .f32} {z : FVec Ideal S2048x3072 .f32} {g b : FVec Ideal S1x1024 .f32}
variable {v0 v1 : FVec Ideal S512x1024 .f32} {r : Fin 512} {R : Fin 2048}

/-- One row of a block is the reference's row. -/
theorem row_mid (hu : ∀ c, v0 (ix2 r c) = u (ix2 R c)) (hz : ∀ c, v1 (ix2 r c) = val_main_v0 (F := Ideal) z (ix2 R c)) (c : Fin 1024) :
    k0_pay1 (F := Ideal) v0 v1 g b (ix2 r c) = val_main_v24 (F := Ideal) u z g b (ix2 R c) := by
  pointwise [k0_pay1, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0, hu, hz]
  rfl

end rows

variable (m : (ℓ : Loc nD τ sig) → Buf (Elt Ideal) ℓ)

theorem idx : ∀ t : Fin cfg0.N, win0_0.index t = ![t.val, 0] ∧ win0_1.index t = ![t.val, 2] ∧ win0_2.index t = ![0, 0] ∧ win0_3.index t = ![0, 0]
    ∧ win0_4.index t = ![t.val, 0] :=
  (by decide +kernel : ∀ t : Fin grid0.N, _)

/-- The array row a block's row is. -/
abbrev row (t : Fin cfg0.N) (i : Fin 512) : Fin 2048 := ⟨512 * t.val + i.val, by have := t.isLt; change t.val < 4 at this; omega⟩

theorem blk0 (c : Dev nD) (t : Fin cfg0.N) (i : Fin 512) (k : Fin 1024) : iblk m c 0 t (ix2 i k) = V m c main_arg0 (ix2 (row t i) k) := by
  unfold iblk
  blk_ext [idx t]

/-- The gate's argument: the columns from 2048 on. -/
theorem blk1 (c : Dev nD) (t : Fin cfg0.N) (i : Fin 512) (k : Fin 1024) : iblk m c 1 t (ix2 i k) = val_main_v0 (F := Ideal) (V m c main_arg1) (ix2 (row t i) k) := by
  unfold iblk
  pointwise [val_main_v0]
  blk_ext [idx t]

theorem blk2 (c : Dev nD) (t : Fin cfg0.N) : iblk m c 2 t = V m c main_arg2 := by
  funext y
  obtain ⟨i, k, rfl⟩ : ∃ i k, y = ix2 i k := ⟨y 0, y 1, eq_ix2 y⟩
  obtain rfl : i = 0 := Subsingleton.elim _ _
  unfold iblk
  blk_ext [idx t]

theorem blk3 (c : Dev nD) (t : Fin cfg0.N) : iblk m c 3 t = V m c main_arg3 := by
  funext y
  obtain ⟨i, k, rfl⟩ : ∃ i k, y = ix2 i k := ⟨y 0, y 1, eq_ix2 y⟩
  obtain rfl : i = 0 := Subsingleton.elim _ _
  unfold iblk
  blk_ext [idx t]

theorem emb4 (t : Fin cfg0.N) (i : Fin 512) (k : Fin 1024) :
    ((cfg0.win 4).blk t).view.emb (ix2 i k) = (ix2 (row t i) k : S2048x1024.Idx) := by
  blk_ext [idx t]

theorem out_eq (x0 x1 x2 x3) : out0_4 (F := Ideal) x0 x1 x2 x3 = k0_pay1 (F := Ideal) x0 x1 x2 x3 := by
  unfold out0_4
  frame_out

/-- The array after the run. -/
theorem arr4 (c : Dev nD) : (dats m 0 c).arrAt 4 cfg0.N
    = val_main_v24 (F := Ideal) (V m c main_arg0) (V m c main_arg1) (V m c main_arg2) (V m c main_arg3) := by
  refine (dats m 0 c).arrAt_eq_of_covers 4 _ (by decide +kernel) (fun t hf y => ?_)
  obtain ⟨i, k, rfl⟩ : ∃ i k, y = ix2 i k := ⟨y 0, y 1, eq_ix2 y⟩
  rw [emb4]
  blk_simp
  rw [after0_4, out_eq, blk2, blk3]
  exact row_mid (blk0 m c t i) (blk1 m c t i) k

/-- From equal arguments the kernel and the reference end with the same arrays, and with their arguments as they were. -/
theorem same (g : Dev nD → PrngReg) (m' : (ℓ : Loc Cert.MidFwdRefIdeal.nD Cert.MidFwdRefIdeal.τ Cert.MidFwdRefIdeal.sig) → Buf (Elt Ideal) ℓ) (g' : Dev Cert.MidFwdRefIdeal.nD → PrngReg)
    (hm : ∀ c : Dev nD, m' ((c.tc : Thread Cert.MidFwdRefIdeal.nD Cert.MidFwdRefIdeal.τ).loc Cert.MidFwdRefIdeal.main_arg0) = m ((c.tc : Thread nD τ).loc main_arg0)
      ∧ m' ((c.tc : Thread Cert.MidFwdRefIdeal.nD Cert.MidFwdRefIdeal.τ).loc Cert.MidFwdRefIdeal.main_arg1) = m ((c.tc : Thread nD τ).loc main_arg1)
      ∧ m' ((c.tc : Thread Cert.MidFwdRefIdeal.nD Cert.MidFwdRefIdeal.τ).loc Cert.MidFwdRefIdeal.main_arg2) = m ((c.tc : Thread nD τ).loc main_arg2)
      ∧ m' ((c.tc : Thread Cert.MidFwdRefIdeal.nD Cert.MidFwdRefIdeal.τ).loc Cert.MidFwdRefIdeal.main_arg3) = m ((c.tc : Thread nD τ).loc main_arg3)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.MidFwdRefIdeal.defs (F := Ideal)) (onTc (τ := Cert.MidFwdRefIdeal.τ) (Cert.MidFwdRefIdeal.main (F := Ideal))) ⟨m', fun _ => 0, g'⟩ (fun r => ∀ c : Dev Cert.MidFwdRefIdeal.nD,
          r.2.mem ((c.tc : Thread Cert.MidFwdRefIdeal.nD Cert.MidFwdRefIdeal.τ).loc Cert.MidFwdRefIdeal.main_v24) = v0 c
          ∧ r.2.mem ((c.tc : Thread Cert.MidFwdRefIdeal.nD Cert.MidFwdRefIdeal.τ).loc Cert.MidFwdRefIdeal.main_arg0) = m' ((c.tc : Thread Cert.MidFwdRefIdeal.nD Cert.MidFwdRefIdeal.τ).loc Cert.MidFwdRefIdeal.main_arg0)
          ∧ r.2.mem ((c.tc : Thread Cert.MidFwdRefIdeal.nD Cert.MidFwdRefIdeal.τ).loc Cert.MidFwdRefIdeal.main_arg1) = m' ((c.tc : Thread Cert.MidFwdRefIdeal.nD Cert.MidFwdRefIdeal.τ).loc Cert.MidFwdRefIdeal.main_arg1)
          ∧ r.2.mem ((c.tc : Thread Cert.MidFwdRefIdeal.nD Cert.MidFwdRefIdeal.τ).loc Cert.MidFwdRefIdeal.main_arg2) = m' ((c.tc : Thread Cert.MidFwdRefIdeal.nD Cert.MidFwdRefIdeal.τ).loc Cert.MidFwdRefIdeal.main_arg2)
          ∧ r.2.mem ((c.tc : Thread Cert.MidFwdRefIdeal.nD Cert.MidFwdRefIdeal.τ).loc Cert.MidFwdRefIdeal.main_arg3) = m' ((c.tc : Thread Cert.MidFwdRefIdeal.nD Cert.MidFwdRefIdeal.τ).loc Cert.MidFwdRefIdeal.main_arg3)) := by
  refine ⟨fun c => val_main_v24 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run (defs (F := Ideal)) _ _).mono (fun r h c => ⟨(h c).1.trans (arr4 m c), (h c).2⟩) (Value.run_blocks m g)
  · refine (θ_run (Cert.MidFwdRefIdeal.defs (F := Ideal)) _ _).mono (fun r h c => ⟨(h c).1.trans ?_, (h c).2⟩) (Cert.MidFwdRefIdeal.Value.run (F := Ideal) m' g')
    all_goals
      obtain ⟨h0, h1, h2, h3⟩ := hm c
      beta_reduce
      simp only [← h0, ← h1, ← h2, ← h3]
      rfl

end Cert.Rows.MidFwd

end
-- ==== Proof.Rows.AdaFwd.lean ====
/- `adaln0`: the adaptive layer norm, 512 rows at a grid point. -/
module

public import proofs.«01_k».proof.Proof.Gen.AdaFwdIdeal.Value
public import proofs.«01_k».proof.Proof.Gen.AdaFwdRefIdeal.Run
public import proofs.«01_k».proof.Proof.Gen.AdaFwdRefIdeal.Read
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.AdaFwd

open Cert.AdaFwdIdeal Cert.AdaFwdIdeal.Gen Cert.AdaFwdRefIdeal.Read Idealize.ShloMosaic Idealize.ShloMosaic.StableHlo Idealize.ShloMosaic.TcCoe Idealize.SL.Sem

section rows

variable {x : FVec Ideal S2048x1024 .f32} {g s b : FVec Ideal S1x1024 .f32}
variable {v0 : FVec Ideal S512x1024 .f32} {r : Fin 512} {R : Fin 2048}

/-- One row of a block is the reference's row. -/
theorem row_ada (hx : ∀ c, v0 (ix2 r c) = x (ix2 R c)) (c : Fin 1024) :
    k0_pay1 (F := Ideal) v0 g s b (ix2 r c) = val_main_v18 (F := Ideal) x g s b (ix2 R c) := by
  pointwise [k0_pay1, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hx]

end rows

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The array row a block's row is. -/
abbrev row (t : Fin cfg0.N) (i : Fin 512) : Fin 2048 := ⟨512 * t.val + i.val, by have := t.isLt; change t.val < 4 at this; omega⟩

theorem blk0 (c : Dev nD) (t : Fin cfg0.N) (i : Fin 512) (k : Fin 1024) : iblk m c 0 t (ix2 i k) = V m c main_arg0 (ix2 (row t i) k) := by
  unfold iblk
  blk_ext [idx t]

theorem blk1 (c : Dev nD) (t : Fin cfg0.N) : iblk m c 1 t = V m c main_arg1 := by
  funext y
  obtain ⟨i, k, rfl⟩ : ∃ i k, y = ix2 i k := ⟨y 0, y 1, eq_ix2 y⟩
  obtain rfl : i = 0 := Subsingleton.elim _ _
  unfold iblk
  blk_ext [idx t]

theorem blk2 (c : Dev nD) (t : Fin cfg0.N) : iblk m c 2 t = V m c main_arg2 := by
  funext y
  obtain ⟨i, k, rfl⟩ : ∃ i k, y = ix2 i k := ⟨y 0, y 1, eq_ix2 y⟩
  obtain rfl : i = 0 := Subsingleton.elim _ _
  unfold iblk
  blk_ext [idx t]

theorem blk3 (c : Dev nD) (t : Fin cfg0.N) : iblk m c 3 t = V m c main_arg3 := by
  funext y
  obtain ⟨i, k, rfl⟩ : ∃ i k, y = ix2 i k := ⟨y 0, y 1, eq_ix2 y⟩
  obtain rfl : i = 0 := Subsingleton.elim _ _
  unfold iblk
  blk_ext [idx t]

theorem emb4 (t : Fin cfg0.N) (i : Fin 512) (k : Fin 1024) :
    ((cfg0.win 4).blk t).view.emb (ix2 i k) = (ix2 (row t i) k : S2048x1024.Idx) := by
  blk_ext [idx t]

theorem out_eq (x0 x1 x2 x3) : out0_4 (F := Ideal) x0 x1 x2 x3 = k0_pay1 (F := Ideal) x0 x1 x2 x3 := by
  unfold out0_4
  frame_out

/-- The array after the run. -/
theorem arr4 (c : Dev nD) : (dats m 0 c).arrAt 4 cfg0.N
    = val_main_v18 (F := Ideal) (V m c main_arg0) (V m c main_arg1) (V m c main_arg2) (V m c main_arg3) := by
  refine (dats m 0 c).arrAt_eq_of_covers 4 _ (by decide +kernel) (fun t hf y => ?_)
  obtain ⟨i, k, rfl⟩ : ∃ i k, y = ix2 i k := ⟨y 0, y 1, eq_ix2 y⟩
  rw [emb4]
  blk_simp
  rw [after0_4, out_eq, blk1, blk2, blk3]
  exact row_ada (blk0 m c t i) k

/-- From equal arguments the kernel and the reference end with the same arrays, and with their arguments as they were. -/
theorem same (g : Dev nD → PrngReg) (m' : (ℓ : Loc Cert.AdaFwdRefIdeal.nD Cert.AdaFwdRefIdeal.τ Cert.AdaFwdRefIdeal.sig) → Buf (Elt Ideal) ℓ) (g' : Dev Cert.AdaFwdRefIdeal.nD → PrngReg)
    (hm : ∀ c : Dev nD, m' ((c.tc : Thread Cert.AdaFwdRefIdeal.nD Cert.AdaFwdRefIdeal.τ).loc Cert.AdaFwdRefIdeal.main_arg0) = m ((c.tc : Thread nD τ).loc main_arg0)
      ∧ m' ((c.tc : Thread Cert.AdaFwdRefIdeal.nD Cert.AdaFwdRefIdeal.τ).loc Cert.AdaFwdRefIdeal.main_arg1) = m ((c.tc : Thread nD τ).loc main_arg1)
      ∧ m' ((c.tc : Thread Cert.AdaFwdRefIdeal.nD Cert.AdaFwdRefIdeal.τ).loc Cert.AdaFwdRefIdeal.main_arg2) = m ((c.tc : Thread nD τ).loc main_arg2)
      ∧ m' ((c.tc : Thread Cert.AdaFwdRefIdeal.nD Cert.AdaFwdRefIdeal.τ).loc Cert.AdaFwdRefIdeal.main_arg3) = m ((c.tc : Thread nD τ).loc main_arg3)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v18) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2)
          ∧ r.2.mem ((c.tc : Thread Cert.AdaFwdRefIdeal.nD Cert.AdaFwdRefIdeal.τ).loc Cert.AdaFwdRefIdeal.main_arg3) = m' ((c.tc : Thread Cert.AdaFwdRefIdeal.nD Cert.AdaFwdRefIdeal.τ).loc Cert.AdaFwdRefIdeal.main_arg3)) := by
  refine ⟨fun c => val_main_v18 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run (defs (F := Ideal)) _ _).mono (fun r h c => ⟨(h c).1.trans (arr4 m c), (h c).2⟩) (Value.run_blocks m g)
  · refine (θ_run (Cert.AdaFwdRefIdeal.defs (F := Ideal)) _ _).mono (fun r h c => ⟨(h c).1.trans ?_, (h c).2⟩) (Cert.AdaFwdRefIdeal.Value.run (F := Ideal) m' g')
    all_goals
      obtain ⟨h0, h1, h2, h3⟩ := hm c
      beta_reduce
      simp only [← h0, ← h1, ← h2, ← h3]
      rfl

end Cert.Rows.AdaFwd

end
-- ==== Proof.Rows.Sum.lean ====
/- What the row kernels share: a sum over 2048 rows taken 512 at a time, and the gradient of a root-mean-square norm in
   one row, in its two forms. Both hold for all extended reals. -/
module

public import Mathlib.Algebra.BigOperators.Fin
public import Mathlib.Data.EReal.Operations
public import Idealize.ShloMosaic.PureOps.Ideal.Laws

@[expose] public section

noncomputable section

namespace Cert.Rows

open Idealize.ShloMosaic

/-- A function of a row, 0 past the last row. -/
def tot (f : Fin 2048 → EReal) (i : ℕ) : EReal := if h : i < 2048 then f ⟨i, h⟩ else 0

theorem tot_eq (f : Fin 2048 → EReal) (R : Fin 2048) (i : ℕ) (h : i = R.val) : tot f i = f R := by
  subst h
  exact dif_pos R.isLt

/-- The sum over the first `n` blocks of 512 rows. -/
def upto (f : Fin 2048 → EReal) (n : ℕ) : EReal := ∑ i ∈ Finset.range (512 * n), tot f i

theorem upto_one (f : Fin 2048 → EReal) : upto f 1 = ∑ q : Fin 512, tot f (512 * 0 + q.val) := by
  unfold upto
  rw [Finset.sum_range]
  simp

theorem upto_succ (f : Fin 2048 → EReal) (n : ℕ) : upto f (n + 1) = upto f n + ∑ q : Fin 512, tot f (512 * n + q.val) := by
  unfold upto
  rw [Nat.mul_succ, Finset.sum_range_add, ← Finset.sum_range (fun q => tot f (512 * n + q))]

theorem upto_four (f : Fin 2048 → EReal) : upto f 4 = ∑ R : Fin 2048, f R := by
  unfold upto
  rw [Finset.sum_range]
  exact Finset.sum_congr rfl fun R _ => tot_eq f R _ rfl

theorem mul_self_nonneg' (x : EReal) : 0 ≤ x * x := by
  induction x with
  | bot => simp
  | top => simp
  | coe a => rw [← EReal.coe_mul]; exact EReal.coe_nonneg.mpr (mul_self_nonneg a)

/-- A real factor that is not negative goes through a sum. -/
theorem sum_mul_real {ι : Type} (s : Finset ι) (f : ι → EReal) (a : ℝ) (ha : 0 ≤ a) : ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha) (EReal.coe_ne_top a)]

theorem twice (y : EReal) (a : ℝ) : y * (a : EReal) + y * (a : EReal) = y * ((2 * a : ℝ) : EReal) := by
  induction y with
  | coe b => rw [← EReal.coe_mul, ← EReal.coe_mul, ← EReal.coe_add]; congr 1; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem div_real (y : EReal) (a : ℝ) (ha : a ≠ 0) : Ideal.div y (a : EReal) = y * ((a⁻¹ : ℝ) : EReal) := by
  unfold Ideal.div
  rw [if_neg (by exact_mod_cast ha), EReal.coe_inv]

/-- The gradient of a root-mean-square norm in one row: the form written by hand, and the one the chain rule gives. -/
theorem norm_back {n : ℕ} (x d : Fin n → EReal) (v : EReal) (hv : 0 < v) (N : ℝ) (hN : 0 < N) (c : Fin n) :
    Ideal.rsqrt v * (d c - x c * Ideal.rsqrt v * Ideal.div (∑ k, d k * (x k * Ideal.rsqrt v)) (N : EReal))
      = d c * Ideal.rsqrt v + x c * Ideal.div ((∑ k, x k * d k) * (((-(1 / 2) : ℝ) : EReal) * Ideal.div (Ideal.rsqrt v) v)) (N : EReal)
        + Ideal.div ((∑ k, x k * d k) * (((-(1 / 2) : ℝ) : EReal) * Ideal.div (Ideal.rsqrt v) v)) (N : EReal) * x c := by
  induction v with
  | bot => exact absurd hv (by simp)
  | top =>
    have h0 : Ideal.div 0 (⊤ : EReal) = 0 := by unfold Ideal.div; simp
    simp [h0, div_real _ N hN.ne']
  | coe w =>
    have hw : 0 < w := EReal.coe_pos.mp hv
    have hr : Ideal.rsqrt (w : EReal) = (((√w)⁻¹ : ℝ) : EReal) := by
      rw [Ideal.rsqrt_coe, if_neg hw.not_gt, if_neg hw.ne']
    have hs : 0 < √w := Real.sqrt_pos.mpr hw
    set ρ := (√w)⁻¹ with hρ
    have hp : 0 < ρ := inv_pos.mpr hs
    have hq : w⁻¹ = ρ * ρ := by rw [hρ, ← mul_inv, Real.mul_self_sqrt hw.le]
    set S := ∑ k, x k * d k with hS
    have e1 : ∑ k, d k * (x k * (ρ : EReal)) = S * (ρ : EReal) := by
      rw [hS, ← sum_mul_real _ _ _ hp.le]
      exact Finset.sum_congr rfl fun k _ => by rw [← mul_assoc, mul_comm (d k)]
    rw [hr, e1, div_real _ w hw.ne', div_real _ N hN.ne', div_real _ N hN.ne', hq, sub_eq_add_neg,
      EReal.left_distrib_of_nonneg_of_ne_top (EReal.coe_nonneg.mpr hp.le) (EReal.coe_ne_top _), add_assoc, mul_comm (ρ : EReal) (d c)]
    congr 1
    have e2 : S * (((-(1 / 2) : ℝ) : EReal) * ((ρ : EReal) * ((ρ * ρ : ℝ) : EReal))) * ((N⁻¹ : ℝ) : EReal)
        = S * ((-(1 / 2) * (ρ * (ρ * ρ)) * N⁻¹ : ℝ) : EReal) := by
      simp only [EReal.coe_mul, mul_assoc]
    rw [e2, mul_comm _ (x c), ← mul_assoc (x c), twice, ← mul_neg_one]
    have e3 : (-1 : EReal) = ((-1 : ℝ) : EReal) := by simp
    rw [e3]
    have e4 : (2 * (-(1 / 2) * (ρ * (ρ * ρ)) * N⁻¹) : ℝ) = ρ * ρ * ρ * N⁻¹ * (-1) := by ring
    rw [e4]
    simp only [EReal.coe_mul, mul_assoc, mul_comm, mul_left_comm]

end Cert.Rows

end
-- ==== Proof.Rows.AdaBwd.lean ====
/- `adaln0_bwd`: the gradient of the adaptive layer norm, 512 rows at a grid point: the gradient in the stream (with the
   residual's added), and the column sums that are the gradients in the gain, the scale and the shift, added up over the
   four points. -/
module

public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Rows.Sum
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.AdaBwd

open Cert.AdaBwdIdeal Cert.AdaBwdIdeal.Gen Cert.AdaBwdRefIdeal.Read Idealize.ShloMosaic Idealize.ShloMosaic.StableHlo Idealize.ShloMosaic.TcCoe Idealize.SL.Sem

theorem c_1024 : Ideal.ofBits FTy.f32 1149239296#32 = ((1024 : ℝ) : EReal) := by
  simp [Ideal.ofBits, Ideal.ieee, -EReal.coe_mul]; norm_num

theorem c_neg_half : Ideal.ofBits FTy.f32 3204448256#32 = ((-(1 / 2) : ℝ) : EReal) := by
  simp [Ideal.ofBits, Ideal.ieee, -EReal.coe_mul, -EReal.coe_neg]; norm_num

theorem c_eps : 0 < Ideal.ofBits FTy.f32 897988541#32 := by
  simp [Ideal.ofBits, Ideal.ieee, -EReal.coe_mul]

section rows

variable {x dr dh : FVec Ideal S2048x1024 .f32} {g s : FVec Ideal S1x1024 .f32}
variable {v0 v1 v20 : FVec Ideal S512x1024 .f32} {r : Fin 512} {R : Fin 2048}

/-- The mean of a row's squares, and the small constant. -/
def meanSq (x : FVec Ideal S2048x1024 .f32) (R : Fin 2048) : EReal :=
  Ideal.div (∑ k : Fin 1024, x (ix2 R k) * x (ix2 R k)) ((1024 : ℝ) : EReal) + Ideal.ofBits FTy.f32 897988541#32

theorem meanSq_pos (R : Fin 2048) : 0 < meanSq x R := by
  refine lt_of_lt_of_le c_eps ?_
  unfold meanSq
  rw [div_real _ 1024 (by norm_num)]
  exact le_add_of_nonneg_left (mul_nonneg (Finset.sum_nonneg fun k _ => mul_self_nonneg' _) (EReal.coe_nonneg.mpr (by norm_num)))

theorem ker_rsqrt (hx : ∀ k, v1 (ix2 r k) = x (ix2 R k)) : k0_pay4 (F := Ideal) v1 (ix2 r 0) = Ideal.rsqrt (meanSq x R) := by
  pointwise [k0_pay4, hx, meanSq, c_1024]

theorem ref_mean : val_main_v7 (F := Ideal) x (ix2 R 0) = meanSq x R := by
  pointwise [val_main_v7, val_main_v6, val_main_cst_2, val_main_v5, val_main_v4, val_main_cst_1, val_main_v3, val_main_v2, val_main_v1, val_main_cst_0, meanSq, c_1024]

theorem ref_rsqrt : val_main_v8 (F := Ideal) x (ix2 R 0) = Ideal.rsqrt (meanSq x R) := by
  rw [← ref_mean]
  pointwise [val_main_v8]

theorem ref_half : val_main_v11 (F := Ideal) x (ix2 R 0) = ((-(1 / 2) : ℝ) : EReal) * Ideal.div (Ideal.rsqrt (meanSq x R)) (meanSq x R) := by
  rw [← ref_rsqrt, ← ref_mean]
  pointwise [val_main_v11, val_main_v10, val_main_cst_3, val_main_v9, c_neg_half]

/-- The gradient at the normalised row. -/
theorem ref_d (k : Fin 1024) : val_main_v34 (F := Ideal) dh g s (ix2 R k) = dh (ix2 R k) * g (ix2 0 k) * (1 + s (ix2 0 k)) := by
  pointwise [val_main_v34, val_main_v33, val_main_v30, val_main_v29, val_main_v28, val_main_v22, val_main_v17, val_main_v16, val_main_cst_4]
  exact mul_right_comm _ _ _

/-- The stream's gradient in one row. -/
theorem row_dx (h0 : ∀ k, v0 (ix2 r k) = dh (ix2 R k)) (h1 : ∀ k, v1 (ix2 r k) = x (ix2 R k)) (h20 : ∀ k, v20 (ix2 r k) = dr (ix2 R k)) (c : Fin 1024) :
    k0_pay7 (F := Ideal) v0 v1 g s v20 (ix2 r c) = val_main_v49 (F := Ideal) x dr dh g s (ix2 R c) := by
  have hk : k0_pay7 (F := Ideal) v0 v1 g s v20 (ix2 r c) = dr (ix2 R c) + Ideal.rsqrt (meanSq x R) *
      (dh (ix2 R c) * g (ix2 0 c) * (1 + s (ix2 0 c)) - x (ix2 R c) * Ideal.rsqrt (meanSq x R) *
        Ideal.div (∑ k : Fin 1024, dh (ix2 R k) * g (ix2 0 k) * (1 + s (ix2 0 k)) * (x (ix2 R k) * Ideal.rsqrt (meanSq x R))) ((1024 : ℝ) : EReal)) := by
    rw [← ker_rsqrt h1]
    pointwise [k0_pay7, k0_pay6, k0_pay5, h0, h1, h20, c_1024]
  have hr : val_main_v49 (F := Ideal) x dr dh g s (ix2 R c) = dr (ix2 R c) + (val_main_v34 (F := Ideal) dh g s (ix2 R c) * val_main_v8 (F := Ideal) x (ix2 R 0)
      + x (ix2 R c) * Ideal.div ((∑ k : Fin 1024, x (ix2 R k) * val_main_v34 (F := Ideal) dh g s (ix2 R k)) * val_main_v11 (F := Ideal) x (ix2 R 0)) ((1024 : ℝ) : EReal)
      + Ideal.div ((∑ k : Fin 1024, x (ix2 R k) * val_main_v34 (F := Ideal) dh g s (ix2 R k)) * val_main_v11 (F := Ideal) x (ix2 R 0)) ((1024 : ℝ) : EReal) * x (ix2 R c)) := by
    pointwise [val_main_v49, val_main_v48, val_main_v47, val_main_v46, val_main_v45, val_main_v44, val_main_v43, val_main_v42, val_main_v41, val_main_cst_9, val_main_v40, val_main_v39, val_main_v38, val_main_cst_10, val_main_v37, val_main_v36, val_main_v35, val_main_cst_8, c_1024]
    simp only [Finset.univ_unique, Finset.sum_singleton, Fin.default_eq_zero, Fin.isValue]
  rw [hk, hr]
  simp only [ref_d, ref_rsqrt, ref_half]
  rw [norm_back (fun k => x (ix2 R k)) (fun k => dh (ix2 R k) * g (ix2 0 k) * (1 + s (ix2 0 k))) _ (meanSq_pos R) 1024 (by norm_num)]

/-- What one row adds to the three column sums. -/
def addG (x dh : FVec Ideal S2048x1024 .f32) (s : FVec Ideal S1x1024 .f32) (c : Fin 1024) (R : Fin 2048) : EReal :=
  dh (ix2 R c) * (1 + s (ix2 0 c)) * (x (ix2 R c) * Ideal.rsqrt (meanSq x R))
def addScale (x dh : FVec Ideal S2048x1024 .f32) (g : FVec Ideal S1x1024 .f32) (c : Fin 1024) (R : Fin 2048) : EReal :=
  dh (ix2 R c) * (x (ix2 R c) * Ideal.rsqrt (meanSq x R)) * g (ix2 0 c)
def addShift (dh : FVec Ideal S2048x1024 .f32) (c : Fin 1024) (R : Fin 2048) : EReal := dh (ix2 R c)

theorem ref_g (c : Fin 1024) : val_main_v32 (F := Ideal) x dh s (ix2 0 c) = ∑ R : Fin 2048, addG x dh s c R := by
  have h : val_main_v32 (F := Ideal) x dh s (ix2 0 c) = ∑ R : Fin 2048, x (ix2 R c) * val_main_v8 (F := Ideal) x (ix2 R 0) * (dh (ix2 R c) * (1 + s (ix2 0 c))) := by
    pointwise [val_main_v32, val_main_v31, val_main_cst_7, val_main_v30, val_main_v13, val_main_v12, val_main_v29, val_main_v28, val_main_v22, val_main_v17, val_main_v16, val_main_cst_4]
  rw [h]
  exact Finset.sum_congr rfl fun R _ => by rw [ref_rsqrt, addG, mul_comm]

theorem ref_scale (c : Fin 1024) : val_main_v27 (F := Ideal) x dh g (ix2 0 c) = ∑ R : Fin 2048, addScale x dh g c R := by
  have h : val_main_v27 (F := Ideal) x dh g (ix2 0 c) = ∑ R : Fin 2048, x (ix2 R c) * val_main_v8 (F := Ideal) x (ix2 R 0) * g (ix2 0 c) * dh (ix2 R c) := by
    pointwise [val_main_v27, val_main_v26, val_main_v25, val_main_cst_6, val_main_v22, val_main_v15, val_main_v14, val_main_v13, val_main_v12]
  rw [h]
  exact Finset.sum_congr rfl fun R _ => by rw [ref_rsqrt, addScale, mul_comm _ (dh _), mul_assoc (dh _)]

theorem ref_shift (c : Fin 1024) : val_main_v24 (F := Ideal) dh (ix2 0 c) = ∑ R : Fin 2048, addShift dh c R := by
  pointwise [val_main_v24, val_main_v23, val_main_cst_5, addShift]

end rows

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

/-- The array row a block's row is. -/
abbrev row (t : Fin cfg0.N) (i : Fin 512) : Fin 2048 := ⟨512 * t.val + i.val, by have := t.isLt; change t.val < 4 at this; omega⟩

theorem blk0 (c : Dev nD) (t : Fin cfg0.N) (i : Fin 512) (k : Fin 1024) : iblk m c 0 t (ix2 i k) = V m c main_arg0 (ix2 (row t i) k) := by
  unfold iblk
  blk_ext [idx t]

theorem blk1 (c : Dev nD) (t : Fin cfg0.N) (i : Fin 512) (k : Fin 1024) : iblk m c 1 t (ix2 i k) = V m c main_arg1 (ix2 (row t i) k) := by
  unfold iblk
  blk_ext [idx t]

theorem blk2 (c : Dev nD) (t : Fin cfg0.N) (i : Fin 512) (k : Fin 1024) : iblk m c 2 t (ix2 i k) = V m c main_arg2 (ix2 (row t i) k) := by
  unfold iblk
  blk_ext [idx t]

theorem blk3 (c : Dev nD) (t : Fin cfg0.N) : iblk m c 3 t = V m c main_arg3 := by
  funext y
  obtain ⟨i, k, rfl⟩ : ∃ i k, y = ix2 i k := ⟨y 0, y 1, eq_ix2 y⟩
  obtain rfl : i = 0 := Subsingleton.elim _ _
  unfold iblk
  blk_ext [idx t]

theorem blk4 (c : Dev nD) (t : Fin cfg0.N) : iblk m c 4 t = V m c main_arg4 := by
  funext y
  obtain ⟨i, k, rfl⟩ : ∃ i k, y = ix2 i k := ⟨y 0, y 1, eq_ix2 y⟩
  obtain rfl : i = 0 := Subsingleton.elim _ _
  unfold iblk
  blk_ext [idx t]

theorem emb5 (t : Fin cfg0.N) (i : Fin 512) (k : Fin 1024) :
    ((cfg0.win 5).blk t).view.emb (ix2 i k) = (ix2 (row t i) k : S2048x1024.Idx) := by
  blk_ext [idx t]

theorem emb6 (t : Fin cfg0.N) (k : Fin 1024) : ((cfg0.win 6).blk t).view.emb (ix2 0 k) = (ix2 0 k : S1x1024.Idx) := by
  blk_ext [idx t]

theorem emb7 (t : Fin cfg0.N) (k : Fin 1024) : ((cfg0.win 7).blk t).view.emb (ix2 0 k) = (ix2 0 k : S1x1024.Idx) := by
  blk_ext [idx t]

theorem emb8 (t : Fin cfg0.N) (k : Fin 1024) : ((cfg0.win 8).blk t).view.emb (ix2 0 k) = (ix2 0 k : S1x1024.Idx) := by
  blk_ext [idx t]

theorem outs_A (c : Dev nD) (t : Fin cfg0.N) (h0 : t.val % 4 = 0) :
    outsAt0 m c t.val t.isLt =
      (k0_pay7 (F := Ideal) (iblk m c 2 t) (iblk m c 0 t) (iblk m c 3 t) (iblk m c 4 t) (iblk m c 1 t),
       k0_pay1 (F := Ideal) (iblk m c 2 t) (k0_pay5 (iblk m c 0 t)) (k0_pay6 (iblk m c 4 t)) (k0_pay8 (F := Ideal)),
       k0_pay2 (F := Ideal) (iblk m c 2 t) (k0_pay5 (iblk m c 0 t)) (iblk m c 3 t) (k0_pay9 (F := Ideal)),
       k0_pay3 (F := Ideal) (iblk m c 2 t) (k0_pay10 (F := Ideal))) := by
  rw [outsAt0_A m c t h0]
  unfold out0_A_5 out0_A_6 out0_A_7 out0_A_8
  frame_out

theorem outs_B (c : Dev nD) (t : Fin cfg0.N) (h0 : ¬t.val % 4 = 0) :
    outsAt0 m c t.val t.isLt =
      (k0_pay7 (F := Ideal) (iblk m c 2 t) (iblk m c 0 t) (iblk m c 3 t) (iblk m c 4 t) (iblk m c 1 t),
       k0_pay1 (F := Ideal) (iblk m c 2 t) (k0_pay5 (iblk m c 0 t)) (k0_pay6 (iblk m c 4 t)) (outsAt0 m c (t.val - 1) (Nat.lt_of_le_of_lt (Nat.sub_le _ _) t.isLt)).2.1,
       k0_pay2 (F := Ideal) (iblk m c 2 t) (k0_pay5 (iblk m c 0 t)) (iblk m c 3 t) (outsAt0 m c (t.val - 1) (Nat.lt_of_le_of_lt (Nat.sub_le _ _) t.isLt)).2.2.1,
       k0_pay3 (F := Ideal) (iblk m c 2 t) (outsAt0 m c (t.val - 1) (Nat.lt_of_le_of_lt (Nat.sub_le _ _) t.isLt)).2.2.2) := by
  rw [outsAt0_B m c t h0]
  unfold out0_B_5 out0_B_6 out0_B_7 out0_B_8
  frame_out

section point

variable {x dh : FVec Ideal S2048x1024 .f32} {g s acc : FVec Ideal S1x1024 .f32} {v0 v1 : FVec Ideal S512x1024 .f32} {n : ℕ}

theorem ker_g (hn : n < 4) (h0 : ∀ i k, v0 (ix2 i k) = dh (ix2 (⟨512 * n + i.val, by omega⟩ : Fin 2048) k))
    (h1 : ∀ i k, v1 (ix2 i k) = x (ix2 (⟨512 * n + i.val, by omega⟩ : Fin 2048) k)) (k : Fin 1024) :
    k0_pay1 (F := Ideal) v0 (k0_pay5 v1) (k0_pay6 s) acc (ix2 0 k) = acc (ix2 0 k) + ∑ q : Fin 512, tot (addG x dh s k) (512 * n + q.val) := by
  have h : k0_pay1 (F := Ideal) v0 (k0_pay5 v1) (k0_pay6 s) acc (ix2 0 k)
      = acc (ix2 0 k) + ∑ q : Fin 512, v0 (ix2 q k) * (1 + s (ix2 0 k)) * (v1 (ix2 q k) * k0_pay4 (F := Ideal) v1 (ix2 q 0)) := by
    pointwise [k0_pay1, k0_pay5, k0_pay6]
  rw [h]
  refine congrArg (acc (ix2 0 k) + ·) (Finset.sum_congr rfl fun q _ => ?_)
  rw [tot_eq _ (⟨512 * n + q.val, by omega⟩ : Fin 2048) _ rfl, addG, ker_rsqrt (h1 q), h0, h1]

theorem ker_scale (hn : n < 4) (h0 : ∀ i k, v0 (ix2 i k) = dh (ix2 (⟨512 * n + i.val, by omega⟩ : Fin 2048) k))
    (h1 : ∀ i k, v1 (ix2 i k) = x (ix2 (⟨512 * n + i.val, by omega⟩ : Fin 2048) k)) (k : Fin 1024) :
    k0_pay2 (F := Ideal) v0 (k0_pay5 v1) g acc (ix2 0 k) = acc (ix2 0 k) + ∑ q : Fin 512, tot (addScale x dh g k) (512 * n + q.val) := by
  have h : k0_pay2 (F := Ideal) v0 (k0_pay5 v1) g acc (ix2 0 k)
      = acc (ix2 0 k) + ∑ q : Fin 512, v0 (ix2 q k) * (v1 (ix2 q k) * k0_pay4 (F := Ideal) v1 (ix2 q 0)) * g (ix2 0 k) := by
    pointwise [k0_pay2, k0_pay5]
  rw [h]
  refine congrArg (acc (ix2 0 k) + ·) (Finset.sum_congr rfl fun q _ => ?_)
  rw [tot_eq _ (⟨512 * n + q.val, by omega⟩ : Fin 2048) _ rfl, addScale, ker_rsqrt (h1 q), h0, h1]

theorem ker_shift (hn : n < 4) (h0 : ∀ i k, v0 (ix2 i k) = dh (ix2 (⟨512 * n + i.val, by omega⟩ : Fin 2048) k)) (k : Fin 1024) :
    k0_pay3 (F := Ideal) v0 acc (ix2 0 k) = acc (ix2 0 k) + ∑ q : Fin 512, tot (addShift dh k) (512 * n + q.val) := by
  have h : k0_pay3 (F := Ideal) v0 acc (ix2 0 k) = acc (ix2 0 k) + ∑ q : Fin 512, v0 (ix2 q k) := by
    pointwise [k0_pay3]
  rw [h]
  refine congrArg (acc (ix2 0 k) + ·) (Finset.sum_congr rfl fun q _ => ?_)
  rw [tot_eq _ (⟨512 * n + q.val, by omega⟩ : Fin 2048) _ rfl, addShift, h0]

theorem zero8 (k : Fin 1024) : k0_pay8 (F := Ideal) (ix2 0 k) = 0 := by pointwise [k0_pay8]
theorem zero9 (k : Fin 1024) : k0_pay9 (F := Ideal) (ix2 0 k) = 0 := by pointwise [k0_pay9]
theorem zero10 (k : Fin 1024) : k0_pay10 (F := Ideal) (ix2 0 k) = 0 := by pointwise [k0_pay10]

end point

/-- After point `n` the three running sums are over the first `n + 1` blocks of rows. -/
theorem sums (c : Dev nD) : ∀ (n : ℕ) (hn : n < cfg0.N) (k : Fin 1024),
    (outsAt0 m c n hn).2.1 (ix2 0 k) = upto (addG (V m c main_arg0) (V m c main_arg2) (V m c main_arg4) k) (n + 1)
    ∧ (outsAt0 m c n hn).2.2.1 (ix2 0 k) = upto (addScale (V m c main_arg0) (V m c main_arg2) (V m c main_arg3) k) (n + 1)
    ∧ (outsAt0 m c n hn).2.2.2 (ix2 0 k) = upto (addShift (V m c main_arg2) k) (n + 1)
  | 0, hn, k => by
    rw [outs_A m c ⟨0, hn⟩ rfl]
    refine ⟨?_, ?_, ?_⟩
    · refine (ker_g (n := 0) (by decide) (blk2 m c ⟨0, hn⟩) (blk0 m c ⟨0, hn⟩) k).trans ?_
      rw [upto_one, zero8, zero_add, blk4]
    · refine (ker_scale (n := 0) (by decide) (blk2 m c ⟨0, hn⟩) (blk0 m c ⟨0, hn⟩) k).trans ?_
      rw [upto_one, zero9, zero_add, blk3]
    · refine (ker_shift (n := 0) (by decide) (blk2 m c ⟨0, hn⟩) k).trans ?_
      rw [upto_one, zero10, zero_add]
  | n + 1, hn, k => by
    have h4 : n + 1 < 4 := hn
    obtain ⟨i1, i2, i3⟩ := sums c n (Nat.lt_of_succ_lt hn) k
    rw [outs_B m c ⟨n + 1, hn⟩ (by dsimp only; omega)]
    refine ⟨?_, ?_, ?_⟩
    · refine (ker_g (n := n + 1) h4 (blk2 m c ⟨n + 1, hn⟩) (blk0 m c ⟨n + 1, hn⟩) k).trans ?_
      rw [upto_succ, ← i1, blk4]
      rfl
    · refine (ker_scale (n := n + 1) h4 (blk2 m c ⟨n + 1, hn⟩) (blk0 m c ⟨n + 1, hn⟩) k).trans ?_
      rw [upto_succ, ← i2, blk3]
      rfl
    · refine (ker_shift (n := n + 1) h4 (blk2 m c ⟨n + 1, hn⟩) k).trans ?_
      rw [upto_succ, ← i3]
      rfl

theorem first (c : Dev nD) (t : Fin cfg0.N) : (outsAt0 m c t.val t.isLt).1
    = k0_pay7 (F := Ideal) (iblk m c 2 t) (iblk m c 0 t) (iblk m c 3 t) (iblk m c 4 t) (iblk m c 1 t) := by
  by_cases h : t.val % 4 = 0
  · rw [outs_A m c t h]
  · rw [outs_B m c t h]

/-- The four arrays after the run. -/
theorem arr5 (c : Dev nD) : (dats m 0 c).arrAt 5 cfg0.N
    = val_main_v49 (F := Ideal) (V m c main_arg0) (V m c main_arg1) (V m c main_arg2) (V m c main_arg3) (V m c main_arg4) := by
  refine (dats m 0 c).arrAt_eq_of_covers 5 _ (by decide +kernel) (fun t hf y => ?_)
  obtain ⟨i, k, rfl⟩ : ∃ i k, y = ix2 i k := ⟨y 0, y 1, eq_ix2 y⟩
  rw [emb5]
  blk_simp
  rw [after0_5, first, blk3, blk4]
  exact row_dx (blk2 m c t i) (blk0 m c t i) (blk1 m c t i) k

theorem arr6 (c : Dev nD) : (dats m 0 c).arrAt 6 cfg0.N
    = val_main_v32 (F := Ideal) (V m c main_arg0) (V m c main_arg2) (V m c main_arg4) := by
  refine (dats m 0 c).arrAt_eq_of_covers 6 _ (by decide +kernel) (fun t hf y => ?_)
  obtain ⟨i, k, rfl⟩ : ∃ i k, y = ix2 i k := ⟨y 0, y 1, eq_ix2 y⟩
  obtain rfl : i = 0 := Subsingleton.elim _ _
  rw [emb6]
  blk_simp
  have h3 : t.val = 3 := by have := (flush0_6 t).mp hf; have ht : t.val < 4 := t.isLt; omega
  rw [after0_6]
  refine ((sums m c t.val t.isLt k).1).trans ?_
  rw [h3, upto_four, ref_g]

theorem arr7 (c : Dev nD) : (dats m 0 c).arrAt 7 cfg0.N
    = val_main_v27 (F := Ideal) (V m c main_arg0) (V m c main_arg2) (V m c main_arg3) := by
  refine (dats m 0 c).arrAt_eq_of_covers 7 _ (by decide +kernel) (fun t hf y => ?_)
  obtain ⟨i, k, rfl⟩ : ∃ i k, y = ix2 i k := ⟨y 0, y 1, eq_ix2 y⟩
  obtain rfl : i = 0 := Subsingleton.elim _ _
  rw [emb7]
  blk_simp
  have h3 : t.val = 3 := by have := (flush0_7 t).mp hf; have ht : t.val < 4 := t.isLt; omega
  rw [after0_7]
  refine ((sums m c t.val t.isLt k).2.1).trans ?_
  rw [h3, upto_four, ref_scale]

theorem arr8 (c : Dev nD) : (dats m 0 c).arrAt 8 cfg0.N
    = val_main_v24 (F := Ideal) (V m c main_arg2) := by
  refine (dats m 0 c).arrAt_eq_of_covers 8 _ (by decide +kernel) (fun t hf y => ?_)
  obtain ⟨i, k, rfl⟩ : ∃ i k, y = ix2 i k := ⟨y 0, y 1, eq_ix2 y⟩
  obtain rfl : i = 0 := Subsingleton.elim _ _
  rw [emb8]
  blk_simp
  have h3 : t.val = 3 := by have := (flush0_8 t).mp hf; have ht : t.val < 4 := t.isLt; omega
  rw [after0_8]
  refine ((sums m c t.val t.isLt k).2.2).trans ?_
  rw [h3, upto_four, ref_shift]

/-- From equal arguments the kernel and the reference end with the same arrays, and with their arguments as they were. -/
theorem same (g : Dev nD → PrngReg) (m' : (ℓ : Loc Cert.AdaBwdRefIdeal.nD Cert.AdaBwdRefIdeal.τ Cert.AdaBwdRefIdeal.sig) → Buf (Elt Ideal) ℓ) (g' : Dev Cert.AdaBwdRefIdeal.nD → PrngReg)
    (hm : ∀ c : Dev nD, m' ((c.tc : Thread Cert.AdaBwdRefIdeal.nD Cert.AdaBwdRefIdeal.τ).loc Cert.AdaBwdRefIdeal.main_arg0) = m ((c.tc : Thread nD τ).loc main_arg0)
      ∧ m' ((c.tc : Thread Cert.AdaBwdRefIdeal.nD Cert.AdaBwdRefIdeal.τ).loc Cert.AdaBwdRefIdeal.main_arg1) = m ((c.tc : Thread nD τ).loc main_arg1)
      ∧ m' ((c.tc : Thread Cert.AdaBwdRefIdeal.nD Cert.AdaBwdRefIdeal.τ).loc Cert.AdaBwdRefIdeal.main_arg2) = m ((c.tc : Thread nD τ).loc main_arg2)
      ∧ m' ((c.tc : Thread Cert.AdaBwdRefIdeal.nD Cert.AdaBwdRefIdeal.τ).loc Cert.AdaBwdRefIdeal.main_arg3) = m ((c.tc : Thread nD τ).loc main_arg3)
      ∧ m' ((c.tc : Thread Cert.AdaBwdRefIdeal.nD Cert.AdaBwdRefIdeal.τ).loc Cert.AdaBwdRefIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v49) = v0 c
          ∧ r.2.mem ((c.tc : Thread Cert.AdaBwdRefIdeal.nD Cert.AdaBwdRefIdeal.τ).loc Cert.AdaBwdRefIdeal.main_v32) = v1 c
          ∧ r.2.mem ((c.tc : Thread Cert.AdaBwdRefIdeal.nD Cert.AdaBwdRefIdeal.τ).loc Cert.AdaBwdRefIdeal.main_v27) = v2 c
          ∧ r.2.mem ((c.tc : Thread Cert.AdaBwdRefIdeal.nD Cert.AdaBwdRefIdeal.τ).loc Cert.AdaBwdRefIdeal.main_v24) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4)) := by
  refine ⟨fun c => val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v32 (F := Ideal) (m ((c.tc : Thread nD τ).loc main_arg0)) (m ((c.tc : Thread nD τ).loc main_arg2)) (m ((c.tc : Thread nD τ).loc main_arg4)), fun c => val_main_v27 (F := Ideal) (m ((c.tc : Thread nD τ).loc main_arg0)) (m ((c.tc : Thread nD τ).loc main_arg2)) (m ((c.tc : Thread nD τ).loc main_arg3)), fun c => val_main_v24 (F := Ideal) (m ((c.tc : Thread nD τ).loc main_arg2)), ?_, ?_⟩
  · exact (θ_run (defs (F := Ideal)) _ _).mono (fun r h c => ⟨(h c).1.trans (arr5 m c), ((h c).2).1.trans (arr6 m c), (((h c).2).2).1.trans (arr7 m c), ((((h c).2).2).2).1.trans (arr8 m c), ((((h c).2).2).2).2⟩) (Value.run_blocks m g)
  · refine (θ_run (Cert.AdaBwdRefIdeal.defs (F := Ideal)) _ _).mono (fun r h c => ⟨(h c).1.trans ?_, ((h c).2).1.trans ?_, (((h c).2).2).1.trans ?_, ((((h c).2).2).2).1.trans ?_, ((((h c).2).2).2).2⟩) (Cert.AdaBwdRefIdeal.Value.run (F := Ideal) m' g')
    all_goals
      obtain ⟨h0, h1, h2, h3, h4⟩ := hm c
      beta_reduce
      simp only [← h0, ← h1, ← h2, ← h3, ← h4]
      rfl

end Cert.Rows.AdaBwd

end
-- ==== Proof.Rows.MidBwdRow.lean ====
/- `mid_bwd`, a row at a time: each number the kernel's body computes from a block's row is the number the reference
   computes from the same row of the arrays. The three gradients of the reference each go through the forward lines
   again; their stages are one another's. -/
module

public import proofs.«01_k».proof.Proof.Gen.MidBwdIdeal.Value
public import proofs.«01_k».proof.Proof.Gen.MidBwdRefIdeal.Run
public import proofs.«01_k».proof.Proof.Gen.MidBwdRefIdeal.Read
public import Idealize.ShloMosaic.Lib.Pointwise

@[expose] public section

set_option maxRecDepth 16384

noncomputable section

namespace Cert.Rows.MidBwd

open Cert.MidBwdIdeal Cert.MidBwdIdeal.Gen Cert.MidBwdRefIdeal.Read Idealize.ShloMosaic

variable {a : FVec Ideal S2048x1024 .bf16} {u : FVec Ideal S2048x1024 .f32} {z : FVec Ideal S2048x3072 .f32} {g b : FVec Ideal S1x1024 .f32}
variable {v37 : FVec Ideal S512x1024 .bf16} {v0 v1 : FVec Ideal S512x1024 .f32} {r : Fin 512} {R : Fin 2048}

theorem centred (hu : ∀ c, v0 (ix2 r c) = u (ix2 R c)) (c : Fin 1024) :
    k0_pay5 (F := Ideal) v0 (ix2 r c) = val_main_v7 (F := Ideal) u (ix2 R c) := by
  pointwise [k0_pay5, val_main_v7, val_main_v6, val_main_v5, val_main_v4, val_main_v3, val_main_cst_0, val_main_v2, val_main_cst, hu]

theorem variance (hu : ∀ c, v0 (ix2 r c) = u (ix2 R c)) :
    k0_pay6 (F := Ideal) v0 (ix2 r 0) = val_main_v14 (F := Ideal) u (ix2 R 0) := by
  pointwise [k0_pay6, val_main_v14, val_main_v13, val_main_v12, val_main_v11, val_main_v10, val_main_v9, val_main_v8, val_main_cst_1, val_main_cst_2, val_main_cst_3, centred hu]

theorem invDev (hu : ∀ c, v0 (ix2 r c) = u (ix2 R c)) :
    k0_pay7 (F := Ideal) v0 (ix2 r 0) = val_main_v15 (F := Ideal) u (ix2 R 0) := by
  pointwise [k0_pay7, val_main_v15, variance hu]

theorem invDevBack (hu : ∀ c, v0 (ix2 r c) = u (ix2 R c)) :
    k0_pay8 (F := Ideal) v0 (ix2 r 0) = val_main_v18 (F := Ideal) u (ix2 R 0) := by
  pointwise [k0_pay8, val_main_v18, val_main_v17, val_main_cst_4, val_main_v16, variance hu, invDev hu]

theorem normed (hu : ∀ c, v0 (ix2 r c) = u (ix2 R c)) (c : Fin 1024) :
    k0_pay9 (F := Ideal) v0 (ix2 r c) = val_main_v20 (F := Ideal) u (ix2 R c) := by
  pointwise [k0_pay9, val_main_v20, val_main_v19, centred hu, invDev hu]

theorem affine (hu : ∀ c, v0 (ix2 r c) = u (ix2 R c)) (c : Fin 1024) :
    k0_pay10 (F := Ideal) v0 g b (ix2 r c) = val_main_v24 (F := Ideal) u g b (ix2 R c) := by
  pointwise [k0_pay10, val_main_v24, val_main_v23, val_main_v22, val_main_v21, normed hu]

theorem sigmoid (hu : ∀ c, v0 (ix2 r c) = u (ix2 R c)) (c : Fin 1024) :
    k0_pay11 (F := Ideal) v0 g b (ix2 r c) = val_main_v25_2 (F := Ideal) u g b (ix2 R c) := by
  pointwise [k0_pay11, val_main_v25_2, val_main_call0_v4, val_main_call0_cst_0, val_main_call0_v3, val_main_call0_v2, val_main_call0_cst, val_main_call0_v1, val_main_call0_v0, affine hu]
  rfl

theorem sigBack (hu : ∀ c, v0 (ix2 r c) = u (ix2 R c)) (c : Fin 1024) :
    k0_pay12 (F := Ideal) v0 g b (ix2 r c) = val_main_v25_1 (F := Ideal) u g b (ix2 R c) := by
  pointwise [k0_pay12, val_main_v25_1, val_main_call0_v7, val_main_call0_v6, val_main_call0_cst_1, sigmoid hu]

theorem sigZ (hz : ∀ c, v1 (ix2 r c) = val_main_v0 (F := Ideal) z (ix2 R c)) (c : Fin 1024) :
    k0_pay13 (F := Ideal) v1 (ix2 r c) = val_main_call1_v5 (F := Ideal) z (ix2 R c) := by
  pointwise [k0_pay13, val_main_call1_v5, val_main_call1_v4, val_main_call1_cst_0, val_main_call1_v3, val_main_call1_v2, val_main_call1_cst, val_main_call1_v1, val_main_call1_v0, hz]
  rfl

theorem sigZBack (hz : ∀ c, v1 (ix2 r c) = val_main_v0 (F := Ideal) z (ix2 R c)) (c : Fin 1024) :
    k0_pay14 (F := Ideal) v1 (ix2 r c) = val_main_v75_1 (F := Ideal) z (ix2 R c) := by
  have e : val_main_v75_2 (F := Ideal) z = val_main_call1_v5 (F := Ideal) z := rfl
  pointwise [k0_pay14, val_main_v75_1, val_main_call4_v7, val_main_call4_v6, val_main_call4_cst_1, e, sigZ hz]

theorem gateU (hu : ∀ c, v0 (ix2 r c) = u (ix2 R c)) (ha : ∀ c, v37 (ix2 r c) = a (ix2 R c)) (c : Fin 1024) :
    k0_pay16 (F := Ideal) v0 g b v37 (ix2 r c) = val_main_v77 (F := Ideal) a u g b (ix2 R c) := by
  have e : val_main_v74 (F := Ideal) u g b = val_main_v25_0 (F := Ideal) u g b := rfl
  pointwise [k0_pay16, k0_pay15, val_main_v77, e, val_main_v25_0, val_main_v1, affine hu, sigmoid hu, ha]

theorem gateZ (hz : ∀ c, v1 (ix2 r c) = val_main_v0 (F := Ideal) z (ix2 R c)) (ha : ∀ c, v37 (ix2 r c) = a (ix2 R c)) (c : Fin 1024) :
    k0_pay17 (F := Ideal) v1 v37 (ix2 r c) = val_main_v28 (F := Ideal) a z (ix2 R c) := by
  pointwise [k0_pay17, k0_pay15, val_main_v28, val_main_v26, val_main_v1, sigZ hz, hz, ha]

/-- The gradient at the layer norm's output. -/
theorem backY (hu : ∀ c, v0 (ix2 r c) = u (ix2 R c)) (hz : ∀ c, v1 (ix2 r c) = val_main_v0 (F := Ideal) z (ix2 R c)) (ha : ∀ c, v37 (ix2 r c) = a (ix2 R c)) (c : Fin 1024) :
    k0_pay18 (F := Ideal) (k0_pay10 v0 g b) (k0_pay11 v0 g b) (k0_pay12 v0 g b) (k0_pay17 v1 v37) (ix2 r c) = val_main_v29 (F := Ideal) a u z g b (ix2 R c) := by
  pointwise [k0_pay18, val_main_v29, val_main_call2_v2, val_main_call2_v1, val_main_call2_v0, affine hu, sigmoid hu, sigBack hu, gateZ hz ha]

/-- The gradient in the gate's argument. -/
theorem backZ (hu : ∀ c, v0 (ix2 r c) = u (ix2 R c)) (hz : ∀ c, v1 (ix2 r c) = val_main_v0 (F := Ideal) z (ix2 R c)) (ha : ∀ c, v37 (ix2 r c) = a (ix2 R c)) (c : Fin 1024) :
    k0_pay22 (F := Ideal) v1 (k0_pay13 v1) (k0_pay14 v1) (k0_pay16 v0 g b v37) (ix2 r c) = val_main_v109 (F := Ideal) a u z g b (ix2 R c) := by
  have e : val_main_v75_2 (F := Ideal) z = val_main_call1_v5 (F := Ideal) z := rfl
  pointwise [k0_pay22, val_main_v109, val_main_v78, val_main_call5_v2, val_main_call5_v1, val_main_call5_v0, e, hz, sigZ hz, sigZBack hz, gateU hu ha]

/-- The gradient in the layer norm's argument. -/
theorem backU (hu : ∀ c, v0 (ix2 r c) = u (ix2 R c)) (hz : ∀ c, v1 (ix2 r c) = val_main_v0 (F := Ideal) z (ix2 R c)) (ha : ∀ c, v37 (ix2 r c) = a (ix2 R c)) (c : Fin 1024) :
    k0_pay21 (F := Ideal) g (k0_pay5 v0) (k0_pay7 v0) (k0_pay8 v0) (k0_pay10 v0 g b) (k0_pay11 v0 g b) (k0_pay12 v0 g b) (k0_pay17 v1 v37) (ix2 r c) = val_main_v53 (F := Ideal) a u z g b (ix2 R c) := by
  pointwise [k0_pay21, val_main_v53, val_main_v52, val_main_v51, val_main_cst_10, val_main_v50, val_main_v49, val_main_cst_9, val_main_v48, val_main_v47, val_main_cst_8, val_main_v46, val_main_v45,
    val_main_v44, val_main_v43, val_main_v42, val_main_v41, val_main_v40, val_main_cst_7, val_main_v39, val_main_v38, val_main_cst_6, val_main_v37, val_main_v36, val_main_v35, val_main_v34, val_main_v33,
    val_main_cst_5, val_main_v32, val_main_v31, val_main_v30, backY hu hz ha, centred hu, invDev hu, invDevBack hu, Finset.univ_unique, Finset.sum_singleton, Fin.default_eq_zero, Fin.isValue, zero_sub]

end Cert.Rows.MidBwd

end
-- ==== Proof.Rows.MidBwd.lean ====
/- `mid_bwd`: the gradient of the middle of the mixer — layer norm, SiLU, the SiLU gate — 512 rows at a grid point: the
   gradients in the layer norm's argument and in the gate's, and the column sums that are the gradients in the gain and
   the bias, added up over the four points. -/
module

public import proofs.«01_k».proof.Proof.Gen.MidBwdIdeal.Value
public import proofs.«01_k».proof.Proof.Gen.MidBwdRefIdeal.Run
public import proofs.«01_k».proof.Proof.Gen.MidBwdRefIdeal.Read
public import proofs.«01_k».proof.Proof.Rows.Sum
public import proofs.«01_k».proof.Proof.Rows.MidBwdRow
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.MidBwd

open Cert.MidBwdIdeal Cert.MidBwdIdeal.Gen Cert.MidBwdRefIdeal.Read Idealize.ShloMosaic Idealize.ShloMosaic.StableHlo Idealize.ShloMosaic.TcCoe Idealize.SL.Sem

section rows

variable {a : FVec Ideal S2048x1024 .bf16} {u : FVec Ideal S2048x1024 .f32} {z : FVec Ideal S2048x3072 .f32} {g b : FVec Ideal S1x1024 .f32}

/-- What one row adds to the two column sums. -/
def addG (a : FVec Ideal S2048x1024 .bf16) (u : FVec Ideal S2048x1024 .f32) (z : FVec Ideal S2048x3072 .f32) (g b : FVec Ideal S1x1024 .f32) (c : Fin 1024) (R : Fin 2048) : EReal :=
  val_main_v20 (F := Ideal) u (ix2 R c) * val_main_v29 (F := Ideal) a u z g b (ix2 R c)
def addB (a : FVec Ideal S2048x1024 .bf16) (u : FVec Ideal S2048x1024 .f32) (z : FVec Ideal S2048x3072 .f32) (g b : FVec Ideal S1x1024 .f32) (c : Fin 1024) (R : Fin 2048) : EReal :=
  val_main_v29 (F := Ideal) a u z g b (ix2 R c)

theorem ref_g (c : Fin 1024) : val_main_v108 (F := Ideal) a u z g b (ix2 0 c) = ∑ R : Fin 2048, addG a u z g b c R := by
  have e : val_main_v94 (F := Ideal) u = val_main_v20 (F := Ideal) u := rfl
  have e' : val_main_v103 (F := Ideal) a u z g b = val_main_v29 (F := Ideal) a u z g b := rfl
  pointwise [val_main_v108, val_main_v107, val_main_cst_22, val_main_v106, e, e', addG]

theorem ref_b (c : Fin 1024) : val_main_v105 (F := Ideal) a u z g b (ix2 0 c) = ∑ R : Fin 2048, addB a u z g b c R := by
  have e' : val_main_v103 (F := Ideal) a u z g b = val_main_v29 (F := Ideal) a u z g b := rfl
  pointwise [val_main_v105, val_main_v104, val_main_cst_21, e', addB]

end rows

variable (m : (ℓ : Loc nD τ sig) → Buf (Elt Ideal) ℓ)

theorem idx : ∀ t : Fin cfg0.N, win0_0.index t = ![t.val, 0] ∧ win0_1.index t = ![t.val, 0] ∧ win0_2.index t = ![t.val, 2] ∧ win0_3.index t = ![0, 0]
    ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)

/-- The array row a block's row is. -/
abbrev row (t : Fin cfg0.N) (i : Fin 512) : Fin 2048 := ⟨512 * t.val + i.val, by have := t.isLt; change t.val < 4 at this; omega⟩

theorem blk0 (c : Dev nD) (t : Fin cfg0.N) (i : Fin 512) (k : Fin 1024) : iblk m c 0 t (ix2 i k) = V m c main_arg0 (ix2 (row t i) k) := by
  unfold iblk
  blk_ext [idx t]

theorem blk1 (c : Dev nD) (t : Fin cfg0.N) (i : Fin 512) (k : Fin 1024) : iblk m c 1 t (ix2 i k) = V m c main_arg1 (ix2 (row t i) k) := by
  unfold iblk
  blk_ext [idx t]

/-- The gate's argument: the columns from 2048 on. -/
theorem blk2 (c : Dev nD) (t : Fin cfg0.N) (i : Fin 512) (k : Fin 1024) : iblk m c 2 t (ix2 i k) = val_main_v0 (F := Ideal) (V m c main_arg2) (ix2 (row t i) k) := by
  unfold iblk
  pointwise [val_main_v0]
  blk_ext [idx t]

theorem blk3 (c : Dev nD) (t : Fin cfg0.N) : iblk m c 3 t = V m c main_arg3 := by
  funext y
  obtain ⟨i, k, rfl⟩ : ∃ i k, y = ix2 i k := ⟨y 0, y 1, eq_ix2 y⟩
  obtain rfl : i = 0 := Subsingleton.elim _ _
  unfold iblk
  blk_ext [idx t]

theorem blk4 (c : Dev nD) (t : Fin cfg0.N) : iblk m c 4 t = V m c main_arg4 := by
  funext y
  obtain ⟨i, k, rfl⟩ : ∃ i k, y = ix2 i k := ⟨y 0, y 1, eq_ix2 y⟩
  obtain rfl : i = 0 := Subsingleton.elim _ _
  unfold iblk
  blk_ext [idx t]

theorem emb5 (t : Fin cfg0.N) (i : Fin 512) (k : Fin 1024) :
    ((cfg0.win 5).blk t).view.emb (ix2 i k) = (ix2 (row t i) k : S2048x1024.Idx) := by
  blk_ext [idx t]

theorem emb6 (t : Fin cfg0.N) (i : Fin 512) (k : Fin 1024) :
    ((cfg0.win 6).blk t).view.emb (ix2 i k) = (ix2 (row t i) k : S2048x1024.Idx) := by
  blk_ext [idx t]

theorem emb7 (t : Fin cfg0.N) (k : Fin 1024) : ((cfg0.win 7).blk t).view.emb (ix2 0 k) = (ix2 0 k : S1x1024.Idx) := by
  blk_ext [idx t]

theorem emb8 (t : Fin cfg0.N) (k : Fin 1024) : ((cfg0.win 8).blk t).view.emb (ix2 0 k) = (ix2 0 k : S1x1024.Idx) := by
  blk_ext [idx t]

theorem outs_A (c : Dev nD) (t : Fin cfg0.N) (h0 : t.val % 4 = 0) :
    outsAt0 m c t.val t.isLt =
      (k0_pay21 (F := Ideal) (iblk m c 3 t) (k0_pay5 (iblk m c 1 t)) (k0_pay7 (iblk m c 1 t)) (k0_pay8 (iblk m c 1 t)) (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t)),
       k0_pay22 (F := Ideal) (iblk m c 2 t) (k0_pay13 (iblk m c 2 t)) (k0_pay14 (iblk m c 2 t)) (k0_pay16 (iblk m c 1 t) (iblk m c 3 t) (iblk m c 4 t) (iblk m c 0 t)),
       k0_pay3 (F := Ideal) (k0_pay20 (k0_pay9 (iblk m c 1 t)) (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t))) (k0_pay1 (F := Ideal)),
       k0_pay4 (F := Ideal) (k0_pay19 (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t))) (k0_pay2 (F := Ideal))) := by
  rw [outsAt0_A m c t h0]
  unfold out0_A_5 out0_A_6 out0_A_7 out0_A_8
  frame_out

theorem outs_B (c : Dev nD) (t : Fin cfg0.N) (h0 : ¬t.val % 4 = 0) :
    outsAt0 m c t.val t.isLt =
      (k0_pay21 (F := Ideal) (iblk m c 3 t) (k0_pay5 (iblk m c 1 t)) (k0_pay7 (iblk m c 1 t)) (k0_pay8 (iblk m c 1 t)) (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t)),
       k0_pay22 (F := Ideal) (iblk m c 2 t) (k0_pay13 (iblk m c 2 t)) (k0_pay14 (iblk m c 2 t)) (k0_pay16 (iblk m c 1 t) (iblk m c 3 t) (iblk m c 4 t) (iblk m c 0 t)),
       k0_pay3 (F := Ideal) (k0_pay20 (k0_pay9 (iblk m c 1 t)) (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t))) (outsAt0 m c (t.val - 1) (Nat.lt_of_le_of_lt (Nat.sub_le _ _) t.isLt)).2.2.1,
       k0_pay4 (F := Ideal) (k0_pay19 (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t))) (outsAt0 m c (t.val - 1) (Nat.lt_of_le_of_lt (Nat.sub_le _ _) t.isLt)).2.2.2) := by
  rw [outsAt0_B m c t h0]
  unfold out0_B_5 out0_B_6 out0_B_7 out0_B_8
  frame_out

section point

variable {a : FVec Ideal S2048x1024 .bf16} {u : FVec Ideal S2048x1024 .f32} {z : FVec Ideal S2048x3072 .f32} {g b acc : FVec Ideal S1x1024 .f32}
variable {v37 : FVec Ideal S512x1024 .bf16} {v0 v1 : FVec Ideal S512x1024 .f32} {n : ℕ}

theorem ker_g (hn : n < 4) (hu : ∀ i k, v0 (ix2 i k) = u (ix2 (⟨512 * n + i.val, by omega⟩ : Fin 2048) k))
    (hz : ∀ i k, v1 (ix2 i k) = val_main_v0 (F := Ideal) z (ix2 (⟨512 * n + i.val, by omega⟩ : Fin 2048) k))
    (ha : ∀ i k, v37 (ix2 i k) = a (ix2 (⟨512 * n + i.val, by omega⟩ : Fin 2048) k)) (k : Fin 1024) :
    k0_pay3 (F := Ideal) (k0_pay20 (k0_pay9 v0) (k0_pay10 v0 g b) (k0_pay11 v0 g b) (k0_pay12 v0 g b) (k0_pay17 v1 v37)) acc (ix2 0 k)
      = acc (ix2 0 k) + ∑ q : Fin 512, tot (addG a u z g b k) (512 * n + q.val) := by
  have h : k0_pay3 (F := Ideal) (k0_pay20 (k0_pay9 v0) (k0_pay10 v0 g b) (k0_pay11 v0 g b) (k0_pay12 v0 g b) (k0_pay17 v1 v37)) acc (ix2 0 k)
      = acc (ix2 0 k) + ∑ q : Fin 512, k0_pay9 (F := Ideal) v0 (ix2 q k) * k0_pay18 (F := Ideal) (k0_pay10 v0 g b) (k0_pay11 v0 g b) (k0_pay12 v0 g b) (k0_pay17 v1 v37) (ix2 q k) := by
    pointwise [k0_pay3, k0_pay20]
  rw [h]
  refine congrArg (acc (ix2 0 k) + ·) (Finset.sum_congr rfl fun q _ => ?_)
  rw [tot_eq _ (⟨512 * n + q.val, by omega⟩ : Fin 2048) _ rfl, addG, normed (hu q), backY (hu q) (hz q) (ha q)]

theorem ker_b (hn : n < 4) (hu : ∀ i k, v0 (ix2 i k) = u (ix2 (⟨512 * n + i.val, by omega⟩ : Fin 2048) k))
    (hz : ∀ i k, v1 (ix2 i k) = val_main_v0 (F := Ideal) z (ix2 (⟨512 * n + i.val, by omega⟩ : Fin 2048) k))
    (ha : ∀ i k, v37 (ix2 i k) = a (ix2 (⟨512 * n + i.val, by omega⟩ : Fin 2048) k)) (k : Fin 1024) :
    k0_pay4 (F := Ideal) (k0_pay19 (k0_pay10 v0 g b) (k0_pay11 v0 g b) (k0_pay12 v0 g b) (k0_pay17 v1 v37)) acc (ix2 0 k)
      = acc (ix2 0 k) + ∑ q : Fin 512, tot (addB a u z g b k) (512 * n + q.val) := by
  have h : k0_pay4 (F := Ideal) (k0_pay19 (k0_pay10 v0 g b) (k0_pay11 v0 g b) (k0_pay12 v0 g b) (k0_pay17 v1 v37)) acc (ix2 0 k)
      = acc (ix2 0 k) + ∑ q : Fin 512, k0_pay18 (F := Ideal) (k0_pay10 v0 g b) (k0_pay11 v0 g b) (k0_pay12 v0 g b) (k0_pay17 v1 v37) (ix2 q k) := by
    pointwise [k0_pay4, k0_pay19]
  rw [h]
  refine congrArg (acc (ix2 0 k) + ·) (Finset.sum_congr rfl fun q _ => ?_)
  rw [tot_eq _ (⟨512 * n + q.val, by omega⟩ : Fin 2048) _ rfl, addB, backY (hu q) (hz q) (ha q)]

theorem zero1 (k : Fin 1024) : k0_pay1 (F := Ideal) (ix2 0 k) = 0 := by pointwise [k0_pay1]
theorem zero2 (k : Fin 1024) : k0_pay2 (F := Ideal) (ix2 0 k) = 0 := by pointwise [k0_pay2]

end point

/-- After point `n` the two running sums are over the first `n + 1` blocks of rows. -/
theorem sums (c : Dev nD) : ∀ (n : ℕ) (hn : n < cfg0.N) (k : Fin 1024),
    (outsAt0 m c n hn).2.2.1 (ix2 0 k) = upto (addG (V m c main_arg0) (V m c main_arg1) (V m c main_arg2) (V m c main_arg3) (V m c main_arg4) k) (n + 1)
    ∧ (outsAt0 m c n hn).2.2.2 (ix2 0 k) = upto (addB (V m c main_arg0) (V m c main_arg1) (V m c main_arg2) (V m c main_arg3) (V m c main_arg4) k) (n + 1)
  | 0, hn, k => by
    rw [outs_A m c ⟨0, hn⟩ rfl]
    refine ⟨?_, ?_⟩
    · refine (ker_g (n := 0) (by decide) (blk1 m c ⟨0, hn⟩) (blk2 m c ⟨0, hn⟩) (blk0 m c ⟨0, hn⟩) k).trans ?_
      rw [upto_one, zero1, zero_add, blk3, blk4]
    · refine (ker_b (n := 0) (by decide) (blk1 m c ⟨0, hn⟩) (blk2 m c ⟨0, hn⟩) (blk0 m c ⟨0, hn⟩) k).trans ?_
      rw [upto_one, zero2, zero_add, blk3, blk4]
  | n + 1, hn, k => by
    have h4 : n + 1 < 4 := hn
    obtain ⟨i1, i2⟩ := sums c n (Nat.lt_of_succ_lt hn) k
    rw [outs_B m c ⟨n + 1, hn⟩ (by dsimp only; omega)]
    refine ⟨?_, ?_⟩
    · refine (ker_g (n := n + 1) h4 (blk1 m c ⟨n + 1, hn⟩) (blk2 m c ⟨n + 1, hn⟩) (blk0 m c ⟨n + 1, hn⟩) k).trans ?_
      rw [upto_succ, ← i1, blk3, blk4]
      rfl
    · refine (ker_b (n := n + 1) h4 (blk1 m c ⟨n + 1, hn⟩) (blk2 m c ⟨n + 1, hn⟩) (blk0 m c ⟨n + 1, hn⟩) k).trans ?_
      rw [upto_succ, ← i2, blk3, blk4]
      rfl

theorem first (c : Dev nD) (t : Fin cfg0.N) : (outsAt0 m c t.val t.isLt).1
    = k0_pay21 (F := Ideal) (iblk m c 3 t) (k0_pay5 (iblk m c 1 t)) (k0_pay7 (iblk m c 1 t)) (k0_pay8 (iblk m c 1 t)) (k0_pay10 (iblk m c 1 t) (iblk m c 3 t) (iblk m c 4 t)) (k0_pay11 (iblk m c 1 t) (iblk m c 3 t) (iblk m c 4 t)) (k0_pay12 (iblk m c 1 t) (iblk m c 3 t) (iblk m c 4 t)) (k0_pay17 (iblk m c 2 t) (iblk m c 0 t)) := by
  by_cases h : t.val % 4 = 0
  · rw [outs_A m c t h]
  · rw [outs_B m c t h]

theorem second (c : Dev nD) (t : Fin cfg0.N) : (outsAt0 m c t.val t.isLt).2.1
    = k0_pay22 (F := Ideal) (iblk m c 2 t) (k0_pay13 (iblk m c 2 t)) (k0_pay14 (iblk m c 2 t)) (k0_pay16 (iblk m c 1 t) (iblk m c 3 t) (iblk m c 4 t) (iblk m c 0 t)) := by
  by_cases h : t.val % 4 = 0
  · rw [outs_A m c t h]
  · rw [outs_B m c t h]

/-- The four arrays after the run. -/
theorem arr5 (c : Dev nD) : (dats m 0 c).arrAt 5 cfg0.N
    = val_main_v53 (F := Ideal) (V m c main_arg0) (V m c main_arg1) (V m c main_arg2) (V m c main_arg3) (V m c main_arg4) := by
  refine (dats m 0 c).arrAt_eq_of_covers 5 _ (by decide +kernel) (fun t hf y => ?_)
  obtain ⟨i, k, rfl⟩ : ∃ i k, y = ix2 i k := ⟨y 0, y 1, eq_ix2 y⟩
  rw [emb5]
  blk_simp
  rw [after0_5, first, blk3, blk4]
  exact backU (blk1 m c t i) (blk2 m c t i) (blk0 m c t i) k

theorem arr6 (c : Dev nD) : (dats m 0 c).arrAt 6 cfg0.N
    = val_main_v109 (F := Ideal) (V m c main_arg0) (V m c main_arg1) (V m c main_arg2) (V m c main_arg3) (V m c main_arg4) := by
  refine (dats m 0 c).arrAt_eq_of_covers 6 _ (by decide +kernel) (fun t hf y => ?_)
  obtain ⟨i, k, rfl⟩ : ∃ i k, y = ix2 i k := ⟨y 0, y 1, eq_ix2 y⟩
  rw [emb6]
  blk_simp
  rw [after0_6, second, blk3, blk4]
  exact backZ (blk1 m c t i) (blk2 m c t i) (blk0 m c t i) k

theorem arr7 (c : Dev nD) : (dats m 0 c).arrAt 7 cfg0.N
    = val_main_v108 (F := Ideal) (V m c main_arg0) (V m c main_arg1) (V m c main_arg2) (V m c main_arg3) (V m c main_arg4) := by
  refine (dats m 0 c).arrAt_eq_of_covers 7 _ (by decide +kernel) (fun t hf y => ?_)
  obtain ⟨i, k, rfl⟩ : ∃ i k, y = ix2 i k := ⟨y 0, y 1, eq_ix2 y⟩
  obtain rfl : i = 0 := Subsingleton.elim _ _
  rw [emb7]
  blk_simp
  have h3 : t.val = 3 := by have := (flush0_7 t).mp hf; have ht : t.val < 4 := t.isLt; omega
  rw [after0_7]
  refine ((sums m c t.val t.isLt k).1).trans ?_
  rw [h3, upto_four, ref_g]

theorem arr8 (c : Dev nD) : (dats m 0 c).arrAt 8 cfg0.N
    = val_main_v105 (F := Ideal) (V m c main_arg0) (V m c main_arg1) (V m c main_arg2) (V m c main_arg3) (V m c main_arg4) := by
  refine (dats m 0 c).arrAt_eq_of_covers 8 _ (by decide +kernel) (fun t hf y => ?_)
  obtain ⟨i, k, rfl⟩ : ∃ i k, y = ix2 i k := ⟨y 0, y 1, eq_ix2 y⟩
  obtain rfl : i = 0 := Subsingleton.elim _ _
  rw [emb8]
  blk_simp
  have h3 : t.val = 3 := by have := (flush0_8 t).mp hf; have ht : t.val < 4 := t.isLt; omega
  rw [after0_8]
  refine ((sums m c t.val t.isLt k).2).trans ?_
  rw [h3, upto_four, ref_b]

/-- From equal arguments the kernel and the reference end with the same arrays, and with their arguments as they were. -/
theorem same (g : Dev nD → PrngReg) (m' : (ℓ : Loc Cert.MidBwdRefIdeal.nD Cert.MidBwdRefIdeal.τ Cert.MidBwdRefIdeal.sig) → Buf (Elt Ideal) ℓ) (g' : Dev Cert.MidBwdRefIdeal.nD → PrngReg)
    (hm : ∀ c : Dev nD, m' ((c.tc : Thread Cert.MidBwdRefIdeal.nD Cert.MidBwdRefIdeal.τ).loc Cert.MidBwdRefIdeal.main_arg0) = m ((c.tc : Thread nD τ).loc main_arg0)
      ∧ m' ((c.tc : Thread Cert.MidBwdRefIdeal.nD Cert.MidBwdRefIdeal.τ).loc Cert.MidBwdRefIdeal.main_arg1) = m ((c.tc : Thread nD τ).loc main_arg1)
      ∧ m' ((c.tc : Thread Cert.MidBwdRefIdeal.nD Cert.MidBwdRefIdeal.τ).loc Cert.MidBwdRefIdeal.main_arg2) = m ((c.tc : Thread nD τ).loc main_arg2)
      ∧ m' ((c.tc : Thread Cert.MidBwdRefIdeal.nD Cert.MidBwdRefIdeal.τ).loc Cert.MidBwdRefIdeal.main_arg3) = m ((c.tc : Thread nD τ).loc main_arg3)
      ∧ m' ((c.tc : Thread Cert.MidBwdRefIdeal.nD Cert.MidBwdRefIdeal.τ).loc Cert.MidBwdRefIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v53) = v0 c
          ∧ r.2.mem ((c.tc : Thread Cert.MidBwdRefIdeal.nD Cert.MidBwdRefIdeal.τ).loc Cert.MidBwdRefIdeal.main_v109) = v1 c
          ∧ r.2.mem ((c.tc : Thread Cert.MidBwdRefIdeal.nD Cert.MidBwdRefIdeal.τ).loc Cert.MidBwdRefIdeal.main_v108) = v2 c
          ∧ r.2.mem ((c.tc : Thread Cert.MidBwdRefIdeal.nD Cert.MidBwdRefIdeal.τ).loc Cert.MidBwdRefIdeal.main_v105) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)) := by
  refine ⟨fun c => val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run (defs (F := Ideal)) _ _).mono (fun r h c => ⟨(h c).1.trans (arr5 m c), ((h c).2).1.trans (arr6 m c), (((h c).2).2).1.trans (arr7 m c), ((((h c).2).2).2).1.trans (arr8 m c), ((((h c).2).2).2).2⟩) (Value.run_blocks m g)
  · refine (θ_run (Cert.MidBwdRefIdeal.defs (F := Ideal)) _ _).mono (fun r h c => ⟨(h c).1.trans ?_, ((h c).2).1.trans ?_, (((h c).2).2).1.trans ?_, ((((h c).2).2).2).1.trans ?_, ((((h c).2).2).2).2⟩) (Cert.MidBwdRefIdeal.Value.run (F := Ideal) m' g')
    all_goals
      obtain ⟨h0, h1, h2, h3, h4⟩ := hm c
      beta_reduce
      simp only [← h0, ← h1, ← h2, ← h3, ← h4]
      rfl

end Cert.Rows.MidBwd

end
-- ==== Proof.Rows.Loss.lean ====
/- `b_out_loss`: the second layer's output product with the loss after it, 512 columns at a grid point: the loss, added up over
   the two points, and the gradients at the stream, at the product and in the gate. -/
module

public import proofs.«01_k».proof.Proof.Gen.LossIdeal.Value
public import proofs.«01_k».proof.Proof.Gen.LossRefIdeal.Run
public import proofs.«01_k».proof.Proof.Gen.LossRefIdeal.Read
public import proofs.«01_k».proof.Proof.Rows.Sum
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.Loss

open Cert.LossIdeal Cert.LossIdeal.Gen Cert.LossRefIdeal.Read Idealize.ShloMosaic Idealize.ShloMosaic.StableHlo Idealize.ShloMosaic.TcCoe Idealize.SL.Sem

theorem c_1024 : Ideal.ofBits FTy.f32 1149239296#32 = ((1024 : ℝ) : EReal) := by
  simp [Ideal.ofBits, Ideal.ieee, -EReal.coe_mul]; norm_num

theorem c_over_1024 : Ideal.ofBits FTy.f32 981467136#32 = ((1024⁻¹ : ℝ) : EReal) := by
  simp [Ideal.ofBits, Ideal.ieee, -EReal.coe_mul]; norm_num

theorem c_over_2048 : Ideal.ofBits FTy.f32 973078528#32 = ((2048⁻¹ : ℝ) : EReal) := by
  simp [Ideal.ofBits, Ideal.ieee, -EReal.coe_mul]; norm_num

theorem c_half : Ideal.ofBits FTy.f32 1056964608#32 = ((1 / 2 : ℝ) : EReal) := by
  simp [Ideal.ofBits, Ideal.ieee, -EReal.coe_mul]; norm_num

theorem c_two : Ideal.ofBits FTy.f32 1073741824#32 = ((2 : ℝ) : EReal) := by
  simp [Ideal.ofBits, Ideal.ieee, -EReal.coe_mul]; norm_num

theorem c_one : Ideal.ofBits FTy.f32 1065353216#32 = ((1 : ℝ) : EReal) := by
  simp [Ideal.ofBits, Ideal.ieee, -EReal.coe_mul]; norm_num

/-- The product's entry. -/
def prod (a : FVec Ideal S2048x1024 .bf16) (w : FVec Ideal S1024x1024 .bf16) (R : Fin 2048) (C : Fin 1024) : EReal :=
  ∑ k : Fin 1024, a (ix2 R k) * w (ix2 k C)

/-- The output less the target. -/
def diff (a : FVec Ideal S2048x1024 .bf16) (w : FVec Ideal S1024x1024 .bf16) (x : FVec Ideal S2048x1024 .f32) (g : FVec Ideal S1x1024 .f32)
    (y : FVec Ideal S2048x1024 .f32) (R : Fin 2048) (C : Fin 1024) : EReal :=
  x (ix2 R C) + g (ix2 0 C) * prod a w R C - y (ix2 R C)

section reference

variable (a : FVec Ideal S2048x1024 .bf16) (w : FVec Ideal S1024x1024 .bf16) (x : FVec Ideal S2048x1024 .f32) (g : FVec Ideal S1x1024 .f32)
  (y : FVec Ideal S2048x1024 .f32)

theorem ref_prod (R : Fin 2048) (C : Fin 1024) : val_main_v2 (F := Ideal) a w (ix2 R C) = prod a w R C := by
  pointwise [val_main_v2, val_main_v1, val_main_v0, prod]

theorem ref_diff (R : Fin 2048) (C : Fin 1024) : val_main_v6 (F := Ideal) a w x g y (ix2 R C) = diff a w x g y R C := by
  unfold diff
  rw [← ref_prod]
  pointwise [val_main_v6, val_main_v5, val_main_v4, val_main_v3]

theorem ref_scale (R : Fin 2048) (C : Fin 1024) : val_main_v19 (F := Ideal) (ix2 R C) = ((2048⁻¹ : ℝ) : EReal) := by
  have h : val_main_v19 (F := Ideal) (ix2 R C) = Ideal.div (((1 / 2 : ℝ) : EReal) * ((1 : ℝ) : EReal)) ((1024 : ℝ) : EReal) := by
    pointwise [val_main_v19, val_main_v18, val_main_v17, val_main_cst_6, val_main_v16, val_main_v15, val_main_cst_5, val_main_cst_4, c_1024, c_half, c_one]
  rw [h, div_real _ _ (by norm_num), ← EReal.coe_mul, ← EReal.coe_mul]
  norm_num

/-- The gradient at the stream. -/
theorem ref_dy (R : Fin 2048) (C : Fin 1024) : val_main_v20 (F := Ideal) a w x g y (ix2 R C) = diff a w x g y R C * ((1024⁻¹ : ℝ) : EReal) := by
  have h : val_main_v20 (F := Ideal) a w x g y (ix2 R C)
      = val_main_v19 (F := Ideal) (ix2 R C) * (((2 : ℝ) : EReal) * val_main_v6 (F := Ideal) a w x g y (ix2 R C)) := by
    pointwise [val_main_v20, val_main_v9, val_main_v8, val_main_cst, c_two]
  rw [h, ref_scale, ref_diff, ← mul_assoc, ← EReal.coe_mul, mul_comm]
  norm_num

/-- The gradient at the product. -/
theorem ref_dyb (R : Fin 2048) (C : Fin 1024) : val_main_v27 (F := Ideal) a w x g y (ix2 R C) = g (ix2 0 C) * (diff a w x g y R C * ((1024⁻¹ : ℝ) : EReal)) := by
  rw [← ref_dy]
  pointwise [val_main_v27, val_main_v22, val_main_v21]

/-- The gradient in the gate. -/
theorem ref_dgate (C : Fin 1024) : val_main_v25 (F := Ideal) a w x g y (ix2 0 C)
    = ∑ R : Fin 2048, diff a w x g y R C * ((1024⁻¹ : ℝ) : EReal) * prod a w R C := by
  have h : val_main_v25 (F := Ideal) a w x g y (ix2 0 C)
      = ∑ R : Fin 2048, val_main_v20 (F := Ideal) a w x g y (ix2 R C) * val_main_v2 (F := Ideal) a w (ix2 R C) := by
    pointwise [val_main_v25, val_main_v24, val_main_cst_7, val_main_v23]
  rw [h]
  exact Finset.sum_congr rfl fun R _ => by rw [ref_dy, ref_prod]

/-- The loss. -/
theorem ref_loss : val_main_v26 (F := Ideal) a w x g y (ix2 0 0)
    = (∑ C : Fin 1024, ∑ R : Fin 2048, diff a w x g y R C * diff a w x g y R C) * ((2048⁻¹ : ℝ) : EReal) := by
  have h : val_main_v26 (F := Ideal) a w x g y (ix2 0 0)
      = ((1 / 2 : ℝ) : EReal) * ∑ R : Fin 2048, Ideal.div (∑ C : Fin 1024, val_main_v6 (F := Ideal) a w x g y (ix2 R C) * val_main_v6 (F := Ideal) a w x g y (ix2 R C)) ((1024 : ℝ) : EReal) := by
    pointwise [val_main_v26, val_main_v14, val_main_cst_3, val_main_v13, val_main_cst_2, val_main_v12, val_main_v11, val_main_cst_1, val_main_v10, val_main_cst_0, val_main_v7, c_1024, c_half]
  rw [h]
  simp only [ref_diff, div_real _ (1024 : ℝ) (by norm_num)]
  rw [sum_mul_real _ _ _ (by norm_num), Finset.sum_comm, mul_comm, mul_assoc, ← EReal.coe_mul]
  norm_num

end reference

section point

variable {a : FVec Ideal S2048x1024 .bf16} {w : FVec Ideal S1024x1024 .bf16} {x : FVec Ideal S2048x1024 .f32} {g : FVec Ideal S1x1024 .f32}
  {y : FVec Ideal S2048x1024 .f32} {v1 : FVec Ideal S1024x512 .bf16} {v3 v8 : FVec Ideal S2048x512 .f32} {v4 : FVec Ideal S1x512 .f32}
  {C : Fin 512 → Fin 1024}

theorem ker_prod (h1 : ∀ k i, v1 (ix2 k i) = w (ix2 k (C i))) (R : Fin 2048) (i : Fin 512) : k0_pay3 (F := Ideal) a v1 (ix2 R i) = prod a w R (C i) := by
  pointwise [k0_pay3, prod, h1]

theorem ker_diff (h1 : ∀ k i, v1 (ix2 k i) = w (ix2 k (C i))) (h3 : ∀ R i, v3 (ix2 R i) = x (ix2 R (C i))) (h4 : ∀ i, v4 (ix2 0 i) = g (ix2 0 (C i)))
    (h8 : ∀ R i, v8 (ix2 R i) = y (ix2 R (C i))) (R : Fin 2048) (i : Fin 512) : k0_pay4 (F := Ideal) a v1 v3 v4 v8 (ix2 R i) = diff a w x g y R (C i) := by
  have h : k0_pay4 (F := Ideal) a v1 v3 v4 v8 (ix2 R i) = v3 (ix2 R i) + v4 (ix2 0 i) * k0_pay3 (F := Ideal) a v1 (ix2 R i) - v8 (ix2 R i) := by
    pointwise [k0_pay4]
  rw [h, ker_prod h1, h3, h4, h8, diff]

theorem ker_dy (h1 : ∀ k i, v1 (ix2 k i) = w (ix2 k (C i))) (h3 : ∀ R i, v3 (ix2 R i) = x (ix2 R (C i))) (h4 : ∀ i, v4 (ix2 0 i) = g (ix2 0 (C i)))
    (h8 : ∀ R i, v8 (ix2 R i) = y (ix2 R (C i))) (R : Fin 2048) (i : Fin 512) :
    k0_pay5 (F := Ideal) a v1 v3 v4 v8 (ix2 R i) = diff a w x g y R (C i) * ((1024⁻¹ : ℝ) : EReal) := by
  rw [← ker_diff h1 h3 h4 h8]
  pointwise [k0_pay5, c_over_1024]

theorem ker_dyb (h1 : ∀ k i, v1 (ix2 k i) = w (ix2 k (C i))) (h3 : ∀ R i, v3 (ix2 R i) = x (ix2 R (C i))) (h4 : ∀ i, v4 (ix2 0 i) = g (ix2 0 (C i)))
    (h8 : ∀ R i, v8 (ix2 R i) = y (ix2 R (C i))) (R : Fin 2048) (i : Fin 512) :
    k0_pay6 (F := Ideal) a v1 v3 v4 v8 v4 (ix2 R i) = g (ix2 0 (C i)) * (diff a w x g y R (C i) * ((1024⁻¹ : ℝ) : EReal)) := by
  rw [← ker_dy h1 h3 h4 h8, ← h4]
  pointwise [k0_pay6]

theorem ker_dgate (h1 : ∀ k i, v1 (ix2 k i) = w (ix2 k (C i))) (h3 : ∀ R i, v3 (ix2 R i) = x (ix2 R (C i))) (h4 : ∀ i, v4 (ix2 0 i) = g (ix2 0 (C i)))
    (h8 : ∀ R i, v8 (ix2 R i) = y (ix2 R (C i))) (i : Fin 512) :
    k0_pay7 (F := Ideal) a v1 v3 v4 v8 (ix2 0 i) = ∑ R : Fin 2048, diff a w x g y R (C i) * ((1024⁻¹ : ℝ) : EReal) * prod a w R (C i) := by
  have h : k0_pay7 (F := Ideal) a v1 v3 v4 v8 (ix2 0 i) = ∑ R : Fin 2048, k0_pay5 (F := Ideal) a v1 v3 v4 v8 (ix2 R i) * k0_pay3 (F := Ideal) a v1 (ix2 R i) := by
    pointwise [k0_pay7]
  rw [h]
  exact Finset.sum_congr rfl fun R _ => by rw [ker_dy h1 h3 h4 h8, ker_prod h1]

theorem ker_loss (h1 : ∀ k i, v1 (ix2 k i) = w (ix2 k (C i))) (h3 : ∀ R i, v3 (ix2 R i) = x (ix2 R (C i))) (h4 : ∀ i, v4 (ix2 0 i) = g (ix2 0 (C i)))
    (h8 : ∀ R i, v8 (ix2 R i) = y (ix2 R (C i))) (acc : FVec Ideal S1x1 .f32) :
    k0_pay1 (F := Ideal) acc (k0_pay9 a v1 v3 v4 v8) (ix2 0 0)
      = acc (ix2 0 0) + ∑ i : Fin 512, ∑ R : Fin 2048, diff a w x g y R (C i) * diff a w x g y R (C i) := by
  have h : k0_pay1 (F := Ideal) acc (k0_pay9 a v1 v3 v4 v8) (ix2 0 0)
      = acc (ix2 0 0) + ∑ i : Fin 512, ∑ R : Fin 2048, k0_pay4 (F := Ideal) a v1 v3 v4 v8 (ix2 R i) * k0_pay4 (F := Ideal) a v1 v3 v4 v8 (ix2 R i) := by
    pointwise [k0_pay1, k0_pay9]
  rw [h]
  exact congrArg (acc (ix2 0 0) + ·) (Finset.sum_congr rfl fun i _ => Finset.sum_congr rfl fun R _ => by rw [ker_diff h1 h3 h4 h8])

theorem zero8 : k0_pay8 (F := Ideal) (ix2 0 0) = 0 := by pointwise [k0_pay8]

theorem ker_half (acc : FVec Ideal S1x1 .f32) : k0_pay2 (F := Ideal) acc (ix2 0 0) = acc (ix2 0 0) * ((2048⁻¹ : ℝ) : EReal) := by
  pointwise [k0_pay2, c_over_2048]

end point

/-- A sum over 1024 columns by its two halves. -/
theorem sum_halves (f : Fin 1024 → EReal) :
    ∑ k, f k = ∑ k : Fin 512, f ⟨512 * 0 + k.val, by omega⟩ + ∑ k : Fin 512, f ⟨512 * 1 + k.val, by omega⟩ := by
  refine (Fin.sum_univ_add (a := 512) (b := 512) f).trans ?_
  refine congrArg₂ (· + ·) (Finset.sum_congr rfl fun k _ => congrArg f (Fin.ext ?_)) (Finset.sum_congr rfl fun k _ => congrArg f (Fin.ext ?_))
  · simp
  · simp only [Fin.val_natAdd]

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val]
    ∧ win0_4.index t = ![0, t.val] ∧ win0_5.index t = ![0, 0] ∧ win0_6.index t = ![0, t.val] ∧ win0_7.index t = ![0, t.val] ∧ win0_8.index t = ![0, t.val] :=
  (by decide +kernel : ∀ t : Fin grid0.N, _)

/-- The array column a block's column is. -/
abbrev col (t : Fin cfg0.N) (i : Fin 512) : Fin 1024 := ⟨512 * t.val + i.val, by have := t.isLt; change t.val < 2 at this; omega⟩

theorem blk0 (c : Dev nD) (t : Fin cfg0.N) : iblk m c 0 t = V m c main_arg0 := by
  funext y
  obtain ⟨i, k, rfl⟩ : ∃ i k, y = ix2 i k := ⟨y 0, y 1, eq_ix2 y⟩
  unfold iblk
  blk_ext [idx t]

theorem blk1 (c : Dev nD) (t : Fin cfg0.N) (i : Fin 1024) (k : Fin 512) : iblk m c 1 t (ix2 i k) = V m c main_arg1 (ix2 i (col t k)) := by
  unfold iblk
  blk_ext [idx t]

theorem blk2 (c : Dev nD) (t : Fin cfg0.N) (i : Fin 2048) (k : Fin 512) : iblk m c 2 t (ix2 i k) = V m c main_arg2 (ix2 i (col t k)) := by
  unfold iblk
  blk_ext [idx t]

theorem blk3 (c : Dev nD) (t : Fin cfg0.N) (k : Fin 512) : iblk m c 3 t (ix2 0 k) = V m c main_arg3 (ix2 0 (col t k)) := by
  unfold iblk
  blk_ext [idx t]

theorem blk4 (c : Dev nD) (t : Fin cfg0.N) (i : Fin 2048) (k : Fin 512) : iblk m c 4 t (ix2 i k) = V m c main_arg4 (ix2 i (col t k)) := by
  unfold iblk
  blk_ext [idx t]

theorem emb5 (t : Fin cfg0.N) : ((cfg0.win 5).blk t).view.emb (ix2 0 0) = (ix2 0 0 : S1x1.Idx) := by
  blk_ext [idx t]

theorem emb6 (t : Fin cfg0.N) (i : Fin 2048) (k : Fin 512) : ((cfg0.win 6).blk t).view.emb (ix2 i k) = (ix2 i (col t k) : S2048x1024.Idx) := by
  blk_ext [idx t]

theorem emb7 (t : Fin cfg0.N) (i : Fin 2048) (k : Fin 512) : ((cfg0.win 7).blk t).view.emb (ix2 i k) = (ix2 i (col t k) : S2048x1024.Idx) := by
  blk_ext [idx t]

theorem emb8 (t : Fin cfg0.N) (k : Fin 512) : ((cfg0.win 8).blk t).view.emb (ix2 0 k) = (ix2 0 (col t k) : S1x1024.Idx) := by
  blk_ext [idx t]

theorem outs_A (c : Dev nD) (t : Fin cfg0.N) (h0 : t.val % 2 = 0) :
    (outsAt0 m c t.val t.isLt).2 =
      (k0_pay5 (F := Ideal) (iblk m c 0 t) (iblk m c 1 t) (iblk m c 2 t) (iblk m c 3 t) (iblk m c 4 t),
       k0_pay6 (F := Ideal) (iblk m c 0 t) (iblk m c 1 t) (iblk m c 2 t) (iblk m c 3 t) (iblk m c 4 t) (iblk m c 3 t),
       k0_pay7 (F := Ideal) (iblk m c 0 t) (iblk m c 1 t) (iblk m c 2 t) (iblk m c 3 t) (iblk m c 4 t),
       k0_pay1 (F := Ideal) (k0_pay8 (F := Ideal)) (k0_pay9 (iblk m c 0 t) (iblk m c 1 t) (iblk m c 2 t) (iblk m c 3 t) (iblk m c 4 t))) := by
  rw [outsAt0_A m c t h0 (by omega)]
  unfold out0_A_6 out0_A_7 out0_A_8 sout0_A_0
  frame_out

theorem outs_B (c : Dev nD) (t : Fin cfg0.N) (h1 : t.val % 2 = 1) :
    outsAt0 m c t.val t.isLt =
      (k0_pay2 (F := Ideal) (k0_pay1 (F := Ideal) (outsAt0 m c (t.val - 1) (Nat.lt_of_le_of_lt (Nat.sub_le _ _) t.isLt)).2.2.2.2 (k0_pay9 (iblk m c 0 t) (iblk m c 1 t) (iblk m c 2 t) (iblk m c 3 t) (iblk m c 4 t))),
       k0_pay5 (F := Ideal) (iblk m c 0 t) (iblk m c 1 t) (iblk m c 2 t) (iblk m c 3 t) (iblk m c 4 t),
       k0_pay6 (F := Ideal) (iblk m c 0 t) (iblk m c 1 t) (iblk m c 2 t) (iblk m c 3 t) (iblk m c 4 t) (iblk m c 3 t),
       k0_pay7 (F := Ideal) (iblk m c 0 t) (iblk m c 1 t) (iblk m c 2 t) (iblk m c 3 t) (iblk m c 4 t),
       k0_pay1 (F := Ideal) (outsAt0 m c (t.val - 1) (Nat.lt_of_le_of_lt (Nat.sub_le _ _) t.isLt)).2.2.2.2 (k0_pay9 (iblk m c 0 t) (iblk m c 1 t) (iblk m c 2 t) (iblk m c 3 t) (iblk m c 4 t))) := by
  rw [outsAt0_B m c t (by omega) h1]
  unfold out0_B_5 out0_B_6 out0_B_7 out0_B_8 sout0_B_0
  frame_out
  rw [(Memref.isWhole_whole cc0_scratch0).read_unread]

theorem outs (c : Dev nD) (t : Fin cfg0.N) :
    (outsAt0 m c t.val t.isLt).2.1 = k0_pay5 (F := Ideal) (iblk m c 0 t) (iblk m c 1 t) (iblk m c 2 t) (iblk m c 3 t) (iblk m c 4 t)
    ∧ (outsAt0 m c t.val t.isLt).2.2.1 = k0_pay6 (F := Ideal) (iblk m c 0 t) (iblk m c 1 t) (iblk m c 2 t) (iblk m c 3 t) (iblk m c 4 t) (iblk m c 3 t)
    ∧ (outsAt0 m c t.val t.isLt).2.2.2.1 = k0_pay7 (F := Ideal) (iblk m c 0 t) (iblk m c 1 t) (iblk m c 2 t) (iblk m c 3 t) (iblk m c 4 t) := by
  by_cases h : t.val % 2 = 0
  · rw [outs_A m c t h]
    exact ⟨rfl, rfl, rfl⟩
  · rw [outs_B m c t (by omega)]
    exact ⟨rfl, rfl, rfl⟩

/-- What a column adds to the loss's sum. -/
abbrev part (c : Dev nD) (C : Fin 1024) : EReal :=
  ∑ R : Fin 2048, diff (V m c main_arg0) (V m c main_arg1) (V m c main_arg2) (V m c main_arg3) (V m c main_arg4) R C
    * diff (V m c main_arg0) (V m c main_arg1) (V m c main_arg2) (V m c main_arg3) (V m c main_arg4) R C

/-- The running sum after the first point. -/
theorem first (c : Dev nD) (n : ℕ) (hn : n < cfg0.N) (h : n = 0) :
    (outsAt0 m c n hn).2.2.2.2 (ix2 0 0) = ∑ i : Fin 512, part m c ⟨512 * 0 + i.val, by omega⟩ := by
  subst h
  rw [outs_A m c ⟨0, hn⟩ rfl, blk0]
  refine (ker_loss (blk1 m c ⟨0, hn⟩) (blk2 m c ⟨0, hn⟩) (blk3 m c ⟨0, hn⟩) (blk4 m c ⟨0, hn⟩) _).trans ?_
  rw [zero8, zero_add]

/-- The loss the last point writes. -/
theorem last (c : Dev nD) (h : 1 < cfg0.N) : (outsAt0 m c 1 h).1 (ix2 0 0) = (∑ C : Fin 1024, part m c C) * ((2048⁻¹ : ℝ) : EReal) := by
  rw [outs_B m c ⟨1, h⟩ rfl, blk0]
  refine (ker_half _).trans (congrArg (· * _) ?_)
  refine (ker_loss (blk1 m c ⟨1, h⟩) (blk2 m c ⟨1, h⟩) (blk3 m c ⟨1, h⟩) (blk4 m c ⟨1, h⟩) _).trans ?_
  rw [sum_halves]
  exact congrArg₂ (· + ·) (first m c _ _ rfl) rfl

/-- The four arrays after the run. -/
theorem arr5 (c : Dev nD) : (dats m 0 c).arrAt 5 cfg0.N
    = val_main_v26 (F := Ideal) (V m c main_arg0) (V m c main_arg1) (V m c main_arg2) (V m c main_arg3) (V m c main_arg4) := by
  refine (dats m 0 c).arrAt_eq_of_covers 5 _ (by decide +kernel) (fun t hf y => ?_)
  obtain ⟨i, k, rfl⟩ : ∃ i k, y = ix2 i k := ⟨y 0, y 1, eq_ix2 y⟩
  obtain rfl : i = 0 := Subsingleton.elim _ _
  obtain rfl : k = 0 := Subsingleton.elim _ _
  rw [emb5]
  blk_simp
  have ht : t = ⟨1, (by decide : 1 < grid0.N)⟩ := Fin.ext (by have := (flush0_5 t).mp hf; have ht : t.val < 2 := t.isLt; show t.val = 1; omega)
  subst ht
  rw [after0_5, ref_loss]
  exact last m c _

theorem arr6 (c : Dev nD) : (dats m 0 c).arrAt 6 cfg0.N
    = val_main_v20 (F := Ideal) (V m c main_arg0) (V m c main_arg1) (V m c main_arg2) (V m c main_arg3) (V m c main_arg4) := by
  refine (dats m 0 c).arrAt_eq_of_covers 6 _ (by decide +kernel) (fun t hf y => ?_)
  obtain ⟨i, k, rfl⟩ : ∃ i k, y = ix2 i k := ⟨y 0, y 1, eq_ix2 y⟩
  rw [emb6]
  blk_simp
  rw [after0_6, (outs m c t).1, blk0, ref_dy]
  exact ker_dy (blk1 m c t) (blk2 m c t) (blk3 m c t) (blk4 m c t) i k

theorem arr7 (c : Dev nD) : (dats m 0 c).arrAt 7 cfg0.N
    = val_main_v27 (F := Ideal) (V m c main_arg0) (V m c main_arg1) (V m c main_arg2) (V m c main_arg3) (V m c main_arg4) := by
  refine (dats m 0 c).arrAt_eq_of_covers 7 _ (by decide +kernel) (fun t hf y => ?_)
  obtain ⟨i, k, rfl⟩ : ∃ i k, y = ix2 i k := ⟨y 0, y 1, eq_ix2 y⟩
  rw [emb7]
  blk_simp
  rw [after0_7, (outs m c t).2.1, blk0, ref_dyb]
  exact ker_dyb (blk1 m c t) (blk2 m c t) (blk3 m c t) (blk4 m c t) i k

theorem arr8 (c : Dev nD) : (dats m 0 c).arrAt 8 cfg0.N
    = val_main_v25 (F := Ideal) (V m c main_arg0) (V m c main_arg1) (V m c main_arg2) (V m c main_arg3) (V m c main_arg4) := by
  refine (dats m 0 c).arrAt_eq_of_covers 8 _ (by decide +kernel) (fun t hf y => ?_)
  obtain ⟨i, k, rfl⟩ : ∃ i k, y = ix2 i k := ⟨y 0, y 1, eq_ix2 y⟩
  obtain rfl : i = 0 := Subsingleton.elim _ _
  rw [emb8]
  blk_simp
  rw [after0_8, (outs m c t).2.2, blk0, ref_dgate]
  exact ker_dgate (blk1 m c t) (blk2 m c t) (blk3 m c t) (blk4 m c t) k

/-- From equal arguments the kernel and the reference end with the same arrays, and with their arguments as they were. -/
theorem same (g : Dev nD → PrngReg) (m' : (ℓ : Loc Cert.LossRefIdeal.nD Cert.LossRefIdeal.τ Cert.LossRefIdeal.sig) → Buf (Elt Ideal) ℓ) (g' : Dev Cert.LossRefIdeal.nD → PrngReg)
    (hm : ∀ c : Dev nD, m' ((c.tc : Thread Cert.LossRefIdeal.nD Cert.LossRefIdeal.τ).loc Cert.LossRefIdeal.main_arg0) = m ((c.tc : Thread nD τ).loc main_arg0)
      ∧ m' ((c.tc : Thread Cert.LossRefIdeal.nD Cert.LossRefIdeal.τ).loc Cert.LossRefIdeal.main_arg1) = m ((c.tc : Thread nD τ).loc main_arg1)
      ∧ m' ((c.tc : Thread Cert.LossRefIdeal.nD Cert.LossRefIdeal.τ).loc Cert.LossRefIdeal.main_arg2) = m ((c.tc : Thread nD τ).loc main_arg2)
      ∧ m' ((c.tc : Thread Cert.LossRefIdeal.nD Cert.LossRefIdeal.τ).loc Cert.LossRefIdeal.main_arg3) = m ((c.tc : Thread nD τ).loc main_arg3)
      ∧ m' ((c.tc : Thread Cert.LossRefIdeal.nD Cert.LossRefIdeal.τ).loc Cert.LossRefIdeal.main_arg4) = m ((c.tc : Thread nD τ).loc main_arg4)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v26) = v0 c
          ∧ r.2.mem ((c.tc : Thread Cert.LossRefIdeal.nD Cert.LossRefIdeal.τ).loc Cert.LossRefIdeal.main_v20) = v1 c
          ∧ r.2.mem ((c.tc : Thread Cert.LossRefIdeal.nD Cert.LossRefIdeal.τ).loc Cert.LossRefIdeal.main_v27) = v2 c
          ∧ r.2.mem ((c.tc : Thread Cert.LossRefIdeal.nD Cert.LossRefIdeal.τ).loc Cert.LossRefIdeal.main_v25) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)) := by
  refine ⟨fun c => val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run (defs (F := Ideal)) _ _).mono (fun r h c => ⟨(h c).1.trans (arr5 m c), ((h c).2).1.trans (arr6 m c), (((h c).2).2).1.trans (arr7 m c), ((((h c).2).2).2).1.trans (arr8 m c), ((((h c).2).2).2).2⟩) (Value.run_blocks m g)
  · refine (θ_run (Cert.LossRefIdeal.defs (F := Ideal)) _ _).mono (fun r h c => ⟨(h c).1.trans ?_, ((h c).2).1.trans ?_, (((h c).2).2).1.trans ?_, ((((h c).2).2).2).1.trans ?_, ((((h c).2).2).2).2⟩) (Cert.LossRefIdeal.Value.run (F := Ideal) m' g')
    all_goals
      obtain ⟨h0, h1, h2, h3, h4⟩ := hm c
      beta_reduce
      simp only [← h0, ← h1, ← h2, ← h3, ← h4]
      rfl

end Cert.Rows.Loss

end
-- ==== Proof.Rows.AdamOut.lean ====
/- `adam_b_out`: the sum of the devices' parts of a gradient, and the step of AdamW with it, in one grid point. -/
module

public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.AdamOut

open Cert.AdamOutIdeal Cert.AdamOutIdeal.Gen Cert.AdamOutRefIdeal.Read Idealize.ShloMosaic Idealize.ShloMosaic.StableHlo Idealize.ShloMosaic.TcCoe Idealize.SL.Sem

section rows

variable {p : FVec Ideal S8x128x1024 .bf16} {w u v : FVec Ideal S128x1024 .f32}
variable {x0 : FVec Ideal S8x128x1024 .bf16} {x1 x2 x3 : FVec Ideal S128x1024 .f32} {r : Fin 128} {R : Fin 128} {c : Fin 1024}

/-- The sum of the parts in a block. -/
abbrev parts (x0 : FVec Ideal S8x128x1024 .bf16) : FVec Ideal S128x1024 .f32 :=
  k0_pay4 (F := Ideal) (View.ld x0 r0_0) (View.ld x0 r0_1) (View.ld x0 r0_2) (View.ld x0 r0_3) (View.ld x0 r0_4) (View.ld x0 r0_5) (View.ld x0 r0_6) (View.ld x0 r0_7)

/-- It is the sum of the parts in the row. -/
theorem row_g (h0 : ∀ s, x0 (ix3 s r c) = p (ix3 s R c)) :
    parts x0 (ix2 r c) = val_main_v1 (F := Ideal) p (ix2 R c) := by
  have e0 := h0 0
  have e1 := h0 1
  have e2 := h0 2
  have e3 := h0 3
  have e4 := h0 4
  have e5 := h0 5
  have e6 := h0 6
  have e7 := h0 7
  have i (s : Fin 8) : idx_main_v1 (ix2 R c) s = ix3 s R c := by
    funext d
    fin_cases d <;> rfl
  rw [val_main_v1_apply]
  pointwise [k0_pay4, r0_0, r0_1, r0_2, r0_3, r0_4, r0_5, r0_6, r0_7, val_main_v0, val_main_cst, Fin.sum_univ_eight, e0, e1, e2, e3, e4, e5, e6, e7]
  simp only [i]

/-- The new first moment. -/
theorem row_m {g : FVec Ideal S128x1024 .f32} (hg : g (ix2 r c) = val_main_v1 (F := Ideal) p (ix2 R c)) (h2 : x2 (ix2 r c) = u (ix2 R c)) :
    k0_pay1 (F := Ideal) g x2 (ix2 r c) = val_main_v6 (F := Ideal) p u (ix2 R c) := by
  pointwise [k0_pay1, val_main_v6, val_main_v5, val_main_v4, val_main_v3, val_main_v2, val_main_cst_0, val_main_cst_1, hg, h2]

/-- The new second moment. -/
theorem row_v {g : FVec Ideal S128x1024 .f32} (hg : g (ix2 r c) = val_main_v1 (F := Ideal) p (ix2 R c)) (h3 : x3 (ix2 r c) = v (ix2 R c)) :
    k0_pay2 (F := Ideal) g x3 (ix2 r c) = val_main_v12 (F := Ideal) p v (ix2 R c) := by
  pointwise [k0_pay2, val_main_v12, val_main_v11, val_main_v10, val_main_v9, val_main_v8, val_main_v7, val_main_cst_2, val_main_cst_3, hg, h3]

/-- The step of the weights. -/
theorem row_d {g : FVec Ideal S128x1024 .f32} (hg : g (ix2 r c) = val_main_v1 (F := Ideal) p (ix2 R c))
    (h1 : x1 (ix2 r c) = w (ix2 R c)) (h2 : x2 (ix2 r c) = u (ix2 R c)) (h3 : x3 (ix2 r c) = v (ix2 R c)) :
    k0_pay3 (F := Ideal) g x1 x2 x3 (ix2 r c) = val_main_v25 (F := Ideal) p w u v (ix2 R c) := by
  pointwise [k0_pay3, k0_pay1, k0_pay2, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, hg, h1, h2, h3]

end rows

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The array row a block's row is. -/
abbrev row (t : Fin cfg0.N) (i : Fin 128) : Fin 128 := ⟨128 * t.val + i.val, by have := t.isLt; change t.val < 1 at this; omega⟩

theorem blk0 (c : Dev nD) (t : Fin cfg0.N) (s : Fin 8) (i : Fin 128) (k : Fin 1024) : iblk m c 0 t (ix3 s i k) = V m c main_arg0 (ix3 s (row t i) k) := by
  unfold iblk
  blk_ext [idx t]

theorem blk1 (c : Dev nD) (t : Fin cfg0.N) (i : Fin 128) (k : Fin 1024) : iblk m c 1 t (ix2 i k) = V m c main_arg1 (ix2 (row t i) k) := by
  unfold iblk
  blk_ext [idx t]

theorem blk2 (c : Dev nD) (t : Fin cfg0.N) (i : Fin 128) (k : Fin 1024) : iblk m c 2 t (ix2 i k) = V m c main_arg2 (ix2 (row t i) k) := by
  unfold iblk
  blk_ext [idx t]

theorem blk3 (c : Dev nD) (t : Fin cfg0.N) (i : Fin 128) (k : Fin 1024) : iblk m c 3 t (ix2 i k) = V m c main_arg3 (ix2 (row t i) k) := by
  unfold iblk
  blk_ext [idx t]

theorem emb4 (t : Fin cfg0.N) (i : Fin 128) (k : Fin 1024) :
    ((cfg0.win 4).blk t).view.emb (ix2 i k) = (ix2 (row t i) k : S128x1024.Idx) := by
  blk_ext [idx t]

theorem out4 (x0 x1 x2 x3) : out0_4 (F := Ideal) x0 x1 x2 x3 = parts x0 := by
  unfold_out out0_4
  frame_out

theorem arr4 (c : Dev nD) : (dats m 0 c).arrAt 4 cfg0.N
    = val_main_v1 (F := Ideal) (V m c main_arg0) := by
  refine (dats m 0 c).arrAt_eq_of_covers 4 _ (by decide +kernel) (fun t hf y => ?_)
  obtain ⟨i, k, rfl⟩ : ∃ i k, y = ix2 i k := ⟨y 0, y 1, eq_ix2 y⟩
  rw [emb4]
  blk_simp
  rw [after0_4, out4]
  exact row_g (fun s => blk0 m c t s i k)

theorem emb5 (t : Fin cfg0.N) (i : Fin 128) (k : Fin 1024) :
    ((cfg0.win 5).blk t).view.emb (ix2 i k) = (ix2 (row t i) k : S128x1024.Idx) := by
  blk_ext [idx t]

theorem out5 (x0 x1 x2 x3) : out0_5 (F := Ideal) x0 x1 x2 x3 = k0_pay3 (F := Ideal) (parts x0) x1 x2 x3 := by
  unfold_out out0_5
  frame_out

theorem arr5 (c : Dev nD) : (dats m 0 c).arrAt 5 cfg0.N
    = val_main_v25 (F := Ideal) (V m c main_arg0) (V m c main_arg1) (V m c main_arg2) (V m c main_arg3) := by
  refine (dats m 0 c).arrAt_eq_of_covers 5 _ (by decide +kernel) (fun t hf y => ?_)
  obtain ⟨i, k, rfl⟩ : ∃ i k, y = ix2 i k := ⟨y 0, y 1, eq_ix2 y⟩
  rw [emb5]
  blk_simp
  rw [after0_5, out5]
  exact row_d (row_g (fun s => blk0 m c t s i k)) (blk1 m c t i k) (blk2 m c t i k) (blk3 m c t i k)

theorem emb6 (t : Fin cfg0.N) (i : Fin 128) (k : Fin 1024) :
    ((cfg0.win 6).blk t).view.emb (ix2 i k) = (ix2 (row t i) k : S128x1024.Idx) := by
  blk_ext [idx t]

theorem out6 (x0 x1 x2 x3) : out0_6 (F := Ideal) x0 x1 x2 x3 = k0_pay1 (F := Ideal) (parts x0) x2 := by
  unfold_out out0_6
  frame_out

theorem arr6 (c : Dev nD) : (dats m 0 c).arrAt 6 cfg0.N
    = val_main_v6 (F := Ideal) (V m c main_arg0) (V m c main_arg2) := by
  refine (dats m 0 c).arrAt_eq_of_covers 6 _ (by decide +kernel) (fun t hf y => ?_)
  obtain ⟨i, k, rfl⟩ : ∃ i k, y = ix2 i k := ⟨y 0, y 1, eq_ix2 y⟩
  rw [emb6]
  blk_simp
  rw [after0_6, out6]
  exact row_m (row_g (fun s => blk0 m c t s i k)) (blk2 m c t i k)

theorem emb7 (t : Fin cfg0.N) (i : Fin 128) (k : Fin 1024) :
    ((cfg0.win 7).blk t).view.emb (ix2 i k) = (ix2 (row t i) k : S128x1024.Idx) := by
  blk_ext [idx t]

theorem out7 (x0 x1 x2 x3) : out0_7 (F := Ideal) x0 x1 x2 x3 = k0_pay2 (F := Ideal) (parts x0) x3 := by
  unfold_out out0_7
  frame_out

theorem arr7 (c : Dev nD) : (dats m 0 c).arrAt 7 cfg0.N
    = val_main_v12 (F := Ideal) (V m c main_arg0) (V m c main_arg3) := by
  refine (dats m 0 c).arrAt_eq_of_covers 7 _ (by decide +kernel) (fun t hf y => ?_)
  obtain ⟨i, k, rfl⟩ : ∃ i k, y = ix2 i k := ⟨y 0, y 1, eq_ix2 y⟩
  rw [emb7]
  blk_simp
  rw [after0_7, out7]
  exact row_v (row_g (fun s => blk0 m c t s i k)) (blk3 m c t i k)

/-- From equal arguments the kernel and the reference end with the same arrays, and with their arguments as they were. -/
theorem same (g : Dev nD → PrngReg) (m' : (ℓ : Loc Cert.AdamOutRefIdeal.nD Cert.AdamOutRefIdeal.τ Cert.AdamOutRefIdeal.sig) → Buf (Elt Ideal) ℓ) (g' : Dev Cert.AdamOutRefIdeal.nD → PrngReg)
    (hm : ∀ c : Dev nD, m' ((c.tc : Thread Cert.AdamOutRefIdeal.nD Cert.AdamOutRefIdeal.τ).loc Cert.AdamOutRefIdeal.main_arg0) = m ((c.tc : Thread nD τ).loc main_arg0)
      ∧ m' ((c.tc : Thread Cert.AdamOutRefIdeal.nD Cert.AdamOutRefIdeal.τ).loc Cert.AdamOutRefIdeal.main_arg1) = m ((c.tc : Thread nD τ).loc main_arg1)
      ∧ m' ((c.tc : Thread Cert.AdamOutRefIdeal.nD Cert.AdamOutRefIdeal.τ).loc Cert.AdamOutRefIdeal.main_arg2) = m ((c.tc : Thread nD τ).loc main_arg2)
      ∧ m' ((c.tc : Thread Cert.AdamOutRefIdeal.nD Cert.AdamOutRefIdeal.τ).loc Cert.AdamOutRefIdeal.main_arg3) = m ((c.tc : Thread nD τ).loc main_arg3)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)) := by
  refine ⟨fun c => val_main_v1 (F := Ideal) (m ((c.tc : Thread nD τ).loc main_arg0)), fun c => val_main_v25 (F := Ideal) (m ((c.tc : Thread nD τ).loc main_arg0)) (m ((c.tc : Thread nD τ).loc main_arg1)) (m ((c.tc : Thread nD τ).loc main_arg2)) (m ((c.tc : Thread nD τ).loc main_arg3)), fun c => val_main_v6 (F := Ideal) (m ((c.tc : Thread nD τ).loc main_arg0)) (m ((c.tc : Thread nD τ).loc main_arg2)), fun c => val_main_v12 (F := Ideal) (m ((c.tc : Thread nD τ).loc main_arg0)) (m ((c.tc : Thread nD τ).loc main_arg3)), ?_, ?_⟩
  · exact (θ_run (defs (F := Ideal)) _ _).mono (fun r h c => ⟨(h c).1.trans (arr4 m c), ((h c).2).1.trans (arr5 m c), (((h c).2).2).1.trans (arr6 m c), ((((h c).2).2).2).1.trans (arr7 m c), ((((h c).2).2).2).2⟩) (Value.run_blocks m g)
  · refine (θ_run (Cert.AdamOutRefIdeal.defs (F := Ideal)) _ _).mono (fun r h c => ⟨(h c).1.trans ?_, ((h c).2).1.trans ?_, (((h c).2).2).1.trans ?_, ((((h c).2).2).2).1.trans ?_, ((((h c).2).2).2).2⟩) (Cert.AdamOutRefIdeal.Value.run (F := Ideal) m' g')
    all_goals
      obtain ⟨h0, h1, h2, h3⟩ := hm c
      beta_reduce
      simp only [← h0, ← h1, ← h2, ← h3]
      rfl

end Cert.Rows.AdamOut

end
-- ==== Proof.Rows.AdamInB.lean ====
/- `adam_b_in`: the sum of the devices' parts of a gradient, and the step of AdamW with it, 256 rows at a grid point. -/
module

public import proofs.«01_k».proof.Proof.Gen.AdamInBIdeal.Value
public import proofs.«01_k».proof.Proof.Gen.AdamInBRefIdeal.Run
public import proofs.«01_k».proof.Proof.Gen.AdamInBRefIdeal.Read
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.AdamInB

open Cert.AdamInBIdeal Cert.AdamInBIdeal.Gen Cert.AdamInBRefIdeal.Read Idealize.ShloMosaic Idealize.ShloMosaic.StableHlo Idealize.ShloMosaic.TcCoe Idealize.SL.Sem

section rows

variable {p : FVec Ideal S8x1024x1280 .bf16} {w u v : FVec Ideal S1024x1280 .f32}
variable {x0 : FVec Ideal S8x256x1280 .bf16} {x1 x2 x3 : FVec Ideal S256x1280 .f32} {r : Fin 256} {R : Fin 1024} {c : Fin 1280}

/-- The sum of the parts in a block. -/
abbrev parts (x0 : FVec Ideal S8x256x1280 .bf16) : FVec Ideal S256x1280 .f32 :=
  k0_pay4 (F := Ideal) (View.ld x0 r0_0) (View.ld x0 r0_1) (View.ld x0 r0_2) (View.ld x0 r0_3) (View.ld x0 r0_4) (View.ld x0 r0_5) (View.ld x0 r0_6) (View.ld x0 r0_7)

/-- It is the sum of the parts in the row. -/
theorem row_g (h0 : ∀ s, x0 (ix3 s r c) = p (ix3 s R c)) :
    parts x0 (ix2 r c) = val_main_v1 (F := Ideal) p (ix2 R c) := by
  have e0 := h0 0
  have e1 := h0 1
  have e2 := h0 2
  have e3 := h0 3
  have e4 := h0 4
  have e5 := h0 5
  have e6 := h0 6
  have e7 := h0 7
  have i (s : Fin 8) : idx_main_v1 (ix2 R c) s = ix3 s R c := by
    funext d
    fin_cases d <;> rfl
  rw [val_main_v1_apply]
  pointwise [k0_pay4, r0_0, r0_1, r0_2, r0_3, r0_4, r0_5, r0_6, r0_7, val_main_v0, val_main_cst, Fin.sum_univ_eight, e0, e1, e2, e3, e4, e5, e6, e7]
  simp only [i]

/-- The new first moment. -/
theorem row_m {g : FVec Ideal S256x1280 .f32} (hg : g (ix2 r c) = val_main_v1 (F := Ideal) p (ix2 R c)) (h2 : x2 (ix2 r c) = u (ix2 R c)) :
    k0_pay1 (F := Ideal) g x2 (ix2 r c) = val_main_v6 (F := Ideal) p u (ix2 R c) := by
  pointwise [k0_pay1, val_main_v6, val_main_v5, val_main_v4, val_main_v3, val_main_v2, val_main_cst_0, val_main_cst_1, hg, h2]

/-- The new second moment. -/
theorem row_v {g : FVec Ideal S256x1280 .f32} (hg : g (ix2 r c) = val_main_v1 (F := Ideal) p (ix2 R c)) (h3 : x3 (ix2 r c) = v (ix2 R c)) :
    k0_pay2 (F := Ideal) g x3 (ix2 r c) = val_main_v12 (F := Ideal) p v (ix2 R c) := by
  pointwise [k0_pay2, val_main_v12, val_main_v11, val_main_v10, val_main_v9, val_main_v8, val_main_v7, val_main_cst_2, val_main_cst_3, hg, h3]

/-- The step of the weights. -/
theorem row_d {g : FVec Ideal S256x1280 .f32} (hg : g (ix2 r c) = val_main_v1 (F := Ideal) p (ix2 R c))
    (h1 : x1 (ix2 r c) = w (ix2 R c)) (h2 : x2 (ix2 r c) = u (ix2 R c)) (h3 : x3 (ix2 r c) = v (ix2 R c)) :
    k0_pay3 (F := Ideal) g x1 x2 x3 (ix2 r c) = val_main_v25 (F := Ideal) p w u v (ix2 R c) := by
  pointwise [k0_pay3, k0_pay1, k0_pay2, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, hg, h1, h2, h3]

end rows

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The array row a block's row is. -/
abbrev row (t : Fin cfg0.N) (i : Fin 256) : Fin 1024 := ⟨256 * t.val + i.val, by have := t.isLt; change t.val < 4 at this; omega⟩

theorem blk0 (c : Dev nD) (t : Fin cfg0.N) (s : Fin 8) (i : Fin 256) (k : Fin 1280) : iblk m c 0 t (ix3 s i k) = V m c main_arg0 (ix3 s (row t i) k) := by
  unfold iblk
  blk_ext [idx t]

theorem blk1 (c : Dev nD) (t : Fin cfg0.N) (i : Fin 256) (k : Fin 1280) : iblk m c 1 t (ix2 i k) = V m c main_arg1 (ix2 (row t i) k) := by
  unfold iblk
  blk_ext [idx t]

theorem blk2 (c : Dev nD) (t : Fin cfg0.N) (i : Fin 256) (k : Fin 1280) : iblk m c 2 t (ix2 i k) = V m c main_arg2 (ix2 (row t i) k) := by
  unfold iblk
  blk_ext [idx t]

theorem blk3 (c : Dev nD) (t : Fin cfg0.N) (i : Fin 256) (k : Fin 1280) : iblk m c 3 t (ix2 i k) = V m c main_arg3 (ix2 (row t i) k) := by
  unfold iblk
  blk_ext [idx t]

theorem emb4 (t : Fin cfg0.N) (i : Fin 256) (k : Fin 1280) :
    ((cfg0.win 4).blk t).view.emb (ix2 i k) = (ix2 (row t i) k : S1024x1280.Idx) := by
  blk_ext [idx t]

theorem out4 (x0 x1 x2 x3) : out0_4 (F := Ideal) x0 x1 x2 x3 = parts x0 := by
  unfold_out out0_4
  frame_out

theorem arr4 (c : Dev nD) : (dats m 0 c).arrAt 4 cfg0.N
    = val_main_v1 (F := Ideal) (V m c main_arg0) := by
  refine (dats m 0 c).arrAt_eq_of_covers 4 _ (by decide +kernel) (fun t hf y => ?_)
  obtain ⟨i, k, rfl⟩ : ∃ i k, y = ix2 i k := ⟨y 0, y 1, eq_ix2 y⟩
  rw [emb4]
  blk_simp
  rw [after0_4, out4]
  exact row_g (fun s => blk0 m c t s i k)

theorem emb5 (t : Fin cfg0.N) (i : Fin 256) (k : Fin 1280) :
    ((cfg0.win 5).blk t).view.emb (ix2 i k) = (ix2 (row t i) k : S1024x1280.Idx) := by
  blk_ext [idx t]

theorem out5 (x0 x1 x2 x3) : out0_5 (F := Ideal) x0 x1 x2 x3 = k0_pay3 (F := Ideal) (parts x0) x1 x2 x3 := by
  unfold_out out0_5
  frame_out

theorem arr5 (c : Dev nD) : (dats m 0 c).arrAt 5 cfg0.N
    = val_main_v25 (F := Ideal) (V m c main_arg0) (V m c main_arg1) (V m c main_arg2) (V m c main_arg3) := by
  refine (dats m 0 c).arrAt_eq_of_covers 5 _ (by decide +kernel) (fun t hf y => ?_)
  obtain ⟨i, k, rfl⟩ : ∃ i k, y = ix2 i k := ⟨y 0, y 1, eq_ix2 y⟩
  rw [emb5]
  blk_simp
  rw [after0_5, out5]
  exact row_d (row_g (fun s => blk0 m c t s i k)) (blk1 m c t i k) (blk2 m c t i k) (blk3 m c t i k)

theorem emb6 (t : Fin cfg0.N) (i : Fin 256) (k : Fin 1280) :
    ((cfg0.win 6).blk t).view.emb (ix2 i k) = (ix2 (row t i) k : S1024x1280.Idx) := by
  blk_ext [idx t]

theorem out6 (x0 x1 x2 x3) : out0_6 (F := Ideal) x0 x1 x2 x3 = k0_pay1 (F := Ideal) (parts x0) x2 := by
  unfold_out out0_6
  frame_out

theorem arr6 (c : Dev nD) : (dats m 0 c).arrAt 6 cfg0.N
    = val_main_v6 (F := Ideal) (V m c main_arg0) (V m c main_arg2) := by
  refine (dats m 0 c).arrAt_eq_of_covers 6 _ (by decide +kernel) (fun t hf y => ?_)
  obtain ⟨i, k, rfl⟩ : ∃ i k, y = ix2 i k := ⟨y 0, y 1, eq_ix2 y⟩
  rw [emb6]
  blk_simp
  rw [after0_6, out6]
  exact row_m (row_g (fun s => blk0 m c t s i k)) (blk2 m c t i k)

theorem emb7 (t : Fin cfg0.N) (i : Fin 256) (k : Fin 1280) :
    ((cfg0.win 7).blk t).view.emb (ix2 i k) = (ix2 (row t i) k : S1024x1280.Idx) := by
  blk_ext [idx t]

theorem out7 (x0 x1 x2 x3) : out0_7 (F := Ideal) x0 x1 x2 x3 = k0_pay2 (F := Ideal) (parts x0) x3 := by
  unfold_out out0_7
  frame_out

theorem arr7 (c : Dev nD) : (dats m 0 c).arrAt 7 cfg0.N
    = val_main_v12 (F := Ideal) (V m c main_arg0) (V m c main_arg3) := by
  refine (dats m 0 c).arrAt_eq_of_covers 7 _ (by decide +kernel) (fun t hf y => ?_)
  obtain ⟨i, k, rfl⟩ : ∃ i k, y = ix2 i k := ⟨y 0, y 1, eq_ix2 y⟩
  rw [emb7]
  blk_simp
  rw [after0_7, out7]
  exact row_v (row_g (fun s => blk0 m c t s i k)) (blk3 m c t i k)

/-- From equal arguments the kernel and the reference end with the same arrays, and with their arguments as they were. -/
theorem same (g : Dev nD → PrngReg) (m' : (ℓ : Loc Cert.AdamInBRefIdeal.nD Cert.AdamInBRefIdeal.τ Cert.AdamInBRefIdeal.sig) → Buf (Elt Ideal) ℓ) (g' : Dev Cert.AdamInBRefIdeal.nD → PrngReg)
    (hm : ∀ c : Dev nD, m' ((c.tc : Thread Cert.AdamInBRefIdeal.nD Cert.AdamInBRefIdeal.τ).loc Cert.AdamInBRefIdeal.main_arg0) = m ((c.tc : Thread nD τ).loc main_arg0)
      ∧ m' ((c.tc : Thread Cert.AdamInBRefIdeal.nD Cert.AdamInBRefIdeal.τ).loc Cert.AdamInBRefIdeal.main_arg1) = m ((c.tc : Thread nD τ).loc main_arg1)
      ∧ m' ((c.tc : Thread Cert.AdamInBRefIdeal.nD Cert.AdamInBRefIdeal.τ).loc Cert.AdamInBRefIdeal.main_arg2) = m ((c.tc : Thread nD τ).loc main_arg2)
      ∧ m' ((c.tc : Thread Cert.AdamInBRefIdeal.nD Cert.AdamInBRefIdeal.τ).loc Cert.AdamInBRefIdeal.main_arg3) = m ((c.tc : Thread nD τ).loc main_arg3)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.AdamInBRefIdeal.defs (F := Ideal)) (onTc (τ := Cert.AdamInBRefIdeal.τ) (Cert.AdamInBRefIdeal.main (F := Ideal))) ⟨m', fun _ => 0, g'⟩ (fun r => ∀ c : Dev Cert.AdamInBRefIdeal.nD,
          r.2.mem ((c.tc : Thread Cert.AdamInBRefIdeal.nD Cert.AdamInBRefIdeal.τ).loc Cert.AdamInBRefIdeal.main_v1) = v0 c
          ∧ r.2.mem ((c.tc : Thread Cert.AdamInBRefIdeal.nD Cert.AdamInBRefIdeal.τ).loc Cert.AdamInBRefIdeal.main_v25) = v1 c
          ∧ r.2.mem ((c.tc : Thread Cert.AdamInBRefIdeal.nD Cert.AdamInBRefIdeal.τ).loc Cert.AdamInBRefIdeal.main_v6) = v2 c
          ∧ r.2.mem ((c.tc : Thread Cert.AdamInBRefIdeal.nD Cert.AdamInBRefIdeal.τ).loc Cert.AdamInBRefIdeal.main_v12) = v3 c
          ∧ r.2.mem ((c.tc : Thread Cert.AdamInBRefIdeal.nD Cert.AdamInBRefIdeal.τ).loc Cert.AdamInBRefIdeal.main_arg0) = m' ((c.tc : Thread Cert.AdamInBRefIdeal.nD Cert.AdamInBRefIdeal.τ).loc Cert.AdamInBRefIdeal.main_arg0)
          ∧ r.2.mem ((c.tc : Thread Cert.AdamInBRefIdeal.nD Cert.AdamInBRefIdeal.τ).loc Cert.AdamInBRefIdeal.main_arg1) = m' ((c.tc : Thread Cert.AdamInBRefIdeal.nD Cert.AdamInBRefIdeal.τ).loc Cert.AdamInBRefIdeal.main_arg1)
          ∧ r.2.mem ((c.tc : Thread Cert.AdamInBRefIdeal.nD Cert.AdamInBRefIdeal.τ).loc Cert.AdamInBRefIdeal.main_arg2) = m' ((c.tc : Thread Cert.AdamInBRefIdeal.nD Cert.AdamInBRefIdeal.τ).loc Cert.AdamInBRefIdeal.main_arg2)
          ∧ r.2.mem ((c.tc : Thread Cert.AdamInBRefIdeal.nD Cert.AdamInBRefIdeal.τ).loc Cert.AdamInBRefIdeal.main_arg3) = m' ((c.tc : Thread Cert.AdamInBRefIdeal.nD Cert.AdamInBRefIdeal.τ).loc Cert.AdamInBRefIdeal.main_arg3)) := by
  refine ⟨fun c => val_main_v1 (F := Ideal) (m ((c.tc : Thread nD τ).loc main_arg0)), fun c => val_main_v25 (F := Ideal) (m ((c.tc : Thread nD τ).loc main_arg0)) (m ((c.tc : Thread nD τ).loc main_arg1)) (m ((c.tc : Thread nD τ).loc main_arg2)) (m ((c.tc : Thread nD τ).loc main_arg3)), fun c => val_main_v6 (F := Ideal) (m ((c.tc : Thread nD τ).loc main_arg0)) (m ((c.tc : Thread nD τ).loc main_arg2)), fun c => val_main_v12 (F := Ideal) (m ((c.tc : Thread nD τ).loc main_arg0)) (m ((c.tc : Thread nD τ).loc main_arg3)), ?_, ?_⟩
  · exact (θ_run (defs (F := Ideal)) _ _).mono (fun r h c => ⟨(h c).1.trans (arr4 m c), ((h c).2).1.trans (arr5 m c), (((h c).2).2).1.trans (arr6 m c), ((((h c).2).2).2).1.trans (arr7 m c), ((((h c).2).2).2).2⟩) (Value.run_blocks m g)
  · refine (θ_run (Cert.AdamInBRefIdeal.defs (F := Ideal)) _ _).mono (fun r h c => ⟨(h c).1.trans ?_, ((h c).2).1.trans ?_, (((h c).2).2).1.trans ?_, ((((h c).2).2).2).1.trans ?_, ((((h c).2).2).2).2⟩) (Cert.AdamInBRefIdeal.Value.run (F := Ideal) m' g')
    all_goals
      obtain ⟨h0, h1, h2, h3⟩ := hm c
      beta_reduce
      simp only [← h0, ← h1, ← h2, ← h3]
      rfl

end Cert.Rows.AdamInB

end
-- ==== Proof.Rows.AdamInA.lean ====
/- `adam_a_in`: the sum of the devices' parts of a gradient, and the step of AdamW with it, 256 rows at a grid point. -/
module

public import proofs.«01_k».proof.Proof.Gen.AdamInAIdeal.Value
public import proofs.«01_k».proof.Proof.Gen.AdamInARefIdeal.Run
public import proofs.«01_k».proof.Proof.Gen.AdamInARefIdeal.Read
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.Rows.AdamInA

open Cert.AdamInAIdeal Cert.AdamInAIdeal.Gen Cert.AdamInARefIdeal.Read Idealize.ShloMosaic Idealize.ShloMosaic.StableHlo Idealize.ShloMosaic.TcCoe Idealize.SL.Sem

section rows

variable {p : FVec Ideal S8x1024x384 .bf16} {w u v : FVec Ideal S1024x384 .f32}
variable {x0 : FVec Ideal S8x256x384 .bf16} {x1 x2 x3 : FVec Ideal S256x384 .f32} {r : Fin 256} {R : Fin 1024} {c : Fin 384}

/-- The sum of the parts in a block. -/
abbrev parts (x0 : FVec Ideal S8x256x384 .bf16) : FVec Ideal S256x384 .f32 :=
  k0_pay4 (F := Ideal) (View.ld x0 r0_0) (View.ld x0 r0_1) (View.ld x0 r0_2) (View.ld x0 r0_3) (View.ld x0 r0_4) (View.ld x0 r0_5) (View.ld x0 r0_6) (View.ld x0 r0_7)

/-- It is the sum of the parts in the row. -/
theorem row_g (h0 : ∀ s, x0 (ix3 s r c) = p (ix3 s R c)) :
    parts x0 (ix2 r c) = val_main_v1 (F := Ideal) p (ix2 R c) := by
  have e0 := h0 0
  have e1 := h0 1
  have e2 := h0 2
  have e3 := h0 3
  have e4 := h0 4
  have e5 := h0 5
  have e6 := h0 6
  have e7 := h0 7
  have i (s : Fin 8) : idx_main_v1 (ix2 R c) s = ix3 s R c := by
    funext d
    fin_cases d <;> rfl
  rw [val_main_v1_apply]
  pointwise [k0_pay4, r0_0, r0_1, r0_2, r0_3, r0_4, r0_5, r0_6, r0_7, val_main_v0, val_main_cst, Fin.sum_univ_eight, e0, e1, e2, e3, e4, e5, e6, e7]
  simp only [i]

/-- The new first moment. -/
theorem row_m {g : FVec Ideal S256x384 .f32} (hg : g (ix2 r c) = val_main_v1 (F := Ideal) p (ix2 R c)) (h2 : x2 (ix2 r c) = u (ix2 R c)) :
    k0_pay1 (F := Ideal) g x2 (ix2 r c) = val_main_v6 (F := Ideal) p u (ix2 R c) := by
  pointwise [k0_pay1, val_main_v6, val_main_v5, val_main_v4, val_main_v3, val_main_v2, val_main_cst_0, val_main_cst_1, hg, h2]

/-- The new second moment. -/
theorem row_v {g : FVec Ideal S256x384 .f32} (hg : g (ix2 r c) = val_main_v1 (F := Ideal) p (ix2 R c)) (h3 : x3 (ix2 r c) = v (ix2 R c)) :
    k0_pay2 (F := Ideal) g x3 (ix2 r c) = val_main_v12 (F := Ideal) p v (ix2 R c) := by
  pointwise [k0_pay2, val_main_v12, val_main_v11, val_main_v10, val_main_v9, val_main_v8, val_main_v7, val_main_cst_2, val_main_cst_3, hg, h3]

/-- The step of the weights. -/
theorem row_d {g : FVec Ideal S256x384 .f32} (hg : g (ix2 r c) = val_main_v1 (F := Ideal) p (ix2 R c))
    (h1 : x1 (ix2 r c) = w (ix2 R c)) (h2 : x2 (ix2 r c) = u (ix2 R c)) (h3 : x3 (ix2 r c) = v (ix2 R c)) :
    k0_pay3 (F := Ideal) g x1 x2 x3 (ix2 r c) = val_main_v25 (F := Ideal) p w u v (ix2 R c) := by
  pointwise [k0_pay3, k0_pay1, k0_pay2, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3, val_main_cst_4, val_main_cst_5, val_main_cst_6, val_main_cst_7, val_main_cst_8, hg, h1, h2, h3]

end rows

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The array row a block's row is. -/
abbrev row (t : Fin cfg0.N) (i : Fin 256) : Fin 1024 := ⟨256 * t.val + i.val, by have := t.isLt; change t.val < 4 at this; omega⟩

theorem blk0 (c : Dev nD) (t : Fin cfg0.N) (s : Fin 8) (i : Fin 256) (k : Fin 384) : iblk m c 0 t (ix3 s i k) = V m c main_arg0 (ix3 s (row t i) k) := by
  unfold iblk
  blk_ext [idx t]

theorem blk1 (c : Dev nD) (t : Fin cfg0.N) (i : Fin 256) (k : Fin 384) : iblk m c 1 t (ix2 i k) = V m c main_arg1 (ix2 (row t i) k) := by
  unfold iblk
  blk_ext [idx t]

theorem blk2 (c : Dev nD) (t : Fin cfg0.N) (i : Fin 256) (k : Fin 384) : iblk m c 2 t (ix2 i k) = V m c main_arg2 (ix2 (row t i) k) := by
  unfold iblk
  blk_ext [idx t]

theorem blk3 (c : Dev nD) (t : Fin cfg0.N) (i : Fin 256) (k : Fin 384) : iblk m c 3 t (ix2 i k) = V m c main_arg3 (ix2 (row t i) k) := by
  unfold iblk
  blk_ext [idx t]

theorem emb4 (t : Fin cfg0.N) (i : Fin 256) (k : Fin 384) :
    ((cfg0.win 4).blk t).view.emb (ix2 i k) = (ix2 (row t i) k : S1024x384.Idx) := by
  blk_ext [idx t]

theorem out4 (x0 x1 x2 x3) : out0_4 (F := Ideal) x0 x1 x2 x3 = parts x0 := by
  unfold_out out0_4
  frame_out

theorem arr4 (c : Dev nD) : (dats m 0 c).arrAt 4 cfg0.N
    = val_main_v1 (F := Ideal) (V m c main_arg0) := by
  refine (dats m 0 c).arrAt_eq_of_covers 4 _ (by decide +kernel) (fun t hf y => ?_)
  obtain ⟨i, k, rfl⟩ : ∃ i k, y = ix2 i k := ⟨y 0, y 1, eq_ix2 y⟩
  rw [emb4]
  blk_simp
  rw [after0_4, out4]
  exact row_g (fun s => blk0 m c t s i k)

theorem emb5 (t : Fin cfg0.N) (i : Fin 256) (k : Fin 384) :
    ((cfg0.win 5).blk t).view.emb (ix2 i k) = (ix2 (row t i) k : S1024x384.Idx) := by
  blk_ext [idx t]

theorem out5 (x0 x1 x2 x3) : out0_5 (F := Ideal) x0 x1 x2 x3 = k0_pay3 (F := Ideal) (parts x0) x1 x2 x3 := by
  unfold_out out0_5
  frame_out

theorem arr5 (c : Dev nD) : (dats m 0 c).arrAt 5 cfg0.N
    = val_main_v25 (F := Ideal) (V m c main_arg0) (V m c main_arg1) (V m c main_arg2) (V m c main_arg3) := by
  refine (dats m 0 c).arrAt_eq_of_covers 5 _ (by decide +kernel) (fun t hf y => ?_)
  obtain ⟨i, k, rfl⟩ : ∃ i k, y = ix2 i k := ⟨y 0, y 1, eq_ix2 y⟩
  rw [emb5]
  blk_simp
  rw [after0_5, out5]
  exact row_d (row_g (fun s => blk0 m c t s i k)) (blk1 m c t i k) (blk2 m c t i k) (blk3 m c t i k)

theorem emb6 (t : Fin cfg0.N) (i : Fin 256) (k : Fin 384) :
    ((cfg0.win 6).blk t).view.emb (ix2 i k) = (ix2 (row t i) k : S1024x384.Idx) := by
  blk_ext [idx t]

theorem out6 (x0 x1 x2 x3) : out0_6 (F := Ideal) x0 x1 x2 x3 = k0_pay1 (F := Ideal) (parts x0) x2 := by
  unfold_out out0_6
  frame_out

theorem arr6 (c : Dev nD) : (dats m 0 c).arrAt 6 cfg0.N
    = val_main_v6 (F := Ideal) (V m c main_arg0) (V m c main_arg2) := by
  refine (dats m 0 c).arrAt_eq_of_covers 6 _ (by decide +kernel) (fun t hf y => ?_)
  obtain ⟨i, k, rfl⟩ : ∃ i k, y = ix2 i k := ⟨y 0, y 1, eq_ix2 y⟩
  rw [emb6]
  blk_simp
  rw [after0_6, out6]
  exact row_m (row_g (fun s => blk0 m c t s i k)) (blk2 m c t i k)

theorem emb7 (t : Fin cfg0.N) (i : Fin 256) (k : Fin 384) :
    ((cfg0.win 7).blk t).view.emb (ix2 i k) = (ix2 (row t i) k : S1024x384.Idx) := by
  blk_ext [idx t]

theorem out7 (x0 x1 x2 x3) : out0_7 (F := Ideal) x0 x1 x2 x3 = k0_pay2 (F := Ideal) (parts x0) x3 := by
  unfold_out out0_7
  frame_out

theorem arr7 (c : Dev nD) : (dats m 0 c).arrAt 7 cfg0.N
    = val_main_v12 (F := Ideal) (V m c main_arg0) (V m c main_arg3) := by
  refine (dats m 0 c).arrAt_eq_of_covers 7 _ (by decide +kernel) (fun t hf y => ?_)
  obtain ⟨i, k, rfl⟩ : ∃ i k, y = ix2 i k := ⟨y 0, y 1, eq_ix2 y⟩
  rw [emb7]
  blk_simp
  rw [after0_7, out7]
  exact row_v (row_g (fun s => blk0 m c t s i k)) (blk3 m c t i k)

/-- From equal arguments the kernel and the reference end with the same arrays, and with their arguments as they were. -/
theorem same (g : Dev nD → PrngReg) (m' : (ℓ : Loc Cert.AdamInARefIdeal.nD Cert.AdamInARefIdeal.τ Cert.AdamInARefIdeal.sig) → Buf (Elt Ideal) ℓ) (g' : Dev Cert.AdamInARefIdeal.nD → PrngReg)
    (hm : ∀ c : Dev nD, m' ((c.tc : Thread Cert.AdamInARefIdeal.nD Cert.AdamInARefIdeal.τ).loc Cert.AdamInARefIdeal.main_arg0) = m ((c.tc : Thread nD τ).loc main_arg0)
      ∧ m' ((c.tc : Thread Cert.AdamInARefIdeal.nD Cert.AdamInARefIdeal.τ).loc Cert.AdamInARefIdeal.main_arg1) = m ((c.tc : Thread nD τ).loc main_arg1)
      ∧ m' ((c.tc : Thread Cert.AdamInARefIdeal.nD Cert.AdamInARefIdeal.τ).loc Cert.AdamInARefIdeal.main_arg2) = m ((c.tc : Thread nD τ).loc main_arg2)
      ∧ m' ((c.tc : Thread Cert.AdamInARefIdeal.nD Cert.AdamInARefIdeal.τ).loc Cert.AdamInARefIdeal.main_arg3) = m ((c.tc : Thread nD τ).loc main_arg3)) :
    ∃ (v0 : (c : Dev nD) → Buf (Elt Ideal) ((c.tc : Thread nD τ).loc main_v0_0)) (v1 : (c : Dev nD) → Buf (Elt Ideal) ((c.tc : Thread nD τ).loc main_v0_1)) (v2 : (c : Dev nD) → Buf (Elt Ideal) ((c.tc : Thread nD τ).loc main_v0_2)) (v3 : (c : Dev nD) → Buf (Elt Ideal) ((c.tc : Thread nD τ).loc main_v0_3)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_v0_2) = v2 c
          ∧ r.2.mem ((c.tc : Thread nD τ).loc main_v0_3) = v3 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v1) = v0 c
          ∧ r.2.mem ((c.tc : Thread Cert.AdamInARefIdeal.nD Cert.AdamInARefIdeal.τ).loc Cert.AdamInARefIdeal.main_v25) = v1 c
          ∧ r.2.mem ((c.tc : Thread Cert.AdamInARefIdeal.nD Cert.AdamInARefIdeal.τ).loc Cert.AdamInARefIdeal.main_v6) = v2 c
          ∧ r.2.mem ((c.tc : Thread Cert.AdamInARefIdeal.nD Cert.AdamInARefIdeal.τ).loc Cert.AdamInARefIdeal.main_v12) = v3 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3)) := by
  refine ⟨fun c => val_main_v1 (F := Ideal) (m ((c.tc : Thread nD τ).loc main_arg0)), fun c => val_main_v25 (F := Ideal) (m ((c.tc : Thread nD τ).loc main_arg0)) (m ((c.tc : Thread nD τ).loc main_arg1)) (m ((c.tc : Thread nD τ).loc main_arg2)) (m ((c.tc : Thread nD τ).loc main_arg3)), fun c => val_main_v6 (F := Ideal) (m ((c.tc : Thread nD τ).loc main_arg0)) (m ((c.tc : Thread nD τ).loc main_arg2)), fun c => val_main_v12 (F := Ideal) (m ((c.tc : Thread nD τ).loc main_arg0)) (m ((c.tc : Thread nD τ).loc main_arg3)), ?_, ?_⟩
  · exact (θ_run (defs (F := Ideal)) _ _).mono (fun r h c => ⟨(h c).1.trans (arr4 m c), ((h c).2).1.trans (arr5 m c), (((h c).2).2).1.trans (arr6 m c), ((((h c).2).2).2).1.trans (arr7 m c), ((((h c).2).2).2).2⟩) (Value.run_blocks m g)
  · refine (θ_run (Cert.AdamInARefIdeal.defs (F := Ideal)) _ _).mono (fun r h c => ⟨(h c).1.trans ?_, ((h c).2).1.trans ?_, (((h c).2).2).1.trans ?_, ((((h c).2).2).2).1.trans ?_, ((((h c).2).2).2).2⟩) (Cert.AdamInARefIdeal.Value.run (F := Ideal) m' g')
    all_goals
      obtain ⟨h0, h1, h2, h3⟩ := hm c
      beta_reduce
      simp only [← h0, ← h1, ← h2, ← h3]
      rfl

end Cert.Rows.AdamInA

end
-- ==== Proof.AttnFwd.Vec.lean ====
/- The vector expressions of the forward attention kernel's body, one pair of heads at a time, read at an index: what
   each stores when the rows it reads are real numbers. The body takes a row's greatest score off before the
   exponential; the formulas of `Attn/Spec.lean` do not, and the theorems here say that the results are equal. -/
module

public import proofs.«01_k».proof.Proof.Attn.KerBlock
public import proofs.«01_k».proof.Proof.Gen.AttnFwdIdeal.Skeleton
public import Idealize.ShloMosaic.Lib.Pointwise

@[expose] public section

set_option maxRecDepth 16384

noncomputable section

namespace Cert.Attn

/-! ## The arithmetic, over the real numbers -/

namespace Head

variable (H : Head)

/-- The greatest score of a row, as an extended real: the keys after the query count as −∞. -/
def top (i : Fin 128) : EReal := Finset.univ.fold max ⊥ fun k : Fin 128 => if k ≤ i then ((H.sc i k : ℝ) : EReal) else ⊥
/-- The greatest score of a row. -/
def mx (i : Fin 128) : ℝ := (H.top i).toReal
/-- The exponential of a score above which the greatest is taken off. -/
def eM (i k : Fin 128) : ℝ := if k ≤ i then Real.exp (H.sc i k - H.mx i) else 0
/-- Their sum over a row. -/
def sM (i : Fin 128) : ℝ := ∑ k, H.eM i k

theorem top_eq (i : Fin 128) : H.top i = ((H.mx i : ℝ) : EReal) := by
  refine (EReal.coe_toReal ?_ ?_).symm
  · refine ne_of_lt ?_
    unfold top
    rw [Finset.fold_max_lt]
    refine ⟨bot_lt_top, fun k _ => ?_⟩
    split
    · exact EReal.coe_lt_top _
    · exact bot_lt_top
  · refine ne_of_gt (lt_of_lt_of_le (EReal.bot_lt_coe (H.sc i i)) ?_)
    unfold top
    rw [Finset.le_fold_max]
    exact Or.inr ⟨i, Finset.mem_univ _, by rw [if_pos le_rfl]⟩

theorem eM_eq (i k : Fin 128) : H.eM i k = H.ex i k * Real.exp (-H.mx i) := by
  unfold eM ex
  split
  · rw [← Real.exp_add, sub_eq_add_neg]
  · rw [zero_mul]

theorem sM_eq (i : Fin 128) : H.sM i = H.sm i * Real.exp (-H.mx i) := by
  unfold sM sm
  rw [Finset.sum_mul]
  exact Finset.sum_congr rfl fun k _ => H.eM_eq i k

theorem sM_pos (i : Fin 128) : 0 < H.sM i := by
  rw [sM_eq]; exact mul_pos (H.sm_pos i) (Real.exp_pos _)

/-- The logarithm of the row's sum, from the greatest score and the sum of what is left. -/
theorem log_sM (i : Fin 128) : H.mx i + Real.log (H.sM i) = Real.log (H.sm i) := by
  rw [sM_eq, Real.log_mul (H.sm_pos i).ne' (Real.exp_pos _).ne', Real.log_exp]; ring

/-- The group's output, from the same. -/
theorem out_eM (i : Fin 128) (d : Fin 64) : (∑ k, H.eM i k * H.xv k d) * (1 / H.sM i) = H.o2 i d := by
  unfold o2
  rw [Finset.sum_mul]
  refine Finset.sum_congr rfl fun k _ => ?_
  have hp : H.pr i k = H.ex i k / H.sm i := by
    unfold pr ex
    split
    · rw [Real.exp_sub, Real.exp_log (H.sm_pos i)]
    · rw [zero_div]
  have h0 := (H.sm_pos i).ne'
  have h1 := (Real.exp_pos (-H.mx i)).ne'
  rw [hp, eM_eq, sM_eq]
  field_simp

end Head

end Cert.Attn

namespace Cert.AttnFwd

open Idealize.ShloMosaic Cert.AttnFwdIdeal Cert.AttnFwdIdeal.Gen Cert.Attn

/-! ## The scores -/

theorem mask_lo : (k0_pay3 : FVec Ideal S1x128 .bf16) = mask 0 := rfl
theorem mask_hi : (k0_pay4 : FVec Ideal S1x128 .bf16) = mask 1 := rfl

/-- The scores of the head in half `e` of a slab. -/
def scr : Fin 2 → FVec Ideal S128x128 .bf16 → FVec Ideal S128x128 .bf16 → FVec Ideal S1x128x128 .f32 → FVec Ideal S1x128x128 .f32
  | 0, q, k, b => k0_pay6 (F := Ideal) q k b
  | 1, q, k, b => k0_pay7 (F := Ideal) q k b

/-- The two heads' scores before the bias, one above the other. -/
theorem score_apply (q k : FVec Ideal S128x128 .bf16) (r : Fin 256) (j : Fin 128) :
    k0_pay5 (F := Ideal) q k (ix2 r j)
      = ∑ n, q (ix2 ⟨r.val % 128, by omega⟩ n) * mask ⟨r.val / 128, by omega⟩ (ix2 0 n) * k (ix2 j n) := by
  unfold k0_pay5
  rw [mask_lo, mask_hi]
  generalize h0 : mask 0 = m0
  generalize h1 : mask 1 = m1
  pointwise []
  refine Finset.sum_congr rfl fun n _ => ?_
  by_cases h : r.val < 128
  · have e : (⟨r.val / 128, by omega⟩ : Fin 2) = 0 := Fin.ext (by show r.val / 128 = 0; omega)
    have i : (⟨r.val % 128, by omega⟩ : Fin 128) = ⟨r.val, h⟩ := Fin.ext (by show r.val % 128 = r.val; omega)
    rw [dif_pos h, e, i, h0]
  · have e : (⟨r.val / 128, by omega⟩ : Fin 2) = 1 := Fin.ext (by show r.val / 128 = 1; omega)
    have i : (⟨r.val % 128, by omega⟩ : Fin 128) = ⟨r.val - 128, by omega⟩ := Fin.ext (by show r.val % 128 = r.val - 128; omega)
    rw [dif_neg h, e, i, h1]

theorem rmax_apply (s : FVec Ideal S1x128x128 .f32) (i : Fin 128) :
    k0_pay36 (F := Ideal) s (ix2 i 0) = Finset.univ.fold max ⊥ fun k : Fin 128 => s (ix3 0 i k) := by
  pointwise [k0_pay36, k0_pay35]
  exact congrArg (fun z : EReal => Finset.univ.fold max z fun k : Fin 128 => s (ix3 0 i k)) c_neg_inf

theorem expo_apply (s : FVec Ideal S1x128x128 .f32) (i k : Fin 128) :
    (k0_pay37 (F := Ideal) s (ix3 0 i k) : Ideal .bf16) = Ideal.exp (s (ix3 0 i k) - (k0_pay36 (F := Ideal) s (ix2 i 0) : Ideal .f32)) := by
  pointwise [k0_pay37, k0_pay35]

/-- Row `i` of half `e` of a stack of two heads. -/
def stack (e : Fin 2) (i : Fin 128) : Fin 256 := ⟨128 * e.val + i.val, by omega⟩

theorem prod_left (v : FVec Ideal S128x128 .bf16) (p : FVec Ideal S1x256x128 .bf16) (r : Fin 256) (l : Fin 128) :
    (k0_pay98 (F := Ideal) v p (ix2 r (stack 0 l)) : Ideal .f32) = ∑ k, p (ix3 0 r k) * v (ix2 k l) := by
  pointwise [k0_pay98, k0_pay95]
  refine Finset.sum_congr rfl fun k _ => ?_
  rw [dif_pos (by show 128 * 0 + l.val < 128; omega)]
  exact congrArg (fun z : Fin 128 => p (ix3 0 r k) * v (ix2 k z)) (Fin.ext (by show 128 * 0 + l.val = l.val; omega))

theorem prod_right (v : FVec Ideal S128x128 .bf16) (p : FVec Ideal S1x256x128 .bf16) (r : Fin 256) (l : Fin 128) :
    (k0_pay98 (F := Ideal) v p (ix2 r (stack 1 l)) : Ideal .f32) = ∑ k, p (ix3 0 r k) := by
  pointwise [k0_pay98, k0_pay95]
  refine Finset.sum_congr rfl fun k _ => ?_
  rw [dif_neg (by show ¬ 128 * 1 + l.val < 128; omega), mul_one]

theorem out_apply (x : FVec Ideal S256x256 .f32) (i : Fin 128) (e : Fin 2) (d : Fin 64) :
    k0_pay101 (F := Ideal) (k0_pay97 (iota .tc S128x128 32 [1] iota_S128x128_d1_w32)) x (ix2 i (half e d))
      = x (ix2 (stack e i) (stack 0 (half e d))) * Ideal.div 1 (x (ix2 (stack e i) (stack 1 (half e d)))) := by
  pointwise [k0_pay101, k0_pay97, k0_pay99, k0_pay100]
  rw [select_even]
  have hl : ∀ l : Fin 128, (⟨l.val, by omega⟩ : Fin 256) = stack 0 l := fun l => Fin.ext (by show l.val = 128 * 0 + l.val; omega)
  have hr : ∀ l : Fin 128, (⟨128 + l.val, by omega⟩ : Fin 256) = stack 1 l := fun l => Fin.ext (by show 128 + l.val = 128 * 1 + l.val; omega)
  rw [hl, hl, hr, hr]
  fin_cases e <;> rfl

/-- The sums of the row's exponentials, of the head in half `e`, in every lane. -/
def sums : Fin 2 → FVec Ideal S256x256 .f32 → FVec Ideal S128x128 .f32
  | 0, x => k0_pay99 (F := Ideal) x
  | 1, x => k0_pay100 (F := Ideal) x

theorem sums_apply (e : Fin 2) (x : FVec Ideal S256x256 .f32) (i l : Fin 128) :
    sums e x (ix2 i l) = x (ix2 (stack e i) (stack 1 l)) := by
  have hr : ∀ l : Fin 128, (⟨128 + l.val, by omega⟩ : Fin 256) = stack 1 l := fun l => Fin.ext (by show 128 + l.val = 128 * 1 + l.val; omega)
  have hl : ∀ l : Fin 128, (⟨l.val, by omega⟩ : Fin 256) = stack 0 l := fun l => Fin.ext (by show l.val = 128 * 0 + l.val; omega)
  obtain rfl | rfl : e = 0 ∨ e = 1 := by omega
  · show k0_pay99 (F := Ideal) x (ix2 i l) = _
    pointwise [k0_pay99]
    rw [hr, hl]
  · show k0_pay100 (F := Ideal) x (ix2 i l) = _
    pointwise [k0_pay100]
    rw [hr, hr]

/-! ## One lane a head -/

/-- The lanes' numbers. -/
def lanesI : IVec S128x128 32 := iota .tc S128x128 32 [1] iota_S128x128_d1_w32

/-- Lane `n` from the `n`-th of the arrays `f`, for `n` below a bound, and the other lanes from `z`. -/
def acc (z : FVec Ideal S128x128 .f32) (f : ℕ → FVec Ideal S128x128 .f32) : ℕ → FVec Ideal S128x128 .f32
  | 0 => z
  | n + 1 => select (cmpi .eq lanesI (broadcast S128x128 (BitVec.ofNat 32 n))) (f n) (acc z f n)

theorem acc_apply (z : FVec Ideal S128x128 .f32) (f : ℕ → FVec Ideal S128x128 .f32) (i l : Fin 128) :
    ∀ n, n ≤ 128 → acc z f n (ix2 i l) = if l.val < n then f l.val (ix2 i l) else z (ix2 i l)
  | 0, _ => by rw [if_neg (Nat.not_lt_zero _)]; rfl
  | n + 1, h => by
    have hc : ∀ a b : Fin 128, IntOp.cmpi .eq (BitVec.ofNat 32 a.val) (BitVec.ofNat 32 b.val) = if a.val = b.val then 1#1 else 0#1 := by
      decide +kernel
    have hn : IntOp.cmpi .eq (BitVec.ofNat 32 l.val) (BitVec.ofNat 32 n) = if l.val = n then 1#1 else 0#1 := hc l ⟨n, by omega⟩
    have hs : acc z f (n + 1) (ix2 i l)
        = Scalar.select (IntOp.cmpi .eq (BitVec.ofNat 32 l.val) (BitVec.ofNat 32 n)) (f n (ix2 i l)) (acc z f n (ix2 i l)) := by
      show select (cmpi .eq lanesI (broadcast S128x128 (BitVec.ofNat 32 n))) (f n) (acc z f n) (ix2 i l) = _
      generalize acc z f n = a
      generalize f n = b
      pointwise [lanesI]
    rw [hs, hn, acc_apply z f i l n (by omega)]
    by_cases e : l.val = n
    · subst e
      rw [if_pos (show l.val < l.val + 1 by omega), if_pos rfl]
      rfl
    · rw [if_neg e]
      show (if l.val < n then _ else _) = _
      by_cases e' : l.val < n
      · rw [if_pos e', if_pos (by omega)]
      · rw [if_neg e', if_neg (by omega)]

/-- The logarithm of the sums with the greatest scores back on. -/
def lse (fm fl : ℕ → FVec Ideal S128x128 .f32) : FVec Ideal S128x128 .f32 :=
  addf (acc (broadcast S128x128 (Scalar.ofBits .f32 0x00000000#32)) fm 16)
    (log (acc (broadcast S128x128 (Scalar.ofBits .f32 0x3F800000#32)) fl 16))

theorem lse_apply (fm fl : ℕ → FVec Ideal S128x128 .f32) (i l : Fin 128) :
    lse fm fl (ix2 i l) = if l.val < 16 then (fm l.val (ix2 i l) : EReal) + Ideal.log (fl l.val (ix2 i l)) else 0 := by
  show (acc _ fm 16 (ix2 i l) : EReal) + Ideal.log (acc _ fl 16 (ix2 i l)) = _
  rw [acc_apply _ _ i l 16 (by omega), acc_apply _ _ i l 16 (by omega)]
  split
  · rfl
  · show (Ideal.ofBits .f32 0x00000000#32 : EReal) + Ideal.log (Ideal.ofBits .f32 0x3F800000#32) = 0
    rw [show (Ideal.ofBits .f32 0x00000000#32 : EReal) = ((0 : ℝ) : EReal) from c_zero, show (Ideal.ofBits .f32 0x3F800000#32 : EReal) = ((1 : ℝ) : EReal) from c_one]
    exact (addR rfl (logR rfl one_pos)).trans (by simp)

/-- A column spread over the lanes. -/
def spread (x : FVec Ideal S128x1 .f32) : FVec Ideal S128x128 .f32 :=
  broadcastTo S128x128 (shapeCast S128x1 x shapeCasts_S128x1_S128x1) broadcasts_S128x1_S128x128

theorem spread_apply (x : FVec Ideal S128x1 .f32) (i l : Fin 128) : spread x (ix2 i l) = x (ix2 i 0) := by
  pointwise [spread]

/-! ## At real numbers -/

theorem scr_real (H : Head) (e : Fin 2) {q k : FVec Ideal S128x128 .bf16} {b : FVec Ideal S1x128x128 .f32}
    (hq : ∀ i d, q (ix2 i (half e d)) = ((H.nq i d * (1 / 8) : ℝ) : EReal))
    (hk : ∀ i d, k (ix2 i (half e d)) = ((H.nk i d : ℝ) : EReal))
    (hb : ∀ i j : Fin 128, b (ix3 0 i j) = if j ≤ i then ((-H.sl * (((i : ℝ) - (j : ℝ)) * 16) : ℝ) : EReal) else ⊥)
    (i j : Fin 128) : scr e q k b (ix3 0 i j) = if j ≤ i then ((H.sc i j : ℝ) : EReal) else ⊥ := by
  have hs : scr e q k b (ix3 0 i j) = (k0_pay5 (F := Ideal) q k (ix2 (stack e i) j) : EReal) + b (ix3 0 i j) := by
    have hr : (⟨128 + i.val, by omega⟩ : Fin 256) = stack 1 i := Fin.ext (by show 128 + i.val = 128 * 1 + i.val; omega)
    have hl : (⟨i.val, by omega⟩ : Fin 256) = stack 0 i := Fin.ext (by show i.val = 128 * 0 + i.val; omega)
    obtain rfl | rfl : e = 0 ∨ e = 1 := by omega
    · show k0_pay6 (F := Ideal) q k b (ix3 0 i j) = _
      unfold k0_pay6
      generalize k0_pay5 (F := Ideal) q k = s
      pointwise []
      rw [hl]
    · show k0_pay7 (F := Ideal) q k b (ix3 0 i j) = _
      unfold k0_pay7
      generalize k0_pay5 (F := Ideal) q k = s
      pointwise []
      rw [hr]
  have hi : (⟨(stack e i).val % 128, by omega⟩ : Fin 128) = i := Fin.ext (by show (128 * e.val + i.val) % 128 = i.val; omega)
  have he : (⟨(stack e i).val / 128, by omega⟩ : Fin 2) = e := Fin.ext (by show (128 * e.val + i.val) / 128 = e.val; omega)
  rw [hs, score_apply, hi, he, sum_masked e (fun n => q (ix2 i n)) (fun n => k (ix2 j n)), dotR (hq i) (hk j), hb]
  split
  · refine (addR rfl rfl).trans (congrArg ((↑) : ℝ → EReal) ?_)
    unfold Head.sc
    rw [Finset.sum_mul, neg_mul, ← sub_eq_add_neg]
    exact congrArg (· - _) (Finset.sum_congr rfl fun d _ => by ring)
  · exact EReal.add_bot _

theorem rmax_real (H : Head) {s : FVec Ideal S1x128x128 .f32} (i : Fin 128)
    (hs : ∀ k : Fin 128, s (ix3 0 i k) = if k ≤ i then ((H.sc i k : ℝ) : EReal) else ⊥) :
    k0_pay36 (F := Ideal) s (ix2 i 0) = ((H.mx i : ℝ) : EReal) := by
  rw [rmax_apply, ← Head.top_eq]
  exact congrArg (fun f => Finset.univ.fold max ⊥ f) (funext hs)

theorem expo_real (H : Head) {s : FVec Ideal S1x128x128 .f32} (i : Fin 128)
    (hs : ∀ k : Fin 128, s (ix3 0 i k) = if k ≤ i then ((H.sc i k : ℝ) : EReal) else ⊥) (k : Fin 128) :
    (k0_pay37 (F := Ideal) s (ix3 0 i k) : Ideal .bf16) = ((H.eM i k : ℝ) : EReal) := by
  rw [expo_apply, rmax_real H i hs, hs, Head.eM]
  split
  · exact expR (subR rfl rfl)
  · rw [EReal.bot_sub, Ideal.exp_bot, EReal.coe_zero]

theorem sum_real (H : Head) (v : FVec Ideal S128x128 .bf16) {p : FVec Ideal S1x256x128 .bf16} (e : Fin 2) (i l : Fin 128)
    (hp : ∀ k, p (ix3 0 (stack e i) k) = ((H.eM i k : ℝ) : EReal)) :
    (k0_pay98 (F := Ideal) v p (ix2 (stack e i) (stack 1 l)) : Ideal .f32) = ((H.sM i : ℝ) : EReal) := by
  rw [prod_right]
  have := sumR (x := 0) (f := fun k => p (ix3 0 (stack e i) k)) (by simp) hp
  rwa [zero_add] at this

theorem out_real (H : Head) {v : FVec Ideal S128x128 .bf16} {p : FVec Ideal S1x256x128 .bf16} (e : Fin 2) (i : Fin 128) (d : Fin 64)
    (hp : ∀ k, p (ix3 0 (stack e i) k) = ((H.eM i k : ℝ) : EReal))
    (hv : ∀ k, v (ix2 k (half e d)) = ((H.xv k d : ℝ) : EReal)) :
    k0_pay101 (F := Ideal) (k0_pay97 (iota .tc S128x128 32 [1] iota_S128x128_d1_w32)) (k0_pay98 (F := Ideal) v p) (ix2 i (half e d))
      = ((H.o2 i d : ℝ) : EReal) := by
  rw [out_apply, sum_real H v e i _ hp, prod_left, dotR hp hv, ← Head.out_eM]
  exact mulR rfl (divR (by norm_num) rfl (H.sM_pos i).ne')

end Cert.AttnFwd
end
-- ==== Proof.AttnFwd.Block.lean ====
/- What the forward attention kernel's body stores, from the blocks it reads: each store's rows, when the blocks hold
   real numbers. The body keeps the scores in a scratch array, one slab a head, then their exponentials in another, one
   slab a pair of heads, then takes the products of the pairs with the values, and last the logarithms of the sums. -/
module

public import proofs.«01_k».proof.Proof.AttnFwd.Vec
public import proofs.«01_k».proof.Proof.Gen.AttnFwdIdeal.Frame
public import Idealize.ShloMosaic.Lib.WholeRead

@[expose] public section

set_option maxRecDepth 16384

noncomputable section

namespace Cert.AttnFwd

open Idealize.ShloMosaic Cert.AttnFwdIdeal Cert.AttnFwdIdeal.Gen Cert.Attn Idealize.SL.Sem

/-- What the blocks of one grid point hold: the rows of the 16 heads of one residue class. -/
structure Blocks (H : Fin 16 → Head) (x0 x1 x2 : Vec Ideal S128x1024 .bf16) (x3 : Vec Ideal S16x128x256 .f32) : Prop where
  q : ∀ i h d, x0 (ix2 i (col h d)) = (((H h).nq i d * (1 / 8) : ℝ) : EReal)
  k : ∀ i h d, x1 (ix2 i (col h d)) = (((H h).nk i d : ℝ) : EReal)
  v : ∀ i h d, x2 (ix2 i (col h d)) = (((H h).xv i d : ℝ) : EReal)
  b : ∀ h (i j : Fin 128), x3 (ix3 h i ⟨128 + j.val, by omega⟩)
    = if j ≤ i then ((-(H h).sl * (((i : ℝ) - (j : ℝ)) * 16) : ℝ) : EReal) else ⊥

/-! ## Places -/

theorem inb_slab (h : Fin 16) : ∀ a, (![h.val, 0, 0] : Fin 3 → Nat) a + S1x128x128.size a ≤ S16x128x128.size a := by
  intro a; fin_cases a
  · show h.val + 1 ≤ 16; omega
  · show 0 + 128 ≤ 128; omega
  · show 0 + 128 ≤ 128; omega
theorem inb_pair (j : Fin 8) : ∀ a, (![0, 128 * j.val] : Fin 2 → Nat) a + S128x128.size a ≤ S128x1024.size a := by
  intro a; fin_cases a
  · show 0 + 128 ≤ 128; omega
  · show 128 * j.val + 128 ≤ 1024; omega
theorem inb_bias (h : Fin 16) : ∀ a, (![h.val, 0, 128] : Fin 3 → Nat) a + S1x128x128.size a ≤ S16x128x256.size a := by
  intro a; fin_cases a
  · show h.val + 1 ≤ 16; omega
  · show 0 + 128 ≤ 128; omega
  · show 128 + 128 ≤ 256; omega
theorem inb_half (j : Fin 8) (e : Fin 2) :
    ∀ a, (![j.val, 128 * e.val, 0] : Fin 3 → Nat) a + S1x128x128.size a ≤ S8x256x128.size a := by
  intro a; fin_cases a
  · show j.val + 1 ≤ 8; omega
  · show 128 * e.val + 128 ≤ 256; omega
  · show 0 + 128 ≤ 128; omega
theorem inb_both (j : Fin 8) : ∀ a, (![j.val, 0, 0] : Fin 3 → Nat) a + S1x256x128.size a ≤ S8x256x128.size a := by
  intro a; fin_cases a
  · show j.val + 1 ≤ 8; omega
  · show 0 + 256 ≤ 256; omega
  · show 0 + 128 ≤ 128; omega

/-- The places of a head's scores, of a pair's columns in a block, of a head's bias, of a head's exponentials and of a
    pair's exponentials. -/
abbrev rSlab (h : Fin 16) : Rect S16x128x128 := Rect.unit ![h.val, 0, 0] S1x128x128.size (inb_slab h)
abbrev rPair (j : Fin 8) : Rect S128x1024 := Rect.unit ![0, 128 * j.val] S128x128.size (inb_pair j)
abbrev rBias (h : Fin 16) : Rect S16x128x256 := Rect.unit ![h.val, 0, 128] S1x128x128.size (inb_bias h)
abbrev rHalf (j : Fin 8) (e : Fin 2) : Rect S8x256x128 := Rect.unit ![j.val, 128 * e.val, 0] S1x128x128.size (inb_half j e)
abbrev rBoth (j : Fin 8) : Rect S8x256x128 := Rect.unit ![j.val, 0, 0] S1x256x128.size (inb_both j)
abbrev rAll : Rect S128x128 := Rect.unit ![0, 0] S128x128.size inb_S128x128_S128x128_0_0

/-- Slab `j` of a block of 1024 columns. -/
def rdS (m : Memref sig .tc .vmem S128x1024 .bf16) (hm : m.IsWhole) (x : Vec Ideal S128x1024 .bf16) (j : Fin 8) :
    FVec Ideal S128x128 .bf16 :=
  View.readAt (Elt Ideal) m.view (rPair j).toLoadRect (hm.unread x)
/-- The right half of head `h`'s bias. -/
def rdB (m : Memref sig .tc .vmem S16x128x256 .f32) (hm : m.IsWhole) (x : Vec Ideal S16x128x256 .f32) (h : Fin 16) :
    FVec Ideal S1x128x128 .f32 :=
  View.readAt (Elt Ideal) m.view (rBias h).toLoadRect (hm.unread x)
/-- Head `h`'s scores, read back. -/
def rdT (s : Memref sig .tc .vmem S16x128x128 .f32) (L : List (View.Piece (Elt Ideal) S16x128x128 .f32)) (h : Fin 16) :
    FVec Ideal S1x128x128 .f32 :=
  s.view.readCov L (rSlab h).toLoadRect
/-- Pair `j`'s exponentials, read back. -/
def rdE (s : Memref sig .tc .vmem S8x256x128 .bf16) (L : List (View.Piece (Elt Ideal) S8x256x128 .bf16)) (j : Fin 8) :
    FVec Ideal S1x256x128 .bf16 :=
  s.view.readCov L (rBoth j).toLoadRect

theorem rdS_apply (m : Memref sig .tc .vmem S128x1024 .bf16) (hm : m.IsWhole) (x : Vec Ideal S128x1024 .bf16)
    (j : Fin 8) (i : Fin 128) (e : Fin 2) (d : Fin 64) : rdS m hm x j (ix2 i (half e d)) = x (ix2 i (col (pair j e) d)) := by
  refine (Memref.IsWhole.readAt_unread hm x _ _).trans (congrArg x ?_)
  funext a
  apply Fin.ext
  fin_cases a
  · show 0 + 1 * i.val = i.val; omega
  · show 128 * j.val + 1 * (64 * e.val + d.val) = 64 * (2 * j.val + e.val) + d.val; omega

theorem rdB_apply (m : Memref sig .tc .vmem S16x128x256 .f32) (hm : m.IsWhole) (x : Vec Ideal S16x128x256 .f32)
    (h : Fin 16) (i j : Fin 128) : rdB m hm x h (ix3 0 i j) = x (ix3 h i ⟨128 + j.val, by omega⟩) := by
  refine (Memref.IsWhole.readAt_unread hm x _ _).trans (congrArg x ?_)
  funext a
  apply Fin.ext
  fin_cases a
  · show h.val + 1 * 0 = h.val; omega
  · show 0 + 1 * i.val = i.val; omega
  · show 128 + 1 * j.val = 128 + j.val; omega

theorem emb_slab (h : Fin 16) (i j : Fin 128) : (rSlab h).emb (ix3 0 i j) = (ix3 h i j : S16x128x128.Idx) := by
  funext a
  apply Fin.ext
  fin_cases a
  · show h.val + 1 * 0 = h.val; omega
  · show 0 + 1 * i.val = i.val; omega
  · show 0 + 1 * j.val = j.val; omega

theorem emb_pair (j : Fin 8) (i : Fin 128) (e : Fin 2) (d : Fin 64) :
    (rPair j).emb (ix2 i (half e d)) = (ix2 i (col (pair j e) d) : S128x1024.Idx) := by
  funext a
  apply Fin.ext
  fin_cases a
  · show 0 + 1 * i.val = i.val; omega
  · show 128 * j.val + 1 * (64 * e.val + d.val) = 64 * (2 * j.val + e.val) + d.val; omega

theorem emb_half (j : Fin 8) (e : Fin 2) (i k : Fin 128) :
    (rHalf j e).emb (ix3 0 i k) = (ix3 j (stack e i) k : S8x256x128.Idx) := by
  funext a
  apply Fin.ext
  fin_cases a
  · show j.val + 1 * 0 = j.val; omega
  · show 128 * e.val + 1 * i.val = 128 * e.val + i.val; omega
  · show 0 + 1 * k.val = k.val; omega

theorem emb_both (j : Fin 8) (r : Fin 256) (k : Fin 128) : (rBoth j).emb (ix3 0 r k) = (ix3 j r k : S8x256x128.Idx) := by
  funext a
  apply Fin.ext
  fin_cases a
  · show j.val + 1 * 0 = j.val; omega
  · show 0 + 1 * r.val = r.val; omega
  · show 0 + 1 * k.val = k.val; omega

theorem emb_all (i l : Fin 128) : rAll.emb (ix2 i l) = (ix2 i l : S128x128.Idx) := by
  funext a
  apply Fin.ext
  fin_cases a
  · show 0 + 1 * i.val = i.val; omega
  · show 0 + 1 * l.val = l.val; omega

/-! ## The arrays -/

/-- The scores, one slab a head. -/
def arrT (H : Fin 16 → Head) : Vec Ideal S16x128x128 .f32 := fun y =>
  if (y 2 : Fin 128) ≤ (y 1 : Fin 128) then (((H (y 0)).sc (y 1) (y 2) : ℝ) : EReal) else ⊥
/-- The head and the row of a row of a pair's exponentials. -/
def headOf (j : Fin 8) (r : Fin 256) : Fin 16 := ⟨2 * j.val + r.val / 128, by omega⟩
def rowOf (r : Fin 256) : Fin 128 := ⟨r.val % 128, by omega⟩
/-- The exponentials, one slab a pair of heads. -/
def arrE (H : Fin 16 → Head) : Vec Ideal S8x256x128 .bf16 := fun y =>
  (((H (headOf (y 0) (y 1))).eM (rowOf (y 1)) (y 2) : ℝ) : EReal)
/-- The output's block. -/
def arrO (H : Fin 16 → Head) : Vec Ideal S128x1024 .bf16 := fun y => (((H (colH (y 1))).o2 (y 0) (colD (y 1)) : ℝ) : EReal)
/-- The log-sums' block: one lane a head, zero in the others. -/
def arrL (H : Fin 16 → Head) : Vec Ideal S128x128 .f32 := fun y =>
  if h : (y 1).val < 16 then ((Real.log ((H ⟨(y 1).val, h⟩).sm (y 0)) : ℝ) : EReal) else 0

theorem headOf_stack (j : Fin 8) (e : Fin 2) (i : Fin 128) : headOf j (stack e i) = pair j e :=
  Fin.ext (by show 2 * j.val + (128 * e.val + i.val) / 128 = 2 * j.val + e.val; omega)
theorem rowOf_stack (e : Fin 2) (i : Fin 128) : rowOf (stack e i) = i :=
  Fin.ext (by show (128 * e.val + i.val) % 128 = i.val; omega)

section
variable {H : Fin 16 → Head} {x0 x1 x2 : Vec Ideal S128x1024 .bf16} {x3 : Vec Ideal S16x128x256 .f32}
  (X : Blocks H x0 x1 x2 x3)
  (m1 : Memref sig .tc .vmem S128x1024 .bf16) (w1 : m1.IsWhole) (m2 : Memref sig .tc .vmem S128x1024 .bf16) (w2 : m2.IsWhole)
  (m3 : Memref sig .tc .vmem S128x1024 .bf16) (w3 : m3.IsWhole) (m4 : Memref sig .tc .vmem S16x128x256 .f32) (w4 : m4.IsWhole)
  (s : Memref sig .tc .vmem S16x128x128 .f32) {L : List (View.Piece (Elt Ideal) S16x128x128 .f32)}
  (t : Memref sig .tc .vmem S8x256x128 .bf16) {M : List (View.Piece (Elt Ideal) S8x256x128 .bf16)}

include X in
theorem agrees_T (j : Fin 8) (e : Fin 2) (y : S1x128x128.Idx) :
    scr e (rdS m1 w1 x0 j) (rdS m2 w2 x1 j) (rdB m4 w4 x3 (pair j e)) y = arrT H ((rSlab (pair j e)).emb y) := by
  obtain ⟨a, b, c, rfl⟩ : ∃ a b c, y = ix3 a b c := ⟨y 0, y 1, y 2, eq_ix3 y⟩
  obtain rfl : a = 0 := Subsingleton.elim _ _
  rw [emb_slab]
  exact scr_real (H (pair j e)) e (fun i d => (rdS_apply m1 w1 x0 j i e d).trans (X.q i _ d))
    (fun i d => (rdS_apply m2 w2 x1 j i e d).trans (X.k i _ d))
    (fun i k => (rdB_apply m4 w4 x3 _ i k).trans (X.b _ i k)) b c

theorem rdT_apply (hL : ∀ y, View.canon L y = arrT H y) (h : Fin 16) (i k : Fin 128) :
    rdT s L h (ix3 0 i k) = if k ≤ i then (((H h).sc i k : ℝ) : EReal) else ⊥ := by
  unfold rdT
  rw [View.readCov_eq_canon']
  exact (hL _).trans (congrArg (arrT H) (emb_slab h i k))

theorem agrees_E (hL : ∀ y, View.canon L y = arrT H y) (j : Fin 8) (e : Fin 2) (y : S1x128x128.Idx) :
    k0_pay37 (F := Ideal) (rdT s L (pair j e)) y = arrE H ((rHalf j e).emb y) := by
  obtain ⟨a, b, c, rfl⟩ : ∃ a b c, y = ix3 a b c := ⟨y 0, y 1, y 2, eq_ix3 y⟩
  obtain rfl : a = 0 := Subsingleton.elim _ _
  rw [emb_half]
  refine (expo_real (H (pair j e)) b (fun k => rdT_apply s hL (pair j e) b k) c).trans ?_
  show _ = (((H (headOf j (stack e b))).eM (rowOf (stack e b)) c : ℝ) : EReal)
  rw [headOf_stack, rowOf_stack]

theorem rdE_apply (hM : ∀ y, View.canon M y = arrE H y) (j : Fin 8) (e : Fin 2) (i k : Fin 128) :
    rdE t M j (ix3 0 (stack e i) k) = (((H (pair j e)).eM i k : ℝ) : EReal) := by
  unfold rdE
  rw [View.readCov_eq_canon']
  refine (hM _).trans ((congrArg (arrE H) (emb_both j (stack e i) k)).trans ?_)
  show (((H (headOf j (stack e i))).eM (rowOf (stack e i)) k : ℝ) : EReal) = _
  rw [headOf_stack, rowOf_stack]

include X in
theorem agrees_O (hM : ∀ y, View.canon M y = arrE H y) (j : Fin 8) (y : S128x128.Idx) :
    k0_pay101 (F := Ideal) (k0_pay97 (iota .tc S128x128 32 [1] iota_S128x128_d1_w32))
      (k0_pay98 (F := Ideal) (rdS m3 w3 x2 j) (rdE t M j)) y = arrO H ((rPair j).emb y) := by
  obtain ⟨i, l, rfl⟩ : ∃ i l, y = ix2 i l := ⟨y 0, y 1, eq_ix2 y⟩
  obtain ⟨e, d, rfl⟩ := half_surj l
  rw [emb_pair]
  refine (out_real (H (pair j e)) e i d (fun k => rdE_apply t hM j e i k)
    (fun k => (rdS_apply m3 w3 x2 j k e d).trans (X.v k _ d))).trans ?_
  show _ = (((H (colH (col (pair j e) d))).o2 i (colD (col (pair j e) d)) : ℝ) : EReal)
  rw [colH_col, colD_col]

/-- The greatest scores and the sums of the exponentials, by a head's number. -/
def fM (s : Memref sig .tc .vmem S16x128x128 .f32) (L : List (View.Piece (Elt Ideal) S16x128x128 .f32)) (n : ℕ) :
    FVec Ideal S128x128 .f32 := spread (k0_pay36 (F := Ideal) (rdT s L ⟨n % 16, Nat.mod_lt _ (by decide)⟩))
def fL (m3 : Memref sig .tc .vmem S128x1024 .bf16) (w3 : m3.IsWhole) (x2 : Vec Ideal S128x1024 .bf16)
    (t : Memref sig .tc .vmem S8x256x128 .bf16) (M : List (View.Piece (Elt Ideal) S8x256x128 .bf16)) (n : ℕ) :
    FVec Ideal S128x128 .f32 :=
  sums ⟨n % 2, Nat.mod_lt _ (by decide)⟩ (k0_pay98 (F := Ideal) (rdS m3 w3 x2 ⟨n / 2 % 8, Nat.mod_lt _ (by decide)⟩)
    (rdE t M ⟨n / 2 % 8, Nat.mod_lt _ (by decide)⟩))

theorem agrees_L (hL : ∀ y, View.canon L y = arrT H y) (hM : ∀ y, View.canon M y = arrE H y) (y : S128x128.Idx) :
    lse (fM s L) (fL m3 w3 x2 t M) y = arrL H (rAll.emb y) := by
  obtain ⟨i, l, rfl⟩ : ∃ i l, y = ix2 i l := ⟨y 0, y 1, eq_ix2 y⟩
  rw [emb_all, lse_apply]
  show _ = if h : l.val < 16 then ((Real.log ((H ⟨l.val, h⟩).sm i) : ℝ) : EReal) else 0
  by_cases h : l.val < 16
  · rw [if_pos h, dif_pos h]
    have hm : (fM s L l.val (ix2 i l) : EReal) = (((H ⟨l.val, h⟩).mx i : ℝ) : EReal) := by
      unfold fM
      have e : (⟨l.val % 16, Nat.mod_lt _ (by decide)⟩ : Fin 16) = ⟨l.val, h⟩ := Fin.ext (Nat.mod_eq_of_lt h)
      rw [spread_apply, e]
      exact rmax_real _ i fun k => rdT_apply s hL _ i k
    have hl : (fL m3 w3 x2 t M l.val (ix2 i l) : EReal) = (((H ⟨l.val, h⟩).sM i : ℝ) : EReal) := by
      unfold fL
      rw [sums_apply]
      have e : (⟨l.val, h⟩ : Fin 16) = pair ⟨l.val / 2 % 8, Nat.mod_lt _ (by decide)⟩ ⟨l.val % 2, Nat.mod_lt _ (by decide)⟩ :=
        Fin.ext (by show l.val = 2 * (l.val / 2 % 8) + l.val % 2; omega)
      rw [e]
      exact sum_real _ _ _ i l fun k => rdE_apply t hM _ _ i k
    rw [hm, hl, ← Head.log_sM]
    exact addR rfl (logR rfl ((H ⟨l.val, h⟩).sM_pos i))
  · rw [if_neg h, dif_neg h]

end

/-! ## The body's stores -/

section
variable {H : Fin 16 → Head} {x0 x1 x2 : Vec Ideal S128x1024 .bf16} {x3 : Vec Ideal S16x128x256 .f32}
  (X : Blocks H x0 x1 x2 x3) (c : Dev nD)
  (arg1 : Memref sig .tc .vmem S128x1024 .bf16) (harg1 : arg1.IsWhole)
  (arg2 : Memref sig .tc .vmem S128x1024 .bf16) (harg2 : arg2.IsWhole)
  (arg3 : Memref sig .tc .vmem S128x1024 .bf16) (harg3 : arg3.IsWhole)
  (arg4 : Memref sig .tc .vmem S16x128x256 .f32) (harg4 : arg4.IsWhole)
  (arg7 : Memref sig .tc .vmem S16x128x128 .f32)
  (arg8 : Memref sig .tc .vmem S8x256x128 .bf16)
include X

/-- The scores. -/
theorem t_pieces : ∀ p ∈ (kernelRun0_A.sl.HS0_16 c arg1 harg1 arg2 harg2 arg4 harg4 x0 x1 x3), ∀ y : p.1.shape.Idx,
    p.2 y = arrT H (p.1.emb y) := by
  unfold kernelRun0_A.sl.HS0_16
  refine List.forall_mem_cons.2 ⟨fun y => agrees_T X arg1 harg1 arg2 harg2 arg4 harg4 7 1 y, ?_⟩
  refine List.forall_mem_cons.2 ⟨fun y => agrees_T X arg1 harg1 arg2 harg2 arg4 harg4 7 0 y, ?_⟩
  refine List.forall_mem_cons.2 ⟨fun y => agrees_T X arg1 harg1 arg2 harg2 arg4 harg4 6 1 y, ?_⟩
  refine List.forall_mem_cons.2 ⟨fun y => agrees_T X arg1 harg1 arg2 harg2 arg4 harg4 6 0 y, ?_⟩
  refine List.forall_mem_cons.2 ⟨fun y => agrees_T X arg1 harg1 arg2 harg2 arg4 harg4 5 1 y, ?_⟩
  refine List.forall_mem_cons.2 ⟨fun y => agrees_T X arg1 harg1 arg2 harg2 arg4 harg4 5 0 y, ?_⟩
  refine List.forall_mem_cons.2 ⟨fun y => agrees_T X arg1 harg1 arg2 harg2 arg4 harg4 4 1 y, ?_⟩
  refine List.forall_mem_cons.2 ⟨fun y => agrees_T X arg1 harg1 arg2 harg2 arg4 harg4 4 0 y, ?_⟩
  refine List.forall_mem_cons.2 ⟨fun y => agrees_T X arg1 harg1 arg2 harg2 arg4 harg4 3 1 y, ?_⟩
  refine List.forall_mem_cons.2 ⟨fun y => agrees_T X arg1 harg1 arg2 harg2 arg4 harg4 3 0 y, ?_⟩
  refine List.forall_mem_cons.2 ⟨fun y => agrees_T X arg1 harg1 arg2 harg2 arg4 harg4 2 1 y, ?_⟩
  refine List.forall_mem_cons.2 ⟨fun y => agrees_T X arg1 harg1 arg2 harg2 arg4 harg4 2 0 y, ?_⟩
  refine List.forall_mem_cons.2 ⟨fun y => agrees_T X arg1 harg1 arg2 harg2 arg4 harg4 1 1 y, ?_⟩
  refine List.forall_mem_cons.2 ⟨fun y => agrees_T X arg1 harg1 arg2 harg2 arg4 harg4 1 0 y, ?_⟩
  refine List.forall_mem_cons.2 ⟨fun y => agrees_T X arg1 harg1 arg2 harg2 arg4 harg4 0 1 y, ?_⟩
  refine List.forall_mem_cons.2 ⟨fun y => agrees_T X arg1 harg1 arg2 harg2 arg4 harg4 0 0 y, ?_⟩
  exact fun p hp => absurd hp List.not_mem_nil

theorem t (y : S16x128x128.Idx) : View.canon (kernelRun0_A.sl.HS0_16 c arg1 harg1 arg2 harg2 arg4 harg4 x0 x1 x3) y = arrT H y :=
  View.canon_apply_of_pieces (arrT H) _ (t_pieces X c arg1 harg1 arg2 harg2 arg4 harg4) y
    (View.cover_of_tiledBy (kernelRun0_A.sl.HS0_16 c arg1 harg1 arg2 harg2 arg4 harg4 x0 x1 x3) ![1, 128, 128] (by sl_kernel_rfl) y)

/-- The exponentials. -/
theorem e_pieces : ∀ p ∈ (kernelRun0_A.sl.HS1_16 c arg1 harg1 arg2 harg2 arg4 harg4 arg7 x0 x1 x3), ∀ y : p.1.shape.Idx,
    p.2 y = arrE H (p.1.emb y) := by
  unfold kernelRun0_A.sl.HS1_16
  refine List.forall_mem_cons.2 ⟨fun y => agrees_E arg7 (t X c arg1 harg1 arg2 harg2 arg4 harg4) 7 1 y, ?_⟩
  refine List.forall_mem_cons.2 ⟨fun y => agrees_E arg7 (t X c arg1 harg1 arg2 harg2 arg4 harg4) 7 0 y, ?_⟩
  refine List.forall_mem_cons.2 ⟨fun y => agrees_E arg7 (t X c arg1 harg1 arg2 harg2 arg4 harg4) 6 1 y, ?_⟩
  refine List.forall_mem_cons.2 ⟨fun y => agrees_E arg7 (t X c arg1 harg1 arg2 harg2 arg4 harg4) 6 0 y, ?_⟩
  refine List.forall_mem_cons.2 ⟨fun y => agrees_E arg7 (t X c arg1 harg1 arg2 harg2 arg4 harg4) 5 1 y, ?_⟩
  refine List.forall_mem_cons.2 ⟨fun y => agrees_E arg7 (t X c arg1 harg1 arg2 harg2 arg4 harg4) 5 0 y, ?_⟩
  refine List.forall_mem_cons.2 ⟨fun y => agrees_E arg7 (t X c arg1 harg1 arg2 harg2 arg4 harg4) 4 1 y, ?_⟩
  refine List.forall_mem_cons.2 ⟨fun y => agrees_E arg7 (t X c arg1 harg1 arg2 harg2 arg4 harg4) 4 0 y, ?_⟩
  refine List.forall_mem_cons.2 ⟨fun y => agrees_E arg7 (t X c arg1 harg1 arg2 harg2 arg4 harg4) 3 1 y, ?_⟩
  refine List.forall_mem_cons.2 ⟨fun y => agrees_E arg7 (t X c arg1 harg1 arg2 harg2 arg4 harg4) 3 0 y, ?_⟩
  refine List.forall_mem_cons.2 ⟨fun y => agrees_E arg7 (t X c arg1 harg1 arg2 harg2 arg4 harg4) 2 1 y, ?_⟩
  refine List.forall_mem_cons.2 ⟨fun y => agrees_E arg7 (t X c arg1 harg1 arg2 harg2 arg4 harg4) 2 0 y, ?_⟩
  refine List.forall_mem_cons.2 ⟨fun y => agrees_E arg7 (t X c arg1 harg1 arg2 harg2 arg4 harg4) 1 1 y, ?_⟩
  refine List.forall_mem_cons.2 ⟨fun y => agrees_E arg7 (t X c arg1 harg1 arg2 harg2 arg4 harg4) 1 0 y, ?_⟩
  refine List.forall_mem_cons.2 ⟨fun y => agrees_E arg7 (t X c arg1 harg1 arg2 harg2 arg4 harg4) 0 1 y, ?_⟩
  refine List.forall_mem_cons.2 ⟨fun y => agrees_E arg7 (t X c arg1 harg1 arg2 harg2 arg4 harg4) 0 0 y, ?_⟩
  exact fun p hp => absurd hp List.not_mem_nil

theorem e (y : S8x256x128.Idx) : View.canon (kernelRun0_A.sl.HS1_16 c arg1 harg1 arg2 harg2 arg4 harg4 arg7 x0 x1 x3) y = arrE H y :=
  View.canon_apply_of_pieces (arrE H) _ (e_pieces X c arg1 harg1 arg2 harg2 arg4 harg4 arg7) y
    (View.cover_of_tiledBy (kernelRun0_A.sl.HS1_16 c arg1 harg1 arg2 harg2 arg4 harg4 arg7 x0 x1 x3) ![1, 128, 128] (by sl_kernel_rfl) y)

variable (i : grid0.Coords) (arg5 : Memref sig .tc .vmem S128x1024 .bf16) (harg5 : arg5.IsWhole)
  (arg6 : Memref sig .tc .vmem S128x128 .f32) (harg6 : arg6.IsWhole) (harg7 : arg7.IsWhole) (harg8 : arg8.IsWhole)

/-- The output. -/
theorem o_pieces : ∀ p ∈ (kernelRun0_A c i arg1 harg1 arg2 harg2 arg3 harg3 arg4 harg4 arg5 harg5 arg6 harg6 arg7 harg7 arg8 harg8 x0 x1 x2 x3).1, ∀ y : p.1.shape.Idx,
    p.2 y = arrO H (p.1.emb y) := by
  unfold kernelRun0_A
  dsimp only
  refine List.forall_mem_cons.2 ⟨fun y => agrees_O X arg3 harg3 arg8 (e X c arg1 harg1 arg2 harg2 arg4 harg4 arg7) 7 y, ?_⟩
  refine List.forall_mem_cons.2 ⟨fun y => agrees_O X arg3 harg3 arg8 (e X c arg1 harg1 arg2 harg2 arg4 harg4 arg7) 6 y, ?_⟩
  refine List.forall_mem_cons.2 ⟨fun y => agrees_O X arg3 harg3 arg8 (e X c arg1 harg1 arg2 harg2 arg4 harg4 arg7) 5 y, ?_⟩
  refine List.forall_mem_cons.2 ⟨fun y => agrees_O X arg3 harg3 arg8 (e X c arg1 harg1 arg2 harg2 arg4 harg4 arg7) 4 y, ?_⟩
  refine List.forall_mem_cons.2 ⟨fun y => agrees_O X arg3 harg3 arg8 (e X c arg1 harg1 arg2 harg2 arg4 harg4 arg7) 3 y, ?_⟩
  refine List.forall_mem_cons.2 ⟨fun y => agrees_O X arg3 harg3 arg8 (e X c arg1 harg1 arg2 harg2 arg4 harg4 arg7) 2 y, ?_⟩
  refine List.forall_mem_cons.2 ⟨fun y => agrees_O X arg3 harg3 arg8 (e X c arg1 harg1 arg2 harg2 arg4 harg4 arg7) 1 y, ?_⟩
  refine List.forall_mem_cons.2 ⟨fun y => agrees_O X arg3 harg3 arg8 (e X c arg1 harg1 arg2 harg2 arg4 harg4 arg7) 0 y, ?_⟩
  exact fun p hp => absurd hp List.not_mem_nil

theorem out_eq : out0_A_4 c i arg1 harg1 arg2 harg2 arg3 harg3 arg4 harg4 arg5 harg5 arg6 harg6 arg7 harg7 arg8 harg8 x0 x1 x2 x3 = arrO H := by
  unfold out0_A_4
  rw [View.read_writes_junk_eq_canon]
  exact funext fun y => View.canon_apply_of_pieces (arrO H) _ (o_pieces X c arg1 harg1 arg2 harg2 arg3 harg3 arg4 harg4 arg7 arg8 i arg5 harg5 arg6 harg6 harg7 harg8) y
    (View.cover_of_tiledBy _ ![128, 128] (by sl_kernel_rfl) y)

/-- The log-sums. -/
theorem l_pieces : ∀ p ∈ (kernelRun0_A c i arg1 harg1 arg2 harg2 arg3 harg3 arg4 harg4 arg5 harg5 arg6 harg6 arg7 harg7 arg8 harg8 x0 x1 x2 x3).2.1, ∀ y : p.1.shape.Idx,
    p.2 y = arrL H (p.1.emb y) := by
  unfold kernelRun0_A
  dsimp only
  refine List.forall_mem_cons.2 ⟨fun y => agrees_L arg3 harg3 arg7 arg8 (t X c arg1 harg1 arg2 harg2 arg4 harg4)
    (e X c arg1 harg1 arg2 harg2 arg4 harg4 arg7) y, ?_⟩
  exact fun p hp => absurd hp List.not_mem_nil

theorem lse_eq : out0_A_5 c i arg1 harg1 arg2 harg2 arg3 harg3 arg4 harg4 arg5 harg5 arg6 harg6 arg7 harg7 arg8 harg8 x0 x1 x2 x3 = arrL H := by
  unfold out0_A_5
  rw [View.read_writes_junk_eq_canon]
  exact funext fun y => View.canon_apply_of_pieces (arrL H) _ (l_pieces X c arg1 harg1 arg2 harg2 arg3 harg3 arg4 harg4 arg7 arg8 i arg5 harg5 arg6 harg6 harg7 harg8) y
    (View.cover_of_tiledBy _ ![128, 128] (by sl_kernel_rfl) y)

end

end Cert.AttnFwd
end
-- ==== Proof.AttnFwd.Host.lean ====
/- What the host operations before the forward launch leave in the buffers that the windows read, the blocks handed to
   the body at a grid point, and the two result arrays after the run. -/
module

public import proofs.«01_k».proof.Proof.AttnFwd.Block
public import proofs.«01_k».proof.Proof.Attn.KerArray
public import proofs.«01_k».proof.Proof.Gen.AttnFwdIdeal.Value

@[expose] public section

set_option maxRecDepth 16384

noncomputable section

namespace Cert.AttnFwd.Host

open Cert.AttnFwdIdeal Cert.AttnFwdIdeal.Gen Idealize.ShloMosaic Idealize.ShloMosaic.StableHlo Idealize.ShloMosaic.TcCoe
open Cert.Attn
open Cert.Attn.Host (pack2 pack3 eighth axis row col2 col3 pack2_at0 pack2_at1 pack3_at eighth_at axis_at tile_steps)

/-- The host operations before the launch. -/
abbrev hostOps {F : FTy → Type} [FloatOps F] : List (HloOp τ sig (Elt F)) := List.flatten [hostOps0, hostOps0_1]

section
variable {F : FTy → Type} [FloatOps F]

/-- The contents when the region is entered. -/
def U (V0 : Valuation τ sig (Elt F)) : Valuation τ sig (Elt F) := after hostOps V0

variable (V0 : Valuation τ sig (Elt F))

/-- The arguments' contents. -/
abbrev arg0 : (⟨S128x16x3x16x64, .f32⟩ : BufTy).Contents (Elt F) := V0 (Proc.devRef .tc main_arg0)
abbrev arg1 : (⟨S64, .f32⟩ : BufTy).Contents (Elt F) := V0 (Proc.devRef .tc main_arg1)
abbrev arg2 : (⟨S64, .f32⟩ : BufTy).Contents (Elt F) := V0 (Proc.devRef .tc main_arg2)

/-- The contents after the query's and the key's norms and their axes. -/
def Un (V0 : Valuation τ sig (Elt F)) : Valuation τ sig (Elt F) := after (hostOps.take 42) V0

theorem U_eq : U V0 = after (hostOps.drop 42) (Un V0) := by
  unfold U Un; rw [← after_append, List.take_append_drop]

theorem Un_v32 : Un V0 (no_index (Proc.devRef .tc main_v32))
    = eighth (Cert.ReferenceIdeal.Read.val_main_v21 (F := F) (arg0 V0) (arg1 V0)) := by
  unfold Un; after_reads_simp; rfl
theorem Un_v33 : Un V0 (no_index (Proc.devRef .tc main_v33))
    = axis (Cert.ReferenceIdeal.Read.val_main_v37 (F := F) (arg0 V0) (arg2 V0)) := by
  unfold Un; after_reads_simp; rfl
theorem Un_arg0 : Un V0 (no_index (Proc.devRef .tc main_arg0)) = arg0 V0 := by
  unfold Un; after_reads_simp
theorem U_v37 : U V0 (no_index (Proc.devRef .tc main_v37))
    = pack2 (eighth (Cert.ReferenceIdeal.Read.val_main_v21 (F := F) (arg0 V0) (arg1 V0)))
        (axis (Cert.ReferenceIdeal.Read.val_main_v37 (F := F) (arg0 V0) (arg2 V0))) := by
  rw [U_eq]; after_reads_simp; exact congrArg₂ pack2 (Un_v32 V0) (Un_v33 V0)
theorem U_v40 : U V0 (no_index (Proc.devRef .tc main_v40)) = pack3 (arg0 V0) := by
  rw [U_eq]; after_reads_simp [Un_arg0]; rfl
end

theorem bias_at (V0 : Valuation τ sig (Elt Ideal)) (h : Fin 16) (i j : Fin 128) :
   (U V0 (Proc.devRef .tc main_v71) : (⟨S16x128x256, .f32⟩ : BufTy).Contents (Elt Ideal)) (ix3 h i ⟨128 + j.val, by omega⟩)
     = if j ≤ i then ((-slope h * (((i : ℝ) - (j : ℝ)) * 16) : ℝ) : EReal) else ⊥ := by
  rw [U_eq]
  after_reads_at
  rw [tile_steps, steps_valid]
  have hs : Ideal.exp (Ideal.ofBits FTy.f32 1060205080#32 *
              Ideal.div (Ideal.ofBits FTy.f32 3238002688#32 * (1 + FloatOps.sitofp (F := Ideal) FTy.f32 (BitVec.ofNat 32 h.val)))
                (Ideal.ofBits FTy.f32 1098907648#32)) = ((slope h : ℝ) : EReal) := by
    have hk : ∀ k : Fin 16, (BitVec.ofNat 32 k.val).toInt = (k.val : ℤ) := by decide
    have hh : FloatOps.sitofp (F := Ideal) FTy.f32 (BitVec.ofNat 32 h.val) = (((h.val : ℕ) : ℝ) : EReal) := by
      show (((BitVec.ofNat 32 h.val).toInt : ℝ) : EReal) = _
      rw [hk h]; push_cast; rfl
    exact expR (mulR c_ln2 (divR (mulR c_neg8 (addR (by norm_num) hh)) c_16 (by norm_num)))
  have hd : FloatOps.sitofp (F := Ideal) FTy.f32 (IntOp.muli (IntOp.subi (BitVec.ofNat 32 i.val) (BitVec.ofNat 32 j.val)) 16#32)
      = ((((i : ℝ) - (j : ℝ)) * 16 : ℝ) : EReal) := by
    show ((_ : ℝ) : EReal) = _
    rw [steps_dist i j]; push_cast; rfl
  rw [hs, hd]
  show Scalar.select (if j ≤ i then 1#1 else 0#1) _ (FloatOps.ofBits (F := Ideal) .f32 0xFF800000#32) = _
  rw [c_neg_inf, mulR (negR rfl) rfl]
  split <;> rfl

variable (m : (ℓ : Loc nD τ sig) → Buf (Elt Ideal) ℓ)

/-- A core's contents at launch. -/
abbrev start (c : Dev nD) : Valuation τ sig (Elt Ideal) := fun b => m (c, b)

theorem V_eq (c : Dev nD) (b : Ref sig .tc) : V m c b = U (start m c) (Proc.devRef .tc b) := rfl

/-- The grid point as a residue class. -/
abbrev cls (t : Fin cfg0.N) : Fin 16 := ⟨t.val, t.isLt⟩

theorem idx : ∀ t : Fin cfg0.N, win0_0.index t = ![t.val, 0] ∧ win0_1.index t = ![t.val, 1] ∧ win0_2.index t = ![t.val, 2]
    ∧ win0_3.index t = ![0, 0, 0] ∧ win0_4.index t = ![t.val, 0] ∧ win0_5.index t = ![t.val, 0] :=
  (by decide +kernel : ∀ t : Fin grid0.N, _)

theorem blk0 (c : Dev nD) (t : Fin cfg0.N) (i : Fin 128) (k : Fin 1024) :
    iblk m c 0 t (ix2 i k) = V m c main_v37 (ix2 (row (cls t) i) (col2 0 k)) := by
  unfold iblk row col2
  blk_ext [idx t]
theorem blk1 (c : Dev nD) (t : Fin cfg0.N) (i : Fin 128) (k : Fin 1024) :
    iblk m c 1 t (ix2 i k) = V m c main_v37 (ix2 (row (cls t) i) (col2 1 k)) := by
  unfold iblk row col2
  blk_ext [idx t]
theorem blk2 (c : Dev nD) (t : Fin cfg0.N) (i : Fin 128) (k : Fin 1024) :
    iblk m c 2 t (ix2 i k) = V m c main_v40 (ix2 (row (cls t) i) (col3 2 k)) := by
  unfold iblk row col3
  blk_ext [idx t]
theorem blk3 (c : Dev nD) (t : Fin cfg0.N) (h : Fin 16) (i : Fin 128) (k : Fin 256) :
    iblk m c 3 t (ix3 h i k) = V m c main_v71 (ix3 h i k) := by
  unfold iblk
  blk_ext [idx t]

/-- The launch's arguments are arrays of real numbers. -/
structure Real (c : Dev nD) (A : Args) : Prop where
  h0 : arg0 (start m c) = up A.a0
  h1 : arg1 (start m c) = up A.a1
  h2 : arg2 (start m c) = up A.a2

variable {m}

/-- The blocks at a grid point are those of the heads of its residue class. -/
theorem blocks {c : Dev nD} {A : Args} (hA : Real m c A) (t : Fin cfg0.N) :
    Blocks (fun h => A.head (cls t) h) (iblk m c 0 t) (iblk m c 1 t) (iblk m c 2 t) (iblk m c 3 t) where
  q i h d := by
    rw [blk0, V_eq, U_v37, pack2_at0, eighth_at, hA.h0, hA.h1]
    exact mulR (e_v21 A _) c_eighth
  k i h d := by
    rw [blk1, V_eq, U_v37, pack2_at1, axis_at, hA.h0, hA.h2]
    exact e_v37 A _
  v i h d := by
    rw [blk2, V_eq, U_v40, pack3_at, hA.h0]; rfl
  b h i j := by
    rw [blk3, V_eq]; exact bias_at _ h i j

/-- The residue class and the place in it of a row. -/
def clsOf (n : Fin 2048) : Fin 16 := ⟨n.val / 128, by omega⟩
def posOf (n : Fin 2048) : Fin 128 := ⟨n.val % 128, by omega⟩
theorem clsOf_row (r : Fin 16) (l : Fin 128) : clsOf (row r l) = r := Fin.ext (by show (128 * r.val + l.val) / 128 = r.val; omega)
theorem posOf_row (r : Fin 16) (l : Fin 128) : posOf (row r l) = l := Fin.ext (by show (128 * r.val + l.val) % 128 = l.val; omega)
theorem row_surj (n : Fin 2048) : ∃ r l, n = row r l :=
  ⟨clsOf n, posOf n, Fin.ext (by show n.val = 128 * (n.val / 128) + n.val % 128; omega)⟩

/-- The result arrays at real arguments: the outputs, and the log-sums. -/
def outArr (A : Args) : (⟨S2048x1024, .bf16⟩ : BufTy).Contents (Elt Ideal) := fun y =>
  arrO (fun h => A.head (clsOf (y 0)) h) (ix2 (posOf (y 0)) (y 1))
def lseArr (A : Args) : (⟨S2048x128, .f32⟩ : BufTy).Contents (Elt Ideal) := fun y =>
  arrL (fun h => A.head (clsOf (y 0)) h) (ix2 (posOf (y 0)) (y 1))

theorem outArr_at (A : Args) (r : Fin 16) (l : Fin 128) (c : Fin 1024) :
    outArr A (ix2 (row r l) c) = arrO (fun h => A.head r h) (ix2 l c) := by
  show arrO (fun h => A.head (clsOf (row r l)) h) (ix2 (posOf (row r l)) c) = _
  rw [clsOf_row, posOf_row]
theorem lseArr_at (A : Args) (r : Fin 16) (l : Fin 128) (c : Fin 128) :
    lseArr A (ix2 (row r l) c) = arrL (fun h => A.head r h) (ix2 l c) := by
  show arrL (fun h => A.head (clsOf (row r l)) h) (ix2 (posOf (row r l)) c) = _
  rw [clsOf_row, posOf_row]

/-- The places in the result arrays of an element of a grid point's blocks. -/
theorem emb_out (t : Fin cfg0.N) (i : Fin 128) (k : Fin 1024) :
    ((cfg0.win 4).blk t).view.emb (ix2 i k) = (ix2 (row (cls t) i) k : S2048x1024.Idx) := by
  unfold row
  blk_ext [idx t]
theorem emb_lse (t : Fin cfg0.N) (i : Fin 128) (k : Fin 128) :
    ((cfg0.win 5).blk t).view.emb (ix2 i k) = (ix2 (row (cls t) i) k : S2048x128.Idx) := by
  unfold row
  blk_ext [idx t]

/-- The result arrays after the run. -/
theorem arr_out {c : Dev nD} {A : Args} (hA : Real m c A) : (dats m 0 c).arrAt 4 cfg0.N = outArr A := by
  refine (dats m 0 c).arrAt_eq_of_covers 4 _ (by decide +kernel) fun t hf y => ?_
  obtain ⟨i, k, rfl⟩ : ∃ i k, y = ix2 i k := ⟨y 0, y 1, eq_ix2 y⟩
  rw [emb_out, outArr_at]
  change (dats m 0 c).flushed 4 t (ix2 i k) = _
  rw [Value.flushed4_A, out_eq (blocks hA t)]
  rfl
theorem arr_lse {c : Dev nD} {A : Args} (hA : Real m c A) : (dats m 0 c).arrAt 5 cfg0.N = lseArr A := by
  refine (dats m 0 c).arrAt_eq_of_covers 5 _ (by decide +kernel) fun t hf y => ?_
  obtain ⟨i, k, rfl⟩ : ∃ i k, y = ix2 i k := ⟨y 0, y 1, eq_ix2 y⟩
  rw [emb_lse, lseArr_at]
  change (dats m 0 c).flushed 5 t (ix2 i k) = _
  rw [Value.flushed5_A, lse_eq (blocks hA t)]
  rfl

end Cert.AttnFwd.Host
end
-- ==== Proof.AttnFwd.Pair.lean ====
/- The forward attention's two runs with their results read: both leave the same two arrays at real arguments. -/
module

public import proofs.«01_k».proof.Proof.AttnFwd.Host
public import proofs.«01_k».proof.Proof.Attn.Finite
public import proofs.«01_k».proof.Proof.Gen.AttnFwdRefIdeal.Run
public import proofs.«01_k».proof.Proof.Gen.AttnFwdRefIdeal.Read

@[expose] public section

set_option maxRecDepth 16384

noncomputable section

namespace Cert.AttnFwd.Host

open Idealize.ShloMosaic Idealize.ShloMosaic.StableHlo Idealize.SL.Sem Idealize.ShloMosaic.TcCoe
open Cert.Attn
open Cert.Attn.Host (row pack1 pack1_at allFinite up_of_allFinite and_one)
open Cert.AttnFwdRefIdeal Cert.AttnFwdRefIdeal.Gen Cert.AttnFwdRefIdeal.Read

/-! ## The reference's results -/

section
variable {F : FTy → Type} [FloatOps F] (x0 : (⟨S128x16x3x16x64, .f32⟩ : BufTy).Contents (Elt F)) (x1 x2 : (⟨S64, .f32⟩ : BufTy).Contents (Elt F))

theorem r_v31 : val_main_v31 (F := F) x0 = Cert.ReferenceIdeal.Read.val_main_v5 (F := F) x0 := rfl
theorem r_v67 : val_main_v67 (F := F) x0 x1 x2 = Cert.ReferenceIdeal.Read.val_main_v73 (F := F) x0 x1 x2 := rfl
theorem r_v68 : val_main_v68 (F := F) x0 x1 x2 = Cert.ReferenceIdeal.Read.val_main_v74_0 (F := F) x0 x1 x2 := by
  unfold val_main_v68; rw [r_v67]; rfl
theorem r_v71 : val_main_v71 (F := F) x0 x1 x2 = Cert.ReferenceIdeal.Read.val_main_v77 (F := F) x0 x1 x2 := by
  unfold val_main_v71 val_main_v70 val_main_v69; rw [r_v68]; rfl
theorem r_v75 : val_main_v75 (F := F) x0 x1 x2 = Cert.ReferenceIdeal.Read.val_main_v81 (F := F) x0 x1 x2 := by
  unfold val_main_v75 val_main_v74 val_main_v73 val_main_v72; rw [r_v68, r_v71]; rfl
theorem r_v77 : val_main_v77 (F := F) x0 x1 x2 = Cert.ReferenceIdeal.Read.val_main_v83 (F := F) x0 x1 x2 := by
  unfold val_main_v77 val_main_v76; rw [r_v31, r_v75]; rfl
theorem r_v78 : val_main_v78 (F := F) x0 x1 x2 = Cert.ReferenceIdeal.Read.val_main_v84 (F := F) x0 x1 x2 := by
  unfold val_main_v78; rw [r_v71]; rfl
theorem r_v81 : val_main_v81 (F := F) x0 x1 x2 = pack1 (F := F) (Cert.ReferenceIdeal.Read.val_main_v83 (F := F) x0 x1 x2) := by
  unfold val_main_v81 val_main_v80 val_main_v79; rw [r_v77]; rfl
end

/-- A value per row and head, then 112 columns of zeros. -/
def joined (x : (⟨S128x16x16, .f32⟩ : BufTy).Contents (Elt Ideal)) : (⟨S2048x128, .f32⟩ : BufTy).Contents (Elt Ideal) :=
  concatenate S2048x128 1 [⟨S2048x16, shapeCast S2048x16 (transpose S16x128x16 [1, 0, 2] x
      transposes_S128x16x16_S16x128x16_1_0_2) shapeCasts_S16x128x16_S2048x16⟩,
    ⟨S2048x112, val_main_v84 (F := Ideal)⟩] concatenates_S2048x16_S2048x112_S2048x128_d1

theorem joined_at (x : (⟨S128x16x16, .f32⟩ : BufTy).Contents (Elt Ideal)) (r : Fin 16) (l : Fin 128) (k : Fin 128) :
    joined x (ix2 (row r l) k) = if h : k.val < 16 then x (ix3 l r ⟨k.val, h⟩) else FloatOps.ofBits (F := Ideal) .f32 0x00000000#32 := by
  unfold joined row val_main_v84 val_main_cst_14
  pointwise

theorem r_v85 (x0 : (⟨S128x16x3x16x64, .f32⟩ : BufTy).Contents (Elt Ideal)) (x1 x2 : (⟨S64, .f32⟩ : BufTy).Contents (Elt Ideal)) :
    val_main_v85 (F := Ideal) x0 x1 x2 = joined (Cert.ReferenceIdeal.Read.val_main_v84 (F := Ideal) x0 x1 x2) := by
  unfold val_main_v85 val_main_v83 val_main_v82; rw [r_v78]; rfl

theorem ref_out (A : Args) : val_main_v81 (F := Ideal) (up A.a0) (up A.a1) (up A.a2) = outArr A := by
  funext y
  obtain ⟨n, k, rfl⟩ : ∃ n k, y = ix2 n k := ⟨y 0, y 1, eq_ix2 y⟩
  obtain ⟨r, l, rfl⟩ := row_surj n
  rw [r_v81, outArr_at]
  show _ = (((A.head r (colH k)).o2 l (colD k) : ℝ) : EReal)
  rw [← col_eq k, pack1_at, colH_col, colD_col]
  exact e_v83 A _

theorem ref_lse (A : Args) : val_main_v85 (F := Ideal) (up A.a0) (up A.a1) (up A.a2) = lseArr A := by
  funext y
  obtain ⟨n, k, rfl⟩ : ∃ n k, y = ix2 n k := ⟨y 0, y 1, eq_ix2 y⟩
  obtain ⟨r, l, rfl⟩ := row_surj n
  rw [r_v85, joined_at, lseArr_at]
  show _ = if h : k.val < 16 then ((Real.log ((A.head r ⟨k.val, h⟩).sm l) : ℝ) : EReal) else 0
  split
  · exact e_v84 A _
  · exact c_zero

/-! ## The precondition -/

/-- The side conditions of the precondition's operations. -/
theorem pre_facts : Cert.Pre_finite_attnfwd.Facts where
  bcast_S_S128x16x3x16x64 := by decide
  reducesTo_S128x16x3x16x64_S_d0_1_2_3_4 := by decide
  h_S_ := by decide
  bcast_S_S64 := by decide
  reducesTo_S64_S_d0 := by decide

/-- A conjunction of three. -/
theorem and_three {s : Shape} {a0 a1 a2 : IVec s 1} {j : s.Idx} (h : andi (andi a0 a1) a2 j = 1#1) :
    a0 j = 1#1 ∧ a1 j = 1#1 ∧ a2 j = 1#1 := by
  obtain ⟨h, h2⟩ := and_one h
  obtain ⟨h0, h1⟩ := and_one h
  exact ⟨h0, h1, h2⟩

/-- Under the precondition every core's arguments are arrays of real numbers. -/
theorem real_of_pre {m : (ℓ : Loc Cert.AttnFwdIdeal.nD Cert.AttnFwdIdeal.τ Cert.AttnFwdIdeal.sig) → Buf (Elt Ideal) ℓ}
    (h : Cert.Pre_AttnFwdIdeal_finite_attnfwd (hPre_finite_attnfwd := pre_facts) m) (c : Dev Cert.AttnFwdIdeal.nD) :
    ∃ A : Args, Real m c A := by
  obtain ⟨h0, h1, h2⟩ := and_three (congrFun (h c) (fun k => k.elim0))
  have r0 := up_of_allFinite (x := arg0 (start m c)) h0
  have r1 := up_of_allFinite (x := arg1 (start m c)) h1
  have r2 := up_of_allFinite (x := arg2 (start m c)) h2
  exact ⟨⟨_, _, _, fun _ => 0, fun _ => 0, fun _ => 0, fun _ => 0, fun _ => 0⟩, ⟨r0, r1, r2⟩⟩

/-! ## The two runs -/

/-- From memories that agree on real arguments both programs run and end with the same two arrays. -/
theorem same : Cert.algebraic_AttnFwdIdeal_AttnFwdRefIdeal_pre_finite_attnfwd (hPre_finite_attnfwd := pre_facts) := by
  intro m g m' g' hpre hargs
  choose A hA using real_of_pre hpre
  refine ⟨fun c => outArr (A c), fun c => lseArr (A c), ?_, ?_⟩
  · exact (θ_run Cert.AttnFwdIdeal.defs _ _).mono (fun _ h c => ⟨(h c).1.trans (arr_out (hA c)), (h c).2.1.trans (arr_lse (hA c)), (h c).2.2⟩)
      (Cert.AttnFwdIdeal.Value.run_blocks (F := Ideal) m g)
  · refine (θ_run Cert.AttnFwdRefIdeal.defs _ _).mono (fun _ h c => ⟨(h c).1.trans ((val_main_v81_eq m' c).trans ?_),
      (h c).2.1.trans ((val_main_v85_eq m' c).trans ?_), (h c).2.2⟩) (Cert.AttnFwdRefIdeal.Value.run (F := Ideal) m' g')
    · refine Eq.trans ?_ (ref_out (A c))
      exact congr (congr (congrArg _ ((hargs c).1.trans (hA c).h0)) ((hargs c).2.1.trans (hA c).h1)) ((hargs c).2.2.trans (hA c).h2)
    · refine Eq.trans ?_ (ref_lse (A c))
      exact congr (congr (congrArg _ ((hargs c).1.trans (hA c).h0)) ((hargs c).2.1.trans (hA c).h1)) ((hargs c).2.2.trans (hA c).h2)

end Cert.AttnFwd.Host
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Attn.Finite
public import proofs.«01_k».proof.Proof.Attn.Pair
public import proofs.«01_k».proof.Proof.Gen.Dx0
public import proofs.«01_k».proof.Proof.Gen.Dx0.Frame
public import proofs.«01_k».proof.Proof.Gen.Dx0Ideal
public import proofs.«01_k».proof.Proof.Gen.Dx0Ideal.Value
public import proofs.«01_k».proof.Proof.Gen.Dx0RefIdeal
public import proofs.«01_k».proof.Proof.Gen.Dx0RefIdeal.Run
public import proofs.«01_k».proof.Proof.Gen.Dx0RefIdeal.Read
public import proofs.«01_k».proof.Proof.Prod.Dx0
public import proofs.«01_k».proof.Proof.Gen.Dx1
public import proofs.«01_k».proof.Proof.Gen.Dx1.Frame
public import proofs.«01_k».proof.Proof.Gen.Dx1Ideal
public import proofs.«01_k».proof.Proof.Gen.Dx1Ideal.Value
public import proofs.«01_k».proof.Proof.Gen.Dx1RefIdeal
public import proofs.«01_k».proof.Proof.Gen.Dx1RefIdeal.Run
public import proofs.«01_k».proof.Proof.Gen.Dx1RefIdeal.Read
public import proofs.«01_k».proof.Proof.Prod.Dx1
public import proofs.«01_k».proof.Proof.Gen.Dx2
public import proofs.«01_k».proof.Proof.Gen.Dx2.Frame
public import proofs.«01_k».proof.Proof.Gen.Dx2Ideal
public import proofs.«01_k».proof.Proof.Gen.Dx2Ideal.Value
public import proofs.«01_k».proof.Proof.Gen.Dx2RefIdeal
public import proofs.«01_k».proof.Proof.Gen.Dx2RefIdeal.Run
public import proofs.«01_k».proof.Proof.Gen.Dx2RefIdeal.Read
public import proofs.«01_k».proof.Proof.Prod.Dx2
public import proofs.«01_k».proof.Proof.Gen.Dxz
public import proofs.«01_k».proof.Proof.Gen.Dxz.Frame
public import proofs.«01_k».proof.Proof.Gen.DxzIdeal
public import proofs.«01_k».proof.Proof.Gen.DxzIdeal.Value
public import proofs.«01_k».proof.Proof.Gen.DxzRefIdeal
public import proofs.«01_k».proof.Proof.Gen.DxzRefIdeal.Run
public import proofs.«01_k».proof.Proof.Gen.DxzRefIdeal.Read
public import proofs.«01_k».proof.Proof.Prod.Dxz
public import proofs.«01_k».proof.Proof.Gen.Dw0
public import proofs.«01_k».proof.Proof.Gen.Dw0.Frame
public import proofs.«01_k».proof.Proof.Gen.Dw0Ideal
public import proofs.«01_k».proof.Proof.Gen.Dw0Ideal.Value
public import proofs.«01_k».proof.Proof.Gen.Dw0RefIdeal
public import proofs.«01_k».proof.Proof.Gen.Dw0RefIdeal.Run
public import proofs.«01_k».proof.Proof.Gen.Dw0RefIdeal.Read
public import proofs.«01_k».proof.Proof.Prod.Dw0
public import proofs.«01_k».proof.Proof.Gen.Dw1
public import proofs.«01_k».proof.Proof.Gen.Dw1.Frame
public import proofs.«01_k».proof.Proof.Gen.Dw1Ideal
public import proofs.«01_k».proof.Proof.Gen.Dw1Ideal.Value
public import proofs.«01_k».proof.Proof.Gen.Dw1RefIdeal
public import proofs.«01_k».proof.Proof.Gen.Dw1RefIdeal.Run
public import proofs.«01_k».proof.Proof.Gen.Dw1RefIdeal.Read
public import proofs.«01_k».proof.Proof.Prod.Dw1
public import proofs.«01_k».proof.Proof.Gen.Dw2
public import proofs.«01_k».proof.Proof.Gen.Dw2.Frame
public import proofs.«01_k».proof.Proof.Gen.Dw2Ideal
public import proofs.«01_k».proof.Proof.Gen.Dw2Ideal.Value
public import proofs.«01_k».proof.Proof.Gen.Dw2RefIdeal
public import proofs.«01_k».proof.Proof.Gen.Dw2RefIdeal.Run
public import proofs.«01_k».proof.Proof.Gen.Dw2RefIdeal.Read
public import proofs.«01_k».proof.Proof.Prod.Dw2
public import proofs.«01_k».proof.Proof.Gen.Dwz
public import proofs.«01_k».proof.Proof.Gen.Dwz.Frame
public import proofs.«01_k».proof.Proof.Gen.DwzIdeal
public import proofs.«01_k».proof.Proof.Gen.DwzIdeal.Value
public import proofs.«01_k».proof.Proof.Gen.DwzRefIdeal
public import proofs.«01_k».proof.Proof.Gen.DwzRefIdeal.Run
public import proofs.«01_k».proof.Proof.Gen.DwzRefIdeal.Read
public import proofs.«01_k».proof.Proof.Prod.Dwz
public import proofs.«01_k».proof.Proof.Gen.Dxa
public import proofs.«01_k».proof.Proof.Gen.Dxa.Frame
public import proofs.«01_k».proof.Proof.Gen.DxaIdeal
public import proofs.«01_k».proof.Proof.Gen.DxaIdeal.Value
public import proofs.«01_k».proof.Proof.Gen.DxaRefIdeal
public import proofs.«01_k».proof.Proof.Gen.DxaRefIdeal.Run
public import proofs.«01_k».proof.Proof.Gen.DxaRefIdeal.Read
public import proofs.«01_k».proof.Proof.Prod.Dxa
public import proofs.«01_k».proof.Proof.Gen.Dwa0
public import proofs.«01_k».proof.Proof.Gen.Dwa0.Frame
public import proofs.«01_k».proof.Proof.Gen.Dwa0Ideal
public import proofs.«01_k».proof.Proof.Gen.Dwa0Ideal.Value
public import proofs.«01_k».proof.Proof.Gen.Dwa0RefIdeal
public import proofs.«01_k».proof.Proof.Gen.Dwa0RefIdeal.Run
public import proofs.«01_k».proof.Proof.Gen.Dwa0RefIdeal.Read
public import proofs.«01_k».proof.Proof.Prod.Dwa0
public import proofs.«01_k».proof.Proof.Gen.Dwa1
public import proofs.«01_k».proof.Proof.Gen.Dwa1.Frame
public import proofs.«01_k».proof.Proof.Gen.Dwa1Ideal
public import proofs.«01_k».proof.Proof.Gen.Dwa1Ideal.Value
public import proofs.«01_k».proof.Proof.Gen.Dwa1RefIdeal
public import proofs.«01_k».proof.Proof.Gen.Dwa1RefIdeal.Run
public import proofs.«01_k».proof.Proof.Gen.Dwa1RefIdeal.Read
public import proofs.«01_k».proof.Proof.Prod.Dwa1
public import proofs.«01_k».proof.Proof.Gen.Dwa2
public import proofs.«01_k».proof.Proof.Gen.Dwa2.Frame
public import proofs.«01_k».proof.Proof.Gen.Dwa2Ideal
public import proofs.«01_k».proof.Proof.Gen.Dwa2Ideal.Value
public import proofs.«01_k».proof.Proof.Gen.Dwa2RefIdeal
public import proofs.«01_k».proof.Proof.Gen.Dwa2RefIdeal.Run
public import proofs.«01_k».proof.Proof.Gen.Dwa2RefIdeal.Read
public import proofs.«01_k».proof.Proof.Prod.Dwa2
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Prod.OutDw
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Prod.OutDx
public import proofs.«01_k».proof.Proof.Gen.FwdIn
public import proofs.«01_k».proof.Proof.Gen.FwdIn.Frame
public import proofs.«01_k».proof.Proof.Gen.FwdInIdeal
public import proofs.«01_k».proof.Proof.Gen.FwdInIdeal.Value
public import proofs.«01_k».proof.Proof.Gen.FwdInRefIdeal
public import proofs.«01_k».proof.Proof.Gen.FwdInRefIdeal.Run
public import proofs.«01_k».proof.Proof.Gen.FwdInRefIdeal.Read
public import proofs.«01_k».proof.Proof.Prod.FwdIn
public import proofs.«01_k».proof.Proof.Gen.FwdOut
public import proofs.«01_k».proof.Proof.Gen.FwdOut.Frame
public import proofs.«01_k».proof.Proof.Gen.FwdOutIdeal
public import proofs.«01_k».proof.Proof.Gen.FwdOutIdeal.Value
public import proofs.«01_k».proof.Proof.Gen.FwdOutRefIdeal
public import proofs.«01_k».proof.Proof.Gen.FwdOutRefIdeal.Run
public import proofs.«01_k».proof.Proof.Gen.FwdOutRefIdeal.Read
public import proofs.«01_k».proof.Proof.Prod.FwdOut
public import proofs.«01_k».proof.Proof.Gen.FwdZ
public import proofs.«01_k».proof.Proof.Gen.FwdZ.Frame
public import proofs.«01_k».proof.Proof.Gen.FwdZIdeal
public import proofs.«01_k».proof.Proof.Gen.FwdZIdeal.Value
public import proofs.«01_k».proof.Proof.Gen.FwdZRefIdeal
public import proofs.«01_k».proof.Proof.Gen.FwdZRefIdeal.Run
public import proofs.«01_k».proof.Proof.Gen.FwdZRefIdeal.Read
public import proofs.«01_k».proof.Proof.Prod.FwdZ
public import proofs.«01_k».proof.Proof.Gen.MidFwd
public import proofs.«01_k».proof.Proof.Gen.MidFwd.Frame
public import proofs.«01_k».proof.Proof.Gen.MidFwdIdeal
public import proofs.«01_k».proof.Proof.Gen.MidFwdIdeal.Value
public import proofs.«01_k».proof.Proof.Gen.MidFwdRefIdeal
public import proofs.«01_k».proof.Proof.Gen.MidFwdRefIdeal.Run
public import proofs.«01_k».proof.Proof.Gen.MidFwdRefIdeal.Read
public import proofs.«01_k».proof.Proof.Rows.MidFwd
public import proofs.«01_k».proof.Proof.Gen.AdaFwd
public import proofs.«01_k».proof.Proof.Gen.AdaFwd.Frame
public import proofs.«01_k».proof.Proof.Gen.AdaFwdIdeal
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.AdaFwdRefIdeal.Read
public import proofs.«01_k».proof.Proof.Rows.AdaFwd
public import proofs.«01_k».proof.Proof.Gen.AdaBwd
public import proofs.«01_k».proof.Proof.Gen.AdaBwd.Frame
public import proofs.«01_k».proof.Proof.Gen.AdaBwdIdeal
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.AdaBwdRefIdeal.Read
public import proofs.«01_k».proof.Proof.Rows.AdaBwd
public import proofs.«01_k».proof.Proof.Gen.MidBwd
public import proofs.«01_k».proof.Proof.Gen.MidBwd.Frame
public import proofs.«01_k».proof.Proof.Gen.MidBwdIdeal
public import proofs.«01_k».proof.Proof.Gen.MidBwdIdeal.Value
public import proofs.«01_k».proof.Proof.Gen.MidBwdRefIdeal
public import proofs.«01_k».proof.Proof.Gen.MidBwdRefIdeal.Run
public import proofs.«01_k».proof.Proof.Gen.MidBwdRefIdeal.Read
public import proofs.«01_k».proof.Proof.Rows.MidBwd
public import proofs.«01_k».proof.Proof.Gen.Loss
public import proofs.«01_k».proof.Proof.Gen.Loss.Frame
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Rows.Loss
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Rows.AdamOut
public import proofs.«01_k».proof.Proof.Gen.AdamInB
public import proofs.«01_k».proof.Proof.Gen.AdamInB.Frame
public import proofs.«01_k».proof.Proof.Gen.AdamInBIdeal
public import proofs.«01_k».proof.Proof.Gen.AdamInBIdeal.Value
public import proofs.«01_k».proof.Proof.Gen.AdamInBRefIdeal
public import proofs.«01_k».proof.Proof.Gen.AdamInBRefIdeal.Run
public import proofs.«01_k».proof.Proof.Gen.AdamInBRefIdeal.Read
public import proofs.«01_k».proof.Proof.Rows.AdamInB
public import proofs.«01_k».proof.Proof.Gen.AdamInA
public import proofs.«01_k».proof.Proof.Gen.AdamInA.Frame
public import proofs.«01_k».proof.Proof.Gen.AdamInAIdeal
public import proofs.«01_k».proof.Proof.Gen.AdamInAIdeal.Value
public import proofs.«01_k».proof.Proof.Gen.AdamInARefIdeal
public import proofs.«01_k».proof.Proof.Gen.AdamInARefIdeal.Run
public import proofs.«01_k».proof.Proof.Gen.AdamInARefIdeal.Read
public import proofs.«01_k».proof.Proof.Rows.AdamInA
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.AttnFwd.Pair
public import Idealize.ShloMosaic.Adequacy
public import Idealize.ShloMosaic.Init

@[expose] public section

noncomputable section

namespace Cert.Proof

open Idealize.ShloMosaic Idealize.SL.Sem Cert.Attn.Host

/-- The kernel runs on words, its arguments and the semaphores end as they were. -/
theorem frame_kernel : Cert.quiescent_Kernel := fun m ρ _ => Cert.Kernel.Gen.frame m ρ

/-- The kernel runs on extended reals. -/
theorem frame_ideal : Cert.quiescent_KernelIdeal := fun m ρ _ => Cert.KernelIdeal.Gen.frame m ρ

theorem frame_ideal_pre : Cert.quiescent_KernelIdeal_pre_finite (hPre_finite := pre_facts) :=
  fun m ρ _ => Cert.KernelIdeal.Gen.frame m ρ

/-- The reference runs on extended reals, and its arguments end as they were. It has no semaphore. -/
theorem frame_reference : Cert.quiescent_ReferenceIdeal := fun m ρ _ =>
  (θ_run Cert.ReferenceIdeal.defs _ _).mono
    (fun r h => And.intro (fun c => (h c).2) (Idealize.ShloMosaic.sem_eq_zero_of_no_sems (by decide) r.2))
    (Cert.ReferenceIdeal.Value.run (F := Ideal) m ρ)

theorem frame_reference_pre : Cert.quiescent_ReferenceIdeal_pre_finite (hPre_finite := pre_facts) :=
  fun m ρ _ => frame_reference m ρ trivial

/-- From memories that agree on arguments of finite magnitude, the kernel and the reference end with the same array. -/
theorem same_arrays : Cert.algebraic_KernelIdeal_ReferenceIdeal_pre_finite (hPre_finite := pre_facts) :=
  fun m g m' g' hpre => same_result m g m' g' (real_of_pre hpre)

/-- `Dx0`: the frames of the kernel, on words and on extended reals, and of its reference; then the values. -/
theorem frame_Dx0 : Cert.quiescent_Dx0 := fun m ρ _ => Cert.Dx0.Gen.frame m ρ

theorem frame_Dx0_ideal : Cert.quiescent_Dx0Ideal := fun m ρ _ => Cert.Dx0Ideal.Gen.frame m ρ

theorem frame_Dx0_reference : Cert.quiescent_Dx0RefIdeal := fun m ρ _ =>
  (θ_run Cert.Dx0RefIdeal.defs _ _).mono
    (fun r h => And.intro (fun c => (h c).2) (Idealize.ShloMosaic.sem_eq_zero_of_no_sems (by decide) r.2))
    (Cert.Dx0RefIdeal.Value.run (F := Ideal) m ρ)

theorem same_Dx0 : Cert.algebraic_Dx0Ideal_Dx0RefIdeal := fun m g m' g' _ hm => Cert.Prod.Dx0.same m g m' g' hm

/-- `Dx1`: the frames of the kernel, on words and on extended reals, and of its reference; then the values. -/
theorem frame_Dx1 : Cert.quiescent_Dx1 := fun m ρ _ => Cert.Dx1.Gen.frame m ρ

theorem frame_Dx1_ideal : Cert.quiescent_Dx1Ideal := fun m ρ _ => Cert.Dx1Ideal.Gen.frame m ρ

theorem frame_Dx1_reference : Cert.quiescent_Dx1RefIdeal := fun m ρ _ =>
  (θ_run Cert.Dx1RefIdeal.defs _ _).mono
    (fun r h => And.intro (fun c => (h c).2) (Idealize.ShloMosaic.sem_eq_zero_of_no_sems (by decide) r.2))
    (Cert.Dx1RefIdeal.Value.run (F := Ideal) m ρ)

theorem same_Dx1 : Cert.algebraic_Dx1Ideal_Dx1RefIdeal := fun m g m' g' _ hm => Cert.Prod.Dx1.same m g m' g' hm

/-- `Dx2`: the frames of the kernel, on words and on extended reals, and of its reference; then the values. -/
theorem frame_Dx2 : Cert.quiescent_Dx2 := fun m ρ _ => Cert.Dx2.Gen.frame m ρ

theorem frame_Dx2_ideal : Cert.quiescent_Dx2Ideal := fun m ρ _ => Cert.Dx2Ideal.Gen.frame m ρ

theorem frame_Dx2_reference : Cert.quiescent_Dx2RefIdeal := fun m ρ _ =>
  (θ_run Cert.Dx2RefIdeal.defs _ _).mono
    (fun r h => And.intro (fun c => (h c).2) (Idealize.ShloMosaic.sem_eq_zero_of_no_sems (by decide) r.2))
    (Cert.Dx2RefIdeal.Value.run (F := Ideal) m ρ)

theorem same_Dx2 : Cert.algebraic_Dx2Ideal_Dx2RefIdeal := fun m g m' g' _ hm => Cert.Prod.Dx2.same m g m' g' hm

/-- `Dxz`: the frames of the kernel, on words and on extended reals, and of its reference; then the values. -/
theorem frame_Dxz : Cert.quiescent_Dxz := fun m ρ _ => Cert.Dxz.Gen.frame m ρ

theorem frame_Dxz_ideal : Cert.quiescent_DxzIdeal := fun m ρ _ => Cert.DxzIdeal.Gen.frame m ρ

theorem frame_Dxz_reference : Cert.quiescent_DxzRefIdeal := fun m ρ _ =>
  (θ_run Cert.DxzRefIdeal.defs _ _).mono
    (fun r h => And.intro (fun c => (h c).2) (Idealize.ShloMosaic.sem_eq_zero_of_no_sems (by decide) r.2))
    (Cert.DxzRefIdeal.Value.run (F := Ideal) m ρ)

theorem same_Dxz : Cert.algebraic_DxzIdeal_DxzRefIdeal := fun m g m' g' _ hm => Cert.Prod.Dxz.same m g m' g' hm

/-- `Dw0`: the frames of the kernel, on words and on extended reals, and of its reference; then the values. -/
theorem frame_Dw0 : Cert.quiescent_Dw0 := fun m ρ _ => Cert.Dw0.Gen.frame m ρ

theorem frame_Dw0_ideal : Cert.quiescent_Dw0Ideal := fun m ρ _ => Cert.Dw0Ideal.Gen.frame m ρ

theorem frame_Dw0_reference : Cert.quiescent_Dw0RefIdeal := fun m ρ _ =>
  (θ_run Cert.Dw0RefIdeal.defs _ _).mono
    (fun r h => And.intro (fun c => (h c).2) (Idealize.ShloMosaic.sem_eq_zero_of_no_sems (by decide) r.2))
    (Cert.Dw0RefIdeal.Value.run (F := Ideal) m ρ)

theorem same_Dw0 : Cert.algebraic_Dw0Ideal_Dw0RefIdeal := fun m g m' g' _ hm => Cert.Prod.Dw0.same m g m' g' hm

/-- `Dw1`: the frames of the kernel, on words and on extended reals, and of its reference; then the values. -/
theorem frame_Dw1 : Cert.quiescent_Dw1 := fun m ρ _ => Cert.Dw1.Gen.frame m ρ

theorem frame_Dw1_ideal : Cert.quiescent_Dw1Ideal := fun m ρ _ => Cert.Dw1Ideal.Gen.frame m ρ

theorem frame_Dw1_reference : Cert.quiescent_Dw1RefIdeal := fun m ρ _ =>
  (θ_run Cert.Dw1RefIdeal.defs _ _).mono
    (fun r h => And.intro (fun c => (h c).2) (Idealize.ShloMosaic.sem_eq_zero_of_no_sems (by decide) r.2))
    (Cert.Dw1RefIdeal.Value.run (F := Ideal) m ρ)

theorem same_Dw1 : Cert.algebraic_Dw1Ideal_Dw1RefIdeal := fun m g m' g' _ hm => Cert.Prod.Dw1.same m g m' g' hm

/-- `Dw2`: the frames of the kernel, on words and on extended reals, and of its reference; then the values. -/
theorem frame_Dw2 : Cert.quiescent_Dw2 := fun m ρ _ => Cert.Dw2.Gen.frame m ρ

theorem frame_Dw2_ideal : Cert.quiescent_Dw2Ideal := fun m ρ _ => Cert.Dw2Ideal.Gen.frame m ρ

theorem frame_Dw2_reference : Cert.quiescent_Dw2RefIdeal := fun m ρ _ =>
  (θ_run Cert.Dw2RefIdeal.defs _ _).mono
    (fun r h => And.intro (fun c => (h c).2) (Idealize.ShloMosaic.sem_eq_zero_of_no_sems (by decide) r.2))
    (Cert.Dw2RefIdeal.Value.run (F := Ideal) m ρ)

theorem same_Dw2 : Cert.algebraic_Dw2Ideal_Dw2RefIdeal := fun m g m' g' _ hm => Cert.Prod.Dw2.same m g m' g' hm

/-- `Dwz`: the frames of the kernel, on words and on extended reals, and of its reference; then the values. -/
theorem frame_Dwz : Cert.quiescent_Dwz := fun m ρ _ => Cert.Dwz.Gen.frame m ρ

theorem frame_Dwz_ideal : Cert.quiescent_DwzIdeal := fun m ρ _ => Cert.DwzIdeal.Gen.frame m ρ

theorem frame_Dwz_reference : Cert.quiescent_DwzRefIdeal := fun m ρ _ =>
  (θ_run Cert.DwzRefIdeal.defs _ _).mono
    (fun r h => And.intro (fun c => (h c).2) (Idealize.ShloMosaic.sem_eq_zero_of_no_sems (by decide) r.2))
    (Cert.DwzRefIdeal.Value.run (F := Ideal) m ρ)

theorem same_Dwz : Cert.algebraic_DwzIdeal_DwzRefIdeal := fun m g m' g' _ hm => Cert.Prod.Dwz.same m g m' g' hm

/-- `Dxa`: the frames of the kernel, on words and on extended reals, and of its reference; then the values. -/
theorem frame_Dxa : Cert.quiescent_Dxa := fun m ρ _ => Cert.Dxa.Gen.frame m ρ

theorem frame_Dxa_ideal : Cert.quiescent_DxaIdeal := fun m ρ _ => Cert.DxaIdeal.Gen.frame m ρ

theorem frame_Dxa_reference : Cert.quiescent_DxaRefIdeal := fun m ρ _ =>
  (θ_run Cert.DxaRefIdeal.defs _ _).mono
    (fun r h => And.intro (fun c => (h c).2) (Idealize.ShloMosaic.sem_eq_zero_of_no_sems (by decide) r.2))
    (Cert.DxaRefIdeal.Value.run (F := Ideal) m ρ)

theorem same_Dxa : Cert.algebraic_DxaIdeal_DxaRefIdeal := fun m g m' g' _ hm => Cert.Prod.Dxa.same m g m' g' hm

/-- `Dwa0`: the frames of the kernel, on words and on extended reals, and of its reference; then the values. -/
theorem frame_Dwa0 : Cert.quiescent_Dwa0 := fun m ρ _ => Cert.Dwa0.Gen.frame m ρ

theorem frame_Dwa0_ideal : Cert.quiescent_Dwa0Ideal := fun m ρ _ => Cert.Dwa0Ideal.Gen.frame m ρ

theorem frame_Dwa0_reference : Cert.quiescent_Dwa0RefIdeal := fun m ρ _ =>
  (θ_run Cert.Dwa0RefIdeal.defs _ _).mono
    (fun r h => And.intro (fun c => (h c).2) (Idealize.ShloMosaic.sem_eq_zero_of_no_sems (by decide) r.2))
    (Cert.Dwa0RefIdeal.Value.run (F := Ideal) m ρ)

theorem same_Dwa0 : Cert.algebraic_Dwa0Ideal_Dwa0RefIdeal := fun m g m' g' _ hm => Cert.Prod.Dwa0.same m g m' g' hm

/-- `Dwa1`: the frames of the kernel, on words and on extended reals, and of its reference; then the values. -/
theorem frame_Dwa1 : Cert.quiescent_Dwa1 := fun m ρ _ => Cert.Dwa1.Gen.frame m ρ

theorem frame_Dwa1_ideal : Cert.quiescent_Dwa1Ideal := fun m ρ _ => Cert.Dwa1Ideal.Gen.frame m ρ

theorem frame_Dwa1_reference : Cert.quiescent_Dwa1RefIdeal := fun m ρ _ =>
  (θ_run Cert.Dwa1RefIdeal.defs _ _).mono
    (fun r h => And.intro (fun c => (h c).2) (Idealize.ShloMosaic.sem_eq_zero_of_no_sems (by decide) r.2))
    (Cert.Dwa1RefIdeal.Value.run (F := Ideal) m ρ)

theorem same_Dwa1 : Cert.algebraic_Dwa1Ideal_Dwa1RefIdeal := fun m g m' g' _ hm => Cert.Prod.Dwa1.same m g m' g' hm

/-- `Dwa2`: the frames of the kernel, on words and on extended reals, and of its reference; then the values. -/
theorem frame_Dwa2 : Cert.quiescent_Dwa2 := fun m ρ _ => Cert.Dwa2.Gen.frame m ρ

theorem frame_Dwa2_ideal : Cert.quiescent_Dwa2Ideal := fun m ρ _ => Cert.Dwa2Ideal.Gen.frame m ρ

theorem frame_Dwa2_reference : Cert.quiescent_Dwa2RefIdeal := fun m ρ _ =>
  (θ_run Cert.Dwa2RefIdeal.defs _ _).mono
    (fun r h => And.intro (fun c => (h c).2) (Idealize.ShloMosaic.sem_eq_zero_of_no_sems (by decide) r.2))
    (Cert.Dwa2RefIdeal.Value.run (F := Ideal) m ρ)

theorem same_Dwa2 : Cert.algebraic_Dwa2Ideal_Dwa2RefIdeal := fun m g m' g' _ hm => Cert.Prod.Dwa2.same m g m' g' hm

/-- `OutDw`: the frames of the kernel, on words and on extended reals, and of its reference; then the values. -/
theorem frame_OutDw : Cert.quiescent_OutDw := fun m ρ _ => Cert.OutDw.Gen.frame m ρ

theorem frame_OutDw_ideal : Cert.quiescent_OutDwIdeal := fun m ρ _ => Cert.OutDwIdeal.Gen.frame m ρ

theorem frame_OutDw_reference : Cert.quiescent_OutDwRefIdeal := fun m ρ _ =>
  (θ_run Cert.OutDwRefIdeal.defs _ _).mono
    (fun r h => And.intro (fun c => (h c).2) (Idealize.ShloMosaic.sem_eq_zero_of_no_sems (by decide) r.2))
    (Cert.OutDwRefIdeal.Value.run (F := Ideal) m ρ)

theorem same_OutDw : Cert.algebraic_OutDwIdeal_OutDwRefIdeal := fun m g m' g' _ hm => Cert.Prod.OutDw.same m g m' g' hm

/-- `OutDx`: the frames of the kernel, on words and on extended reals, and of its reference; then the values. -/
theorem frame_OutDx : Cert.quiescent_OutDx := fun m ρ _ => Cert.OutDx.Gen.frame m ρ

theorem frame_OutDx_ideal : Cert.quiescent_OutDxIdeal := fun m ρ _ => Cert.OutDxIdeal.Gen.frame m ρ

theorem frame_OutDx_reference : Cert.quiescent_OutDxRefIdeal := fun m ρ _ =>
  (θ_run Cert.OutDxRefIdeal.defs _ _).mono
    (fun r h => And.intro (fun c => (h c).2) (Idealize.ShloMosaic.sem_eq_zero_of_no_sems (by decide) r.2))
    (Cert.OutDxRefIdeal.Value.run (F := Ideal) m ρ)

theorem same_OutDx : Cert.algebraic_OutDxIdeal_OutDxRefIdeal := fun m g m' g' _ hm => Cert.Prod.OutDx.same m g m' g' hm

/-- `FwdIn`: the frames of the kernel, on words and on extended reals, and of its reference; then the values. -/
theorem frame_FwdIn : Cert.quiescent_FwdIn := fun m ρ _ => Cert.FwdIn.Gen.frame m ρ

theorem frame_FwdIn_ideal : Cert.quiescent_FwdInIdeal := fun m ρ _ => Cert.FwdInIdeal.Gen.frame m ρ

theorem frame_FwdIn_reference : Cert.quiescent_FwdInRefIdeal := fun m ρ _ =>
  (θ_run Cert.FwdInRefIdeal.defs _ _).mono
    (fun r h => And.intro (fun c => (h c).2) (Idealize.ShloMosaic.sem_eq_zero_of_no_sems (by decide) r.2))
    (Cert.FwdInRefIdeal.Value.run (F := Ideal) m ρ)

theorem same_FwdIn : Cert.algebraic_FwdInIdeal_FwdInRefIdeal := fun m g m' g' _ hm => Cert.Prod.FwdIn.same m g m' g' hm

/-- `FwdOut`: the frames of the kernel, on words and on extended reals, and of its reference; then the values. -/
theorem frame_FwdOut : Cert.quiescent_FwdOut := fun m ρ _ => Cert.FwdOut.Gen.frame m ρ

theorem frame_FwdOut_ideal : Cert.quiescent_FwdOutIdeal := fun m ρ _ => Cert.FwdOutIdeal.Gen.frame m ρ

theorem frame_FwdOut_reference : Cert.quiescent_FwdOutRefIdeal := fun m ρ _ =>
  (θ_run Cert.FwdOutRefIdeal.defs _ _).mono
    (fun r h => And.intro (fun c => (h c).2) (Idealize.ShloMosaic.sem_eq_zero_of_no_sems (by decide) r.2))
    (Cert.FwdOutRefIdeal.Value.run (F := Ideal) m ρ)

theorem same_FwdOut : Cert.algebraic_FwdOutIdeal_FwdOutRefIdeal := fun m g m' g' _ hm => Cert.Prod.FwdOut.same m g m' g' hm

/-- `FwdZ`: the frames of the kernel, on words and on extended reals, and of its reference; then the values. -/
theorem frame_FwdZ : Cert.quiescent_FwdZ := fun m ρ _ => Cert.FwdZ.Gen.frame m ρ

theorem frame_FwdZ_ideal : Cert.quiescent_FwdZIdeal := fun m ρ _ => Cert.FwdZIdeal.Gen.frame m ρ

theorem frame_FwdZ_reference : Cert.quiescent_FwdZRefIdeal := fun m ρ _ =>
  (θ_run Cert.FwdZRefIdeal.defs _ _).mono
    (fun r h => And.intro (fun c => (h c).2) (Idealize.ShloMosaic.sem_eq_zero_of_no_sems (by decide) r.2))
    (Cert.FwdZRefIdeal.Value.run (F := Ideal) m ρ)

theorem same_FwdZ : Cert.algebraic_FwdZIdeal_FwdZRefIdeal := fun m g m' g' _ hm => Cert.Prod.FwdZ.same m g m' g' hm

/-- `MidFwd`: the frames of the kernel, on words and on extended reals, and of its reference; then the values. -/
theorem frame_MidFwd : Cert.quiescent_MidFwd := fun m ρ _ => Cert.MidFwd.Gen.frame m ρ

theorem frame_MidFwd_ideal : Cert.quiescent_MidFwdIdeal := fun m ρ _ => Cert.MidFwdIdeal.Gen.frame m ρ

theorem frame_MidFwd_reference : Cert.quiescent_MidFwdRefIdeal := fun m ρ _ =>
  (θ_run Cert.MidFwdRefIdeal.defs _ _).mono
    (fun r h => And.intro (fun c => (h c).2) (Idealize.ShloMosaic.sem_eq_zero_of_no_sems (by decide) r.2))
    (Cert.MidFwdRefIdeal.Value.run (F := Ideal) m ρ)

theorem same_MidFwd : Cert.algebraic_MidFwdIdeal_MidFwdRefIdeal := fun m g m' g' _ hm => Cert.Rows.MidFwd.same m g m' g' hm

/-- `AdaFwd`: the frames of the kernel, on words and on extended reals, and of its reference; then the values. -/
theorem frame_AdaFwd : Cert.quiescent_AdaFwd := fun m ρ _ => Cert.AdaFwd.Gen.frame m ρ

theorem frame_AdaFwd_ideal : Cert.quiescent_AdaFwdIdeal := fun m ρ _ => Cert.AdaFwdIdeal.Gen.frame m ρ

theorem frame_AdaFwd_reference : Cert.quiescent_AdaFwdRefIdeal := fun m ρ _ =>
  (θ_run Cert.AdaFwdRefIdeal.defs _ _).mono
    (fun r h => And.intro (fun c => (h c).2) (Idealize.ShloMosaic.sem_eq_zero_of_no_sems (by decide) r.2))
    (Cert.AdaFwdRefIdeal.Value.run (F := Ideal) m ρ)

theorem same_AdaFwd : Cert.algebraic_AdaFwdIdeal_AdaFwdRefIdeal := fun m g m' g' _ hm => Cert.Rows.AdaFwd.same m g m' g' hm

/-- `AdaBwd`: the frames of the kernel, on words and on extended reals, and of its reference; then the values. -/
theorem frame_AdaBwd : Cert.quiescent_AdaBwd := fun m ρ _ => Cert.AdaBwd.Gen.frame m ρ

theorem frame_AdaBwd_ideal : Cert.quiescent_AdaBwdIdeal := fun m ρ _ => Cert.AdaBwdIdeal.Gen.frame m ρ

theorem frame_AdaBwd_reference : Cert.quiescent_AdaBwdRefIdeal := fun m ρ _ =>
  (θ_run Cert.AdaBwdRefIdeal.defs _ _).mono
    (fun r h => And.intro (fun c => (h c).2.2.2.2) (Idealize.ShloMosaic.sem_eq_zero_of_no_sems (by decide) r.2))
    (Cert.AdaBwdRefIdeal.Value.run (F := Ideal) m ρ)

theorem same_AdaBwd : Cert.algebraic_AdaBwdIdeal_AdaBwdRefIdeal := fun m g m' g' _ hm => Cert.Rows.AdaBwd.same m g m' g' hm

/-- `MidBwd`: the frames of the kernel, on words and on extended reals, and of its reference; then the values. -/
theorem frame_MidBwd : Cert.quiescent_MidBwd := fun m ρ _ => Cert.MidBwd.Gen.frame m ρ

theorem frame_MidBwd_ideal : Cert.quiescent_MidBwdIdeal := fun m ρ _ => Cert.MidBwdIdeal.Gen.frame m ρ

theorem frame_MidBwd_reference : Cert.quiescent_MidBwdRefIdeal := fun m ρ _ =>
  (θ_run Cert.MidBwdRefIdeal.defs _ _).mono
    (fun r h => And.intro (fun c => (h c).2.2.2.2) (Idealize.ShloMosaic.sem_eq_zero_of_no_sems (by decide) r.2))
    (Cert.MidBwdRefIdeal.Value.run (F := Ideal) m ρ)

theorem same_MidBwd : Cert.algebraic_MidBwdIdeal_MidBwdRefIdeal := fun m g m' g' _ hm => Cert.Rows.MidBwd.same m g m' g' hm

/-- `Loss`: the frames of the kernel, on words and on extended reals, and of its reference; then the values. -/
theorem frame_Loss : Cert.quiescent_Loss := fun m ρ _ => Cert.Loss.Gen.frame m ρ

theorem frame_Loss_ideal : Cert.quiescent_LossIdeal := fun m ρ _ => Cert.LossIdeal.Gen.frame m ρ

theorem frame_Loss_reference : Cert.quiescent_LossRefIdeal := fun m ρ _ =>
  (θ_run Cert.LossRefIdeal.defs _ _).mono
    (fun r h => And.intro (fun c => (h c).2.2.2.2) (Idealize.ShloMosaic.sem_eq_zero_of_no_sems (by decide) r.2))
    (Cert.LossRefIdeal.Value.run (F := Ideal) m ρ)

theorem same_Loss : Cert.algebraic_LossIdeal_LossRefIdeal := fun m g m' g' _ hm => Cert.Rows.Loss.same m g m' g' hm

/-- `AdamOut`: the frames of the kernel, on words and on extended reals, and of its reference; then the values. -/
theorem frame_AdamOut : Cert.quiescent_AdamOut := fun m ρ _ => Cert.AdamOut.Gen.frame m ρ

theorem frame_AdamOut_ideal : Cert.quiescent_AdamOutIdeal := fun m ρ _ => Cert.AdamOutIdeal.Gen.frame m ρ

theorem frame_AdamOut_reference : Cert.quiescent_AdamOutRefIdeal := fun m ρ _ =>
  (θ_run Cert.AdamOutRefIdeal.defs _ _).mono
    (fun r h => And.intro (fun c => (h c).2.2.2.2) (Idealize.ShloMosaic.sem_eq_zero_of_no_sems (by decide) r.2))
    (Cert.AdamOutRefIdeal.Value.run (F := Ideal) m ρ)

theorem same_AdamOut : Cert.algebraic_AdamOutIdeal_AdamOutRefIdeal := fun m g m' g' _ hm => Cert.Rows.AdamOut.same m g m' g' hm

/-- `AdamInB`: the frames of the kernel, on words and on extended reals, and of its reference; then the values. -/
theorem frame_AdamInB : Cert.quiescent_AdamInB := fun m ρ _ => Cert.AdamInB.Gen.frame m ρ

theorem frame_AdamInB_ideal : Cert.quiescent_AdamInBIdeal := fun m ρ _ => Cert.AdamInBIdeal.Gen.frame m ρ

theorem frame_AdamInB_reference : Cert.quiescent_AdamInBRefIdeal := fun m ρ _ =>
  (θ_run Cert.AdamInBRefIdeal.defs _ _).mono
    (fun r h => And.intro (fun c => (h c).2.2.2.2) (Idealize.ShloMosaic.sem_eq_zero_of_no_sems (by decide) r.2))
    (Cert.AdamInBRefIdeal.Value.run (F := Ideal) m ρ)

theorem same_AdamInB : Cert.algebraic_AdamInBIdeal_AdamInBRefIdeal := fun m g m' g' _ hm => Cert.Rows.AdamInB.same m g m' g' hm

/-- `AdamInA`: the frames of the kernel, on words and on extended reals, and of its reference; then the values. -/
theorem frame_AdamInA : Cert.quiescent_AdamInA := fun m ρ _ => Cert.AdamInA.Gen.frame m ρ

theorem frame_AdamInA_ideal : Cert.quiescent_AdamInAIdeal := fun m ρ _ => Cert.AdamInAIdeal.Gen.frame m ρ

theorem frame_AdamInA_reference : Cert.quiescent_AdamInARefIdeal := fun m ρ _ =>
  (θ_run Cert.AdamInARefIdeal.defs _ _).mono
    (fun r h => And.intro (fun c => (h c).2.2.2.2) (Idealize.ShloMosaic.sem_eq_zero_of_no_sems (by decide) r.2))
    (Cert.AdamInARefIdeal.Value.run (F := Ideal) m ρ)

theorem same_AdamInA : Cert.algebraic_AdamInAIdeal_AdamInARefIdeal := fun m g m' g' _ hm => Cert.Rows.AdamInA.same m g m' g' hm

/-- `AttnFwd`: the frames of the kernel, on words and on extended reals, and of its reference; then the values. -/
theorem frame_AttnFwd : Cert.quiescent_AttnFwd := fun m ρ _ => Cert.AttnFwd.Gen.frame m ρ

theorem frame_AttnFwd_ideal : Cert.quiescent_AttnFwdIdeal := fun m ρ _ => Cert.AttnFwdIdeal.Gen.frame m ρ

theorem frame_AttnFwd_reference : Cert.quiescent_AttnFwdRefIdeal := fun m ρ _ =>
  (θ_run Cert.AttnFwdRefIdeal.defs _ _).mono
    (fun r h => And.intro (fun c => (h c).2.2) (Idealize.ShloMosaic.sem_eq_zero_of_no_sems (by decide) r.2))
    (Cert.AttnFwdRefIdeal.Value.run (F := Ideal) m ρ)

theorem frame_AttnFwd_ideal_pre : Cert.quiescent_AttnFwdIdeal_pre_finite_attnfwd (hPre_finite_attnfwd := Cert.AttnFwd.Host.pre_facts) :=
  fun m ρ _ => Cert.AttnFwdIdeal.Gen.frame m ρ

theorem frame_AttnFwd_reference_pre : Cert.quiescent_AttnFwdRefIdeal_pre_finite_attnfwd (hPre_finite_attnfwd := Cert.AttnFwd.Host.pre_facts) :=
  fun m ρ _ => frame_AttnFwd_reference m ρ trivial

theorem same_AttnFwd : Cert.algebraic_AttnFwdIdeal_AttnFwdRefIdeal_pre_finite_attnfwd (hPre_finite_attnfwd := Cert.AttnFwd.Host.pre_facts) :=
  Cert.AttnFwd.Host.same

/-- All the claims. -/
theorem claim : Cert.Claim :=
  ⟨Cert.Kernel.Gen.facts, Cert.KernelIdeal.Gen.facts, Cert.ReferenceIdeal.Gen.facts,
    Cert.Dx0.Gen.facts, Cert.Dx0Ideal.Gen.facts, Cert.Dx0RefIdeal.Gen.facts,
    Cert.Dx1.Gen.facts, Cert.Dx1Ideal.Gen.facts, Cert.Dx1RefIdeal.Gen.facts,
    Cert.Dx2.Gen.facts, Cert.Dx2Ideal.Gen.facts, Cert.Dx2RefIdeal.Gen.facts,
    Cert.Dxz.Gen.facts, Cert.DxzIdeal.Gen.facts, Cert.DxzRefIdeal.Gen.facts,
    Cert.Dw0.Gen.facts, Cert.Dw0Ideal.Gen.facts, Cert.Dw0RefIdeal.Gen.facts,
    Cert.Dw1.Gen.facts, Cert.Dw1Ideal.Gen.facts, Cert.Dw1RefIdeal.Gen.facts,
    Cert.Dw2.Gen.facts, Cert.Dw2Ideal.Gen.facts, Cert.Dw2RefIdeal.Gen.facts,
    Cert.Dwz.Gen.facts, Cert.DwzIdeal.Gen.facts, Cert.DwzRefIdeal.Gen.facts,
    Cert.Dxa.Gen.facts, Cert.DxaIdeal.Gen.facts, Cert.DxaRefIdeal.Gen.facts,
    Cert.Dwa0.Gen.facts, Cert.Dwa0Ideal.Gen.facts, Cert.Dwa0RefIdeal.Gen.facts,
    Cert.Dwa1.Gen.facts, Cert.Dwa1Ideal.Gen.facts, Cert.Dwa1RefIdeal.Gen.facts,
    Cert.Dwa2.Gen.facts, Cert.Dwa2Ideal.Gen.facts, Cert.Dwa2RefIdeal.Gen.facts,
    Cert.OutDw.Gen.facts, Cert.OutDwIdeal.Gen.facts, Cert.OutDwRefIdeal.Gen.facts,
    Cert.OutDx.Gen.facts, Cert.OutDxIdeal.Gen.facts, Cert.OutDxRefIdeal.Gen.facts,
    Cert.FwdIn.Gen.facts, Cert.FwdInIdeal.Gen.facts, Cert.FwdInRefIdeal.Gen.facts,
    Cert.FwdOut.Gen.facts, Cert.FwdOutIdeal.Gen.facts, Cert.FwdOutRefIdeal.Gen.facts,
    Cert.FwdZ.Gen.facts, Cert.FwdZIdeal.Gen.facts, Cert.FwdZRefIdeal.Gen.facts,
    Cert.MidFwd.Gen.facts, Cert.MidFwdIdeal.Gen.facts, Cert.MidFwdRefIdeal.Gen.facts,
    Cert.AdaFwd.Gen.facts, Cert.AdaFwdIdeal.Gen.facts, Cert.AdaFwdRefIdeal.Gen.facts,
    Cert.AdaBwd.Gen.facts, Cert.AdaBwdIdeal.Gen.facts, Cert.AdaBwdRefIdeal.Gen.facts,
    Cert.MidBwd.Gen.facts, Cert.MidBwdIdeal.Gen.facts, Cert.MidBwdRefIdeal.Gen.facts,
    Cert.Loss.Gen.facts, Cert.LossIdeal.Gen.facts, Cert.LossRefIdeal.Gen.facts,
    Cert.AdamOut.Gen.facts, Cert.AdamOutIdeal.Gen.facts, Cert.AdamOutRefIdeal.Gen.facts,
    Cert.AdamInB.Gen.facts, Cert.AdamInBIdeal.Gen.facts, Cert.AdamInBRefIdeal.Gen.facts,
    Cert.AdamInA.Gen.facts, Cert.AdamInAIdeal.Gen.facts, Cert.AdamInARefIdeal.Gen.facts,
    Cert.AttnFwd.Gen.facts, Cert.AttnFwdIdeal.Gen.facts, Cert.AttnFwdRefIdeal.Gen.facts, pre_facts, Cert.AttnFwd.Host.pre_facts,
    frame_kernel, frame_ideal, frame_ideal_pre, frame_reference, frame_reference_pre,
    frame_Dx0, frame_Dx0_ideal, frame_Dx0_reference,
    frame_Dx1, frame_Dx1_ideal, frame_Dx1_reference,
    frame_Dx2, frame_Dx2_ideal, frame_Dx2_reference,
    frame_Dxz, frame_Dxz_ideal, frame_Dxz_reference,
    frame_Dw0, frame_Dw0_ideal, frame_Dw0_reference,
    frame_Dw1, frame_Dw1_ideal, frame_Dw1_reference,
    frame_Dw2, frame_Dw2_ideal, frame_Dw2_reference,
    frame_Dwz, frame_Dwz_ideal, frame_Dwz_reference,
    frame_Dxa, frame_Dxa_ideal, frame_Dxa_reference,
    frame_Dwa0, frame_Dwa0_ideal, frame_Dwa0_reference,
    frame_Dwa1, frame_Dwa1_ideal, frame_Dwa1_reference,
    frame_Dwa2, frame_Dwa2_ideal, frame_Dwa2_reference,
    frame_OutDw, frame_OutDw_ideal, frame_OutDw_reference,
    frame_OutDx, frame_OutDx_ideal, frame_OutDx_reference,
    frame_FwdIn, frame_FwdIn_ideal, frame_FwdIn_reference,
    frame_FwdOut, frame_FwdOut_ideal, frame_FwdOut_reference,
    frame_FwdZ, frame_FwdZ_ideal, frame_FwdZ_reference,
    frame_MidFwd, frame_MidFwd_ideal, frame_MidFwd_reference,
    frame_AdaFwd, frame_AdaFwd_ideal, frame_AdaFwd_reference,
    frame_AdaBwd, frame_AdaBwd_ideal, frame_AdaBwd_reference,
    frame_MidBwd, frame_MidBwd_ideal, frame_MidBwd_reference,
    frame_Loss, frame_Loss_ideal, frame_Loss_reference,
    frame_AdamOut, frame_AdamOut_ideal, frame_AdamOut_reference,
    frame_AdamInB, frame_AdamInB_ideal, frame_AdamInB_reference,
    frame_AdamInA, frame_AdamInA_ideal, frame_AdamInA_reference,
    frame_AttnFwd, frame_AttnFwd_ideal, frame_AttnFwd_ideal_pre, frame_AttnFwd_reference, frame_AttnFwd_reference_pre,
    trivial, same_arrays,
    trivial, same_Dx0,
    trivial, same_Dx1,
    trivial, same_Dx2,
    trivial, same_Dxz,
    trivial, same_Dw0,
    trivial, same_Dw1,
    trivial, same_Dw2,
    trivial, same_Dwz,
    trivial, same_Dxa,
    trivial, same_Dwa0,
    trivial, same_Dwa1,
    trivial, same_Dwa2,
    trivial, same_OutDw,
    trivial, same_OutDx,
    trivial, same_FwdIn,
    trivial, same_FwdOut,
    trivial, same_FwdZ,
    trivial, same_MidFwd,
    trivial, same_AdaFwd,
    trivial, same_AdaBwd,
    trivial, same_MidBwd,
    trivial, same_Loss,
    trivial, same_AdamOut,
    trivial, same_AdamInB,
    trivial, same_AdamInA,
    trivial, same_AttnFwd⟩

end Cert.Proof

end
